-- ==== Defs.lean ====
def Pre_AttKernel (m : (ℓ : Loc Cert.AttKernel.nD Cert.AttKernel.τ Cert.AttKernel.sig) → Buf (Elt Bits) ℓ) : Prop :=
  True

def Pre_AttKernelIdeal (m : (ℓ : Loc Cert.AttKernelIdeal.nD Cert.AttKernelIdeal.τ Cert.AttKernelIdeal.sig) → Buf (Elt Ideal) ℓ) : Prop :=
  True

def Pre_AttKernelIdeal_finite [hPre_finite : Cert.Pre_finite.Facts] (m : (ℓ : Loc Cert.AttKernelIdeal.nD Cert.AttKernelIdeal.τ Cert.AttKernelIdeal.sig) → Buf (Elt Ideal) ℓ) : Prop :=
  ∀ c : Dev Cert.AttKernelIdeal.nD,
    (Cert.Pre_finite.fn (F := Ideal) (m ((c.tc : Thread Cert.AttKernelIdeal.nD Cert.AttKernelIdeal.τ).loc Cert.AttKernelIdeal.main_arg0)) (m ((c.tc : Thread Cert.AttKernelIdeal.nD Cert.AttKernelIdeal.τ).loc Cert.AttKernelIdeal.main_arg1)) (m ((c.tc : Thread Cert.AttKernelIdeal.nD Cert.AttKernelIdeal.τ).loc Cert.AttKernelIdeal.main_arg2)) (m ((c.tc : Thread Cert.AttKernelIdeal.nD Cert.AttKernelIdeal.τ).loc Cert.AttKernelIdeal.main_arg3)) (m ((c.tc : Thread Cert.AttKernelIdeal.nD Cert.AttKernelIdeal.τ).loc Cert.AttKernelIdeal.main_arg4)) (m ((c.tc : Thread Cert.AttKernelIdeal.nD Cert.AttKernelIdeal.τ).loc Cert.AttKernelIdeal.main_arg5)) (m ((c.tc : Thread Cert.AttKernelIdeal.nD Cert.AttKernelIdeal.τ).loc Cert.AttKernelIdeal.main_arg6)) (m ((c.tc : Thread Cert.AttKernelIdeal.nD Cert.AttKernelIdeal.τ).loc Cert.AttKernelIdeal.main_arg7)) (m ((c.tc : Thread Cert.AttKernelIdeal.nD Cert.AttKernelIdeal.τ).loc Cert.AttKernelIdeal.main_arg8))) = (fun _ => 1#1)

def Pre_AttReferenceIdeal (m : (ℓ : Loc Cert.AttReferenceIdeal.nD Cert.AttReferenceIdeal.τ Cert.AttReferenceIdeal.sig) → Buf (Elt Ideal) ℓ) : Prop :=
  True

def Pre_AttReferenceIdeal_finite [hPre_finite : Cert.Pre_finite.Facts] (m : (ℓ : Loc Cert.AttReferenceIdeal.nD Cert.AttReferenceIdeal.τ Cert.AttReferenceIdeal.sig) → Buf (Elt Ideal) ℓ) : Prop :=
  ∀ c : Dev Cert.AttReferenceIdeal.nD,
    (Cert.Pre_finite.fn (F := Ideal) (m ((c.tc : Thread Cert.AttReferenceIdeal.nD Cert.AttReferenceIdeal.τ).loc Cert.AttReferenceIdeal.main_arg0)) (m ((c.tc : Thread Cert.AttReferenceIdeal.nD Cert.AttReferenceIdeal.τ).loc Cert.AttReferenceIdeal.main_arg1)) (m ((c.tc : Thread Cert.AttReferenceIdeal.nD Cert.AttReferenceIdeal.τ).loc Cert.AttReferenceIdeal.main_arg2)) (m ((c.tc : Thread Cert.AttReferenceIdeal.nD Cert.AttReferenceIdeal.τ).loc Cert.AttReferenceIdeal.main_arg3)) (m ((c.tc : Thread Cert.AttReferenceIdeal.nD Cert.AttReferenceIdeal.τ).loc Cert.AttReferenceIdeal.main_arg4)) (m ((c.tc : Thread Cert.AttReferenceIdeal.nD Cert.AttReferenceIdeal.τ).loc Cert.AttReferenceIdeal.main_arg5)) (m ((c.tc : Thread Cert.AttReferenceIdeal.nD Cert.AttReferenceIdeal.τ).loc Cert.AttReferenceIdeal.main_arg6)) (m ((c.tc : Thread Cert.AttReferenceIdeal.nD Cert.AttReferenceIdeal.τ).loc Cert.AttReferenceIdeal.main_arg7)) (m ((c.tc : Thread Cert.AttReferenceIdeal.nD Cert.AttReferenceIdeal.τ).loc Cert.AttReferenceIdeal.main_arg8))) = (fun _ => 1#1)

def Pre_WeightKernel (m : (ℓ : Loc Cert.WeightKernel.nD Cert.WeightKernel.τ Cert.WeightKernel.sig) → Buf (Elt Bits) ℓ) : Prop :=
  True

def Pre_WeightKernelIdeal (m : (ℓ : Loc Cert.WeightKernelIdeal.nD Cert.WeightKernelIdeal.τ Cert.WeightKernelIdeal.sig) → Buf (Elt Ideal) ℓ) : Prop :=
  True

def Pre_WeightReferenceIdeal (m : (ℓ : Loc Cert.WeightReferenceIdeal.nD Cert.WeightReferenceIdeal.τ Cert.WeightReferenceIdeal.sig) → Buf (Elt Ideal) ℓ) : Prop :=
  True

def Pre_SwigluKernel (m : (ℓ : Loc Cert.SwigluKernel.nD Cert.SwigluKernel.τ Cert.SwigluKernel.sig) → Buf (Elt Bits) ℓ) : Prop :=
  True

def Pre_SwigluKernelIdeal (m : (ℓ : Loc Cert.SwigluKernelIdeal.nD Cert.SwigluKernelIdeal.τ Cert.SwigluKernelIdeal.sig) → Buf (Elt Ideal) ℓ) : Prop :=
  True

def Pre_SwigluReferenceIdeal (m : (ℓ : Loc Cert.SwigluReferenceIdeal.nD Cert.SwigluReferenceIdeal.τ Cert.SwigluReferenceIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_QkvKernel (m : (ℓ : Loc Cert.QkvKernel.nD Cert.QkvKernel.τ Cert.QkvKernel.sig) → Buf (Elt Bits) ℓ) : Prop :=
  True

def Pre_QkvKernelIdeal (m : (ℓ : Loc Cert.QkvKernelIdeal.nD Cert.QkvKernelIdeal.τ Cert.QkvKernelIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_GateGradKernel (m : (ℓ : Loc Cert.GateGradKernel.nD Cert.GateGradKernel.τ Cert.GateGradKernel.sig) → Buf (Elt Bits) ℓ) : Prop :=
  True

def Pre_GateGradKernelIdeal (m : (ℓ : Loc Cert.GateGradKernelIdeal.nD Cert.GateGradKernelIdeal.τ Cert.GateGradKernelIdeal.sig) → Buf (Elt Ideal) ℓ) : Prop :=
  True

def Pre_GateGradReferenceIdeal (m : (ℓ : Loc Cert.GateGradReferenceIdeal.nD Cert.GateGradReferenceIdeal.τ Cert.GateGradReferenceIdeal.sig) → Buf (Elt Ideal) ℓ) : Prop :=
  True

def Pre_QkvGradKernel (m : (ℓ : Loc Cert.QkvGradKernel.nD Cert.QkvGradKernel.τ Cert.QkvGradKernel.sig) → Buf (Elt Bits) ℓ) : Prop :=
  True

def Pre_QkvGradKernelIdeal (m : (ℓ : Loc Cert.QkvGradKernelIdeal.nD Cert.QkvGradKernelIdeal.τ Cert.QkvGradKernelIdeal.sig) → Buf (Elt Ideal) ℓ) : Prop :=
  True

def Pre_QkvGradReferenceIdeal (m : (ℓ : Loc Cert.QkvGradReferenceIdeal.nD Cert.QkvGradReferenceIdeal.τ Cert.QkvGradReferenceIdeal.sig) → Buf (Elt Ideal) ℓ) : Prop :=
  True

def Pre_ConvGradKernel (m : (ℓ : Loc Cert.ConvGradKernel.nD Cert.ConvGradKernel.τ Cert.ConvGradKernel.sig) → Buf (Elt Bits) ℓ) : Prop :=
  True

def Pre_ConvGradKernelIdeal (m : (ℓ : Loc Cert.ConvGradKernelIdeal.nD Cert.ConvGradKernelIdeal.τ Cert.ConvGradKernelIdeal.sig) → Buf (Elt Ideal) ℓ) : Prop :=
  True

def Pre_ConvGradReferenceIdeal (m : (ℓ : Loc Cert.ConvGradReferenceIdeal.nD Cert.ConvGradReferenceIdeal.τ Cert.ConvGradReferenceIdeal.sig) → Buf (Elt Ideal) ℓ) : Prop :=
  True

def Pre_InputKernel (m : (ℓ : Loc Cert.InputKernel.nD Cert.InputKernel.τ Cert.InputKernel.sig) → Buf (Elt Bits) ℓ) : Prop :=
  True

def Pre_InputKernelIdeal (m : (ℓ : Loc Cert.InputKernelIdeal.nD Cert.InputKernelIdeal.τ Cert.InputKernelIdeal.sig) → Buf (Elt Ideal) ℓ) : Prop :=
  True

def Pre_InputReferenceIdeal (m : (ℓ : Loc Cert.InputReferenceIdeal.nD Cert.InputReferenceIdeal.τ Cert.InputReferenceIdeal.sig) → Buf (Elt Ideal) ℓ) : Prop :=
  True

def Pre_LastKernel (m : (ℓ : Loc Cert.LastKernel.nD Cert.LastKernel.τ Cert.LastKernel.sig) → Buf (Elt Bits) ℓ) : Prop :=
  True

def Pre_LastKernelIdeal (m : (ℓ : Loc Cert.LastKernelIdeal.nD Cert.LastKernelIdeal.τ Cert.LastKernelIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_GluKernel (m : (ℓ : Loc Cert.GluKernel.nD Cert.GluKernel.τ Cert.GluKernel.sig) → Buf (Elt Bits) ℓ) : Prop :=
  True

def Pre_GluKernelIdeal (m : (ℓ : Loc Cert.GluKernelIdeal.nD Cert.GluKernelIdeal.τ Cert.GluKernelIdeal.sig) → Buf (Elt Ideal) ℓ) : Prop :=
  True

def Pre_GluKernelIdeal_finite_glu [hPre_finite_glu : Cert.Pre_finite_glu.Facts] (m : (ℓ : Loc Cert.GluKernelIdeal.nD Cert.GluKernelIdeal.τ Cert.GluKernelIdeal.sig) → Buf (Elt Ideal) ℓ) : Prop :=
  ∀ c : Dev Cert.GluKernelIdeal.nD,
    (Cert.Pre_finite_glu.fn (F := Ideal) (m ((c.tc : Thread Cert.GluKernelIdeal.nD Cert.GluKernelIdeal.τ).loc Cert.GluKernelIdeal.main_arg0)) (m ((c.tc : Thread Cert.GluKernelIdeal.nD Cert.GluKernelIdeal.τ).loc Cert.GluKernelIdeal.main_arg1)) (m ((c.tc : Thread Cert.GluKernelIdeal.nD Cert.GluKernelIdeal.τ).loc Cert.GluKernelIdeal.main_arg2)) (m ((c.tc : Thread Cert.GluKernelIdeal.nD Cert.GluKernelIdeal.τ).loc Cert.GluKernelIdeal.main_arg3))) = (fun _ => 1#1)

def Pre_GluReferenceIdeal (m : (ℓ : Loc Cert.GluReferenceIdeal.nD Cert.GluReferenceIdeal.τ Cert.GluReferenceIdeal.sig) → Buf (Elt Ideal) ℓ) : Prop :=
  True

def Pre_GluReferenceIdeal_finite_glu [hPre_finite_glu : Cert.Pre_finite_glu.Facts] (m : (ℓ : Loc Cert.GluReferenceIdeal.nD Cert.GluReferenceIdeal.τ Cert.GluReferenceIdeal.sig) → Buf (Elt Ideal) ℓ) : Prop :=
  ∀ c : Dev Cert.GluReferenceIdeal.nD,
    (Cert.Pre_finite_glu.fn (F := Ideal) (m ((c.tc : Thread Cert.GluReferenceIdeal.nD Cert.GluReferenceIdeal.τ).loc Cert.GluReferenceIdeal.main_arg0)) (m ((c.tc : Thread Cert.GluReferenceIdeal.nD Cert.GluReferenceIdeal.τ).loc Cert.GluReferenceIdeal.main_arg1)) (m ((c.tc : Thread Cert.GluReferenceIdeal.nD Cert.GluReferenceIdeal.τ).loc Cert.GluReferenceIdeal.main_arg2)) (m ((c.tc : Thread Cert.GluReferenceIdeal.nD Cert.GluReferenceIdeal.τ).loc Cert.GluReferenceIdeal.main_arg3))) = (fun _ => 1#1)

def quiescent_AttKernel [hAttKernel : Cert.AttKernel.Facts] : Prop :=
  ∀ (m : (ℓ : Loc Cert.AttKernel.nD Cert.AttKernel.τ Cert.AttKernel.sig) → Buf (Elt Bits) ℓ) (g : Dev Cert.AttKernel.nD → PrngReg), Pre_AttKernel m →
    θ_run (Cert.AttKernel.defs (F := Bits)) (onTc (τ := Cert.AttKernel.τ) (Cert.AttKernel.main (F := Bits))) ⟨m, fun _ => 0, g⟩ (fun r => (∀ c : Dev Cert.AttKernel.nD,
      r.2.mem ((c.tc : Thread Cert.AttKernel.nD Cert.AttKernel.τ).loc Cert.AttKernel.main_arg0) = m ((c.tc : Thread Cert.AttKernel.nD Cert.AttKernel.τ).loc Cert.AttKernel.main_arg0)
      ∧ r.2.mem ((c.tc : Thread Cert.AttKernel.nD Cert.AttKernel.τ).loc Cert.AttKernel.main_arg1) = m ((c.tc : Thread Cert.AttKernel.nD Cert.AttKernel.τ).loc Cert.AttKernel.main_arg1)
      ∧ r.2.mem ((c.tc : Thread Cert.AttKernel.nD Cert.AttKernel.τ).loc Cert.AttKernel.main_arg2) = m ((c.tc : Thread Cert.AttKernel.nD Cert.AttKernel.τ).loc Cert.AttKernel.main_arg2)
      ∧ r.2.mem ((c.tc : Thread Cert.AttKernel.nD Cert.AttKernel.τ).loc Cert.AttKernel.main_arg3) = m ((c.tc : Thread Cert.AttKernel.nD Cert.AttKernel.τ).loc Cert.AttKernel.main_arg3)
      ∧ r.2.mem ((c.tc : Thread Cert.AttKernel.nD Cert.AttKernel.τ).loc Cert.AttKernel.main_arg4) = m ((c.tc : Thread Cert.AttKernel.nD Cert.AttKernel.τ).loc Cert.AttKernel.main_arg4)
      ∧ r.2.mem ((c.tc : Thread Cert.AttKernel.nD Cert.AttKernel.τ).loc Cert.AttKernel.main_arg5) = m ((c.tc : Thread Cert.AttKernel.nD Cert.AttKernel.τ).loc Cert.AttKernel.main_arg5)
      ∧ r.2.mem ((c.tc : Thread Cert.AttKernel.nD Cert.AttKernel.τ).loc Cert.AttKernel.main_arg6) = m ((c.tc : Thread Cert.AttKernel.nD Cert.AttKernel.τ).loc Cert.AttKernel.main_arg6)
      ∧ r.2.mem ((c.tc : Thread Cert.AttKernel.nD Cert.AttKernel.τ).loc Cert.AttKernel.main_arg7) = m ((c.tc : Thread Cert.AttKernel.nD Cert.AttKernel.τ).loc Cert.AttKernel.main_arg7)
      ∧ r.2.mem ((c.tc : Thread Cert.AttKernel.nD Cert.AttKernel.τ).loc Cert.AttKernel.main_arg8) = m ((c.tc : Thread Cert.AttKernel.nD Cert.AttKernel.τ).loc Cert.AttKernel.main_arg8))
      ∧ r.2.sem = fun _ => 0)

def quiescent_AttKernelIdeal [hAttKernelIdeal : Cert.AttKernelIdeal.Facts] : Prop :=
  ∀ (m : (ℓ : Loc Cert.AttKernelIdeal.nD Cert.AttKernelIdeal.τ Cert.AttKernelIdeal.sig) → Buf (Elt Ideal) ℓ) (g : Dev Cert.AttKernelIdeal.nD → PrngReg), Pre_AttKernelIdeal m →
    θ_run (Cert.AttKernelIdeal.defs (F := Ideal)) (onTc (τ := Cert.AttKernelIdeal.τ) (Cert.AttKernelIdeal.main (F := Ideal))) ⟨m, fun _ => 0, g⟩ (fun r => (∀ c : Dev Cert.AttKernelIdeal.nD,
      r.2.mem ((c.tc : Thread Cert.AttKernelIdeal.nD Cert.AttKernelIdeal.τ).loc Cert.AttKernelIdeal.main_arg0) = m ((c.tc : Thread Cert.AttKernelIdeal.nD Cert.AttKernelIdeal.τ).loc Cert.AttKernelIdeal.main_arg0)
      ∧ r.2.mem ((c.tc : Thread Cert.AttKernelIdeal.nD Cert.AttKernelIdeal.τ).loc Cert.AttKernelIdeal.main_arg1) = m ((c.tc : Thread Cert.AttKernelIdeal.nD Cert.AttKernelIdeal.τ).loc Cert.AttKernelIdeal.main_arg1)
      ∧ r.2.mem ((c.tc : Thread Cert.AttKernelIdeal.nD Cert.AttKernelIdeal.τ).loc Cert.AttKernelIdeal.main_arg2) = m ((c.tc : Thread Cert.AttKernelIdeal.nD Cert.AttKernelIdeal.τ).loc Cert.AttKernelIdeal.main_arg2)
      ∧ r.2.mem ((c.tc : Thread Cert.AttKernelIdeal.nD Cert.AttKernelIdeal.τ).loc Cert.AttKernelIdeal.main_arg3) = m ((c.tc : Thread Cert.AttKernelIdeal.nD Cert.AttKernelIdeal.τ).loc Cert.AttKernelIdeal.main_arg3)
      ∧ r.2.mem ((c.tc : Thread Cert.AttKernelIdeal.nD Cert.AttKernelIdeal.τ).loc Cert.AttKernelIdeal.main_arg4) = m ((c.tc : Thread Cert.AttKernelIdeal.nD Cert.AttKernelIdeal.τ).loc Cert.AttKernelIdeal.main_arg4)
      ∧ r.2.mem ((c.tc : Thread Cert.AttKernelIdeal.nD Cert.AttKernelIdeal.τ).loc Cert.AttKernelIdeal.main_arg5) = m ((c.tc : Thread Cert.AttKernelIdeal.nD Cert.AttKernelIdeal.τ).loc Cert.AttKernelIdeal.main_arg5)
      ∧ r.2.mem ((c.tc : Thread Cert.AttKernelIdeal.nD Cert.AttKernelIdeal.τ).loc Cert.AttKernelIdeal.main_arg6) = m ((c.tc : Thread Cert.AttKernelIdeal.nD Cert.AttKernelIdeal.τ).loc Cert.AttKernelIdeal.main_arg6)
      ∧ r.2.mem ((c.tc : Thread Cert.AttKernelIdeal.nD Cert.AttKernelIdeal.τ).loc Cert.AttKernelIdeal.main_arg7) = m ((c.tc : Thread Cert.AttKernelIdeal.nD Cert.AttKernelIdeal.τ).loc Cert.AttKernelIdeal.main_arg7)
      ∧ r.2.mem ((c.tc : Thread Cert.AttKernelIdeal.nD Cert.AttKernelIdeal.τ).loc Cert.AttKernelIdeal.main_arg8) = m ((c.tc : Thread Cert.AttKernelIdeal.nD Cert.AttKernelIdeal.τ).loc Cert.AttKernelIdeal.main_arg8))
      ∧ r.2.sem = fun _ => 0)

def quiescent_AttKernelIdeal_pre_finite [hAttKernelIdeal : Cert.AttKernelIdeal.Facts] [hPre_finite : Cert.Pre_finite.Facts] : Prop :=
  ∀ (m : (ℓ : Loc Cert.AttKernelIdeal.nD Cert.AttKernelIdeal.τ Cert.AttKernelIdeal.sig) → Buf (Elt Ideal) ℓ) (g : Dev Cert.AttKernelIdeal.nD → PrngReg), Pre_AttKernelIdeal_finite m →
    θ_run (Cert.AttKernelIdeal.defs (F := Ideal)) (onTc (τ := Cert.AttKernelIdeal.τ) (Cert.AttKernelIdeal.main (F := Ideal))) ⟨m, fun _ => 0, g⟩ (fun r => (∀ c : Dev Cert.AttKernelIdeal.nD,
      r.2.mem ((c.tc : Thread Cert.AttKernelIdeal.nD Cert.AttKernelIdeal.τ).loc Cert.AttKernelIdeal.main_arg0) = m ((c.tc : Thread Cert.AttKernelIdeal.nD Cert.AttKernelIdeal.τ).loc Cert.AttKernelIdeal.main_arg0)
      ∧ r.2.mem ((c.tc : Thread Cert.AttKernelIdeal.nD Cert.AttKernelIdeal.τ).loc Cert.AttKernelIdeal.main_arg1) = m ((c.tc : Thread Cert.AttKernelIdeal.nD Cert.AttKernelIdeal.τ).loc Cert.AttKernelIdeal.main_arg1)
      ∧ r.2.mem ((c.tc : Thread Cert.AttKernelIdeal.nD Cert.AttKernelIdeal.τ).loc Cert.AttKernelIdeal.main_arg2) = m ((c.tc : Thread Cert.AttKernelIdeal.nD Cert.AttKernelIdeal.τ).loc Cert.AttKernelIdeal.main_arg2)
      ∧ r.2.mem ((c.tc : Thread Cert.AttKernelIdeal.nD Cert.AttKernelIdeal.τ).loc Cert.AttKernelIdeal.main_arg3) = m ((c.tc : Thread Cert.AttKernelIdeal.nD Cert.AttKernelIdeal.τ).loc Cert.AttKernelIdeal.main_arg3)
      ∧ r.2.mem ((c.tc : Thread Cert.AttKernelIdeal.nD Cert.AttKernelIdeal.τ).loc Cert.AttKernelIdeal.main_arg4) = m ((c.tc : Thread Cert.AttKernelIdeal.nD Cert.AttKernelIdeal.τ).loc Cert.AttKernelIdeal.main_arg4)
      ∧ r.2.mem ((c.tc : Thread Cert.AttKernelIdeal.nD Cert.AttKernelIdeal.τ).loc Cert.AttKernelIdeal.main_arg5) = m ((c.tc : Thread Cert.AttKernelIdeal.nD Cert.AttKernelIdeal.τ).loc Cert.AttKernelIdeal.main_arg5)
      ∧ r.2.mem ((c.tc : Thread Cert.AttKernelIdeal.nD Cert.AttKernelIdeal.τ).loc Cert.AttKernelIdeal.main_arg6) = m ((c.tc : Thread Cert.AttKernelIdeal.nD Cert.AttKernelIdeal.τ).loc Cert.AttKernelIdeal.main_arg6)
      ∧ r.2.mem ((c.tc : Thread Cert.AttKernelIdeal.nD Cert.AttKernelIdeal.τ).loc Cert.AttKernelIdeal.main_arg7) = m ((c.tc : Thread Cert.AttKernelIdeal.nD Cert.AttKernelIdeal.τ).loc Cert.AttKernelIdeal.main_arg7)
      ∧ r.2.mem ((c.tc : Thread Cert.AttKernelIdeal.nD Cert.AttKernelIdeal.τ).loc Cert.AttKernelIdeal.main_arg8) = m ((c.tc : Thread Cert.AttKernelIdeal.nD Cert.AttKernelIdeal.τ).loc Cert.AttKernelIdeal.main_arg8))
      ∧ r.2.sem = fun _ => 0)

def quiescent_AttReferenceIdeal [hAttReferenceIdeal : Cert.AttReferenceIdeal.Facts] : Prop :=
  ∀ (m : (ℓ : Loc Cert.AttReferenceIdeal.nD Cert.AttReferenceIdeal.τ Cert.AttReferenceIdeal.sig) → Buf (Elt Ideal) ℓ) (g : Dev Cert.AttReferenceIdeal.nD → PrngReg), Pre_AttReferenceIdeal m →
    θ_run (Cert.AttReferenceIdeal.defs (F := Ideal)) (onTc (τ := Cert.AttReferenceIdeal.τ) (Cert.AttReferenceIdeal.main (F := Ideal))) ⟨m, fun _ => 0, g⟩ (fun r => (∀ c : Dev Cert.AttReferenceIdeal.nD,
      r.2.mem ((c.tc : Thread Cert.AttReferenceIdeal.nD Cert.AttReferenceIdeal.τ).loc Cert.AttReferenceIdeal.main_arg0) = m ((c.tc : Thread Cert.AttReferenceIdeal.nD Cert.AttReferenceIdeal.τ).loc Cert.AttReferenceIdeal.main_arg0)
      ∧ r.2.mem ((c.tc : Thread Cert.AttReferenceIdeal.nD Cert.AttReferenceIdeal.τ).loc Cert.AttReferenceIdeal.main_arg1) = m ((c.tc : Thread Cert.AttReferenceIdeal.nD Cert.AttReferenceIdeal.τ).loc Cert.AttReferenceIdeal.main_arg1)
      ∧ r.2.mem ((c.tc : Thread Cert.AttReferenceIdeal.nD Cert.AttReferenceIdeal.τ).loc Cert.AttReferenceIdeal.main_arg2) = m ((c.tc : Thread Cert.AttReferenceIdeal.nD Cert.AttReferenceIdeal.τ).loc Cert.AttReferenceIdeal.main_arg2)
      ∧ r.2.mem ((c.tc : Thread Cert.AttReferenceIdeal.nD Cert.AttReferenceIdeal.τ).loc Cert.AttReferenceIdeal.main_arg3) = m ((c.tc : Thread Cert.AttReferenceIdeal.nD Cert.AttReferenceIdeal.τ).loc Cert.AttReferenceIdeal.main_arg3)
      ∧ r.2.mem ((c.tc : Thread Cert.AttReferenceIdeal.nD Cert.AttReferenceIdeal.τ).loc Cert.AttReferenceIdeal.main_arg4) = m ((c.tc : Thread Cert.AttReferenceIdeal.nD Cert.AttReferenceIdeal.τ).loc Cert.AttReferenceIdeal.main_arg4)
      ∧ r.2.mem ((c.tc : Thread Cert.AttReferenceIdeal.nD Cert.AttReferenceIdeal.τ).loc Cert.AttReferenceIdeal.main_arg5) = m ((c.tc : Thread Cert.AttReferenceIdeal.nD Cert.AttReferenceIdeal.τ).loc Cert.AttReferenceIdeal.main_arg5)
      ∧ r.2.mem ((c.tc : Thread Cert.AttReferenceIdeal.nD Cert.AttReferenceIdeal.τ).loc Cert.AttReferenceIdeal.main_arg6) = m ((c.tc : Thread Cert.AttReferenceIdeal.nD Cert.AttReferenceIdeal.τ).loc Cert.AttReferenceIdeal.main_arg6)
      ∧ r.2.mem ((c.tc : Thread Cert.AttReferenceIdeal.nD Cert.AttReferenceIdeal.τ).loc Cert.AttReferenceIdeal.main_arg7) = m ((c.tc : Thread Cert.AttReferenceIdeal.nD Cert.AttReferenceIdeal.τ).loc Cert.AttReferenceIdeal.main_arg7)
      ∧ r.2.mem ((c.tc : Thread Cert.AttReferenceIdeal.nD Cert.AttReferenceIdeal.τ).loc Cert.AttReferenceIdeal.main_arg8) = m ((c.tc : Thread Cert.AttReferenceIdeal.nD Cert.AttReferenceIdeal.τ).loc Cert.AttReferenceIdeal.main_arg8))
      ∧ r.2.sem = fun _ => 0)

def quiescent_AttReferenceIdeal_pre_finite [hAttReferenceIdeal : Cert.AttReferenceIdeal.Facts] [hPre_finite : Cert.Pre_finite.Facts] : Prop :=
  ∀ (m : (ℓ : Loc Cert.AttReferenceIdeal.nD Cert.AttReferenceIdeal.τ Cert.AttReferenceIdeal.sig) → Buf (Elt Ideal) ℓ) (g : Dev Cert.AttReferenceIdeal.nD → PrngReg), Pre_AttReferenceIdeal_finite m →
    θ_run (Cert.AttReferenceIdeal.defs (F := Ideal)) (onTc (τ := Cert.AttReferenceIdeal.τ) (Cert.AttReferenceIdeal.main (F := Ideal))) ⟨m, fun _ => 0, g⟩ (fun r => (∀ c : Dev Cert.AttReferenceIdeal.nD,
      r.2.mem ((c.tc : Thread Cert.AttReferenceIdeal.nD Cert.AttReferenceIdeal.τ).loc Cert.AttReferenceIdeal.main_arg0) = m ((c.tc : Thread Cert.AttReferenceIdeal.nD Cert.AttReferenceIdeal.τ).loc Cert.AttReferenceIdeal.main_arg0)
      ∧ r.2.mem ((c.tc : Thread Cert.AttReferenceIdeal.nD Cert.AttReferenceIdeal.τ).loc Cert.AttReferenceIdeal.main_arg1) = m ((c.tc : Thread Cert.AttReferenceIdeal.nD Cert.AttReferenceIdeal.τ).loc Cert.AttReferenceIdeal.main_arg1)
      ∧ r.2.mem ((c.tc : Thread Cert.AttReferenceIdeal.nD Cert.AttReferenceIdeal.τ).loc Cert.AttReferenceIdeal.main_arg2) = m ((c.tc : Thread Cert.AttReferenceIdeal.nD Cert.AttReferenceIdeal.τ).loc Cert.AttReferenceIdeal.main_arg2)
      ∧ r.2.mem ((c.tc : Thread Cert.AttReferenceIdeal.nD Cert.AttReferenceIdeal.τ).loc Cert.AttReferenceIdeal.main_arg3) = m ((c.tc : Thread Cert.AttReferenceIdeal.nD Cert.AttReferenceIdeal.τ).loc Cert.AttReferenceIdeal.main_arg3)
      ∧ r.2.mem ((c.tc : Thread Cert.AttReferenceIdeal.nD Cert.AttReferenceIdeal.τ).loc Cert.AttReferenceIdeal.main_arg4) = m ((c.tc : Thread Cert.AttReferenceIdeal.nD Cert.AttReferenceIdeal.τ).loc Cert.AttReferenceIdeal.main_arg4)
      ∧ r.2.mem ((c.tc : Thread Cert.AttReferenceIdeal.nD Cert.AttReferenceIdeal.τ).loc Cert.AttReferenceIdeal.main_arg5) = m ((c.tc : Thread Cert.AttReferenceIdeal.nD Cert.AttReferenceIdeal.τ).loc Cert.AttReferenceIdeal.main_arg5)
      ∧ r.2.mem ((c.tc : Thread Cert.AttReferenceIdeal.nD Cert.AttReferenceIdeal.τ).loc Cert.AttReferenceIdeal.main_arg6) = m ((c.tc : Thread Cert.AttReferenceIdeal.nD Cert.AttReferenceIdeal.τ).loc Cert.AttReferenceIdeal.main_arg6)
      ∧ r.2.mem ((c.tc : Thread Cert.AttReferenceIdeal.nD Cert.AttReferenceIdeal.τ).loc Cert.AttReferenceIdeal.main_arg7) = m ((c.tc : Thread Cert.AttReferenceIdeal.nD Cert.AttReferenceIdeal.τ).loc Cert.AttReferenceIdeal.main_arg7)
      ∧ r.2.mem ((c.tc : Thread Cert.AttReferenceIdeal.nD Cert.AttReferenceIdeal.τ).loc Cert.AttReferenceIdeal.main_arg8) = m ((c.tc : Thread Cert.AttReferenceIdeal.nD Cert.AttReferenceIdeal.τ).loc Cert.AttReferenceIdeal.main_arg8))
      ∧ r.2.sem = fun _ => 0)

def quiescent_WeightKernel [hWeightKernel : Cert.WeightKernel.Facts] : Prop :=
  ∀ (m : (ℓ : Loc Cert.WeightKernel.nD Cert.WeightKernel.τ Cert.WeightKernel.sig) → Buf (Elt Bits) ℓ) (g : Dev Cert.WeightKernel.nD → PrngReg), Pre_WeightKernel m →
    θ_run (Cert.WeightKernel.defs (F := Bits)) (onTc (τ := Cert.WeightKernel.τ) (Cert.WeightKernel.main (F := Bits))) ⟨m, fun _ => 0, g⟩ (fun r => (∀ c : Dev Cert.WeightKernel.nD,
      r.2.mem ((c.tc : Thread Cert.WeightKernel.nD Cert.WeightKernel.τ).loc Cert.WeightKernel.main_arg0) = m ((c.tc : Thread Cert.WeightKernel.nD Cert.WeightKernel.τ).loc Cert.WeightKernel.main_arg0)
      ∧ r.2.mem ((c.tc : Thread Cert.WeightKernel.nD Cert.WeightKernel.τ).loc Cert.WeightKernel.main_arg1) = m ((c.tc : Thread Cert.WeightKernel.nD Cert.WeightKernel.τ).loc Cert.WeightKernel.main_arg1))
      ∧ r.2.sem = fun _ => 0)

def quiescent_WeightKernelIdeal [hWeightKernelIdeal : Cert.WeightKernelIdeal.Facts] : Prop :=
  ∀ (m : (ℓ : Loc Cert.WeightKernelIdeal.nD Cert.WeightKernelIdeal.τ Cert.WeightKernelIdeal.sig) → Buf (Elt Ideal) ℓ) (g : Dev Cert.WeightKernelIdeal.nD → PrngReg), Pre_WeightKernelIdeal m →
    θ_run (Cert.WeightKernelIdeal.defs (F := Ideal)) (onTc (τ := Cert.WeightKernelIdeal.τ) (Cert.WeightKernelIdeal.main (F := Ideal))) ⟨m, fun _ => 0, g⟩ (fun r => (∀ c : Dev Cert.WeightKernelIdeal.nD,
      r.2.mem ((c.tc : Thread Cert.WeightKernelIdeal.nD Cert.WeightKernelIdeal.τ).loc Cert.WeightKernelIdeal.main_arg0) = m ((c.tc : Thread Cert.WeightKernelIdeal.nD Cert.WeightKernelIdeal.τ).loc Cert.WeightKernelIdeal.main_arg0)
      ∧ r.2.mem ((c.tc : Thread Cert.WeightKernelIdeal.nD Cert.WeightKernelIdeal.τ).loc Cert.WeightKernelIdeal.main_arg1) = m ((c.tc : Thread Cert.WeightKernelIdeal.nD Cert.WeightKernelIdeal.τ).loc Cert.WeightKernelIdeal.main_arg1))
      ∧ r.2.sem = fun _ => 0)

def quiescent_WeightReferenceIdeal [hWeightReferenceIdeal : Cert.WeightReferenceIdeal.Facts] : Prop :=
  ∀ (m : (ℓ : Loc Cert.WeightReferenceIdeal.nD Cert.WeightReferenceIdeal.τ Cert.WeightReferenceIdeal.sig) → Buf (Elt Ideal) ℓ) (g : Dev Cert.WeightReferenceIdeal.nD → PrngReg), Pre_WeightReferenceIdeal m →
    θ_run (Cert.WeightReferenceIdeal.defs (F := Ideal)) (onTc (τ := Cert.WeightReferenceIdeal.τ) (Cert.WeightReferenceIdeal.main (F := Ideal))) ⟨m, fun _ => 0, g⟩ (fun r => (∀ c : Dev Cert.WeightReferenceIdeal.nD,
      r.2.mem ((c.tc : Thread Cert.WeightReferenceIdeal.nD Cert.WeightReferenceIdeal.τ).loc Cert.WeightReferenceIdeal.main_arg0) = m ((c.tc : Thread Cert.WeightReferenceIdeal.nD Cert.WeightReferenceIdeal.τ).loc Cert.WeightReferenceIdeal.main_arg0)
      ∧ r.2.mem ((c.tc : Thread Cert.WeightReferenceIdeal.nD Cert.WeightReferenceIdeal.τ).loc Cert.WeightReferenceIdeal.main_arg1) = m ((c.tc : Thread Cert.WeightReferenceIdeal.nD Cert.WeightReferenceIdeal.τ).loc Cert.WeightReferenceIdeal.main_arg1))
      ∧ r.2.sem = fun _ => 0)

def quiescent_SwigluKernel [hSwigluKernel : Cert.SwigluKernel.Facts] : Prop :=
  ∀ (m : (ℓ : Loc Cert.SwigluKernel.nD Cert.SwigluKernel.τ Cert.SwigluKernel.sig) → Buf (Elt Bits) ℓ) (g : Dev Cert.SwigluKernel.nD → PrngReg), Pre_SwigluKernel m →
    θ_run (Cert.SwigluKernel.defs (F := Bits)) (onTc (τ := Cert.SwigluKernel.τ) (Cert.SwigluKernel.main (F := Bits))) ⟨m, fun _ => 0, g⟩ (fun r => (∀ c : Dev Cert.SwigluKernel.nD,
      r.2.mem ((c.tc : Thread Cert.SwigluKernel.nD Cert.SwigluKernel.τ).loc Cert.SwigluKernel.main_arg0) = m ((c.tc : Thread Cert.SwigluKernel.nD Cert.SwigluKernel.τ).loc Cert.SwigluKernel.main_arg0)
      ∧ r.2.mem ((c.tc : Thread Cert.SwigluKernel.nD Cert.SwigluKernel.τ).loc Cert.SwigluKernel.main_arg1) = m ((c.tc : Thread Cert.SwigluKernel.nD Cert.SwigluKernel.τ).loc Cert.SwigluKernel.main_arg1))
      ∧ r.2.sem = fun _ => 0)

def quiescent_SwigluKernelIdeal [hSwigluKernelIdeal : Cert.SwigluKernelIdeal.Facts] : Prop :=
  ∀ (m : (ℓ : Loc Cert.SwigluKernelIdeal.nD Cert.SwigluKernelIdeal.τ Cert.SwigluKernelIdeal.sig) → Buf (Elt Ideal) ℓ) (g : Dev Cert.SwigluKernelIdeal.nD → PrngReg), Pre_SwigluKernelIdeal m →
    θ_run (Cert.SwigluKernelIdeal.defs (F := Ideal)) (onTc (τ := Cert.SwigluKernelIdeal.τ) (Cert.SwigluKernelIdeal.main (F := Ideal))) ⟨m, fun _ => 0, g⟩ (fun r => (∀ c : Dev Cert.SwigluKernelIdeal.nD,
      r.2.mem ((c.tc : Thread Cert.SwigluKernelIdeal.nD Cert.SwigluKernelIdeal.τ).loc Cert.SwigluKernelIdeal.main_arg0) = m ((c.tc : Thread Cert.SwigluKernelIdeal.nD Cert.SwigluKernelIdeal.τ).loc Cert.SwigluKernelIdeal.main_arg0)
      ∧ r.2.mem ((c.tc : Thread Cert.SwigluKernelIdeal.nD Cert.SwigluKernelIdeal.τ).loc Cert.SwigluKernelIdeal.main_arg1) = m ((c.tc : Thread Cert.SwigluKernelIdeal.nD Cert.SwigluKernelIdeal.τ).loc Cert.SwigluKernelIdeal.main_arg1))
      ∧ r.2.sem = fun _ => 0)

def quiescent_SwigluReferenceIdeal [hSwigluReferenceIdeal : Cert.SwigluReferenceIdeal.Facts] : Prop :=
  ∀ (m : (ℓ : Loc Cert.SwigluReferenceIdeal.nD Cert.SwigluReferenceIdeal.τ Cert.SwigluReferenceIdeal.sig) → Buf (Elt Ideal) ℓ) (g : Dev Cert.SwigluReferenceIdeal.nD → PrngReg), Pre_SwigluReferenceIdeal m →
    θ_run (Cert.SwigluReferenceIdeal.defs (F := Ideal)) (onTc (τ := Cert.SwigluReferenceIdeal.τ) (Cert.SwigluReferenceIdeal.main (F := Ideal))) ⟨m, fun _ => 0, g⟩ (fun r => (∀ c : Dev Cert.SwigluReferenceIdeal.nD,
      r.2.mem ((c.tc : Thread Cert.SwigluReferenceIdeal.nD Cert.SwigluReferenceIdeal.τ).loc Cert.SwigluReferenceIdeal.main_arg0) = m ((c.tc : Thread Cert.SwigluReferenceIdeal.nD Cert.SwigluReferenceIdeal.τ).loc Cert.SwigluReferenceIdeal.main_arg0)
      ∧ r.2.mem ((c.tc : Thread Cert.SwigluReferenceIdeal.nD Cert.SwigluReferenceIdeal.τ).loc Cert.SwigluReferenceIdeal.main_arg1) = m ((c.tc : Thread Cert.SwigluReferenceIdeal.nD Cert.SwigluReferenceIdeal.τ).loc Cert.SwigluReferenceIdeal.main_arg1))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def quiescent_QkvKernel [hQkvKernel : Cert.QkvKernel.Facts] : Prop :=
  ∀ (m : (ℓ : Loc Cert.QkvKernel.nD Cert.QkvKernel.τ Cert.QkvKernel.sig) → Buf (Elt Bits) ℓ) (g : Dev Cert.QkvKernel.nD → PrngReg), Pre_QkvKernel m →
    θ_run (Cert.QkvKernel.defs (F := Bits)) (onTc (τ := Cert.QkvKernel.τ) (Cert.QkvKernel.main (F := Bits))) ⟨m, fun _ => 0, g⟩ (fun r => (∀ c : Dev Cert.QkvKernel.nD,
      r.2.mem ((c.tc : Thread Cert.QkvKernel.nD Cert.QkvKernel.τ).loc Cert.QkvKernel.main_arg0) = m ((c.tc : Thread Cert.QkvKernel.nD Cert.QkvKernel.τ).loc Cert.QkvKernel.main_arg0)
      ∧ r.2.mem ((c.tc : Thread Cert.QkvKernel.nD Cert.QkvKernel.τ).loc Cert.QkvKernel.main_arg1) = m ((c.tc : Thread Cert.QkvKernel.nD Cert.QkvKernel.τ).loc Cert.QkvKernel.main_arg1))
      ∧ r.2.sem = fun _ => 0)

def quiescent_QkvKernelIdeal [hQkvKernelIdeal : Cert.QkvKernelIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg), Pre_QkvKernelIdeal m →
    θ_run (Cert.QkvKernelIdeal.defs (F := Ideal)) (onTc (τ := Cert.QkvKernelIdeal.τ) (Cert.QkvKernelIdeal.main (F := Ideal))) ⟨m, fun _ => 0, g⟩ (fun r => (∀ c : Dev Cert.QkvKernelIdeal.nD,
      r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
      ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1))
      ∧ r.2.sem = fun _ => 0)

def quiescent_GateGradKernel [hGateGradKernel : Cert.GateGradKernel.Facts] : Prop :=
  ∀ (m : (ℓ : Loc Cert.GateGradKernel.nD Cert.GateGradKernel.τ Cert.GateGradKernel.sig) → Buf (Elt Bits) ℓ) (g : Dev Cert.GateGradKernel.nD → PrngReg), Pre_GateGradKernel m →
    θ_run (Cert.GateGradKernel.defs (F := Bits)) (onTc (τ := Cert.GateGradKernel.τ) (Cert.GateGradKernel.main (F := Bits))) ⟨m, fun _ => 0, g⟩ (fun r => (∀ c : Dev Cert.GateGradKernel.nD,
      r.2.mem ((c.tc : Thread Cert.GateGradKernel.nD Cert.GateGradKernel.τ).loc Cert.GateGradKernel.main_arg0) = m ((c.tc : Thread Cert.GateGradKernel.nD Cert.GateGradKernel.τ).loc Cert.GateGradKernel.main_arg0)
      ∧ r.2.mem ((c.tc : Thread Cert.GateGradKernel.nD Cert.GateGradKernel.τ).loc Cert.GateGradKernel.main_arg1) = m ((c.tc : Thread Cert.GateGradKernel.nD Cert.GateGradKernel.τ).loc Cert.GateGradKernel.main_arg1))
      ∧ r.2.sem = fun _ => 0)

def quiescent_GateGradKernelIdeal [hGateGradKernelIdeal : Cert.GateGradKernelIdeal.Facts] : Prop :=
  ∀ (m : (ℓ : Loc Cert.GateGradKernelIdeal.nD Cert.GateGradKernelIdeal.τ Cert.GateGradKernelIdeal.sig) → Buf (Elt Ideal) ℓ) (g : Dev Cert.GateGradKernelIdeal.nD → PrngReg), Pre_GateGradKernelIdeal m →
    θ_run (Cert.GateGradKernelIdeal.defs (F := Ideal)) (onTc (τ := Cert.GateGradKernelIdeal.τ) (Cert.GateGradKernelIdeal.main (F := Ideal))) ⟨m, fun _ => 0, g⟩ (fun r => (∀ c : Dev Cert.GateGradKernelIdeal.nD,
      r.2.mem ((c.tc : Thread Cert.GateGradKernelIdeal.nD Cert.GateGradKernelIdeal.τ).loc Cert.GateGradKernelIdeal.main_arg0) = m ((c.tc : Thread Cert.GateGradKernelIdeal.nD Cert.GateGradKernelIdeal.τ).loc Cert.GateGradKernelIdeal.main_arg0)
      ∧ r.2.mem ((c.tc : Thread Cert.GateGradKernelIdeal.nD Cert.GateGradKernelIdeal.τ).loc Cert.GateGradKernelIdeal.main_arg1) = m ((c.tc : Thread Cert.GateGradKernelIdeal.nD Cert.GateGradKernelIdeal.τ).loc Cert.GateGradKernelIdeal.main_arg1))
      ∧ r.2.sem = fun _ => 0)

def quiescent_GateGradReferenceIdeal [hGateGradReferenceIdeal : Cert.GateGradReferenceIdeal.Facts] : Prop :=
  ∀ (m : (ℓ : Loc Cert.GateGradReferenceIdeal.nD Cert.GateGradReferenceIdeal.τ Cert.GateGradReferenceIdeal.sig) → Buf (Elt Ideal) ℓ) (g : Dev Cert.GateGradReferenceIdeal.nD → PrngReg), Pre_GateGradReferenceIdeal m →
    θ_run (Cert.GateGradReferenceIdeal.defs (F := Ideal)) (onTc (τ := Cert.GateGradReferenceIdeal.τ) (Cert.GateGradReferenceIdeal.main (F := Ideal))) ⟨m, fun _ => 0, g⟩ (fun r => (∀ c : Dev Cert.GateGradReferenceIdeal.nD,
      r.2.mem ((c.tc : Thread Cert.GateGradReferenceIdeal.nD Cert.GateGradReferenceIdeal.τ).loc Cert.GateGradReferenceIdeal.main_arg0) = m ((c.tc : Thread Cert.GateGradReferenceIdeal.nD Cert.GateGradReferenceIdeal.τ).loc Cert.GateGradReferenceIdeal.main_arg0)
      ∧ r.2.mem ((c.tc : Thread Cert.GateGradReferenceIdeal.nD Cert.GateGradReferenceIdeal.τ).loc Cert.GateGradReferenceIdeal.main_arg1) = m ((c.tc : Thread Cert.GateGradReferenceIdeal.nD Cert.GateGradReferenceIdeal.τ).loc Cert.GateGradReferenceIdeal.main_arg1))
      ∧ r.2.sem = fun _ => 0)

def quiescent_QkvGradKernel [hQkvGradKernel : Cert.QkvGradKernel.Facts] : Prop :=
  ∀ (m : (ℓ : Loc Cert.QkvGradKernel.nD Cert.QkvGradKernel.τ Cert.QkvGradKernel.sig) → Buf (Elt Bits) ℓ) (g : Dev Cert.QkvGradKernel.nD → PrngReg), Pre_QkvGradKernel m →
    θ_run (Cert.QkvGradKernel.defs (F := Bits)) (onTc (τ := Cert.QkvGradKernel.τ) (Cert.QkvGradKernel.main (F := Bits))) ⟨m, fun _ => 0, g⟩ (fun r => (∀ c : Dev Cert.QkvGradKernel.nD,
      r.2.mem ((c.tc : Thread Cert.QkvGradKernel.nD Cert.QkvGradKernel.τ).loc Cert.QkvGradKernel.main_arg0) = m ((c.tc : Thread Cert.QkvGradKernel.nD Cert.QkvGradKernel.τ).loc Cert.QkvGradKernel.main_arg0)
      ∧ r.2.mem ((c.tc : Thread Cert.QkvGradKernel.nD Cert.QkvGradKernel.τ).loc Cert.QkvGradKernel.main_arg1) = m ((c.tc : Thread Cert.QkvGradKernel.nD Cert.QkvGradKernel.τ).loc Cert.QkvGradKernel.main_arg1))
      ∧ r.2.sem = fun _ => 0)

def quiescent_QkvGradKernelIdeal [hQkvGradKernelIdeal : Cert.QkvGradKernelIdeal.Facts] : Prop :=
  ∀ (m : (ℓ : Loc Cert.QkvGradKernelIdeal.nD Cert.QkvGradKernelIdeal.τ Cert.QkvGradKernelIdeal.sig) → Buf (Elt Ideal) ℓ) (g : Dev Cert.QkvGradKernelIdeal.nD → PrngReg), Pre_QkvGradKernelIdeal m →
    θ_run (Cert.QkvGradKernelIdeal.defs (F := Ideal)) (onTc (τ := Cert.QkvGradKernelIdeal.τ) (Cert.QkvGradKernelIdeal.main (F := Ideal))) ⟨m, fun _ => 0, g⟩ (fun r => (∀ c : Dev Cert.QkvGradKernelIdeal.nD,
      r.2.mem ((c.tc : Thread Cert.QkvGradKernelIdeal.nD Cert.QkvGradKernelIdeal.τ).loc Cert.QkvGradKernelIdeal.main_arg0) = m ((c.tc : Thread Cert.QkvGradKernelIdeal.nD Cert.QkvGradKernelIdeal.τ).loc Cert.QkvGradKernelIdeal.main_arg0)
      ∧ r.2.mem ((c.tc : Thread Cert.QkvGradKernelIdeal.nD Cert.QkvGradKernelIdeal.τ).loc Cert.QkvGradKernelIdeal.main_arg1) = m ((c.tc : Thread Cert.QkvGradKernelIdeal.nD Cert.QkvGradKernelIdeal.τ).loc Cert.QkvGradKernelIdeal.main_arg1))
      ∧ r.2.sem = fun _ => 0)

def quiescent_QkvGradReferenceIdeal [hQkvGradReferenceIdeal : Cert.QkvGradReferenceIdeal.Facts] : Prop :=
  ∀ (m : (ℓ : Loc Cert.QkvGradReferenceIdeal.nD Cert.QkvGradReferenceIdeal.τ Cert.QkvGradReferenceIdeal.sig) → Buf (Elt Ideal) ℓ) (g : Dev Cert.QkvGradReferenceIdeal.nD → PrngReg), Pre_QkvGradReferenceIdeal m →
    θ_run (Cert.QkvGradReferenceIdeal.defs (F := Ideal)) (onTc (τ := Cert.QkvGradReferenceIdeal.τ) (Cert.QkvGradReferenceIdeal.main (F := Ideal))) ⟨m, fun _ => 0, g⟩ (fun r => (∀ c : Dev Cert.QkvGradReferenceIdeal.nD,
      r.2.mem ((c.tc : Thread Cert.QkvGradReferenceIdeal.nD Cert.QkvGradReferenceIdeal.τ).loc Cert.QkvGradReferenceIdeal.main_arg0) = m ((c.tc : Thread Cert.QkvGradReferenceIdeal.nD Cert.QkvGradReferenceIdeal.τ).loc Cert.QkvGradReferenceIdeal.main_arg0)
      ∧ r.2.mem ((c.tc : Thread Cert.QkvGradReferenceIdeal.nD Cert.QkvGradReferenceIdeal.τ).loc Cert.QkvGradReferenceIdeal.main_arg1) = m ((c.tc : Thread Cert.QkvGradReferenceIdeal.nD Cert.QkvGradReferenceIdeal.τ).loc Cert.QkvGradReferenceIdeal.main_arg1))
      ∧ r.2.sem = fun _ => 0)

def quiescent_ConvGradKernel [hConvGradKernel : Cert.ConvGradKernel.Facts] : Prop :=
  ∀ (m : (ℓ : Loc Cert.ConvGradKernel.nD Cert.ConvGradKernel.τ Cert.ConvGradKernel.sig) → Buf (Elt Bits) ℓ) (g : Dev Cert.ConvGradKernel.nD → PrngReg), Pre_ConvGradKernel m →
    θ_run (Cert.ConvGradKernel.defs (F := Bits)) (onTc (τ := Cert.ConvGradKernel.τ) (Cert.ConvGradKernel.main (F := Bits))) ⟨m, fun _ => 0, g⟩ (fun r => (∀ c : Dev Cert.ConvGradKernel.nD,
      r.2.mem ((c.tc : Thread Cert.ConvGradKernel.nD Cert.ConvGradKernel.τ).loc Cert.ConvGradKernel.main_arg0) = m ((c.tc : Thread Cert.ConvGradKernel.nD Cert.ConvGradKernel.τ).loc Cert.ConvGradKernel.main_arg0)
      ∧ r.2.mem ((c.tc : Thread Cert.ConvGradKernel.nD Cert.ConvGradKernel.τ).loc Cert.ConvGradKernel.main_arg1) = m ((c.tc : Thread Cert.ConvGradKernel.nD Cert.ConvGradKernel.τ).loc Cert.ConvGradKernel.main_arg1))
      ∧ r.2.sem = fun _ => 0)

def quiescent_ConvGradKernelIdeal [hConvGradKernelIdeal : Cert.ConvGradKernelIdeal.Facts] : Prop :=
  ∀ (m : (ℓ : Loc Cert.ConvGradKernelIdeal.nD Cert.ConvGradKernelIdeal.τ Cert.ConvGradKernelIdeal.sig) → Buf (Elt Ideal) ℓ) (g : Dev Cert.ConvGradKernelIdeal.nD → PrngReg), Pre_ConvGradKernelIdeal m →
    θ_run (Cert.ConvGradKernelIdeal.defs (F := Ideal)) (onTc (τ := Cert.ConvGradKernelIdeal.τ) (Cert.ConvGradKernelIdeal.main (F := Ideal))) ⟨m, fun _ => 0, g⟩ (fun r => (∀ c : Dev Cert.ConvGradKernelIdeal.nD,
      r.2.mem ((c.tc : Thread Cert.ConvGradKernelIdeal.nD Cert.ConvGradKernelIdeal.τ).loc Cert.ConvGradKernelIdeal.main_arg0) = m ((c.tc : Thread Cert.ConvGradKernelIdeal.nD Cert.ConvGradKernelIdeal.τ).loc Cert.ConvGradKernelIdeal.main_arg0)
      ∧ r.2.mem ((c.tc : Thread Cert.ConvGradKernelIdeal.nD Cert.ConvGradKernelIdeal.τ).loc Cert.ConvGradKernelIdeal.main_arg1) = m ((c.tc : Thread Cert.ConvGradKernelIdeal.nD Cert.ConvGradKernelIdeal.τ).loc Cert.ConvGradKernelIdeal.main_arg1))
      ∧ r.2.sem = fun _ => 0)

def quiescent_ConvGradReferenceIdeal [hConvGradReferenceIdeal : Cert.ConvGradReferenceIdeal.Facts] : Prop :=
  ∀ (m : (ℓ : Loc Cert.ConvGradReferenceIdeal.nD Cert.ConvGradReferenceIdeal.τ Cert.ConvGradReferenceIdeal.sig) → Buf (Elt Ideal) ℓ) (g : Dev Cert.ConvGradReferenceIdeal.nD → PrngReg), Pre_ConvGradReferenceIdeal m →
    θ_run (Cert.ConvGradReferenceIdeal.defs (F := Ideal)) (onTc (τ := Cert.ConvGradReferenceIdeal.τ) (Cert.ConvGradReferenceIdeal.main (F := Ideal))) ⟨m, fun _ => 0, g⟩ (fun r => (∀ c : Dev Cert.ConvGradReferenceIdeal.nD,
      r.2.mem ((c.tc : Thread Cert.ConvGradReferenceIdeal.nD Cert.ConvGradReferenceIdeal.τ).loc Cert.ConvGradReferenceIdeal.main_arg0) = m ((c.tc : Thread Cert.ConvGradReferenceIdeal.nD Cert.ConvGradReferenceIdeal.τ).loc Cert.ConvGradReferenceIdeal.main_arg0)
      ∧ r.2.mem ((c.tc : Thread Cert.ConvGradReferenceIdeal.nD Cert.ConvGradReferenceIdeal.τ).loc Cert.ConvGradReferenceIdeal.main_arg1) = m ((c.tc : Thread Cert.ConvGradReferenceIdeal.nD Cert.ConvGradReferenceIdeal.τ).loc Cert.ConvGradReferenceIdeal.main_arg1))
      ∧ r.2.sem = fun _ => 0)

def quiescent_InputKernel [hInputKernel : Cert.InputKernel.Facts] : Prop :=
  ∀ (m : (ℓ : Loc Cert.InputKernel.nD Cert.InputKernel.τ Cert.InputKernel.sig) → Buf (Elt Bits) ℓ) (g : Dev Cert.InputKernel.nD → PrngReg), Pre_InputKernel m →
    θ_run (Cert.InputKernel.defs (F := Bits)) (onTc (τ := Cert.InputKernel.τ) (Cert.InputKernel.main (F := Bits))) ⟨m, fun _ => 0, g⟩ (fun r => (∀ c : Dev Cert.InputKernel.nD,
      r.2.mem ((c.tc : Thread Cert.InputKernel.nD Cert.InputKernel.τ).loc Cert.InputKernel.main_arg0) = m ((c.tc : Thread Cert.InputKernel.nD Cert.InputKernel.τ).loc Cert.InputKernel.main_arg0)
      ∧ r.2.mem ((c.tc : Thread Cert.InputKernel.nD Cert.InputKernel.τ).loc Cert.InputKernel.main_arg1) = m ((c.tc : Thread Cert.InputKernel.nD Cert.InputKernel.τ).loc Cert.InputKernel.main_arg1)
      ∧ r.2.mem ((c.tc : Thread Cert.InputKernel.nD Cert.InputKernel.τ).loc Cert.InputKernel.main_arg2) = m ((c.tc : Thread Cert.InputKernel.nD Cert.InputKernel.τ).loc Cert.InputKernel.main_arg2))
      ∧ r.2.sem = fun _ => 0)

def quiescent_InputKernelIdeal [hInputKernelIdeal : Cert.InputKernelIdeal.Facts] : Prop :=
  ∀ (m : (ℓ : Loc Cert.InputKernelIdeal.nD Cert.InputKernelIdeal.τ Cert.InputKernelIdeal.sig) → Buf (Elt Ideal) ℓ) (g : Dev Cert.InputKernelIdeal.nD → PrngReg), Pre_InputKernelIdeal m →
    θ_run (Cert.InputKernelIdeal.defs (F := Ideal)) (onTc (τ := Cert.InputKernelIdeal.τ) (Cert.InputKernelIdeal.main (F := Ideal))) ⟨m, fun _ => 0, g⟩ (fun r => (∀ c : Dev Cert.InputKernelIdeal.nD,
      r.2.mem ((c.tc : Thread Cert.InputKernelIdeal.nD Cert.InputKernelIdeal.τ).loc Cert.InputKernelIdeal.main_arg0) = m ((c.tc : Thread Cert.InputKernelIdeal.nD Cert.InputKernelIdeal.τ).loc Cert.InputKernelIdeal.main_arg0)
      ∧ r.2.mem ((c.tc : Thread Cert.InputKernelIdeal.nD Cert.InputKernelIdeal.τ).loc Cert.InputKernelIdeal.main_arg1) = m ((c.tc : Thread Cert.InputKernelIdeal.nD Cert.InputKernelIdeal.τ).loc Cert.InputKernelIdeal.main_arg1)
      ∧ r.2.mem ((c.tc : Thread Cert.InputKernelIdeal.nD Cert.InputKernelIdeal.τ).loc Cert.InputKernelIdeal.main_arg2) = m ((c.tc : Thread Cert.InputKernelIdeal.nD Cert.InputKernelIdeal.τ).loc Cert.InputKernelIdeal.main_arg2))
      ∧ r.2.sem = fun _ => 0)

def quiescent_InputReferenceIdeal [hInputReferenceIdeal : Cert.InputReferenceIdeal.Facts] : Prop :=
  ∀ (m : (ℓ : Loc Cert.InputReferenceIdeal.nD Cert.InputReferenceIdeal.τ Cert.InputReferenceIdeal.sig) → Buf (Elt Ideal) ℓ) (g : Dev Cert.InputReferenceIdeal.nD → PrngReg), Pre_InputReferenceIdeal m →
    θ_run (Cert.InputReferenceIdeal.defs (F := Ideal)) (onTc (τ := Cert.InputReferenceIdeal.τ) (Cert.InputReferenceIdeal.main (F := Ideal))) ⟨m, fun _ => 0, g⟩ (fun r => (∀ c : Dev Cert.InputReferenceIdeal.nD,
      r.2.mem ((c.tc : Thread Cert.InputReferenceIdeal.nD Cert.InputReferenceIdeal.τ).loc Cert.InputReferenceIdeal.main_arg0) = m ((c.tc : Thread Cert.InputReferenceIdeal.nD Cert.InputReferenceIdeal.τ).loc Cert.InputReferenceIdeal.main_arg0)
      ∧ r.2.mem ((c.tc : Thread Cert.InputReferenceIdeal.nD Cert.InputReferenceIdeal.τ).loc Cert.InputReferenceIdeal.main_arg1) = m ((c.tc : Thread Cert.InputReferenceIdeal.nD Cert.InputReferenceIdeal.τ).loc Cert.InputReferenceIdeal.main_arg1)
      ∧ r.2.mem ((c.tc : Thread Cert.InputReferenceIdeal.nD Cert.InputReferenceIdeal.τ).loc Cert.InputReferenceIdeal.main_arg2) = m ((c.tc : Thread Cert.InputReferenceIdeal.nD Cert.InputReferenceIdeal.τ).loc Cert.InputReferenceIdeal.main_arg2))
      ∧ r.2.sem = fun _ => 0)

def quiescent_LastKernel [hLastKernel : Cert.LastKernel.Facts] : Prop :=
  ∀ (m : (ℓ : Loc Cert.LastKernel.nD Cert.LastKernel.τ Cert.LastKernel.sig) → Buf (Elt Bits) ℓ) (g : Dev Cert.LastKernel.nD → PrngReg), Pre_LastKernel m →
    θ_run (Cert.LastKernel.defs (F := Bits)) (onTc (τ := Cert.LastKernel.τ) (Cert.LastKernel.main (F := Bits))) ⟨m, fun _ => 0, g⟩ (fun r => (∀ c : Dev Cert.LastKernel.nD,
      r.2.mem ((c.tc : Thread Cert.LastKernel.nD Cert.LastKernel.τ).loc Cert.LastKernel.main_arg0) = m ((c.tc : Thread Cert.LastKernel.nD Cert.LastKernel.τ).loc Cert.LastKernel.main_arg0)
      ∧ r.2.mem ((c.tc : Thread Cert.LastKernel.nD Cert.LastKernel.τ).loc Cert.LastKernel.main_arg1) = m ((c.tc : Thread Cert.LastKernel.nD Cert.LastKernel.τ).loc Cert.LastKernel.main_arg1)
      ∧ r.2.mem ((c.tc : Thread Cert.LastKernel.nD Cert.LastKernel.τ).loc Cert.LastKernel.main_arg2) = m ((c.tc : Thread Cert.LastKernel.nD Cert.LastKernel.τ).loc Cert.LastKernel.main_arg2)
      ∧ r.2.mem ((c.tc : Thread Cert.LastKernel.nD Cert.LastKernel.τ).loc Cert.LastKernel.main_arg3) = m ((c.tc : Thread Cert.LastKernel.nD Cert.LastKernel.τ).loc Cert.LastKernel.main_arg3))
      ∧ r.2.sem = fun _ => 0)

def quiescent_LastKernelIdeal [hLastKernelIdeal : Cert.LastKernelIdeal.Facts] : Prop :=
  ∀ (m : (ℓ : Loc Cert.LastKernelIdeal.nD Cert.LastKernelIdeal.τ Cert.LastKernelIdeal.sig) → Buf (Elt Ideal) ℓ) (g : Dev Cert.LastKernelIdeal.nD → PrngReg), Pre_LastKernelIdeal m →
    θ_run (Cert.LastKernelIdeal.defs (F := Ideal)) (onTc (τ := Cert.LastKernelIdeal.τ) (Cert.LastKernelIdeal.main (F := Ideal))) ⟨m, fun _ => 0, g⟩ (fun r => (∀ c : Dev Cert.LastKernelIdeal.nD,
      r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
      ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1)
      ∧ r.2.mem ((c.tc : Thread Cert.LastKernelIdeal.nD Cert.LastKernelIdeal.τ).loc Cert.LastKernelIdeal.main_arg2) = m ((c.tc : Thread Cert.LastKernelIdeal.nD Cert.LastKernelIdeal.τ).loc Cert.LastKernelIdeal.main_arg2)
      ∧ r.2.mem ((c.tc : Thread Cert.LastKernelIdeal.nD Cert.LastKernelIdeal.τ).loc Cert.LastKernelIdeal.main_arg3) = m ((c.tc : Thread Cert.LastKernelIdeal.nD Cert.LastKernelIdeal.τ).loc Cert.LastKernelIdeal.main_arg3))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_GluKernel [hGluKernel : Cert.GluKernel.Facts] : Prop :=
  ∀ (m : (ℓ : Loc Cert.GluKernel.nD Cert.GluKernel.τ Cert.GluKernel.sig) → Buf (Elt Bits) ℓ) (g : Dev Cert.GluKernel.nD → PrngReg), Pre_GluKernel m →
    θ_run (Cert.GluKernel.defs (F := Bits)) (onTc (τ := Cert.GluKernel.τ) (Cert.GluKernel.main (F := Bits))) ⟨m, fun _ => 0, g⟩ (fun r => (∀ c : Dev Cert.GluKernel.nD,
      r.2.mem ((c.tc : Thread Cert.GluKernel.nD Cert.GluKernel.τ).loc Cert.GluKernel.main_arg0) = m ((c.tc : Thread Cert.GluKernel.nD Cert.GluKernel.τ).loc Cert.GluKernel.main_arg0)
      ∧ r.2.mem ((c.tc : Thread Cert.GluKernel.nD Cert.GluKernel.τ).loc Cert.GluKernel.main_arg1) = m ((c.tc : Thread Cert.GluKernel.nD Cert.GluKernel.τ).loc Cert.GluKernel.main_arg1)
      ∧ r.2.mem ((c.tc : Thread Cert.GluKernel.nD Cert.GluKernel.τ).loc Cert.GluKernel.main_arg2) = m ((c.tc : Thread Cert.GluKernel.nD Cert.GluKernel.τ).loc Cert.GluKernel.main_arg2)
      ∧ r.2.mem ((c.tc : Thread Cert.GluKernel.nD Cert.GluKernel.τ).loc Cert.GluKernel.main_arg3) = m ((c.tc : Thread Cert.GluKernel.nD Cert.GluKernel.τ).loc Cert.GluKernel.main_arg3))
      ∧ r.2.sem = fun _ => 0)

def quiescent_GluKernelIdeal [hGluKernelIdeal : Cert.GluKernelIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg), Pre_GluKernelIdeal m →
    θ_run (Cert.GluKernelIdeal.defs (F := Ideal)) (onTc (τ := Cert.GluKernelIdeal.τ) (Cert.GluKernelIdeal.main (F := Ideal))) ⟨m, fun _ => 0, g⟩ (fun r => (∀ c : Dev Cert.GluKernelIdeal.nD,
      r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
      ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
      ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
      ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3))
      ∧ r.2.sem = fun _ => 0)

def quiescent_GluKernelIdeal_pre_finite_glu [hGluKernelIdeal : Cert.GluKernelIdeal.Facts] [hPre_finite_glu : Cert.Pre_finite_glu.Facts] : Prop :=
  ∀ (m : (ℓ : Loc Cert.GluKernelIdeal.nD Cert.GluKernelIdeal.τ Cert.GluKernelIdeal.sig) → Buf (Elt Ideal) ℓ) (g : Dev Cert.GluKernelIdeal.nD → PrngReg), Pre_GluKernelIdeal_finite_glu m →
    θ_run (Cert.GluKernelIdeal.defs (F := Ideal)) (onTc (τ := Cert.GluKernelIdeal.τ) (Cert.GluKernelIdeal.main (F := Ideal))) ⟨m, fun _ => 0, g⟩ (fun r => (∀ c : Dev Cert.GluKernelIdeal.nD,
      r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
      ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
      ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
      ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2)
      ∧ r.2.mem ((c.tc : Thread Cert.GluReferenceIdeal.nD Cert.GluReferenceIdeal.τ).loc Cert.GluReferenceIdeal.main_arg3) = m ((c.tc : Thread Cert.GluReferenceIdeal.nD Cert.GluReferenceIdeal.τ).loc Cert.GluReferenceIdeal.main_arg3))
      ∧ r.2.sem = fun _ => 0)

def quiescent_GluReferenceIdeal_pre_finite_glu [hGluReferenceIdeal : Cert.GluReferenceIdeal.Facts] [hPre_finite_glu : Cert.Pre_finite_glu.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal_finite_glu m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2)
      ∧ r.2.mem ((c.tc : Thread Cert.GluReferenceIdeal.nD Cert.GluReferenceIdeal.τ).loc Cert.GluReferenceIdeal.main_arg3) = m ((c.tc : Thread Cert.GluReferenceIdeal.nD Cert.GluReferenceIdeal.τ).loc Cert.GluReferenceIdeal.main_arg3))
      ∧ r.2.sem = fun _ => 0)

def preserves_AttKernel_AttKernelIdeal : Prop :=
  IdealRules.named_const.Statement Cert.AttKernelIdeal.κ "mask" .f32 0xF149F2CA#32 ⊥

def algebraic_AttKernelIdeal_AttReferenceIdeal_pre_finite [hAttKernelIdeal : Cert.AttKernelIdeal.Facts] [hAttReferenceIdeal : Cert.AttReferenceIdeal.Facts] [hPre_finite : Cert.Pre_finite.Facts] : Prop :=
  ∀ (m : (ℓ : Loc Cert.AttKernelIdeal.nD Cert.AttKernelIdeal.τ Cert.AttKernelIdeal.sig) → Buf (Elt Ideal) ℓ) (g : Dev Cert.AttKernelIdeal.nD → PrngReg)
    (m' : (ℓ : Loc Cert.AttReferenceIdeal.nD Cert.AttReferenceIdeal.τ Cert.AttReferenceIdeal.sig) → Buf (Elt Ideal) ℓ) (g' : Dev Cert.AttReferenceIdeal.nD → PrngReg), Pre_AttKernelIdeal_finite m →
    (∀ c : Dev Cert.AttKernelIdeal.nD,
      m' ((c.tc : Thread Cert.AttReferenceIdeal.nD Cert.AttReferenceIdeal.τ).loc Cert.AttReferenceIdeal.main_arg0) = m ((c.tc : Thread Cert.AttKernelIdeal.nD Cert.AttKernelIdeal.τ).loc Cert.AttKernelIdeal.main_arg0)
      ∧ m' ((c.tc : Thread Cert.AttReferenceIdeal.nD Cert.AttReferenceIdeal.τ).loc Cert.AttReferenceIdeal.main_arg1) = m ((c.tc : Thread Cert.AttKernelIdeal.nD Cert.AttKernelIdeal.τ).loc Cert.AttKernelIdeal.main_arg1)
      ∧ m' ((c.tc : Thread Cert.AttReferenceIdeal.nD Cert.AttReferenceIdeal.τ).loc Cert.AttReferenceIdeal.main_arg2) = m ((c.tc : Thread Cert.AttKernelIdeal.nD Cert.AttKernelIdeal.τ).loc Cert.AttKernelIdeal.main_arg2)
      ∧ m' ((c.tc : Thread Cert.AttReferenceIdeal.nD Cert.AttReferenceIdeal.τ).loc Cert.AttReferenceIdeal.main_arg3) = m ((c.tc : Thread Cert.AttKernelIdeal.nD Cert.AttKernelIdeal.τ).loc Cert.AttKernelIdeal.main_arg3)
      ∧ m' ((c.tc : Thread Cert.AttReferenceIdeal.nD Cert.AttReferenceIdeal.τ).loc Cert.AttReferenceIdeal.main_arg4) = m ((c.tc : Thread Cert.AttKernelIdeal.nD Cert.AttKernelIdeal.τ).loc Cert.AttKernelIdeal.main_arg4)
      ∧ m' ((c.tc : Thread Cert.AttReferenceIdeal.nD Cert.AttReferenceIdeal.τ).loc Cert.AttReferenceIdeal.main_arg5) = m ((c.tc : Thread Cert.AttKernelIdeal.nD Cert.AttKernelIdeal.τ).loc Cert.AttKernelIdeal.main_arg5)
      ∧ m' ((c.tc : Thread Cert.AttReferenceIdeal.nD Cert.AttReferenceIdeal.τ).loc Cert.AttReferenceIdeal.main_arg6) = m ((c.tc : Thread Cert.AttKernelIdeal.nD Cert.AttKernelIdeal.τ).loc Cert.AttKernelIdeal.main_arg6)
      ∧ m' ((c.tc : Thread Cert.AttReferenceIdeal.nD Cert.AttReferenceIdeal.τ).loc Cert.AttReferenceIdeal.main_arg7) = m ((c.tc : Thread Cert.AttKernelIdeal.nD Cert.AttKernelIdeal.τ).loc Cert.AttKernelIdeal.main_arg7)
      ∧ m' ((c.tc : Thread Cert.AttReferenceIdeal.nD Cert.AttReferenceIdeal.τ).loc Cert.AttReferenceIdeal.main_arg8) = m ((c.tc : Thread Cert.AttKernelIdeal.nD Cert.AttKernelIdeal.τ).loc Cert.AttKernelIdeal.main_arg8)) →
    ∃ (v0 : (c : Dev Cert.AttKernelIdeal.nD) → Buf (Elt Ideal) ((c.tc : Thread Cert.AttKernelIdeal.nD Cert.AttKernelIdeal.τ).loc Cert.AttKernelIdeal.main_v192_0)) (v1 : (c : Dev Cert.AttKernelIdeal.nD) → Buf (Elt Ideal) ((c.tc : Thread Cert.AttKernelIdeal.nD Cert.AttKernelIdeal.τ).loc Cert.AttKernelIdeal.main_v192_1)) (v2 : (c : Dev Cert.AttKernelIdeal.nD) → Buf (Elt Ideal) ((c.tc : Thread Cert.AttKernelIdeal.nD Cert.AttKernelIdeal.τ).loc Cert.AttKernelIdeal.main_v192_2)),
      θ_run (Cert.AttKernelIdeal.defs (F := Ideal)) (onTc (τ := Cert.AttKernelIdeal.τ) (Cert.AttKernelIdeal.main (F := Ideal))) ⟨m, fun _ => 0, g⟩ (fun r => ∀ c : Dev Cert.AttKernelIdeal.nD,
          r.2.mem ((c.tc : Thread Cert.AttKernelIdeal.nD Cert.AttKernelIdeal.τ).loc Cert.AttKernelIdeal.main_v192_0) = v0 c
          ∧ r.2.mem ((c.tc : Thread Cert.AttKernelIdeal.nD Cert.AttKernelIdeal.τ).loc Cert.AttKernelIdeal.main_v192_1) = v1 c
          ∧ r.2.mem ((c.tc : Thread Cert.AttKernelIdeal.nD Cert.AttKernelIdeal.τ).loc Cert.AttKernelIdeal.main_v192_2) = v2 c
          ∧ r.2.mem ((c.tc : Thread Cert.AttKernelIdeal.nD Cert.AttKernelIdeal.τ).loc Cert.AttKernelIdeal.main_arg0) = m ((c.tc : Thread Cert.AttKernelIdeal.nD Cert.AttKernelIdeal.τ).loc Cert.AttKernelIdeal.main_arg0)
          ∧ r.2.mem ((c.tc : Thread Cert.AttKernelIdeal.nD Cert.AttKernelIdeal.τ).loc Cert.AttKernelIdeal.main_arg1) = m ((c.tc : Thread Cert.AttKernelIdeal.nD Cert.AttKernelIdeal.τ).loc Cert.AttKernelIdeal.main_arg1)
          ∧ r.2.mem ((c.tc : Thread Cert.AttKernelIdeal.nD Cert.AttKernelIdeal.τ).loc Cert.AttKernelIdeal.main_arg2) = m ((c.tc : Thread Cert.AttKernelIdeal.nD Cert.AttKernelIdeal.τ).loc Cert.AttKernelIdeal.main_arg2)
          ∧ r.2.mem ((c.tc : Thread Cert.AttKernelIdeal.nD Cert.AttKernelIdeal.τ).loc Cert.AttKernelIdeal.main_arg3) = m ((c.tc : Thread Cert.AttKernelIdeal.nD Cert.AttKernelIdeal.τ).loc Cert.AttKernelIdeal.main_arg3)
          ∧ r.2.mem ((c.tc : Thread Cert.AttKernelIdeal.nD Cert.AttKernelIdeal.τ).loc Cert.AttKernelIdeal.main_arg4) = m ((c.tc : Thread Cert.AttKernelIdeal.nD Cert.AttKernelIdeal.τ).loc Cert.AttKernelIdeal.main_arg4)
          ∧ r.2.mem ((c.tc : Thread Cert.AttKernelIdeal.nD Cert.AttKernelIdeal.τ).loc Cert.AttKernelIdeal.main_arg5) = m ((c.tc : Thread Cert.AttKernelIdeal.nD Cert.AttKernelIdeal.τ).loc Cert.AttKernelIdeal.main_arg5)
          ∧ r.2.mem ((c.tc : Thread Cert.AttKernelIdeal.nD Cert.AttKernelIdeal.τ).loc Cert.AttKernelIdeal.main_arg6) = m ((c.tc : Thread Cert.AttKernelIdeal.nD Cert.AttKernelIdeal.τ).loc Cert.AttKernelIdeal.main_arg6)
          ∧ r.2.mem ((c.tc : Thread Cert.AttKernelIdeal.nD Cert.AttKernelIdeal.τ).loc Cert.AttKernelIdeal.main_arg7) = m ((c.tc : Thread Cert.AttKernelIdeal.nD Cert.AttKernelIdeal.τ).loc Cert.AttKernelIdeal.main_arg7)
          ∧ r.2.mem ((c.tc : Thread Cert.AttKernelIdeal.nD Cert.AttKernelIdeal.τ).loc Cert.AttKernelIdeal.main_arg8) = m ((c.tc : Thread Cert.AttKernelIdeal.nD Cert.AttKernelIdeal.τ).loc Cert.AttKernelIdeal.main_arg8))
      ∧ θ_run (Cert.AttReferenceIdeal.defs (F := Ideal)) (onTc (τ := Cert.AttReferenceIdeal.τ) (Cert.AttReferenceIdeal.main (F := Ideal))) ⟨m', fun _ => 0, g'⟩ (fun r => ∀ c : Dev Cert.AttReferenceIdeal.nD,
          r.2.mem ((c.tc : Thread Cert.AttReferenceIdeal.nD Cert.AttReferenceIdeal.τ).loc Cert.AttReferenceIdeal.main_v209) = v0 c
          ∧ r.2.mem ((c.tc : Thread Cert.AttReferenceIdeal.nD Cert.AttReferenceIdeal.τ).loc Cert.AttReferenceIdeal.main_v211) = v1 c
          ∧ r.2.mem ((c.tc : Thread Cert.AttReferenceIdeal.nD Cert.AttReferenceIdeal.τ).loc Cert.AttReferenceIdeal.main_v213) = v2 c
          ∧ r.2.mem ((c.tc : Thread Cert.AttReferenceIdeal.nD Cert.AttReferenceIdeal.τ).loc Cert.AttReferenceIdeal.main_arg0) = m' ((c.tc : Thread Cert.AttReferenceIdeal.nD Cert.AttReferenceIdeal.τ).loc Cert.AttReferenceIdeal.main_arg0)
          ∧ r.2.mem ((c.tc : Thread Cert.AttReferenceIdeal.nD Cert.AttReferenceIdeal.τ).loc Cert.AttReferenceIdeal.main_arg1) = m' ((c.tc : Thread Cert.AttReferenceIdeal.nD Cert.AttReferenceIdeal.τ).loc Cert.AttReferenceIdeal.main_arg1)
          ∧ r.2.mem ((c.tc : Thread Cert.AttReferenceIdeal.nD Cert.AttReferenceIdeal.τ).loc Cert.AttReferenceIdeal.main_arg2) = m' ((c.tc : Thread Cert.AttReferenceIdeal.nD Cert.AttReferenceIdeal.τ).loc Cert.AttReferenceIdeal.main_arg2)
          ∧ r.2.mem ((c.tc : Thread Cert.AttReferenceIdeal.nD Cert.AttReferenceIdeal.τ).loc Cert.AttReferenceIdeal.main_arg3) = m' ((c.tc : Thread Cert.AttReferenceIdeal.nD Cert.AttReferenceIdeal.τ).loc Cert.AttReferenceIdeal.main_arg3)
          ∧ r.2.mem ((c.tc : Thread Cert.AttReferenceIdeal.nD Cert.AttReferenceIdeal.τ).loc Cert.AttReferenceIdeal.main_arg4) = m' ((c.tc : Thread Cert.AttReferenceIdeal.nD Cert.AttReferenceIdeal.τ).loc Cert.AttReferenceIdeal.main_arg4)
          ∧ r.2.mem ((c.tc : Thread Cert.AttReferenceIdeal.nD Cert.AttReferenceIdeal.τ).loc Cert.AttReferenceIdeal.main_arg5) = m' ((c.tc : Thread Cert.AttReferenceIdeal.nD Cert.AttReferenceIdeal.τ).loc Cert.AttReferenceIdeal.main_arg5)
          ∧ r.2.mem ((c.tc : Thread Cert.AttReferenceIdeal.nD Cert.AttReferenceIdeal.τ).loc Cert.AttReferenceIdeal.main_arg6) = m' ((c.tc : Thread Cert.AttReferenceIdeal.nD Cert.AttReferenceIdeal.τ).loc Cert.AttReferenceIdeal.main_arg6)
          ∧ r.2.mem ((c.tc : Thread Cert.AttReferenceIdeal.nD Cert.AttReferenceIdeal.τ).loc Cert.AttReferenceIdeal.main_arg7) = m' ((c.tc : Thread Cert.AttReferenceIdeal.nD Cert.AttReferenceIdeal.τ).loc Cert.AttReferenceIdeal.main_arg7)
          ∧ r.2.mem ((c.tc : Thread Cert.AttReferenceIdeal.nD Cert.AttReferenceIdeal.τ).loc Cert.AttReferenceIdeal.main_arg8) = m' ((c.tc : Thread Cert.AttReferenceIdeal.nD Cert.AttReferenceIdeal.τ).loc Cert.AttReferenceIdeal.main_arg8))

def preserves_WeightKernel_WeightKernelIdeal : Prop :=
  True

def algebraic_WeightKernelIdeal_WeightReferenceIdeal [hWeightKernelIdeal : Cert.WeightKernelIdeal.Facts] [hWeightReferenceIdeal : Cert.WeightReferenceIdeal.Facts] : Prop :=
  ∀ (m : (ℓ : Loc Cert.WeightKernelIdeal.nD Cert.WeightKernelIdeal.τ Cert.WeightKernelIdeal.sig) → Buf (Elt Ideal) ℓ) (g : Dev Cert.WeightKernelIdeal.nD → PrngReg)
    (m' : (ℓ : Loc Cert.WeightReferenceIdeal.nD Cert.WeightReferenceIdeal.τ Cert.WeightReferenceIdeal.sig) → Buf (Elt Ideal) ℓ) (g' : Dev Cert.WeightReferenceIdeal.nD → PrngReg), Pre_WeightKernelIdeal m →
    (∀ c : Dev Cert.WeightKernelIdeal.nD,
      m' ((c.tc : Thread Cert.WeightReferenceIdeal.nD Cert.WeightReferenceIdeal.τ).loc Cert.WeightReferenceIdeal.main_arg0) = m ((c.tc : Thread Cert.WeightKernelIdeal.nD Cert.WeightKernelIdeal.τ).loc Cert.WeightKernelIdeal.main_arg0)
      ∧ m' ((c.tc : Thread Cert.WeightReferenceIdeal.nD Cert.WeightReferenceIdeal.τ).loc Cert.WeightReferenceIdeal.main_arg1) = m ((c.tc : Thread Cert.WeightKernelIdeal.nD Cert.WeightKernelIdeal.τ).loc Cert.WeightKernelIdeal.main_arg1)) →
    ∃ (v0 : (c : Dev Cert.WeightKernelIdeal.nD) → Buf (Elt Ideal) ((c.tc : Thread Cert.WeightKernelIdeal.nD Cert.WeightKernelIdeal.τ).loc Cert.WeightKernelIdeal.main_v0)),
      θ_run (Cert.WeightKernelIdeal.defs (F := Ideal)) (onTc (τ := Cert.WeightKernelIdeal.τ) (Cert.WeightKernelIdeal.main (F := Ideal))) ⟨m, fun _ => 0, g⟩ (fun r => ∀ c : Dev Cert.WeightKernelIdeal.nD,
          r.2.mem ((c.tc : Thread Cert.WeightKernelIdeal.nD Cert.WeightKernelIdeal.τ).loc Cert.WeightKernelIdeal.main_v0) = v0 c
          ∧ r.2.mem ((c.tc : Thread Cert.WeightKernelIdeal.nD Cert.WeightKernelIdeal.τ).loc Cert.WeightKernelIdeal.main_arg0) = m ((c.tc : Thread Cert.WeightKernelIdeal.nD Cert.WeightKernelIdeal.τ).loc Cert.WeightKernelIdeal.main_arg0)
          ∧ r.2.mem ((c.tc : Thread Cert.WeightKernelIdeal.nD Cert.WeightKernelIdeal.τ).loc Cert.WeightKernelIdeal.main_arg1) = m ((c.tc : Thread Cert.WeightKernelIdeal.nD Cert.WeightKernelIdeal.τ).loc Cert.WeightKernelIdeal.main_arg1))
      ∧ θ_run (Cert.WeightReferenceIdeal.defs (F := Ideal)) (onTc (τ := Cert.WeightReferenceIdeal.τ) (Cert.WeightReferenceIdeal.main (F := Ideal))) ⟨m', fun _ => 0, g'⟩ (fun r => ∀ c : Dev Cert.WeightReferenceIdeal.nD,
          r.2.mem ((c.tc : Thread Cert.WeightReferenceIdeal.nD Cert.WeightReferenceIdeal.τ).loc Cert.WeightReferenceIdeal.main_v6) = v0 c
          ∧ r.2.mem ((c.tc : Thread Cert.WeightReferenceIdeal.nD Cert.WeightReferenceIdeal.τ).loc Cert.WeightReferenceIdeal.main_arg0) = m' ((c.tc : Thread Cert.WeightReferenceIdeal.nD Cert.WeightReferenceIdeal.τ).loc Cert.WeightReferenceIdeal.main_arg0)
          ∧ r.2.mem ((c.tc : Thread Cert.WeightReferenceIdeal.nD Cert.WeightReferenceIdeal.τ).loc Cert.WeightReferenceIdeal.main_arg1) = m' ((c.tc : Thread Cert.WeightReferenceIdeal.nD Cert.WeightReferenceIdeal.τ).loc Cert.WeightReferenceIdeal.main_arg1))

def preserves_SwigluKernel_SwigluKernelIdeal : Prop :=
  True

def algebraic_SwigluKernelIdeal_SwigluReferenceIdeal [hSwigluKernelIdeal : Cert.SwigluKernelIdeal.Facts] [hSwigluReferenceIdeal : Cert.SwigluReferenceIdeal.Facts] : Prop :=
  ∀ (m : (ℓ : Loc Cert.SwigluKernelIdeal.nD Cert.SwigluKernelIdeal.τ Cert.SwigluKernelIdeal.sig) → Buf (Elt Ideal) ℓ) (g : Dev Cert.SwigluKernelIdeal.nD → PrngReg)
    (m' : (ℓ : Loc Cert.SwigluReferenceIdeal.nD Cert.SwigluReferenceIdeal.τ Cert.SwigluReferenceIdeal.sig) → Buf (Elt Ideal) ℓ) (g' : Dev Cert.SwigluReferenceIdeal.nD → PrngReg), Pre_SwigluKernelIdeal m →
    (∀ c : Dev Cert.SwigluKernelIdeal.nD,
      m' ((c.tc : Thread Cert.SwigluReferenceIdeal.nD Cert.SwigluReferenceIdeal.τ).loc Cert.SwigluReferenceIdeal.main_arg0) = m ((c.tc : Thread Cert.SwigluKernelIdeal.nD Cert.SwigluKernelIdeal.τ).loc Cert.SwigluKernelIdeal.main_arg0)
      ∧ m' ((c.tc : Thread Cert.SwigluReferenceIdeal.nD Cert.SwigluReferenceIdeal.τ).loc Cert.SwigluReferenceIdeal.main_arg1) = m ((c.tc : Thread Cert.SwigluKernelIdeal.nD Cert.SwigluKernelIdeal.τ).loc Cert.SwigluKernelIdeal.main_arg1)) →
    ∃ (v0 : (c : Dev Cert.SwigluKernelIdeal.nD) → Buf (Elt Ideal) ((c.tc : Thread Cert.SwigluKernelIdeal.nD Cert.SwigluKernelIdeal.τ).loc Cert.SwigluKernelIdeal.main_v0_0)) (v1 : (c : Dev Cert.SwigluKernelIdeal.nD) → Buf (Elt Ideal) ((c.tc : Thread Cert.SwigluKernelIdeal.nD Cert.SwigluKernelIdeal.τ).loc Cert.SwigluKernelIdeal.main_v0_1)) (v2 : (c : Dev Cert.SwigluKernelIdeal.nD) → Buf (Elt Ideal) ((c.tc : Thread Cert.SwigluKernelIdeal.nD Cert.SwigluKernelIdeal.τ).loc Cert.SwigluKernelIdeal.main_v0_2)),
      θ_run (Cert.SwigluKernelIdeal.defs (F := Ideal)) (onTc (τ := Cert.SwigluKernelIdeal.τ) (Cert.SwigluKernelIdeal.main (F := Ideal))) ⟨m, fun _ => 0, g⟩ (fun r => ∀ c : Dev Cert.SwigluKernelIdeal.nD,
          r.2.mem ((c.tc : Thread Cert.SwigluKernelIdeal.nD Cert.SwigluKernelIdeal.τ).loc Cert.SwigluKernelIdeal.main_v0_0) = v0 c
          ∧ r.2.mem ((c.tc : Thread Cert.SwigluKernelIdeal.nD Cert.SwigluKernelIdeal.τ).loc Cert.SwigluKernelIdeal.main_v0_1) = v1 c
          ∧ r.2.mem ((c.tc : Thread Cert.SwigluKernelIdeal.nD Cert.SwigluKernelIdeal.τ).loc Cert.SwigluKernelIdeal.main_v0_2) = v2 c
          ∧ r.2.mem ((c.tc : Thread Cert.SwigluKernelIdeal.nD Cert.SwigluKernelIdeal.τ).loc Cert.SwigluKernelIdeal.main_arg0) = m ((c.tc : Thread Cert.SwigluKernelIdeal.nD Cert.SwigluKernelIdeal.τ).loc Cert.SwigluKernelIdeal.main_arg0)
          ∧ r.2.mem ((c.tc : Thread Cert.SwigluKernelIdeal.nD Cert.SwigluKernelIdeal.τ).loc Cert.SwigluKernelIdeal.main_arg1) = m ((c.tc : Thread Cert.SwigluKernelIdeal.nD Cert.SwigluKernelIdeal.τ).loc Cert.SwigluKernelIdeal.main_arg1))
      ∧ θ_run (Cert.SwigluReferenceIdeal.defs (F := Ideal)) (onTc (τ := Cert.SwigluReferenceIdeal.τ) (Cert.SwigluReferenceIdeal.main (F := Ideal))) ⟨m', fun _ => 0, g'⟩ (fun r => ∀ c : Dev Cert.SwigluReferenceIdeal.nD,
          r.2.mem ((c.tc : Thread Cert.SwigluReferenceIdeal.nD Cert.SwigluReferenceIdeal.τ).loc Cert.SwigluReferenceIdeal.main_v6) = v0 c
          ∧ r.2.mem ((c.tc : Thread Cert.SwigluReferenceIdeal.nD Cert.SwigluReferenceIdeal.τ).loc Cert.SwigluReferenceIdeal.main_v7) = v1 c
          ∧ r.2.mem ((c.tc : Thread Cert.SwigluReferenceIdeal.nD Cert.SwigluReferenceIdeal.τ).loc Cert.SwigluReferenceIdeal.main_v10) = v2 c
          ∧ r.2.mem ((c.tc : Thread Cert.SwigluReferenceIdeal.nD Cert.SwigluReferenceIdeal.τ).loc Cert.SwigluReferenceIdeal.main_arg0) = m' ((c.tc : Thread Cert.SwigluReferenceIdeal.nD Cert.SwigluReferenceIdeal.τ).loc Cert.SwigluReferenceIdeal.main_arg0)
          ∧ r.2.mem ((c.tc : Thread Cert.SwigluReferenceIdeal.nD Cert.SwigluReferenceIdeal.τ).loc Cert.SwigluReferenceIdeal.main_arg1) = m' ((c.tc : Thread Cert.SwigluReferenceIdeal.nD Cert.SwigluReferenceIdeal.τ).loc Cert.SwigluReferenceIdeal.main_arg1))

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)) →
    ∃ (v0 : (c : Dev Cert.GateKernelIdeal.nD) → Buf (Elt Ideal) ((c.tc : Thread Cert.GateKernelIdeal.nD Cert.GateKernelIdeal.τ).loc Cert.GateKernelIdeal.main_v0)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v0) = v0 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v4) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1))

def preserves_QkvKernel_QkvKernelIdeal : Prop :=
  True

def algebraic_QkvKernelIdeal_QkvReferenceIdeal [hQkvKernelIdeal : Cert.QkvKernelIdeal.Facts] [hQkvReferenceIdeal : Cert.QkvReferenceIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvKernelIdeal m →
    (∀ c : Dev Cert.QkvKernelIdeal.nD,
      m' ((c.tc : Thread Cert.QkvReferenceIdeal.nD Cert.QkvReferenceIdeal.τ).loc Cert.QkvReferenceIdeal.main_arg0) = m ((c.tc : Thread Cert.QkvKernelIdeal.nD Cert.QkvKernelIdeal.τ).loc Cert.QkvKernelIdeal.main_arg0)
      ∧ m' ((c.tc : Thread Cert.QkvReferenceIdeal.nD Cert.QkvReferenceIdeal.τ).loc Cert.QkvReferenceIdeal.main_arg1) = m ((c.tc : Thread Cert.QkvKernelIdeal.nD Cert.QkvKernelIdeal.τ).loc Cert.QkvKernelIdeal.main_arg1)) →
    ∃ (v0 : (c : Dev Cert.QkvKernelIdeal.nD) → Buf (Elt Ideal) ((c.tc : Thread Cert.QkvKernelIdeal.nD Cert.QkvKernelIdeal.τ).loc Cert.QkvKernelIdeal.main_v0)),
      θ_run (Cert.QkvKernelIdeal.defs (F := Ideal)) (onTc (τ := Cert.QkvKernelIdeal.τ) (Cert.QkvKernelIdeal.main (F := Ideal))) ⟨m, fun _ => 0, g⟩ (fun r => ∀ c : Dev Cert.QkvKernelIdeal.nD,
          r.2.mem ((c.tc : Thread Cert.QkvKernelIdeal.nD Cert.QkvKernelIdeal.τ).loc Cert.QkvKernelIdeal.main_v0) = v0 c
          ∧ r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
          ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v4) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1))

def preserves_ConvKernel_ConvKernelIdeal : Prop :=
  True

def algebraic_ConvKernelIdeal_ConvReferenceIdeal [hConvKernelIdeal : Cert.ConvKernelIdeal.Facts] [hConvReferenceIdeal : Cert.ConvReferenceIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)) →
    ∃ (v0 : (c : Dev Cert.ConvKernelIdeal.nD) → Buf (Elt Ideal) ((c.tc : Thread Cert.ConvKernelIdeal.nD Cert.ConvKernelIdeal.τ).loc Cert.ConvKernelIdeal.main_v0)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v0) = v0 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v4) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1))

def preserves_GateGradKernel_GateGradKernelIdeal : Prop :=
  True

def algebraic_GateGradKernelIdeal_GateGradReferenceIdeal [hGateGradKernelIdeal : Cert.GateGradKernelIdeal.Facts] [hGateGradReferenceIdeal : Cert.GateGradReferenceIdeal.Facts] : Prop :=
  ∀ (m : (ℓ : Loc Cert.GateGradKernelIdeal.nD Cert.GateGradKernelIdeal.τ Cert.GateGradKernelIdeal.sig) → Buf (Elt Ideal) ℓ) (g : Dev Cert.GateGradKernelIdeal.nD → PrngReg)
    (m' : (ℓ : Loc Cert.GateGradReferenceIdeal.nD Cert.GateGradReferenceIdeal.τ Cert.GateGradReferenceIdeal.sig) → Buf (Elt Ideal) ℓ) (g' : Dev Cert.GateGradReferenceIdeal.nD → PrngReg), Pre_GateGradKernelIdeal m →
    (∀ c : Dev Cert.GateGradKernelIdeal.nD,
      m' ((c.tc : Thread Cert.GateGradReferenceIdeal.nD Cert.GateGradReferenceIdeal.τ).loc Cert.GateGradReferenceIdeal.main_arg0) = m ((c.tc : Thread Cert.GateGradKernelIdeal.nD Cert.GateGradKernelIdeal.τ).loc Cert.GateGradKernelIdeal.main_arg0)
      ∧ m' ((c.tc : Thread Cert.GateGradReferenceIdeal.nD Cert.GateGradReferenceIdeal.τ).loc Cert.GateGradReferenceIdeal.main_arg1) = m ((c.tc : Thread Cert.GateGradKernelIdeal.nD Cert.GateGradKernelIdeal.τ).loc Cert.GateGradKernelIdeal.main_arg1)) →
    ∃ (v0 : (c : Dev Cert.GateGradKernelIdeal.nD) → Buf (Elt Ideal) ((c.tc : Thread Cert.GateGradKernelIdeal.nD Cert.GateGradKernelIdeal.τ).loc Cert.GateGradKernelIdeal.main_v0)),
      θ_run (Cert.GateGradKernelIdeal.defs (F := Ideal)) (onTc (τ := Cert.GateGradKernelIdeal.τ) (Cert.GateGradKernelIdeal.main (F := Ideal))) ⟨m, fun _ => 0, g⟩ (fun r => ∀ c : Dev Cert.GateGradKernelIdeal.nD,
          r.2.mem ((c.tc : Thread Cert.GateGradKernelIdeal.nD Cert.GateGradKernelIdeal.τ).loc Cert.GateGradKernelIdeal.main_v0) = v0 c
          ∧ r.2.mem ((c.tc : Thread Cert.GateGradKernelIdeal.nD Cert.GateGradKernelIdeal.τ).loc Cert.GateGradKernelIdeal.main_arg0) = m ((c.tc : Thread Cert.GateGradKernelIdeal.nD Cert.GateGradKernelIdeal.τ).loc Cert.GateGradKernelIdeal.main_arg0)
          ∧ r.2.mem ((c.tc : Thread Cert.GateGradKernelIdeal.nD Cert.GateGradKernelIdeal.τ).loc Cert.GateGradKernelIdeal.main_arg1) = m ((c.tc : Thread Cert.GateGradKernelIdeal.nD Cert.GateGradKernelIdeal.τ).loc Cert.GateGradKernelIdeal.main_arg1))
      ∧ θ_run (Cert.GateGradReferenceIdeal.defs (F := Ideal)) (onTc (τ := Cert.GateGradReferenceIdeal.τ) (Cert.GateGradReferenceIdeal.main (F := Ideal))) ⟨m', fun _ => 0, g'⟩ (fun r => ∀ c : Dev Cert.GateGradReferenceIdeal.nD,
          r.2.mem ((c.tc : Thread Cert.GateGradReferenceIdeal.nD Cert.GateGradReferenceIdeal.τ).loc Cert.GateGradReferenceIdeal.main_v8) = v0 c
          ∧ r.2.mem ((c.tc : Thread Cert.GateGradReferenceIdeal.nD Cert.GateGradReferenceIdeal.τ).loc Cert.GateGradReferenceIdeal.main_arg0) = m' ((c.tc : Thread Cert.GateGradReferenceIdeal.nD Cert.GateGradReferenceIdeal.τ).loc Cert.GateGradReferenceIdeal.main_arg0)
          ∧ r.2.mem ((c.tc : Thread Cert.GateGradReferenceIdeal.nD Cert.GateGradReferenceIdeal.τ).loc Cert.GateGradReferenceIdeal.main_arg1) = m' ((c.tc : Thread Cert.GateGradReferenceIdeal.nD Cert.GateGradReferenceIdeal.τ).loc Cert.GateGradReferenceIdeal.main_arg1))

def preserves_QkvGradKernel_QkvGradKernelIdeal : Prop :=
  True

def algebraic_QkvGradKernelIdeal_QkvGradReferenceIdeal [hQkvGradKernelIdeal : Cert.QkvGradKernelIdeal.Facts] [hQkvGradReferenceIdeal : Cert.QkvGradReferenceIdeal.Facts] : Prop :=
  ∀ (m : (ℓ : Loc Cert.QkvGradKernelIdeal.nD Cert.QkvGradKernelIdeal.τ Cert.QkvGradKernelIdeal.sig) → Buf (Elt Ideal) ℓ) (g : Dev Cert.QkvGradKernelIdeal.nD → PrngReg)
    (m' : (ℓ : Loc Cert.QkvGradReferenceIdeal.nD Cert.QkvGradReferenceIdeal.τ Cert.QkvGradReferenceIdeal.sig) → Buf (Elt Ideal) ℓ) (g' : Dev Cert.QkvGradReferenceIdeal.nD → PrngReg), Pre_QkvGradKernelIdeal m →
    (∀ c : Dev Cert.QkvGradKernelIdeal.nD,
      m' ((c.tc : Thread Cert.QkvGradReferenceIdeal.nD Cert.QkvGradReferenceIdeal.τ).loc Cert.QkvGradReferenceIdeal.main_arg0) = m ((c.tc : Thread Cert.QkvGradKernelIdeal.nD Cert.QkvGradKernelIdeal.τ).loc Cert.QkvGradKernelIdeal.main_arg0)
      ∧ m' ((c.tc : Thread Cert.QkvGradReferenceIdeal.nD Cert.QkvGradReferenceIdeal.τ).loc Cert.QkvGradReferenceIdeal.main_arg1) = m ((c.tc : Thread Cert.QkvGradKernelIdeal.nD Cert.QkvGradKernelIdeal.τ).loc Cert.QkvGradKernelIdeal.main_arg1)) →
    ∃ (v0 : (c : Dev Cert.QkvGradKernelIdeal.nD) → Buf (Elt Ideal) ((c.tc : Thread Cert.QkvGradKernelIdeal.nD Cert.QkvGradKernelIdeal.τ).loc Cert.QkvGradKernelIdeal.main_v0)),
      θ_run (Cert.QkvGradKernelIdeal.defs (F := Ideal)) (onTc (τ := Cert.QkvGradKernelIdeal.τ) (Cert.QkvGradKernelIdeal.main (F := Ideal))) ⟨m, fun _ => 0, g⟩ (fun r => ∀ c : Dev Cert.QkvGradKernelIdeal.nD,
          r.2.mem ((c.tc : Thread Cert.QkvGradKernelIdeal.nD Cert.QkvGradKernelIdeal.τ).loc Cert.QkvGradKernelIdeal.main_v0) = v0 c
          ∧ r.2.mem ((c.tc : Thread Cert.QkvGradKernelIdeal.nD Cert.QkvGradKernelIdeal.τ).loc Cert.QkvGradKernelIdeal.main_arg0) = m ((c.tc : Thread Cert.QkvGradKernelIdeal.nD Cert.QkvGradKernelIdeal.τ).loc Cert.QkvGradKernelIdeal.main_arg0)
          ∧ r.2.mem ((c.tc : Thread Cert.QkvGradKernelIdeal.nD Cert.QkvGradKernelIdeal.τ).loc Cert.QkvGradKernelIdeal.main_arg1) = m ((c.tc : Thread Cert.QkvGradKernelIdeal.nD Cert.QkvGradKernelIdeal.τ).loc Cert.QkvGradKernelIdeal.main_arg1))
      ∧ θ_run (Cert.QkvGradReferenceIdeal.defs (F := Ideal)) (onTc (τ := Cert.QkvGradReferenceIdeal.τ) (Cert.QkvGradReferenceIdeal.main (F := Ideal))) ⟨m', fun _ => 0, g'⟩ (fun r => ∀ c : Dev Cert.QkvGradReferenceIdeal.nD,
          r.2.mem ((c.tc : Thread Cert.QkvGradReferenceIdeal.nD Cert.QkvGradReferenceIdeal.τ).loc Cert.QkvGradReferenceIdeal.main_v8) = v0 c
          ∧ r.2.mem ((c.tc : Thread Cert.QkvGradReferenceIdeal.nD Cert.QkvGradReferenceIdeal.τ).loc Cert.QkvGradReferenceIdeal.main_arg0) = m' ((c.tc : Thread Cert.QkvGradReferenceIdeal.nD Cert.QkvGradReferenceIdeal.τ).loc Cert.QkvGradReferenceIdeal.main_arg0)
          ∧ r.2.mem ((c.tc : Thread Cert.QkvGradReferenceIdeal.nD Cert.QkvGradReferenceIdeal.τ).loc Cert.QkvGradReferenceIdeal.main_arg1) = m' ((c.tc : Thread Cert.QkvGradReferenceIdeal.nD Cert.QkvGradReferenceIdeal.τ).loc Cert.QkvGradReferenceIdeal.main_arg1))

def preserves_ConvGradKernel_ConvGradKernelIdeal : Prop :=
  True

def algebraic_ConvGradKernelIdeal_ConvGradReferenceIdeal [hConvGradKernelIdeal : Cert.ConvGradKernelIdeal.Facts] [hConvGradReferenceIdeal : Cert.ConvGradReferenceIdeal.Facts] : Prop :=
  ∀ (m : (ℓ : Loc Cert.ConvGradKernelIdeal.nD Cert.ConvGradKernelIdeal.τ Cert.ConvGradKernelIdeal.sig) → Buf (Elt Ideal) ℓ) (g : Dev Cert.ConvGradKernelIdeal.nD → PrngReg)
    (m' : (ℓ : Loc Cert.ConvGradReferenceIdeal.nD Cert.ConvGradReferenceIdeal.τ Cert.ConvGradReferenceIdeal.sig) → Buf (Elt Ideal) ℓ) (g' : Dev Cert.ConvGradReferenceIdeal.nD → PrngReg), Pre_ConvGradKernelIdeal m →
    (∀ c : Dev Cert.ConvGradKernelIdeal.nD,
      m' ((c.tc : Thread Cert.ConvGradReferenceIdeal.nD Cert.ConvGradReferenceIdeal.τ).loc Cert.ConvGradReferenceIdeal.main_arg0) = m ((c.tc : Thread Cert.ConvGradKernelIdeal.nD Cert.ConvGradKernelIdeal.τ).loc Cert.ConvGradKernelIdeal.main_arg0)
      ∧ m' ((c.tc : Thread Cert.ConvGradReferenceIdeal.nD Cert.ConvGradReferenceIdeal.τ).loc Cert.ConvGradReferenceIdeal.main_arg1) = m ((c.tc : Thread Cert.ConvGradKernelIdeal.nD Cert.ConvGradKernelIdeal.τ).loc Cert.ConvGradKernelIdeal.main_arg1)) →
    ∃ (v0 : (c : Dev Cert.ConvGradKernelIdeal.nD) → Buf (Elt Ideal) ((c.tc : Thread Cert.ConvGradKernelIdeal.nD Cert.ConvGradKernelIdeal.τ).loc Cert.ConvGradKernelIdeal.main_v0)),
      θ_run (Cert.ConvGradKernelIdeal.defs (F := Ideal)) (onTc (τ := Cert.ConvGradKernelIdeal.τ) (Cert.ConvGradKernelIdeal.main (F := Ideal))) ⟨m, fun _ => 0, g⟩ (fun r => ∀ c : Dev Cert.ConvGradKernelIdeal.nD,
          r.2.mem ((c.tc : Thread Cert.ConvGradKernelIdeal.nD Cert.ConvGradKernelIdeal.τ).loc Cert.ConvGradKernelIdeal.main_v0) = v0 c
          ∧ r.2.mem ((c.tc : Thread Cert.ConvGradKernelIdeal.nD Cert.ConvGradKernelIdeal.τ).loc Cert.ConvGradKernelIdeal.main_arg0) = m ((c.tc : Thread Cert.ConvGradKernelIdeal.nD Cert.ConvGradKernelIdeal.τ).loc Cert.ConvGradKernelIdeal.main_arg0)
          ∧ r.2.mem ((c.tc : Thread Cert.ConvGradKernelIdeal.nD Cert.ConvGradKernelIdeal.τ).loc Cert.ConvGradKernelIdeal.main_arg1) = m ((c.tc : Thread Cert.ConvGradKernelIdeal.nD Cert.ConvGradKernelIdeal.τ).loc Cert.ConvGradKernelIdeal.main_arg1))
      ∧ θ_run (Cert.ConvGradReferenceIdeal.defs (F := Ideal)) (onTc (τ := Cert.ConvGradReferenceIdeal.τ) (Cert.ConvGradReferenceIdeal.main (F := Ideal))) ⟨m', fun _ => 0, g'⟩ (fun r => ∀ c : Dev Cert.ConvGradReferenceIdeal.nD,
          r.2.mem ((c.tc : Thread Cert.ConvGradReferenceIdeal.nD Cert.ConvGradReferenceIdeal.τ).loc Cert.ConvGradReferenceIdeal.main_v8) = v0 c
          ∧ r.2.mem ((c.tc : Thread Cert.ConvGradReferenceIdeal.nD Cert.ConvGradReferenceIdeal.τ).loc Cert.ConvGradReferenceIdeal.main_arg0) = m' ((c.tc : Thread Cert.ConvGradReferenceIdeal.nD Cert.ConvGradReferenceIdeal.τ).loc Cert.ConvGradReferenceIdeal.main_arg0)
          ∧ r.2.mem ((c.tc : Thread Cert.ConvGradReferenceIdeal.nD Cert.ConvGradReferenceIdeal.τ).loc Cert.ConvGradReferenceIdeal.main_arg1) = m' ((c.tc : Thread Cert.ConvGradReferenceIdeal.nD Cert.ConvGradReferenceIdeal.τ).loc Cert.ConvGradReferenceIdeal.main_arg1))

def preserves_InputKernel_InputKernelIdeal : Prop :=
  True

def algebraic_InputKernelIdeal_InputReferenceIdeal [hInputKernelIdeal : Cert.InputKernelIdeal.Facts] [hInputReferenceIdeal : Cert.InputReferenceIdeal.Facts] : Prop :=
  ∀ (m : (ℓ : Loc Cert.InputKernelIdeal.nD Cert.InputKernelIdeal.τ Cert.InputKernelIdeal.sig) → Buf (Elt Ideal) ℓ) (g : Dev Cert.InputKernelIdeal.nD → PrngReg)
    (m' : (ℓ : Loc Cert.InputReferenceIdeal.nD Cert.InputReferenceIdeal.τ Cert.InputReferenceIdeal.sig) → Buf (Elt Ideal) ℓ) (g' : Dev Cert.InputReferenceIdeal.nD → PrngReg), Pre_InputKernelIdeal m →
    (∀ c : Dev Cert.InputKernelIdeal.nD,
      m' ((c.tc : Thread Cert.InputReferenceIdeal.nD Cert.InputReferenceIdeal.τ).loc Cert.InputReferenceIdeal.main_arg0) = m ((c.tc : Thread Cert.InputKernelIdeal.nD Cert.InputKernelIdeal.τ).loc Cert.InputKernelIdeal.main_arg0)
      ∧ m' ((c.tc : Thread Cert.InputReferenceIdeal.nD Cert.InputReferenceIdeal.τ).loc Cert.InputReferenceIdeal.main_arg1) = m ((c.tc : Thread Cert.InputKernelIdeal.nD Cert.InputKernelIdeal.τ).loc Cert.InputKernelIdeal.main_arg1)
      ∧ m' ((c.tc : Thread Cert.InputReferenceIdeal.nD Cert.InputReferenceIdeal.τ).loc Cert.InputReferenceIdeal.main_arg2) = m ((c.tc : Thread Cert.InputKernelIdeal.nD Cert.InputKernelIdeal.τ).loc Cert.InputKernelIdeal.main_arg2)) →
    ∃ (v0 : (c : Dev Cert.InputKernelIdeal.nD) → Buf (Elt Ideal) ((c.tc : Thread Cert.InputKernelIdeal.nD Cert.InputKernelIdeal.τ).loc Cert.InputKernelIdeal.main_v2)),
      θ_run (Cert.InputKernelIdeal.defs (F := Ideal)) (onTc (τ := Cert.InputKernelIdeal.τ) (Cert.InputKernelIdeal.main (F := Ideal))) ⟨m, fun _ => 0, g⟩ (fun r => ∀ c : Dev Cert.InputKernelIdeal.nD,
          r.2.mem ((c.tc : Thread Cert.InputKernelIdeal.nD Cert.InputKernelIdeal.τ).loc Cert.InputKernelIdeal.main_v2) = v0 c
          ∧ r.2.mem ((c.tc : Thread Cert.InputKernelIdeal.nD Cert.InputKernelIdeal.τ).loc Cert.InputKernelIdeal.main_arg0) = m ((c.tc : Thread Cert.InputKernelIdeal.nD Cert.InputKernelIdeal.τ).loc Cert.InputKernelIdeal.main_arg0)
          ∧ r.2.mem ((c.tc : Thread Cert.InputKernelIdeal.nD Cert.InputKernelIdeal.τ).loc Cert.InputKernelIdeal.main_arg1) = m ((c.tc : Thread Cert.InputKernelIdeal.nD Cert.InputKernelIdeal.τ).loc Cert.InputKernelIdeal.main_arg1)
          ∧ r.2.mem ((c.tc : Thread Cert.InputKernelIdeal.nD Cert.InputKernelIdeal.τ).loc Cert.InputKernelIdeal.main_arg2) = m ((c.tc : Thread Cert.InputKernelIdeal.nD Cert.InputKernelIdeal.τ).loc Cert.InputKernelIdeal.main_arg2))
      ∧ θ_run (Cert.InputReferenceIdeal.defs (F := Ideal)) (onTc (τ := Cert.InputReferenceIdeal.τ) (Cert.InputReferenceIdeal.main (F := Ideal))) ⟨m', fun _ => 0, g'⟩ (fun r => ∀ c : Dev Cert.InputReferenceIdeal.nD,
          r.2.mem ((c.tc : Thread Cert.InputReferenceIdeal.nD Cert.InputReferenceIdeal.τ).loc Cert.InputReferenceIdeal.main_v10) = v0 c
          ∧ r.2.mem ((c.tc : Thread Cert.InputReferenceIdeal.nD Cert.InputReferenceIdeal.τ).loc Cert.InputReferenceIdeal.main_arg0) = m' ((c.tc : Thread Cert.InputReferenceIdeal.nD Cert.InputReferenceIdeal.τ).loc Cert.InputReferenceIdeal.main_arg0)
          ∧ r.2.mem ((c.tc : Thread Cert.InputReferenceIdeal.nD Cert.InputReferenceIdeal.τ).loc Cert.InputReferenceIdeal.main_arg1) = m' ((c.tc : Thread Cert.InputReferenceIdeal.nD Cert.InputReferenceIdeal.τ).loc Cert.InputReferenceIdeal.main_arg1)
          ∧ r.2.mem ((c.tc : Thread Cert.InputReferenceIdeal.nD Cert.InputReferenceIdeal.τ).loc Cert.InputReferenceIdeal.main_arg2) = m' ((c.tc : Thread Cert.InputReferenceIdeal.nD Cert.InputReferenceIdeal.τ).loc Cert.InputReferenceIdeal.main_arg2))

def preserves_LastKernel_LastKernelIdeal : Prop :=
  True

def algebraic_LastKernelIdeal_LastReferenceIdeal [hLastKernelIdeal : Cert.LastKernelIdeal.Facts] [hLastReferenceIdeal : Cert.LastReferenceIdeal.Facts] : Prop :=
  ∀ (m : (ℓ : Loc Cert.LastKernelIdeal.nD Cert.LastKernelIdeal.τ Cert.LastKernelIdeal.sig) → Buf (Elt Ideal) ℓ) (g : Dev Cert.LastKernelIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastKernelIdeal m →
    (∀ c : Dev Cert.LastKernelIdeal.nD,
      m' ((c.tc : Thread Cert.LastReferenceIdeal.nD Cert.LastReferenceIdeal.τ).loc Cert.LastReferenceIdeal.main_arg0) = m ((c.tc : Thread Cert.LastKernelIdeal.nD Cert.LastKernelIdeal.τ).loc Cert.LastKernelIdeal.main_arg0)
      ∧ m' ((c.tc : Thread Cert.LastReferenceIdeal.nD Cert.LastReferenceIdeal.τ).loc Cert.LastReferenceIdeal.main_arg1) = m ((c.tc : Thread Cert.LastKernelIdeal.nD Cert.LastKernelIdeal.τ).loc Cert.LastKernelIdeal.main_arg1)
      ∧ m' ((c.tc : Thread Cert.LastReferenceIdeal.nD Cert.LastReferenceIdeal.τ).loc Cert.LastReferenceIdeal.main_arg2) = m ((c.tc : Thread Cert.LastKernelIdeal.nD Cert.LastKernelIdeal.τ).loc Cert.LastKernelIdeal.main_arg2)
      ∧ m' ((c.tc : Thread Cert.LastReferenceIdeal.nD Cert.LastReferenceIdeal.τ).loc Cert.LastReferenceIdeal.main_arg3) = m ((c.tc : Thread Cert.LastKernelIdeal.nD Cert.LastKernelIdeal.τ).loc Cert.LastKernelIdeal.main_arg3)) →
    ∃ (v0 : (c : Dev Cert.LastKernelIdeal.nD) → Buf (Elt Ideal) ((c.tc : Thread Cert.LastKernelIdeal.nD Cert.LastKernelIdeal.τ).loc Cert.LastKernelIdeal.main_v1_0)) (v1 : (c : Dev Cert.LastKernelIdeal.nD) → Buf (Elt Ideal) ((c.tc : Thread Cert.LastKernelIdeal.nD Cert.LastKernelIdeal.τ).loc Cert.LastKernelIdeal.main_v1_1)),
      θ_run (Cert.LastKernelIdeal.defs (F := Ideal)) (onTc (τ := Cert.LastKernelIdeal.τ) (Cert.LastKernelIdeal.main (F := Ideal))) ⟨m, fun _ => 0, g⟩ (fun r => ∀ c : Dev Cert.LastKernelIdeal.nD,
          r.2.mem ((c.tc : Thread Cert.LastKernelIdeal.nD Cert.LastKernelIdeal.τ).loc Cert.LastKernelIdeal.main_v1_0) = v0 c
          ∧ r.2.mem ((c.tc : Thread Cert.LastKernelIdeal.nD Cert.LastKernelIdeal.τ).loc Cert.LastKernelIdeal.main_v1_1) = v1 c
          ∧ r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
          ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1)
          ∧ r.2.mem ((c.tc : Thread Cert.LastKernelIdeal.nD Cert.LastKernelIdeal.τ).loc Cert.LastKernelIdeal.main_arg2) = m ((c.tc : Thread Cert.LastKernelIdeal.nD Cert.LastKernelIdeal.τ).loc Cert.LastKernelIdeal.main_arg2)
          ∧ r.2.mem ((c.tc : Thread Cert.LastKernelIdeal.nD Cert.LastKernelIdeal.τ).loc Cert.LastKernelIdeal.main_arg3) = m ((c.tc : Thread Cert.LastKernelIdeal.nD Cert.LastKernelIdeal.τ).loc Cert.LastKernelIdeal.main_arg3))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v3) = v0 c
          ∧ r.2.mem ((c.tc : Thread Cert.LastReferenceIdeal.nD Cert.LastReferenceIdeal.τ).loc Cert.LastReferenceIdeal.main_v17) = v1 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v2_0)) (v1 : (c : Dev Cert.FfnKernelIdeal.nD) → Buf (Elt Ideal) ((c.tc : Thread Cert.FfnKernelIdeal.nD Cert.FfnKernelIdeal.τ).loc Cert.FfnKernelIdeal.main_v2_1)) (v2 : (c : Dev Cert.FfnKernelIdeal.nD) → Buf (Elt Ideal) ((c.tc : Thread Cert.FfnKernelIdeal.nD Cert.FfnKernelIdeal.τ).loc Cert.FfnKernelIdeal.main_v2_2)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v2_0) = v0 c
          ∧ r.2.mem ((c.tc : Thread Cert.FfnKernelIdeal.nD Cert.FfnKernelIdeal.τ).loc Cert.FfnKernelIdeal.main_v2_1) = v1 c
          ∧ r.2.mem ((c.tc : Thread Cert.FfnKernelIdeal.nD Cert.FfnKernelIdeal.τ).loc Cert.FfnKernelIdeal.main_v2_2) = v2 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v17) = v0 c
          ∧ r.2.mem ((c.tc : Thread Cert.FfnReferenceIdeal.nD Cert.FfnReferenceIdeal.τ).loc Cert.FfnReferenceIdeal.main_v16) = v1 c
          ∧ r.2.mem ((c.tc : Thread Cert.FfnReferenceIdeal.nD Cert.FfnReferenceIdeal.τ).loc Cert.FfnReferenceIdeal.main_v31) = v2 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)) →
    ∃ (v0 : (c : Dev Cert.MixKernelIdeal.nD) → Buf (Elt Ideal) ((c.tc : Thread Cert.MixKernelIdeal.nD Cert.MixKernelIdeal.τ).loc Cert.MixKernelIdeal.main_v2_0)) (v1 : (c : Dev Cert.MixKernelIdeal.nD) → Buf (Elt Ideal) ((c.tc : Thread Cert.MixKernelIdeal.nD Cert.MixKernelIdeal.τ).loc Cert.MixKernelIdeal.main_v2_1)) (v2 : (c : Dev Cert.MixKernelIdeal.nD) → Buf (Elt Ideal) ((c.tc : Thread Cert.MixKernelIdeal.nD Cert.MixKernelIdeal.τ).loc Cert.MixKernelIdeal.main_v2_2)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v2_0) = v0 c
          ∧ r.2.mem ((c.tc : Thread Cert.MixKernelIdeal.nD Cert.MixKernelIdeal.τ).loc Cert.MixKernelIdeal.main_v2_1) = v1 c
          ∧ r.2.mem ((c.tc : Thread Cert.MixKernelIdeal.nD Cert.MixKernelIdeal.τ).loc Cert.MixKernelIdeal.main_v2_2) = v2 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v17) = v0 c
          ∧ r.2.mem ((c.tc : Thread Cert.MixReferenceIdeal.nD Cert.MixReferenceIdeal.τ).loc Cert.MixReferenceIdeal.main_v16) = v1 c
          ∧ r.2.mem ((c.tc : Thread Cert.MixReferenceIdeal.nD Cert.MixReferenceIdeal.τ).loc Cert.MixReferenceIdeal.main_v31) = v2 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4))

def preserves_GluKernel_GluKernelIdeal : Prop :=
  True

def algebraic_GluKernelIdeal_GluReferenceIdeal_pre_finite_glu [hGluKernelIdeal : Cert.GluKernelIdeal.Facts] [hGluReferenceIdeal : Cert.GluReferenceIdeal.Facts] [hPre_finite_glu : Cert.Pre_finite_glu.Facts] : Prop :=
  ∀ (m : (ℓ : Loc Cert.GluKernelIdeal.nD Cert.GluKernelIdeal.τ Cert.GluKernelIdeal.sig) → Buf (Elt Ideal) ℓ) (g : Dev Cert.GluKernelIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluKernelIdeal_finite_glu m →
    (∀ c : Dev Cert.GluKernelIdeal.nD,
      m' ((c.tc : Thread Cert.GluReferenceIdeal.nD Cert.GluReferenceIdeal.τ).loc Cert.GluReferenceIdeal.main_arg0) = m ((c.tc : Thread Cert.GluKernelIdeal.nD Cert.GluKernelIdeal.τ).loc Cert.GluKernelIdeal.main_arg0)
      ∧ m' ((c.tc : Thread Cert.GluReferenceIdeal.nD Cert.GluReferenceIdeal.τ).loc Cert.GluReferenceIdeal.main_arg1) = m ((c.tc : Thread Cert.GluKernelIdeal.nD Cert.GluKernelIdeal.τ).loc Cert.GluKernelIdeal.main_arg1)
      ∧ m' ((c.tc : Thread Cert.GluReferenceIdeal.nD Cert.GluReferenceIdeal.τ).loc Cert.GluReferenceIdeal.main_arg2) = m ((c.tc : Thread Cert.GluKernelIdeal.nD Cert.GluKernelIdeal.τ).loc Cert.GluKernelIdeal.main_arg2)
      ∧ m' ((c.tc : Thread Cert.GluReferenceIdeal.nD Cert.GluReferenceIdeal.τ).loc Cert.GluReferenceIdeal.main_arg3) = m ((c.tc : Thread Cert.GluKernelIdeal.nD Cert.GluKernelIdeal.τ).loc Cert.GluKernelIdeal.main_arg3)) →
    ∃ (v0 : (c : Dev Cert.GluKernelIdeal.nD) → Buf (Elt Ideal) ((c.tc : Thread Cert.GluKernelIdeal.nD Cert.GluKernelIdeal.τ).loc Cert.GluKernelIdeal.main_v0_0)) (v1 : (c : Dev Cert.GluKernelIdeal.nD) → Buf (Elt Ideal) ((c.tc : Thread Cert.GluKernelIdeal.nD Cert.GluKernelIdeal.τ).loc Cert.GluKernelIdeal.main_v0_1)),
      θ_run (Cert.GluKernelIdeal.defs (F := Ideal)) (onTc (τ := Cert.GluKernelIdeal.τ) (Cert.GluKernelIdeal.main (F := Ideal))) ⟨m, fun _ => 0, g⟩ (fun r => ∀ c : Dev Cert.GluKernelIdeal.nD,
          r.2.mem ((c.tc : Thread Cert.GluKernelIdeal.nD Cert.GluKernelIdeal.τ).loc Cert.GluKernelIdeal.main_v0_0) = v0 c
          ∧ r.2.mem ((c.tc : Thread Cert.GluKernelIdeal.nD Cert.GluKernelIdeal.τ).loc Cert.GluKernelIdeal.main_v0_1) = v1 c
          ∧ r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
          ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
          ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
          ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v11) = v0 c
          ∧ r.2.mem ((c.tc : Thread Cert.GluReferenceIdeal.nD Cert.GluReferenceIdeal.τ).loc Cert.GluReferenceIdeal.main_v12) = v1 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2)
          ∧ r.2.mem ((c.tc : Thread Cert.GluReferenceIdeal.nD Cert.GluReferenceIdeal.τ).loc Cert.GluReferenceIdeal.main_arg3) = m' ((c.tc : Thread Cert.GluReferenceIdeal.nD Cert.GluReferenceIdeal.τ).loc Cert.GluReferenceIdeal.main_arg3))

def Claim : Prop :=
  ∃ (hAttKernel : Cert.AttKernel.Facts) (hAttKernelIdeal : Cert.AttKernelIdeal.Facts) (hAttReferenceIdeal : Cert.AttReferenceIdeal.Facts) (hWeightKernel : Cert.WeightKernel.Facts) (hWeightKernelIdeal : Cert.WeightKernelIdeal.Facts) (hWeightReferenceIdeal : Cert.WeightReferenceIdeal.Facts) (hSwigluKernel : Cert.SwigluKernel.Facts) (hSwigluKernelIdeal : Cert.SwigluKernelIdeal.Facts) (hSwigluReferenceIdeal : Cert.SwigluReferenceIdeal.Facts) (hGateKernel : Cert.GateKernel.Facts) (hGateKernelIdeal : Cert.GateKernelIdeal.Facts) (hGateReferenceIdeal : Cert.GateReferenceIdeal.Facts) (hQkvKernel : Cert.QkvKernel.Facts) (hQkvKernelIdeal : Cert.QkvKernelIdeal.Facts) (hQkvReferenceIdeal : Cert.QkvReferenceIdeal.Facts) (hConvKernel : Cert.ConvKernel.Facts) (hConvKernelIdeal : Cert.ConvKernelIdeal.Facts) (hConvReferenceIdeal : Cert.ConvReferenceIdeal.Facts) (hGateGradKernel : Cert.GateGradKernel.Facts) (hGateGradKernelIdeal : Cert.GateGradKernelIdeal.Facts) (hGateGradReferenceIdeal : Cert.GateGradReferenceIdeal.Facts) (hQkvGradKernel : Cert.QkvGradKernel.Facts) (hQkvGradKernelIdeal : Cert.QkvGradKernelIdeal.Facts) (hQkvGradReferenceIdeal : Cert.QkvGradReferenceIdeal.Facts) (hConvGradKernel : Cert.ConvGradKernel.Facts) (hConvGradKernelIdeal : Cert.ConvGradKernelIdeal.Facts) (hConvGradReferenceIdeal : Cert.ConvGradReferenceIdeal.Facts) (hInputKernel : Cert.InputKernel.Facts) (hInputKernelIdeal : Cert.InputKernelIdeal.Facts) (hInputReferenceIdeal : Cert.InputReferenceIdeal.Facts) (hLastKernel : Cert.LastKernel.Facts) (hLastKernelIdeal : Cert.LastKernelIdeal.Facts) (hLastReferenceIdeal : Cert.LastReferenceIdeal.Facts) (hFfnKernel : Cert.FfnKernel.Facts) (hFfnKernelIdeal : Cert.FfnKernelIdeal.Facts) (hFfnReferenceIdeal : Cert.FfnReferenceIdeal.Facts) (hMixKernel : Cert.MixKernel.Facts) (hMixKernelIdeal : Cert.MixKernelIdeal.Facts) (hMixReferenceIdeal : Cert.MixReferenceIdeal.Facts) (hGluKernel : Cert.GluKernel.Facts) (hGluKernelIdeal : Cert.GluKernelIdeal.Facts) (hGluReferenceIdeal : Cert.GluReferenceIdeal.Facts) (hPre_finite : Cert.Pre_finite.Facts) (hPre_finite_glu : Cert.Pre_finite_glu.Facts),
    quiescent_AttKernel (hAttKernel := hAttKernel)
    ∧ quiescent_AttKernelIdeal (hAttKernelIdeal := hAttKernelIdeal)
    ∧ quiescent_AttKernelIdeal_pre_finite (hAttKernelIdeal := hAttKernelIdeal) (hPre_finite := hPre_finite)
    ∧ quiescent_AttReferenceIdeal (hAttReferenceIdeal := hAttReferenceIdeal)
    ∧ quiescent_AttReferenceIdeal_pre_finite (hAttReferenceIdeal := hAttReferenceIdeal) (hPre_finite := hPre_finite)
    ∧ quiescent_WeightKernel (hWeightKernel := hWeightKernel)
    ∧ quiescent_WeightKernelIdeal (hWeightKernelIdeal := hWeightKernelIdeal)
    ∧ quiescent_WeightReferenceIdeal (hWeightReferenceIdeal := hWeightReferenceIdeal)
    ∧ quiescent_SwigluKernel (hSwigluKernel := hSwigluKernel)
    ∧ quiescent_SwigluKernelIdeal (hSwigluKernelIdeal := hSwigluKernelIdeal)
    ∧ quiescent_SwigluReferenceIdeal (hSwigluReferenceIdeal := hSwigluReferenceIdeal)
    ∧ quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_QkvKernel (hQkvKernel := hQkvKernel)
    ∧ quiescent_QkvKernelIdeal (hQkvKernelIdeal := hQkvKernelIdeal)
    ∧ quiescent_QkvReferenceIdeal (hQkvReferenceIdeal := hQkvReferenceIdeal)
    ∧ quiescent_ConvKernel (hConvKernel := hConvKernel)
    ∧ quiescent_ConvKernelIdeal (hConvKernelIdeal := hConvKernelIdeal)
    ∧ quiescent_ConvReferenceIdeal (hConvReferenceIdeal := hConvReferenceIdeal)
    ∧ quiescent_GateGradKernel (hGateGradKernel := hGateGradKernel)
    ∧ quiescent_GateGradKernelIdeal (hGateGradKernelIdeal := hGateGradKernelIdeal)
    ∧ quiescent_GateGradReferenceIdeal (hGateGradReferenceIdeal := hGateGradReferenceIdeal)
    ∧ quiescent_QkvGradKernel (hQkvGradKernel := hQkvGradKernel)
    ∧ quiescent_QkvGradKernelIdeal (hQkvGradKernelIdeal := hQkvGradKernelIdeal)
    ∧ quiescent_QkvGradReferenceIdeal (hQkvGradReferenceIdeal := hQkvGradReferenceIdeal)
    ∧ quiescent_ConvGradKernel (hConvGradKernel := hConvGradKernel)
    ∧ quiescent_ConvGradKernelIdeal (hConvGradKernelIdeal := hConvGradKernelIdeal)
    ∧ quiescent_ConvGradReferenceIdeal (hConvGradReferenceIdeal := hConvGradReferenceIdeal)
    ∧ quiescent_InputKernel (hInputKernel := hInputKernel)
    ∧ quiescent_InputKernelIdeal (hInputKernelIdeal := hInputKernelIdeal)
    ∧ quiescent_InputReferenceIdeal (hInputReferenceIdeal := hInputReferenceIdeal)
    ∧ quiescent_LastKernel (hLastKernel := hLastKernel)
    ∧ quiescent_LastKernelIdeal (hLastKernelIdeal := hLastKernelIdeal)
    ∧ quiescent_LastReferenceIdeal (hLastReferenceIdeal := hLastReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_GluKernel (hGluKernel := hGluKernel)
    ∧ quiescent_GluKernelIdeal (hGluKernelIdeal := hGluKernelIdeal)
    ∧ quiescent_GluKernelIdeal_pre_finite_glu (hGluKernelIdeal := hGluKernelIdeal) (hPre_finite_glu := hPre_finite_glu)
    ∧ quiescent_GluReferenceIdeal (hGluReferenceIdeal := hGluReferenceIdeal)
    ∧ quiescent_GluReferenceIdeal_pre_finite_glu (hGluReferenceIdeal := hGluReferenceIdeal) (hPre_finite_glu := hPre_finite_glu)
    ∧ preserves_AttKernel_AttKernelIdeal
    ∧ algebraic_AttKernelIdeal_AttReferenceIdeal_pre_finite (hAttKernelIdeal := hAttKernelIdeal) (hAttReferenceIdeal := hAttReferenceIdeal) (hPre_finite := hPre_finite)
    ∧ preserves_WeightKernel_WeightKernelIdeal
    ∧ algebraic_WeightKernelIdeal_WeightReferenceIdeal (hWeightKernelIdeal := hWeightKernelIdeal) (hWeightReferenceIdeal := hWeightReferenceIdeal)
    ∧ preserves_SwigluKernel_SwigluKernelIdeal
    ∧ algebraic_SwigluKernelIdeal_SwigluReferenceIdeal (hSwigluKernelIdeal := hSwigluKernelIdeal) (hSwigluReferenceIdeal := hSwigluReferenceIdeal)
    ∧ preserves_GateKernel_GateKernelIdeal
    ∧ algebraic_GateKernelIdeal_GateReferenceIdeal (hGateKernelIdeal := hGateKernelIdeal) (hGateReferenceIdeal := hGateReferenceIdeal)
    ∧ preserves_QkvKernel_QkvKernelIdeal
    ∧ algebraic_QkvKernelIdeal_QkvReferenceIdeal (hQkvKernelIdeal := hQkvKernelIdeal) (hQkvReferenceIdeal := hQkvReferenceIdeal)
    ∧ preserves_ConvKernel_ConvKernelIdeal
    ∧ algebraic_ConvKernelIdeal_ConvReferenceIdeal (hConvKernelIdeal := hConvKernelIdeal) (hConvReferenceIdeal := hConvReferenceIdeal)
    ∧ preserves_GateGradKernel_GateGradKernelIdeal
    ∧ algebraic_GateGradKernelIdeal_GateGradReferenceIdeal (hGateGradKernelIdeal := hGateGradKernelIdeal) (hGateGradReferenceIdeal := hGateGradReferenceIdeal)
    ∧ preserves_QkvGradKernel_QkvGradKernelIdeal
    ∧ algebraic_QkvGradKernelIdeal_QkvGradReferenceIdeal (hQkvGradKernelIdeal := hQkvGradKernelIdeal) (hQkvGradReferenceIdeal := hQkvGradReferenceIdeal)
    ∧ preserves_ConvGradKernel_ConvGradKernelIdeal
    ∧ algebraic_ConvGradKernelIdeal_ConvGradReferenceIdeal (hConvGradKernelIdeal := hConvGradKernelIdeal) (hConvGradReferenceIdeal := hConvGradReferenceIdeal)
    ∧ preserves_InputKernel_InputKernelIdeal
    ∧ algebraic_InputKernelIdeal_InputReferenceIdeal (hInputKernelIdeal := hInputKernelIdeal) (hInputReferenceIdeal := hInputReferenceIdeal)
    ∧ preserves_LastKernel_LastKernelIdeal
    ∧ algebraic_LastKernelIdeal_LastReferenceIdeal (hLastKernelIdeal := hLastKernelIdeal) (hLastReferenceIdeal := hLastReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_MixKernel_MixKernelIdeal
    ∧ algebraic_MixKernelIdeal_MixReferenceIdeal (hMixKernelIdeal := hMixKernelIdeal) (hMixReferenceIdeal := hMixReferenceIdeal)
    ∧ preserves_GluKernel_GluKernelIdeal
    ∧ algebraic_GluKernelIdeal_GluReferenceIdeal_pre_finite_glu (hGluKernelIdeal := hGluKernelIdeal) (hGluReferenceIdeal := hGluReferenceIdeal) (hPre_finite_glu := hPre_finite_glu)
-- ==== Pre_finite.lean ====
abbrev S8192x256 : Shape := ⟨2, ![8192, 256]⟩
abbrev S32x4 : Shape := ⟨2, ![32, 4]⟩
abbrev S8192x4x64 : Shape := ⟨3, ![8192, 4, 64]⟩
abbrev S8192x4 : Shape := ⟨2, ![8192, 4]⟩
abbrev S_ : Shape := ⟨0, ![]⟩

class Facts : Prop where
  bcast_S_S32x4 : S_.BroadcastsInDim S32x4 (![] : Fin 0 → Fin S32x4.rank)
  reducesTo_S32x4_S_d0_1 : S32x4.ReducesTo [0, 1] S_
  h_S_ : 0 < S_.numel
  bitsLt_bf16_f32 : FTy.bits .bf16 < FTy.bits .f32
  bcast_S_S8192x256 : S_.BroadcastsInDim S8192x256 (![] : Fin 0 → Fin S8192x256.rank)
  reducesTo_S8192x256_S_d0_1 : S8192x256.ReducesTo [0, 1] S_
  bcast_S_S8192x4x64 : S_.BroadcastsInDim S8192x4x64 (![] : Fin 0 → Fin S8192x4x64.rank)
  reducesTo_S8192x4x64_S_d0_1_2 : S8192x4x64.ReducesTo [0, 1, 2] S_
  bcast_S_S8192x4 : S_.BroadcastsInDim S8192x4 (![] : Fin 0 → Fin S8192x4.rank)
  reducesTo_S8192x4_S_d0_1 : S8192x4.ReducesTo [0, 1] S_

variable [Facts]

def fn_part2 {F : FTy → Type} [FloatOps F] (main_arg7 : FVec F S8192x4 .f32) (main_arg8 : FVec F S8192x256 .bf16) (main_v31 : IVec S_ 1) (main_v34 : IVec S8192x4x64 1) : IVec S_ 1 :=
  let main_c_11 : IVec S_ 1 := constantI S_ 1 1#1
  let main_v35 : IVec S_ 1 := (fun x v => Host.reduce IntOp.andi x v reducesTo_S8192x4x64_S_d0_1_2 h_S_) main_v34 main_c_11
  let main_v36 : IVec S_ 1 := andi main_v31 main_v35
  let main_v37 : FVec F S8192x4 .f32 := Host.absf main_arg7
  let main_cst_12 : FVec F S_ .f32 := constant S_ .f32 0x7F800000#32
  let main_v38 : FVec F S8192x4 .f32 := broadcastInDim S8192x4 ![] bcast_S_S8192x4 main_cst_12
  let main_v39 : IVec S8192x4 1 := cmpf .olt main_v37 main_v38
  let main_c_13 : IVec S_ 1 := constantI S_ 1 1#1
  let main_v40 : IVec S_ 1 := (fun x v => Host.reduce IntOp.andi x v reducesTo_S8192x4_S_d0_1 h_S_) main_v39 main_c_13
  let main_v41 : IVec S_ 1 := andi main_v36 main_v40
  let main_v42 : FVec F S8192x256 .f32 := (extf .f32 · bitsLt_bf16_f32) main_arg8
  let main_v43 : FVec F S8192x256 .f32 := Host.absf main_v42
  let main_cst_14 : FVec F S_ .f32 := constant S_ .f32 0x7F800000#32
  let main_v44 : FVec F S8192x256 .f32 := broadcastInDim S8192x256 ![] bcast_S_S8192x256 main_cst_14
  let main_v45 : IVec S8192x256 1 := cmpf .olt main_v43 main_v44
  let main_c_15 : IVec S_ 1 := constantI S_ 1 1#1
  let main_v46 : IVec S_ 1 := (fun x v => Host.reduce IntOp.andi x v reducesTo_S8192x256_S_d0_1 h_S_) main_v45 main_c_15
  let main_v47 : IVec S_ 1 := andi main_v41 main_v46
  main_v47

def fn_part1 {F : FTy → Type} [FloatOps F] (main_arg4 : FVec F S8192x4x64 .f32) (main_arg5 : FVec F S8192x4 .f32) (main_arg6 : FVec F S8192x4x64 .f32) (main_arg7 : FVec F S8192x4 .f32) (main_arg8 : FVec F S8192x256 .bf16) (main_v15 : IVec S_ 1) (main_v17 : FVec F S8192x256 .f32) : IVec S_ 1 :=
  let main_cst_4 : FVec F S_ .f32 := constant S_ .f32 0x7F800000#32
  let main_v18 : FVec F S8192x256 .f32 := broadcastInDim S8192x256 ![] bcast_S_S8192x256 main_cst_4
  let main_v19 : IVec S8192x256 1 := cmpf .olt main_v17 main_v18
  let main_c_5 : IVec S_ 1 := constantI S_ 1 1#1
  let main_v20 : IVec S_ 1 := (fun x v => Host.reduce IntOp.andi x v reducesTo_S8192x256_S_d0_1 h_S_) main_v19 main_c_5
  let main_v21 : IVec S_ 1 := andi main_v15 main_v20
  let main_v22 : FVec F S8192x4x64 .f32 := Host.absf main_arg4
  let main_cst_6 : FVec F S_ .f32 := constant S_ .f32 0x7F800000#32
  let main_v23 : FVec F S8192x4x64 .f32 := broadcastInDim S8192x4x64 ![] bcast_S_S8192x4x64 main_cst_6
  let main_v24 : IVec S8192x4x64 1 := cmpf .olt main_v22 main_v23
  let main_c_7 : IVec S_ 1 := constantI S_ 1 1#1
  let main_v25 : IVec S_ 1 := (fun x v => Host.reduce IntOp.andi x v reducesTo_S8192x4x64_S_d0_1_2 h_S_) main_v24 main_c_7
  let main_v26 : IVec S_ 1 := andi main_v21 main_v25
  let main_v27 : FVec F S8192x4 .f32 := Host.absf main_arg5
  let main_cst_8 : FVec F S_ .f32 := constant S_ .f32 0x7F800000#32
  let main_v28 : FVec F S8192x4 .f32 := broadcastInDim S8192x4 ![] bcast_S_S8192x4 main_cst_8
  let main_v29 : IVec S8192x4 1 := cmpf .olt main_v27 main_v28
  let main_c_9 : IVec S_ 1 := constantI S_ 1 1#1
  let main_v30 : IVec S_ 1 := (fun x v => Host.reduce IntOp.andi x v reducesTo_S8192x4_S_d0_1 h_S_) main_v29 main_c_9
  let main_v31 : IVec S_ 1 := andi main_v26 main_v30
  let main_v32 : FVec F S8192x4x64 .f32 := Host.absf main_arg6
  let main_cst_10 : FVec F S_ .f32 := constant S_ .f32 0x7F800000#32
  let main_v33 : FVec F S8192x4x64 .f32 := broadcastInDim S8192x4x64 ![] bcast_S_S8192x4x64 main_cst_10
  let main_v34 : IVec S8192x4x64 1 := cmpf .olt main_v32 main_v33
  fn_part2 (F := F) main_arg7 main_arg8 main_v31 main_v34

def fn {F : FTy → Type} [FloatOps F] (main_arg0 : FVec F S8192x256 .bf16) (main_arg1 : FVec F S8192x256 .bf16) (main_arg2 : FVec F S8192x256 .bf16) (main_arg3 : FVec F S32x4 .f32) (main_arg4 : FVec F S8192x4x64 .f32) (main_arg5 : FVec F S8192x4 .f32) (main_arg6 : FVec F S8192x4x64 .f32) (main_arg7 : FVec F S8192x4 .f32) (main_arg8 : FVec F S8192x256 .bf16) : IVec S_ 1 :=
  let main_v0 : FVec F S32x4 .f32 := Host.absf main_arg3
  let main_cst : FVec F S_ .f32 := constant S_ .f32 0x7F800000#32
  let main_v1 : FVec F S32x4 .f32 := broadcastInDim S32x4 ![] bcast_S_S32x4 main_cst
  let main_v2 : IVec S32x4 1 := cmpf .olt main_v0 main_v1
  let main_c : IVec S_ 1 := constantI S_ 1 1#1
  let main_v3 : IVec S_ 1 := (fun x v => Host.reduce IntOp.andi x v reducesTo_S32x4_S_d0_1 h_S_) main_v2 main_c
  let main_v4 : FVec F S8192x256 .f32 := (extf .f32 · bitsLt_bf16_f32) main_arg0
  let main_v5 : FVec F S8192x256 .f32 := Host.absf main_v4
  let main_cst_0 : FVec F S_ .f32 := constant S_ .f32 0x7F800000#32
  let main_v6 : FVec F S8192x256 .f32 := broadcastInDim S8192x256 ![] bcast_S_S8192x256 main_cst_0
  let main_v7 : IVec S8192x256 1 := cmpf .olt main_v5 main_v6
  let main_c_1 : IVec S_ 1 := constantI S_ 1 1#1
  let main_v8 : IVec S_ 1 := (fun x v => Host.reduce IntOp.andi x v reducesTo_S8192x256_S_d0_1 h_S_) main_v7 main_c_1
  let main_v9 : IVec S_ 1 := andi main_v3 main_v8
  let main_v10 : FVec F S8192x256 .f32 := (extf .f32 · bitsLt_bf16_f32) main_arg1
  let main_v11 : FVec F S8192x256 .f32 := Host.absf main_v10
  let main_cst_2 : FVec F S_ .f32 := constant S_ .f32 0x7F800000#32
  let main_v12 : FVec F S8192x256 .f32 := broadcastInDim S8192x256 ![] bcast_S_S8192x256 main_cst_2
  let main_v13 : IVec S8192x256 1 := cmpf .olt main_v11 main_v12
  let main_c_3 : IVec S_ 1 := constantI S_ 1 1#1
  let main_v14 : IVec S_ 1 := (fun x v => Host.reduce IntOp.andi x v reducesTo_S8192x256_S_d0_1 h_S_) main_v13 main_c_3
  let main_v15 : IVec S_ 1 := andi main_v9 main_v14
  let main_v16 : FVec F S8192x256 .f32 := (extf .f32 · bitsLt_bf16_f32) main_arg2
  let main_v17 : FVec F S8192x256 .f32 := Host.absf main_v16
  fn_part1 (F := F) main_arg4 main_arg5 main_arg6 main_arg7 main_arg8 main_v15 main_v17
-- ==== Pre_finite_glu.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_v16 : IVec S_ 1) (main_v17 : FVec F S8192x2816 .f32) : IVec S_ 1 :=
  let main_v18 : FVec F S8192x2816 .f32 := Host.absf main_v17
  let main_cst_4 : FVec F S_ .f32 := constant S_ .f32 0x7F800000#32
  let main_v19 : FVec F S8192x2816 .f32 := broadcastInDim S8192x2816 ![] bcast_S_S8192x2816 main_cst_4
  let main_v20 : IVec S8192x2816 1 := cmpf .olt main_v18 main_v19
  let main_c_5 : IVec S_ 1 := constantI S_ 1 1#1
  let main_v21 : IVec S_ 1 := (fun x v => Host.reduce IntOp.andi x v reducesTo_S8192x2816_S_d0_1 h_S_) main_v20 main_c_5
  let main_v22 : IVec S_ 1 := andi main_v16 main_v21
  main_v22

def fn {F : FTy → Type} [FloatOps F] (main_arg0 : FVec F S8192x1024 .bf16) (main_arg1 : FVec F S2816x1024 .bf16) (main_arg2 : FVec F S8192x2816 .bf16) (main_arg3 : FVec F S8192x2816 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S8192x2816 .f32 := (extf .f32 · bitsLt_bf16_f32) main_arg2
  let main_v12 : FVec F S8192x2816 .f32 := Host.absf main_v11
  let main_cst_2 : FVec F S_ .f32 := constant S_ .f32 0x7F800000#32
  let main_v13 : FVec F S8192x2816 .f32 := broadcastInDim S8192x2816 ![] bcast_S_S8192x2816 main_cst_2
  let main_v14 : IVec S8192x2816 1 := cmpf .olt main_v12 main_v13
  let main_c_3 : IVec S_ 1 := constantI S_ 1 1#1
  let main_v15 : IVec S_ 1 := (fun x v => Host.reduce IntOp.andi x v reducesTo_S8192x2816_S_d0_1 h_S_) main_v14 main_c_3
  let main_v16 : IVec S_ 1 := andi main_v10 main_v15
  let main_v17 : FVec F S8192x2816 .f32 := (extf .f32 · bitsLt_bf16_f32) main_arg3
  fn_part1 (F := F) main_v16 main_v17
-- ==== AttKernel.lean ====
abbrev S8192x256 : Shape := ⟨2, ![8192, 256]⟩
abbrev S32x4 : Shape := ⟨2, ![32, 4]⟩
abbrev S8192x4x64 : Shape := ⟨3, ![8192, 4, 64]⟩
abbrev S8192x4 : Shape := ⟨2, ![8192, 4]⟩
abbrev S512x16x4x64 : Shape := ⟨4, ![512, 16, 4, 64]⟩
abbrev S16x512x4x64 : Shape := ⟨4, ![16, 512, 4, 64]⟩
abbrev S512x16x4 : Shape := ⟨3, ![512, 16, 4]⟩
abbrev S16x512x4 : Shape := ⟨3, ![16, 512, 4]⟩
abbrev S16x4x512x512 : Shape := ⟨4, ![16, 4, 512, 512]⟩
abbrev S_ : Shape := ⟨0, ![]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S512x512x1 : Shape := ⟨3, ![512, 512, 1]⟩
abbrev S512x512x4 : Shape := ⟨3, ![512, 512, 4]⟩
abbrev S4x512x512 : Shape := ⟨3, ![4, 512, 512]⟩
abbrev S1x4x512x512 : Shape := ⟨4, ![1, 4, 512, 512]⟩
abbrev S16x4x512 : Shape := ⟨3, ![16, 4, 512]⟩
abbrev S16x4x512x1 : Shape := ⟨4, ![16, 4, 512, 1]⟩
abbrev S16x4x64x512 : Shape := ⟨4, ![16, 4, 64, 512]⟩
abbrev S1x16x512x4 : Shape := ⟨4, ![1, 16, 512, 4]⟩
abbrev S3x16x512x4 : Shape := ⟨4, ![3, 16, 512, 4]⟩
abbrev S3x16x512x4x1 : Shape := ⟨5, ![3, 16, 512, 4, 1]⟩
abbrev S1x16x512x4x64 : Shape := ⟨5, ![1, 16, 512, 4, 64]⟩
abbrev S3x16x512x4x64 : Shape := ⟨5, ![3, 16, 512, 4, 64]⟩
abbrev S256 : Shape := ⟨1, ![256]⟩
abbrev S1x256 : Shape := ⟨2, ![1, 256]⟩
abbrev S128 : Shape := ⟨1, ![128]⟩
abbrev S128x1 : Shape := ⟨2, ![128, 1]⟩
abbrev S128x256 : Shape := ⟨2, ![128, 256]⟩
abbrev S128x256x1 : Shape := ⟨3, ![128, 256, 1]⟩
abbrev S128x256x4 : Shape := ⟨3, ![128, 256, 4]⟩
abbrev S4x128x256 : Shape := ⟨3, ![4, 128, 256]⟩
abbrev S512x16x256 : Shape := ⟨3, ![512, 16, 256]⟩
abbrev S16x512x256 : Shape := ⟨3, ![16, 512, 256]⟩
abbrev S16x512x4x1 : Shape := ⟨4, ![16, 512, 4, 1]⟩
abbrev S512x256 : Shape := ⟨2, ![512, 256]⟩
abbrev S64x256 : Shape := ⟨2, ![64, 256]⟩
abbrev S256x1152 : Shape := ⟨2, ![256, 1152]⟩
abbrev S640x256 : Shape := ⟨2, ![640, 256]⟩
abbrev S1x640 : Shape := ⟨2, ![1, 640]⟩
abbrev S256x256 : Shape := ⟨2, ![256, 256]⟩
abbrev S128x64 : Shape := ⟨2, ![128, 64]⟩
abbrev S256x64 : Shape := ⟨2, ![256, 64]⟩
abbrev S1x128x256 : Shape := ⟨3, ![1, 128, 256]⟩
abbrev S256x512 : Shape := ⟨2, ![256, 512]⟩
abbrev S256x640 : Shape := ⟨2, ![256, 640]⟩

abbrev nBuf : Space → Nat
  | .hbm => 256
  | .vmem => 30
  | .smem => 0
  | _ => 0

abbrev hbmTy0_0 (i : Nat) : BufTy := match i % 128 with
  | 0 => ⟨S8192x256, .bf16⟩
  | 1 => ⟨S8192x256, .bf16⟩
  | 2 => ⟨S8192x256, .bf16⟩
  | 3 => ⟨S32x4, .f32⟩
  | 4 => ⟨S8192x4x64, .f32⟩
  | 5 => ⟨S8192x4, .f32⟩
  | 6 => ⟨S8192x4x64, .f32⟩
  | 7 => ⟨S8192x4, .f32⟩
  | 8 => ⟨S8192x256, .bf16⟩
  | 9 => ⟨S512x16x4x64, .f32⟩
  | 10 => ⟨S16x512x4x64, .f32⟩
  | 11 => ⟨S512x16x4, .f32⟩
  | 12 => ⟨S16x512x4, .f32⟩
  | 13 => ⟨S512x16x4x64, .f32⟩
  | 14 => ⟨S16x512x4x64, .f32⟩
  | 15 => ⟨S512x16x4, .f32⟩
  | 16 => ⟨S16x512x4, .f32⟩
  | 17 => ⟨S8192x256, .f32⟩
  | 18 => ⟨S8192x4x64, .f32⟩
  | 19 => ⟨S512x16x4x64, .f32⟩
  | 20 => ⟨S16x512x4x64, .f32⟩
  | 21 => ⟨S8192x256, .f32⟩
  | 22 => ⟨S8192x4x64, .f32⟩
  | 23 => ⟨S512x16x4x64, .f32⟩
  | 24 => ⟨S16x512x4x64, .f32⟩
  | 25 => ⟨S8192x256, .f32⟩
  | 26 => ⟨S8192x4x64, .f32⟩
  | 27 => ⟨S512x16x4x64, .f32⟩
  | 28 => ⟨S16x512x4x64, .f32⟩
  | 29 => ⟨S16x4x512x512, .f32⟩
  | 30 => ⟨S_, .f32⟩
  | 31 => ⟨S16x4x512x512, .f32⟩
  | 32 => ⟨S16x4x512x512, .f32⟩
  | 33 => ⟨S512, .i32⟩
  | 34 => ⟨S1x512, .i32⟩
  | 35 => ⟨S512, .i32⟩
  | 36 => ⟨S512x1, .i32⟩
  | 37 => ⟨S512x512, .i32⟩
  | 38 => ⟨S512x512, .i32⟩
  | 39 => ⟨S512x512, .i32⟩
  | 40 => ⟨S512x512, .i32⟩
  | 41 => ⟨S_, .i32⟩
  | 42 => ⟨S512x512, .i32⟩
  | 43 => ⟨S512x512, .i1⟩
  | 44 => ⟨S_, .i32⟩
  | 45 => ⟨S512x512, .i32⟩
  | 46 => ⟨S512x512, .i32⟩
  | 47 => ⟨S_, .i32⟩
  | 48 => ⟨S512x512, .i32⟩
  | 49 => ⟨S512x512, .i1⟩
  | 50 => ⟨S_, .i32⟩
  | 51 => ⟨S_, .i32⟩
  | 52 => ⟨S512x512, .i32⟩
  | 53 => ⟨S512x512, .i32⟩
  | 54 => ⟨S512x512, .i32⟩
  | 55 => ⟨S512x512, .i32⟩
  | 56 => ⟨S_, .i32⟩
  | 57 => ⟨S512x512, .i32⟩
  | 58 => ⟨S512x512, .i32⟩
  | 59 => ⟨S512x512, .f32⟩
  | 60 => ⟨S_, .f32⟩
  | 61 => ⟨S512x512, .f32⟩
  | 62 => ⟨S512x512, .f32⟩
  | 63 => ⟨S512x512, .f32⟩
  | 64 => ⟨S_, .f32⟩
  | 65 => ⟨S512x512, .f32⟩
  | 66 => ⟨S512x512, .f32⟩
  | 67 => ⟨S_, .f32⟩
  | 68 => ⟨S512x512, .f32⟩
  | 69 => ⟨S512x512, .f32⟩
  | 70 => ⟨S512x512, .i32⟩
  | 71 => ⟨S_, .i32⟩
  | 72 => ⟨S512x512, .i32⟩
  | 73 => ⟨S512x512, .i32⟩
  | 74 => ⟨S_, .i32⟩
  | 75 => ⟨S512x512, .i32⟩
  | 76 => ⟨S512x512, .i32⟩
  | 77 => ⟨S_, .i32⟩
  | 78 => ⟨S512x512, .i32⟩
  | 79 => ⟨S512x512, .i1⟩
  | 80 => ⟨S512x512, .i32⟩
  | 81 => ⟨S512x512, .i32⟩
  | 82 => ⟨S512x512, .i32⟩
  | 83 => ⟨S_, .i32⟩
  | 84 => ⟨S512x512, .i32⟩
  | 85 => ⟨S512x512, .i1⟩
  | 86 => ⟨S_, .i32⟩
  | 87 => ⟨S512x512, .i32⟩
  | 88 => ⟨S512x512, .i32⟩
  | 89 => ⟨S512x512, .i32⟩
  | 90 => ⟨S512x512x1, .i32⟩
  | 91 => ⟨S512x512x4, .f32⟩
  | 92 => ⟨S4x512x512, .f32⟩
  | 93 => ⟨S_, .f32⟩
  | 94 => ⟨S_, .f32⟩
  | 95 => ⟨S4x512x512, .i1⟩
  | 96 => ⟨S4x512x512, .f32⟩
  | 97 => ⟨S4x512x512, .f32⟩
  | 98 => ⟨S1x4x512x512, .f32⟩
  | 99 => ⟨S16x4x512x512, .f32⟩
  | 100 => ⟨S16x4x512x512, .f32⟩
  | 101 => ⟨S_, .f32⟩
  | 102 => ⟨S16x4x512, .f32⟩
  | 103 => ⟨S16x4x512x1, .f32⟩
  | 104 => ⟨S16x4x512x512, .f32⟩
  | 105 => ⟨S16x4x512x512, .f32⟩
  | 106 => ⟨S16x4x512x512, .f32⟩
  | 107 => ⟨S_, .f32⟩
  | 108 => ⟨S16x4x512, .f32⟩
  | 109 => ⟨S16x4x512x1, .f32⟩
  | 110 => ⟨S16x4x512x1, .f32⟩
  | 111 => ⟨S16x4x512x1, .f32⟩
  | 112 => ⟨S16x4x512, .f32⟩
  | 113 => ⟨S16x512x4, .f32⟩
  | 114 => ⟨S16x4x512x512, .f32⟩
  | 115 => ⟨S16x4x512x512, .f32⟩
  | 116 => ⟨S16x4x64x512, .f32⟩
  | 117 => ⟨S16x512x4x64, .f32⟩
  | 118 => ⟨S1x16x512x4, .f32⟩
  | 119 => ⟨S1x16x512x4, .f32⟩
  | 120 => ⟨S1x16x512x4, .f32⟩
  | 121 => ⟨S3x16x512x4, .f32⟩
  | 122 => ⟨S_, .f32⟩
  | 123 => ⟨S16x512x4, .f32⟩
  | 124 => ⟨S1x16x512x4, .f32⟩
  | 125 => ⟨S3x16x512x4, .f32⟩
  | 126 => ⟨S3x16x512x4, .f32⟩
  | 127 => ⟨S3x16x512x4, .f32⟩
  | _ => ⟨S8192x256, .bf16⟩

abbrev hbmTy0_1 (i : Nat) : BufTy := match i % 128 with
  | 0 => ⟨S_, .f32⟩
  | 1 => ⟨S16x512x4, .f32⟩
  | 2 => ⟨S16x512x4, .f32⟩
  | 3 => ⟨S16x512x4, .f32⟩
  | 4 => ⟨S1x16x512x4, .f32⟩
  | 5 => ⟨S1x16x512x4, .f32⟩
  | 6 => ⟨S1x16x512x4, .f32⟩
  | 7 => ⟨S3x16x512x4, .f32⟩
  | 8 => ⟨S_, .f32⟩
  | 9 => ⟨S16x512x4, .f32⟩
  | 10 => ⟨S_, .f32⟩
  | 11 => ⟨S16x512x4, .f32⟩
  | 12 => ⟨S16x512x4, .f32⟩
  | 13 => ⟨S1x16x512x4, .f32⟩
  | 14 => ⟨S3x16x512x4, .f32⟩
  | 15 => ⟨S3x16x512x4, .f32⟩
  | 16 => ⟨S3x16x512x4, .f32⟩
  | 17 => ⟨S_, .f32⟩
  | 18 => ⟨S16x512x4, .f32⟩
  | 19 => ⟨S1x16x512x4, .f32⟩
  | 20 => ⟨S3x16x512x4, .f32⟩
  | 21 => ⟨S3x16x512x4, .f32⟩
  | 22 => ⟨S3x16x512x4x1, .f32⟩
  | 23 => ⟨S1x16x512x4x64, .f32⟩
  | 24 => ⟨S1x16x512x4x64, .f32⟩
  | 25 => ⟨S1x16x512x4x64, .f32⟩
  | 26 => ⟨S3x16x512x4x64, .f32⟩
  | 27 => ⟨S3x16x512x4x64, .f32⟩
  | 28 => ⟨S3x16x512x4x64, .f32⟩
  | 29 => ⟨S_, .f32⟩
  | 30 => ⟨S16x512x4x64, .f32⟩
  | 31 => ⟨S8192x256, .f32⟩
  | 32 => ⟨S8192x4x64, .f32⟩
  | 33 => ⟨S512x16x4x64, .f32⟩
  | 34 => ⟨S16x512x4x64, .f32⟩
  | 35 => ⟨S16x512x4x64, .f32⟩
  | 36 => ⟨S_, .f32⟩
  | 37 => ⟨S16x512x4, .f32⟩
  | 38 => ⟨S256, .i32⟩
  | 39 => ⟨S1x256, .i32⟩
  | 40 => ⟨S_, .i32⟩
  | 41 => ⟨S1x256, .i32⟩
  | 42 => ⟨S1x256, .i32⟩
  | 43 => ⟨S128, .i32⟩
  | 44 => ⟨S128x1, .i32⟩
  | 45 => ⟨S128x256, .i32⟩
  | 46 => ⟨S128x256, .i32⟩
  | 47 => ⟨S128x256, .i32⟩
  | 48 => ⟨S128x256, .i32⟩
  | 49 => ⟨S_, .i32⟩
  | 50 => ⟨S128x256, .i32⟩
  | 51 => ⟨S128x256, .i1⟩
  | 52 => ⟨S_, .i32⟩
  | 53 => ⟨S128x256, .i32⟩
  | 54 => ⟨S128x256, .i32⟩
  | 55 => ⟨S_, .i32⟩
  | 56 => ⟨S128x256, .i32⟩
  | 57 => ⟨S128x256, .i1⟩
  | 58 => ⟨S_, .i32⟩
  | 59 => ⟨S_, .i32⟩
  | 60 => ⟨S128x256, .i32⟩
  | 61 => ⟨S128x256, .i32⟩
  | 62 => ⟨S128x256, .i32⟩
  | 63 => ⟨S128x256, .i32⟩
  | 64 => ⟨S_, .i32⟩
  | 65 => ⟨S128x256, .i32⟩
  | 66 => ⟨S128x256, .i32⟩
  | 67 => ⟨S128x256, .f32⟩
  | 68 => ⟨S_, .f32⟩
  | 69 => ⟨S128x256, .f32⟩
  | 70 => ⟨S128x256, .f32⟩
  | 71 => ⟨S128x256, .f32⟩
  | 72 => ⟨S_, .f32⟩
  | 73 => ⟨S128x256, .f32⟩
  | 74 => ⟨S128x256, .f32⟩
  | 75 => ⟨S_, .f32⟩
  | 76 => ⟨S128x256, .f32⟩
  | 77 => ⟨S128x256, .f32⟩
  | 78 => ⟨S128x256, .i32⟩
  | 79 => ⟨S_, .i32⟩
  | 80 => ⟨S128x256, .i32⟩
  | 81 => ⟨S128x256, .i32⟩
  | 82 => ⟨S_, .i32⟩
  | 83 => ⟨S128x256, .i32⟩
  | 84 => ⟨S128x256, .i32⟩
  | 85 => ⟨S_, .i32⟩
  | 86 => ⟨S128x256, .i32⟩
  | 87 => ⟨S128x256, .i1⟩
  | 88 => ⟨S128x256, .i32⟩
  | 89 => ⟨S128x256, .i32⟩
  | 90 => ⟨S128x256, .i32⟩
  | 91 => ⟨S_, .i32⟩
  | 92 => ⟨S128x256, .i32⟩
  | 93 => ⟨S128x256, .i1⟩
  | 94 => ⟨S_, .i32⟩
  | 95 => ⟨S128x256, .i32⟩
  | 96 => ⟨S128x256, .i32⟩
  | 97 => ⟨S128x256, .i32⟩
  | 98 => ⟨S128x256x1, .i32⟩
  | 99 => ⟨S128x256x4, .f32⟩
  | 100 => ⟨S4x128x256, .f32⟩
  | 101 => ⟨S_, .f32⟩
  | 102 => ⟨S_, .f32⟩
  | 103 => ⟨S4x128x256, .i1⟩
  | 104 => ⟨S4x128x256, .f32⟩
  | 105 => ⟨S4x128x256, .f32⟩
  | 106 => ⟨S512x16x256, .bf16⟩
  | 107 => ⟨S16x512x256, .bf16⟩
  | 108 => ⟨S8192x256, .bf16⟩
  | 109 => ⟨S512x16x256, .bf16⟩
  | 110 => ⟨S16x512x256, .bf16⟩
  | 111 => ⟨S8192x256, .bf16⟩
  | 112 => ⟨S512x16x256, .bf16⟩
  | 113 => ⟨S16x512x256, .bf16⟩
  | 114 => ⟨S8192x256, .bf16⟩
  | 115 => ⟨S16x512x4x1, .f32⟩
  | 116 => ⟨S16x512x4x64, .f32⟩
  | 117 => ⟨S8192x256, .f32⟩
  | 118 => ⟨S512x16x256, .bf16⟩
  | 119 => ⟨S16x512x256, .bf16⟩
  | 120 => ⟨S8192x256, .bf16⟩
  | 121 => ⟨S16x512x4x1, .f32⟩
  | 122 => ⟨S16x512x4x64, .f32⟩
  | 123 => ⟨S8192x256, .f32⟩
  | 124 => ⟨S8192x256, .bf16⟩
  | 125 => ⟨S8192x256, .bf16⟩
  | 126 => ⟨S8192x256, .bf16⟩
  | 127 => ⟨S4x128x256, .f32⟩
  | _ => ⟨S8192x256, .bf16⟩

abbrev hbmTy (i : Nat) : BufTy := match i / 128 with
  | 0 => hbmTy0_0 i
  | 1 => hbmTy0_1 i
  | _ => ⟨S8192x256, .bf16⟩

abbrev bufTy : (tb : Table) → Fin (tcTables nBuf tb) → BufTy
  | .hbm, ⟨i, _⟩ => hbmTy i
  | .local _ .vmem, ⟨0, _⟩ => ⟨S512x256, .bf16⟩
  | .local _ .vmem, ⟨1, _⟩ => ⟨S512x256, .bf16⟩
  | .local _ .vmem, ⟨2, _⟩ => ⟨S64x256, .bf16⟩
  | .local _ .vmem, ⟨3, _⟩ => ⟨S64x256, .bf16⟩
  | .local _ .vmem, ⟨4, _⟩ => ⟨S512x256, .bf16⟩
  | .local _ .vmem, ⟨5, _⟩ => ⟨S512x256, .bf16⟩
  | .local _ .vmem, ⟨6, _⟩ => ⟨S64x256, .bf16⟩
  | .local _ .vmem, ⟨7, _⟩ => ⟨S64x256, .bf16⟩
  | .local _ .vmem, ⟨8, _⟩ => ⟨S64x256, .bf16⟩
  | .local _ .vmem, ⟨9, _⟩ => ⟨S64x256, .bf16⟩
  | .local _ .vmem, ⟨10, _⟩ => ⟨S512x256, .bf16⟩
  | .local _ .vmem, ⟨11, _⟩ => ⟨S512x256, .bf16⟩
  | .local _ .vmem, ⟨12, _⟩ => ⟨S64x256, .bf16⟩
  | .local _ .vmem, ⟨13, _⟩ => ⟨S64x256, .bf16⟩
  | .local _ .vmem, ⟨14, _⟩ => ⟨S4x128x256, .f32⟩
  | .local _ .vmem, ⟨15, _⟩ => ⟨S512x256, .f32⟩
  | .local _ .vmem, ⟨16, _⟩ => ⟨S512x256, .f32⟩
  | .local _ .vmem, ⟨17, _⟩ => ⟨S512x256, .bf16⟩
  | .local _ .vmem, ⟨18, _⟩ => ⟨S512x256, .bf16⟩
  | .local _ .vmem, ⟨19, _⟩ => ⟨S512x256, .f32⟩
  | .local _ .vmem, ⟨20, _⟩ => ⟨S512x256, .f32⟩
  | .local _ .vmem, ⟨21, _⟩ => ⟨S512x256, .bf16⟩
  | .local _ .vmem, ⟨22, _⟩ => ⟨S512x256, .bf16⟩
  | .local _ .vmem, ⟨23, _⟩ => ⟨S512x256, .bf16⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | .local _ .vmem, ⟨27, _⟩ => ⟨S4x128x256, .f32⟩
  | .local _ .vmem, ⟨28, _⟩ => ⟨S256x1152, .f32⟩
  | .local _ .vmem, ⟨29, _⟩ => ⟨S256x1152, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c : Ref sig .tc := ⟨.hbm, 41, rfl⟩
abbrev main_v31 : Ref sig .tc := ⟨.hbm, 42, rfl⟩
abbrev main_v32 : Ref sig .tc := ⟨.hbm, 43, rfl⟩
abbrev main_c_0 : Ref sig .tc := ⟨.hbm, 44, rfl⟩
abbrev main_v33 : Ref sig .tc := ⟨.hbm, 45, rfl⟩
abbrev main_v34 : Ref sig .tc := ⟨.hbm, 46, rfl⟩
abbrev main_c_1 : Ref sig .tc := ⟨.hbm, 47, rfl⟩
abbrev main_v35 : Ref sig .tc := ⟨.hbm, 48, rfl⟩
abbrev main_v36 : Ref sig .tc := ⟨.hbm, 49, rfl⟩
abbrev main_c_2 : Ref sig .tc := ⟨.hbm, 50, rfl⟩
abbrev main_c_3 : Ref sig .tc := ⟨.hbm, 51, rfl⟩
abbrev main_call0_v0 : Ref sig .tc := ⟨.hbm, 52, rfl⟩
abbrev main_call0_v1 : Ref sig .tc := ⟨.hbm, 53, rfl⟩
abbrev main_v37 : Ref sig .tc := ⟨.hbm, 54, rfl⟩
abbrev main_v38 : Ref sig .tc := ⟨.hbm, 55, rfl⟩
abbrev main_c_4 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_13 : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_15 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_16 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_17 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_18 : Ref sig .tc := ⟨.hbm, 136, rfl⟩
abbrev main_v102 : Ref sig .tc := ⟨.hbm, 137, rfl⟩
abbrev main_cst_19 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_20 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_cst_21 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_cst_22 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_c_23 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_c_24 : Ref sig .tc := ⟨.hbm, 177, rfl⟩
abbrev main_v137 : Ref sig .tc := ⟨.hbm, 178, rfl⟩
abbrev main_v138 : Ref sig .tc := ⟨.hbm, 179, rfl⟩
abbrev main_c_25 : Ref sig .tc := ⟨.hbm, 180, rfl⟩
abbrev main_v139 : Ref sig .tc := ⟨.hbm, 181, rfl⟩
abbrev main_v140 : Ref sig .tc := ⟨.hbm, 182, rfl⟩
abbrev main_c_26 : Ref sig .tc := ⟨.hbm, 183, rfl⟩
abbrev main_v141 : Ref sig .tc := ⟨.hbm, 184, rfl⟩
abbrev main_v142 : Ref sig .tc := ⟨.hbm, 185, rfl⟩
abbrev main_c_27 : Ref sig .tc := ⟨.hbm, 186, rfl⟩
abbrev main_c_28 : Ref sig .tc := ⟨.hbm, 187, rfl⟩
abbrev main_call3_v0 : Ref sig .tc := ⟨.hbm, 188, rfl⟩
abbrev main_call3_v1 : Ref sig .tc := ⟨.hbm, 189, rfl⟩
abbrev main_v143 : Ref sig .tc := ⟨.hbm, 190, rfl⟩
abbrev main_v144 : Ref sig .tc := ⟨.hbm, 191, rfl⟩
abbrev main_c_29 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_cst_30 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_cst_31 : Ref sig .tc := ⟨.hbm, 200, rfl⟩
abbrev main_v151 : Ref sig .tc := ⟨.hbm, 201, rfl⟩
abbrev main_v152 : Ref sig .tc := ⟨.hbm, 202, rfl⟩
abbrev main_cst_32 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_c_33 : Ref sig .tc := ⟨.hbm, 207, rfl⟩
abbrev main_v156 : Ref sig .tc := ⟨.hbm, 208, rfl⟩
abbrev main_v157 : Ref sig .tc := ⟨.hbm, 209, rfl⟩
abbrev main_c_34 : Ref sig .tc := ⟨.hbm, 210, rfl⟩
abbrev main_v158 : Ref sig .tc := ⟨.hbm, 211, rfl⟩
abbrev main_v159 : Ref sig .tc := ⟨.hbm, 212, rfl⟩
abbrev main_c_35 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_c_36 : Ref sig .tc := ⟨.hbm, 219, rfl⟩
abbrev main_v165 : Ref sig .tc := ⟨.hbm, 220, rfl⟩
abbrev main_v166 : Ref sig .tc := ⟨.hbm, 221, rfl⟩
abbrev main_c_37 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_cst_38 : Ref sig .tc := ⟨.hbm, 229, rfl⟩
abbrev main_call5_v0 : Ref sig .tc := ⟨.hbm, 230, rfl⟩
abbrev main_call5_v1 : Ref sig .tc := ⟨.hbm, 231, rfl⟩
abbrev main_call5_v2 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192_0 : Ref sig .tc := ⟨.hbm, 252, rfl⟩
abbrev main_v192_1 : Ref sig .tc := ⟨.hbm, 253, rfl⟩
abbrev main_v192_2 : Ref sig .tc := ⟨.hbm, 254, rfl⟩
abbrev main_v192_3 : Ref sig .tc := ⟨.hbm, 255, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.minsi arg1 c0_i32
  let v2 : BitVec 32 := Scalar.addi v0 v1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.minsi arg1 c0_i32
  let v2 : BitVec 32 := Scalar.addi v0 v1
  let c8_i32 : BitVec 32 := 8#32
  let v3 : BitVec 32 := Scalar.muli v2 c8_i32
  let c1_i32_0 : BitVec 32 := 1#32
  let v4 : BitVec 32 := Scalar.subi v3 c1_i32_0
  let c0_i32_1 : BitVec 32 := 0#32
  let v5 : BitVec 32 := Scalar.maxsi v4 c0_i32_1
  let c0_i32_2 : BitVec 32 := 0#32
  let c0_i32_3 : BitVec 32 := 0#32
  ![v5.toNat, c0_i32_2.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.minsi arg1 c0_i32
  let v2 : BitVec 32 := Scalar.addi v0 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.minsi arg1 c0_i32
  let v2 : BitVec 32 := Scalar.addi v0 v1
  let c1_i32_0 : BitVec 32 := 1#32
  let v3 : BitVec 32 := Scalar.addi v2 c1_i32_0
  let c8_i32 : BitVec 32 := 8#32
  let v4 : BitVec 32 := Scalar.muli v3 c8_i32
  let c127_i32 : BitVec 32 := 127#32
  let v5 : BitVec 32 := Scalar.minsi v4 c127_i32
  let c0_i32_1 : BitVec 32 := 0#32
  let c0_i32_2 : BitVec 32 := 0#32
  ![v5.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.minsi arg1 c0_i32
  let v2 : BitVec 32 := Scalar.addi v0 v1
  let c8_i32 : BitVec 32 := 8#32
  let v3 : BitVec 32 := Scalar.muli v2 c8_i32
  let c1_i32_0 : BitVec 32 := 1#32
  let v4 : BitVec 32 := Scalar.subi v3 c1_i32_0
  let c0_i32_1 : BitVec 32 := 0#32
  let v5 : BitVec 32 := Scalar.maxsi v4 c0_i32_1
  let c0_i32_2 : BitVec 32 := 0#32
  let c0_i32_3 : BitVec 32 := 0#32
  ![v5.toNat, c0_i32_2.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.minsi arg1 c0_i32
  let v2 : BitVec 32 := Scalar.addi v0 v1
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.minsi arg1 c0_i32
  let v2 : BitVec 32 := Scalar.addi v0 v1
  let c1_i32_0 : BitVec 32 := 1#32
  let v3 : BitVec 32 := Scalar.addi v2 c1_i32_0
  let c8_i32 : BitVec 32 := 8#32
  let v4 : BitVec 32 := Scalar.muli v3 c8_i32
  let c127_i32 : BitVec 32 := 127#32
  let v5 : BitVec 32 := Scalar.minsi v4 c127_i32
  let c0_i32_1 : BitVec 32 := 0#32
  let c0_i32_2 : BitVec 32 := 0#32
  ![v5.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.minsi arg1 c0_i32
  let v2 : BitVec 32 := Scalar.addi v0 v1
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.minsi arg1 c0_i32
  let v2 : BitVec 32 := Scalar.addi v0 v1
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.minsi arg1 c0_i32
  let v2 : BitVec 32 := Scalar.addi v0 v1
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.minsi arg1 c0_i32
  let v2 : BitVec 32 := Scalar.addi v0 v1
  let c0_i32_0 : BitVec 32 := 0#32
  let c0_i32_1 : BitVec 32 := 0#32
  ![v2.toNat, c0_i32_0.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1_i32_0 : BitVec 32 := 1#32
  let v1 : BitVec 32 := Scalar.subi arg1 c1_i32_0
  let c0_i32 : BitVec 32 := 0#32
  let v2 : BitVec 32 := Scalar.maxsi v1 c0_i32
  let v3 : BitVec 32 := Scalar.addi v0 v2
  let c0_i32_1 : BitVec 32 := 0#32
  let c0_i32_2 : BitVec 32 := 0#32
  ![v3.toNat, c0_i32_1.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1_i32_0 : BitVec 32 := 1#32
  let v1 : BitVec 32 := Scalar.subi arg1 c1_i32_0
  let c0_i32 : BitVec 32 := 0#32
  let v2 : BitVec 32 := Scalar.maxsi v1 c0_i32
  let v3 : BitVec 32 := Scalar.addi v0 v2
  let c0_i32_1 : BitVec 32 := 0#32
  let c0_i32_2 : BitVec 32 := 0#32
  ![v3.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S4x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S4x128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== AttKernelIdeal.lean ====
variable {F : FTy → Type} [FloatOps F] [Named F]
def κ : String → Option EReal := fun
  | "mask" => some ⊥
  | _ => none
-- ==== AttReferenceIdeal.lean ====
abbrev S8192x256 : Shape := ⟨2, ![8192, 256]⟩
abbrev S32x4 : Shape := ⟨2, ![32, 4]⟩
abbrev S8192x4x64 : Shape := ⟨3, ![8192, 4, 64]⟩
abbrev S8192x4 : Shape := ⟨2, ![8192, 4]⟩
abbrev S512x16x4x64 : Shape := ⟨4, ![512, 16, 4, 64]⟩
abbrev S16x512x4x64 : Shape := ⟨4, ![16, 512, 4, 64]⟩
abbrev S512x16x4 : Shape := ⟨3, ![512, 16, 4]⟩
abbrev S16x512x4 : Shape := ⟨3, ![16, 512, 4]⟩
abbrev S16x4x512x512 : Shape := ⟨4, ![16, 4, 512, 512]⟩
abbrev S_ : Shape := ⟨0, ![]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S512x512x1 : Shape := ⟨3, ![512, 512, 1]⟩
abbrev S512x512x4 : Shape := ⟨3, ![512, 512, 4]⟩
abbrev S4x512x512 : Shape := ⟨3, ![4, 512, 512]⟩
abbrev S1x4x512x512 : Shape := ⟨4, ![1, 4, 512, 512]⟩
abbrev S16x4x512 : Shape := ⟨3, ![16, 4, 512]⟩
abbrev S16x4x512x1 : Shape := ⟨4, ![16, 4, 512, 1]⟩
abbrev S16x4x64x512 : Shape := ⟨4, ![16, 4, 64, 512]⟩
abbrev S1x16x512x4 : Shape := ⟨4, ![1, 16, 512, 4]⟩
abbrev S3x16x512x4 : Shape := ⟨4, ![3, 16, 512, 4]⟩
abbrev S3x16x512x4x1 : Shape := ⟨5, ![3, 16, 512, 4, 1]⟩
abbrev S1x16x512x4x64 : Shape := ⟨5, ![1, 16, 512, 4, 64]⟩
abbrev S3x16x512x4x64 : Shape := ⟨5, ![3, 16, 512, 4, 64]⟩
abbrev S16x4x512x64 : Shape := ⟨4, ![16, 4, 512, 64]⟩

abbrev nBuf : Space → Nat
  | .hbm => 272
  | .vmem => 0
  | .smem => 0
  | _ => 0

abbrev hbmTy0_0 (i : Nat) : BufTy := match i % 128 with
  | 0 => ⟨S8192x256, .bf16⟩
  | 1 => ⟨S8192x256, .bf16⟩
  | 2 => ⟨S8192x256, .bf16⟩
  | 3 => ⟨S32x4, .f32⟩
  | 4 => ⟨S8192x4x64, .f32⟩
  | 5 => ⟨S8192x4, .f32⟩
  | 6 => ⟨S8192x4x64, .f32⟩
  | 7 => ⟨S8192x4, .f32⟩
  | 8 => ⟨S8192x256, .bf16⟩
  | 9 => ⟨S512x16x4x64, .f32⟩
  | 10 => ⟨S16x512x4x64, .f32⟩
  | 11 => ⟨S512x16x4, .f32⟩
  | 12 => ⟨S16x512x4, .f32⟩
  | 13 => ⟨S512x16x4x64, .f32⟩
  | 14 => ⟨S16x512x4x64, .f32⟩
  | 15 => ⟨S512x16x4, .f32⟩
  | 16 => ⟨S16x512x4, .f32⟩
  | 17 => ⟨S8192x256, .f32⟩
  | 18 => ⟨S8192x4x64, .f32⟩
  | 19 => ⟨S512x16x4x64, .f32⟩
  | 20 => ⟨S16x512x4x64, .f32⟩
  | 21 => ⟨S8192x256, .f32⟩
  | 22 => ⟨S8192x4x64, .f32⟩
  | 23 => ⟨S512x16x4x64, .f32⟩
  | 24 => ⟨S16x512x4x64, .f32⟩
  | 25 => ⟨S8192x256, .f32⟩
  | 26 => ⟨S8192x4x64, .f32⟩
  | 27 => ⟨S512x16x4x64, .f32⟩
  | 28 => ⟨S16x512x4x64, .f32⟩
  | 29 => ⟨S16x4x512x512, .f32⟩
  | 30 => ⟨S_, .f32⟩
  | 31 => ⟨S16x4x512x512, .f32⟩
  | 32 => ⟨S16x4x512x512, .f32⟩
  | 33 => ⟨S512, .i32⟩
  | 34 => ⟨S1x512, .i32⟩
  | 35 => ⟨S512, .i32⟩
  | 36 => ⟨S512x1, .i32⟩
  | 37 => ⟨S512x512, .i32⟩
  | 38 => ⟨S512x512, .i32⟩
  | 39 => ⟨S512x512, .i32⟩
  | 40 => ⟨S512x512, .i32⟩
  | 41 => ⟨S_, .i32⟩
  | 42 => ⟨S512x512, .i32⟩
  | 43 => ⟨S512x512, .i1⟩
  | 44 => ⟨S_, .i32⟩
  | 45 => ⟨S512x512, .i32⟩
  | 46 => ⟨S512x512, .i32⟩
  | 47 => ⟨S_, .i32⟩
  | 48 => ⟨S512x512, .i32⟩
  | 49 => ⟨S512x512, .i1⟩
  | 50 => ⟨S_, .i32⟩
  | 51 => ⟨S_, .i32⟩
  | 52 => ⟨S512x512, .i32⟩
  | 53 => ⟨S512x512, .i32⟩
  | 54 => ⟨S512x512, .i32⟩
  | 55 => ⟨S512x512, .i32⟩
  | 56 => ⟨S_, .i32⟩
  | 57 => ⟨S512x512, .i32⟩
  | 58 => ⟨S512x512, .i32⟩
  | 59 => ⟨S512x512, .f32⟩
  | 60 => ⟨S_, .f32⟩
  | 61 => ⟨S512x512, .f32⟩
  | 62 => ⟨S512x512, .f32⟩
  | 63 => ⟨S512x512, .f32⟩
  | 64 => ⟨S_, .f32⟩
  | 65 => ⟨S512x512, .f32⟩
  | 66 => ⟨S512x512, .f32⟩
  | 67 => ⟨S_, .f32⟩
  | 68 => ⟨S512x512, .f32⟩
  | 69 => ⟨S512x512, .f32⟩
  | 70 => ⟨S512x512, .i32⟩
  | 71 => ⟨S_, .i32⟩
  | 72 => ⟨S512x512, .i32⟩
  | 73 => ⟨S512x512, .i32⟩
  | 74 => ⟨S_, .i32⟩
  | 75 => ⟨S512x512, .i32⟩
  | 76 => ⟨S512x512, .i32⟩
  | 77 => ⟨S_, .i32⟩
  | 78 => ⟨S512x512, .i32⟩
  | 79 => ⟨S512x512, .i1⟩
  | 80 => ⟨S512x512, .i32⟩
  | 81 => ⟨S512x512, .i32⟩
  | 82 => ⟨S512x512, .i32⟩
  | 83 => ⟨S_, .i32⟩
  | 84 => ⟨S512x512, .i32⟩
  | 85 => ⟨S512x512, .i1⟩
  | 86 => ⟨S_, .i32⟩
  | 87 => ⟨S512x512, .i32⟩
  | 88 => ⟨S512x512, .i32⟩
  | 89 => ⟨S512x512, .i32⟩
  | 90 => ⟨S512x512x1, .i32⟩
  | 91 => ⟨S512x512x4, .f32⟩
  | 92 => ⟨S4x512x512, .f32⟩
  | 93 => ⟨S_, .f32⟩
  | 94 => ⟨S_, .f32⟩
  | 95 => ⟨S4x512x512, .i1⟩
  | 96 => ⟨S4x512x512, .f32⟩
  | 97 => ⟨S4x512x512, .f32⟩
  | 98 => ⟨S1x4x512x512, .f32⟩
  | 99 => ⟨S16x4x512x512, .f32⟩
  | 100 => ⟨S16x4x512x512, .f32⟩
  | 101 => ⟨S_, .f32⟩
  | 102 => ⟨S16x4x512, .f32⟩
  | 103 => ⟨S16x4x512x1, .f32⟩
  | 104 => ⟨S16x4x512x512, .f32⟩
  | 105 => ⟨S16x4x512x512, .i1⟩
  | 106 => ⟨S16x4x512x512, .f32⟩
  | 107 => ⟨S_, .f32⟩
  | 108 => ⟨S16x4x512, .f32⟩
  | 109 => ⟨S16x4x512x1, .f32⟩
  | 110 => ⟨S16x4x512x512, .f32⟩
  | 111 => ⟨S16x4x512x512, .f32⟩
  | 112 => ⟨S16x4x512x512, .f32⟩
  | 113 => ⟨S_, .f32⟩
  | 114 => ⟨S16x4x512, .f32⟩
  | 115 => ⟨S16x4x512x1, .f32⟩
  | 116 => ⟨S16x4x512x1, .f32⟩
  | 117 => ⟨S16x4x512x1, .f32⟩
  | 118 => ⟨S16x4x512, .f32⟩
  | 119 => ⟨S16x512x4, .f32⟩
  | 120 => ⟨S16x4x512x512, .f32⟩
  | 121 => ⟨S16x4x512x512, .f32⟩
  | 122 => ⟨S16x4x512x1, .f32⟩
  | 123 => ⟨S_, .f32⟩
  | 124 => ⟨S16x4x512x1, .f32⟩
  | 125 => ⟨S16x4x512x1, .f32⟩
  | 126 => ⟨S16x4x64x512, .f32⟩
  | 127 => ⟨S16x512x4x64, .f32⟩
  | _ => ⟨S8192x256, .bf16⟩

abbrev hbmTy0_1 (i : Nat) : BufTy := match i % 128 with
  | 0 => ⟨S1x16x512x4, .f32⟩
  | 1 => ⟨S1x16x512x4, .f32⟩
  | 2 => ⟨S1x16x512x4, .f32⟩
  | 3 => ⟨S3x16x512x4, .f32⟩
  | 4 => ⟨S_, .f32⟩
  | 5 => ⟨S16x512x4, .f32⟩
  | 6 => ⟨S_, .f32⟩
  | 7 => ⟨S16x512x4, .f32⟩
  | 8 => ⟨S_, .f32⟩
  | 9 => ⟨S16x512x4, .f32⟩
  | 10 => ⟨S1x16x512x4, .f32⟩
  | 11 => ⟨S3x16x512x4, .f32⟩
  | 12 => ⟨S3x16x512x4, .i1⟩
  | 13 => ⟨S3x16x512x4, .f32⟩
  | 14 => ⟨S_, .f32⟩
  | 15 => ⟨S16x512x4, .f32⟩
  | 16 => ⟨S_, .f32⟩
  | 17 => ⟨S16x512x4, .f32⟩
  | 18 => ⟨S16x512x4, .f32⟩
  | 19 => ⟨S_, .f32⟩
  | 20 => ⟨S16x512x4, .f32⟩
  | 21 => ⟨S16x512x4, .i1⟩
  | 22 => ⟨S_, .f32⟩
  | 23 => ⟨S16x512x4, .f32⟩
  | 24 => ⟨S16x512x4, .i1⟩
  | 25 => ⟨S_, .f32⟩
  | 26 => ⟨S16x512x4, .f32⟩
  | 27 => ⟨S_, .f32⟩
  | 28 => ⟨S16x512x4, .f32⟩
  | 29 => ⟨S_, .f32⟩
  | 30 => ⟨S16x512x4, .f32⟩
  | 31 => ⟨S16x512x4, .f32⟩
  | 32 => ⟨S16x512x4, .f32⟩
  | 33 => ⟨S1x16x512x4, .f32⟩
  | 34 => ⟨S3x16x512x4, .f32⟩
  | 35 => ⟨S3x16x512x4, .f32⟩
  | 36 => ⟨S3x16x512x4, .f32⟩
  | 37 => ⟨S_, .f32⟩
  | 38 => ⟨S16x512x4, .f32⟩
  | 39 => ⟨S1x16x512x4, .f32⟩
  | 40 => ⟨S3x16x512x4, .f32⟩
  | 41 => ⟨S3x16x512x4, .f32⟩
  | 42 => ⟨S1x16x512x4, .f32⟩
  | 43 => ⟨S_, .f32⟩
  | 44 => ⟨S1x16x512x4, .f32⟩
  | 45 => ⟨S1x16x512x4, .f32⟩
  | 46 => ⟨S3x16x512x4x1, .f32⟩
  | 47 => ⟨S1x16x512x4x64, .f32⟩
  | 48 => ⟨S1x16x512x4x64, .f32⟩
  | 49 => ⟨S1x16x512x4x64, .f32⟩
  | 50 => ⟨S3x16x512x4x64, .f32⟩
  | 51 => ⟨S_, .f32⟩
  | 52 => ⟨S16x512x4x64, .f32⟩
  | 53 => ⟨S_, .f32⟩
  | 54 => ⟨S16x512x4x64, .f32⟩
  | 55 => ⟨S3x16x512x4x64, .f32⟩
  | 56 => ⟨S3x16x512x4x64, .f32⟩
  | 57 => ⟨S_, .f32⟩
  | 58 => ⟨S16x512x4x64, .f32⟩
  | 59 => ⟨S8192x256, .f32⟩
  | 60 => ⟨S8192x4x64, .f32⟩
  | 61 => ⟨S512x16x4x64, .f32⟩
  | 62 => ⟨S16x512x4x64, .f32⟩
  | 63 => ⟨S3x16x512x4x64, .f32⟩
  | 64 => ⟨S3x16x512x4x64, .f32⟩
  | 65 => ⟨S3x16x512x4x64, .f32⟩
  | 66 => ⟨S3x16x512x4x64, .f32⟩
  | 67 => ⟨S_, .f32⟩
  | 68 => ⟨S3x16x512x4, .f32⟩
  | 69 => ⟨S3x16x512x4x1, .f32⟩
  | 70 => ⟨S1x16x512x4x64, .f32⟩
  | 71 => ⟨S16x512x4x64, .f32⟩
  | 72 => ⟨S1x16x512x4x64, .f32⟩
  | 73 => ⟨S16x512x4x64, .f32⟩
  | 74 => ⟨S1x16x512x4x64, .f32⟩
  | 75 => ⟨S16x512x4x64, .f32⟩
  | 76 => ⟨S_, .f32⟩
  | 77 => ⟨S3x16x512x4, .f32⟩
  | 78 => ⟨S3x16x512x4, .f32⟩
  | 79 => ⟨S3x16x512x4, .f32⟩
  | 80 => ⟨S3x16x512x4, .f32⟩
  | 81 => ⟨S_, .f32⟩
  | 82 => ⟨S16x512x4, .f32⟩
  | 83 => ⟨S1x16x512x4, .f32⟩
  | 84 => ⟨S1x16x512x4, .f32⟩
  | 85 => ⟨S3x16x512x4, .f32⟩
  | 86 => ⟨S3x16x512x4, .f32⟩
  | 87 => ⟨S_, .f32⟩
  | 88 => ⟨S16x512x4, .f32⟩
  | 89 => ⟨S3x16x512x4, .f32⟩
  | 90 => ⟨S3x16x512x4, .f32⟩
  | 91 => ⟨S3x16x512x4, .f32⟩
  | 92 => ⟨S1x16x512x4, .f32⟩
  | 93 => ⟨S16x512x4, .f32⟩
  | 94 => ⟨S1x16x512x4, .f32⟩
  | 95 => ⟨S16x512x4, .f32⟩
  | 96 => ⟨S1x16x512x4, .f32⟩
  | 97 => ⟨S16x512x4, .f32⟩
  | 98 => ⟨S16x4x64x512, .f32⟩
  | 99 => ⟨S16x4x512x512, .f32⟩
  | 100 => ⟨S16x4x64x512, .f32⟩
  | 101 => ⟨S16x512x4x64, .f32⟩
  | 102 => ⟨S16x4x512x512, .f32⟩
  | 103 => ⟨S16x4x512x512, .f32⟩
  | 104 => ⟨S16x4x512x512, .f32⟩
  | 105 => ⟨S_, .f32⟩
  | 106 => ⟨S16x4x512, .f32⟩
  | 107 => ⟨S16x4x512x1, .f32⟩
  | 108 => ⟨S16x4x512x1, .f32⟩
  | 109 => ⟨S16x4x512x512, .f32⟩
  | 110 => ⟨S16x4x512x512, .f32⟩
  | 111 => ⟨S16x4x512, .f32⟩
  | 112 => ⟨S16x4x512x1, .f32⟩
  | 113 => ⟨S16x4x512x1, .f32⟩
  | 114 => ⟨S16x4x512x1, .f32⟩
  | 115 => ⟨S_, .f32⟩
  | 116 => ⟨S16x4x512, .f32⟩
  | 117 => ⟨S16x4x512x512, .f32⟩
  | 118 => ⟨S16x4x512x512, .f32⟩
  | 119 => ⟨S16x4x512x512, .f32⟩
  | 120 => ⟨S16x4x512x512, .f32⟩
  | 121 => ⟨S_, .f32⟩
  | 122 => ⟨S16x4x512, .f32⟩
  | 123 => ⟨S16x4x512x1, .f32⟩
  | 124 => ⟨S16x4x512x1, .f32⟩
  | 125 => ⟨S_, .f32⟩
  | 126 => ⟨S16x4x512, .f32⟩
  | 127 => ⟨S16x4x512, .f32⟩
  | _ => ⟨S8192x256, .bf16⟩

abbrev hbmTy0_2 (i : Nat) : BufTy := match i % 128 with
  | 0 => ⟨S16x4x512x512, .f32⟩
  | 1 => ⟨S16x4x512x512, .f32⟩
  | 2 => ⟨S16x4x512x512, .f32⟩
  | 3 => ⟨S_, .f32⟩
  | 4 => ⟨S16x4x512x512, .f32⟩
  | 5 => ⟨S16x4x512x512, .f32⟩
  | 6 => ⟨S16x4x512x64, .f32⟩
  | 7 => ⟨S16x512x4x64, .f32⟩
  | 8 => ⟨S16x4x512x64, .f32⟩
  | 9 => ⟨S16x512x4x64, .f32⟩
  | 10 => ⟨S8192x256, .f32⟩
  | 11 => ⟨S8192x256, .bf16⟩
  | 12 => ⟨S8192x256, .f32⟩
  | 13 => ⟨S8192x256, .bf16⟩
  | 14 => ⟨S8192x256, .f32⟩
  | 15 => ⟨S8192x256, .bf16⟩
  | _ => ⟨S8192x256, .bf16⟩

abbrev hbmTy (i : Nat) : BufTy := match i / 128 with
  | 0 => hbmTy0_0 i
  | 1 => hbmTy0_1 i
  | 2 => hbmTy0_2 i
  | _ => ⟨S8192x256, .bf16⟩

abbrev bufTy : (tb : Table) → Fin (tcTables nBuf tb) → BufTy
  | .hbm, ⟨i, _⟩ => hbmTy i
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c : Ref sig .tc := ⟨.hbm, 41, rfl⟩
abbrev main_v31 : Ref sig .tc := ⟨.hbm, 42, rfl⟩
abbrev main_v32 : Ref sig .tc := ⟨.hbm, 43, rfl⟩
abbrev main_c_0 : Ref sig .tc := ⟨.hbm, 44, rfl⟩
abbrev main_v33 : Ref sig .tc := ⟨.hbm, 45, rfl⟩
abbrev main_v34 : Ref sig .tc := ⟨.hbm, 46, rfl⟩
abbrev main_c_1 : Ref sig .tc := ⟨.hbm, 47, rfl⟩
abbrev main_v35 : Ref sig .tc := ⟨.hbm, 48, rfl⟩
abbrev main_v36 : Ref sig .tc := ⟨.hbm, 49, rfl⟩
abbrev main_c_2 : Ref sig .tc := ⟨.hbm, 50, rfl⟩
abbrev main_c_3 : Ref sig .tc := ⟨.hbm, 51, rfl⟩
abbrev main_call0_v0 : Ref sig .tc := ⟨.hbm, 52, rfl⟩
abbrev main_call0_v1 : Ref sig .tc := ⟨.hbm, 53, rfl⟩
abbrev main_v37 : Ref sig .tc := ⟨.hbm, 54, rfl⟩
abbrev main_v38 : Ref sig .tc := ⟨.hbm, 55, rfl⟩
abbrev main_c_4 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_13 : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_15 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_16 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_17 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_18 : Ref sig .tc := ⟨.hbm, 132, rfl⟩
abbrev main_v98 : Ref sig .tc := ⟨.hbm, 133, rfl⟩
abbrev main_cst_19 : Ref sig .tc := ⟨.hbm, 134, rfl⟩
abbrev main_v99 : Ref sig .tc := ⟨.hbm, 135, rfl⟩
abbrev main_cst_20 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_21 : Ref sig .tc := ⟨.hbm, 142, rfl⟩
abbrev main_v105 : Ref sig .tc := ⟨.hbm, 143, rfl⟩
abbrev main_cst_22 : Ref sig .tc := ⟨.hbm, 144, rfl⟩
abbrev main_v106 : Ref sig .tc := ⟨.hbm, 145, rfl⟩
abbrev main_v107 : Ref sig .tc := ⟨.hbm, 146, rfl⟩
abbrev main_cst_23 : Ref sig .tc := ⟨.hbm, 147, rfl⟩
abbrev main_v108 : Ref sig .tc := ⟨.hbm, 148, rfl⟩
abbrev main_v109 : Ref sig .tc := ⟨.hbm, 149, rfl⟩
abbrev main_cst_24 : Ref sig .tc := ⟨.hbm, 150, rfl⟩
abbrev main_v110 : Ref sig .tc := ⟨.hbm, 151, rfl⟩
abbrev main_v111 : Ref sig .tc := ⟨.hbm, 152, rfl⟩
abbrev main_cst_25 : Ref sig .tc := ⟨.hbm, 153, rfl⟩
abbrev main_v112 : Ref sig .tc := ⟨.hbm, 154, rfl⟩
abbrev main_cst_26 : Ref sig .tc := ⟨.hbm, 155, rfl⟩
abbrev main_v113 : Ref sig .tc := ⟨.hbm, 156, rfl⟩
abbrev main_cst_27 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_cst_28 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_cst_29 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_cst_30 : Ref sig .tc := ⟨.hbm, 179, rfl⟩
abbrev main_v133 : Ref sig .tc := ⟨.hbm, 180, rfl⟩
abbrev main_cst_31 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_cst_32 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_cst_33 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_cst_34 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_cst_35 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_cst_36 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_cst_37 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_cst_38 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_cst_39 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_cst_40 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_cst_41 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩

abbrev nD : Nat := 1
abbrev τ : Topo := Topo.v7x

variable {F : FTy → Type} [FloatOps F]
-- ==== WeightKernel.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SwigluKernel.lean ====
abbrev S8192x1024 : Shape := ⟨2, ![8192, 1024]⟩
abbrev S5632x1024 : Shape := ⟨2, ![5632, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩
abbrev S512x1024 : Shape := ⟨2, ![512, 1024]⟩
abbrev S1024x512 : Shape := ⟨2, ![1024, 512]⟩
abbrev S384x1024 : Shape := ⟨2, ![384, 1024]⟩
abbrev S1024x384 : Shape := ⟨2, ![1024, 384]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SwigluReferenceIdeal.lean ====
abbrev S8192x1024 : Shape := ⟨2, ![8192, 1024]⟩
abbrev S5632x1024 : Shape := ⟨2, ![5632, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x1024, .f32⟩
  | .hbm, ⟨3, _⟩ => ⟨S5632x1024, .f32⟩
  | .hbm, ⟨4, _⟩ => ⟨S1024x5632, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S8192x2816, .bf16⟩
  | .hbm, ⟨9, _⟩ => ⟨S8192x2816, .bf16⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== GateKernel.lean ====
abbrev S8192x1024 : Shape := ⟨2, ![8192, 1024]⟩
abbrev S3072x1024 : Shape := ⟨2, ![3072, 1024]⟩
abbrev S8192x3072 : Shape := ⟨2, ![8192, 3072]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S8192x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateReferenceIdeal.lean ====
abbrev S8192x1024 : Shape := ⟨2, ![8192, 1024]⟩
abbrev S3072x1024 : Shape := ⟨2, ![3072, 1024]⟩
abbrev S1024x3072 : Shape := ⟨2, ![1024, 3072]⟩
abbrev S8192x3072 : Shape := ⟨2, ![8192, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S8192x1024, .f32⟩
  | .hbm, ⟨3, _⟩ => ⟨S3072x1024, .f32⟩
  | .hbm, ⟨4, _⟩ => ⟨S1024x3072, .f32⟩
  | .hbm, ⟨5, _⟩ => ⟨S8192x3072, .f32⟩
  | .hbm, ⟨6, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== QkvKernel.lean ====
abbrev S8192x1024 : Shape := ⟨2, ![8192, 1024]⟩
abbrev S2304x1024 : Shape := ⟨2, ![2304, 1024]⟩
abbrev S8192x2304 : Shape := ⟨2, ![8192, 2304]⟩
abbrev S2048x1024 : Shape := ⟨2, ![2048, 1024]⟩
abbrev S1152x1024 : Shape := ⟨2, ![1152, 1024]⟩
abbrev S2048x1152 : Shape := ⟨2, ![2048, 1152]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2304x1024, .bf16⟩
  | .hbm, ⟨2, _⟩ => ⟨S8192x2304, .bf16⟩
  | .local _ .vmem, ⟨0, _⟩ => ⟨S2048x1024, .bf16⟩
  | .local _ .vmem, ⟨1, _⟩ => ⟨S2048x1024, .bf16⟩
  | .local _ .vmem, ⟨2, _⟩ => ⟨S1152x1024, .bf16⟩
  | .local _ .vmem, ⟨3, _⟩ => ⟨S1152x1024, .bf16⟩
  | .local _ .vmem, ⟨4, _⟩ => ⟨S2048x1152, .bf16⟩
  | .local _ .vmem, ⟨5, _⟩ => ⟨S2048x1152, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvReferenceIdeal.lean ====
abbrev S8192x1024 : Shape := ⟨2, ![8192, 1024]⟩
abbrev S2304x1024 : Shape := ⟨2, ![2304, 1024]⟩
abbrev S1024x2304 : Shape := ⟨2, ![1024, 2304]⟩
abbrev S8192x2304 : Shape := ⟨2, ![8192, 2304]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2304x1024, .bf16⟩
  | .hbm, ⟨2, _⟩ => ⟨S8192x1024, .f32⟩
  | .hbm, ⟨3, _⟩ => ⟨S2304x1024, .f32⟩
  | .hbm, ⟨4, _⟩ => ⟨S1024x2304, .f32⟩
  | .hbm, ⟨5, _⟩ => ⟨S8192x2304, .f32⟩
  | .hbm, ⟨6, _⟩ => ⟨S8192x2304, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ConvKernel.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvReferenceIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S8192x1024, .f32⟩
  | .hbm, ⟨6, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GateGradKernel.lean ====
abbrev S8192x3072 : Shape := ⟨2, ![8192, 3072]⟩
abbrev S8192x1024 : Shape := ⟨2, ![8192, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3072x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateGradReferenceIdeal.lean ====
abbrev S8192x3072 : Shape := ⟨2, ![8192, 3072]⟩
abbrev S8192x1024 : Shape := ⟨2, ![8192, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 12
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x3072, .f32⟩
  | .hbm, ⟨3, _⟩ => ⟨S8192x1024, .f32⟩
  | .hbm, ⟨4, _⟩ => ⟨S_, .f32⟩
  | .hbm, ⟨5, _⟩ => ⟨S3072x1024, .f32⟩
  | .hbm, ⟨6, _⟩ => ⟨S1024x3072, .f32⟩
  | .hbm, ⟨7, _⟩ => ⟨S8192x3072, .f32⟩
  | .hbm, ⟨8, _⟩ => ⟨S3072x1024, .f32⟩
  | .hbm, ⟨9, _⟩ => ⟨S1024x3072, .f32⟩
  | .hbm, ⟨10, _⟩ => ⟨S3072x1024, .f32⟩
  | .hbm, ⟨11, _⟩ => ⟨S3072x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== QkvGradKernel.lean ====
abbrev S8192x2304 : Shape := ⟨2, ![8192, 2304]⟩
abbrev S8192x1024 : Shape := ⟨2, ![8192, 1024]⟩
abbrev S2304x1024 : Shape := ⟨2, ![2304, 1024]⟩
abbrev S2048x1152 : Shape := ⟨2, ![2048, 1152]⟩
abbrev S2048x1024 : Shape := ⟨2, ![2048, 1024]⟩
abbrev S1152x1024 : Shape := ⟨2, ![1152, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2304, .bf16⟩
  | .hbm, ⟨1, _⟩ => ⟨S8192x1024, .bf16⟩
  | .hbm, ⟨2, _⟩ => ⟨S2304x1024, .bf16⟩
  | .local _ .vmem, ⟨0, _⟩ => ⟨S2048x1152, .bf16⟩
  | .local _ .vmem, ⟨1, _⟩ => ⟨S2048x1152, .bf16⟩
  | .local _ .vmem, ⟨2, _⟩ => ⟨S2048x1024, .bf16⟩
  | .local _ .vmem, ⟨3, _⟩ => ⟨S2048x1024, .bf16⟩
  | .local _ .vmem, ⟨4, _⟩ => ⟨S1152x1024, .bf16⟩
  | .local _ .vmem, ⟨5, _⟩ => ⟨S1152x1024, .bf16⟩
  | .local _ .vmem, ⟨6, _⟩ => ⟨S1152x1024, .f32⟩
  | _, _ => ⟨S8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvGradReferenceIdeal.lean ====
abbrev S8192x2304 : Shape := ⟨2, ![8192, 2304]⟩
abbrev S8192x1024 : Shape := ⟨2, ![8192, 1024]⟩
abbrev S_ : Shape := ⟨0, ![]⟩
abbrev S2304x1024 : Shape := ⟨2, ![2304, 1024]⟩
abbrev S1024x2304 : Shape := ⟨2, ![1024, 2304]⟩

abbrev nBuf : Space → Nat
  | .hbm => 12
  | .vmem => 0
  | .smem => 0
  | _ => 0

abbrev bufTy : (tb : Table) → Fin (tcTables nBuf tb) → BufTy
  | .hbm, ⟨0, _⟩ => ⟨S8192x2304, .bf16⟩
  | .hbm, ⟨1, _⟩ => ⟨S8192x1024, .bf16⟩
  | .hbm, ⟨2, _⟩ => ⟨S8192x2304, .f32⟩
  | .hbm, ⟨3, _⟩ => ⟨S8192x1024, .f32⟩
  | .hbm, ⟨4, _⟩ => ⟨S_, .f32⟩
  | .hbm, ⟨5, _⟩ => ⟨S2304x1024, .f32⟩
  | .hbm, ⟨6, _⟩ => ⟨S1024x2304, .f32⟩
  | .hbm, ⟨7, _⟩ => ⟨S8192x2304, .f32⟩
  | .hbm, ⟨8, _⟩ => ⟨S2304x1024, .f32⟩
  | .hbm, ⟨9, _⟩ => ⟨S1024x2304, .f32⟩
  | .hbm, ⟨10, _⟩ => ⟨S2304x1024, .f32⟩
  | .hbm, ⟨11, _⟩ => ⟨S2304x1024, .bf16⟩
  | _, _ => ⟨S8192x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ConvGradKernel.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ConvGradReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InputKernel.lean ====
abbrev S8192x2816 : Shape := ⟨2, ![8192, 2816]⟩
abbrev S5632x1024 : Shape := ⟨2, ![5632, 1024]⟩
abbrev S2816x1024 : Shape := ⟨2, ![2816, 1024]⟩
abbrev S8192x1024 : Shape := ⟨2, ![8192, 1024]⟩
abbrev S1024x1408 : Shape := ⟨2, ![1024, 1408]⟩
abbrev S1024x1024 : Shape := ⟨2, ![1024, 1024]⟩
abbrev S2 : Shape := ⟨1, ![2]⟩
abbrev S1 : Shape := ⟨1, ![1]⟩
abbrev S_ : Shape := ⟨0, ![]⟩
abbrev S1408x1024 : Shape := ⟨2, ![1408, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S5632x1024, .bf16⟩
  | .hbm, ⟨3, _⟩ => ⟨S2816x1024, .bf16⟩
  | .hbm, ⟨4, _⟩ => ⟨S2816x1024, .bf16⟩
  | .hbm, ⟨5, _⟩ => ⟨S8192x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S2816x1024, .bf16⟩
  | .local _ .vmem, ⟨8, _⟩ => ⟨S2816x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c0_i32_2 : BitVec 32 := 0#32
  let v5 : BitVec 1 := Scalar.cmpi .sge arg1 c0_i32_2
  let c2_i32 : BitVec 32 := 2#32
  let v6 : BitVec 1 := Scalar.cmpi .slt arg1 c2_i32
  let v7 : BitVec 1 := Scalar.andi v5 v6
  let v8 : BitVec 32 := Scalar.extui v7
  let c0_i32_3 : BitVec 32 := 0#32
  let v9 : BitVec 1 := Scalar.cmpi .ne v8 c0_i32_3
  v9

def k0_mult1 (i : grid0.Coords) : BitVec 32 :=
  let arg1 : BitVec 32 := BitVec.ofNat 32 (i 1).val
  let c0_i32_8 : BitVec 32 := 0#32
  let v19 : BitVec 32 := Scalar.subi arg1 c0_i32_8
  let c1408_i32 : BitVec 32 := 1408#32
  let v20 : BitVec 32 := Scalar.muli v19 c1408_i32
  v20
def k0_off1 (i : grid0.Coords) : Fin 2 → Nat :=
  let arg1 : BitVec 32 := BitVec.ofNat 32 (i 1).val
  let c0_i32_8 : BitVec 32 := 0#32
  let v19 : BitVec 32 := Scalar.subi arg1 c0_i32_8
  let c1408_i32 : BitVec 32 := 1408#32
  let v20 : BitVec 32 := Scalar.muli v19 c1408_i32
  let v21 : BitVec 32 := v20
  let v22 : Index := Scalar.indexCast v21
  let c0_9 : Index := 0#32
  ![v22.toNat, 0]
def k0_cond5 (i : grid0.Coords) : BitVec 1 :=
  let arg1 : BitVec 32 := BitVec.ofNat 32 (i 1).val
  let c2_i32_4 : BitVec 32 := 2#32
  let v10 : BitVec 1 := Scalar.cmpi .sge arg1 c2_i32_4
  let c4_i32 : BitVec 32 := 4#32
  let v11 : BitVec 1 := Scalar.cmpi .slt arg1 c4_i32
  let v12 : BitVec 1 := Scalar.andi v10 v11
  let v13 : BitVec 32 := Scalar.extui v12
  let c0_i32_5 : BitVec 32 := 0#32
  let v14 : BitVec 1 := Scalar.cmpi .ne v13 c0_i32_5
  v14

def k0_mult2 (i : grid0.Coords) : BitVec 32 :=
  let arg1 : BitVec 32 := BitVec.ofNat 32 (i 1).val
  let c2_i32_8 : BitVec 32 := 2#32
  let v19 : BitVec 32 := Scalar.subi arg1 c2_i32_8
  let c1408_i32 : BitVec 32 := 1408#32
  let v20 : BitVec 32 := Scalar.muli v19 c1408_i32
  v20
def k0_off2 (i : grid0.Coords) : Fin 2 → Nat :=
  let arg1 : BitVec 32 := BitVec.ofNat 32 (i 1).val
  let c2_i32_8 : BitVec 32 := 2#32
  let v19 : BitVec 32 := Scalar.subi arg1 c2_i32_8
  let c1408_i32 : BitVec 32 := 1408#32
  let v20 : BitVec 32 := Scalar.muli v19 c1408_i32
  let v21 : BitVec 32 := v20
  let v22 : Index := Scalar.indexCast v21
  let c0_9 : Index := 0#32
  ![v22.toNat, 0]
def k0_cond6 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_6 : BitVec 32 := 0#32
  let v17 : BitVec 1 := Scalar.cmpi .ne v16 c0_i32_6
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InputReferenceIdeal.lean ====
abbrev S8192x2816 : Shape := ⟨2, ![8192, 2816]⟩
abbrev S5632x1024 : Shape := ⟨2, ![5632, 1024]⟩
abbrev S_ : Shape := ⟨0, ![]⟩
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 15
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S5632x1024, .bf16⟩
  | .hbm, ⟨3, _⟩ => ⟨S_, .f32⟩
  | .hbm, ⟨4, _⟩ => ⟨S8192x1024, .f32⟩
  | .hbm, ⟨5, _⟩ => ⟨S5632x1024, .f32⟩
  | .hbm, ⟨6, _⟩ => ⟨S1024x5632, .f32⟩
  | .hbm, ⟨7, _⟩ => ⟨S8192x5632, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S8192x5632, .f32⟩
  | .hbm, ⟨13, _⟩ => ⟨S8192x1024, .f32⟩
  | .hbm, ⟨14, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== LastKernel.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S1024x2816 : Shape := ⟨2, ![1024, 2816]⟩
abbrev S1024x1024 : Shape := ⟨2, ![1024, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S8192x1024, .bf16⟩
  | .hbm, ⟨6, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LastReferenceIdeal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S8192x1024, .bf16⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== FfnKernel.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S1024x2816 : Shape := ⟨2, ![1024, 2816]⟩
abbrev S1024x1024 : Shape := ⟨2, ![1024, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S8192x1024, .bf16⟩
  | .hbm, ⟨8, _⟩ => ⟨S8192x1024, .f32⟩
  | .hbm, ⟨9, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnReferenceIdeal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S8192x2816, .f32⟩
  | .hbm, ⟨6, _⟩ => ⟨S2816x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== MixKernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S8192x1024, .bf16⟩
  | .hbm, ⟨8, _⟩ => ⟨S8192x1024, .f32⟩
  | .hbm, ⟨9, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixReferenceIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== GluKernel.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩
abbrev S512x1024 : Shape := ⟨2, ![512, 1024]⟩
abbrev S1024x512 : Shape := ⟨2, ![1024, 512]⟩
abbrev S384x1024 : Shape := ⟨2, ![384, 1024]⟩
abbrev S1024x384 : Shape := ⟨2, ![1024, 384]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GluReferenceIdeal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S2816x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .bf16⟩
  | .hbm, ⟨31, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Proof.KernelFrame.lean ====
/-
  The run of the kernel as printed, with nothing named of what its outputs and its scratch hold. Its conclusion is the
  frame.
-/
module

public import proofs.«01_k».proof.Proof.Gen.AttKernel.Frame.RunC
public import Idealize.ShloMosaic.Lib.Claim

@[expose] public section

set_option maxRecDepth 16384

noncomputable section

namespace Cert.AttKernel.Own

open Cert.AttKernel Cert.AttKernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def forgets0 : Fin 15 → Bool := fun w => w.val == 11 || w.val == 12 || w.val == 13 || w.val == 14

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

/-- A buffer that the body has written into is owned with some contents. -/
theorem owns_left (c : Dev nD) {sp : Space} {S : Shape} {e : EltTy} (M : Memref sig .tc sp S e)
    (f : Buf (Elt F) (M.view.loc (c : Thread nD τ))) (L : List (View.Piece (Elt F) S e)) :
    (M.view.loc (c : Thread nD τ) ↦[M.view.set]{fullShare} M.view.writes (Elt F) f L : sProp 𝕄)
      ⊢ iprop(∃ d, owns (c : Thread nD τ) M fullShare d) := by
  iintro H
  iexists (M.view.read (Elt F) (M.view.writes (Elt F) f L))
  unfold owns
  iexists _
  isplitr
  swap; · iexact H
  ipureintro; rfl

set_option maxHeartbeats 19200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    after0_0, after0_1, after0_2, after0_3, after0_4, after0_5, after0_6, after0_7, after0_8, after0_9, after0_10]
  rw [show (dats m 0 c).Φ t.succ = Pipeline.ΦA spec0 c from rfl, show (dats m 0 c).Φ t.castSucc = Pipeline.ΦA spec0 c from rfl, PhiA0_eq]
  iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  by_cases h1 : t.val % 2 = 0
  · by_cases h0 : t.val % 32 = 0
    · iapply ((kernelRun0_A c (grid0.coords t) _ _ _ _ _ _ _ _ _ _ _ _ _ _ _ _ _ _ _ _ _ _ _ _ _ _ _ _ _ _ _ _ _ _ ((hcond0_0 t).mpr h0) ((hcond0_1 t).mpr h1) ((hcond0_2 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [HS0]; · iexists _; iexact HS0
      isplitl [HS1]; · iexists _; iexact HS1
      iintro ⟨H0, H1, H2, H3, H4, H5, H6, H7, H8, H9, H10, ⟨%e11, H11⟩, ⟨%e12, H12⟩, ⟨%e13, H13⟩, ⟨%e14, H14⟩, ⟨%es0, HS0⟩, ⟨%es1, HS1⟩⟩
      isplitl [HS0 HS1 Hg]
      · isplitl [HS0 HS1]
        · isplitl [HS0]
          · iapply (owns_left c _ _ _); iexact HS0
          iapply (owns_left c _ _ _); iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iapply (owns_left c _ _ _); iexact H11
      isplitl [H12]; · iapply (owns_left c _ _ _); iexact H12
      isplitl [H13]; · iapply (owns_left c _ _ _); iexact H13
      iapply (owns_left c _ _ _); iexact H14
    · iapply ((kernelRun0_C c (grid0.coords t) _ _ _ _ _ _ _ _ _ _ _ _ _ _ _ _ _ _ _ _ _ _ _ _ _ _ _ _ _ _ _ _ _ _ (fun h => h0 ((hcond0_0 t).mp h)) ((hcond0_1 t).mpr h1) ((hcond0_2 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexact H14
      isplitl [HS0]; · iexists _; iexact HS0
      isplitl [HS1]; · iexists _; iexact HS1
      iintro ⟨H0, H1, H2, H3, H4, H5, H6, H7, H8, H9, H10, ⟨%e11, H11⟩, ⟨%e12, H12⟩, ⟨%e13, H13⟩, ⟨%e14, H14⟩, ⟨%es0, HS0⟩, ⟨%es1, HS1⟩⟩
      isplitl [HS0 HS1 Hg]
      · isplitl [HS0 HS1]
        · isplitl [HS0]
          · iapply (owns_left c _ _ _); iexact HS0
          iapply (owns_left c _ _ _); iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iapply (owns_left c _ _ _); iexact H11
      isplitl [H12]; · iapply (owns_left c _ _ _); iexact H12
      isplitl [H13]; · iapply (owns_left c _ _ _); iexact H13
      iapply (owns_left c _ _ _); iexact H14
  · have h0 : ¬ t.val % 32 = 0 := by omega
    iapply ((kernelRun0_B c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (fun h => h1 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexact H14
    isplitl [HS0]; · iexact HS0
    isplitl [HS1]; · iexact HS1
    iintro ⟨H0, H1, H2, H3, H4, H5, H6, H7, H8, H9, H10, ⟨%e11, H11⟩, ⟨%e12, H12⟩, ⟨%e13, H13⟩, ⟨%e14, H14⟩, ⟨%es0, HS0⟩, ⟨%es1, HS1⟩⟩
    isplitl [HS0 HS1 Hg]
    · isplitl [HS0 HS1]
      · isplitl [HS0]
        · iapply (owns_left c _ _ _); iexact HS0
        iapply (owns_left c _ _ _); iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iapply (owns_left c _ _ _); iexact H11
    isplitl [H12]; · iapply (owns_left c _ _ _); iexact H12
    isplitl [H13]; · iapply (owns_left c _ _ _); iexact H13
    iapply (owns_left c _ _ _); iexact H14

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := Idealize.SL.BI.Entails.refl _

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.AttKernel.Own

end
-- ==== Proof.IdealCases.lean ====
/-
  What one grid point of the idealized kernel leaves in each output block and each scratch array, in the three cases of
  its conditionals: the first point, the odd points, the other even points.
-/
module

public import proofs.«01_k».proof.Proof.Gen.AttKernelIdeal.Frame.RunC
public import Idealize.ShloMosaic.Lib.Claim

@[expose] public section

set_option maxRecDepth 16384

noncomputable section

namespace Cert.AttKernelIdeal.Own

open Cert.AttKernelIdeal Cert.AttKernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section

variable (c : Dev nD) (i : grid0.Coords) (arg2 : Memref sig .tc .vmem S512x256 .bf16) (harg2 : arg2.IsWhole)
  (arg3 : Memref sig .tc .vmem S64x256 .bf16) (harg3 : arg3.IsWhole) (arg4 : Memref sig .tc .vmem S512x256 .bf16) (harg4 : arg4.IsWhole)
  (arg5 : Memref sig .tc .vmem S64x256 .bf16) (harg5 : arg5.IsWhole) (arg6 : Memref sig .tc .vmem S64x256 .bf16) (harg6 : arg6.IsWhole)
  (arg7 : Memref sig .tc .vmem S512x256 .bf16) (harg7 : arg7.IsWhole) (arg8 : Memref sig .tc .vmem S64x256 .bf16) (harg8 : arg8.IsWhole)
  (arg9 : Memref sig .tc .vmem S4x128x256 .f32) (harg9 : arg9.IsWhole) (arg10 : Memref sig .tc .vmem S512x256 .f32) (harg10 : arg10.IsWhole)
  (arg11 : Memref sig .tc .vmem S512x256 .bf16) (harg11 : arg11.IsWhole) (arg12 : Memref sig .tc .vmem S512x256 .f32) (harg12 : arg12.IsWhole)
  (arg13 : Memref sig .tc .vmem S512x256 .bf16) (harg13 : arg13.IsWhole) (arg14 : Memref sig .tc .vmem S512x256 .bf16) (harg14 : arg14.IsWhole)
  (arg15 : Memref sig .tc .vmem S512x256 .bf16) (harg15 : arg15.IsWhole) (arg16 : Memref sig .tc .vmem S4x128x256 .f32) (harg16 : arg16.IsWhole)
  (arg17 : Memref sig .tc .vmem S256x1152 .f32) (harg17 : arg17.IsWhole) (arg18 : Memref sig .tc .vmem S256x1152 .f32) (harg18 : arg18.IsWhole)
  (hc0 : cond0_0 i) (hc1 : cond0_1 i) (hc2 : cond0_2 i) (x0 : Vec F S512x256 .bf16) (x1 : Vec F S64x256 .bf16) (x2 : Vec F S512x256 .bf16)
  (x3 : Vec F S64x256 .bf16) (x4 : Vec F S64x256 .bf16) (x5 : Vec F S512x256 .bf16) (x6 : Vec F S64x256 .bf16) (x7 : Vec F S4x128x256 .f32)
  (x8 : Vec F S512x256 .f32) (x9 : Vec F S512x256 .bf16) (x10 : Vec F S512x256 .f32)
include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10

theorem cover0_A_11 (y : S512x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).1 ![128, 256] (by sl_kernel_rfl) y

def out0_A_11 : Vec F S512x256 .bf16 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).1)

theorem cover0_A_12 (y : S512x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.1 S512x256.size (by sl_kernel_rfl) y

def out0_A_12 : Vec F S512x256 .bf16 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.1)

theorem cover0_A_13 (y : S512x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.1 S512x256.size (by sl_kernel_rfl) y

def out0_A_13 : Vec F S512x256 .bf16 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.1)

theorem cover0_A_14 (y : S4x128x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.2.1 ![1, 128, 256] (by sl_kernel_rfl) y

def out0_A_14 : Vec F S4x128x256 .f32 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.2.1)

theorem scover0_A_0 (y : S256x1152.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.2.2.1 (by sl_whole_mem) y

def sout0_A_0 : Vec F S256x1152 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.2.2.1)

theorem scover0_A_1 (y : S256x1152.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.2.2.2.1 (by sl_whole_mem) y

def sout0_A_1 : Vec F S256x1152 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.2.2.2.1)

end

section

variable (c : Dev nD) (i : grid0.Coords) (arg2 : Memref sig .tc .vmem S512x256 .bf16) (harg2 : arg2.IsWhole)
  (arg3 : Memref sig .tc .vmem S64x256 .bf16) (harg3 : arg3.IsWhole) (arg4 : Memref sig .tc .vmem S512x256 .bf16) (harg4 : arg4.IsWhole)
  (arg5 : Memref sig .tc .vmem S64x256 .bf16) (harg5 : arg5.IsWhole) (arg6 : Memref sig .tc .vmem S64x256 .bf16) (harg6 : arg6.IsWhole)
  (arg7 : Memref sig .tc .vmem S512x256 .bf16) (harg7 : arg7.IsWhole) (arg8 : Memref sig .tc .vmem S64x256 .bf16) (harg8 : arg8.IsWhole)
  (arg9 : Memref sig .tc .vmem S4x128x256 .f32) (harg9 : arg9.IsWhole) (arg10 : Memref sig .tc .vmem S512x256 .f32) (harg10 : arg10.IsWhole)
  (arg11 : Memref sig .tc .vmem S512x256 .bf16) (harg11 : arg11.IsWhole) (arg12 : Memref sig .tc .vmem S512x256 .f32) (harg12 : arg12.IsWhole)
  (arg13 : Memref sig .tc .vmem S512x256 .bf16) (harg13 : arg13.IsWhole) (arg14 : Memref sig .tc .vmem S512x256 .bf16) (harg14 : arg14.IsWhole)
  (arg15 : Memref sig .tc .vmem S512x256 .bf16) (harg15 : arg15.IsWhole) (arg16 : Memref sig .tc .vmem S4x128x256 .f32) (harg16 : arg16.IsWhole)
  (arg17 : Memref sig .tc .vmem S256x1152 .f32) (harg17 : arg17.IsWhole) (arg18 : Memref sig .tc .vmem S256x1152 .f32) (harg18 : arg18.IsWhole)
  (hc0 : ¬cond0_0 i)
include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0

theorem cover0_B_11 (hc1 : ¬cond0_1 i) (hc2 : ¬cond0_2 i) (x0 : Vec F S512x256 .bf16) (x1 : Vec F S64x256 .bf16) (x2 : Vec F S512x256 .bf16) (x3 : Vec F S64x256 .bf16) (x4 : Vec F S64x256 .bf16) (x5 : Vec F S512x256 .bf16) (x6 : Vec F S64x256 .bf16) (x7 : Vec F S4x128x256 .f32) (x8 : Vec F S512x256 .f32) (x9 : Vec F S512x256 .bf16) (x10 : Vec F S512x256 .f32) (xo11 : Vec F S512x256 .bf16) (xo14 : Vec F S4x128x256 .f32) (xs0 : Vec F S256x1152 .f32) (xs1 : Vec F S256x1152 .f32) (y : S512x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo11 xo14 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo11 xo14 xs0 xs1).1 S512x256.size (by sl_kernel_rfl) y

def out0_B_11 (hc1 : ¬cond0_1 i) (hc2 : ¬cond0_2 i) (x0 : Vec F S512x256 .bf16) (x1 : Vec F S64x256 .bf16) (x2 : Vec F S512x256 .bf16) (x3 : Vec F S64x256 .bf16) (x4 : Vec F S64x256 .bf16) (x5 : Vec F S512x256 .bf16) (x6 : Vec F S64x256 .bf16) (x7 : Vec F S4x128x256 .f32) (x8 : Vec F S512x256 .f32) (x9 : Vec F S512x256 .bf16) (x10 : Vec F S512x256 .f32) (xo11 : Vec F S512x256 .bf16) (xo14 : Vec F S4x128x256 .f32) (xs0 : Vec F S256x1152 .f32) (xs1 : Vec F S256x1152 .f32) : Vec F S512x256 .bf16 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo11 xo14 xs0 xs1).1)

theorem cover0_B_12 (hc1 : ¬cond0_1 i) (hc2 : ¬cond0_2 i) (x0 : Vec F S512x256 .bf16) (x1 : Vec F S64x256 .bf16) (x2 : Vec F S512x256 .bf16) (x3 : Vec F S64x256 .bf16) (x4 : Vec F S64x256 .bf16) (x5 : Vec F S512x256 .bf16) (x6 : Vec F S64x256 .bf16) (x7 : Vec F S4x128x256 .f32) (x8 : Vec F S512x256 .f32) (x9 : Vec F S512x256 .bf16) (x10 : Vec F S512x256 .f32) (xo11 : Vec F S512x256 .bf16) (xo14 : Vec F S4x128x256 .f32) (xs0 : Vec F S256x1152 .f32) (xs1 : Vec F S256x1152 .f32) (y : S512x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo11 xo14 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo11 xo14 xs0 xs1).2.1 S512x256.size (by sl_kernel_rfl) y

def out0_B_12 (hc1 : ¬cond0_1 i) (hc2 : ¬cond0_2 i) (x0 : Vec F S512x256 .bf16) (x1 : Vec F S64x256 .bf16) (x2 : Vec F S512x256 .bf16) (x3 : Vec F S64x256 .bf16) (x4 : Vec F S64x256 .bf16) (x5 : Vec F S512x256 .bf16) (x6 : Vec F S64x256 .bf16) (x7 : Vec F S4x128x256 .f32) (x8 : Vec F S512x256 .f32) (x9 : Vec F S512x256 .bf16) (x10 : Vec F S512x256 .f32) (xo11 : Vec F S512x256 .bf16) (xo14 : Vec F S4x128x256 .f32) (xs0 : Vec F S256x1152 .f32) (xs1 : Vec F S256x1152 .f32) : Vec F S512x256 .bf16 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo11 xo14 xs0 xs1).2.1)

theorem cover0_B_13 (hc1 : ¬cond0_1 i) (hc2 : ¬cond0_2 i) (x0 : Vec F S512x256 .bf16) (x1 : Vec F S64x256 .bf16) (x2 : Vec F S512x256 .bf16) (x3 : Vec F S64x256 .bf16) (x4 : Vec F S64x256 .bf16) (x5 : Vec F S512x256 .bf16) (x6 : Vec F S64x256 .bf16) (x7 : Vec F S4x128x256 .f32) (x8 : Vec F S512x256 .f32) (x9 : Vec F S512x256 .bf16) (x10 : Vec F S512x256 .f32) (xo11 : Vec F S512x256 .bf16) (xo14 : Vec F S4x128x256 .f32) (xs0 : Vec F S256x1152 .f32) (xs1 : Vec F S256x1152 .f32) (y : S512x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo11 xo14 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo11 xo14 xs0 xs1).2.2.1 S512x256.size (by sl_kernel_rfl) y

def out0_B_13 (hc1 : ¬cond0_1 i) (hc2 : ¬cond0_2 i) (x0 : Vec F S512x256 .bf16) (x1 : Vec F S64x256 .bf16) (x2 : Vec F S512x256 .bf16) (x3 : Vec F S64x256 .bf16) (x4 : Vec F S64x256 .bf16) (x5 : Vec F S512x256 .bf16) (x6 : Vec F S64x256 .bf16) (x7 : Vec F S4x128x256 .f32) (x8 : Vec F S512x256 .f32) (x9 : Vec F S512x256 .bf16) (x10 : Vec F S512x256 .f32) (xo11 : Vec F S512x256 .bf16) (xo14 : Vec F S4x128x256 .f32) (xs0 : Vec F S256x1152 .f32) (xs1 : Vec F S256x1152 .f32) : Vec F S512x256 .bf16 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo11 xo14 xs0 xs1).2.2.1)

theorem cover0_B_14 (hc1 : ¬cond0_1 i) (hc2 : ¬cond0_2 i) (x0 : Vec F S512x256 .bf16) (x1 : Vec F S64x256 .bf16) (x2 : Vec F S512x256 .bf16) (x3 : Vec F S64x256 .bf16) (x4 : Vec F S64x256 .bf16) (x5 : Vec F S512x256 .bf16) (x6 : Vec F S64x256 .bf16) (x7 : Vec F S4x128x256 .f32) (x8 : Vec F S512x256 .f32) (x9 : Vec F S512x256 .bf16) (x10 : Vec F S512x256 .f32) (xo11 : Vec F S512x256 .bf16) (xo14 : Vec F S4x128x256 .f32) (xs0 : Vec F S256x1152 .f32) (xs1 : Vec F S256x1152 .f32) (y : S4x128x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo11 xo14 xs0 xs1).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo11 xo14 xs0 xs1).2.2.2.1 S4x128x256.size (by sl_kernel_rfl) y

def out0_B_14 (hc1 : ¬cond0_1 i) (hc2 : ¬cond0_2 i) (x0 : Vec F S512x256 .bf16) (x1 : Vec F S64x256 .bf16) (x2 : Vec F S512x256 .bf16) (x3 : Vec F S64x256 .bf16) (x4 : Vec F S64x256 .bf16) (x5 : Vec F S512x256 .bf16) (x6 : Vec F S64x256 .bf16) (x7 : Vec F S4x128x256 .f32) (x8 : Vec F S512x256 .f32) (x9 : Vec F S512x256 .bf16) (x10 : Vec F S512x256 .f32) (xo11 : Vec F S512x256 .bf16) (xo14 : Vec F S4x128x256 .f32) (xs0 : Vec F S256x1152 .f32) (xs1 : Vec F S256x1152 .f32) : Vec F S4x128x256 .f32 :=
  VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo11 xo14 xs0 xs1).2.2.2.1)

theorem scover0_B_0 (hc1 : ¬cond0_1 i) (hc2 : ¬cond0_2 i) (x0 : Vec F S512x256 .bf16) (x1 : Vec F S64x256 .bf16) (x2 : Vec F S512x256 .bf16) (x3 : Vec F S64x256 .bf16) (x4 : Vec F S64x256 .bf16) (x5 : Vec F S512x256 .bf16) (x6 : Vec F S64x256 .bf16) (x7 : Vec F S4x128x256 .f32) (x8 : Vec F S512x256 .f32) (x9 : Vec F S512x256 .bf16) (x10 : Vec F S512x256 .f32) (xo11 : Vec F S512x256 .bf16) (xo14 : Vec F S4x128x256 .f32) (xs0 : Vec F S256x1152 .f32) (xs1 : Vec F S256x1152 .f32) (y : S256x1152.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo11 xo14 xs0 xs1).2.2.2.2.1, y ∈ pc.1.set :=
  View.cover_of_tiledBy (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo11 xo14 xs0 xs1).2.2.2.2.1 ![256, 128] (by sl_kernel_rfl) y

def sout0_B_0 (hc1 : ¬cond0_1 i) (hc2 : ¬cond0_2 i) (x0 : Vec F S512x256 .bf16) (x1 : Vec F S64x256 .bf16) (x2 : Vec F S512x256 .bf16) (x3 : Vec F S64x256 .bf16) (x4 : Vec F S64x256 .bf16) (x5 : Vec F S512x256 .bf16) (x6 : Vec F S64x256 .bf16) (x7 : Vec F S4x128x256 .f32) (x8 : Vec F S512x256 .f32) (x9 : Vec F S512x256 .bf16) (x10 : Vec F S512x256 .f32) (xo11 : Vec F S512x256 .bf16) (xo14 : Vec F S4x128x256 .f32) (xs0 : Vec F S256x1152 .f32) (xs1 : Vec F S256x1152 .f32) : Vec F S256x1152 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo11 xo14 xs0 xs1).2.2.2.2.1)

theorem scover0_B_1 (hc1 : ¬cond0_1 i) (hc2 : ¬cond0_2 i) (x0 : Vec F S512x256 .bf16) (x1 : Vec F S64x256 .bf16) (x2 : Vec F S512x256 .bf16) (x3 : Vec F S64x256 .bf16) (x4 : Vec F S64x256 .bf16) (x5 : Vec F S512x256 .bf16) (x6 : Vec F S64x256 .bf16) (x7 : Vec F S4x128x256 .f32) (x8 : Vec F S512x256 .f32) (x9 : Vec F S512x256 .bf16) (x10 : Vec F S512x256 .f32) (xo11 : Vec F S512x256 .bf16) (xo14 : Vec F S4x128x256 .f32) (xs0 : Vec F S256x1152 .f32) (xs1 : Vec F S256x1152 .f32) (y : S256x1152.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo11 xo14 xs0 xs1).2.2.2.2.2.1, y ∈ pc.1.set :=
  View.cover_of_tiledBy (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo11 xo14 xs0 xs1).2.2.2.2.2.1 ![256, 128] (by sl_kernel_rfl) y

def sout0_B_1 (hc1 : ¬cond0_1 i) (hc2 : ¬cond0_2 i) (x0 : Vec F S512x256 .bf16) (x1 : Vec F S64x256 .bf16) (x2 : Vec F S512x256 .bf16) (x3 : Vec F S64x256 .bf16) (x4 : Vec F S64x256 .bf16) (x5 : Vec F S512x256 .bf16) (x6 : Vec F S64x256 .bf16) (x7 : Vec F S4x128x256 .f32) (x8 : Vec F S512x256 .f32) (x9 : Vec F S512x256 .bf16) (x10 : Vec F S512x256 .f32) (xo11 : Vec F S512x256 .bf16) (xo14 : Vec F S4x128x256 .f32) (xs0 : Vec F S256x1152 .f32) (xs1 : Vec F S256x1152 .f32) : Vec F S256x1152 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo11 xo14 xs0 xs1).2.2.2.2.2.1)

theorem cover0_C_11 (hc1 : cond0_1 i) (hc2 : cond0_2 i) (x0 : Vec F S512x256 .bf16) (x1 : Vec F S64x256 .bf16) (x2 : Vec F S512x256 .bf16) (x3 : Vec F S64x256 .bf16) (x4 : Vec F S64x256 .bf16) (x5 : Vec F S512x256 .bf16) (x6 : Vec F S64x256 .bf16) (x7 : Vec F S4x128x256 .f32) (x8 : Vec F S512x256 .f32) (x9 : Vec F S512x256 .bf16) (x10 : Vec F S512x256 .f32) (xo14 : Vec F S4x128x256 .f32) (y : S512x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo14).1, y ∈ pc.1.set :=
  View.cover_of_tiledBy (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo14).1 ![128, 256] (by sl_kernel_rfl) y

def out0_C_11 (hc1 : cond0_1 i) (hc2 : cond0_2 i) (x0 : Vec F S512x256 .bf16) (x1 : Vec F S64x256 .bf16) (x2 : Vec F S512x256 .bf16) (x3 : Vec F S64x256 .bf16) (x4 : Vec F S64x256 .bf16) (x5 : Vec F S512x256 .bf16) (x6 : Vec F S64x256 .bf16) (x7 : Vec F S4x128x256 .f32) (x8 : Vec F S512x256 .f32) (x9 : Vec F S512x256 .bf16) (x10 : Vec F S512x256 .f32) (xo14 : Vec F S4x128x256 .f32) : Vec F S512x256 .bf16 :=
  VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo14).1)

theorem cover0_C_12 (hc1 : cond0_1 i) (hc2 : cond0_2 i) (x0 : Vec F S512x256 .bf16) (x1 : Vec F S64x256 .bf16) (x2 : Vec F S512x256 .bf16) (x3 : Vec F S64x256 .bf16) (x4 : Vec F S64x256 .bf16) (x5 : Vec F S512x256 .bf16) (x6 : Vec F S64x256 .bf16) (x7 : Vec F S4x128x256 .f32) (x8 : Vec F S512x256 .f32) (x9 : Vec F S512x256 .bf16) (x10 : Vec F S512x256 .f32) (xo14 : Vec F S4x128x256 .f32) (y : S512x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo14).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo14).2.1 S512x256.size (by sl_kernel_rfl) y

def out0_C_12 (hc1 : cond0_1 i) (hc2 : cond0_2 i) (x0 : Vec F S512x256 .bf16) (x1 : Vec F S64x256 .bf16) (x2 : Vec F S512x256 .bf16) (x3 : Vec F S64x256 .bf16) (x4 : Vec F S64x256 .bf16) (x5 : Vec F S512x256 .bf16) (x6 : Vec F S64x256 .bf16) (x7 : Vec F S4x128x256 .f32) (x8 : Vec F S512x256 .f32) (x9 : Vec F S512x256 .bf16) (x10 : Vec F S512x256 .f32) (xo14 : Vec F S4x128x256 .f32) : Vec F S512x256 .bf16 :=
  VO0_12.read (Elt F) (VO0_12.writes (Elt F) VO0_12.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo14).2.1)

theorem cover0_C_13 (hc1 : cond0_1 i) (hc2 : cond0_2 i) (x0 : Vec F S512x256 .bf16) (x1 : Vec F S64x256 .bf16) (x2 : Vec F S512x256 .bf16) (x3 : Vec F S64x256 .bf16) (x4 : Vec F S64x256 .bf16) (x5 : Vec F S512x256 .bf16) (x6 : Vec F S64x256 .bf16) (x7 : Vec F S4x128x256 .f32) (x8 : Vec F S512x256 .f32) (x9 : Vec F S512x256 .bf16) (x10 : Vec F S512x256 .f32) (xo14 : Vec F S4x128x256 .f32) (y : S512x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo14).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo14).2.2.1 S512x256.size (by sl_kernel_rfl) y

def out0_C_13 (hc1 : cond0_1 i) (hc2 : cond0_2 i) (x0 : Vec F S512x256 .bf16) (x1 : Vec F S64x256 .bf16) (x2 : Vec F S512x256 .bf16) (x3 : Vec F S64x256 .bf16) (x4 : Vec F S64x256 .bf16) (x5 : Vec F S512x256 .bf16) (x6 : Vec F S64x256 .bf16) (x7 : Vec F S4x128x256 .f32) (x8 : Vec F S512x256 .f32) (x9 : Vec F S512x256 .bf16) (x10 : Vec F S512x256 .f32) (xo14 : Vec F S4x128x256 .f32) : Vec F S512x256 .bf16 :=
  VO0_13.read (Elt F) (VO0_13.writes (Elt F) VO0_13.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo14).2.2.1)

theorem cover0_C_14 (hc1 : cond0_1 i) (hc2 : cond0_2 i) (x0 : Vec F S512x256 .bf16) (x1 : Vec F S64x256 .bf16) (x2 : Vec F S512x256 .bf16) (x3 : Vec F S64x256 .bf16) (x4 : Vec F S64x256 .bf16) (x5 : Vec F S512x256 .bf16) (x6 : Vec F S64x256 .bf16) (x7 : Vec F S4x128x256 .f32) (x8 : Vec F S512x256 .f32) (x9 : Vec F S512x256 .bf16) (x10 : Vec F S512x256 .f32) (xo14 : Vec F S4x128x256 .f32) (y : S4x128x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo14).2.2.2.1, y ∈ pc.1.set :=
  View.cover_of_tiledBy (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo14).2.2.2.1 ![1, 128, 256] (by sl_kernel_rfl) y

def out0_C_14 (hc1 : cond0_1 i) (hc2 : cond0_2 i) (x0 : Vec F S512x256 .bf16) (x1 : Vec F S64x256 .bf16) (x2 : Vec F S512x256 .bf16) (x3 : Vec F S64x256 .bf16) (x4 : Vec F S64x256 .bf16) (x5 : Vec F S512x256 .bf16) (x6 : Vec F S64x256 .bf16) (x7 : Vec F S4x128x256 .f32) (x8 : Vec F S512x256 .f32) (x9 : Vec F S512x256 .bf16) (x10 : Vec F S512x256 .f32) (xo14 : Vec F S4x128x256 .f32) : Vec F S4x128x256 .f32 :=
  VO0_14.read (Elt F) (VO0_14.writes (Elt F) VO0_14.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo14).2.2.2.1)

theorem scover0_C_0 (hc1 : cond0_1 i) (hc2 : cond0_2 i) (x0 : Vec F S512x256 .bf16) (x1 : Vec F S64x256 .bf16) (x2 : Vec F S512x256 .bf16) (x3 : Vec F S64x256 .bf16) (x4 : Vec F S64x256 .bf16) (x5 : Vec F S512x256 .bf16) (x6 : Vec F S64x256 .bf16) (x7 : Vec F S4x128x256 .f32) (x8 : Vec F S512x256 .f32) (x9 : Vec F S512x256 .bf16) (x10 : Vec F S512x256 .f32) (xo14 : Vec F S4x128x256 .f32) (y : S256x1152.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo14).2.2.2.2.1, y ∈ pc.1.set :=
  View.cover_of_wholeMem (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo14).2.2.2.2.1 (by sl_whole_mem) y

def sout0_C_0 (hc1 : cond0_1 i) (hc2 : cond0_2 i) (x0 : Vec F S512x256 .bf16) (x1 : Vec F S64x256 .bf16) (x2 : Vec F S512x256 .bf16) (x3 : Vec F S64x256 .bf16) (x4 : Vec F S64x256 .bf16) (x5 : Vec F S512x256 .bf16) (x6 : Vec F S64x256 .bf16) (x7 : Vec F S4x128x256 .f32) (x8 : Vec F S512x256 .f32) (x9 : Vec F S512x256 .bf16) (x10 : Vec F S512x256 .f32) (xo14 : Vec F S4x128x256 .f32) : Vec F S256x1152 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo14).2.2.2.2.1)

theorem scover0_C_1 (hc1 : cond0_1 i) (hc2 : cond0_2 i) (x0 : Vec F S512x256 .bf16) (x1 : Vec F S64x256 .bf16) (x2 : Vec F S512x256 .bf16) (x3 : Vec F S64x256 .bf16) (x4 : Vec F S64x256 .bf16) (x5 : Vec F S512x256 .bf16) (x6 : Vec F S64x256 .bf16) (x7 : Vec F S4x128x256 .f32) (x8 : Vec F S512x256 .f32) (x9 : Vec F S512x256 .bf16) (x10 : Vec F S512x256 .f32) (xo14 : Vec F S4x128x256 .f32) (y : S256x1152.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo14).2.2.2.2.2.1, y ∈ pc.1.set :=
  View.cover_of_wholeMem (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo14).2.2.2.2.2.1 (by sl_whole_mem) y

def sout0_C_1 (hc1 : cond0_1 i) (hc2 : cond0_2 i) (x0 : Vec F S512x256 .bf16) (x1 : Vec F S64x256 .bf16) (x2 : Vec F S512x256 .bf16) (x3 : Vec F S64x256 .bf16) (x4 : Vec F S64x256 .bf16) (x5 : Vec F S512x256 .bf16) (x6 : Vec F S64x256 .bf16) (x7 : Vec F S4x128x256 .f32) (x8 : Vec F S512x256 .f32) (x9 : Vec F S512x256 .bf16) (x10 : Vec F S512x256 .f32) (xo14 : Vec F S4x128x256 .f32) : Vec F S256x1152 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo14).2.2.2.2.2.1)

end

end Cert.AttKernelIdeal.Own

end
-- ==== Proof.IdealFrame.lean ====
/-
  The run of the idealized kernel: what outputs and scratch hold after each grid point, by recursion over the points, and
  the frame.
-/
module

public import proofs.«01_k».proof.Proof.IdealCases

@[expose] public section

set_option maxRecDepth 16384

noncomputable section

namespace Cert.AttKernelIdeal.Own

open Cert.AttKernelIdeal Cert.AttKernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What a point leaves in its outputs and in the two wide arrays. -/
abbrev Left : Type := Vec F S512x256 .bf16 × Vec F S512x256 .bf16 × Vec F S512x256 .bf16 × Vec F S4x128x256 .f32 × Vec F S256x1152 .f32 × Vec F S256x1152 .f32

/-- At the first point of all. -/
abbrev leftA (c : Dev nD) (t : Fin cfg0.N) (h0 : t.val % 32 = 0) (h1 : t.val % 2 = 0) (h2 : t.val % 2 = 0) : Left (F := F) :=
  (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t))

/-- At a second point of a residue, from what the point before left. -/
abbrev leftB (c : Dev nD) (t : Fin cfg0.N) (h0 : ¬t.val % 32 = 0) (h1 : ¬t.val % 2 = 0) (h2 : ¬t.val % 2 = 0) (p : Left (F := F)) : Left (F := F) :=
  (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) p.1 p.2.2.2.1 p.2.2.2.2.1 p.2.2.2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) p.1 p.2.2.2.1 p.2.2.2.2.1 p.2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) p.1 p.2.2.2.1 p.2.2.2.2.1 p.2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) p.1 p.2.2.2.1 p.2.2.2.2.1 p.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) p.1 p.2.2.2.1 p.2.2.2.2.1 p.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) p.1 p.2.2.2.1 p.2.2.2.2.1 p.2.2.2.2.2)

/-- At any other first point of a residue. -/
abbrev leftC (c : Dev nD) (t : Fin cfg0.N) (h0 : ¬t.val % 32 = 0) (h1 : t.val % 2 = 0) (h2 : t.val % 2 = 0) (p : Left (F := F)) : Left (F := F) :=
  (out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.1, out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.1, out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.1, out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.1, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.1, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) p.2.2.2.1)

def outsAt0 (c : Dev nD) : (n : ℕ) → n < cfg0.N → Left (F := F)
  | 0, hn => leftA m c ⟨0, hn⟩ (Nat.zero_mod _) (Nat.zero_mod _) (Nat.zero_mod _)
  | n + 1, hn =>
    if h0 : (n + 1) % 32 = 0 then
      if h1 : (n + 1) % 2 = 0 then
        if h2 : (n + 1) % 2 = 0 then
          leftA m c ⟨n + 1, hn⟩ h0 h1 h2
        else
          False.elim (by have hN : n + 1 < 32 := lt_of_lt_of_eq hn (show cfg0.N = 32 from N_0); omega)
      else
        False.elim (by have hN : n + 1 < 32 := lt_of_lt_of_eq hn (show cfg0.N = 32 from N_0); omega)
    else
      if h1 : (n + 1) % 2 = 0 then
        if h2 : (n + 1) % 2 = 0 then
          leftC m c ⟨n + 1, hn⟩ h0 h1 h2 (outsAt0 c n (Nat.lt_of_succ_lt hn))
        else
          False.elim (by have hN : n + 1 < 32 := lt_of_lt_of_eq hn (show cfg0.N = 32 from N_0); omega)
      else
        if h2 : (n + 1) % 2 = 0 then
          False.elim (by have hN : n + 1 < 32 := lt_of_lt_of_eq hn (show cfg0.N = 32 from N_0); omega)
        else
          leftB m c ⟨n + 1, hn⟩ h0 h1 h2 (outsAt0 c n (Nat.lt_of_succ_lt hn))

theorem outsAt0_A (c : Dev nD) (t : Fin cfg0.N) (h0 : t.val % 32 = 0) (h1 : t.val % 2 = 0) (h2 : t.val % 2 = 0) :
    outsAt0 m c t.val t.isLt = leftA m c t h0 h1 h2 := by
  obtain ⟨n, hn⟩ := t
  cases n with
  | zero => exact rfl
  | succ n => rw [outsAt0, dif_pos h0, dif_pos h1, dif_pos h2]

theorem outsAt0_B (c : Dev nD) (t : Fin cfg0.N) (h0 : ¬t.val % 32 = 0) (h1 : ¬t.val % 2 = 0) (h2 : ¬t.val % 2 = 0) :
    outsAt0 m c t.val t.isLt = leftB m c t h0 h1 h2 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => rw [outsAt0, dif_neg h0, dif_neg h1, dif_neg h2]; simp only [Nat.add_sub_cancel]

theorem outsAt0_C (c : Dev nD) (t : Fin cfg0.N) (h0 : ¬t.val % 32 = 0) (h1 : t.val % 2 = 0) (h2 : t.val % 2 = 0) :
    outsAt0 m c t.val t.isLt = leftC m c t h0 h1 h2 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => rw [outsAt0, dif_neg h0, dif_pos h1, dif_pos h2]; simp only [Nat.add_sub_cancel]

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.1) ∗ owns (c : Thread nD τ) scM0_1 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
    | ⟨12, _⟩ => (outsAt0 m c t.val t.isLt).2.1
    | ⟨13, _⟩ => (outsAt0 m c t.val t.isLt).2.2.1
    | ⟨14, _⟩ => (outsAt0 m c t.val t.isLt).2.2.2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]
theorem after0_12 (c : Dev nD) (t : Fin cfg0.N) : (dats m 0 c).after 12 t = (outsAt0 m c t.val t.isLt).2.1 := by dsimp only [dats]
theorem after0_13 (c : Dev nD) (t : Fin cfg0.N) : (dats m 0 c).after 13 t = (outsAt0 m c t.val t.isLt).2.2.1 := by dsimp only [dats]
theorem after0_14 (c : Dev nD) (t : Fin cfg0.N) : (dats m 0 c).after 14 t = (outsAt0 m c t.val t.isLt).2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11_B (c : Dev nD) (t : Fin cfg0.N) (h0 : ¬t.val % 32 = 0) (h1 : ¬t.val % 2 = 0) (h2 : ¬t.val % 2 = 0) (d) :
    (dats m 0 c).before 11 t d = (outsAt0 m c (t.val - 1) (Nat.lt_of_le_of_lt (Nat.sub_le _ _) t.isLt)).1 := by
  have hN : t.val < 32 := lt_of_lt_of_eq t.isLt (show cfg0.N = 32 from N_0)
  rw [Dat.before_out_kept _ 11 rfl t (by omega) (Bool.eq_false_iff.mpr fun h => by have := (flush0_11 _).mp h; dsimp only at this; omega)
    (fun _ => rfl) (fun _ _ => rfl)]
  dsimp only [dats]
theorem before0_14_B (c : Dev nD) (t : Fin cfg0.N) (h0 : ¬t.val % 32 = 0) (h1 : ¬t.val % 2 = 0) (h2 : ¬t.val % 2 = 0) (d) :
    (dats m 0 c).before 14 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 14 rfl t (by omega) (Bool.eq_false_iff.mpr fun h => by have := (flush0_14 _).mp h; dsimp only at this; omega)
    (fun _ => rfl) (fun _ _ => rfl)]
  dsimp only [dats]
theorem before0_14_C (c : Dev nD) (t : Fin cfg0.N) (h0 : ¬t.val % 32 = 0) (h1 : t.val % 2 = 0) (h2 : t.val % 2 = 0) (d) :
    (dats m 0 c).before 14 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 14 rfl t (by omega) (Bool.eq_false_iff.mpr fun h => by have := (flush0_14 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 19200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases h1 : t.val % 2 = 0
    · by_cases h2 : t.val % 2 = 0
      · by_cases hz : t.val = 0
        · rw [PhiS_castSucc m c t, PhiS_zero m c _ _ hz, PhiA0_eq]
          rw [outsAt0_A m c t h0 h1 h2, leftA]
          unfold out0_A_11 out0_A_12 out0_A_13 out0_A_14 sout0_A_0 sout0_A_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_A c (grid0.coords t) _ _ _ _ _ _ _ _ _ _ _ _ _ _ _ _ _ _ _ _ _ _ _ _ _ _ _ _ _ _ _ _ _ _ ((hcond0_0 t).mpr h0) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexists _; iexact H11
          isplitl [H12]; · iexists _; iexact H12
          isplitl [H13]; · iexists _; iexact H13
          isplitl [H14]; · iexists _; iexact H14
          isplitl [HS0]; · iexact HS0
          isplitl [HS1]; · iexact HS1
          iintro ⟨H0, H1, H2, H3, H4, H5, H6, H7, H8, H9, H10, ⟨%e11, H11⟩, ⟨%e12, H12⟩, ⟨%e13, H13⟩, ⟨%e14, H14⟩, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]
          · unfold owns; iexists _; isplitr
            swap; · iexact H11
            ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _)
          isplitl [H13]
          · unfold owns; iexists _; isplitr
            swap; · iexact H13
            ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H14
          ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _)
        · exfalso; have hN : t.val < 32 := lt_of_lt_of_eq t.isLt (show cfg0.N = 32 from N_0); omega
      · exfalso; omega
    · exfalso; omega
  · by_cases h1 : t.val % 2 = 0
    · by_cases h2 : t.val % 2 = 0
      · by_cases hz : t.val = 0
        · exfalso; have hN : t.val < 32 := lt_of_lt_of_eq t.isLt (show cfg0.N = 32 from N_0); omega
        · rw [PhiS_castSucc m c t, PhiS_pos m c _ _ hz]
          rw [outsAt0_C m c t h0 h1 h2, leftC]
          simp only [before0_14_C m c t h0 h1 h2]
          unfold out0_C_11 out0_C_12 out0_C_13 out0_C_14 sout0_C_0 sout0_C_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_C c (grid0.coords t) _ _ _ _ _ _ _ _ _ _ _ _ _ _ _ _ _ _ _ _ _ _ _ _ _ _ _ _ _ _ _ _ _ _ (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) _).2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexists _; iexact H11
          isplitl [H12]; · iexists _; iexact H12
          isplitl [H13]; · iexists _; iexact H13
          isplitl [H14]; · iexact H14
          isplitl [HS0]; · iexists _; iexact HS0
          isplitl [HS1]; · iexists _; iexact HS1
          iintro ⟨H0, H1, H2, H3, H4, H5, H6, H7, H8, H9, H10, ⟨%e11, H11⟩, ⟨%e12, H12⟩, ⟨%e13, H13⟩, ⟨%e14, H14⟩, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]
          · unfold owns; iexists _; isplitr
            swap; · iexact H11
            ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _)
          isplitl [H13]
          · unfold owns; iexists _; isplitr
            swap; · iexact H13
            ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H14
          ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _ _)
      · exfalso; omega
    · by_cases h2 : t.val % 2 = 0
      · exfalso; omega
      · by_cases hz : t.val = 0
        · exfalso; have hN : t.val < 32 := lt_of_lt_of_eq t.isLt (show cfg0.N = 32 from N_0); omega
        · rw [PhiS_castSucc m c t, PhiS_pos m c _ _ hz]
          rw [outsAt0_B m c t h0 h1 h2, leftB]
          simp only [before0_11_B m c t h0 h1 h2, before0_14_B m c t h0 h1 h2]
          unfold out0_B_11 out0_B_12 out0_B_13 out0_B_14 sout0_B_0 sout0_B_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_B c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _).2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexists _; iexact H12
          isplitl [H13]; · iexists _; iexact H13
          isplitl [H14]; · iexact H14
          isplitl [HS0]; · iexact HS0
          isplitl [HS1]; · iexact HS1
          iintro ⟨H0, H1, H2, H3, H4, H5, H6, H7, H8, H9, H10, ⟨%e11, H11⟩, ⟨%e12, H12⟩, ⟨%e13, H13⟩, ⟨%e14, H14⟩, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]
          · unfold owns; iexists _; isplitr
            swap; · iexact H11
            ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _)
          isplitl [H13]
          · unfold owns; iexists _; isplitr
            swap; · iexact H13
            ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H14
          ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 32 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.AttKernelIdeal.Own

end
-- ==== Proof.IdealArrays.lean ====
/-
  The three gradient arrays after the run of the idealized kernel, block by block: the block of a residue class is what
  the odd grid point of that class leaves in the output window.
-/
module

public import proofs.«01_k».proof.Proof.IdealFrame
public import Idealize.ShloMosaic.Lib.Pipeline.Value
public import Idealize.ShloMosaic.Lib.ValueIdx

@[expose] public section

set_option maxRecDepth 16384

noncomputable section

namespace Cert.AttKernelIdeal.Own

open Cert.AttKernelIdeal Cert.AttKernelIdeal.Gen Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem outs_congr (c : Dev nD) {a b : ℕ} (e : a = b) (ha : a < cfg0.N) (hb : b < cfg0.N) :
    outsAt0 m c a ha = outsAt0 m c b hb := by subst e; rfl

/-! ## The gradient with respect to the queries -/

theorem post11 (r : PUnit × MemSt nD τ sig (Elt F)) (h : Pipeline.FramePost cfgs (dats m) 0 (V m) r) (c : Dev nD) :
    r.2.mem ((c : Thread nD τ).loc main_v192_0) = (dats m 0 c).arrAt 11 cfg0.N :=
  (h c).1 11

/-- The grid point that writes the block holding an index: the odd point of the block's residue class. -/
abbrev pt11Of (i : S8192x256.Idx) : ℕ := 2 * ((i 0).val / 512) + 1

/-- An index within its block. -/
abbrev loc11Of (i : S8192x256.Idx) : S512x256.Idx :=
  ix2 ⟨(i 0).val % 512, Nat.mod_lt _ (by decide)⟩ ⟨(i 1).val % 256, Nat.mod_lt _ (by decide)⟩

/-- The array after the run: block by block what the odd points leave. -/
def G11 (c : Dev nD) : Buf (Elt F) ((c : Thread nD τ).loc main_v192_0) := fun i =>
  if h : pt11Of i < cfg0.N then (outsAt0 m c (pt11Of i) h).1 (loc11Of i) else V m c (Pipeline.arrRef spec0 11) i

theorem idx_facts11 : ∀ t : Fin cfg0.N, 0 ≤ win0_11.index t (0 : Fin 2) ∧ win0_11.index t (0 : Fin 2) ≤ 15
    ∧ 0 ≤ win0_11.index t (1 : Fin 2) ∧ win0_11.index t (1 : Fin 2) ≤ 0
    ∧ 1 * (win0_11.index t (0 : Fin 2) - 0) + 1 * (win0_11.index t (1 : Fin 2) - 0) = t.val / 2 :=
  (by decide +kernel : ∀ t : Fin grid0.N, _)

/-- The odd point of a residue class. -/
abbrev onto11Pt (q : Fin 16) : Fin grid0.N := ⟨2 * q.val + 1, lt_of_lt_of_eq (by omega) N_0.symm⟩

theorem idx_onto11 (q : Fin 16) : ∃ t : Fin cfg0.N, (cfg0.win 11).flush t = true ∧ win0_11.index t = ![q.val, 0] :=
  ⟨onto11Pt q, (by decide +kernel : ∀ q : Fin 16, win0_11.flush (onto11Pt q) = true ∧ win0_11.index (onto11Pt q) = ![q.val, 0]) q⟩

theorem flushed11_eq (c : Dev nD) (t : Fin cfg0.N) (hf : (cfg0.win 11).flush t = true) :
    (dats m 0 c).flushed 11 t = ((cfg0.win 11).blk t).view.read (Elt F) (G11 m c) := by
  show (cfg0.win 11).cut (grid0.coords t) ((dats m 0 c).after 11 t) = _
  rw [after0_11]
  have hm : t.val % 2 = 1 := (flush0_11 t).mp hf
  obtain ⟨e0, e1, e2⟩ := idx_facts11 t
  funext y
  have hy0 : (y 0).val < 512 := (y 0).isLt
  have hy1 : (y 1).val < 256 := (y 1).isLt
  have hb0 : (((cfg0.win 11).blk t).view.emb y 0).val = win0_11.index t (0 : Fin 2) * 512 + 1 * (y 0).val := rfl
  have hb1 : (((cfg0.win 11).blk t).view.emb y 1).val = win0_11.index t (1 : Fin 2) * 256 + 1 * (y 1).val := rfl
  have hl : loc11Of (((cfg0.win 11).blk t).view.emb y) = (cfg0.win 11).xinj (grid0.coords t) y := by
    funext a; apply Fin.ext
    match a with
    | ⟨0, _⟩ => show (((cfg0.win 11).blk t).view.emb y 0).val % 512 = (y 0).val; rw [hb0]; omega
    | ⟨1, _⟩ => show (((cfg0.win 11).blk t).view.emb y 1).val % 256 = (y 1).val; rw [hb1]; omega
  have hp : pt11Of (((cfg0.win 11).blk t).view.emb y) = t.val := by
    show 2 * ((((cfg0.win 11).blk t).view.emb y 0).val / 512) + 1 = _
    rw [hb0]; omega
  show (outsAt0 m c t.val t.isLt).1 ((cfg0.win 11).xinj (grid0.coords t) y) = G11 m c (((cfg0.win 11).blk t).view.emb y)
  unfold G11
  rw [dif_pos (by rw [hp]; exact t.isLt), hl, outs_congr m c hp _ t.isLt]

theorem mem_blk11 (t : Fin cfg0.N) (i : S8192x256.Idx) :
    i ∈ ((cfg0.win 11).blk t).view.set ↔ ∀ a : Fin 2, win0_11.index t a * S512x256.size a ≤ (i a).val ∧ (i a).val < win0_11.index t a * S512x256.size a + S512x256.size a := by
  show i ∈ ((View.whole main_v192_0).slice (win0_11.rect t)).set ↔ _
  rw [View.set_slice_whole, Rect.mem_set_unit]
  exact Iff.rfl

theorem covered11 (i : S8192x256.Idx) :
    ∃ t : Fin cfg0.N, (cfg0.win 11).flush t = true ∧ i ∈ ((cfg0.win 11).blk t).view.set := by
  have hi0 : (i 0).val < 8192 := (i 0).isLt
  have hi1 : (i 1).val < 256 := (i 1).isLt
  obtain ⟨t, hft, ht⟩ := idx_onto11 ⟨(i 0).val / 512, by omega⟩
  have q0 : win0_11.index t (0 : Fin 2) = (i 0).val / 512 := congrFun ht 0
  have q1 : win0_11.index t (1 : Fin 2) = 0 := congrFun ht 1
  refine ⟨t, hft, ?_⟩
  rw [mem_blk11]
  intro a
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 256 ≤ (i 1).val ∧ (i 1).val < win0_11.index t (1 : Fin 2) * 256 + 256; omega

theorem final11 (c : Dev nD) : (dats m 0 c).arrAt 11 cfg0.N = G11 m c :=
  (dats m 0 c).arrAt_eq_of_cover 11 _ (fun t hf => flushed11_eq m c t hf) covered11

/-! ## The gradient with respect to the keys -/

theorem post12 (r : PUnit × MemSt nD τ sig (Elt F)) (h : Pipeline.FramePost cfgs (dats m) 0 (V m) r) (c : Dev nD) :
    r.2.mem ((c : Thread nD τ).loc main_v192_1) = (dats m 0 c).arrAt 12 cfg0.N :=
  (h c).1 12

/-- The grid point that writes the block holding an index: the odd point of the block's residue class. -/
abbrev pt12Of (i : S8192x256.Idx) : ℕ := 2 * ((i 0).val / 512) + 1

/-- An index within its block. -/
abbrev loc12Of (i : S8192x256.Idx) : S512x256.Idx :=
  ix2 ⟨(i 0).val % 512, Nat.mod_lt _ (by decide)⟩ ⟨(i 1).val % 256, Nat.mod_lt _ (by decide)⟩

/-- The array after the run: block by block what the odd points leave. -/
def G12 (c : Dev nD) : Buf (Elt F) ((c : Thread nD τ).loc main_v192_1) := fun i =>
  if h : pt12Of i < cfg0.N then (outsAt0 m c (pt12Of i) h).2.1 (loc12Of i) else V m c (Pipeline.arrRef spec0 12) i

theorem idx_facts12 : ∀ t : Fin cfg0.N, 0 ≤ win0_12.index t (0 : Fin 2) ∧ win0_12.index t (0 : Fin 2) ≤ 15
    ∧ 0 ≤ win0_12.index t (1 : Fin 2) ∧ win0_12.index t (1 : Fin 2) ≤ 0
    ∧ 1 * (win0_12.index t (0 : Fin 2) - 0) + 1 * (win0_12.index t (1 : Fin 2) - 0) = t.val / 2 :=
  (by decide +kernel : ∀ t : Fin grid0.N, _)

/-- The odd point of a residue class. -/
abbrev onto12Pt (q : Fin 16) : Fin grid0.N := ⟨2 * q.val + 1, lt_of_lt_of_eq (by omega) N_0.symm⟩

theorem idx_onto12 (q : Fin 16) : ∃ t : Fin cfg0.N, (cfg0.win 12).flush t = true ∧ win0_12.index t = ![q.val, 0] :=
  ⟨onto12Pt q, (by decide +kernel : ∀ q : Fin 16, win0_12.flush (onto12Pt q) = true ∧ win0_12.index (onto12Pt q) = ![q.val, 0]) q⟩

theorem flushed12_eq (c : Dev nD) (t : Fin cfg0.N) (hf : (cfg0.win 12).flush t = true) :
    (dats m 0 c).flushed 12 t = ((cfg0.win 12).blk t).view.read (Elt F) (G12 m c) := by
  show (cfg0.win 12).cut (grid0.coords t) ((dats m 0 c).after 12 t) = _
  rw [after0_12]
  have hm : t.val % 2 = 1 := (flush0_12 t).mp hf
  obtain ⟨e0, e1, e2⟩ := idx_facts12 t
  funext y
  have hy0 : (y 0).val < 512 := (y 0).isLt
  have hy1 : (y 1).val < 256 := (y 1).isLt
  have hb0 : (((cfg0.win 12).blk t).view.emb y 0).val = win0_12.index t (0 : Fin 2) * 512 + 1 * (y 0).val := rfl
  have hb1 : (((cfg0.win 12).blk t).view.emb y 1).val = win0_12.index t (1 : Fin 2) * 256 + 1 * (y 1).val := rfl
  have hl : loc12Of (((cfg0.win 12).blk t).view.emb y) = (cfg0.win 12).xinj (grid0.coords t) y := by
    funext a; apply Fin.ext
    match a with
    | ⟨0, _⟩ => show (((cfg0.win 12).blk t).view.emb y 0).val % 512 = (y 0).val; rw [hb0]; omega
    | ⟨1, _⟩ => show (((cfg0.win 12).blk t).view.emb y 1).val % 256 = (y 1).val; rw [hb1]; omega
  have hp : pt12Of (((cfg0.win 12).blk t).view.emb y) = t.val := by
    show 2 * ((((cfg0.win 12).blk t).view.emb y 0).val / 512) + 1 = _
    rw [hb0]; omega
  show (outsAt0 m c t.val t.isLt).2.1 ((cfg0.win 12).xinj (grid0.coords t) y) = G12 m c (((cfg0.win 12).blk t).view.emb y)
  unfold G12
  rw [dif_pos (by rw [hp]; exact t.isLt), hl, outs_congr m c hp _ t.isLt]

theorem mem_blk12 (t : Fin cfg0.N) (i : S8192x256.Idx) :
    i ∈ ((cfg0.win 12).blk t).view.set ↔ ∀ a : Fin 2, win0_12.index t a * S512x256.size a ≤ (i a).val ∧ (i a).val < win0_12.index t a * S512x256.size a + S512x256.size a := by
  show i ∈ ((View.whole main_v192_1).slice (win0_12.rect t)).set ↔ _
  rw [View.set_slice_whole, Rect.mem_set_unit]
  exact Iff.rfl

theorem covered12 (i : S8192x256.Idx) :
    ∃ t : Fin cfg0.N, (cfg0.win 12).flush t = true ∧ i ∈ ((cfg0.win 12).blk t).view.set := by
  have hi0 : (i 0).val < 8192 := (i 0).isLt
  have hi1 : (i 1).val < 256 := (i 1).isLt
  obtain ⟨t, hft, ht⟩ := idx_onto12 ⟨(i 0).val / 512, by omega⟩
  have q0 : win0_12.index t (0 : Fin 2) = (i 0).val / 512 := congrFun ht 0
  have q1 : win0_12.index t (1 : Fin 2) = 0 := congrFun ht 1
  refine ⟨t, hft, ?_⟩
  rw [mem_blk12]
  intro a
  match a with
  | ⟨0, _⟩ => show win0_12.index t (0 : Fin 2) * 512 ≤ (i 0).val ∧ (i 0).val < win0_12.index t (0 : Fin 2) * 512 + 512; omega
  | ⟨1, _⟩ => show win0_12.index t (1 : Fin 2) * 256 ≤ (i 1).val ∧ (i 1).val < win0_12.index t (1 : Fin 2) * 256 + 256; omega

theorem final12 (c : Dev nD) : (dats m 0 c).arrAt 12 cfg0.N = G12 m c :=
  (dats m 0 c).arrAt_eq_of_cover 12 _ (fun t hf => flushed12_eq m c t hf) covered12

/-! ## The gradient with respect to the values -/

theorem post13 (r : PUnit × MemSt nD τ sig (Elt F)) (h : Pipeline.FramePost cfgs (dats m) 0 (V m) r) (c : Dev nD) :
    r.2.mem ((c : Thread nD τ).loc main_v192_2) = (dats m 0 c).arrAt 13 cfg0.N :=
  (h c).1 13

/-- The grid point that writes the block holding an index: the odd point of the block's residue class. -/
abbrev pt13Of (i : S8192x256.Idx) : ℕ := 2 * ((i 0).val / 512) + 1

/-- An index within its block. -/
abbrev loc13Of (i : S8192x256.Idx) : S512x256.Idx :=
  ix2 ⟨(i 0).val % 512, Nat.mod_lt _ (by decide)⟩ ⟨(i 1).val % 256, Nat.mod_lt _ (by decide)⟩

/-- The array after the run: block by block what the odd points leave. -/
def G13 (c : Dev nD) : Buf (Elt F) ((c : Thread nD τ).loc main_v192_2) := fun i =>
  if h : pt13Of i < cfg0.N then (outsAt0 m c (pt13Of i) h).2.2.1 (loc13Of i) else V m c (Pipeline.arrRef spec0 13) i

theorem idx_facts13 : ∀ t : Fin cfg0.N, 0 ≤ win0_13.index t (0 : Fin 2) ∧ win0_13.index t (0 : Fin 2) ≤ 15
    ∧ 0 ≤ win0_13.index t (1 : Fin 2) ∧ win0_13.index t (1 : Fin 2) ≤ 0
    ∧ 1 * (win0_13.index t (0 : Fin 2) - 0) + 1 * (win0_13.index t (1 : Fin 2) - 0) = t.val / 2 :=
  (by decide +kernel : ∀ t : Fin grid0.N, _)

/-- The odd point of a residue class. -/
abbrev onto13Pt (q : Fin 16) : Fin grid0.N := ⟨2 * q.val + 1, lt_of_lt_of_eq (by omega) N_0.symm⟩

theorem idx_onto13 (q : Fin 16) : ∃ t : Fin cfg0.N, (cfg0.win 13).flush t = true ∧ win0_13.index t = ![q.val, 0] :=
  ⟨onto13Pt q, (by decide +kernel : ∀ q : Fin 16, win0_13.flush (onto13Pt q) = true ∧ win0_13.index (onto13Pt q) = ![q.val, 0]) q⟩

theorem flushed13_eq (c : Dev nD) (t : Fin cfg0.N) (hf : (cfg0.win 13).flush t = true) :
    (dats m 0 c).flushed 13 t = ((cfg0.win 13).blk t).view.read (Elt F) (G13 m c) := by
  show (cfg0.win 13).cut (grid0.coords t) ((dats m 0 c).after 13 t) = _
  rw [after0_13]
  have hm : t.val % 2 = 1 := (flush0_13 t).mp hf
  obtain ⟨e0, e1, e2⟩ := idx_facts13 t
  funext y
  have hy0 : (y 0).val < 512 := (y 0).isLt
  have hy1 : (y 1).val < 256 := (y 1).isLt
  have hb0 : (((cfg0.win 13).blk t).view.emb y 0).val = win0_13.index t (0 : Fin 2) * 512 + 1 * (y 0).val := rfl
  have hb1 : (((cfg0.win 13).blk t).view.emb y 1).val = win0_13.index t (1 : Fin 2) * 256 + 1 * (y 1).val := rfl
  have hl : loc13Of (((cfg0.win 13).blk t).view.emb y) = (cfg0.win 13).xinj (grid0.coords t) y := by
    funext a; apply Fin.ext
    match a with
    | ⟨0, _⟩ => show (((cfg0.win 13).blk t).view.emb y 0).val % 512 = (y 0).val; rw [hb0]; omega
    | ⟨1, _⟩ => show (((cfg0.win 13).blk t).view.emb y 1).val % 256 = (y 1).val; rw [hb1]; omega
  have hp : pt13Of (((cfg0.win 13).blk t).view.emb y) = t.val := by
    show 2 * ((((cfg0.win 13).blk t).view.emb y 0).val / 512) + 1 = _
    rw [hb0]; omega
  show (outsAt0 m c t.val t.isLt).2.2.1 ((cfg0.win 13).xinj (grid0.coords t) y) = G13 m c (((cfg0.win 13).blk t).view.emb y)
  unfold G13
  rw [dif_pos (by rw [hp]; exact t.isLt), hl, outs_congr m c hp _ t.isLt]

theorem mem_blk13 (t : Fin cfg0.N) (i : S8192x256.Idx) :
    i ∈ ((cfg0.win 13).blk t).view.set ↔ ∀ a : Fin 2, win0_13.index t a * S512x256.size a ≤ (i a).val ∧ (i a).val < win0_13.index t a * S512x256.size a + S512x256.size a := by
  show i ∈ ((View.whole main_v192_2).slice (win0_13.rect t)).set ↔ _
  rw [View.set_slice_whole, Rect.mem_set_unit]
  exact Iff.rfl

theorem covered13 (i : S8192x256.Idx) :
    ∃ t : Fin cfg0.N, (cfg0.win 13).flush t = true ∧ i ∈ ((cfg0.win 13).blk t).view.set := by
  have hi0 : (i 0).val < 8192 := (i 0).isLt
  have hi1 : (i 1).val < 256 := (i 1).isLt
  obtain ⟨t, hft, ht⟩ := idx_onto13 ⟨(i 0).val / 512, by omega⟩
  have q0 : win0_13.index t (0 : Fin 2) = (i 0).val / 512 := congrFun ht 0
  have q1 : win0_13.index t (1 : Fin 2) = 0 := congrFun ht 1
  refine ⟨t, hft, ?_⟩
  rw [mem_blk13]
  intro a
  match a with
  | ⟨0, _⟩ => show win0_13.index t (0 : Fin 2) * 512 ≤ (i 0).val ∧ (i 0).val < win0_13.index t (0 : Fin 2) * 512 + 512; omega
  | ⟨1, _⟩ => show win0_13.index t (1 : Fin 2) * 256 ≤ (i 1).val ∧ (i 1).val < win0_13.index t (1 : Fin 2) * 256 + 256; omega

theorem final13 (c : Dev nD) : (dats m 0 c).arrAt 13 cfg0.N = G13 m c :=
  (dats m 0 c).arrAt_eq_of_cover 13 _ (fun t hf => flushed13_eq m c t hf) covered13

/-! ## The run -/

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- The run leaves the three gradients as the arrays above and its arguments unchanged. -/
theorem run : θ_run defs (onTc (τ := τ) (main (F := F))) ⟨m, fun _ => 0, ρ⟩ fun r => ∀ c : Dev nD,
      r.2.mem ((c : Thread nD τ).loc main_v192_0) = G11 m c
      ∧ r.2.mem ((c : Thread nD τ).loc main_v192_1) = G12 m c
      ∧ r.2.mem ((c : Thread nD τ).loc main_v192_2) = G13 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(post11 m r h c).trans (final11 m c),
      (post12 m r h c).trans (final12 m c),
      (post13 m r h c).trans (final13 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

end Cert.AttKernelIdeal.Own

end
-- ==== Proof.HostLine.lean ====
/-
  The host operations before the region, in lines: the part shared with the reference leaves the reference's own values.
-/
module

public import proofs.«01_k».proof.Proof.Gen.AttKernelIdeal.Frame.Runs
public import proofs.«01_k».proof.Proof.Gen.AttReferenceIdeal.Read
public import Idealize.ShloMosaic.Lib.StableHlo.Run

@[expose] public section

set_option maxRecDepth 16384

noncomputable section

namespace Cert.AttKernelIdeal.Own

open Cert.AttKernelIdeal Cert.AttKernelIdeal.Gen Idealize.ShloMosaic Idealize.ShloMosaic.TcCoe Idealize.SL.Sem
open Idealize.ShloMosaic.StableHlo Cert.AttReferenceIdeal.Read

variable {F : FTy → Type} [FloatOps F] (W : Valuation τ sig (Elt F))
  (x0 x1 x2 x8 : (⟨S8192x256, .bf16⟩ : BufTy).Contents (Elt F)) (x3 : (⟨S32x4, .f32⟩ : BufTy).Contents (Elt F))
  (x4 x6 : (⟨S8192x4x64, .f32⟩ : BufTy).Contents (Elt F)) (x5 x7 : (⟨S8192x4, .f32⟩ : BufTy).Contents (Elt F))

/-- The first line: the residue layout and the scaled scores. -/
abbrev line0 : List (HloOp τ sig (Elt F)) := hostOps0

set_option maxHeartbeats 4000000 in
theorem line0_v1 : after line0 W (Proc.devRef .tc main_v1) = val_main_v1 (F := F) (W (Proc.devRef .tc main_arg4)) := by
  simp only [line0, hostOps0]
  after_results_simp
  rfl

set_option maxHeartbeats 4000000 in
theorem line0_v3 : after line0 W (Proc.devRef .tc main_v3) = val_main_v3 (F := F) (W (Proc.devRef .tc main_arg5)) := by
  simp only [line0, hostOps0]
  after_results_simp
  rfl

set_option maxHeartbeats 4000000 in
theorem line0_v5 : after line0 W (Proc.devRef .tc main_v5) = val_main_v5 (F := F) (W (Proc.devRef .tc main_arg6)) := by
  simp only [line0, hostOps0]
  after_results_simp
  rfl

set_option maxHeartbeats 4000000 in
theorem line0_v7 : after line0 W (Proc.devRef .tc main_v7) = val_main_v7 (F := F) (W (Proc.devRef .tc main_arg7)) := by
  simp only [line0, hostOps0]
  after_results_simp
  rfl

set_option maxHeartbeats 4000000 in
theorem line0_v19 : after line0 W (Proc.devRef .tc main_v19) = val_main_v19 (F := F) (W (Proc.devRef .tc main_arg2)) := by
  simp only [line0, hostOps0]
  after_results_simp
  rfl

set_option maxHeartbeats 4000000 in
theorem line0_v22 : after line0 W (Proc.devRef .tc main_v22) = val_main_v22 (F := F) (W (Proc.devRef .tc main_arg0)) (W (Proc.devRef .tc main_arg1)) := by
  simp only [line0, hostOps0]
  after_results_simp
  rfl

set_option maxHeartbeats 4000000 in
theorem line0_v32 : after line0 W (Proc.devRef .tc main_v32) = val_main_v32 (F := F)  := by
  simp only [line0, hostOps0]
  after_results_simp
  rfl

set_option maxHeartbeats 4000000 in
theorem line0_v34 : after line0 W (Proc.devRef .tc main_v34) = val_main_v34 (F := F)  := by
  simp only [line0, hostOps0]
  after_results_simp
  rfl

set_option maxHeartbeats 4000000 in
theorem line0_v36 : after line0 W (Proc.devRef .tc main_v36) = val_main_v36 (F := F)  := by
  simp only [line0, hostOps0]
  after_results_simp
  rfl

set_option maxHeartbeats 4000000 in
theorem line0_c_2 : after line0 W (Proc.devRef .tc main_c_2) = val_main_c_2 (F := F)  := by
  simp only [line0, hostOps0]
  after_results_simp
  rfl

set_option maxHeartbeats 4000000 in
theorem line0_c_3 : after line0 W (Proc.devRef .tc main_c_3) = val_main_c_3 (F := F)  := by
  simp only [line0, hostOps0]
  after_results_simp
  rfl

set_option maxHeartbeats 4000000 in
theorem line0_arg0 : after line0 W (Proc.devRef .tc main_arg0) = W (Proc.devRef .tc main_arg0) := by
  simp only [line0, hostOps0]
  after_results_simp

set_option maxHeartbeats 4000000 in
theorem line0_arg1 : after line0 W (Proc.devRef .tc main_arg1) = W (Proc.devRef .tc main_arg1) := by
  simp only [line0, hostOps0]
  after_results_simp

set_option maxHeartbeats 4000000 in
theorem line0_arg2 : after line0 W (Proc.devRef .tc main_arg2) = W (Proc.devRef .tc main_arg2) := by
  simp only [line0, hostOps0]
  after_results_simp

set_option maxHeartbeats 4000000 in
theorem line0_arg3 : after line0 W (Proc.devRef .tc main_arg3) = W (Proc.devRef .tc main_arg3) := by
  simp only [line0, hostOps0]
  after_results_simp

set_option maxHeartbeats 4000000 in
theorem line0_arg8 : after line0 W (Proc.devRef .tc main_arg8) = W (Proc.devRef .tc main_arg8) := by
  simp only [line0, hostOps0]
  after_results_simp

/-- The second line: the bias of the scores. -/
abbrev line1 : List (HloOp τ sig (Elt F)) := hostOps0_1 ++ (hostOps0_2 ++ (hostOps0_3 ++ (hostOps0_4 ++ hostOps0_5)))

set_option maxHeartbeats 4000000 in
theorem line1_v67 (hv32 : W (Proc.devRef .tc main_v32) = val_main_v32 (F := F)) (hv34 : W (Proc.devRef .tc main_v34) = val_main_v34 (F := F)) (hv36 : W (Proc.devRef .tc main_v36) = val_main_v36 (F := F)) (hc_2 : W (Proc.devRef .tc main_c_2) = val_main_c_2 (F := F)) (hc_3 : W (Proc.devRef .tc main_c_3) = val_main_c_3 (F := F)) : after line1 W (Proc.devRef .tc main_v67) = val_main_v67 (F := F) (W (Proc.devRef .tc main_arg3)) := by
  simp only [line1, hostOps0_1, hostOps0_2, hostOps0_3, hostOps0_4, hostOps0_5, List.cons_append, List.nil_append]
  after_results_simp
  simp only [hv32, hv34, hv36, hc_2, hc_3] <;> rfl

set_option maxHeartbeats 4000000 in
theorem line1_v1 : after line1 W (Proc.devRef .tc main_v1) = W (Proc.devRef .tc main_v1) := by
  simp only [line1, hostOps0_1, hostOps0_2, hostOps0_3, hostOps0_4, hostOps0_5, List.cons_append, List.nil_append]
  after_results_simp

set_option maxHeartbeats 4000000 in
theorem line1_v3 : after line1 W (Proc.devRef .tc main_v3) = W (Proc.devRef .tc main_v3) := by
  simp only [line1, hostOps0_1, hostOps0_2, hostOps0_3, hostOps0_4, hostOps0_5, List.cons_append, List.nil_append]
  after_results_simp

set_option maxHeartbeats 4000000 in
theorem line1_v5 : after line1 W (Proc.devRef .tc main_v5) = W (Proc.devRef .tc main_v5) := by
  simp only [line1, hostOps0_1, hostOps0_2, hostOps0_3, hostOps0_4, hostOps0_5, List.cons_append, List.nil_append]
  after_results_simp

set_option maxHeartbeats 4000000 in
theorem line1_v7 : after line1 W (Proc.devRef .tc main_v7) = W (Proc.devRef .tc main_v7) := by
  simp only [line1, hostOps0_1, hostOps0_2, hostOps0_3, hostOps0_4, hostOps0_5, List.cons_append, List.nil_append]
  after_results_simp

set_option maxHeartbeats 4000000 in
theorem line1_v19 : after line1 W (Proc.devRef .tc main_v19) = W (Proc.devRef .tc main_v19) := by
  simp only [line1, hostOps0_1, hostOps0_2, hostOps0_3, hostOps0_4, hostOps0_5, List.cons_append, List.nil_append]
  after_results_simp

set_option maxHeartbeats 4000000 in
theorem line1_v22 : after line1 W (Proc.devRef .tc main_v22) = W (Proc.devRef .tc main_v22) := by
  simp only [line1, hostOps0_1, hostOps0_2, hostOps0_3, hostOps0_4, hostOps0_5, List.cons_append, List.nil_append]
  after_results_simp

set_option maxHeartbeats 4000000 in
theorem line1_arg0 : after line1 W (Proc.devRef .tc main_arg0) = W (Proc.devRef .tc main_arg0) := by
  simp only [line1, hostOps0_1, hostOps0_2, hostOps0_3, hostOps0_4, hostOps0_5, List.cons_append, List.nil_append]
  after_results_simp

set_option maxHeartbeats 4000000 in
theorem line1_arg1 : after line1 W (Proc.devRef .tc main_arg1) = W (Proc.devRef .tc main_arg1) := by
  simp only [line1, hostOps0_1, hostOps0_2, hostOps0_3, hostOps0_4, hostOps0_5, List.cons_append, List.nil_append]
  after_results_simp

set_option maxHeartbeats 4000000 in
theorem line1_arg2 : after line1 W (Proc.devRef .tc main_arg2) = W (Proc.devRef .tc main_arg2) := by
  simp only [line1, hostOps0_1, hostOps0_2, hostOps0_3, hostOps0_4, hostOps0_5, List.cons_append, List.nil_append]
  after_results_simp

set_option maxHeartbeats 4000000 in
theorem line1_arg3 : after line1 W (Proc.devRef .tc main_arg3) = W (Proc.devRef .tc main_arg3) := by
  simp only [line1, hostOps0_1, hostOps0_2, hostOps0_3, hostOps0_4, hostOps0_5, List.cons_append, List.nil_append]
  after_results_simp

set_option maxHeartbeats 4000000 in
theorem line1_arg8 : after line1 W (Proc.devRef .tc main_arg8) = W (Proc.devRef .tc main_arg8) := by
  simp only [line1, hostOps0_1, hostOps0_2, hostOps0_3, hostOps0_4, hostOps0_5, List.cons_append, List.nil_append]
  after_results_simp

/-- The third line: the probabilities of the group. -/
abbrev line2 : List (HloOp τ sig (Elt F)) := hostOps0_6.take 23

set_option maxHeartbeats 4000000 in
theorem line2_v81 (hv22 : W (Proc.devRef .tc main_v22) = val_main_v22 (F := F) x0 x1) (hv67 : W (Proc.devRef .tc main_v67) = val_main_v67 (F := F) x3) : after line2 W (Proc.devRef .tc main_v81) = val_main_v86 (F := F) x0 x1 x3 := by
  simp only [line2, hostOps0_6, List.take_succ_cons, List.take_zero, List.drop_succ_cons, List.drop_zero]
  after_results_simp
  simp only [hv22, hv67] <;> rfl

set_option maxHeartbeats 4000000 in
theorem line2_v86 (hv22 : W (Proc.devRef .tc main_v22) = val_main_v22 (F := F) x0 x1) (hv67 : W (Proc.devRef .tc main_v67) = val_main_v67 (F := F) x3) : after line2 W (Proc.devRef .tc main_v86) = val_main_v94 (F := F) x0 x1 x3 := by
  simp only [line2, hostOps0_6, List.take_succ_cons, List.take_zero, List.drop_succ_cons, List.drop_zero]
  after_results_simp
  simp only [hv22, hv67] <;> rfl

set_option maxHeartbeats 4000000 in
theorem line2_v85 (hv22 : W (Proc.devRef .tc main_v22) = val_main_v22 (F := F) x0 x1) (hv67 : W (Proc.devRef .tc main_v67) = val_main_v67 (F := F) x3) (hv19 : W (Proc.devRef .tc main_v19) = val_main_v19 (F := F) x2) : after line2 W (Proc.devRef .tc main_v85) = val_main_v93 (F := F) x0 x1 x2 x3 := by
  simp only [line2, hostOps0_6, List.take_succ_cons, List.take_zero, List.drop_succ_cons, List.drop_zero]
  after_results_simp
  simp only [hv22, hv67, hv19] <;> rfl

set_option maxHeartbeats 4000000 in
theorem line2_v87 (hv3 : W (Proc.devRef .tc main_v3) = val_main_v3 (F := F) x5) : after line2 W (Proc.devRef .tc main_v87) = val_main_v95 (F := F) x5 := by
  simp only [line2, hostOps0_6, List.take_succ_cons, List.take_zero, List.drop_succ_cons, List.drop_zero]
  after_results_simp
  simp only [hv3] <;> rfl

set_option maxHeartbeats 4000000 in
theorem line2_v88 (hv7 : W (Proc.devRef .tc main_v7) = val_main_v7 (F := F) x7) : after line2 W (Proc.devRef .tc main_v88) = val_main_v96 (F := F) x7 := by
  simp only [line2, hostOps0_6, List.take_succ_cons, List.take_zero, List.drop_succ_cons, List.drop_zero]
  after_results_simp
  simp only [hv7] <;> rfl

set_option maxHeartbeats 4000000 in
theorem line2_v1 : after line2 W (Proc.devRef .tc main_v1) = W (Proc.devRef .tc main_v1) := by
  simp only [line2, hostOps0_6, List.take_succ_cons, List.take_zero, List.drop_succ_cons, List.drop_zero]
  after_results_simp

set_option maxHeartbeats 4000000 in
theorem line2_v3 : after line2 W (Proc.devRef .tc main_v3) = W (Proc.devRef .tc main_v3) := by
  simp only [line2, hostOps0_6, List.take_succ_cons, List.take_zero, List.drop_succ_cons, List.drop_zero]
  after_results_simp

set_option maxHeartbeats 4000000 in
theorem line2_v5 : after line2 W (Proc.devRef .tc main_v5) = W (Proc.devRef .tc main_v5) := by
  simp only [line2, hostOps0_6, List.take_succ_cons, List.take_zero, List.drop_succ_cons, List.drop_zero]
  after_results_simp

set_option maxHeartbeats 4000000 in
theorem line2_v7 : after line2 W (Proc.devRef .tc main_v7) = W (Proc.devRef .tc main_v7) := by
  simp only [line2, hostOps0_6, List.take_succ_cons, List.take_zero, List.drop_succ_cons, List.drop_zero]
  after_results_simp

set_option maxHeartbeats 4000000 in
theorem line2_arg0 : after line2 W (Proc.devRef .tc main_arg0) = W (Proc.devRef .tc main_arg0) := by
  simp only [line2, hostOps0_6, List.take_succ_cons, List.take_zero, List.drop_succ_cons, List.drop_zero]
  after_results_simp

set_option maxHeartbeats 4000000 in
theorem line2_arg1 : after line2 W (Proc.devRef .tc main_arg1) = W (Proc.devRef .tc main_arg1) := by
  simp only [line2, hostOps0_6, List.take_succ_cons, List.take_zero, List.drop_succ_cons, List.drop_zero]
  after_results_simp

set_option maxHeartbeats 4000000 in
theorem line2_arg2 : after line2 W (Proc.devRef .tc main_arg2) = W (Proc.devRef .tc main_arg2) := by
  simp only [line2, hostOps0_6, List.take_succ_cons, List.take_zero, List.drop_succ_cons, List.drop_zero]
  after_results_simp

set_option maxHeartbeats 4000000 in
theorem line2_arg3 : after line2 W (Proc.devRef .tc main_arg3) = W (Proc.devRef .tc main_arg3) := by
  simp only [line2, hostOps0_6, List.take_succ_cons, List.take_zero, List.drop_succ_cons, List.drop_zero]
  after_results_simp

set_option maxHeartbeats 4000000 in
theorem line2_arg8 : after line2 W (Proc.devRef .tc main_arg8) = W (Proc.devRef .tc main_arg8) := by
  simp only [line2, hostOps0_6, List.take_succ_cons, List.take_zero, List.drop_succ_cons, List.drop_zero]
  after_results_simp

/-- The fourth line: the logarithm of the total weight. -/
abbrev line3 : List (HloOp τ sig (Elt F)) := (hostOps0_6.drop 23).take 14

/-- The logarithm of the total weight, as the host computes it. -/
def totalLog : (⟨S16x512x4, .f32⟩ : BufTy).Contents (Elt F) :=
  addf (val_main_v100 (F := F) x0 x1 x3 x5 x7) (Host.log (Host.reduceAdd (Host.exp (subf (val_main_v97 (F := F) x0 x1 x3 x5 x7)
    (broadcastInDim S3x16x512x4 ![0, 1, 2, 3] bcast_S1x16x512x4_S3x16x512x4_0_1_2_3
      (broadcastInDim S1x16x512x4 ![1, 2, 3] bcast_S16x512x4_S1x16x512x4_1_2_3 (val_main_v100 (F := F) x0 x1 x3 x5 x7)))))
    (constant S_ .f32 0x00000000#32) reducesTo_S3x16x512x4_S16x512x4_d0 h_S_))

/-- The row sums of the gradient with the joined output. -/
def rowDot : (⟨S16x512x4, .f32⟩ : BufTy).Contents (Elt F) :=
  Host.reduceAdd (mulf (val_main_v137 (F := F) x0 x1 x2 x3 x4 x5 x6 x7) (val_main_v141 (F := F) x8))
    (constant S_ .f32 0x00000000#32) reducesTo_S16x512x4x64_S16x512x4_d3 h_S_

set_option maxHeartbeats 4000000 in
theorem line3_v97 (hv86 : W (Proc.devRef .tc main_v86) = val_main_v94 (F := F) x0 x1 x3) (hv87 : W (Proc.devRef .tc main_v87) = val_main_v95 (F := F) x5) (hv88 : W (Proc.devRef .tc main_v88) = val_main_v96 (F := F) x7) : after line3 W (Proc.devRef .tc main_v97) = totalLog x0 x1 x3 x5 x7 := by
  simp only [line3, hostOps0_6, List.take_succ_cons, List.take_zero, List.drop_succ_cons, List.drop_zero]
  after_results_simp
  (try dsimp only [Matrix.cons_val])
  rw [hv86, hv87, hv88]
  rfl

set_option maxHeartbeats 4000000 in
theorem line3_v98 (hv81 : W (Proc.devRef .tc main_v81) = val_main_v86 (F := F) x0 x1 x3) : after line3 W (Proc.devRef .tc main_v98) = val_main_v94 (F := F) x0 x1 x3 := by
  simp only [line3, hostOps0_6, List.take_succ_cons, List.take_zero, List.drop_succ_cons, List.drop_zero]
  after_results_simp
  simp only [hv81] <;> rfl

set_option maxHeartbeats 4000000 in
theorem line3_v99 (hv3 : W (Proc.devRef .tc main_v3) = val_main_v3 (F := F) x5) : after line3 W (Proc.devRef .tc main_v99) = val_main_v95 (F := F) x5 := by
  simp only [line3, hostOps0_6, List.take_succ_cons, List.take_zero, List.drop_succ_cons, List.drop_zero]
  after_results_simp
  simp only [hv3] <;> rfl

set_option maxHeartbeats 4000000 in
theorem line3_v100 (hv7 : W (Proc.devRef .tc main_v7) = val_main_v7 (F := F) x7) : after line3 W (Proc.devRef .tc main_v100) = val_main_v96 (F := F) x7 := by
  simp only [line3, hostOps0_6, List.take_succ_cons, List.take_zero, List.drop_succ_cons, List.drop_zero]
  after_results_simp
  simp only [hv7] <;> rfl

set_option maxHeartbeats 4000000 in
theorem line3_v1 : after line3 W (Proc.devRef .tc main_v1) = W (Proc.devRef .tc main_v1) := by
  simp only [line3, hostOps0_6, List.take_succ_cons, List.take_zero, List.drop_succ_cons, List.drop_zero]
  after_results_simp

set_option maxHeartbeats 4000000 in
theorem line3_v5 : after line3 W (Proc.devRef .tc main_v5) = W (Proc.devRef .tc main_v5) := by
  simp only [line3, hostOps0_6, List.take_succ_cons, List.take_zero, List.drop_succ_cons, List.drop_zero]
  after_results_simp

set_option maxHeartbeats 4000000 in
theorem line3_v85 : after line3 W (Proc.devRef .tc main_v85) = W (Proc.devRef .tc main_v85) := by
  simp only [line3, hostOps0_6, List.take_succ_cons, List.take_zero, List.drop_succ_cons, List.drop_zero]
  after_results_simp

set_option maxHeartbeats 4000000 in
theorem line3_arg0 : after line3 W (Proc.devRef .tc main_arg0) = W (Proc.devRef .tc main_arg0) := by
  simp only [line3, hostOps0_6, List.take_succ_cons, List.take_zero, List.drop_succ_cons, List.drop_zero]
  after_results_simp

set_option maxHeartbeats 4000000 in
theorem line3_arg1 : after line3 W (Proc.devRef .tc main_arg1) = W (Proc.devRef .tc main_arg1) := by
  simp only [line3, hostOps0_6, List.take_succ_cons, List.take_zero, List.drop_succ_cons, List.drop_zero]
  after_results_simp

set_option maxHeartbeats 4000000 in
theorem line3_arg2 : after line3 W (Proc.devRef .tc main_arg2) = W (Proc.devRef .tc main_arg2) := by
  simp only [line3, hostOps0_6, List.take_succ_cons, List.take_zero, List.drop_succ_cons, List.drop_zero]
  after_results_simp

set_option maxHeartbeats 4000000 in
theorem line3_arg3 : after line3 W (Proc.devRef .tc main_arg3) = W (Proc.devRef .tc main_arg3) := by
  simp only [line3, hostOps0_6, List.take_succ_cons, List.take_zero, List.drop_succ_cons, List.drop_zero]
  after_results_simp

set_option maxHeartbeats 4000000 in
theorem line3_arg8 : after line3 W (Proc.devRef .tc main_arg8) = W (Proc.devRef .tc main_arg8) := by
  simp only [line3, hostOps0_6, List.take_succ_cons, List.take_zero, List.drop_succ_cons, List.drop_zero]
  after_results_simp

/-- The fifth line: the weights of the groups. -/
abbrev line4 : List (HloOp τ sig (Elt F)) := (hostOps0_6.drop 37).take 19

set_option maxHeartbeats 4000000 in
theorem line4_v113 (hv98 : W (Proc.devRef .tc main_v98) = val_main_v94 (F := F) x0 x1 x3) (hv99 : W (Proc.devRef .tc main_v99) = val_main_v95 (F := F) x5) (hv100 : W (Proc.devRef .tc main_v100) = val_main_v96 (F := F) x7) : after line4 W (Proc.devRef .tc main_v113) = val_main_v128 (F := F) x0 x1 x3 x5 x7 := by
  simp only [line4, hostOps0_6, List.take_succ_cons, List.take_zero, List.drop_succ_cons, List.drop_zero]
  after_results_simp
  (try dsimp only [Matrix.cons_val])
  rw [hv98, hv99, hv100]
  rfl

set_option maxHeartbeats 4000000 in
theorem line4_v114 (hv85 : W (Proc.devRef .tc main_v85) = val_main_v93 (F := F) x0 x1 x2 x3) : after line4 W (Proc.devRef .tc main_v114) = val_main_v129 (F := F) x0 x1 x2 x3 := by
  simp only [line4, hostOps0_6, List.take_succ_cons, List.take_zero, List.drop_succ_cons, List.drop_zero]
  after_results_simp
  simp only [hv85] <;> rfl

set_option maxHeartbeats 4000000 in
theorem line4_v115 (hv1 : W (Proc.devRef .tc main_v1) = val_main_v1 (F := F) x4) : after line4 W (Proc.devRef .tc main_v115) = val_main_v130 (F := F) x4 := by
  simp only [line4, hostOps0_6, List.take_succ_cons, List.take_zero, List.drop_succ_cons, List.drop_zero]
  after_results_simp
  simp only [hv1] <;> rfl

set_option maxHeartbeats 4000000 in
theorem line4_v116 (hv5 : W (Proc.devRef .tc main_v5) = val_main_v5 (F := F) x6) : after line4 W (Proc.devRef .tc main_v116) = val_main_v131 (F := F) x6 := by
  simp only [line4, hostOps0_6, List.take_succ_cons, List.take_zero, List.drop_succ_cons, List.drop_zero]
  after_results_simp
  simp only [hv5] <;> rfl

set_option maxHeartbeats 4000000 in
theorem line4_v97 : after line4 W (Proc.devRef .tc main_v97) = W (Proc.devRef .tc main_v97) := by
  simp only [line4, hostOps0_6, List.take_succ_cons, List.take_zero, List.drop_succ_cons, List.drop_zero]
  after_results_simp

set_option maxHeartbeats 4000000 in
theorem line4_arg0 : after line4 W (Proc.devRef .tc main_arg0) = W (Proc.devRef .tc main_arg0) := by
  simp only [line4, hostOps0_6, List.take_succ_cons, List.take_zero, List.drop_succ_cons, List.drop_zero]
  after_results_simp

set_option maxHeartbeats 4000000 in
theorem line4_arg1 : after line4 W (Proc.devRef .tc main_arg1) = W (Proc.devRef .tc main_arg1) := by
  simp only [line4, hostOps0_6, List.take_succ_cons, List.take_zero, List.drop_succ_cons, List.drop_zero]
  after_results_simp

set_option maxHeartbeats 4000000 in
theorem line4_arg2 : after line4 W (Proc.devRef .tc main_arg2) = W (Proc.devRef .tc main_arg2) := by
  simp only [line4, hostOps0_6, List.take_succ_cons, List.take_zero, List.drop_succ_cons, List.drop_zero]
  after_results_simp

set_option maxHeartbeats 4000000 in
theorem line4_arg3 : after line4 W (Proc.devRef .tc main_arg3) = W (Proc.devRef .tc main_arg3) := by
  simp only [line4, hostOps0_6, List.take_succ_cons, List.take_zero, List.drop_succ_cons, List.drop_zero]
  after_results_simp

set_option maxHeartbeats 4000000 in
theorem line4_arg8 : after line4 W (Proc.devRef .tc main_arg8) = W (Proc.devRef .tc main_arg8) := by
  simp only [line4, hostOps0_6, List.take_succ_cons, List.take_zero, List.drop_succ_cons, List.drop_zero]
  after_results_simp

/-- The sixth line: the row sums. -/
abbrev line5 : List (HloOp τ sig (Elt F)) := (hostOps0_6.drop 56).take 12

set_option maxHeartbeats 4000000 in
theorem line5_v126 (hv113 : W (Proc.devRef .tc main_v113) = val_main_v128 (F := F) x0 x1 x3 x5 x7) (hv114 : W (Proc.devRef .tc main_v114) = val_main_v129 (F := F) x0 x1 x2 x3) (hv115 : W (Proc.devRef .tc main_v115) = val_main_v130 (F := F) x4) (hv116 : W (Proc.devRef .tc main_v116) = val_main_v131 (F := F) x6) (harg8 : W (Proc.devRef .tc main_arg8) = x8) : after line5 W (Proc.devRef .tc main_v126) = rowDot x0 x1 x2 x8 x3 x4 x6 x5 x7 := by
  simp only [line5, hostOps0_6, List.take_succ_cons, List.take_zero, List.drop_succ_cons, List.drop_zero]
  after_results_simp
  (try dsimp only [Matrix.cons_val])
  rw [hv113, hv114, hv115, hv116, harg8]
  rfl

set_option maxHeartbeats 4000000 in
theorem line5_v97 : after line5 W (Proc.devRef .tc main_v97) = W (Proc.devRef .tc main_v97) := by
  simp only [line5, hostOps0_6, List.take_succ_cons, List.take_zero, List.drop_succ_cons, List.drop_zero]
  after_results_simp

set_option maxHeartbeats 4000000 in
theorem line5_arg0 : after line5 W (Proc.devRef .tc main_arg0) = W (Proc.devRef .tc main_arg0) := by
  simp only [line5, hostOps0_6, List.take_succ_cons, List.take_zero, List.drop_succ_cons, List.drop_zero]
  after_results_simp

set_option maxHeartbeats 4000000 in
theorem line5_arg1 : after line5 W (Proc.devRef .tc main_arg1) = W (Proc.devRef .tc main_arg1) := by
  simp only [line5, hostOps0_6, List.take_succ_cons, List.take_zero, List.drop_succ_cons, List.drop_zero]
  after_results_simp

set_option maxHeartbeats 4000000 in
theorem line5_arg2 : after line5 W (Proc.devRef .tc main_arg2) = W (Proc.devRef .tc main_arg2) := by
  simp only [line5, hostOps0_6, List.take_succ_cons, List.take_zero, List.drop_succ_cons, List.drop_zero]
  after_results_simp

set_option maxHeartbeats 4000000 in
theorem line5_arg3 : after line5 W (Proc.devRef .tc main_arg3) = W (Proc.devRef .tc main_arg3) := by
  simp only [line5, hostOps0_6, List.take_succ_cons, List.take_zero, List.drop_succ_cons, List.drop_zero]
  after_results_simp

set_option maxHeartbeats 4000000 in
theorem line5_arg8 : after line5 W (Proc.devRef .tc main_arg8) = W (Proc.devRef .tc main_arg8) := by
  simp only [line5, hostOps0_6, List.take_succ_cons, List.take_zero, List.drop_succ_cons, List.drop_zero]
  after_results_simp

/-- The seventh line: the bias of a window. -/
abbrev line6 : List (HloOp τ sig (Elt F)) := hostOps0_6.drop 68 ++ (hostOps0_7 ++ (hostOps0_8 ++ (hostOps0_9 ++ (hostOps0_10 ++ hostOps0_11))))

set_option maxHeartbeats 4000000 in
theorem line6_v97 : after line6 W (Proc.devRef .tc main_v97) = W (Proc.devRef .tc main_v97) := by
  simp only [line6, hostOps0_7, hostOps0_8, hostOps0_9, hostOps0_10, hostOps0_11, List.cons_append, List.nil_append, hostOps0_6, List.take_succ_cons, List.take_zero, List.drop_succ_cons, List.drop_zero]
  after_results_simp

set_option maxHeartbeats 4000000 in
theorem line6_v126 : after line6 W (Proc.devRef .tc main_v126) = W (Proc.devRef .tc main_v126) := by
  simp only [line6, hostOps0_7, hostOps0_8, hostOps0_9, hostOps0_10, hostOps0_11, List.cons_append, List.nil_append, hostOps0_6, List.take_succ_cons, List.take_zero, List.drop_succ_cons, List.drop_zero]
  after_results_simp

set_option maxHeartbeats 4000000 in
theorem line6_arg0 : after line6 W (Proc.devRef .tc main_arg0) = W (Proc.devRef .tc main_arg0) := by
  simp only [line6, hostOps0_7, hostOps0_8, hostOps0_9, hostOps0_10, hostOps0_11, List.cons_append, List.nil_append, hostOps0_6, List.take_succ_cons, List.take_zero, List.drop_succ_cons, List.drop_zero]
  after_results_simp

set_option maxHeartbeats 4000000 in
theorem line6_arg1 : after line6 W (Proc.devRef .tc main_arg1) = W (Proc.devRef .tc main_arg1) := by
  simp only [line6, hostOps0_7, hostOps0_8, hostOps0_9, hostOps0_10, hostOps0_11, List.cons_append, List.nil_append, hostOps0_6, List.take_succ_cons, List.take_zero, List.drop_succ_cons, List.drop_zero]
  after_results_simp

set_option maxHeartbeats 4000000 in
theorem line6_arg2 : after line6 W (Proc.devRef .tc main_arg2) = W (Proc.devRef .tc main_arg2) := by
  simp only [line6, hostOps0_7, hostOps0_8, hostOps0_9, hostOps0_10, hostOps0_11, List.cons_append, List.nil_append, hostOps0_6, List.take_succ_cons, List.take_zero, List.drop_succ_cons, List.drop_zero]
  after_results_simp

set_option maxHeartbeats 4000000 in
theorem line6_arg8 : after line6 W (Proc.devRef .tc main_arg8) = W (Proc.devRef .tc main_arg8) := by
  simp only [line6, hostOps0_7, hostOps0_8, hostOps0_9, hostOps0_10, hostOps0_11, List.cons_append, List.nil_append, hostOps0_6, List.take_succ_cons, List.take_zero, List.drop_succ_cons, List.drop_zero]
  after_results_simp

/-- The last line: the residue-major layout. -/
abbrev line7 : List (HloOp τ sig (Elt F)) := hostOps0_12

/-- A sequence in residue-major order. -/
def laid {α : Type} (x : S8192x256.Idx → α) : S8192x256.Idx → α :=
  shapeCast S8192x256 (transpose S16x512x256 [1, 0, 2] (shapeCast S512x16x256 x shapeCasts_S8192x256_S512x16x256) transposes_S512x16x256_S16x512x256_1_0_2) shapeCasts_S16x512x256_S8192x256

/-- A row quantity repeated over the features of its head. -/
def widened {α : Type} (x : S16x512x4.Idx → α) : S8192x256.Idx → α :=
  shapeCast S8192x256 (broadcastInDim S16x512x4x64 ![0, 1, 2, 3] bcast_S16x512x4x1_S16x512x4x64_0_1_2_3 (broadcastInDim S16x512x4x1 ![0, 1, 2] bcast_S16x512x4_S16x512x4x1_0_1_2 x)) shapeCasts_S16x512x4x64_S8192x256

set_option maxHeartbeats 4000000 in
theorem line7_v176 (harg0 : W (Proc.devRef .tc main_arg0) = x0) : after line7 W (Proc.devRef .tc main_v176) = laid x0 := by
  simp only [line7, hostOps0_12]
  after_results_simp
  simp only [harg0] <;> rfl

set_option maxHeartbeats 4000000 in
theorem line7_v179 (harg1 : W (Proc.devRef .tc main_arg1) = x1) : after line7 W (Proc.devRef .tc main_v179) = laid x1 := by
  simp only [line7, hostOps0_12]
  after_results_simp
  simp only [harg1] <;> rfl

set_option maxHeartbeats 4000000 in
theorem line7_v182 (harg2 : W (Proc.devRef .tc main_arg2) = x2) : after line7 W (Proc.devRef .tc main_v182) = laid x2 := by
  simp only [line7, hostOps0_12]
  after_results_simp
  simp only [harg2] <;> rfl

set_option maxHeartbeats 4000000 in
theorem line7_v188 (harg8 : W (Proc.devRef .tc main_arg8) = x8) : after line7 W (Proc.devRef .tc main_v188) = laid x8 := by
  simp only [line7, hostOps0_12]
  after_results_simp
  simp only [harg8] <;> rfl

set_option maxHeartbeats 4000000 in
theorem line7_v185 (y : (⟨S16x512x4, .f32⟩ : BufTy).Contents (Elt F)) (hv126 : W (Proc.devRef .tc main_v126) = y) : after line7 W (Proc.devRef .tc main_v185) = widened y := by
  simp only [line7, hostOps0_12]
  after_results_simp
  simp only [hv126] <;> rfl

set_option maxHeartbeats 4000000 in
theorem line7_v191 (y : (⟨S16x512x4, .f32⟩ : BufTy).Contents (Elt F)) (hv97 : W (Proc.devRef .tc main_v97) = y) : after line7 W (Proc.devRef .tc main_v191) = widened y := by
  simp only [line7, hostOps0_12]
  after_results_simp
  simp only [hv97] <;> rfl

set_option maxHeartbeats 4000000 in
theorem line7_v173 : after line7 W (Proc.devRef .tc main_v173) = W (Proc.devRef .tc main_v173) := by
  simp only [line7, hostOps0_12]
  after_results_simp

end Cert.AttKernelIdeal.Own

end
-- ==== Proof.Model.lean ====
/-
  The gradient of banded attention over the reals. One attention group looks at the keys within 64 steps of the query; its
  output is combined with the outputs of two further groups by the softmax of the three row log-sums. This file writes the
  forward values and the gradients with respect to the queries, the keys and the values without any running maximum, and
  proves the identities that take a derivative computed operation by operation to these closed forms.
-/
module

public import Mathlib.Analysis.SpecialFunctions.Log.Basic
public import Mathlib.Tactic.FieldSimp
public import Mathlib.Tactic.Ring
public import Mathlib.Tactic.Positivity
public import Mathlib.Algebra.BigOperators.Field

@[expose] public section

noncomputable section

namespace BandAttention

open Finset

/-- The arguments as reals: 16 residue classes, 512 positions in each, 4 heads of 64 features. -/
structure Data where
  q : Fin 16 → Fin 512 → Fin 4 → Fin 64 → ℝ
  k : Fin 16 → Fin 512 → Fin 4 → Fin 64 → ℝ
  v : Fin 16 → Fin 512 → Fin 4 → Fin 64 → ℝ
  g : Fin 16 → Fin 512 → Fin 4 → Fin 64 → ℝ
  o1 : Fin 16 → Fin 512 → Fin 4 → Fin 64 → ℝ
  o2 : Fin 16 → Fin 512 → Fin 4 → Fin 64 → ℝ
  l1 : Fin 16 → Fin 512 → Fin 4 → ℝ
  l2 : Fin 16 → Fin 512 → Fin 4 → ℝ
  /-- the score bias of a head at a distance given as a machine word -/
  b : Fin 4 → BitVec 32 → ℝ

/-- Query `i` sees key `j`. -/
def Near (i j : Fin 512) : Prop := j.val ≤ i.val + 64 ∧ i.val ≤ j.val + 64

instance (i j : Fin 512) : Decidable (Near i j) := by unfold Near; infer_instance

/-- The distance of key and query as a machine word. -/
def dist (i j : Fin 512) : BitVec 32 := BitVec.ofNat 32 j.val - BitVec.ofNat 32 i.val

namespace Data

variable (d : Data) (r : Fin 16) (h : Fin 4)

/-- The score of a query and a key. -/
def s (i j : Fin 512) : ℝ := (∑ e, d.q r i h e * d.k r j h e) * (1 / 8) + d.b h (dist i j)

/-- The weight of a key before normalisation. -/
def w (i j : Fin 512) : ℝ := if Near i j then Real.exp (d.s r h i j) else 0

/-- The sum of a query's weights. -/
def z (i : Fin 512) : ℝ := ∑ j, d.w r h i j

/-- The group's own output. -/
def o (i : Fin 512) (e : Fin 64) : ℝ := ∑ j, d.v r j h e * (d.w r h i j / d.z r h i)

/-- The weight of all three groups. -/
def tot (i : Fin 512) : ℝ := d.z r h i + Real.exp (d.l1 r i h) + Real.exp (d.l2 r i h)

/-- The combined output. -/
def att (i : Fin 512) (e : Fin 64) : ℝ :=
  d.z r h i / d.tot r h i * d.o r h i e + Real.exp (d.l1 r i h) / d.tot r h i * d.o1 r i h e
    + Real.exp (d.l2 r i h) / d.tot r h i * d.o2 r i h e

/-- The output's product with its cotangent, summed over the features. -/
def delta (i : Fin 512) : ℝ := ∑ e, d.att r h i e * d.g r i h e

/-- The probability a query gives a key among all three groups. -/
def p (i j : Fin 512) : ℝ := d.w r h i j / d.tot r h i

/-- The cotangent's product with a value. -/
def dp (i j : Fin 512) : ℝ := ∑ e, d.g r i h e * d.v r j h e

/-- The gradient with respect to a score. -/
def ds (i j : Fin 512) : ℝ := d.p r h i j * (d.dp r h i j - d.delta r h i)

/-- The gradient with respect to a query. -/
def dq (i : Fin 512) (e : Fin 64) : ℝ := ∑ j, d.ds r h i j * (1 / 8) * d.k r j h e

/-- The gradient with respect to a key. -/
def dk (j : Fin 512) (e : Fin 64) : ℝ := ∑ i, d.ds r h i j * (1 / 8) * d.q r i h e

/-- The gradient with respect to a value. -/
def dv (j : Fin 512) (e : Fin 64) : ℝ := ∑ i, d.p r h i j * d.g r i h e

lemma near_self (i : Fin 512) : Near i i := ⟨by omega, by omega⟩

lemma w_nonneg (i j : Fin 512) : 0 ≤ d.w r h i j := by
  unfold w; split
  · exact (Real.exp_pos _).le
  · exact le_rfl

lemma w_far {i j : Fin 512} (hn : ¬ Near i j) : d.w r h i j = 0 := if_neg hn

lemma z_pos (i : Fin 512) : 0 < d.z r h i := by
  refine Finset.sum_pos' (fun j _ => d.w_nonneg r h i j) ⟨i, Finset.mem_univ _, ?_⟩
  rw [w, if_pos (near_self i)]; exact Real.exp_pos _

lemma tot_pos (i : Fin 512) : 0 < d.tot r h i := by
  have := d.z_pos r h i
  unfold tot; positivity

/-- A probability, by the row's log-sum. -/
lemma p_eq_exp (i j : Fin 512) (hn : Near i j) :
    Real.exp (d.s r h i j - Real.log (d.tot r h i)) = d.p r h i j := by
  rw [p, w, if_pos hn, Real.exp_sub, Real.exp_log (d.tot_pos r h i)]

/-- The row sum's logarithm from the shifted weights. -/
lemma log_shift (M : ℝ) (i : Fin 512) : M + Real.log (d.z r h i * Real.exp (-M)) = Real.log (d.z r h i) := by
  rw [Real.log_mul (d.z_pos r h i).ne' (Real.exp_pos _).ne', Real.log_exp]; ring

/-- The logarithm of the three groups' sum from the shifted weights. -/
lemma log_shift_tot (M : ℝ) (i : Fin 512) : M + Real.log (d.tot r h i * Real.exp (-M)) = Real.log (d.tot r h i) := by
  rw [Real.log_mul (d.tot_pos r h i).ne' (Real.exp_pos _).ne', Real.log_exp]; ring

/-- The cotangent's product with the outputs of the three groups. -/
def c0 (i : Fin 512) : ℝ := ∑ e, d.g r i h e * d.o r h i e
/-- See `c0`. -/
def c1 (i : Fin 512) : ℝ := ∑ e, d.g r i h e * d.o1 r i h e
/-- See `c0`. -/
def c2 (i : Fin 512) : ℝ := ∑ e, d.g r i h e * d.o2 r i h e

lemma delta_eq (i : Fin 512) :
    d.delta r h i = d.z r h i / d.tot r h i * d.c0 r h i + Real.exp (d.l1 r i h) / d.tot r h i * d.c1 r h i
      + Real.exp (d.l2 r i h) / d.tot r h i * d.c2 r h i := by
  simp only [delta, att, c0, c1, c2, Finset.mul_sum, ← Finset.sum_add_distrib]
  exact Finset.sum_congr rfl fun e _ => by ring

lemma c0_eq (i : Fin 512) : d.c0 r h i = ∑ j, d.dp r h i j * (d.w r h i j / d.z r h i) := by
  simp only [c0, o, dp, Finset.mul_sum, Finset.sum_mul]
  rw [Finset.sum_comm]
  exact Finset.sum_congr rfl fun j _ => Finset.sum_congr rfl fun e _ => by ring

/-- The cotangent of the group's own log-sum, as the softmax of the log-sums computes it (`E` the exponential of its shift). -/
lemma dl_eq (E : ℝ) (hE : 0 < E) (i : Fin 512) :
    (d.c0 r h i / (d.tot r h i * E)
        + -(d.c0 r h i * (1 / (d.tot r h i * E * (d.tot r h i * E))) * (d.z r h i * E)
          + d.c1 r h i * (1 / (d.tot r h i * E * (d.tot r h i * E))) * (Real.exp (d.l1 r i h) * E)
          + d.c2 r h i * (1 / (d.tot r h i * E * (d.tot r h i * E))) * (Real.exp (d.l2 r i h) * E))) * (d.z r h i * E)
      = d.z r h i / d.tot r h i * (d.c0 r h i - d.delta r h i) := by
  have ht := (d.tot_pos r h i).ne'
  rw [delta_eq]
  field_simp
  ring

/-- The sum of the weights' own cotangents, as the division by the sum computes it (`E` the exponential of its shift). -/
lemma dsum_eq (E : ℝ) (hE : 0 < E) (i : Fin 512) :
    ∑ j, d.z r h i / d.tot r h i * d.dp r h i j * (1 / (d.z r h i * E * (d.z r h i * E))) * (d.w r h i j * E)
      = d.c0 r h i / (d.tot r h i * E) := by
  have ht := (d.tot_pos r h i).ne'
  have hz := (d.z_pos r h i).ne'
  rw [c0_eq, Finset.sum_div]
  refine Finset.sum_congr rfl fun j _ => ?_
  field_simp

/-- The gradient with respect to a score, as the operations compute it. -/
lemma ds_eq (E : ℝ) (hE : 0 < E) (i j : Fin 512) :
    (d.z r h i / d.tot r h i * d.dp r h i j / (d.z r h i * E)
        + (-(d.c0 r h i / (d.tot r h i * E))
          + d.z r h i / d.tot r h i * (d.c0 r h i - d.delta r h i) / (d.z r h i * E))) * (d.w r h i j * E)
      = d.ds r h i j := by
  have ht := (d.tot_pos r h i).ne'
  have hz := (d.z_pos r h i).ne'
  rw [ds, p]
  field_simp
  ring

/-- The gradients of a row's scores sum to the cotangent of its log-sum. -/
lemma sum_ds (i : Fin 512) :
    ∑ j, d.ds r h i j = d.z r h i / d.tot r h i * (d.c0 r h i - d.delta r h i) := by
  have ht := (d.tot_pos r h i).ne'
  have hz := (d.z_pos r h i).ne'
  have h1 : ∑ j, d.ds r h i j = (∑ j, d.dp r h i j * (d.w r h i j / d.z r h i)) * (d.z r h i / d.tot r h i)
      - (∑ j, d.w r h i j) * (d.delta r h i / d.tot r h i) := by
    simp only [Finset.sum_mul, ← Finset.sum_sub_distrib]
    refine Finset.sum_congr rfl fun j _ => ?_
    rw [ds, p]; field_simp
  rw [h1, ← c0_eq, ← z]; ring

/-- The gradient with respect to a value, as the operations compute it. -/
lemma dv_term (i j : Fin 512) (e : Fin 64) :
    d.z r h i / d.tot r h i * d.g r i h e * (d.w r h i j / d.z r h i) = d.p r h i j * d.g r i h e := by
  have hz := (d.z_pos r h i).ne'
  rw [p]; field_simp

end Data

end BandAttention
-- ==== Proof.Bias.lean ====
/-
  The score bias of the attention group: a table row chosen by the bucket of the distance between key and query. Both
  programs compute the bucket word by word with the same scalar operations, so it is kept as one function of the distance
  and never evaluated; what matters is only that a table entry is read, and that the band is the one of 64 steps.
-/
module

public import proofs.«01_k».proof.Proof.Model
public import Idealize.ShloMosaic.Lib.Pipeline.Value
public import Idealize.ShloMosaic.Lib.ValueIdx
public import Idealize.ShloMosaic.PureOps.Ideal.Laws
public import Idealize.ShloMosaic.Lib.Pointwise

@[expose] public section

noncomputable section

namespace BandAttention

open Idealize.ShloMosaic

/-- The bucket of a distance, before a negative index is wrapped. -/
def bucket0 (w : BitVec 32) : BitVec 32 :=
  IntOp.addi (Scalar.select (IntOp.cmpi .sgt (IntOp.muli w 16#32) 0#32) 16#32 0#32)
    (Scalar.select (IntOp.cmpi .slt (IntOp.absi (IntOp.muli w 16#32)) 8#32) (IntOp.absi (IntOp.muli w 16#32))
      (IntOp.minsi (IntOp.addi 8#32 (FloatOps.fptosi (F := Ideal) (φ := .f32) 32 (FloatOps.mulf (F := Ideal)
        (FloatOps.hostDivf (F := Ideal) (FloatOps.hostUnary (F := Ideal) .log (FloatOps.hostDivf (F := Ideal)
          (FloatOps.sitofp (F := Ideal) .f32 (IntOp.maxsi (IntOp.absi (IntOp.muli w 16#32)) 1#32))
          (FloatOps.ofBits (F := Ideal) .f32 0x41000000#32))) (FloatOps.ofBits (F := Ideal) .f32 0x409B43D5#32))
        (FloatOps.ofBits (F := Ideal) .f32 0x41000000#32)))) 15#32))

/-- The bucket of a distance. -/
def bucket (w : BitVec 32) : BitVec 32 :=
  Scalar.select (IntOp.cmpi .slt (bucket0 w) 0#32) (IntOp.addi (bucket0 w) 32#32) (bucket0 w)

/-- Whether a distance lies in the band. -/
def inBand (w : BitVec 32) : BitVec 1 := IntOp.cmpi .sle (IntOp.absi w) 64#32

/-- The table's entry for a distance. -/
def entry {α : Type} (x : (⟨2, ![32, 4]⟩ : Shape).Idx → α) (h : Fin 4) (w : BitVec 32) : α :=
  x (ix2 ⟨min (bucket w).toInt.toNat 31, by omega⟩ h)

section Rows
variable {α : Type}

/-- Gathering whole rows of a table, one row for each of the R by C start indices. -/
theorem gather_rows {N R C K w : ℕ} (hN : 0 < N)
    (d : GatherDims ⟨2, ![N, K]⟩ ⟨3, ![R, C, 1]⟩ ⟨3, ![R, C, K]⟩)
    (h1 : d.offsetDims = [2]) (h2 : d.collapsedSliceDims = [0]) (h3 : d.operandBatchingDims = [])
    (h4 : d.startIndicesBatchingDims = []) (h5 : d.startIndexMap = [0]) (h6 : d.indexVectorDim = 2)
    (h7 : d.sliceSizes = ![1, K])
    (x : (⟨2, ![N, K]⟩ : Shape).Idx → α) (idx : IVec ⟨3, ![R, C, 1]⟩ w) (r : Fin R) (c : Fin C) (k : Fin K) :
    Host.gather d x idx (ix3 r c k) = x (ix2 ⟨min (idx (ix3 r c 0)).toInt.toNat (N - 1), by omega⟩ k) := by
  obtain ⟨o, cs, ob, sb, sm, iv, ss, wf⟩ := d
  obtain rfl := h1; obtain rfl := h2; obtain rfl := h3; obtain rfl := h4; obtain rfl := h5; obtain rfl := h6; obtain rfl := h7
  set d : GatherDims ⟨2, ![N, K]⟩ ⟨3, ![R, C, 1]⟩ ⟨3, ![R, C, K]⟩ := ⟨[2], [0], [], [], [0], 2, ![1, K], wf⟩ with hd
  unfold Host.gather
  congr 1
  funext a
  refine Fin.ext ?_
  show d.start (ix3 r c k) idx a + d.batchCoord (ix3 r c k) a + d.offCoord (ix3 r c k) a = _
  rw [GatherDims.batchCoord_eq_zero _ _ _ (by simp [hd])]
  have ha : a = (0 : Fin 2) ∨ a = (1 : Fin 2) := by
    match a with
    | ⟨0, _⟩ => exact Or.inl rfl
    | ⟨1, _⟩ => exact Or.inr rfl
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ d.startIndexMap from List.mem_singleton.mpr rfl)]
    have hsi : d.siIdx (ix3 r c k) ⟨List.idxOf (0 : Fin 2) d.startIndexMap,
        List.idxOf_lt_length_iff.2 (List.mem_singleton.mpr rfl)⟩ = ix3 r c 0 := by
      funext b; refine Fin.ext ?_
      match b with
      | ⟨0, _⟩ => rfl
      | ⟨1, _⟩ => rfl
      | ⟨2, _⟩ => rfl
    exact congrArg (fun z => min (idx z).toInt.toNat (N - 1)) hsi
  · unfold GatherDims.start
    rw [dif_neg (show (1 : Fin 2) ∉ d.startIndexMap from by simp [hd])]
    simp only [Nat.zero_add]
    rfl

end Rows

/-- The band, by the positions of query and key. -/
theorem inBand_dist (i j : Fin 512) : inBand (dist i j) = if Near i j then 1#1 else 0#1 := by
  have hi := i.isLt; have hj := j.isLt
  have h : (IntOp.absi (dist i j)).toInt = |(j.val : ℤ) - i.val| := by
    have e : (dist i j).toInt = (j.val : ℤ) - i.val := by
      unfold dist
      rw [BitVec.toInt_sub, BitVec.toInt_ofNat', BitVec.toInt_ofNat']
      simp only [Int.bmod_def]; omega
    unfold IntOp.absi
    rw [BitVec.msb_eq_toInt]
    split
    · next hn =>
      have hn' : (dist i j).toInt < 0 := by simpa using hn
      rw [BitVec.toInt_neg, e, abs_of_neg (by omega), Int.bmod_def]; omega
    · next hn =>
      have hn' : ¬ (dist i j).toInt < 0 := by simpa using hn
      rw [e, abs_of_nonneg (by omega)]
  unfold inBand IntOp.cmpi
  show BitVec.ofBool (BitVec.sle _ _) = _
  rw [BitVec.sle_eq_decide, h, show (64#32).toInt = 64 by decide]
  by_cases hn : Near i j
  · rw [if_pos hn, decide_eq_true (by unfold Near at hn; rw [abs_le]; omega)]; rfl
  · rw [if_neg hn, decide_eq_false (by unfold Near at hn; rw [abs_le]; omega)]; rfl

end BandAttention

end
-- ==== Proof.Reals.lean ====
/-
  Extended-real operations on real numbers, and the arguments of both programs as real numbers.
-/
module

public import proofs.«01_k».proof.Proof.Bias

@[expose] public section

noncomputable section

namespace BandAttention

open Idealize.ShloMosaic

lemma coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- A sum all of whose terms are reals. -/
lemma sum_of {ι : Type} (s : Finset ι) (f : ι → EReal) (g : ι → ℝ) (h : ∀ k, f k = ((g k : ℝ) : EReal)) :
    ∑ k ∈ s, f k = ((∑ k ∈ s, g k : ℝ) : EReal) := by
  rw [← coe_sum]; exact Finset.sum_congr rfl fun k _ => h k

lemma div_coe (x y : ℝ) (hy : y ≠ 0) : Ideal.div (x : EReal) (y : EReal) = ((x / y : ℝ) : EReal) := by
  rw [Ideal.div, if_neg (by exact_mod_cast hy), ← EReal.coe_inv, ← EReal.coe_mul, div_eq_mul_inv]

lemma exp_coe (x : ℝ) : Ideal.exp (x : EReal) = ((Real.exp x : ℝ) : EReal) := rfl

lemma log_coe (x : ℝ) (hx : 0 < x) : Ideal.log (x : EReal) = ((Real.log x : ℝ) : EReal) := by
  show (if x ≤ 0 then (⊥ : EReal) else _) = _
  rw [if_neg hx.not_ge]

lemma eighth : Ideal.ofBits .f32 0x3E000000#32 = ((1 / 8 : ℝ) : EReal) := by
  simp [Ideal.ofBits, Ideal.ieee]
  rw [← EReal.coe_mul]
  norm_num

lemma one_f32 : Ideal.ofBits .f32 0x3F800000#32 = ((1 : ℝ) : EReal) := by
  simp [Ideal.ofBits, Ideal.ieee]
  rw [← EReal.coe_mul]
  norm_num

lemma bot_f32 : Ideal.ofBits .f32 0xFF800000#32 = (⊥ : EReal) := by
  simp [Ideal.ofBits, Ideal.ieee]

/-- The row of position `i` in residue class `r`. -/
def row (r : Fin 16) (i : Fin 512) : Fin 8192 := ⟨i.val * 16 + r.val, by omega⟩

/-- The column of feature `e` of head `h`. -/
def col (h : Fin 4) (e : Fin 64) : Fin 256 := ⟨h.val * 64 + e.val, by omega⟩

/-- The arguments hold the reals of `d`. -/
structure Agrees (d : Data) (x0 x1 x2 : (⟨2, ![8192, 256]⟩ : Shape).Idx → EReal) (x3 : (⟨2, ![32, 4]⟩ : Shape).Idx → EReal)
    (x4 : (⟨3, ![8192, 4, 64]⟩ : Shape).Idx → EReal) (x5 : (⟨2, ![8192, 4]⟩ : Shape).Idx → EReal)
    (x6 : (⟨3, ![8192, 4, 64]⟩ : Shape).Idx → EReal) (x7 : (⟨2, ![8192, 4]⟩ : Shape).Idx → EReal)
    (x8 : (⟨2, ![8192, 256]⟩ : Shape).Idx → EReal) : Prop where
  q : ∀ r i h e, x0 (ix2 (row r i) (col h e)) = ((d.q r i h e : ℝ) : EReal)
  k : ∀ r i h e, x1 (ix2 (row r i) (col h e)) = ((d.k r i h e : ℝ) : EReal)
  v : ∀ r i h e, x2 (ix2 (row r i) (col h e)) = ((d.v r i h e : ℝ) : EReal)
  b : ∀ h w, entry x3 h w = ((d.b h w : ℝ) : EReal)
  o1 : ∀ r i h e, x4 (ix3 (row r i) h e) = ((d.o1 r i h e : ℝ) : EReal)
  l1 : ∀ r i h, x5 (ix2 (row r i) h) = ((d.l1 r i h : ℝ) : EReal)
  o2 : ∀ r i h e, x6 (ix3 (row r i) h e) = ((d.o2 r i h e : ℝ) : EReal)
  l2 : ∀ r i h, x7 (ix2 (row r i) h) = ((d.l2 r i h : ℝ) : EReal)
  g : ∀ r i h e, x8 (ix2 (row r i) (col h e)) = ((d.g r i h e : ℝ) : EReal)

/-- A score, the bottom outside the band. -/
def score (d : Data) (r : Fin 16) (h : Fin 4) (i j : Fin 512) : EReal :=
  if Near i j then ((d.s r h i j : ℝ) : EReal) else ⊥

/-- A bias, the bottom outside the band. -/
def masked (x : (⟨2, ![32, 4]⟩ : Shape).Idx → EReal) (h : Fin 4) (i j : Fin 512) : EReal :=
  if Near i j then entry x h (dist i j) else ⊥

lemma select_near (i j : Fin 512) (a b : EReal) :
    Scalar.select (inBand (dist i j)) a b = if Near i j then a else b := by
  rw [inBand_dist]
  unfold Scalar.select
  by_cases hn : Near i j
  · rw [if_pos hn, if_pos hn]; rfl
  · rw [if_neg hn, if_neg hn]; rfl

lemma add_masked (d : Data) (x : (⟨2, ![32, 4]⟩ : Shape).Idx → EReal) (hb : ∀ h w, entry x h w = ((d.b h w : ℝ) : EReal))
    (r : Fin 16) (h : Fin 4) (i j : Fin 512) :
    (((∑ e, d.q r i h e * d.k r j h e) * (1 / 8) : ℝ) : EReal) + masked x h i j = score d r h i j := by
  unfold masked score
  by_cases hn : Near i j
  · rw [if_pos hn, if_pos hn, hb, ← EReal.coe_add]; rfl
  · rw [if_neg hn, if_neg hn]; exact EReal.add_bot _

/-- A score less a shift, exponentiated, is the weight times the shift's exponential. -/
lemma exp_score (d : Data) (r : Fin 16) (h : Fin 4) (i j : Fin 512) (M : ℝ) :
    Ideal.exp (score d r h i j - (M : EReal)) = ((d.w r h i j * Real.exp (-M) : ℝ) : EReal) := by
  unfold score Data.w
  by_cases hn : Near i j
  · rw [if_pos hn, if_pos hn, ← EReal.coe_sub, exp_coe, sub_eq_add_neg, Real.exp_add]
  · rw [if_neg hn, if_neg hn, zero_mul, EReal.coe_zero]
    show Ideal.exp (⊥ - (M : EReal)) = 0
    rw [EReal.bot_sub]; rfl

end BandAttention

end
-- ==== Proof.RefForward.lean ====
/-
  The forward half of the reference, step by step, as real numbers. The running maximum of a row is a real number `M`
  about which nothing is needed but that it is attained; the weights carry the factor `exp (-M)`.
-/
module

public import proofs.«01_k».proof.Proof.Reals
public import proofs.«01_k».proof.Proof.Gen.AttReferenceIdeal.Read

@[expose] public section

noncomputable section

namespace BandAttention.Ref

open Idealize.ShloMosaic Cert.AttReferenceIdeal Cert.AttReferenceIdeal.Gen Cert.AttReferenceIdeal.Read

variable {d : Data} {x0 x1 x2 : (⟨S8192x256, .bf16⟩ : BufTy).Contents (Elt Ideal)}
  {x3 : (⟨S32x4, .f32⟩ : BufTy).Contents (Elt Ideal)} {x4 x6 : (⟨S8192x4x64, .f32⟩ : BufTy).Contents (Elt Ideal)}
  {x5 x7 : (⟨S8192x4, .f32⟩ : BufTy).Contents (Elt Ideal)} {x8 : (⟨S8192x256, .bf16⟩ : BufTy).Contents (Elt Ideal)}
  (A : Agrees d x0 x1 x2 x3 x4 x5 x6 x7 x8)

/-- Reading a flat argument by residue class. -/
lemma flat_idx (y : S16x512x4x64.Idx) :
    idx_main_v9 (idx_main_v10 (idx_main_v11 y)) = ix2 (row (y 0) (y 1)) (col (y 2) (y 3)) := by
  have h0 : (y 0).val < 16 := (y 0).isLt
  have h1 : (y 1).val < 512 := (y 1).isLt
  have h2 : (y 2).val < 4 := (y 2).isLt
  have h3 : (y 3).val < 64 := (y 3).isLt
  funext a
  rcases (show a = (0 : Fin 2) ∨ a = 1 by fin_cases a <;> simp) with rfl | rfl
  · refine Fin.ext ?_
    show _ / 256 = (y 1).val * 16 + (y 0).val
    show ((((((y 1).val * 16 + (y 0).val) * 4 + (y 2).val) * 64 + (y 3).val) / 256 * 4
      + ((((y 1).val * 16 + (y 0).val) * 4 + (y 2).val) * 64 + (y 3).val) / 64 % 4) * 64
      + ((((y 1).val * 16 + (y 0).val) * 4 + (y 2).val) * 64 + (y 3).val) % 64) / 256 = _
    omega
  · refine Fin.ext ?_
    show ((((((y 1).val * 16 + (y 0).val) * 4 + (y 2).val) * 64 + (y 3).val) / 256 * 4
      + ((((y 1).val * 16 + (y 0).val) * 4 + (y 2).val) * 64 + (y 3).val) / 64 % 4) * 64
      + ((((y 1).val * 16 + (y 0).val) * 4 + (y 2).val) * 64 + (y 3).val) % 64) % 256 = (y 2).val * 64 + (y 3).val
    omega

include A in
theorem t11 (y : S16x512x4x64.Idx) : val_main_v11 (F := Ideal) x0 y = ((d.q (y 0) (y 1) (y 2) (y 3) : ℝ) : EReal) := by
  rw [val_main_v11_apply, val_main_v10_apply, val_main_v9_apply, val_main_v8_apply, Ideal.extf_def, flat_idx]
  exact A.q _ _ _ _

include A in
theorem t15 (y : S16x512x4x64.Idx) : val_main_v15 (F := Ideal) x1 y = ((d.k (y 0) (y 1) (y 2) (y 3) : ℝ) : EReal) := by
  rw [val_main_v15_apply, val_main_v14_apply, val_main_v13_apply, val_main_v12_apply, Ideal.extf_def]
  exact (congrArg x1 (flat_idx y)).trans (A.k _ _ _ _)

include A in
theorem t19 (y : S16x512x4x64.Idx) : val_main_v19 (F := Ideal) x2 y = ((d.v (y 0) (y 1) (y 2) (y 3) : ℝ) : EReal) := by
  rw [val_main_v19_apply, val_main_v18_apply, val_main_v17_apply, val_main_v16_apply, Ideal.extf_def]
  exact (congrArg x2 (flat_idx y)).trans (A.v _ _ _ _)

include A in
theorem t141 (y : S16x512x4x64.Idx) : val_main_v141 (F := Ideal) x8 y = ((d.g (y 0) (y 1) (y 2) (y 3) : ℝ) : EReal) := by
  rw [val_main_v141_apply, val_main_v140_apply, val_main_v139_apply, val_main_v138_apply, Ideal.extf_def]
  exact (congrArg x8 (flat_idx y)).trans (A.g _ _ _ _)

lemma out_idx (y : S16x512x4x64.Idx) : idx_main_v0 (idx_main_v1 y) = ix3 (row (y 0) (y 1)) (y 2) (y 3) := by
  have h0 : (y 0).val < 16 := (y 0).isLt
  have h1 : (y 1).val < 512 := (y 1).isLt
  have h2 : (y 2).val < 4 := (y 2).isLt
  have h3 : (y 3).val < 64 := (y 3).isLt
  funext a
  rcases (show a = (0 : Fin 3) ∨ a = 1 ∨ a = 2 by fin_cases a <;> simp) with rfl | rfl | rfl
  · refine Fin.ext ?_
    show ((((y 1).val * 16 + (y 0).val) * 4 + (y 2).val) * 64 + (y 3).val) / 256 = (y 1).val * 16 + (y 0).val
    omega
  · refine Fin.ext ?_
    show ((((y 1).val * 16 + (y 0).val) * 4 + (y 2).val) * 64 + (y 3).val) / 64 % 4 = (y 2).val
    omega
  · refine Fin.ext ?_
    show ((((y 1).val * 16 + (y 0).val) * 4 + (y 2).val) * 64 + (y 3).val) % 64 = (y 3).val
    omega

lemma lse_idx (y : S16x512x4.Idx) : idx_main_v2 (idx_main_v3 y) = ix2 (row (y 0) (y 1)) (y 2) := by
  have h0 : (y 0).val < 16 := (y 0).isLt
  have h1 : (y 1).val < 512 := (y 1).isLt
  have h2 : (y 2).val < 4 := (y 2).isLt
  funext a
  rcases (show a = (0 : Fin 2) ∨ a = 1 by fin_cases a <;> simp) with rfl | rfl
  · refine Fin.ext ?_
    show (((y 1).val * 16 + (y 0).val) * 4 + (y 2).val) / 4 = (y 1).val * 16 + (y 0).val
    omega
  · refine Fin.ext ?_
    show (((y 1).val * 16 + (y 0).val) * 4 + (y 2).val) % 4 = (y 2).val
    omega

include A in
theorem t1 (y : S16x512x4x64.Idx) : val_main_v1 (F := Ideal) x4 y = ((d.o1 (y 0) (y 1) (y 2) (y 3) : ℝ) : EReal) := by
  rw [val_main_v1_apply, val_main_v0_apply]
  exact (congrArg x4 (out_idx y)).trans (A.o1 _ _ _ _)

include A in
theorem t5 (y : S16x512x4x64.Idx) : val_main_v5 (F := Ideal) x6 y = ((d.o2 (y 0) (y 1) (y 2) (y 3) : ℝ) : EReal) := by
  rw [val_main_v5_apply, val_main_v4_apply]
  exact (congrArg x6 (out_idx y)).trans (A.o2 _ _ _ _)

include A in
theorem t3 (y : S16x512x4.Idx) : val_main_v3 (F := Ideal) x5 y = ((d.l1 (y 0) (y 1) (y 2) : ℝ) : EReal) := by
  rw [val_main_v3_apply, val_main_v2_apply]
  exact (congrArg x5 (lse_idx y)).trans (A.l1 _ _ _)

include A in
theorem t7 (y : S16x512x4.Idx) : val_main_v7 (F := Ideal) x7 y = ((d.l2 (y 0) (y 1) (y 2) : ℝ) : EReal) := by
  rw [val_main_v7_apply, val_main_v6_apply]
  exact (congrArg x7 (lse_idx y)).trans (A.l2 _ _ _)

include A in
/-- The scaled product of queries and keys. -/
theorem t22 (y : S16x4x512x512.Idx) : val_main_v22 (F := Ideal) x0 x1 y =
    (((∑ e, d.q (y 0) (y 2) (y 1) e * d.k (y 0) (y 3) (y 1) e) * (1 / 8) : ℝ) : EReal) := by
  rw [val_main_v22_apply, val_main_v20_apply, val_main_v21_apply, val_main_cst_apply, Ideal.mulf_def, Ideal.ofBits_def,
    eighth, EReal.coe_mul]
  refine congrArg (· * _) ?_
  refine sum_of _ _ _ fun e => ?_
  rw [t11 A, t15 A, ← EReal.coe_mul]
  rfl

/-- The distance array. -/
theorem t29 (y : S512x512.Idx) : val_main_v29 (F := Ideal) y = dist (y 0) (y 1) := rfl

/-- The row of the table a distance chooses. -/
theorem t64 (y : S512x512x1.Idx) : val_main_v64 (F := Ideal) y = bucket (dist (y 0) (y 1)) := rfl

theorem t32 (y : S512x512.Idx) : val_main_v32 (F := Ideal) y = inBand (dist (y 0) (y 1)) := rfl

theorem t65 (i j : Fin 512) (h : Fin 4) : val_main_v65 (F := Ideal) x3 (ix3 i j h) = entry x3 h (dist i j) := by
  unfold val_main_v65
  exact (gather_rows (by omega) _ rfl rfl rfl rfl rfl rfl rfl x3 _ i j h).trans
    (congrArg (fun w : BitVec 32 => x3 (ix2 ⟨min w.toInt.toNat 31, by omega⟩ h)) (t64 (ix3 i j 0)))

/-- The masked bias. -/
theorem t67 (y : S4x512x512.Idx) : val_main_v67 (F := Ideal) x3 y = masked x3 (y 0) (y 1) (y 2) := by
  rw [val_main_v67_apply, val_main_call2_v1_apply, val_main_v66_apply, val_main_call2_v2_apply, val_main_call2_v0_apply,
    val_main_cst_13_apply, t32, Ideal.ofBits_def, bot_f32]
  have e : idx_main_v66 y = ix3 (y 1) (y 2) (y 0) := by
    funext a; match a with | ⟨0, _⟩ => rfl | ⟨1, _⟩ => rfl | ⟨2, _⟩ => rfl
  rw [e]
  exact (congrArg (fun z : EReal => Scalar.select (inBand (dist (y 1) (y 2))) z (⊥ : EReal)) (t65 (x3 := x3) (y 1) (y 2) (y 0))).trans
    (select_near (y 1) (y 2) _ _)

include A in
/-- The scores, the bottom outside the band. -/
theorem t70 (y : S16x4x512x512.Idx) : val_main_v70 (F := Ideal) x0 x1 x3 y = score d (y 0) (y 1) (y 2) (y 3) := by
  rw [val_main_v70_apply, val_main_v69_apply, val_main_v68_apply, t67, t22 A, Ideal.addf_def]
  exact add_masked d x3 A.b (y 0) (y 1) (y 2) (y 3)

/-- The maximum of a row of scores. -/
def rowMax (d : Data) (r : Fin 16) (h : Fin 4) (i : Fin 512) : EReal :=
  Finset.univ.fold max ⊥ fun j => score d r h i j

lemma rowMax_real (d : Data) (r : Fin 16) (h : Fin 4) (i : Fin 512) :
    rowMax d r h i = (((rowMax d r h i).toReal : ℝ) : EReal) := by
  refine (EReal.coe_toReal ?_ ?_).symm
  · refine ne_of_lt ?_
    unfold rowMax
    rw [Finset.fold_max_lt]
    refine ⟨bot_lt_top, fun j _ => ?_⟩
    unfold score
    split
    · exact EReal.coe_lt_top _
    · exact bot_lt_top
  · refine ne_of_gt (lt_of_lt_of_le (EReal.bot_lt_coe (d.s r h i i)) ?_)
    unfold rowMax
    rw [Finset.le_fold_max]
    refine Or.inr ⟨i, Finset.mem_univ _, ?_⟩
    rw [score, if_pos (Data.near_self i)]

/-- The maximum is one of the scores. -/
lemma rowMax_attained (d : Data) (r : Fin 16) (h : Fin 4) (i : Fin 512) :
    ∃ j, score d r h i j = rowMax d r h i := by
  by_contra hno
  push Not at hno
  have hlt : rowMax d r h i < rowMax d r h i := by
    conv_lhs => unfold rowMax
    rw [Finset.fold_max_lt]
    refine ⟨?_, fun j _ => lt_of_le_of_ne ?_ (hno j)⟩
    · rw [rowMax_real]; exact EReal.bot_lt_coe _
    · unfold rowMax; rw [Finset.le_fold_max]; exact Or.inr ⟨j, Finset.mem_univ _, le_rfl⟩
  exact lt_irrefl _ hlt

/-- The row's maximum, a real. -/
def M (d : Data) (r : Fin 16) (h : Fin 4) (i : Fin 512) : ℝ := (rowMax d r h i).toReal

/-- The exponential of the shift. -/
def E (d : Data) (r : Fin 16) (h : Fin 4) (i : Fin 512) : ℝ := Real.exp (-M d r h i)

lemma E_pos (d : Data) (r : Fin 16) (h : Fin 4) (i : Fin 512) : 0 < E d r h i := Real.exp_pos _

include A in
theorem t71 (y : S16x4x512.Idx) : val_main_v71 (F := Ideal) x0 x1 x3 y = ((M d (y 0) (y 1) (y 2) : ℝ) : EReal) := by
  refine Eq.trans ?_ (rowMax_real d (y 0) (y 1) (y 2))
  unfold val_main_v71
  have e : val_main_v70 (F := Ideal) x0 x1 x3 = fun y => score d (y 0) (y 1) (y 2) (y 3) := funext (t70 A)
  rw [e]
  obtain ⟨r, h, i, rfl⟩ : ∃ r h i, y = ix3 r h i := ⟨y 0, y 1, y 2, by funext a; match a with | ⟨0, _⟩ => rfl | ⟨1, _⟩ => rfl | ⟨2, _⟩ => rfl⟩
  simp only [pointwise]
  rw [val_main_cst_14_apply, Ideal.ofBits_def, bot_f32]
  rfl

lemma idx85 (y : S16x4x512.Idx) : idx_main_v85 y = ix4 (y 0) (y 1) (y 2) (0 : Fin 1) := by
  have h0 : (y 0).val < 16 := (y 0).isLt
  have h1 : (y 1).val < 4 := (y 1).isLt
  have h2 : (y 2).val < 512 := (y 2).isLt
  funext a
  match a with
  | ⟨0, _⟩ => exact Fin.ext (by show (((y 0).val * 4 + (y 1).val) * 512 + (y 2).val) / 2048 = (y 0).val; omega)
  | ⟨1, _⟩ => exact Fin.ext (by show (((y 0).val * 4 + (y 1).val) * 512 + (y 2).val) / 512 % 4 = (y 1).val; omega)
  | ⟨2, _⟩ => exact Fin.ext (by show (((y 0).val * 4 + (y 1).val) * 512 + (y 2).val) / 1 % 512 = (y 2).val; omega)
  | ⟨3, _⟩ => rfl

lemma idx72 (y : S16x4x512x1.Idx) : idx_main_v72 y = ix3 (y 0) (y 1) (y 2) := by
  have h0 : (y 0).val < 16 := (y 0).isLt
  have h1 : (y 1).val < 4 := (y 1).isLt
  have h2 : (y 2).val < 512 := (y 2).isLt
  have h3 : (y 3).val < 1 := (y 3).isLt
  funext a
  match a with
  | ⟨0, _⟩ => exact Fin.ext (by show ((((y 0).val * 4 + (y 1).val) * 512 + (y 2).val) * 1 + (y 3).val) / 2048 = (y 0).val; omega)
  | ⟨1, _⟩ => exact Fin.ext (by show ((((y 0).val * 4 + (y 1).val) * 512 + (y 2).val) * 1 + (y 3).val) / 512 % 4 = (y 1).val; omega)
  | ⟨2, _⟩ => exact Fin.ext (by show ((((y 0).val * 4 + (y 1).val) * 512 + (y 2).val) * 1 + (y 3).val) % 512 = (y 2).val; omega)

include A in
theorem t72 (y : S16x4x512x1.Idx) : val_main_v72 (F := Ideal) x0 x1 x3 y = ((M d (y 0) (y 1) (y 2) : ℝ) : EReal) := by
  rw [val_main_v72_apply, idx72]; exact t71 A _

/-- A bit as a number. -/
lemma bit_nonneg (b : BitVec 1) : (0 : EReal) ≤ FloatOps.uitofp (F := Ideal) .f32 b := by
  show (0 : EReal) ≤ (((b.toNat : ℝ)) : EReal)
  exact_mod_cast Nat.zero_le _

include A in
/-- The number of scores equal to the maximum is not zero. -/
theorem t76 (y : S16x4x512.Idx) : val_main_v76 (F := Ideal) x0 x1 x3 y ≠ 0 := by
  rw [val_main_v76_apply, val_main_cst_15_apply, Ideal.ofBits_def, Ideal.ofBits_zero_f32, zero_add]
  obtain ⟨j, hj⟩ := rowMax_attained d (y 0) (y 1) (y 2)
  refine ne_of_gt (lt_of_lt_of_le (a := (0 : EReal)) (b := 1) zero_lt_one ?_)
  have h1 : val_main_v75 (F := Ideal) x0 x1 x3 (idx_main_v76 y j) = 1 := by
    rw [val_main_v75_apply, val_main_v74_apply, val_main_v73_apply, t70 A, t72 A, Ideal.cmpf_def]
    refine (congrArg (fun z : EReal => FloatOps.uitofp (F := Ideal) .f32 (Ideal.cmp .oeq z
      ((M d (y 0) (y 1) (y 2) : ℝ) : EReal))) (hj.trans (rowMax_real d _ _ _))).trans ?_
    have hc : Ideal.cmp .oeq ((M d (y 0) (y 1) (y 2) : ℝ) : EReal) ((M d (y 0) (y 1) (y 2) : ℝ) : EReal) = 1#1 := by
      simp [Ideal.cmp]
    refine (congrArg (fun z : BitVec 1 => FloatOps.uitofp (F := Ideal) .f32 z) hc).trans ?_
    show (((1#1 : BitVec 1).toNat : ℝ) : EReal) = 1
    norm_num
  rw [← h1]
  exact Finset.single_le_sum (f := fun k => val_main_v75 (F := Ideal) x0 x1 x3 (idx_main_v76 y k))
    (fun k _ => by rw [val_main_v75_apply]; exact bit_nonneg _) (Finset.mem_univ j)

include A in
theorem t80 (y : S16x4x512x512.Idx) : val_main_v80 (F := Ideal) x0 x1 x3 y =
    ((d.w (y 0) (y 1) (y 2) (y 3) * E d (y 0) (y 1) (y 2) : ℝ) : EReal) := by
  rw [val_main_v80_apply, val_main_v79_apply, val_main_v78_apply, val_main_v77_apply, t71 A, t70 A, Ideal.subf_def,
    Ideal.hostUnary_exp_def]
  exact exp_score d (y 0) (y 1) (y 2) (y 3) _

include A in
theorem t81 (y : S16x4x512.Idx) : val_main_v81 (F := Ideal) x0 x1 x3 y =
    ((d.z (y 0) (y 1) (y 2) * E d (y 0) (y 1) (y 2) : ℝ) : EReal) := by
  rw [val_main_v81_apply, val_main_cst_16_apply, Ideal.ofBits_def, Ideal.ofBits_zero_f32, zero_add]
  refine (sum_of _ _ (fun k => d.w (y 0) (y 1) (y 2) k * E d (y 0) (y 1) (y 2)) fun k => t80 A _).trans ?_
  refine congrArg Real.toEReal ?_
  rw [← Finset.sum_mul]; rfl

include A in
theorem t82 (y : S16x4x512x1.Idx) : val_main_v82 (F := Ideal) x0 x1 x3 y =
    ((d.z (y 0) (y 1) (y 2) * E d (y 0) (y 1) (y 2) : ℝ) : EReal) := by
  rw [val_main_v82_apply]; exact t81 A _

lemma zE_pos (d : Data) (r : Fin 16) (h : Fin 4) (i : Fin 512) : 0 < d.z r h i * E d r h i :=
  mul_pos (d.z_pos r h i) (E_pos d r h i)

include A in
/-- The row's log-sum. -/
theorem t84 (y : S16x4x512x1.Idx) : val_main_v84 (F := Ideal) x0 x1 x3 y =
    ((Real.log (d.z (y 0) (y 1) (y 2)) : ℝ) : EReal) := by
  rw [val_main_v84_apply, val_main_v83_apply, val_main_v77_apply, t82 A, t71 A, Ideal.addf_def, Ideal.hostUnary_log_def,
    log_coe _ (zE_pos d (y 0) (y 1) (y 2)), ← EReal.coe_add]
  exact congrArg Real.toEReal (d.log_shift (y 0) (y 1) (M d (y 0) (y 1) (y 2)) (y 2))

include A in
theorem t86 (y : S16x512x4.Idx) : val_main_v86 (F := Ideal) x0 x1 x3 y =
    ((Real.log (d.z (y 0) (y 2) (y 1)) : ℝ) : EReal) := by
  rw [val_main_v86_apply, val_main_v85_apply, idx85]; exact t84 A _

include A in
theorem t88 (y : S16x4x512x512.Idx) : val_main_v88 (F := Ideal) x0 x1 x3 y =
    ((d.w (y 0) (y 1) (y 2) (y 3) / d.z (y 0) (y 1) (y 2) : ℝ) : EReal) := by
  rw [val_main_v88_apply, val_main_v87_apply, t82 A, t80 A, Ideal.hostDivf_def]
  refine (div_coe _ _ (zE_pos d (y 0) (y 1) (y 2)).ne').trans ?_
  exact congrArg Real.toEReal (mul_div_mul_right _ _ (E_pos d (y 0) (y 1) (y 2)).ne')

include A in
theorem t91 (y : S16x4x512x1.Idx) : val_main_v91 (F := Ideal) x0 x1 x3 y =
    ((1 / (d.z (y 0) (y 1) (y 2) * E d (y 0) (y 1) (y 2) * (d.z (y 0) (y 1) (y 2) * E d (y 0) (y 1) (y 2))) : ℝ) : EReal) := by
  rw [val_main_v91_apply, val_main_v90_apply, val_main_cst_17_apply, val_main_v89_apply, t82 A, Ideal.hostDivf_def,
    Ideal.ofBits_def, one_f32, Ideal.mulf_def, ← EReal.coe_mul]
  exact div_coe _ _ (mul_pos (zE_pos d (y 0) (y 1) (y 2)) (zE_pos d (y 0) (y 1) (y 2))).ne'

include A in
/-- The group's own output. -/
theorem t93 (y : S16x512x4x64.Idx) : val_main_v93 (F := Ideal) x0 x1 x2 x3 y =
    ((d.o (y 0) (y 2) (y 1) (y 3) : ℝ) : EReal) := by
  rw [val_main_v93_apply, val_main_v92_apply]
  refine sum_of _ _ (fun j => d.v (y 0) j (y 2) (y 3) * (d.w (y 0) (y 2) (y 1) j / d.z (y 0) (y 2) (y 1))) fun j => ?_
  rw [t19 A, t88 A, ← EReal.coe_mul]
  rfl

/-- The exponentials of the three log-sums. -/
def el (d : Data) (g : Fin 3) (r : Fin 16) (i : Fin 512) (h : Fin 4) : ℝ :=
  match g with
  | 0 => d.z r h i
  | 1 => Real.exp (d.l1 r i h)
  | 2 => Real.exp (d.l2 r i h)

lemma el_pos (d : Data) (g : Fin 3) (r : Fin 16) (i : Fin 512) (h : Fin 4) : 0 < el d g r i h := by
  fin_cases g
  · exact d.z_pos r h i
  · exact Real.exp_pos _
  · exact Real.exp_pos _

include A in
theorem t97 (y : S3x16x512x4.Idx) : val_main_v97 (F := Ideal) x0 x1 x3 x5 x7 y =
    ((Real.log (el d (y 0) (y 1) (y 2) (y 3)) : ℝ) : EReal) := by
  obtain ⟨g, r, i, h, rfl⟩ : ∃ g r i h, y = ix4 g r i h := ⟨y 0, y 1, y 2, y 3, by
    funext a; match a with | ⟨0, _⟩ => rfl | ⟨1, _⟩ => rfl | ⟨2, _⟩ => rfl | ⟨3, _⟩ => rfl⟩
  unfold val_main_v97
  simp only [pointwise]
  match g with
  | 0 => exact (val_main_v94_apply _ _ _ _).trans (t86 A _)
  | 1 =>
    refine (val_main_v95_apply _ _).trans ((t3 A _).trans ?_)
    exact congrArg Real.toEReal (Real.log_exp _).symm
  | 2 =>
    refine (val_main_v96_apply _ _).trans ((t7 A _).trans ?_)
    exact congrArg Real.toEReal (Real.log_exp _).symm

/-- The three groups' outputs. -/
def outs (d : Data) (g : Fin 3) (r : Fin 16) (i : Fin 512) (h : Fin 4) (e : Fin 64) : ℝ :=
  match g with
  | 0 => d.o r h i e
  | 1 => d.o1 r i h e
  | 2 => d.o2 r i h e

include A in
theorem t132 (y : S3x16x512x4x64.Idx) : val_main_v132 (F := Ideal) x0 x1 x2 x3 x4 x6 y =
    ((outs d (y 0) (y 1) (y 2) (y 3) (y 4) : ℝ) : EReal) := by
  obtain ⟨g, r, i, h, e, rfl⟩ : ∃ g r i h e, y = ix5 g r i h e := ⟨y 0, y 1, y 2, y 3, y 4, by
    funext a; match a with | ⟨0, _⟩ => rfl | ⟨1, _⟩ => rfl | ⟨2, _⟩ => rfl | ⟨3, _⟩ => rfl | ⟨4, _⟩ => rfl⟩
  unfold val_main_v132
  simp only [pointwise]
  match g with
  | 0 => exact (val_main_v129_apply _ _ _ _ _).trans (t93 A _)
  | 1 => exact (val_main_v130_apply _ _).trans (t1 A _)
  | 2 => exact (val_main_v131_apply _ _).trans (t5 A _)

/-- The maximum of the three log-sums. -/
def topMax (d : Data) (r : Fin 16) (i : Fin 512) (h : Fin 4) : EReal :=
  Finset.univ.fold max ⊥ fun g : Fin 3 => ((Real.log (el d g r i h) : ℝ) : EReal)

lemma topMax_real (d : Data) (r : Fin 16) (i : Fin 512) (h : Fin 4) :
    topMax d r i h = (((topMax d r i h).toReal : ℝ) : EReal) := by
  refine (EReal.coe_toReal ?_ ?_).symm
  · refine ne_of_lt ?_
    unfold topMax
    rw [Finset.fold_max_lt]
    exact ⟨bot_lt_top, fun j _ => EReal.coe_lt_top _⟩
  · refine ne_of_gt (lt_of_lt_of_le (EReal.bot_lt_coe (Real.log (el d 0 r i h))) ?_)
    unfold topMax
    rw [Finset.le_fold_max]
    exact Or.inr ⟨0, Finset.mem_univ _, le_rfl⟩

/-- The maximum of the three log-sums, a real. -/
def M3 (d : Data) (r : Fin 16) (i : Fin 512) (h : Fin 4) : ℝ := (topMax d r i h).toReal

/-- The exponential of the shift. -/
def E3 (d : Data) (r : Fin 16) (i : Fin 512) (h : Fin 4) : ℝ := Real.exp (-M3 d r i h)

lemma E3_pos (d : Data) (r : Fin 16) (i : Fin 512) (h : Fin 4) : 0 < E3 d r i h := Real.exp_pos _

include A in
theorem t100 (y : S16x512x4.Idx) : val_main_v100 (F := Ideal) x0 x1 x3 x5 x7 y = ((M3 d (y 0) (y 1) (y 2) : ℝ) : EReal) := by
  refine Eq.trans ?_ (topMax_real d (y 0) (y 1) (y 2))
  unfold val_main_v100
  have e : val_main_v97 (F := Ideal) x0 x1 x3 x5 x7 = fun y => ((Real.log (el d (y 0) (y 1) (y 2) (y 3)) : ℝ) : EReal) :=
    funext (t97 A)
  rw [e]
  obtain ⟨r, i, h, rfl⟩ : ∃ r i h, y = ix3 r i h := ⟨y 0, y 1, y 2, by
    funext a; match a with | ⟨0, _⟩ => rfl | ⟨1, _⟩ => rfl | ⟨2, _⟩ => rfl⟩
  simp only [pointwise]
  rw [val_main_cst_20_apply, Ideal.ofBits_def, bot_f32]
  rfl

include A in
theorem t107 (y : S16x512x4.Idx) : val_main_v107 (F := Ideal) x0 x1 x3 x5 x7 y = ((M3 d (y 0) (y 1) (y 2) : ℝ) : EReal) := by
  rw [val_main_v107_apply, val_main_v106_apply, val_main_cst_22_apply, t100 A, Ideal.ofBits_def, bot_f32, Ideal.maximumf_def]
  exact max_eq_right bot_le

lemma exp_log_el (d : Data) (g : Fin 3) (r : Fin 16) (i : Fin 512) (h : Fin 4) (m : ℝ) :
    Real.exp (Real.log (el d g r i h) - m) = el d g r i h * Real.exp (-m) := by
  rw [sub_eq_add_neg, Real.exp_add, Real.exp_log (el_pos d g r i h)]

include A in
theorem t120 (y : S3x16x512x4.Idx) : val_main_v120 (F := Ideal) x0 x1 x3 x5 x7 y =
    ((el d (y 0) (y 1) (y 2) (y 3) * E3 d (y 1) (y 2) (y 3) : ℝ) : EReal) := by
  rw [val_main_v120_apply, val_main_v119_apply, val_main_v118_apply, val_main_v117_apply, t107 A, t97 A, Ideal.subf_def,
    Ideal.hostUnary_exp_def, ← EReal.coe_sub, exp_coe]
  exact congrArg Real.toEReal (exp_log_el d (y 0) (y 1) (y 2) (y 3) _)

lemma sum_el (d : Data) (r : Fin 16) (i : Fin 512) (h : Fin 4) (c : ℝ) : ∑ g, el d g r i h * c = d.tot r h i * c := by
  rw [← Finset.sum_mul]
  exact congrArg (· * c) (Fin.sum_univ_three _)

include A in
theorem t121 (y : S16x512x4.Idx) : val_main_v121 (F := Ideal) x0 x1 x3 x5 x7 y =
    ((d.tot (y 0) (y 2) (y 1) * E3 d (y 0) (y 1) (y 2) : ℝ) : EReal) := by
  rw [val_main_v121_apply, val_main_cst_28_apply, Ideal.ofBits_def, Ideal.ofBits_zero_f32, zero_add]
  refine (sum_of _ _ (fun g => el d g (y 0) (y 1) (y 2) * E3 d (y 0) (y 1) (y 2)) fun g => t120 A _).trans ?_
  exact congrArg Real.toEReal (sum_el d (y 0) (y 1) (y 2) _)

lemma tE_pos (d : Data) (r : Fin 16) (i : Fin 512) (h : Fin 4) : 0 < d.tot r h i * E3 d r i h :=
  mul_pos (d.tot_pos r h i) (E3_pos d r i h)

include A in
theorem t122 (y : S1x16x512x4.Idx) : val_main_v122 (F := Ideal) x0 x1 x3 x5 x7 y =
    ((d.tot (y 1) (y 3) (y 2) * E3 d (y 1) (y 2) (y 3) : ℝ) : EReal) := by
  rw [val_main_v122_apply]; exact t121 A _

include A in
/-- The weight of a group. -/
theorem t124 (y : S3x16x512x4.Idx) : val_main_v124 (F := Ideal) x0 x1 x3 x5 x7 y =
    ((el d (y 0) (y 1) (y 2) (y 3) / d.tot (y 1) (y 3) (y 2) : ℝ) : EReal) := by
  rw [val_main_v124_apply, val_main_v123_apply, t122 A, t120 A, Ideal.hostDivf_def]
  refine (div_coe _ _ (tE_pos d (y 1) (y 2) (y 3)).ne').trans ?_
  exact congrArg Real.toEReal (mul_div_mul_right _ _ (E3_pos d (y 1) (y 2) (y 3)).ne')

include A in
theorem t127 (y : S1x16x512x4.Idx) : val_main_v127 (F := Ideal) x0 x1 x3 x5 x7 y =
    ((1 / (d.tot (y 1) (y 3) (y 2) * E3 d (y 1) (y 2) (y 3) * (d.tot (y 1) (y 3) (y 2) * E3 d (y 1) (y 2) (y 3))) : ℝ) : EReal) := by
  rw [val_main_v127_apply, val_main_v126_apply, val_main_cst_29_apply, val_main_v125_apply, t122 A, Ideal.hostDivf_def,
    Ideal.ofBits_def, one_f32, Ideal.mulf_def, ← EReal.coe_mul]
  exact div_coe _ _ (mul_pos (tE_pos d (y 1) (y 2) (y 3)) (tE_pos d (y 1) (y 2) (y 3))).ne'

end BandAttention.Ref

end
-- ==== Proof.Tile.lean ====
/-
  One sub-block of the kernel: 128 queries against a window of 256 keys, head by head. The printed text repeats the same
  operations for every sub-block and every head; here they are written once, with the offsets as parameters.
-/
module

public import proofs.«01_k».proof.Proof.IdealArrays

@[expose] public section

noncomputable section

namespace Cert.AttKernelIdeal.Own

open Cert.AttKernelIdeal Cert.AttKernelIdeal.Gen Idealize.ShloMosaic

variable {F : FTy → Type} [FloatOps F] [Named F]

/-- What one sub-block works with: queries, cotangent, the rows' deltas and log-sums, the keys' and values' windows, which
    columns lie inside the sequence, and the heads' biases. -/
structure Sub (F : FTy → Type) [FloatOps F] where
  q : FVec F S128x256 .bf16
  g : FVec F S128x256 .bf16
  dl : FVec F S128x256 .f32
  l : FVec F S128x256 .f32
  k : FVec F S256x256 .bf16
  v : FVec F S256x256 .bf16
  ok : IVec S1x256 1
  b : Fin 4 → Vec F S1x128x256 .f32

theorem sliceQ (o : ℕ) (h : o + 64 ≤ 256) : S128x256.Slices ![0, o] S128x64 :=
  ⟨rfl, fun a => match a with
    | ⟨0, _⟩ => by show 0 + 128 ≤ 128; omega
    | ⟨1, _⟩ => by show o + 64 ≤ 256; omega⟩

theorem sliceK (o : ℕ) (h : o + 64 ≤ 256) : S256x256.Slices ![0, o] S256x64 :=
  ⟨rfl, fun a => match a with
    | ⟨0, _⟩ => by show 0 + 256 ≤ 256; omega
    | ⟨1, _⟩ => by show o + 64 ≤ 256; omega⟩

theorem sliceL (o : ℕ) (h : o + 64 ≤ 256) : S128x256.Slices ![0, o] S128x1 :=
  ⟨rfl, fun a => match a with
    | ⟨0, _⟩ => by show 0 + 128 ≤ 128; omega
    | ⟨1, _⟩ => by show o + 1 ≤ 256; omega⟩

theorem sliceW (o : ℕ) (h : o ≤ 384) : S640x256.Slices ![o, 0] S256x256 :=
  ⟨rfl, fun a => match a with
    | ⟨0, _⟩ => by show o + 256 ≤ 640; omega
    | ⟨1, _⟩ => by show 0 + 256 ≤ 256; omega⟩

theorem sliceOk (o : ℕ) (h : o ≤ 384) : S1x640.Slices ![0, o] S1x256 :=
  ⟨rfl, fun a => match a with
    | ⟨0, _⟩ => by show 0 + 1 ≤ 1; omega
    | ⟨1, _⟩ => by show o + 256 ≤ 640; omega⟩

/-- The window of 256 rows that starts at row `o` of a previous, a current and a next block. -/
def win (o : ℕ) (h : o ≤ 384) (p : Vec F S64x256 .bf16) (c : Vec F S512x256 .bf16) (n : Vec F S64x256 .bf16) :
    FVec F S256x256 .bf16 :=
  extractStridedSlice S256x256 ![o, 0] (concatenate S640x256 0 [⟨S64x256, shapeCast S64x256 p shapeCasts_S64x256_S64x256⟩,
    ⟨S512x256, shapeCast S512x256 c shapeCasts_S512x256_S512x256⟩, ⟨S64x256, shapeCast S64x256 n shapeCasts_S64x256_S64x256⟩]
    concatenates_S64x256_S512x256_S64x256_S640x256_d0) (sliceW o h)

/-- The sub-block at row `o`, from what the kernel loads. -/
def subOf (n : BitVec 32) (o : ℕ) (h : o ≤ 384) (q g : Vec F S128x256 .bf16) (dl l : Vec F S128x256 .f32)
    (kp : Vec F S64x256 .bf16) (kc : Vec F S512x256 .bf16) (kn vp : Vec F S64x256 .bf16) (vc : Vec F S512x256 .bf16)
    (vn : Vec F S64x256 .bf16) (b : Fin 4 → Vec F S1x128x256 .f32) : Sub F where
  q := shapeCast S128x256 q shapeCasts_S128x256_S128x256
  g := shapeCast S128x256 g shapeCasts_S128x256_S128x256
  dl := shapeCast S128x256 dl shapeCasts_S128x256_S128x256
  l := shapeCast S128x256 l shapeCasts_S128x256_S128x256
  k := win o h kp kc kn
  v := win o h vp vc vn
  ok := extractStridedSlice S1x256 ![0, o] (k0_pay7 n) (sliceOk o h)
  b := b

namespace Sub

variable (s : Sub F) (h : Fin 4)

theorem lane (h : Fin 4) : 64 * h.val + 64 ≤ 256 := by omega

/-- A head's probabilities. -/
def p : FVec F S128x256 .f32 :=
  exp (subf (select (broadcastTo S128x256 (shapeCast S1x256 s.ok shapeCasts_S1x256_S1x256) broadcasts_S1x256_S128x256)
    (addf (mulf (matmul dot_S128x64_S256x64_S128x256_1_1_0_0_n_n none
      (extractStridedSlice S128x64 ![0, 64 * h.val] s.q (sliceQ _ (lane h)))
      (extractStridedSlice S256x64 ![0, 64 * h.val] s.k (sliceK _ (lane h))) (constant S128x256 .f32 0x00000000#32))
      (broadcast S128x256 (Scalar.ofBits .f32 0x3E000000#32)))
      (shapeCast S128x256 (s.b h) shapeCasts_S1x128x256_S128x256))
    (broadcast S128x256 (Named.named κ "mask" 0xF149F2CA#32)))
    (broadcastTo S128x256 (extractStridedSlice S128x1 ![0, 64 * h.val] s.l (sliceL _ (lane h))) broadcasts_S128x1_S128x256))

/-- A head's score gradients. -/
def ds : FVec F S128x256 .f32 :=
  mulf (s.p h) (subf (matmul dot_S128x64_S256x64_S128x256_1_1_0_0_n_n none
      (extractStridedSlice S128x64 ![0, 64 * h.val] s.g (sliceQ _ (lane h)))
      (extractStridedSlice S256x64 ![0, 64 * h.val] s.v (sliceK _ (lane h))) (constant S128x256 .f32 0x00000000#32))
    (broadcastTo S128x256 (extractStridedSlice S128x1 ![0, 64 * h.val] s.dl (sliceL _ (lane h))) broadcasts_S128x1_S128x256))

/-- A head's query gradients. -/
def dqh : FVec F S128x64 .f32 :=
  mulf (matmul dot_S128x256_S256x64_S128x64_1_0_0_1_n_n none (truncf .bf16 (s.ds h) bitsLt_bf16_f32)
    (extractStridedSlice S256x64 ![0, 64 * h.val] s.k (sliceK _ (lane h))) (constant S128x64 .f32 0x00000000#32))
    (broadcast S128x64 (Scalar.ofBits .f32 0x3E000000#32))

/-- A head's key gradients over the window, transposed. -/
def dkh : FVec F S64x256 .f32 :=
  mulf (matmul dot_S128x64_S128x256_S64x256_0_0_1_1_n_n none
    (extractStridedSlice S128x64 ![0, 64 * h.val] s.q (sliceQ _ (lane h))) (truncf .bf16 (s.ds h) bitsLt_bf16_f32)
    (constant S64x256 .f32 0x00000000#32)) (broadcast S64x256 (Scalar.ofBits .f32 0x3E000000#32))

/-- A head's value gradients over the window, transposed. -/
def dvh : FVec F S64x256 .f32 :=
  matmul dot_S128x64_S128x256_S64x256_0_0_1_1_n_n none
    (extractStridedSlice S128x64 ![0, 64 * h.val] s.g (sliceQ _ (lane h))) (truncf .bf16 (s.p h) bitsLt_bf16_f32)
    (constant S64x256 .f32 0x00000000#32)

/-- The sub-block's query gradients. -/
def dq : FVec F S128x256 .bf16 :=
  truncf .bf16 (concatenate S128x256 1 [⟨S128x64, s.dqh 0⟩, ⟨S128x64, s.dqh 1⟩, ⟨S128x64, s.dqh 2⟩, ⟨S128x64, s.dqh 3⟩]
    concatenates_S128x64_S128x64_S128x64_S128x64_S128x256_d1) bitsLt_bf16_f32

/-- The sub-block's share of the key gradients. -/
def dk : FVec F S256x256 .f32 :=
  concatenate S256x256 0 [⟨S64x256, s.dkh 0⟩, ⟨S64x256, s.dkh 1⟩, ⟨S64x256, s.dkh 2⟩, ⟨S64x256, s.dkh 3⟩]
    concatenates_S64x256_S64x256_S64x256_S64x256_S256x256_d0

/-- The sub-block's share of the value gradients. -/
def dv : FVec F S256x256 .f32 :=
  concatenate S256x256 0 [⟨S64x256, s.dvh 0⟩, ⟨S64x256, s.dvh 1⟩, ⟨S64x256, s.dvh 2⟩, ⟨S64x256, s.dvh 3⟩]
    concatenates_S64x256_S64x256_S64x256_S64x256_S256x256_d0

end Sub

theorem inbCol (o : ℕ) (h : o ≤ 384) : ∀ a, (![0, 512 + o] : Fin 2 → ℕ) a + S256x256.size a ≤ S256x1152.size a
  | ⟨0, _⟩ => by show 0 + 256 ≤ 256; omega
  | ⟨1, _⟩ => by show 512 + o + 256 ≤ 1152; omega

/-- 256 columns of the accumulator from column `512 + o`. -/
abbrev cols (o : ℕ) (h : o ≤ 384) : Rect S256x1152 := Rect.unit ![0, 512 + o] S256x256.size (inbCol o h)

/-- Adding a sub-block's share to the accumulator at column `512 + o`. -/
def addCol {κ : Kind} {sp : Space} (w : View sig κ sp S256x1152 .f32) (o : ℕ) (h : o ≤ 384) (t : FVec F S256x256 .f32)
    (L : List (View.Piece (Elt F) S256x1152 .f32)) : List (View.Piece (Elt F) S256x1152 .f32) :=
  ⟨cols o h, shapeCast S256x256 (addf (w.readCov L (cols o h).toLoadRect) t) shapeCasts_S256x256_S256x256⟩ :: L

/-- The accumulator's stores at the first point of a residue class: cleared, then the four shares. -/
def accL {κ : Kind} {sp : Space} (w : View sig κ sp S256x1152 .f32) (t0 t1 t2 t3 : FVec F S256x256 .f32) :
    List (View.Piece (Elt F) S256x1152 .f32) :=
  addCol w 384 (by omega) t3 (addCol w 256 (by omega) t2 (addCol w 128 (by omega) t1 (addCol w 0 (by omega) t0
    [⟨Rect.unit ![0, 0] S256x1152.size inb_S256x1152_S256x1152_0_0, k0_pay200⟩])))

theorem inbRow (o : ℕ) (h : o ≤ 384) : ∀ a, (![o, 0] : Fin 2 → ℕ) a + S128x256.size a ≤ S512x256.size a
  | ⟨0, _⟩ => by show o + 128 ≤ 512; omega
  | ⟨1, _⟩ => by show 0 + 256 ≤ 256; omega

/-- Rows `o` to `o + 128`. -/
abbrev rows (o : ℕ) (h : o ≤ 384) : Rect S512x256 := Rect.unit ![o, 0] S128x256.size (inbRow o h)

theorem inbHead (h : Fin 4) : ∀ a, (![h.val, 0, 0] : Fin 3 → ℕ) a + S1x128x256.size a ≤ S4x128x256.size a
  | ⟨0, _⟩ => by show h.val + 1 ≤ 4; omega
  | ⟨1, _⟩ => by show 0 + 128 ≤ 128; omega
  | ⟨2, _⟩ => by show 0 + 256 ≤ 256; omega

/-- The accumulator's stores after the block: the first 640 columns take those from 512 on, the rest is cleared. -/
def shiftL {κ : Kind} {sp : Space} (w : View sig κ sp S256x1152 .f32) (L : List (View.Piece (Elt F) S256x1152 .f32)) :
    List (View.Piece (Elt F) S256x1152 .f32) :=
  ⟨Rect.unit ![0, 640] S256x512.size inb_S256x1152_S256x512_0_640, k0_pay3⟩ ::
  ⟨Rect.unit ![0, 0] S256x640.size inb_S256x1152_S256x640_0_0, k0_pay1 (w.readCov L
    (Rect.unit ![0, 512] S256x640.size inb_S256x1152_S256x640_0_512 : Rect S256x1152).toLoadRect)⟩ :: L

/-- The four stores of query gradients. -/
def rowL (t0 t1 t2 t3 : FVec F S128x256 .bf16) : List (View.Piece (Elt F) S512x256 .bf16) :=
  [⟨rows 384 (by omega), t3⟩, ⟨rows 256 (by omega), t2⟩, ⟨rows 128 (by omega), t1⟩, ⟨rows 0 (by omega), t0⟩]

/-- The query gradients' buffer stored over itself. -/
def selfL {κ : Kind} {sp : Space} (w : View sig κ sp S512x256 .bf16) (L : List (View.Piece (Elt F) S512x256 .bf16)) :
    List (View.Piece (Elt F) S512x256 .bf16) :=
  ⟨Rect.unit ![0, 0] S512x256.size inb_S512x256_S512x256_0_0, k0_pay203 (w.readCov L
    (Rect.unit ![0, 0] S512x256.size inb_S512x256_S512x256_0_0 : Rect S512x256).toLoadRect)⟩ :: L

/-- One head's slice. -/
abbrev headRect (h : Fin 4) : Rect S4x128x256 := Rect.unit ![h.val, 0, 0] S1x128x256.size (inbHead h)

/-- Loading the whole of a buffer reads its contents. -/
theorem ld_whole {Val : EltTy → Type} {S : Shape} {e : EltTy} {off : Fin S.rank → ℕ} (inb : ∀ a, off a + S.size a ≤ S.size a)
    (h : ∀ a, off a = 0) (X : S.Idx → Val e) : View.ld X (Rect.unit off S.size inb) = X :=
  funext fun y => congrArg X (funext fun a => Fin.ext (by
    show off a + 1 * (y a).val = (y a).val
    rw [h a]; omega))

/-- The sub-block at row `o` as the body loads it from its buffers. -/
def bsub (i : grid0.Coords) (arg2 : Memref sig .tc .vmem S512x256 .bf16) (harg2 : arg2.IsWhole) (arg3 : Memref sig .tc .vmem S64x256 .bf16) (harg3 : arg3.IsWhole) (arg4 : Memref sig .tc .vmem S512x256 .bf16) (harg4 : arg4.IsWhole) (arg5 : Memref sig .tc .vmem S64x256 .bf16) (harg5 : arg5.IsWhole) (arg6 : Memref sig .tc .vmem S64x256 .bf16) (harg6 : arg6.IsWhole) (arg7 : Memref sig .tc .vmem S512x256 .bf16) (harg7 : arg7.IsWhole) (arg8 : Memref sig .tc .vmem S64x256 .bf16) (harg8 : arg8.IsWhole) (arg9 : Memref sig .tc .vmem S4x128x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (x0 : Vec F S512x256 .bf16) (x1 : Vec F S64x256 .bf16) (x2 : Vec F S512x256 .bf16) (x3 : Vec F S64x256 .bf16) (x4 : Vec F S64x256 .bf16) (x5 : Vec F S512x256 .bf16) (x6 : Vec F S64x256 .bf16) (x7 : Vec F S4x128x256 .f32) (x8 : Vec F S512x256 .f32) (x9 : Vec F S512x256 .bf16) (x10 : Vec F S512x256 .f32)
    (o : ℕ) (h : o ≤ 384) : Sub F :=
  subOf (BitVec.ofNat 32 (i 1).val) o h (View.readAt (Elt F) arg2.view (rows o h).toLoadRect (harg2.unread x0)) (View.readAt (Elt F) arg11.view (rows o h).toLoadRect (harg11.unread x9)) (View.readAt (Elt F) arg10.view (rows o h).toLoadRect (harg10.unread x8)) (View.readAt (Elt F) arg12.view (rows o h).toLoadRect (harg12.unread x10))
    (View.readAt (Elt F) arg3.view (Rect.unit ![0, 0] S64x256.size inb_S64x256_S64x256_0_0).toLoadRect (harg3.unread x1)) (View.readAt (Elt F) arg4.view (Rect.unit ![0, 0] S512x256.size inb_S512x256_S512x256_0_0).toLoadRect (harg4.unread x2)) (View.readAt (Elt F) arg5.view (Rect.unit ![0, 0] S64x256.size inb_S64x256_S64x256_0_0).toLoadRect (harg5.unread x3)) (View.readAt (Elt F) arg6.view (Rect.unit ![0, 0] S64x256.size inb_S64x256_S64x256_0_0).toLoadRect (harg6.unread x4)) (View.readAt (Elt F) arg7.view (Rect.unit ![0, 0] S512x256.size inb_S512x256_S512x256_0_0).toLoadRect (harg7.unread x5)) (View.readAt (Elt F) arg8.view (Rect.unit ![0, 0] S64x256.size inb_S64x256_S64x256_0_0).toLoadRect (harg8.unread x6))
    (fun e => View.readAt (Elt F) arg9.view (headRect e).toLoadRect (harg9.unread x7))

/-- The sub-block at row `o` as a function of the blocks' contents. -/
def psub (n : BitVec 32) (x0 : Vec F S512x256 .bf16) (x1 : Vec F S64x256 .bf16) (x2 : Vec F S512x256 .bf16)
    (x3 x4 : Vec F S64x256 .bf16) (x5 : Vec F S512x256 .bf16) (x6 : Vec F S64x256 .bf16) (x7 : Vec F S4x128x256 .f32)
    (x8 : Vec F S512x256 .f32) (x9 : Vec F S512x256 .bf16) (x10 : Vec F S512x256 .f32) (o : ℕ) (h : o ≤ 384) : Sub F :=
  subOf n o h (View.ld x0 (rows o h)) (View.ld x9 (rows o h)) (View.ld x8 (rows o h)) (View.ld x10 (rows o h))
    x1 x2 x3 x4 x5 x6 (fun e => View.ld x7 (headRect e))

theorem bsub_eq (i : grid0.Coords) (arg2 : Memref sig .tc .vmem S512x256 .bf16) (harg2 : arg2.IsWhole) (arg3 : Memref sig .tc .vmem S64x256 .bf16) (harg3 : arg3.IsWhole) (arg4 : Memref sig .tc .vmem S512x256 .bf16) (harg4 : arg4.IsWhole) (arg5 : Memref sig .tc .vmem S64x256 .bf16) (harg5 : arg5.IsWhole) (arg6 : Memref sig .tc .vmem S64x256 .bf16) (harg6 : arg6.IsWhole) (arg7 : Memref sig .tc .vmem S512x256 .bf16) (harg7 : arg7.IsWhole) (arg8 : Memref sig .tc .vmem S64x256 .bf16) (harg8 : arg8.IsWhole) (arg9 : Memref sig .tc .vmem S4x128x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (x0 : Vec F S512x256 .bf16) (x1 : Vec F S64x256 .bf16) (x2 : Vec F S512x256 .bf16) (x3 : Vec F S64x256 .bf16) (x4 : Vec F S64x256 .bf16) (x5 : Vec F S512x256 .bf16) (x6 : Vec F S64x256 .bf16) (x7 : Vec F S4x128x256 .f32) (x8 : Vec F S512x256 .f32) (x9 : Vec F S512x256 .bf16) (x10 : Vec F S512x256 .f32)
    (o : ℕ) (h : o ≤ 384) :
    bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 o h = psub (BitVec.ofNat 32 (i 1).val) x0 x1 x2 x3 x4 x5 x6 x7 x8 x9 x10 o h := by
  unfold bsub psub
  simp only [View.readAt_eq_ld, harg2.read_unread, harg3.read_unread, harg4.read_unread, harg5.read_unread,
    harg6.read_unread, harg7.read_unread, harg8.read_unread, harg9.read_unread, harg10.read_unread, harg11.read_unread,
    harg12.read_unread]
  congr 1 <;> first | exact ld_whole (S := S64x256) _ (by decide) _ | exact ld_whole (S := S512x256) _ (by decide) _

end Cert.AttKernelIdeal.Own

end
-- ==== Proof.BlockA.lean ====
/-
  The pieces the body stores at the first point of a residue class: its sub-blocks are the ones of `Sub`, and its stores are
  lists built from their results.
-/
module

public import proofs.«01_k».proof.Proof.Tile

@[expose] public section
set_option maxRecDepth 16384
noncomputable section
namespace Cert.AttKernelIdeal.Own.BlockA

open Cert.AttKernelIdeal Cert.AttKernelIdeal.Gen Idealize.ShloMosaic Idealize.ShloMosaic.TcCoe Idealize.ShloMosaic.Tactic
variable {F : FTy → Type} [FloatOps F] [Named F]

section

variable (c : Dev nD) (i : grid0.Coords) (arg2 : Memref sig .tc .vmem S512x256 .bf16) (harg2 : arg2.IsWhole)
  (arg3 : Memref sig .tc .vmem S64x256 .bf16) (harg3 : arg3.IsWhole) (arg4 : Memref sig .tc .vmem S512x256 .bf16) (harg4 : arg4.IsWhole)
  (arg5 : Memref sig .tc .vmem S64x256 .bf16) (harg5 : arg5.IsWhole) (arg6 : Memref sig .tc .vmem S64x256 .bf16) (harg6 : arg6.IsWhole)
  (arg7 : Memref sig .tc .vmem S512x256 .bf16) (harg7 : arg7.IsWhole) (arg8 : Memref sig .tc .vmem S64x256 .bf16) (harg8 : arg8.IsWhole)
  (arg9 : Memref sig .tc .vmem S4x128x256 .f32) (harg9 : arg9.IsWhole) (arg10 : Memref sig .tc .vmem S512x256 .f32) (harg10 : arg10.IsWhole)
  (arg11 : Memref sig .tc .vmem S512x256 .bf16) (harg11 : arg11.IsWhole) (arg12 : Memref sig .tc .vmem S512x256 .f32) (harg12 : arg12.IsWhole)
  (x0 : Vec F S512x256 .bf16) (x1 : Vec F S64x256 .bf16) (x2 : Vec F S512x256 .bf16) (x3 : Vec F S64x256 .bf16) (x4 : Vec F S64x256 .bf16)
  (x5 : Vec F S512x256 .bf16) (x6 : Vec F S64x256 .bf16) (x7 : Vec F S4x128x256 .f32) (x8 : Vec F S512x256 .f32) (x9 : Vec F S512x256 .bf16)
  (x10 : Vec F S512x256 .f32)
include c i arg2 harg2 arg3 harg3 arg4 harg4 arg5 harg5 arg6 harg6 arg7 harg7 arg8 harg8 arg9 harg9 arg10 harg10 arg11 harg11 arg12 harg12 x0 x1 x2 x3 x4 x5 x6 x7 x8 x9 x10

theorem dq0  :
    (kernelRun0_A.sl.v217 c i arg2 harg2 arg3 harg3 arg4 harg4 arg5 harg5 arg6 harg6 arg7 harg7 arg8 harg8 arg9 harg9 arg10 harg10 arg11 harg11 arg12 harg12 x0 x1 x2 x3 x4 x5 x6 x7 x8 x9 x10) = (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 0 (by omega)).dq := by rfl

theorem dk0  :
    (kernelRun0_A.sl.v220 c i arg2 harg2 arg3 harg3 arg4 harg4 arg5 harg5 arg6 harg6 arg7 harg7 arg8 harg8 arg9 harg9 arg10 harg10 arg11 harg11 arg12 harg12 x0 x1 x2 x3 x4 x5 x6 x7 x8 x9 x10) = (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 0 (by omega)).dk := by rfl

theorem dv0  :
    (kernelRun0_A.sl.v226 c i arg2 harg2 arg3 harg3 arg4 harg4 arg5 harg5 arg9 harg9 arg11 harg11 arg12 harg12 x0 x1 x2 x3 x7 x9 x10) = (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 0 (by omega)).dv := by rfl

theorem dq1  :
    (kernelRun0_A.sl.v407 c i arg2 harg2 arg3 harg3 arg4 harg4 arg5 harg5 arg6 harg6 arg7 harg7 arg8 harg8 arg9 harg9 arg10 harg10 arg11 harg11 arg12 harg12 x0 x1 x2 x3 x4 x5 x6 x7 x8 x9 x10) = (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 128 (by omega)).dq := by rfl

theorem dk1  :
    (kernelRun0_A.sl.v410 c i arg2 harg2 arg3 harg3 arg4 harg4 arg5 harg5 arg6 harg6 arg7 harg7 arg8 harg8 arg9 harg9 arg10 harg10 arg11 harg11 arg12 harg12 x0 x1 x2 x3 x4 x5 x6 x7 x8 x9 x10) = (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 128 (by omega)).dk := by rfl

theorem dv1  :
    (kernelRun0_A.sl.v416 c i arg2 harg2 arg3 harg3 arg4 harg4 arg5 harg5 arg9 harg9 arg11 harg11 arg12 harg12 x0 x1 x2 x3 x7 x9 x10) = (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 128 (by omega)).dv := by rfl

theorem dq2  :
    (kernelRun0_A.sl.v597 c i arg2 harg2 arg3 harg3 arg4 harg4 arg5 harg5 arg6 harg6 arg7 harg7 arg8 harg8 arg9 harg9 arg10 harg10 arg11 harg11 arg12 harg12 x0 x1 x2 x3 x4 x5 x6 x7 x8 x9 x10) = (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 256 (by omega)).dq := by rfl

theorem dk2  :
    (kernelRun0_A.sl.v600 c i arg2 harg2 arg3 harg3 arg4 harg4 arg5 harg5 arg6 harg6 arg7 harg7 arg8 harg8 arg9 harg9 arg10 harg10 arg11 harg11 arg12 harg12 x0 x1 x2 x3 x4 x5 x6 x7 x8 x9 x10) = (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 256 (by omega)).dk := by rfl

theorem dv2  :
    (kernelRun0_A.sl.v606 c i arg2 harg2 arg3 harg3 arg4 harg4 arg5 harg5 arg9 harg9 arg11 harg11 arg12 harg12 x0 x1 x2 x3 x7 x9 x10) = (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 256 (by omega)).dv := by rfl

theorem dq3  :
    (kernelRun0_A.sl.v787 c i arg2 harg2 arg3 harg3 arg4 harg4 arg5 harg5 arg6 harg6 arg7 harg7 arg8 harg8 arg9 harg9 arg10 harg10 arg11 harg11 arg12 harg12 x0 x1 x2 x3 x4 x5 x6 x7 x8 x9 x10) = (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 384 (by omega)).dq := by rfl

theorem dk3  :
    (kernelRun0_A.sl.v790 c i arg2 harg2 arg3 harg3 arg4 harg4 arg5 harg5 arg6 harg6 arg7 harg7 arg8 harg8 arg9 harg9 arg10 harg10 arg11 harg11 arg12 harg12 x0 x1 x2 x3 x4 x5 x6 x7 x8 x9 x10) = (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 384 (by omega)).dk := by rfl

theorem dv3  :
    (kernelRun0_A.sl.v796 c i arg2 harg2 arg3 harg3 arg4 harg4 arg5 harg5 arg9 harg9 arg11 harg11 arg12 harg12 x0 x1 x2 x3 x7 x9 x10) = (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 384 (by omega)).dv := by rfl

theorem acc0_0 (arg17 : Memref sig .tc .vmem S256x1152 .f32) :
    (kernelRun0_A.sl.HS0_2 c i arg2 harg2 arg3 harg3 arg4 harg4 arg5 harg5 arg6 harg6 arg7 harg7 arg8 harg8 arg9 harg9 arg10 harg10 arg11 harg11 arg12 harg12 arg17 x0 x1 x2 x3 x4 x5 x6 x7 x8 x9 x10) =
    addCol arg17.view 0 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 0 (by omega)).dk [⟨Rect.unit ![0, 0] S256x1152.size inb_S256x1152_S256x1152_0_0, k0_pay200⟩] :=
  congrArg (fun t => addCol arg17.view 0 (by omega) t [⟨Rect.unit ![0, 0] S256x1152.size inb_S256x1152_S256x1152_0_0, k0_pay200⟩]) (dk0 c i arg2 harg2 arg3 harg3 arg4 harg4 arg5 harg5 arg6 harg6 arg7 harg7 arg8 harg8 arg9 harg9 arg10 harg10 arg11 harg11 arg12 harg12 x0 x1 x2 x3 x4 x5 x6 x7 x8 x9 x10)

theorem acc0_1 (arg17 : Memref sig .tc .vmem S256x1152 .f32) :
    (kernelRun0_A.sl.HS0_3 c i arg2 harg2 arg3 harg3 arg4 harg4 arg5 harg5 arg6 harg6 arg7 harg7 arg8 harg8 arg9 harg9 arg10 harg10 arg11 harg11 arg12 harg12 arg17 x0 x1 x2 x3 x4 x5 x6 x7 x8 x9 x10) =
    addCol arg17.view 128 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 128 (by omega)).dk (addCol arg17.view 0 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 0 (by omega)).dk [⟨Rect.unit ![0, 0] S256x1152.size inb_S256x1152_S256x1152_0_0, k0_pay200⟩]) :=
  congrArg₂ (fun t L => addCol arg17.view 128 (by omega) t L) (dk1 c i arg2 harg2 arg3 harg3 arg4 harg4 arg5 harg5 arg6 harg6 arg7 harg7 arg8 harg8 arg9 harg9 arg10 harg10 arg11 harg11 arg12 harg12 x0 x1 x2 x3 x4 x5 x6 x7 x8 x9 x10) (acc0_0 c i arg2 harg2 arg3 harg3 arg4 harg4 arg5 harg5 arg6 harg6 arg7 harg7 arg8 harg8 arg9 harg9 arg10 harg10 arg11 harg11 arg12 harg12 x0 x1 x2 x3 x4 x5 x6 x7 x8 x9 x10 arg17)

theorem acc0_2 (arg17 : Memref sig .tc .vmem S256x1152 .f32) :
    (kernelRun0_A.sl.HS0_4 c i arg2 harg2 arg3 harg3 arg4 harg4 arg5 harg5 arg6 harg6 arg7 harg7 arg8 harg8 arg9 harg9 arg10 harg10 arg11 harg11 arg12 harg12 arg17 x0 x1 x2 x3 x4 x5 x6 x7 x8 x9 x10) =
    addCol arg17.view 256 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 256 (by omega)).dk (addCol arg17.view 128 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 128 (by omega)).dk (addCol arg17.view 0 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 0 (by omega)).dk [⟨Rect.unit ![0, 0] S256x1152.size inb_S256x1152_S256x1152_0_0, k0_pay200⟩])) :=
  congrArg₂ (fun t L => addCol arg17.view 256 (by omega) t L) (dk2 c i arg2 harg2 arg3 harg3 arg4 harg4 arg5 harg5 arg6 harg6 arg7 harg7 arg8 harg8 arg9 harg9 arg10 harg10 arg11 harg11 arg12 harg12 x0 x1 x2 x3 x4 x5 x6 x7 x8 x9 x10) (acc0_1 c i arg2 harg2 arg3 harg3 arg4 harg4 arg5 harg5 arg6 harg6 arg7 harg7 arg8 harg8 arg9 harg9 arg10 harg10 arg11 harg11 arg12 harg12 x0 x1 x2 x3 x4 x5 x6 x7 x8 x9 x10 arg17)

theorem acc0_3 (arg17 : Memref sig .tc .vmem S256x1152 .f32) :
    (kernelRun0_A.sl.HS0_5 c i arg2 harg2 arg3 harg3 arg4 harg4 arg5 harg5 arg6 harg6 arg7 harg7 arg8 harg8 arg9 harg9 arg10 harg10 arg11 harg11 arg12 harg12 arg17 x0 x1 x2 x3 x4 x5 x6 x7 x8 x9 x10) =
    addCol arg17.view 384 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 384 (by omega)).dk (addCol arg17.view 256 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 256 (by omega)).dk (addCol arg17.view 128 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 128 (by omega)).dk (addCol arg17.view 0 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 0 (by omega)).dk [⟨Rect.unit ![0, 0] S256x1152.size inb_S256x1152_S256x1152_0_0, k0_pay200⟩]))) :=
  congrArg₂ (fun t L => addCol arg17.view 384 (by omega) t L) (dk3 c i arg2 harg2 arg3 harg3 arg4 harg4 arg5 harg5 arg6 harg6 arg7 harg7 arg8 harg8 arg9 harg9 arg10 harg10 arg11 harg11 arg12 harg12 x0 x1 x2 x3 x4 x5 x6 x7 x8 x9 x10) (acc0_2 c i arg2 harg2 arg3 harg3 arg4 harg4 arg5 harg5 arg6 harg6 arg7 harg7 arg8 harg8 arg9 harg9 arg10 harg10 arg11 harg11 arg12 harg12 x0 x1 x2 x3 x4 x5 x6 x7 x8 x9 x10 arg17)

theorem acc1_0 (arg18 : Memref sig .tc .vmem S256x1152 .f32) :
    (kernelRun0_A.sl.HS1_2 c i arg2 harg2 arg3 harg3 arg4 harg4 arg5 harg5 arg9 harg9 arg11 harg11 arg12 harg12 arg18 x0 x1 x2 x3 x7 x9 x10) =
    addCol arg18.view 0 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 0 (by omega)).dv [⟨Rect.unit ![0, 0] S256x1152.size inb_S256x1152_S256x1152_0_0, k0_pay200⟩] :=
  congrArg (fun t => addCol arg18.view 0 (by omega) t [⟨Rect.unit ![0, 0] S256x1152.size inb_S256x1152_S256x1152_0_0, k0_pay200⟩]) (dv0 c i arg2 harg2 arg3 harg3 arg4 harg4 arg5 harg5 arg6 harg6 arg7 harg7 arg8 harg8 arg9 harg9 arg10 harg10 arg11 harg11 arg12 harg12 x0 x1 x2 x3 x4 x5 x6 x7 x8 x9 x10)

theorem acc1_1 (arg18 : Memref sig .tc .vmem S256x1152 .f32) :
    (kernelRun0_A.sl.HS1_3 c i arg2 harg2 arg3 harg3 arg4 harg4 arg5 harg5 arg9 harg9 arg11 harg11 arg12 harg12 arg18 x0 x1 x2 x3 x7 x9 x10) =
    addCol arg18.view 128 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 128 (by omega)).dv (addCol arg18.view 0 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 0 (by omega)).dv [⟨Rect.unit ![0, 0] S256x1152.size inb_S256x1152_S256x1152_0_0, k0_pay200⟩]) :=
  congrArg₂ (fun t L => addCol arg18.view 128 (by omega) t L) (dv1 c i arg2 harg2 arg3 harg3 arg4 harg4 arg5 harg5 arg6 harg6 arg7 harg7 arg8 harg8 arg9 harg9 arg10 harg10 arg11 harg11 arg12 harg12 x0 x1 x2 x3 x4 x5 x6 x7 x8 x9 x10) (acc1_0 c i arg2 harg2 arg3 harg3 arg4 harg4 arg5 harg5 arg6 harg6 arg7 harg7 arg8 harg8 arg9 harg9 arg10 harg10 arg11 harg11 arg12 harg12 x0 x1 x2 x3 x4 x5 x6 x7 x8 x9 x10 arg18)

theorem acc1_2 (arg18 : Memref sig .tc .vmem S256x1152 .f32) :
    (kernelRun0_A.sl.HS1_4 c i arg2 harg2 arg3 harg3 arg4 harg4 arg5 harg5 arg9 harg9 arg11 harg11 arg12 harg12 arg18 x0 x1 x2 x3 x7 x9 x10) =
    addCol arg18.view 256 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 256 (by omega)).dv (addCol arg18.view 128 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 128 (by omega)).dv (addCol arg18.view 0 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 0 (by omega)).dv [⟨Rect.unit ![0, 0] S256x1152.size inb_S256x1152_S256x1152_0_0, k0_pay200⟩])) :=
  congrArg₂ (fun t L => addCol arg18.view 256 (by omega) t L) (dv2 c i arg2 harg2 arg3 harg3 arg4 harg4 arg5 harg5 arg6 harg6 arg7 harg7 arg8 harg8 arg9 harg9 arg10 harg10 arg11 harg11 arg12 harg12 x0 x1 x2 x3 x4 x5 x6 x7 x8 x9 x10) (acc1_1 c i arg2 harg2 arg3 harg3 arg4 harg4 arg5 harg5 arg6 harg6 arg7 harg7 arg8 harg8 arg9 harg9 arg10 harg10 arg11 harg11 arg12 harg12 x0 x1 x2 x3 x4 x5 x6 x7 x8 x9 x10 arg18)

theorem acc1_3 (arg18 : Memref sig .tc .vmem S256x1152 .f32) :
    (kernelRun0_A.sl.HS1_5 c i arg2 harg2 arg3 harg3 arg4 harg4 arg5 harg5 arg9 harg9 arg11 harg11 arg12 harg12 arg18 x0 x1 x2 x3 x7 x9 x10) =
    addCol arg18.view 384 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 384 (by omega)).dv (addCol arg18.view 256 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 256 (by omega)).dv (addCol arg18.view 128 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 128 (by omega)).dv (addCol arg18.view 0 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 0 (by omega)).dv [⟨Rect.unit ![0, 0] S256x1152.size inb_S256x1152_S256x1152_0_0, k0_pay200⟩]))) :=
  congrArg₂ (fun t L => addCol arg18.view 384 (by omega) t L) (dv3 c i arg2 harg2 arg3 harg3 arg4 harg4 arg5 harg5 arg6 harg6 arg7 harg7 arg8 harg8 arg9 harg9 arg10 harg10 arg11 harg11 arg12 harg12 x0 x1 x2 x3 x4 x5 x6 x7 x8 x9 x10) (acc1_2 c i arg2 harg2 arg3 harg3 arg4 harg4 arg5 harg5 arg6 harg6 arg7 harg7 arg8 harg8 arg9 harg9 arg10 harg10 arg11 harg11 arg12 harg12 x0 x1 x2 x3 x4 x5 x6 x7 x8 x9 x10 arg18)

end

section

variable (c : Dev nD) (i : grid0.Coords) (arg2 : Memref sig .tc .vmem S512x256 .bf16) (harg2 : arg2.IsWhole)
  (arg3 : Memref sig .tc .vmem S64x256 .bf16) (harg3 : arg3.IsWhole) (arg4 : Memref sig .tc .vmem S512x256 .bf16) (harg4 : arg4.IsWhole)
  (arg5 : Memref sig .tc .vmem S64x256 .bf16) (harg5 : arg5.IsWhole) (arg6 : Memref sig .tc .vmem S64x256 .bf16) (harg6 : arg6.IsWhole)
  (arg7 : Memref sig .tc .vmem S512x256 .bf16) (harg7 : arg7.IsWhole) (arg8 : Memref sig .tc .vmem S64x256 .bf16) (harg8 : arg8.IsWhole)
  (arg9 : Memref sig .tc .vmem S4x128x256 .f32) (harg9 : arg9.IsWhole) (arg10 : Memref sig .tc .vmem S512x256 .f32) (harg10 : arg10.IsWhole)
  (arg11 : Memref sig .tc .vmem S512x256 .bf16) (harg11 : arg11.IsWhole) (arg12 : Memref sig .tc .vmem S512x256 .f32) (harg12 : arg12.IsWhole)
  (arg13 : Memref sig .tc .vmem S512x256 .bf16) (harg13 : arg13.IsWhole) (arg14 : Memref sig .tc .vmem S512x256 .bf16) (harg14 : arg14.IsWhole)
  (arg15 : Memref sig .tc .vmem S512x256 .bf16) (harg15 : arg15.IsWhole) (arg16 : Memref sig .tc .vmem S4x128x256 .f32) (harg16 : arg16.IsWhole)
  (arg17 : Memref sig .tc .vmem S256x1152 .f32) (harg17 : arg17.IsWhole) (arg18 : Memref sig .tc .vmem S256x1152 .f32) (harg18 : arg18.IsWhole)
  (hc0 : cond0_0 i) (hc1 : cond0_1 i) (hc2 : cond0_2 i) (x0 : Vec F S512x256 .bf16) (x1 : Vec F S64x256 .bf16) (x2 : Vec F S512x256 .bf16)
  (x3 : Vec F S64x256 .bf16) (x4 : Vec F S64x256 .bf16) (x5 : Vec F S512x256 .bf16) (x6 : Vec F S64x256 .bf16) (x7 : Vec F S4x128x256 .f32)
  (x8 : Vec F S512x256 .f32) (x9 : Vec F S512x256 .bf16) (x10 : Vec F S512x256 .f32)
include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10

/-- The stores into accumulator 0. -/
theorem scratch0  :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.2.2.1 = shiftL arg17.view (accL arg17.view (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 0 (by omega)).dk (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 128 (by omega)).dk (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 256 (by omega)).dk (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 384 (by omega)).dk) :=
  congrArg (shiftL arg17.view) (acc0_3 c i arg2 harg2 arg3 harg3 arg4 harg4 arg5 harg5 arg6 harg6 arg7 harg7 arg8 harg8 arg9 harg9 arg10 harg10 arg11 harg11 arg12 harg12 x0 x1 x2 x3 x4 x5 x6 x7 x8 x9 x10 arg17)

/-- The stores into accumulator 1. -/
theorem scratch1  :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.2.2.2.1 = shiftL arg18.view (accL arg18.view (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 0 (by omega)).dv (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 128 (by omega)).dv (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 256 (by omega)).dv (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 384 (by omega)).dv) :=
  congrArg (shiftL arg18.view) (acc1_3 c i arg2 harg2 arg3 harg3 arg4 harg4 arg5 harg5 arg6 harg6 arg7 harg7 arg8 harg8 arg9 harg9 arg10 harg10 arg11 harg11 arg12 harg12 x0 x1 x2 x3 x4 x5 x6 x7 x8 x9 x10 arg18)

end

/-- The four stores of query gradients. -/
theorem rows4 (c : Dev nD) (i : grid0.Coords) (arg2 : Memref sig .tc .vmem S512x256 .bf16) (harg2 : arg2.IsWhole) (arg3 : Memref sig .tc .vmem S64x256 .bf16) (harg3 : arg3.IsWhole) (arg4 : Memref sig .tc .vmem S512x256 .bf16) (harg4 : arg4.IsWhole) (arg5 : Memref sig .tc .vmem S64x256 .bf16) (harg5 : arg5.IsWhole) (arg6 : Memref sig .tc .vmem S64x256 .bf16) (harg6 : arg6.IsWhole) (arg7 : Memref sig .tc .vmem S512x256 .bf16) (harg7 : arg7.IsWhole) (arg8 : Memref sig .tc .vmem S64x256 .bf16) (harg8 : arg8.IsWhole) (arg9 : Memref sig .tc .vmem S4x128x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (x0 : Vec F S512x256 .bf16) (x1 : Vec F S64x256 .bf16) (x2 : Vec F S512x256 .bf16) (x3 : Vec F S64x256 .bf16) (x4 : Vec F S64x256 .bf16) (x5 : Vec F S512x256 .bf16) (x6 : Vec F S64x256 .bf16) (x7 : Vec F S4x128x256 .f32) (x8 : Vec F S512x256 .f32) (x9 : Vec F S512x256 .bf16) (x10 : Vec F S512x256 .f32) :
    (kernelRun0_A.sl.H11_4 c i arg2 harg2 arg3 harg3 arg4 harg4 arg5 harg5 arg6 harg6 arg7 harg7 arg8 harg8 arg9 harg9 arg10 harg10 arg11 harg11 arg12 harg12 x0 x1 x2 x3 x4 x5 x6 x7 x8 x9 x10) = rowL (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 0 (by omega)).dq (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 128 (by omega)).dq (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 256 (by omega)).dq (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 384 (by omega)).dq := by
  unfold kernelRun0_A.sl.H11_4 rowL
  rw [dq0, dq1, dq2, dq3]

/-- The stores into the query gradients. -/
theorem query (c : Dev nD) (i : grid0.Coords) (arg2 : Memref sig .tc .vmem S512x256 .bf16) (harg2 : arg2.IsWhole) (arg3 : Memref sig .tc .vmem S64x256 .bf16) (harg3 : arg3.IsWhole) (arg4 : Memref sig .tc .vmem S512x256 .bf16) (harg4 : arg4.IsWhole) (arg5 : Memref sig .tc .vmem S64x256 .bf16) (harg5 : arg5.IsWhole) (arg6 : Memref sig .tc .vmem S64x256 .bf16) (harg6 : arg6.IsWhole) (arg7 : Memref sig .tc .vmem S512x256 .bf16) (harg7 : arg7.IsWhole) (arg8 : Memref sig .tc .vmem S64x256 .bf16) (harg8 : arg8.IsWhole) (arg9 : Memref sig .tc .vmem S4x128x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S4x128x256 .f32) (harg16 : arg16.IsWhole) (arg17 : Memref sig .tc .vmem S256x1152 .f32) (harg17 : arg17.IsWhole) (arg18 : Memref sig .tc .vmem S256x1152 .f32) (harg18 : arg18.IsWhole) (hc0 : cond0_0 i) (hc1 : cond0_1 i) (hc2 : cond0_2 i)
    (x0 : Vec F S512x256 .bf16) (x1 : Vec F S64x256 .bf16) (x2 : Vec F S512x256 .bf16) (x3 : Vec F S64x256 .bf16) (x4 : Vec F S64x256 .bf16) (x5 : Vec F S512x256 .bf16) (x6 : Vec F S64x256 .bf16) (x7 : Vec F S4x128x256 .f32) (x8 : Vec F S512x256 .f32) (x9 : Vec F S512x256 .bf16) (x10 : Vec F S512x256 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).1 = selfL arg13.view (rowL (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 0 (by omega)).dq (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 128 (by omega)).dq (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 256 (by omega)).dq (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 384 (by omega)).dq) :=
  congrArg (selfL arg13.view) (rows4 c i arg2 harg2 arg3 harg3 arg4 harg4 arg5 harg5 arg6 harg6 arg7 harg7 arg8 harg8 arg9 harg9 arg10 harg10 arg11 harg11 arg12 harg12 x0 x1 x2 x3 x4 x5 x6 x7 x8 x9 x10)

end Cert.AttKernelIdeal.Own.BlockA
end
-- ==== Proof.BlockC.lean ====
/-
  The pieces the body stores at the first point (of a later one) of a residue class: its sub-blocks are the ones of `Sub`, and its stores are
  lists built from their results.
-/
module

public import proofs.«01_k».proof.Proof.Tile

@[expose] public section
set_option maxRecDepth 16384
noncomputable section
namespace Cert.AttKernelIdeal.Own.BlockC

open Cert.AttKernelIdeal Cert.AttKernelIdeal.Gen Idealize.ShloMosaic Idealize.ShloMosaic.TcCoe Idealize.ShloMosaic.Tactic
variable {F : FTy → Type} [FloatOps F] [Named F]

section

variable (c : Dev nD) (i : grid0.Coords) (arg2 : Memref sig .tc .vmem S512x256 .bf16) (harg2 : arg2.IsWhole)
  (arg3 : Memref sig .tc .vmem S64x256 .bf16) (harg3 : arg3.IsWhole) (arg4 : Memref sig .tc .vmem S512x256 .bf16) (harg4 : arg4.IsWhole)
  (arg5 : Memref sig .tc .vmem S64x256 .bf16) (harg5 : arg5.IsWhole) (arg6 : Memref sig .tc .vmem S64x256 .bf16) (harg6 : arg6.IsWhole)
  (arg7 : Memref sig .tc .vmem S512x256 .bf16) (harg7 : arg7.IsWhole) (arg8 : Memref sig .tc .vmem S64x256 .bf16) (harg8 : arg8.IsWhole)
  (arg9 : Memref sig .tc .vmem S4x128x256 .f32) (harg9 : arg9.IsWhole) (arg10 : Memref sig .tc .vmem S512x256 .f32) (harg10 : arg10.IsWhole)
  (arg11 : Memref sig .tc .vmem S512x256 .bf16) (harg11 : arg11.IsWhole) (arg12 : Memref sig .tc .vmem S512x256 .f32) (harg12 : arg12.IsWhole)
  (x0 : Vec F S512x256 .bf16) (x1 : Vec F S64x256 .bf16) (x2 : Vec F S512x256 .bf16) (x3 : Vec F S64x256 .bf16) (x4 : Vec F S64x256 .bf16)
  (x5 : Vec F S512x256 .bf16) (x6 : Vec F S64x256 .bf16) (x7 : Vec F S4x128x256 .f32) (x8 : Vec F S512x256 .f32) (x9 : Vec F S512x256 .bf16)
  (x10 : Vec F S512x256 .f32)
include c i arg2 harg2 arg3 harg3 arg4 harg4 arg5 harg5 arg6 harg6 arg7 harg7 arg8 harg8 arg9 harg9 arg10 harg10 arg11 harg11 arg12 harg12 x0 x1 x2 x3 x4 x5 x6 x7 x8 x9 x10

theorem dq0  :
    (kernelRun0_C.sl.v217 c i arg2 harg2 arg3 harg3 arg4 harg4 arg5 harg5 arg6 harg6 arg7 harg7 arg8 harg8 arg9 harg9 arg10 harg10 arg11 harg11 arg12 harg12 x0 x1 x2 x3 x4 x5 x6 x7 x8 x9 x10) = (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 0 (by omega)).dq := by rfl

theorem dk0  :
    (kernelRun0_C.sl.v220 c i arg2 harg2 arg3 harg3 arg4 harg4 arg5 harg5 arg6 harg6 arg7 harg7 arg8 harg8 arg9 harg9 arg10 harg10 arg11 harg11 arg12 harg12 x0 x1 x2 x3 x4 x5 x6 x7 x8 x9 x10) = (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 0 (by omega)).dk := by rfl

theorem dv0  :
    (kernelRun0_C.sl.v226 c i arg2 harg2 arg3 harg3 arg4 harg4 arg5 harg5 arg9 harg9 arg11 harg11 arg12 harg12 x0 x1 x2 x3 x7 x9 x10) = (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 0 (by omega)).dv := by rfl

theorem dq1  :
    (kernelRun0_C.sl.v407 c i arg2 harg2 arg3 harg3 arg4 harg4 arg5 harg5 arg6 harg6 arg7 harg7 arg8 harg8 arg9 harg9 arg10 harg10 arg11 harg11 arg12 harg12 x0 x1 x2 x3 x4 x5 x6 x7 x8 x9 x10) = (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 128 (by omega)).dq := by rfl

theorem dk1  :
    (kernelRun0_C.sl.v410 c i arg2 harg2 arg3 harg3 arg4 harg4 arg5 harg5 arg6 harg6 arg7 harg7 arg8 harg8 arg9 harg9 arg10 harg10 arg11 harg11 arg12 harg12 x0 x1 x2 x3 x4 x5 x6 x7 x8 x9 x10) = (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 128 (by omega)).dk := by rfl

theorem dv1  :
    (kernelRun0_C.sl.v416 c i arg2 harg2 arg3 harg3 arg4 harg4 arg5 harg5 arg9 harg9 arg11 harg11 arg12 harg12 x0 x1 x2 x3 x7 x9 x10) = (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 128 (by omega)).dv := by rfl

theorem dq2  :
    (kernelRun0_C.sl.v597 c i arg2 harg2 arg3 harg3 arg4 harg4 arg5 harg5 arg6 harg6 arg7 harg7 arg8 harg8 arg9 harg9 arg10 harg10 arg11 harg11 arg12 harg12 x0 x1 x2 x3 x4 x5 x6 x7 x8 x9 x10) = (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 256 (by omega)).dq := by rfl

theorem dk2  :
    (kernelRun0_C.sl.v600 c i arg2 harg2 arg3 harg3 arg4 harg4 arg5 harg5 arg6 harg6 arg7 harg7 arg8 harg8 arg9 harg9 arg10 harg10 arg11 harg11 arg12 harg12 x0 x1 x2 x3 x4 x5 x6 x7 x8 x9 x10) = (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 256 (by omega)).dk := by rfl

theorem dv2  :
    (kernelRun0_C.sl.v606 c i arg2 harg2 arg3 harg3 arg4 harg4 arg5 harg5 arg9 harg9 arg11 harg11 arg12 harg12 x0 x1 x2 x3 x7 x9 x10) = (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 256 (by omega)).dv := by rfl

theorem dq3  :
    (kernelRun0_C.sl.v787 c i arg2 harg2 arg3 harg3 arg4 harg4 arg5 harg5 arg6 harg6 arg7 harg7 arg8 harg8 arg9 harg9 arg10 harg10 arg11 harg11 arg12 harg12 x0 x1 x2 x3 x4 x5 x6 x7 x8 x9 x10) = (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 384 (by omega)).dq := by rfl

theorem dk3  :
    (kernelRun0_C.sl.v790 c i arg2 harg2 arg3 harg3 arg4 harg4 arg5 harg5 arg6 harg6 arg7 harg7 arg8 harg8 arg9 harg9 arg10 harg10 arg11 harg11 arg12 harg12 x0 x1 x2 x3 x4 x5 x6 x7 x8 x9 x10) = (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 384 (by omega)).dk := by rfl

theorem dv3  :
    (kernelRun0_C.sl.v796 c i arg2 harg2 arg3 harg3 arg4 harg4 arg5 harg5 arg9 harg9 arg11 harg11 arg12 harg12 x0 x1 x2 x3 x7 x9 x10) = (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 384 (by omega)).dv := by rfl

theorem acc0_0 (arg17 : Memref sig .tc .vmem S256x1152 .f32) :
    (kernelRun0_C.sl.HS0_2 c i arg2 harg2 arg3 harg3 arg4 harg4 arg5 harg5 arg6 harg6 arg7 harg7 arg8 harg8 arg9 harg9 arg10 harg10 arg11 harg11 arg12 harg12 arg17 x0 x1 x2 x3 x4 x5 x6 x7 x8 x9 x10) =
    addCol arg17.view 0 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 0 (by omega)).dk [⟨Rect.unit ![0, 0] S256x1152.size inb_S256x1152_S256x1152_0_0, k0_pay200⟩] :=
  congrArg (fun t => addCol arg17.view 0 (by omega) t [⟨Rect.unit ![0, 0] S256x1152.size inb_S256x1152_S256x1152_0_0, k0_pay200⟩]) (dk0 c i arg2 harg2 arg3 harg3 arg4 harg4 arg5 harg5 arg6 harg6 arg7 harg7 arg8 harg8 arg9 harg9 arg10 harg10 arg11 harg11 arg12 harg12 x0 x1 x2 x3 x4 x5 x6 x7 x8 x9 x10)

theorem acc0_1 (arg17 : Memref sig .tc .vmem S256x1152 .f32) :
    (kernelRun0_C.sl.HS0_3 c i arg2 harg2 arg3 harg3 arg4 harg4 arg5 harg5 arg6 harg6 arg7 harg7 arg8 harg8 arg9 harg9 arg10 harg10 arg11 harg11 arg12 harg12 arg17 x0 x1 x2 x3 x4 x5 x6 x7 x8 x9 x10) =
    addCol arg17.view 128 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 128 (by omega)).dk (addCol arg17.view 0 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 0 (by omega)).dk [⟨Rect.unit ![0, 0] S256x1152.size inb_S256x1152_S256x1152_0_0, k0_pay200⟩]) :=
  congrArg₂ (fun t L => addCol arg17.view 128 (by omega) t L) (dk1 c i arg2 harg2 arg3 harg3 arg4 harg4 arg5 harg5 arg6 harg6 arg7 harg7 arg8 harg8 arg9 harg9 arg10 harg10 arg11 harg11 arg12 harg12 x0 x1 x2 x3 x4 x5 x6 x7 x8 x9 x10) (acc0_0 c i arg2 harg2 arg3 harg3 arg4 harg4 arg5 harg5 arg6 harg6 arg7 harg7 arg8 harg8 arg9 harg9 arg10 harg10 arg11 harg11 arg12 harg12 x0 x1 x2 x3 x4 x5 x6 x7 x8 x9 x10 arg17)

theorem acc0_2 (arg17 : Memref sig .tc .vmem S256x1152 .f32) :
    (kernelRun0_C.sl.HS0_4 c i arg2 harg2 arg3 harg3 arg4 harg4 arg5 harg5 arg6 harg6 arg7 harg7 arg8 harg8 arg9 harg9 arg10 harg10 arg11 harg11 arg12 harg12 arg17 x0 x1 x2 x3 x4 x5 x6 x7 x8 x9 x10) =
    addCol arg17.view 256 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 256 (by omega)).dk (addCol arg17.view 128 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 128 (by omega)).dk (addCol arg17.view 0 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 0 (by omega)).dk [⟨Rect.unit ![0, 0] S256x1152.size inb_S256x1152_S256x1152_0_0, k0_pay200⟩])) :=
  congrArg₂ (fun t L => addCol arg17.view 256 (by omega) t L) (dk2 c i arg2 harg2 arg3 harg3 arg4 harg4 arg5 harg5 arg6 harg6 arg7 harg7 arg8 harg8 arg9 harg9 arg10 harg10 arg11 harg11 arg12 harg12 x0 x1 x2 x3 x4 x5 x6 x7 x8 x9 x10) (acc0_1 c i arg2 harg2 arg3 harg3 arg4 harg4 arg5 harg5 arg6 harg6 arg7 harg7 arg8 harg8 arg9 harg9 arg10 harg10 arg11 harg11 arg12 harg12 x0 x1 x2 x3 x4 x5 x6 x7 x8 x9 x10 arg17)

theorem acc0_3 (arg17 : Memref sig .tc .vmem S256x1152 .f32) :
    (kernelRun0_C.sl.HS0_5 c i arg2 harg2 arg3 harg3 arg4 harg4 arg5 harg5 arg6 harg6 arg7 harg7 arg8 harg8 arg9 harg9 arg10 harg10 arg11 harg11 arg12 harg12 arg17 x0 x1 x2 x3 x4 x5 x6 x7 x8 x9 x10) =
    addCol arg17.view 384 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 384 (by omega)).dk (addCol arg17.view 256 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 256 (by omega)).dk (addCol arg17.view 128 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 128 (by omega)).dk (addCol arg17.view 0 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 0 (by omega)).dk [⟨Rect.unit ![0, 0] S256x1152.size inb_S256x1152_S256x1152_0_0, k0_pay200⟩]))) :=
  congrArg₂ (fun t L => addCol arg17.view 384 (by omega) t L) (dk3 c i arg2 harg2 arg3 harg3 arg4 harg4 arg5 harg5 arg6 harg6 arg7 harg7 arg8 harg8 arg9 harg9 arg10 harg10 arg11 harg11 arg12 harg12 x0 x1 x2 x3 x4 x5 x6 x7 x8 x9 x10) (acc0_2 c i arg2 harg2 arg3 harg3 arg4 harg4 arg5 harg5 arg6 harg6 arg7 harg7 arg8 harg8 arg9 harg9 arg10 harg10 arg11 harg11 arg12 harg12 x0 x1 x2 x3 x4 x5 x6 x7 x8 x9 x10 arg17)

theorem acc1_0 (arg18 : Memref sig .tc .vmem S256x1152 .f32) :
    (kernelRun0_C.sl.HS1_2 c i arg2 harg2 arg3 harg3 arg4 harg4 arg5 harg5 arg9 harg9 arg11 harg11 arg12 harg12 arg18 x0 x1 x2 x3 x7 x9 x10) =
    addCol arg18.view 0 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 0 (by omega)).dv [⟨Rect.unit ![0, 0] S256x1152.size inb_S256x1152_S256x1152_0_0, k0_pay200⟩] :=
  congrArg (fun t => addCol arg18.view 0 (by omega) t [⟨Rect.unit ![0, 0] S256x1152.size inb_S256x1152_S256x1152_0_0, k0_pay200⟩]) (dv0 c i arg2 harg2 arg3 harg3 arg4 harg4 arg5 harg5 arg6 harg6 arg7 harg7 arg8 harg8 arg9 harg9 arg10 harg10 arg11 harg11 arg12 harg12 x0 x1 x2 x3 x4 x5 x6 x7 x8 x9 x10)

theorem acc1_1 (arg18 : Memref sig .tc .vmem S256x1152 .f32) :
    (kernelRun0_C.sl.HS1_3 c i arg2 harg2 arg3 harg3 arg4 harg4 arg5 harg5 arg9 harg9 arg11 harg11 arg12 harg12 arg18 x0 x1 x2 x3 x7 x9 x10) =
    addCol arg18.view 128 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 128 (by omega)).dv (addCol arg18.view 0 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 0 (by omega)).dv [⟨Rect.unit ![0, 0] S256x1152.size inb_S256x1152_S256x1152_0_0, k0_pay200⟩]) :=
  congrArg₂ (fun t L => addCol arg18.view 128 (by omega) t L) (dv1 c i arg2 harg2 arg3 harg3 arg4 harg4 arg5 harg5 arg6 harg6 arg7 harg7 arg8 harg8 arg9 harg9 arg10 harg10 arg11 harg11 arg12 harg12 x0 x1 x2 x3 x4 x5 x6 x7 x8 x9 x10) (acc1_0 c i arg2 harg2 arg3 harg3 arg4 harg4 arg5 harg5 arg6 harg6 arg7 harg7 arg8 harg8 arg9 harg9 arg10 harg10 arg11 harg11 arg12 harg12 x0 x1 x2 x3 x4 x5 x6 x7 x8 x9 x10 arg18)

theorem acc1_2 (arg18 : Memref sig .tc .vmem S256x1152 .f32) :
    (kernelRun0_C.sl.HS1_4 c i arg2 harg2 arg3 harg3 arg4 harg4 arg5 harg5 arg9 harg9 arg11 harg11 arg12 harg12 arg18 x0 x1 x2 x3 x7 x9 x10) =
    addCol arg18.view 256 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 256 (by omega)).dv (addCol arg18.view 128 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 128 (by omega)).dv (addCol arg18.view 0 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 0 (by omega)).dv [⟨Rect.unit ![0, 0] S256x1152.size inb_S256x1152_S256x1152_0_0, k0_pay200⟩])) :=
  congrArg₂ (fun t L => addCol arg18.view 256 (by omega) t L) (dv2 c i arg2 harg2 arg3 harg3 arg4 harg4 arg5 harg5 arg6 harg6 arg7 harg7 arg8 harg8 arg9 harg9 arg10 harg10 arg11 harg11 arg12 harg12 x0 x1 x2 x3 x4 x5 x6 x7 x8 x9 x10) (acc1_1 c i arg2 harg2 arg3 harg3 arg4 harg4 arg5 harg5 arg6 harg6 arg7 harg7 arg8 harg8 arg9 harg9 arg10 harg10 arg11 harg11 arg12 harg12 x0 x1 x2 x3 x4 x5 x6 x7 x8 x9 x10 arg18)

theorem acc1_3 (arg18 : Memref sig .tc .vmem S256x1152 .f32) :
    (kernelRun0_C.sl.HS1_5 c i arg2 harg2 arg3 harg3 arg4 harg4 arg5 harg5 arg9 harg9 arg11 harg11 arg12 harg12 arg18 x0 x1 x2 x3 x7 x9 x10) =
    addCol arg18.view 384 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 384 (by omega)).dv (addCol arg18.view 256 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 256 (by omega)).dv (addCol arg18.view 128 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 128 (by omega)).dv (addCol arg18.view 0 (by omega) (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 0 (by omega)).dv [⟨Rect.unit ![0, 0] S256x1152.size inb_S256x1152_S256x1152_0_0, k0_pay200⟩]))) :=
  congrArg₂ (fun t L => addCol arg18.view 384 (by omega) t L) (dv3 c i arg2 harg2 arg3 harg3 arg4 harg4 arg5 harg5 arg6 harg6 arg7 harg7 arg8 harg8 arg9 harg9 arg10 harg10 arg11 harg11 arg12 harg12 x0 x1 x2 x3 x4 x5 x6 x7 x8 x9 x10) (acc1_2 c i arg2 harg2 arg3 harg3 arg4 harg4 arg5 harg5 arg6 harg6 arg7 harg7 arg8 harg8 arg9 harg9 arg10 harg10 arg11 harg11 arg12 harg12 x0 x1 x2 x3 x4 x5 x6 x7 x8 x9 x10 arg18)

end

section

variable (c : Dev nD) (i : grid0.Coords) (arg2 : Memref sig .tc .vmem S512x256 .bf16) (harg2 : arg2.IsWhole)
  (arg3 : Memref sig .tc .vmem S64x256 .bf16) (harg3 : arg3.IsWhole) (arg4 : Memref sig .tc .vmem S512x256 .bf16) (harg4 : arg4.IsWhole)
  (arg5 : Memref sig .tc .vmem S64x256 .bf16) (harg5 : arg5.IsWhole) (arg6 : Memref sig .tc .vmem S64x256 .bf16) (harg6 : arg6.IsWhole)
  (arg7 : Memref sig .tc .vmem S512x256 .bf16) (harg7 : arg7.IsWhole) (arg8 : Memref sig .tc .vmem S64x256 .bf16) (harg8 : arg8.IsWhole)
  (arg9 : Memref sig .tc .vmem S4x128x256 .f32) (harg9 : arg9.IsWhole) (arg10 : Memref sig .tc .vmem S512x256 .f32) (harg10 : arg10.IsWhole)
  (arg11 : Memref sig .tc .vmem S512x256 .bf16) (harg11 : arg11.IsWhole) (arg12 : Memref sig .tc .vmem S512x256 .f32) (harg12 : arg12.IsWhole)
  (arg13 : Memref sig .tc .vmem S512x256 .bf16) (harg13 : arg13.IsWhole) (arg14 : Memref sig .tc .vmem S512x256 .bf16) (harg14 : arg14.IsWhole)
  (arg15 : Memref sig .tc .vmem S512x256 .bf16) (harg15 : arg15.IsWhole) (arg16 : Memref sig .tc .vmem S4x128x256 .f32) (harg16 : arg16.IsWhole)
  (arg17 : Memref sig .tc .vmem S256x1152 .f32) (harg17 : arg17.IsWhole) (arg18 : Memref sig .tc .vmem S256x1152 .f32) (harg18 : arg18.IsWhole)
  (hc0 : ¬cond0_0 i) (hc1 : cond0_1 i) (hc2 : cond0_2 i) (x0 : Vec F S512x256 .bf16) (x1 : Vec F S64x256 .bf16) (x2 : Vec F S512x256 .bf16)
  (x3 : Vec F S64x256 .bf16) (x4 : Vec F S64x256 .bf16) (x5 : Vec F S512x256 .bf16) (x6 : Vec F S64x256 .bf16) (x7 : Vec F S4x128x256 .f32)
  (x8 : Vec F S512x256 .f32) (x9 : Vec F S512x256 .bf16) (x10 : Vec F S512x256 .f32) (xo14 : Vec F S4x128x256 .f32)
include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo14

/-- The stores into accumulator 0. -/
theorem scratch0  :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo14).2.2.2.2.1 = shiftL arg17.view (accL arg17.view (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 0 (by omega)).dk (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 128 (by omega)).dk (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 256 (by omega)).dk (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 384 (by omega)).dk) :=
  congrArg (shiftL arg17.view) (acc0_3 c i arg2 harg2 arg3 harg3 arg4 harg4 arg5 harg5 arg6 harg6 arg7 harg7 arg8 harg8 arg9 harg9 arg10 harg10 arg11 harg11 arg12 harg12 x0 x1 x2 x3 x4 x5 x6 x7 x8 x9 x10 arg17)

/-- The stores into accumulator 1. -/
theorem scratch1  :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo14).2.2.2.2.2.1 = shiftL arg18.view (accL arg18.view (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 0 (by omega)).dv (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 128 (by omega)).dv (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 256 (by omega)).dv (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 384 (by omega)).dv) :=
  congrArg (shiftL arg18.view) (acc1_3 c i arg2 harg2 arg3 harg3 arg4 harg4 arg5 harg5 arg6 harg6 arg7 harg7 arg8 harg8 arg9 harg9 arg10 harg10 arg11 harg11 arg12 harg12 x0 x1 x2 x3 x4 x5 x6 x7 x8 x9 x10 arg18)

end

/-- The four stores of query gradients. -/
theorem rows4 (c : Dev nD) (i : grid0.Coords) (arg2 : Memref sig .tc .vmem S512x256 .bf16) (harg2 : arg2.IsWhole) (arg3 : Memref sig .tc .vmem S64x256 .bf16) (harg3 : arg3.IsWhole) (arg4 : Memref sig .tc .vmem S512x256 .bf16) (harg4 : arg4.IsWhole) (arg5 : Memref sig .tc .vmem S64x256 .bf16) (harg5 : arg5.IsWhole) (arg6 : Memref sig .tc .vmem S64x256 .bf16) (harg6 : arg6.IsWhole) (arg7 : Memref sig .tc .vmem S512x256 .bf16) (harg7 : arg7.IsWhole) (arg8 : Memref sig .tc .vmem S64x256 .bf16) (harg8 : arg8.IsWhole) (arg9 : Memref sig .tc .vmem S4x128x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (x0 : Vec F S512x256 .bf16) (x1 : Vec F S64x256 .bf16) (x2 : Vec F S512x256 .bf16) (x3 : Vec F S64x256 .bf16) (x4 : Vec F S64x256 .bf16) (x5 : Vec F S512x256 .bf16) (x6 : Vec F S64x256 .bf16) (x7 : Vec F S4x128x256 .f32) (x8 : Vec F S512x256 .f32) (x9 : Vec F S512x256 .bf16) (x10 : Vec F S512x256 .f32) :
    (kernelRun0_C.sl.H11_4 c i arg2 harg2 arg3 harg3 arg4 harg4 arg5 harg5 arg6 harg6 arg7 harg7 arg8 harg8 arg9 harg9 arg10 harg10 arg11 harg11 arg12 harg12 x0 x1 x2 x3 x4 x5 x6 x7 x8 x9 x10) = rowL (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 0 (by omega)).dq (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 128 (by omega)).dq (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 256 (by omega)).dq (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 384 (by omega)).dq := by
  unfold kernelRun0_C.sl.H11_4 rowL
  rw [dq0, dq1, dq2, dq3]

/-- The stores into the query gradients. -/
theorem query (c : Dev nD) (i : grid0.Coords) (arg2 : Memref sig .tc .vmem S512x256 .bf16) (harg2 : arg2.IsWhole) (arg3 : Memref sig .tc .vmem S64x256 .bf16) (harg3 : arg3.IsWhole) (arg4 : Memref sig .tc .vmem S512x256 .bf16) (harg4 : arg4.IsWhole) (arg5 : Memref sig .tc .vmem S64x256 .bf16) (harg5 : arg5.IsWhole) (arg6 : Memref sig .tc .vmem S64x256 .bf16) (harg6 : arg6.IsWhole) (arg7 : Memref sig .tc .vmem S512x256 .bf16) (harg7 : arg7.IsWhole) (arg8 : Memref sig .tc .vmem S64x256 .bf16) (harg8 : arg8.IsWhole) (arg9 : Memref sig .tc .vmem S4x128x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S4x128x256 .f32) (harg16 : arg16.IsWhole) (arg17 : Memref sig .tc .vmem S256x1152 .f32) (harg17 : arg17.IsWhole) (arg18 : Memref sig .tc .vmem S256x1152 .f32) (harg18 : arg18.IsWhole) (hc0 : ¬cond0_0 i) (hc1 : cond0_1 i) (hc2 : cond0_2 i)
    (x0 : Vec F S512x256 .bf16) (x1 : Vec F S64x256 .bf16) (x2 : Vec F S512x256 .bf16) (x3 : Vec F S64x256 .bf16) (x4 : Vec F S64x256 .bf16) (x5 : Vec F S512x256 .bf16) (x6 : Vec F S64x256 .bf16) (x7 : Vec F S4x128x256 .f32) (x8 : Vec F S512x256 .f32) (x9 : Vec F S512x256 .bf16) (x10 : Vec F S512x256 .f32) (xo14 : Vec F S4x128x256 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo14).1 = selfL arg13.view (rowL (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 0 (by omega)).dq (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 128 (by omega)).dq (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 256 (by omega)).dq (bsub i arg2 harg2 arg3 harg3 arg4 harg4 arg5 harg5 arg6 harg6 arg7 harg7 arg8 harg8 arg9 harg9 arg10 harg10 arg11 harg11 arg12 harg12 x0 x1 x2 x3 x4 x5 x6 x7 x8 x9 x10 384 (by omega)).dq) :=
  congrArg (selfL arg13.view) (rows4 c i arg2 harg2 arg3 harg3 arg4 harg4 arg5 harg5 arg6 harg6 arg7 harg7 arg8 harg8 arg9 harg9 arg10 harg10 arg11 harg11 arg12 harg12 x0 x1 x2 x3 x4 x5 x6 x7 x8 x9 x10)

end Cert.AttKernelIdeal.Own.BlockC
end
-- ==== Proof.Stores.lean ====
/-
  Reading back what a grid point stored: the accumulators' columns are sums of the sub-blocks' shares, the query gradients'
  rows are the sub-blocks' results.
-/
module

public import proofs.«01_k».proof.Proof.BlockA
public import proofs.«01_k».proof.Proof.BlockC
public import proofs.«01_k».proof.Proof.Reals
public import Idealize.ShloMosaic.Lib.Pipeline.Value

@[expose] public section

noncomputable section

namespace Cert.AttKernelIdeal.Own

open Cert.AttKernelIdeal Cert.AttKernelIdeal.Gen Idealize.ShloMosaic

theorem zero2 : (![0, 0] : Fin 2 → ℕ) = fun _ => 0 := by
  funext a
  match a with
  | ⟨0, _⟩ => rfl
  | ⟨1, _⟩ => rfl

/-- What a sub-block at column `o` adds to the entry at column `c`. -/
def share (t : FVec Ideal S256x256 .f32) (o : ℕ) (f : Fin 256) (c : ℕ) : EReal :=
  if h : o ≤ c ∧ c < o + 256 then t (ix2 f ⟨c - o, by omega⟩) else 0

/-- The accumulator's column `512 + c`. -/
def accAt (f : Fin 256) (c : ℕ) (hc : c < 640) : S256x1152.Idx := ix2 f ⟨512 + c, by omega⟩

theorem canon_add {κ : Kind} {sp : Space} (w : View sig κ sp S256x1152 .f32) (o : ℕ) (h : o ≤ 384)
    (t : FVec Ideal S256x256 .f32) (L : List (View.Piece (Elt Ideal) S256x1152 .f32)) (f : Fin 256) (c : ℕ) (hc : c < 640) :
    View.canon (addCol w o h t L) (accAt f c hc) = View.canon L (accAt f c hc) + share t o f c := by
  unfold addCol share
  by_cases hin : o ≤ c ∧ c < o + 256
  · rw [dif_pos hin]
    have e : accAt f c hc = (cols o h).emb (ix2 f (⟨c - o, by omega⟩ : Fin 256)) := by
      funext a
      match a with
      | ⟨0, _⟩ => exact Fin.ext (by show f.val = 0 + 1 * f.val; omega)
      | ⟨1, _⟩ => exact Fin.ext (by show 512 + c = 512 + o + 1 * (c - o); omega)
    conv_lhs => rw [e]
    rw [View.canon_cons_emb]
    refine (congrFun (shapeCast_self (s := S256x256) _ _) _).trans ?_
    rw [View.readCov_eq_canon']
    show View.canon L ((cols o h).idx (ix2 f (⟨c - o, by omega⟩ : Fin 256))) + _ = _
    congr 1
    exact congrArg _ e.symm
  · rw [dif_neg hin, add_zero]
    refine View.canon_cons_of_not_mem _ _ fun hm => hin ?_
    have := (Rect.mem_set_unit (inb := inbCol o h).1 hm) ⟨1, by decide⟩
    have h1 : 512 + o ≤ 512 + c := this.1
    have h2 : 512 + c < 512 + o + 256 := this.2
    omega

/-- An accumulator's column after a point's four sub-blocks. -/
theorem canon_acc {κ : Kind} {sp : Space} (w : View sig κ sp S256x1152 .f32) (t0 t1 t2 t3 : FVec Ideal S256x256 .f32)
    (f : Fin 256) (c : ℕ) (hc : c < 640) :
    View.canon (accL w t0 t1 t2 t3) (accAt f c hc) =
      share t0 0 f c + share t1 128 f c + share t2 256 f c + share t3 384 f c := by
  unfold accL
  rw [canon_add, canon_add, canon_add, canon_add]
  have : View.canon [(⟨Rect.unit ![0, 0] S256x1152.size inb_S256x1152_S256x1152_0_0, k0_pay200 (F := Ideal)⟩ :
      View.Piece (Elt Ideal) S256x1152 .f32)] (accAt f c hc) = (0 : EReal) := by
    refine (congrFun (View.canon_cons_unit_zero (S := S256x1152) zero2 _ _ _) _).trans ?_
    unfold k0_pay200
    rw [shapeCast_self]
    exact Ideal.ofBits_zero_f32
  rw [this, zero_add]

/-- The first 640 columns after the shift. -/
theorem canon_shift {κ : Kind} {sp : Space} (w : View sig κ sp S256x1152 .f32)
    (L : List (View.Piece (Elt Ideal) S256x1152 .f32)) (f : Fin 256) (c : ℕ) (hc : c < 640) :
    View.canon (shiftL w L) (ix2 f ⟨c, by omega⟩) = View.canon L (accAt f c hc) := by
  unfold shiftL
  have e : (ix2 f (⟨c, by omega⟩ : Fin 1152) : S256x1152.Idx) =
      (Rect.unit ![0, 0] S256x640.size inb_S256x1152_S256x640_0_0 : Rect S256x1152).emb (ix2 f (⟨c, hc⟩ : Fin 640)) := by
    funext a
    match a with
    | ⟨0, _⟩ => exact Fin.ext (by show f.val = 0 + 1 * f.val; omega)
    | ⟨1, _⟩ => exact Fin.ext (by show c = 0 + 1 * c; omega)
  rw [View.canon_cons_of_not_mem, e, View.canon_cons_emb]
  · unfold k0_pay1
    rw [shapeCast_self, View.readCov_eq_canon']
    refine congrArg _ (funext fun a => ?_)
    match a with
    | ⟨0, _⟩ => exact Fin.ext (by show 0 + 1 * f.val = f.val; omega)
    | ⟨1, _⟩ => exact Fin.ext (by show 512 + 1 * c = 512 + c; omega)
  · intro hm
    have := (Rect.mem_set_unit (inb := inb_S256x1152_S256x512_0_640).1 hm) ⟨1, by decide⟩
    have h1 : 640 ≤ c := this.1
    omega

theorem mem_rows (o : ℕ) (h : o ≤ 384) (x : Fin 512) (y : Fin 256) (hm : (ix2 x y : S512x256.Idx) ∈ (rows o h).set) :
    o ≤ x.val ∧ x.val < o + 128 := by
  have := (Rect.mem_set_unit.1 hm) ⟨0, by decide⟩
  exact this

theorem canon_row (o : ℕ) (h : o ≤ 384) (t : FVec Ideal S128x256 .bf16) (L : List (View.Piece (Elt Ideal) S512x256 .bf16))
    (a : Fin 128) (y : Fin 256) :
    View.canon ((⟨rows o h, t⟩ : View.Piece (Elt Ideal) S512x256 .bf16) :: L) (ix2 (⟨o + a.val, by omega⟩ : Fin 512) y) =
      t (ix2 a y) := by
  have e : (ix2 (⟨o + a.val, by omega⟩ : Fin 512) y : S512x256.Idx) = (rows o h).emb (ix2 a y) := by
    funext b
    match b with
    | ⟨0, _⟩ => exact Fin.ext (by show o + a.val = o + 1 * a.val; omega)
    | ⟨1, _⟩ => exact Fin.ext (by show y.val = 0 + 1 * y.val; omega)
  rw [e, View.canon_cons_emb]

theorem canon_self {κ : Kind} {sp : Space} (w : View sig κ sp S512x256 .bf16)
    (L : List (View.Piece (Elt Ideal) S512x256 .bf16)) : View.canon (selfL w L) = View.canon L := by
  refine (View.canon_cons_unit_zero (S := S512x256) zero2 _ _ _).trans ?_
  unfold k0_pay203
  rw [shapeCast_self, View.readCov_eq_canon']
  exact ld_whole (S := S512x256) _ (by decide) _

/-- The rows of the query gradients, sub-block by sub-block. -/
theorem canon_rows (t : Fin 4 → FVec Ideal S128x256 .bf16) (j : Fin 4) (a : Fin 128) (y : Fin 256) :
    View.canon (rowL (t 0) (t 1) (t 2) (t 3)) (ix2 (⟨128 * j.val + a.val, by omega⟩ : Fin 512) y) = t j (ix2 a y) := by
  unfold rowL
  match j with
  | 3 => exact canon_row 384 _ _ _ a y
  | 2 =>
    rw [View.canon_cons_of_not_mem]
    · exact canon_row 256 _ _ _ a y
    · intro hm; have h1 : 384 ≤ 128 * 2 + a.val := (mem_rows _ (by omega) (⟨_, _⟩ : Fin 512) y hm).1; omega
  | 1 =>
    rw [View.canon_cons_of_not_mem, View.canon_cons_of_not_mem]
    · exact canon_row 128 _ _ _ a y
    · intro hm; have h1 : 256 ≤ 128 * 1 + a.val := (mem_rows _ (by omega) (⟨_, _⟩ : Fin 512) y hm).1; omega
    · intro hm; have h1 : 384 ≤ 128 * 1 + a.val := (mem_rows _ (by omega) (⟨_, _⟩ : Fin 512) y hm).1; omega
  | 0 =>
    rw [View.canon_cons_of_not_mem, View.canon_cons_of_not_mem, View.canon_cons_of_not_mem]
    · exact canon_row 0 _ _ _ a y
    · intro hm; have h1 : 128 ≤ 128 * 0 + a.val := (mem_rows _ (by omega) (⟨_, _⟩ : Fin 512) y hm).1; omega
    · intro hm; have h1 : 256 ≤ 128 * 0 + a.val := (mem_rows _ (by omega) (⟨_, _⟩ : Fin 512) y hm).1; omega
    · intro hm; have h1 : 384 ≤ 128 * 0 + a.val := (mem_rows _ (by omega) (⟨_, _⟩ : Fin 512) y hm).1; omega

end Cert.AttKernelIdeal.Own

end
-- ==== Proof.TileValue.lean ====
/-
  A sub-block's results over the reals: when its inputs hold the reals of the model, its probabilities, score gradients and
  products are the model's, restricted to the window.
-/
module

public import proofs.«01_k».proof.Proof.Stores

@[expose] public section

noncomputable section

namespace BandAttention

open Idealize.ShloMosaic

/-- Position `a` of sub-block `j`. -/
def pos (j : Fin 4) (a : Fin 128) : Fin 512 := ⟨128 * j.val + a.val, by omega⟩

/-- A function of keys as a function of the padded position `x`: key `x - 64`, zero outside the sequence. -/
def padded (f : Fin 512 → ℝ) (x : ℕ) : ℝ := if hx : 64 ≤ x ∧ x < 576 then f ⟨x - 64, by omega⟩ else 0

lemma padded_key (f : Fin 512 → ℝ) (key : Fin 512) : padded f (64 + key.val) = f key := by
  unfold padded
  rw [dif_pos ⟨by omega, by omega⟩]
  exact congrArg f (Fin.ext (by show 64 + key.val - 64 = key.val; omega))

/-- A sum over the window of sub-block `j` is a sum over all keys, if nothing lies outside the window. -/
lemma sum_window (j : Fin 4) (f : Fin 512 → ℝ)
    (hf : ∀ key, ¬ (128 * j.val ≤ 64 + key.val ∧ 64 + key.val < 128 * j.val + 256) → f key = 0) :
    ∑ c : Fin 256, padded f (128 * j.val + c.val) = ∑ key, f key := by
  classical
  have h1 : ∑ c : Fin 256, padded f (128 * j.val + c.val) = ∑ c ∈ Finset.range 256, padded f (128 * j.val + c) :=
    (Finset.sum_range (fun c => padded f (128 * j.val + c))).symm
  have h2 : ∑ key : Fin 512, f key = ∑ x ∈ Finset.range 512, padded f (64 + x) := by
    rw [Finset.sum_range (fun x => padded f (64 + x))]
    exact Finset.sum_congr rfl fun key _ => (padded_key f key).symm
  have hz : ∀ x, ¬ (128 * j.val ≤ x ∧ x < 128 * j.val + 256) → padded f x = 0 := fun x hx => by
    unfold padded
    split
    · rename_i hr
      exact hf _ (by
        show ¬ (128 * j.val ≤ 64 + (x - 64) ∧ 64 + (x - 64) < 128 * j.val + 256)
        omega)
    · rfl
  have hz' : ∀ x, ¬ (64 ≤ x ∧ x < 576) → padded f x = 0 := fun x hx => dif_neg hx
  have h3 : ∑ c ∈ Finset.range 256, padded f (128 * j.val + c) = ∑ x ∈ Finset.range 1000, padded f x := by
    rw [← Finset.sum_image (s := Finset.range 256) (g := fun c => 128 * j.val + c) (f := fun x => padded f x)
      (fun a _ b _ h => by simpa using h)]
    refine Finset.sum_subset (fun x hx => ?_) (fun x _ hx => hz x fun hc => hx ?_)
    · simp only [Finset.mem_image, Finset.mem_range] at hx ⊢
      obtain ⟨c, hc, rfl⟩ := hx
      omega
    · simp only [Finset.mem_image, Finset.mem_range]
      exact ⟨x - 128 * j.val, by omega, by omega⟩
  have h4 : ∑ x ∈ Finset.range 512, padded f (64 + x) = ∑ x ∈ Finset.range 1000, padded f x := by
    rw [← Finset.sum_image (s := Finset.range 512) (g := fun c => 64 + c) (f := fun x => padded f x)
      (fun a _ b _ h => by simpa using h)]
    refine Finset.sum_subset (fun x hx => ?_) (fun x _ hx => hz' x fun hc => hx ?_)
    · simp only [Finset.mem_image, Finset.mem_range] at hx ⊢
      obtain ⟨c, hc, rfl⟩ := hx
      omega
    · simp only [Finset.mem_image, Finset.mem_range]
      exact ⟨x - 64, by omega, by omega⟩
  rw [h1, h2, h3, h4]

/-- A sum over all queries, sub-block by sub-block. -/
lemma sum_pos_eq (f : Fin 512 → ℝ) :
    (∑ a, f (pos 0 a)) + (∑ a, f (pos 1 a)) + (∑ a, f (pos 2 a)) + (∑ a, f (pos 3 a)) = ∑ i, f i := by
  have h : ∑ i : Fin 512, f i = ∑ j : Fin 4, ∑ a : Fin 128, f (pos j a) := by
    rw [← (finProdFinEquiv (m := 4) (n := 128)).sum_comp (fun i : Fin 512 => f i), Fintype.sum_prod_type]
    refine Finset.sum_congr rfl fun j _ => Finset.sum_congr rfl fun a _ => congrArg f (Fin.ext ?_)
    show a.val + 128 * j.val = 128 * j.val + a.val
    omega
  rw [h, Fin.sum_univ_four]

namespace Data

variable (d : Data) (r : Fin 16) (h : Fin 4)

lemma p_far {i j : Fin 512} (hn : ¬ Near i j) : d.p r h i j = 0 := by rw [p, d.w_far r h hn, zero_div]

lemma ds_far {i j : Fin 512} (hn : ¬ Near i j) : d.ds r h i j = 0 := by rw [ds, d.p_far r h hn, zero_mul]

end Data

lemma near_window {j : Fin 4} {a : Fin 128} {key : Fin 512} (hn : Near (pos j a) key) :
    128 * j.val ≤ 64 + key.val ∧ 64 + key.val < 128 * j.val + 256 := by
  have h1 : key.val ≤ 128 * j.val + a.val + 64 := hn.1
  have h2 : 128 * j.val + a.val ≤ key.val + 64 := hn.2
  omega

end BandAttention

namespace Cert.AttKernelIdeal.Own

open Cert.AttKernelIdeal Cert.AttKernelIdeal.Gen Idealize.ShloMosaic BandAttention

/-- The sub-block's inputs hold the reals of class `r`, sub-block `j`. -/
structure Holds (d : Data) (r : Fin 16) (j : Fin 4) (s : Sub Ideal) : Prop where
  q : ∀ a h e, s.q (ix2 a (col h e)) = ((d.q r (pos j a) h e : ℝ) : EReal)
  g : ∀ a h e, s.g (ix2 a (col h e)) = ((d.g r (pos j a) h e : ℝ) : EReal)
  dl : ∀ a h, s.dl (ix2 a (col h 0)) = ((d.delta r h (pos j a) : ℝ) : EReal)
  l : ∀ a h, s.l (ix2 a (col h 0)) = ((Real.log (d.tot r h (pos j a)) : ℝ) : EReal)
  k : ∀ (c : Fin 256) (key : Fin 512), 64 + key.val = 128 * j.val + c.val → ∀ h e,
    s.k (ix2 c (col h e)) = ((d.k r key h e : ℝ) : EReal)
  v : ∀ (c : Fin 256) (key : Fin 512), 64 + key.val = 128 * j.val + c.val → ∀ h e,
    s.v (ix2 c (col h e)) = ((d.v r key h e : ℝ) : EReal)
  ok : ∀ c : Fin 256, s.ok (ix2 0 c) = if 64 ≤ 128 * j.val + c.val ∧ 128 * j.val + c.val < 576 then 1#1 else 0#1
  b : ∀ (a : Fin 128) (c : Fin 256) (key : Fin 512), 64 + key.val = 128 * j.val + c.val → ∀ h,
    s.b h (ix3 0 a c) = if Near (pos j a) key then ((d.b h (dist (pos j a) key) : ℝ) : EReal) else ⊥

theorem mask_bot : (Named.named (F := Ideal) κ "mask" (φ := .f32) 0xF149F2CA#32 : EReal) = ⊥ := rfl

section Read

variable (s : Sub Ideal) (h : Fin 4)

theorem laneIdx {n : ℕ} (a : Fin n) (e : Fin 64) (p1 : (![0, 64 * h.val] : Fin 2 → ℕ) 0 + a.val < n)
    (p2 : (![0, 64 * h.val] : Fin 2 → ℕ) 1 + e.val < 256) :
    (ix2 (⟨(![0, 64 * h.val] : Fin 2 → ℕ) 0 + a.val, p1⟩ : Fin n) (⟨(![0, 64 * h.val] : Fin 2 → ℕ) 1 + e.val, p2⟩ : Fin 256)) =
      ix2 a (col h e) := by
  congr 1
  · exact Fin.ext (by show 0 + a.val = a.val; omega)
  · exact Fin.ext (by show 64 * h.val + e.val = h.val * 64 + e.val; omega)

theorem p_read (a : Fin 128) (c : Fin 256) : s.p h (ix2 a c) =
    Ideal.exp (Scalar.select (s.ok (ix2 0 c)) ((∑ e, s.q (ix2 a (col h e)) * s.k (ix2 c (col h e))) * ((1 / 8 : ℝ) : EReal)
      + s.b h (ix3 0 a c)) ⊥ - s.l (ix2 a (col h 0))) := by
  unfold Sub.p
  simp only [pointwise]
  rw [mask_bot, zero_add, eighth]
  refine congrArg Ideal.exp (congrArg₂ (· - ·) (congrArg₂ (fun u w => Scalar.select u w ⊥) rfl
    (congrArg₂ (· + ·) (congrArg (· * _) (Finset.sum_congr rfl fun e _ => ?_)) rfl)) ?_)
  · exact congrArg₂ (· * ·) (congrArg s.q (laneIdx h a e _ _)) (congrArg s.k (laneIdx h c e _ _))
  · exact congrArg s.l (laneIdx h a 0 _ _)

theorem ds_read (a : Fin 128) (c : Fin 256) : s.ds h (ix2 a c) =
    s.p h (ix2 a c) * ((∑ e, s.g (ix2 a (col h e)) * s.v (ix2 c (col h e))) - s.dl (ix2 a (col h 0))) := by
  unfold Sub.ds
  simp only [pointwise]
  rw [zero_add]
  refine congrArg (s.p h (ix2 a c) * ·) (congrArg₂ (· - ·) (Finset.sum_congr rfl fun e _ => ?_) ?_)
  · exact congrArg₂ (· * ·) (congrArg s.g (laneIdx h a e _ _)) (congrArg s.v (laneIdx h c e _ _))
  · exact congrArg s.dl (laneIdx h a 0 _ _)

theorem dqh_read (a : Fin 128) (e : Fin 64) : s.dqh h (ix2 a e) =
    (∑ c, s.ds h (ix2 a c) * s.k (ix2 c (col h e))) * ((1 / 8 : ℝ) : EReal) := by
  unfold Sub.dqh
  simp only [pointwise]
  rw [zero_add, eighth]
  exact congrArg (· * _) (Finset.sum_congr rfl fun c _ =>
    congrArg (s.ds h (ix2 a c) * ·) (congrArg s.k (laneIdx h c e _ _)))

theorem dkh_read (e : Fin 64) (c : Fin 256) : s.dkh h (ix2 e c) =
    (∑ a, s.q (ix2 a (col h e)) * s.ds h (ix2 a c)) * ((1 / 8 : ℝ) : EReal) := by
  unfold Sub.dkh
  simp only [pointwise]
  rw [zero_add, eighth]
  exact congrArg (· * _) (Finset.sum_congr rfl fun a _ =>
    congrArg (· * s.ds h (ix2 a c)) (congrArg s.q (laneIdx h a e _ _)))

theorem dvh_read (e : Fin 64) (c : Fin 256) : s.dvh h (ix2 e c) =
    ∑ a, s.g (ix2 a (col h e)) * s.p h (ix2 a c) := by
  unfold Sub.dvh
  simp only [pointwise]
  rw [zero_add]
  exact Finset.sum_congr rfl fun a _ => congrArg (· * s.p h (ix2 a c)) (congrArg s.g (laneIdx h a e _ _))

theorem dq_read (a : Fin 128) (e : Fin 64) : s.dq (ix2 a (col h e)) = s.dqh h (ix2 a e) := by
  unfold Sub.dq
  simp only [pointwise]
  match h with
  | 0 =>
    rw [dif_pos (by show 0 * 64 + e.val < 64; omega)]
    exact congrArg (s.dqh 0) (congrArg₂ ix2 (Fin.ext rfl) (Fin.ext (by show 0 * 64 + e.val = e.val; omega)))
  | 1 =>
    rw [dif_neg (by show ¬ (1 * 64 + e.val < 64); omega), dif_pos (by show 1 * 64 + e.val - 64 < 64; omega)]
    exact congrArg (s.dqh 1) (congrArg₂ ix2 (Fin.ext rfl) (Fin.ext (by show 1 * 64 + e.val - 64 = e.val; omega)))
  | 2 =>
    rw [dif_neg (by show ¬ (2 * 64 + e.val < 64); omega), dif_neg (by show ¬ (2 * 64 + e.val - 64 < 64); omega), dif_pos (by show 2 * 64 + e.val - 64 - 64 < 64; omega)]
    exact congrArg (s.dqh 2) (congrArg₂ ix2 (Fin.ext rfl) (Fin.ext (by show 2 * 64 + e.val - 64 - 64 = e.val; omega)))
  | 3 =>
    rw [dif_neg (by show ¬ (3 * 64 + e.val < 64); omega), dif_neg (by show ¬ (3 * 64 + e.val - 64 < 64); omega), dif_neg (by show ¬ (3 * 64 + e.val - 64 - 64 < 64); omega)]
    exact congrArg (s.dqh 3) (congrArg₂ ix2 (Fin.ext rfl) (Fin.ext (by show 3 * 64 + e.val - 64 - 64 - 64 = e.val; omega)))

theorem dk_read (e : Fin 64) (c : Fin 256) : s.dk (ix2 (col h e) c) = s.dkh h (ix2 e c) := by
  unfold Sub.dk
  simp only [pointwise]
  match h with
  | 0 =>
    rw [dif_pos (by show 0 * 64 + e.val < 64; omega)]
    exact congrArg (s.dkh 0) (congrArg₂ ix2 (Fin.ext (by show 0 * 64 + e.val = e.val; omega)) (Fin.ext rfl))
  | 1 =>
    rw [dif_neg (by show ¬ (1 * 64 + e.val < 64); omega), dif_pos (by show 1 * 64 + e.val - 64 < 64; omega)]
    exact congrArg (s.dkh 1) (congrArg₂ ix2 (Fin.ext (by show 1 * 64 + e.val - 64 = e.val; omega)) (Fin.ext rfl))
  | 2 =>
    rw [dif_neg (by show ¬ (2 * 64 + e.val < 64); omega), dif_neg (by show ¬ (2 * 64 + e.val - 64 < 64); omega), dif_pos (by show 2 * 64 + e.val - 64 - 64 < 64; omega)]
    exact congrArg (s.dkh 2) (congrArg₂ ix2 (Fin.ext (by show 2 * 64 + e.val - 64 - 64 = e.val; omega)) (Fin.ext rfl))
  | 3 =>
    rw [dif_neg (by show ¬ (3 * 64 + e.val < 64); omega), dif_neg (by show ¬ (3 * 64 + e.val - 64 < 64); omega), dif_neg (by show ¬ (3 * 64 + e.val - 64 - 64 < 64); omega)]
    exact congrArg (s.dkh 3) (congrArg₂ ix2 (Fin.ext (by show 3 * 64 + e.val - 64 - 64 - 64 = e.val; omega)) (Fin.ext rfl))

theorem dv_read (e : Fin 64) (c : Fin 256) : s.dv (ix2 (col h e) c) = s.dvh h (ix2 e c) := by
  unfold Sub.dv
  simp only [pointwise]
  match h with
  | 0 =>
    rw [dif_pos (by show 0 * 64 + e.val < 64; omega)]
    exact congrArg (s.dvh 0) (congrArg₂ ix2 (Fin.ext (by show 0 * 64 + e.val = e.val; omega)) (Fin.ext rfl))
  | 1 =>
    rw [dif_neg (by show ¬ (1 * 64 + e.val < 64); omega), dif_pos (by show 1 * 64 + e.val - 64 < 64; omega)]
    exact congrArg (s.dvh 1) (congrArg₂ ix2 (Fin.ext (by show 1 * 64 + e.val - 64 = e.val; omega)) (Fin.ext rfl))
  | 2 =>
    rw [dif_neg (by show ¬ (2 * 64 + e.val < 64); omega), dif_neg (by show ¬ (2 * 64 + e.val - 64 < 64); omega), dif_pos (by show 2 * 64 + e.val - 64 - 64 < 64; omega)]
    exact congrArg (s.dvh 2) (congrArg₂ ix2 (Fin.ext (by show 2 * 64 + e.val - 64 - 64 = e.val; omega)) (Fin.ext rfl))
  | 3 =>
    rw [dif_neg (by show ¬ (3 * 64 + e.val < 64); omega), dif_neg (by show ¬ (3 * 64 + e.val - 64 < 64); omega), dif_neg (by show ¬ (3 * 64 + e.val - 64 - 64 < 64); omega)]
    exact congrArg (s.dvh 3) (congrArg₂ ix2 (Fin.ext (by show 3 * 64 + e.val - 64 - 64 - 64 = e.val; omega)) (Fin.ext rfl))

end Read

namespace Holds

variable {d : Data} {r : Fin 16} {j : Fin 4} {s : Sub Ideal} (H : Holds d r j s) (h : Fin 4)
include H

theorem p_val (a : Fin 128) (c : Fin 256) :
    s.p h (ix2 a c) = ((padded (d.p r h (pos j a)) (128 * j.val + c.val) : ℝ) : EReal) := by
  rw [p_read, H.ok, H.l]
  unfold padded
  by_cases hx : 64 ≤ 128 * j.val + c.val ∧ 128 * j.val + c.val < 576
  · rw [if_pos hx, dif_pos hx]
    obtain ⟨key, hkey⟩ : ∃ key : Fin 512, key = ⟨128 * j.val + c.val - 64, by omega⟩ := ⟨_, rfl⟩
    have hk : 64 + key.val = 128 * j.val + c.val := by rw [hkey]; show 64 + (128 * j.val + c.val - 64) = _; omega
    rw [← hkey, H.b a c key hk, sum_of _ _ (fun e => d.q r (pos j a) h e * d.k r key h e) fun e => by
      rw [H.q, H.k c key hk, ← EReal.coe_mul], ← EReal.coe_mul]
    show Ideal.exp (((_ : ℝ) : EReal) + _ - _) = _
    by_cases hn : Near (pos j a) key
    · rw [if_pos hn, ← EReal.coe_add, ← EReal.coe_sub, exp_coe, ← d.p_eq_exp r h _ _ hn]
      rfl
    · rw [if_neg hn, EReal.add_bot, EReal.bot_sub, d.p_far r h hn]
      rfl
  · rw [if_neg hx, dif_neg hx]
    show Ideal.exp (⊥ - _) = _
    rw [EReal.bot_sub]
    rfl

theorem ds_val (a : Fin 128) (c : Fin 256) :
    s.ds h (ix2 a c) = ((padded (d.ds r h (pos j a)) (128 * j.val + c.val) : ℝ) : EReal) := by
  rw [ds_read, H.p_val]
  unfold padded
  by_cases hx : 64 ≤ 128 * j.val + c.val ∧ 128 * j.val + c.val < 576
  · rw [dif_pos hx, dif_pos hx]
    obtain ⟨key, hkey⟩ : ∃ key : Fin 512, key = ⟨128 * j.val + c.val - 64, by omega⟩ := ⟨_, rfl⟩
    have hk : 64 + key.val = 128 * j.val + c.val := by rw [hkey]; show 64 + (128 * j.val + c.val - 64) = _; omega
    rw [← hkey, H.dl, sum_of _ _ (fun e => d.g r (pos j a) h e * d.v r key h e) fun e => by
      rw [H.g, H.v c key hk, ← EReal.coe_mul], ← EReal.coe_sub, ← EReal.coe_mul]
    rfl
  · rw [dif_neg hx, dif_neg hx, EReal.coe_zero, zero_mul]

/-- A term of a query gradient: score gradient times key. -/
theorem term_val (a : Fin 128) (c : Fin 256) (e : Fin 64) : s.ds h (ix2 a c) * s.k (ix2 c (col h e)) =
    ((padded (fun key => d.ds r h (pos j a) key * d.k r key h e) (128 * j.val + c.val) : ℝ) : EReal) := by
  rw [H.ds_val]
  unfold padded
  by_cases hx : 64 ≤ 128 * j.val + c.val ∧ 128 * j.val + c.val < 576
  · rw [dif_pos hx, dif_pos hx, H.k c ⟨128 * j.val + c.val - 64, by omega⟩
      (by show 64 + (128 * j.val + c.val - 64) = _; omega), ← EReal.coe_mul]
  · rw [dif_neg hx, dif_neg hx, EReal.coe_zero, zero_mul]

/-- The sub-block's query gradients are the model's. -/
theorem dq_val (a : Fin 128) (e : Fin 64) : s.dq (ix2 a (col h e)) = ((d.dq r h (pos j a) e : ℝ) : EReal) := by
  rw [dq_read, dqh_read, sum_of _ _ _ fun c => H.term_val h a c e, sum_window j _ fun key hk => by
    rw [d.ds_far r h fun hn => hk (near_window hn), zero_mul], ← EReal.coe_mul]
  refine congrArg _ ?_
  unfold Data.dq
  rw [Finset.sum_mul]
  exact Finset.sum_congr rfl fun key _ => by ring

theorem dk_val (e : Fin 64) (c : Fin 256) : s.dk (ix2 (col h e) c) =
    ((∑ a, padded (fun key => d.ds r h (pos j a) key * (1 / 8) * d.q r (pos j a) h e) (128 * j.val + c.val) : ℝ) : EReal) := by
  rw [dk_read, dkh_read, sum_of _ _ (fun a => d.q r (pos j a) h e * padded (d.ds r h (pos j a)) (128 * j.val + c.val))
    fun a => by rw [H.q, H.ds_val, ← EReal.coe_mul], ← EReal.coe_mul, Finset.sum_mul]
  refine congrArg _ (Finset.sum_congr rfl fun a _ => ?_)
  unfold padded
  by_cases hx : 64 ≤ 128 * j.val + c.val ∧ 128 * j.val + c.val < 576
  · rw [dif_pos hx, dif_pos hx]; ring
  · rw [dif_neg hx, dif_neg hx, mul_zero, zero_mul]

theorem dv_val (e : Fin 64) (c : Fin 256) : s.dv (ix2 (col h e) c) =
    ((∑ a, padded (fun key => d.p r h (pos j a) key * d.g r (pos j a) h e) (128 * j.val + c.val) : ℝ) : EReal) := by
  rw [dv_read, dvh_read, sum_of _ _ (fun a => d.g r (pos j a) h e * padded (d.p r h (pos j a)) (128 * j.val + c.val))
    fun a => by rw [H.g, H.p_val, ← EReal.coe_mul]]
  refine congrArg _ (Finset.sum_congr rfl fun a _ => ?_)
  unfold padded
  by_cases hx : 64 ≤ 128 * j.val + c.val ∧ 128 * j.val + c.val < 576
  · rw [dif_pos hx, dif_pos hx]; ring
  · rw [dif_neg hx, dif_neg hx, mul_zero]

/-- What the sub-block adds to a key's gradient. -/
theorem share_dk (key : Fin 512) (e : Fin 64) : share s.dk (128 * j.val) (col h e) (64 + key.val) =
    ((∑ a, d.ds r h (pos j a) key * (1 / 8) * d.q r (pos j a) h e : ℝ) : EReal) := by
  unfold share
  by_cases hin : 128 * j.val ≤ 64 + key.val ∧ 64 + key.val < 128 * j.val + 256
  · rw [dif_pos hin, H.dk_val]
    refine congrArg _ (Finset.sum_congr rfl fun a _ => ?_)
    have : 128 * j.val + (64 + key.val - 128 * j.val) = 64 + key.val := by omega
    show padded _ (128 * j.val + (64 + key.val - 128 * j.val)) = _
    rw [this, padded_key]
  · rw [dif_neg hin, Finset.sum_eq_zero fun a _ => by
      rw [d.ds_far r h fun hn => hin (near_window hn), zero_mul, zero_mul], EReal.coe_zero]

/-- What the sub-block adds to a value's gradient. -/
theorem share_dv (key : Fin 512) (e : Fin 64) : share s.dv (128 * j.val) (col h e) (64 + key.val) =
    ((∑ a, d.p r h (pos j a) key * d.g r (pos j a) h e : ℝ) : EReal) := by
  unfold share
  by_cases hin : 128 * j.val ≤ 64 + key.val ∧ 64 + key.val < 128 * j.val + 256
  · rw [dif_pos hin, H.dv_val]
    refine congrArg _ (Finset.sum_congr rfl fun a _ => ?_)
    have : 128 * j.val + (64 + key.val - 128 * j.val) = 64 + key.val := by omega
    show padded _ (128 * j.val + (64 + key.val - 128 * j.val)) = _
    rw [this, padded_key]
  · rw [dif_neg hin, Finset.sum_eq_zero fun a _ => by
      rw [d.p_far r h fun hn => hin (near_window hn), zero_mul], EReal.coe_zero]

end Holds

/-- The four shares together are the key's gradient. -/
theorem shares_dk {d : Data} {r : Fin 16} {s : Fin 4 → Sub Ideal} (H : ∀ j, Holds d r j (s j)) (h : Fin 4)
    (key : Fin 512) (e : Fin 64) :
    share (s 0).dk 0 (col h e) (64 + key.val) + share (s 1).dk 128 (col h e) (64 + key.val)
      + share (s 2).dk 256 (col h e) (64 + key.val) + share (s 3).dk 384 (col h e) (64 + key.val) =
      ((d.dk r h key e : ℝ) : EReal) := by
  have h0 := (H 0).share_dk h key e
  have h1 := (H 1).share_dk h key e
  have h2 := (H 2).share_dk h key e
  have h3 := (H 3).share_dk h key e
  refine (congrArg₂ (· + ·) (congrArg₂ (· + ·) (congrArg₂ (· + ·) h0 h1) h2) h3).trans ?_
  show ((_ : ℝ) : EReal) + ((_ : ℝ) : EReal) + ((_ : ℝ) : EReal) + ((_ : ℝ) : EReal) = _
  rw [← EReal.coe_add, ← EReal.coe_add, ← EReal.coe_add,
    sum_pos_eq (fun i => d.ds r h i key * (1 / 8) * d.q r i h e)]
  rfl

/-- The four shares together are the value's gradient. -/
theorem shares_dv {d : Data} {r : Fin 16} {s : Fin 4 → Sub Ideal} (H : ∀ j, Holds d r j (s j)) (h : Fin 4)
    (key : Fin 512) (e : Fin 64) :
    share (s 0).dv 0 (col h e) (64 + key.val) + share (s 1).dv 128 (col h e) (64 + key.val)
      + share (s 2).dv 256 (col h e) (64 + key.val) + share (s 3).dv 384 (col h e) (64 + key.val) =
      ((d.dv r h key e : ℝ) : EReal) := by
  have h0 := (H 0).share_dv h key e
  have h1 := (H 1).share_dv h key e
  have h2 := (H 2).share_dv h key e
  have h3 := (H 3).share_dv h key e
  refine (congrArg₂ (· + ·) (congrArg₂ (· + ·) (congrArg₂ (· + ·) h0 h1) h2) h3).trans ?_
  show ((_ : ℝ) : EReal) + ((_ : ℝ) : EReal) + ((_ : ℝ) : EReal) + ((_ : ℝ) : EReal) = _
  rw [← EReal.coe_add, ← EReal.coe_add, ← EReal.coe_add, sum_pos_eq (fun i => d.p r h i key * d.g r i h e)]
  rfl

end Cert.AttKernelIdeal.Own

end
-- ==== Proof.Point.lean ====
/-
  What the grid points leave: an even point leaves the sub-blocks' query gradients and, in the accumulators, the sums of
  their shares; the odd point after it keeps the first and writes the second out, transposed.
-/
module

public import proofs.«01_k».proof.Proof.TileValue

@[expose] public section

set_option maxRecDepth 16384

noncomputable section

namespace Cert.AttKernelIdeal.Own

open Cert.AttKernelIdeal Cert.AttKernelIdeal.Gen Idealize.ShloMosaic Idealize.ShloMosaic.TcCoe Idealize.ShloMosaic.Tactic

/-- What a point leaves, from its sub-blocks: the query gradients and the accumulators. -/
def Leaves (dq : Vec Ideal S512x256 .bf16) (ak av : Vec Ideal S256x1152 .f32) (S : Fin 4 → Sub Ideal) : Prop :=
  (∀ (j : Fin 4) (a : Fin 128) (y : Fin 256), dq (ix2 (⟨128 * j.val + a.val, by omega⟩ : Fin 512) y) = (S j).dq (ix2 a y)) ∧
  (∀ (f : Fin 256) (x : ℕ) (hx : x < 640), ak (ix2 f ⟨x, by omega⟩) =
      share (S 0).dk 0 f x + share (S 1).dk 128 f x + share (S 2).dk 256 f x + share (S 3).dk 384 f x) ∧
  (∀ (f : Fin 256) (x : ℕ) (hx : x < 640), av (ix2 f ⟨x, by omega⟩) =
      share (S 0).dv 0 f x + share (S 1).dv 128 f x + share (S 2).dv 256 f x + share (S 3).dv 384 f x)

section

variable (c : Dev nD) (i : grid0.Coords) (arg2 : Memref sig .tc .vmem S512x256 .bf16) (harg2 : arg2.IsWhole)
  (arg3 : Memref sig .tc .vmem S64x256 .bf16) (harg3 : arg3.IsWhole) (arg4 : Memref sig .tc .vmem S512x256 .bf16) (harg4 : arg4.IsWhole)
  (arg5 : Memref sig .tc .vmem S64x256 .bf16) (harg5 : arg5.IsWhole) (arg6 : Memref sig .tc .vmem S64x256 .bf16) (harg6 : arg6.IsWhole)
  (arg7 : Memref sig .tc .vmem S512x256 .bf16) (harg7 : arg7.IsWhole) (arg8 : Memref sig .tc .vmem S64x256 .bf16) (harg8 : arg8.IsWhole)
  (arg9 : Memref sig .tc .vmem S4x128x256 .f32) (harg9 : arg9.IsWhole) (arg10 : Memref sig .tc .vmem S512x256 .f32) (harg10 : arg10.IsWhole)
  (arg11 : Memref sig .tc .vmem S512x256 .bf16) (harg11 : arg11.IsWhole) (arg12 : Memref sig .tc .vmem S512x256 .f32) (harg12 : arg12.IsWhole)
  (arg13 : Memref sig .tc .vmem S512x256 .bf16) (harg13 : arg13.IsWhole) (arg14 : Memref sig .tc .vmem S512x256 .bf16) (harg14 : arg14.IsWhole)
  (arg15 : Memref sig .tc .vmem S512x256 .bf16) (harg15 : arg15.IsWhole) (arg16 : Memref sig .tc .vmem S4x128x256 .f32) (harg16 : arg16.IsWhole)
  (arg17 : Memref sig .tc .vmem S256x1152 .f32) (harg17 : arg17.IsWhole) (arg18 : Memref sig .tc .vmem S256x1152 .f32) (harg18 : arg18.IsWhole)
  (hc0 : cond0_0 i) (hc1 : cond0_1 i) (hc2 : cond0_2 i) (x0 : Vec Ideal S512x256 .bf16) (x1 : Vec Ideal S64x256 .bf16) (x2 : Vec Ideal S512x256 .bf16)
  (x3 : Vec Ideal S64x256 .bf16) (x4 : Vec Ideal S64x256 .bf16) (x5 : Vec Ideal S512x256 .bf16) (x6 : Vec Ideal S64x256 .bf16)
  (x7 : Vec Ideal S4x128x256 .f32) (x8 : Vec Ideal S512x256 .f32) (x9 : Vec Ideal S512x256 .bf16) (x10 : Vec Ideal S512x256 .f32)
include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10

/-- The query gradients' rows. -/
theorem rowsA (j : Fin 4) (a : Fin 128) (y : Fin 256) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 (ix2 (⟨128 * j.val + a.val, by omega⟩ : Fin 512) y) = (psub (BitVec.ofNat 32 (i 1).val) x0 x1 x2 x3 x4 x5 x6 x7 x8 x9 x10 (128 * j.val) (by omega)).dq (ix2 a y) := by
  unfold out0_A_11
  rw [View.read_writes_junk_eq_canon, BlockA.query, canon_self, bsub_eq, bsub_eq, bsub_eq, bsub_eq]
  exact canon_rows (fun j => (psub (BitVec.ofNat 32 (i 1).val) x0 x1 x2 x3 x4 x5 x6 x7 x8 x9 x10 (128 * j.val) (by omega)).dq) j a y

/-- Accumulator 0's columns. -/
theorem accA0 (f : Fin 256) (x : ℕ) (hx : x < 640) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 (ix2 f ⟨x, by omega⟩) =
      share (psub (BitVec.ofNat 32 (i 1).val) x0 x1 x2 x3 x4 x5 x6 x7 x8 x9 x10 0 (by omega)).dk 0 f x + share (psub (BitVec.ofNat 32 (i 1).val) x0 x1 x2 x3 x4 x5 x6 x7 x8 x9 x10 128 (by omega)).dk 128 f x
      + share (psub (BitVec.ofNat 32 (i 1).val) x0 x1 x2 x3 x4 x5 x6 x7 x8 x9 x10 256 (by omega)).dk 256 f x + share (psub (BitVec.ofNat 32 (i 1).val) x0 x1 x2 x3 x4 x5 x6 x7 x8 x9 x10 384 (by omega)).dk 384 f x := by
  unfold sout0_A_0
  rw [View.read_writes_junk_eq_canon, BlockA.scratch0, bsub_eq, bsub_eq, bsub_eq, bsub_eq]
  exact (canon_shift _ _ f x hx).trans (canon_acc _ _ _ _ _ f x hx)

/-- Accumulator 1's columns. -/
theorem accA1 (f : Fin 256) (x : ℕ) (hx : x < 640) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 (ix2 f ⟨x, by omega⟩) =
      share (psub (BitVec.ofNat 32 (i 1).val) x0 x1 x2 x3 x4 x5 x6 x7 x8 x9 x10 0 (by omega)).dv 0 f x + share (psub (BitVec.ofNat 32 (i 1).val) x0 x1 x2 x3 x4 x5 x6 x7 x8 x9 x10 128 (by omega)).dv 128 f x
      + share (psub (BitVec.ofNat 32 (i 1).val) x0 x1 x2 x3 x4 x5 x6 x7 x8 x9 x10 256 (by omega)).dv 256 f x + share (psub (BitVec.ofNat 32 (i 1).val) x0 x1 x2 x3 x4 x5 x6 x7 x8 x9 x10 384 (by omega)).dv 384 f x := by
  unfold sout0_A_1
  rw [View.read_writes_junk_eq_canon, BlockA.scratch1, bsub_eq, bsub_eq, bsub_eq, bsub_eq]
  exact (canon_shift _ _ f x hx).trans (canon_acc _ _ _ _ _ f x hx)

end

section

variable (c : Dev nD) (i : grid0.Coords) (arg2 : Memref sig .tc .vmem S512x256 .bf16) (harg2 : arg2.IsWhole)
  (arg3 : Memref sig .tc .vmem S64x256 .bf16) (harg3 : arg3.IsWhole) (arg4 : Memref sig .tc .vmem S512x256 .bf16) (harg4 : arg4.IsWhole)
  (arg5 : Memref sig .tc .vmem S64x256 .bf16) (harg5 : arg5.IsWhole) (arg6 : Memref sig .tc .vmem S64x256 .bf16) (harg6 : arg6.IsWhole)
  (arg7 : Memref sig .tc .vmem S512x256 .bf16) (harg7 : arg7.IsWhole) (arg8 : Memref sig .tc .vmem S64x256 .bf16) (harg8 : arg8.IsWhole)
  (arg9 : Memref sig .tc .vmem S4x128x256 .f32) (harg9 : arg9.IsWhole) (arg10 : Memref sig .tc .vmem S512x256 .f32) (harg10 : arg10.IsWhole)
  (arg11 : Memref sig .tc .vmem S512x256 .bf16) (harg11 : arg11.IsWhole) (arg12 : Memref sig .tc .vmem S512x256 .f32) (harg12 : arg12.IsWhole)
  (arg13 : Memref sig .tc .vmem S512x256 .bf16) (harg13 : arg13.IsWhole) (arg14 : Memref sig .tc .vmem S512x256 .bf16) (harg14 : arg14.IsWhole)
  (arg15 : Memref sig .tc .vmem S512x256 .bf16) (harg15 : arg15.IsWhole) (arg16 : Memref sig .tc .vmem S4x128x256 .f32) (harg16 : arg16.IsWhole)
  (arg17 : Memref sig .tc .vmem S256x1152 .f32) (harg17 : arg17.IsWhole) (arg18 : Memref sig .tc .vmem S256x1152 .f32) (harg18 : arg18.IsWhole)
  (hc0 : ¬cond0_0 i)
include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0

/-- The query gradients' rows. -/
theorem rowsC (hc1 : cond0_1 i) (hc2 : cond0_2 i) (x0 : Vec Ideal S512x256 .bf16) (x1 : Vec Ideal S64x256 .bf16) (x2 : Vec Ideal S512x256 .bf16) (x3 : Vec Ideal S64x256 .bf16) (x4 : Vec Ideal S64x256 .bf16) (x5 : Vec Ideal S512x256 .bf16) (x6 : Vec Ideal S64x256 .bf16) (x7 : Vec Ideal S4x128x256 .f32) (x8 : Vec Ideal S512x256 .f32) (x9 : Vec Ideal S512x256 .bf16) (x10 : Vec Ideal S512x256 .f32) (xo14 : Vec Ideal S4x128x256 .f32) (j : Fin 4) (a : Fin 128) (y : Fin 256) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo14 (ix2 (⟨128 * j.val + a.val, by omega⟩ : Fin 512) y) = (psub (BitVec.ofNat 32 (i 1).val) x0 x1 x2 x3 x4 x5 x6 x7 x8 x9 x10 (128 * j.val) (by omega)).dq (ix2 a y) := by
  unfold out0_C_11
  rw [View.read_writes_junk_eq_canon, BlockC.query, canon_self, bsub_eq, bsub_eq, bsub_eq, bsub_eq]
  exact canon_rows (fun j => (psub (BitVec.ofNat 32 (i 1).val) x0 x1 x2 x3 x4 x5 x6 x7 x8 x9 x10 (128 * j.val) (by omega)).dq) j a y

/-- Accumulator 0's columns. -/
theorem accC0 (hc1 : cond0_1 i) (hc2 : cond0_2 i) (x0 : Vec Ideal S512x256 .bf16) (x1 : Vec Ideal S64x256 .bf16) (x2 : Vec Ideal S512x256 .bf16) (x3 : Vec Ideal S64x256 .bf16) (x4 : Vec Ideal S64x256 .bf16) (x5 : Vec Ideal S512x256 .bf16) (x6 : Vec Ideal S64x256 .bf16) (x7 : Vec Ideal S4x128x256 .f32) (x8 : Vec Ideal S512x256 .f32) (x9 : Vec Ideal S512x256 .bf16) (x10 : Vec Ideal S512x256 .f32) (xo14 : Vec Ideal S4x128x256 .f32) (f : Fin 256) (x : ℕ) (hx : x < 640) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo14 (ix2 f ⟨x, by omega⟩) =
      share (psub (BitVec.ofNat 32 (i 1).val) x0 x1 x2 x3 x4 x5 x6 x7 x8 x9 x10 0 (by omega)).dk 0 f x + share (psub (BitVec.ofNat 32 (i 1).val) x0 x1 x2 x3 x4 x5 x6 x7 x8 x9 x10 128 (by omega)).dk 128 f x
      + share (psub (BitVec.ofNat 32 (i 1).val) x0 x1 x2 x3 x4 x5 x6 x7 x8 x9 x10 256 (by omega)).dk 256 f x + share (psub (BitVec.ofNat 32 (i 1).val) x0 x1 x2 x3 x4 x5 x6 x7 x8 x9 x10 384 (by omega)).dk 384 f x := by
  unfold sout0_C_0
  rw [View.read_writes_junk_eq_canon, BlockC.scratch0, bsub_eq, bsub_eq, bsub_eq, bsub_eq]
  exact (canon_shift _ _ f x hx).trans (canon_acc _ _ _ _ _ f x hx)

/-- Accumulator 1's columns. -/
theorem accC1 (hc1 : cond0_1 i) (hc2 : cond0_2 i) (x0 : Vec Ideal S512x256 .bf16) (x1 : Vec Ideal S64x256 .bf16) (x2 : Vec Ideal S512x256 .bf16) (x3 : Vec Ideal S64x256 .bf16) (x4 : Vec Ideal S64x256 .bf16) (x5 : Vec Ideal S512x256 .bf16) (x6 : Vec Ideal S64x256 .bf16) (x7 : Vec Ideal S4x128x256 .f32) (x8 : Vec Ideal S512x256 .f32) (x9 : Vec Ideal S512x256 .bf16) (x10 : Vec Ideal S512x256 .f32) (xo14 : Vec Ideal S4x128x256 .f32) (f : Fin 256) (x : ℕ) (hx : x < 640) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo14 (ix2 f ⟨x, by omega⟩) =
      share (psub (BitVec.ofNat 32 (i 1).val) x0 x1 x2 x3 x4 x5 x6 x7 x8 x9 x10 0 (by omega)).dv 0 f x + share (psub (BitVec.ofNat 32 (i 1).val) x0 x1 x2 x3 x4 x5 x6 x7 x8 x9 x10 128 (by omega)).dv 128 f x
      + share (psub (BitVec.ofNat 32 (i 1).val) x0 x1 x2 x3 x4 x5 x6 x7 x8 x9 x10 256 (by omega)).dv 256 f x + share (psub (BitVec.ofNat 32 (i 1).val) x0 x1 x2 x3 x4 x5 x6 x7 x8 x9 x10 384 (by omega)).dv 384 f x := by
  unfold sout0_C_1
  rw [View.read_writes_junk_eq_canon, BlockC.scratch1, bsub_eq, bsub_eq, bsub_eq, bsub_eq]
  exact (canon_shift _ _ f x hx).trans (canon_acc _ _ _ _ _ f x hx)

/-- The odd point keeps the query gradients. -/
theorem kept (hc1 : ¬cond0_1 i) (hc2 : ¬cond0_2 i) (x0 : Vec Ideal S512x256 .bf16) (x1 : Vec Ideal S64x256 .bf16) (x2 : Vec Ideal S512x256 .bf16) (x3 : Vec Ideal S64x256 .bf16) (x4 : Vec Ideal S64x256 .bf16) (x5 : Vec Ideal S512x256 .bf16) (x6 : Vec Ideal S64x256 .bf16) (x7 : Vec Ideal S4x128x256 .f32) (x8 : Vec Ideal S512x256 .f32) (x9 : Vec Ideal S512x256 .bf16) (x10 : Vec Ideal S512x256 .f32) (xo11 : Vec Ideal S512x256 .bf16) (xo14 : Vec Ideal S4x128x256 .f32) (xs0 : Vec Ideal S256x1152 .f32) (xs1 : Vec Ideal S256x1152 .f32) : out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo11 xo14 xs0 xs1 = xo11 := by
  unfold out0_B_11
  rw [View.read_writes_junk_eq_canon]
  have e : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo11 xo14 xs0 xs1).1 = [⟨Rect.unit ![0, 0] S512x256.size inb_S512x256_S512x256_0_0, k0_pay203
      (View.readAt (Elt Ideal) arg13.view (Rect.unit ![0, 0] S512x256.size inb_S512x256_S512x256_0_0).toLoadRect
        (harg13.unread xo11))⟩] := rfl
  rw [e]
  refine (View.canon_cons_unit_zero (S := S512x256) zero2 _ _ _).trans ?_
  unfold k0_pay203
  rw [shapeCast_self, View.readAt_eq_ld, harg13.read_unread]
  exact ld_whole (S := S512x256) _ (by decide) _

/-- The odd point writes accumulator 0 out. -/
theorem written0 (hc1 : ¬cond0_1 i) (hc2 : ¬cond0_2 i) (x0 : Vec Ideal S512x256 .bf16) (x1 : Vec Ideal S64x256 .bf16) (x2 : Vec Ideal S512x256 .bf16) (x3 : Vec Ideal S64x256 .bf16) (x4 : Vec Ideal S64x256 .bf16) (x5 : Vec Ideal S512x256 .bf16) (x6 : Vec Ideal S64x256 .bf16) (x7 : Vec Ideal S4x128x256 .f32) (x8 : Vec Ideal S512x256 .f32) (x9 : Vec Ideal S512x256 .bf16) (x10 : Vec Ideal S512x256 .f32) (xo11 : Vec Ideal S512x256 .bf16) (xo14 : Vec Ideal S4x128x256 .f32) (xs0 : Vec Ideal S256x1152 .f32) (xs1 : Vec Ideal S256x1152 .f32) (x : Fin 512) (f : Fin 256) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo11 xo14 xs0 xs1 (ix2 x f) = xs0 (ix2 f (⟨64 + x.val, by omega⟩ : Fin 1152)) := by
  unfold out0_B_12
  rw [View.read_writes_junk_eq_canon]
  have e : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo11 xo14 xs0 xs1).2.1 = [⟨Rect.unit ![0, 0] S512x256.size inb_S512x256_S512x256_0_0, k0_pay205
      (View.readAt (Elt Ideal) arg17.view (Rect.unit ![0, 64] S256x512.size inb_S256x1152_S256x512_0_64 : Rect S256x1152).toLoadRect
        (harg17.unread xs0))⟩] := rfl
  rw [e]
  refine (congrFun (View.canon_cons_unit_zero (S := S512x256) zero2 _ _ _) _).trans ?_
  unfold k0_pay205
  rw [View.readAt_eq_ld, harg17.read_unread]
  simp only [pointwise]
  refine congrArg xs0 (funext fun a => ?_)
  match a with
  | ⟨0, _⟩ => exact Fin.ext (by show 0 + 1 * f.val = f.val; omega)
  | ⟨1, _⟩ => exact Fin.ext (by show 64 + 1 * x.val = 64 + x.val; omega)

/-- The odd point writes accumulator 1 out. -/
theorem written1 (hc1 : ¬cond0_1 i) (hc2 : ¬cond0_2 i) (x0 : Vec Ideal S512x256 .bf16) (x1 : Vec Ideal S64x256 .bf16) (x2 : Vec Ideal S512x256 .bf16) (x3 : Vec Ideal S64x256 .bf16) (x4 : Vec Ideal S64x256 .bf16) (x5 : Vec Ideal S512x256 .bf16) (x6 : Vec Ideal S64x256 .bf16) (x7 : Vec Ideal S4x128x256 .f32) (x8 : Vec Ideal S512x256 .f32) (x9 : Vec Ideal S512x256 .bf16) (x10 : Vec Ideal S512x256 .f32) (xo11 : Vec Ideal S512x256 .bf16) (xo14 : Vec Ideal S4x128x256 .f32) (xs0 : Vec Ideal S256x1152 .f32) (xs1 : Vec Ideal S256x1152 .f32) (x : Fin 512) (f : Fin 256) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo11 xo14 xs0 xs1 (ix2 x f) = xs1 (ix2 f (⟨64 + x.val, by omega⟩ : Fin 1152)) := by
  unfold out0_B_13
  rw [View.read_writes_junk_eq_canon]
  have e : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo11 xo14 xs0 xs1).2.2.1 = [⟨Rect.unit ![0, 0] S512x256.size inb_S512x256_S512x256_0_0, k0_pay206
      (View.readAt (Elt Ideal) arg18.view (Rect.unit ![0, 64] S256x512.size inb_S256x1152_S256x512_0_64 : Rect S256x1152).toLoadRect
        (harg18.unread xs1))⟩] := rfl
  rw [e]
  refine (congrFun (View.canon_cons_unit_zero (S := S512x256) zero2 _ _ _) _).trans ?_
  unfold k0_pay206
  rw [View.readAt_eq_ld, harg18.read_unread]
  simp only [pointwise]
  refine congrArg xs1 (funext fun a => ?_)
  match a with
  | ⟨0, _⟩ => exact Fin.ext (by show 0 + 1 * f.val = f.val; omega)
  | ⟨1, _⟩ => exact Fin.ext (by show 64 + 1 * x.val = 64 + x.val; omega)

end

/-- Everything case A leaves. -/
theorem leavesA (c : Dev nD) (i : grid0.Coords) (arg2 : Memref sig .tc .vmem S512x256 .bf16) (harg2 : arg2.IsWhole) (arg3 : Memref sig .tc .vmem S64x256 .bf16) (harg3 : arg3.IsWhole) (arg4 : Memref sig .tc .vmem S512x256 .bf16) (harg4 : arg4.IsWhole) (arg5 : Memref sig .tc .vmem S64x256 .bf16) (harg5 : arg5.IsWhole) (arg6 : Memref sig .tc .vmem S64x256 .bf16) (harg6 : arg6.IsWhole) (arg7 : Memref sig .tc .vmem S512x256 .bf16) (harg7 : arg7.IsWhole) (arg8 : Memref sig .tc .vmem S64x256 .bf16) (harg8 : arg8.IsWhole) (arg9 : Memref sig .tc .vmem S4x128x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S4x128x256 .f32) (harg16 : arg16.IsWhole) (arg17 : Memref sig .tc .vmem S256x1152 .f32) (harg17 : arg17.IsWhole) (arg18 : Memref sig .tc .vmem S256x1152 .f32) (harg18 : arg18.IsWhole) (hc0 : cond0_0 i) (hc1 : cond0_1 i) (hc2 : cond0_2 i)
    (x0 : Vec Ideal S512x256 .bf16) (x1 : Vec Ideal S64x256 .bf16) (x2 : Vec Ideal S512x256 .bf16) (x3 : Vec Ideal S64x256 .bf16) (x4 : Vec Ideal S64x256 .bf16) (x5 : Vec Ideal S512x256 .bf16) (x6 : Vec Ideal S64x256 .bf16) (x7 : Vec Ideal S4x128x256 .f32) (x8 : Vec Ideal S512x256 .f32) (x9 : Vec Ideal S512x256 .bf16) (x10 : Vec Ideal S512x256 .f32) :
    Leaves (out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10) (sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10) (sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10)
      (fun j => psub (BitVec.ofNat 32 (i 1).val) x0 x1 x2 x3 x4 x5 x6 x7 x8 x9 x10 (128 * j.val) (by omega)) :=
  ⟨rowsA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10, accA0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10, accA1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10⟩

/-- Everything case C leaves. -/
theorem leavesC (c : Dev nD) (i : grid0.Coords) (arg2 : Memref sig .tc .vmem S512x256 .bf16) (harg2 : arg2.IsWhole) (arg3 : Memref sig .tc .vmem S64x256 .bf16) (harg3 : arg3.IsWhole) (arg4 : Memref sig .tc .vmem S512x256 .bf16) (harg4 : arg4.IsWhole) (arg5 : Memref sig .tc .vmem S64x256 .bf16) (harg5 : arg5.IsWhole) (arg6 : Memref sig .tc .vmem S64x256 .bf16) (harg6 : arg6.IsWhole) (arg7 : Memref sig .tc .vmem S512x256 .bf16) (harg7 : arg7.IsWhole) (arg8 : Memref sig .tc .vmem S64x256 .bf16) (harg8 : arg8.IsWhole) (arg9 : Memref sig .tc .vmem S4x128x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x256 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x256 .bf16) (harg15 : arg15.IsWhole) (arg16 : Memref sig .tc .vmem S4x128x256 .f32) (harg16 : arg16.IsWhole) (arg17 : Memref sig .tc .vmem S256x1152 .f32) (harg17 : arg17.IsWhole) (arg18 : Memref sig .tc .vmem S256x1152 .f32) (harg18 : arg18.IsWhole) (hc0 : ¬cond0_0 i) (hc1 : cond0_1 i) (hc2 : cond0_2 i)
    (x0 : Vec Ideal S512x256 .bf16) (x1 : Vec Ideal S64x256 .bf16) (x2 : Vec Ideal S512x256 .bf16) (x3 : Vec Ideal S64x256 .bf16) (x4 : Vec Ideal S64x256 .bf16) (x5 : Vec Ideal S512x256 .bf16) (x6 : Vec Ideal S64x256 .bf16) (x7 : Vec Ideal S4x128x256 .f32) (x8 : Vec Ideal S512x256 .f32) (x9 : Vec Ideal S512x256 .bf16) (x10 : Vec Ideal S512x256 .f32) (xo14 : Vec Ideal S4x128x256 .f32) :
    Leaves (out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo14) (sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo14) (sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo14)
      (fun j => psub (BitVec.ofNat 32 (i 1).val) x0 x1 x2 x3 x4 x5 x6 x7 x8 x9 x10 (128 * j.val) (by omega)) :=
  ⟨rowsC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo14, accC0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo14, accC1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xo14⟩

end Cert.AttKernelIdeal.Own

end
-- ==== Proof.Region.lean ====
/-
  The kernel's input blocks as parts of the arrays the host operations leave, and the region's results from those arrays.
-/
module

public import proofs.«01_k».proof.Proof.Point

@[expose] public section

set_option maxRecDepth 16384

noncomputable section

namespace Cert.AttKernelIdeal.Own

open Cert.AttKernelIdeal Cert.AttKernelIdeal.Gen Idealize.ShloMosaic Idealize.ShloMosaic.TcCoe BandAttention

variable (m : (ℓ : Loc nD τ sig) → Buf (Elt Ideal) ℓ)

/-- Row `512 * r + i` of a residue-major array. -/
def line (r : Fin 16) (i : Fin 512) : Fin 8192 := ⟨r.val * 512 + i.val, by omega⟩

/-- The first grid point of a residue class. -/
abbrev even (r : Fin 16) : Fin grid0.N := ⟨2 * r.val, lt_of_lt_of_eq (by omega) N_0.symm⟩

/-- The second grid point of a residue class. -/
abbrev odd (r : Fin 16) : Fin grid0.N := ⟨2 * r.val + 1, lt_of_lt_of_eq (by omega) N_0.symm⟩

theorem coord_even (r : Fin 16) : (grid0.coords (even r) 1).val = 0 :=
  (by decide +kernel : ∀ r : Fin 16, (grid0.coords (even r) 1).val = 0) r

theorem idx0 (r : Fin 16) : win0_0.index (even r) (0 : Fin 2) = r.val ∧ win0_0.index (even r) (1 : Fin 2) = 0 :=
  (by decide +kernel : ∀ r : Fin 16, win0_0.index (even r) (0 : Fin 2) = r.val ∧ win0_0.index (even r) (1 : Fin 2) = 0) r

theorem blk0 (c : Dev nD) (r : Fin 16) (i : Fin 512) (y : Fin 256) :
    iblk m c 0 (even r) (ix2 i y) = V m c main_v176 (ix2 (line r i) y) := by
  show V m c main_v176 (((cfg0.win 0).blk (even r)).view.emb (ix2 i y)) = _
  refine congrArg (V m c main_v176) (funext fun a => Fin.ext ?_)
  obtain ⟨e0, e1⟩ := idx0 r
  match a with
  | ⟨0, _⟩ =>
    show win0_0.index (even r) (0 : Fin 2) * 512 + 1 * i.val = r.val * 512 + i.val
    rw [e0]; omega
  | ⟨1, _⟩ =>
    show win0_0.index (even r) (1 : Fin 2) * 256 + 1 * y.val = y.val
    rw [e1]; omega

theorem idx2 (r : Fin 16) : win0_2.index (even r) (0 : Fin 2) = r.val ∧ win0_2.index (even r) (1 : Fin 2) = 0 :=
  (by decide +kernel : ∀ r : Fin 16, win0_2.index (even r) (0 : Fin 2) = r.val ∧ win0_2.index (even r) (1 : Fin 2) = 0) r

theorem blk2 (c : Dev nD) (r : Fin 16) (i : Fin 512) (y : Fin 256) :
    iblk m c 2 (even r) (ix2 i y) = V m c main_v179 (ix2 (line r i) y) := by
  show V m c main_v179 (((cfg0.win 2).blk (even r)).view.emb (ix2 i y)) = _
  refine congrArg (V m c main_v179) (funext fun a => Fin.ext ?_)
  obtain ⟨e0, e1⟩ := idx2 r
  match a with
  | ⟨0, _⟩ =>
    show win0_2.index (even r) (0 : Fin 2) * 512 + 1 * i.val = r.val * 512 + i.val
    rw [e0]; omega
  | ⟨1, _⟩ =>
    show win0_2.index (even r) (1 : Fin 2) * 256 + 1 * y.val = y.val
    rw [e1]; omega

theorem idx5 (r : Fin 16) : win0_5.index (even r) (0 : Fin 2) = r.val ∧ win0_5.index (even r) (1 : Fin 2) = 0 :=
  (by decide +kernel : ∀ r : Fin 16, win0_5.index (even r) (0 : Fin 2) = r.val ∧ win0_5.index (even r) (1 : Fin 2) = 0) r

theorem blk5 (c : Dev nD) (r : Fin 16) (i : Fin 512) (y : Fin 256) :
    iblk m c 5 (even r) (ix2 i y) = V m c main_v182 (ix2 (line r i) y) := by
  show V m c main_v182 (((cfg0.win 5).blk (even r)).view.emb (ix2 i y)) = _
  refine congrArg (V m c main_v182) (funext fun a => Fin.ext ?_)
  obtain ⟨e0, e1⟩ := idx5 r
  match a with
  | ⟨0, _⟩ =>
    show win0_5.index (even r) (0 : Fin 2) * 512 + 1 * i.val = r.val * 512 + i.val
    rw [e0]; omega
  | ⟨1, _⟩ =>
    show win0_5.index (even r) (1 : Fin 2) * 256 + 1 * y.val = y.val
    rw [e1]; omega

theorem idx8 (r : Fin 16) : win0_8.index (even r) (0 : Fin 2) = r.val ∧ win0_8.index (even r) (1 : Fin 2) = 0 :=
  (by decide +kernel : ∀ r : Fin 16, win0_8.index (even r) (0 : Fin 2) = r.val ∧ win0_8.index (even r) (1 : Fin 2) = 0) r

theorem blk8 (c : Dev nD) (r : Fin 16) (i : Fin 512) (y : Fin 256) :
    iblk m c 8 (even r) (ix2 i y) = V m c main_v185 (ix2 (line r i) y) := by
  show V m c main_v185 (((cfg0.win 8).blk (even r)).view.emb (ix2 i y)) = _
  refine congrArg (V m c main_v185) (funext fun a => Fin.ext ?_)
  obtain ⟨e0, e1⟩ := idx8 r
  match a with
  | ⟨0, _⟩ =>
    show win0_8.index (even r) (0 : Fin 2) * 512 + 1 * i.val = r.val * 512 + i.val
    rw [e0]; omega
  | ⟨1, _⟩ =>
    show win0_8.index (even r) (1 : Fin 2) * 256 + 1 * y.val = y.val
    rw [e1]; omega

theorem idx9 (r : Fin 16) : win0_9.index (even r) (0 : Fin 2) = r.val ∧ win0_9.index (even r) (1 : Fin 2) = 0 :=
  (by decide +kernel : ∀ r : Fin 16, win0_9.index (even r) (0 : Fin 2) = r.val ∧ win0_9.index (even r) (1 : Fin 2) = 0) r

theorem blk9 (c : Dev nD) (r : Fin 16) (i : Fin 512) (y : Fin 256) :
    iblk m c 9 (even r) (ix2 i y) = V m c main_v188 (ix2 (line r i) y) := by
  show V m c main_v188 (((cfg0.win 9).blk (even r)).view.emb (ix2 i y)) = _
  refine congrArg (V m c main_v188) (funext fun a => Fin.ext ?_)
  obtain ⟨e0, e1⟩ := idx9 r
  match a with
  | ⟨0, _⟩ =>
    show win0_9.index (even r) (0 : Fin 2) * 512 + 1 * i.val = r.val * 512 + i.val
    rw [e0]; omega
  | ⟨1, _⟩ =>
    show win0_9.index (even r) (1 : Fin 2) * 256 + 1 * y.val = y.val
    rw [e1]; omega

theorem idx10 (r : Fin 16) : win0_10.index (even r) (0 : Fin 2) = r.val ∧ win0_10.index (even r) (1 : Fin 2) = 0 :=
  (by decide +kernel : ∀ r : Fin 16, win0_10.index (even r) (0 : Fin 2) = r.val ∧ win0_10.index (even r) (1 : Fin 2) = 0) r

theorem blk10 (c : Dev nD) (r : Fin 16) (i : Fin 512) (y : Fin 256) :
    iblk m c 10 (even r) (ix2 i y) = V m c main_v191 (ix2 (line r i) y) := by
  show V m c main_v191 (((cfg0.win 10).blk (even r)).view.emb (ix2 i y)) = _
  refine congrArg (V m c main_v191) (funext fun a => Fin.ext ?_)
  obtain ⟨e0, e1⟩ := idx10 r
  match a with
  | ⟨0, _⟩ =>
    show win0_10.index (even r) (0 : Fin 2) * 512 + 1 * i.val = r.val * 512 + i.val
    rw [e0]; omega
  | ⟨1, _⟩ =>
    show win0_10.index (even r) (1 : Fin 2) * 256 + 1 * y.val = y.val
    rw [e1]; omega

theorem idx7 (r : Fin 16) : win0_7.index (even r) (0 : Fin 3) = 0 ∧ win0_7.index (even r) (1 : Fin 3) = 0
    ∧ win0_7.index (even r) (2 : Fin 3) = 0 :=
  (by decide +kernel : ∀ r : Fin 16, win0_7.index (even r) (0 : Fin 3) = 0 ∧ win0_7.index (even r) (1 : Fin 3) = 0
    ∧ win0_7.index (even r) (2 : Fin 3) = 0) r

theorem blk7 (c : Dev nD) (r : Fin 16) (h : Fin 4) (x : Fin 128) (y : Fin 256) :
    iblk m c 7 (even r) (ix3 h x y) = V m c main_v173 (ix3 h x y) := by
  show V m c main_v173 (((cfg0.win 7).blk (even r)).view.emb (ix3 h x y)) = _
  refine congrArg (V m c main_v173) (funext fun a => Fin.ext ?_)
  obtain ⟨e0, e1, e2⟩ := idx7 r
  match a with
  | ⟨0, _⟩ =>
    show win0_7.index (even r) (0 : Fin 3) * 4 + 1 * h.val = h.val
    rw [e0]; omega
  | ⟨1, _⟩ =>
    show win0_7.index (even r) (1 : Fin 3) * 128 + 1 * x.val = x.val
    rw [e1]; omega
  | ⟨2, _⟩ =>
    show win0_7.index (even r) (2 : Fin 3) * 256 + 1 * y.val = y.val
    rw [e2]; omega

/-- The arrays the host operations leave hold the reals of `d`. -/
structure Ready (d : Data) (c : Dev nD) : Prop where
  q : ∀ r i h e, V m c main_v176 (ix2 (line r i) (col h e)) = ((d.q r i h e : ℝ) : EReal)
  k : ∀ r i h e, V m c main_v179 (ix2 (line r i) (col h e)) = ((d.k r i h e : ℝ) : EReal)
  v : ∀ r i h e, V m c main_v182 (ix2 (line r i) (col h e)) = ((d.v r i h e : ℝ) : EReal)
  dl : ∀ r i h e, V m c main_v185 (ix2 (line r i) (col h e)) = ((d.delta r h i : ℝ) : EReal)
  g : ∀ r i h e, V m c main_v188 (ix2 (line r i) (col h e)) = ((d.g r i h e : ℝ) : EReal)
  l : ∀ r i h e, V m c main_v191 (ix2 (line r i) (col h e)) = ((Real.log (d.tot r h i) : ℝ) : EReal)
  b : ∀ (h : Fin 4) (a : Fin 128) (x : Fin 256) (i key : Fin 512), key.val + 64 + a.val = x.val + i.val →
    V m c main_v173 (ix3 h a x) = if Near i key then ((d.b h (dist i key) : ℝ) : EReal) else ⊥

/-- The sub-blocks of a residue class. -/
def subAt (c : Dev nD) (r : Fin 16) : Fin 4 → Sub Ideal := fun j =>
  psub (BitVec.ofNat 32 (grid0.coords (even r) 1).val) (iblk m c 0 (even r)) (iblk m c 1 (even r)) (iblk m c 2 (even r))
    (iblk m c 3 (even r)) (iblk m c 4 (even r)) (iblk m c 5 (even r)) (iblk m c 6 (even r)) (iblk m c 7 (even r))
    (iblk m c 8 (even r)) (iblk m c 9 (even r)) (iblk m c 10 (even r)) (128 * j.val) (by omega)

theorem rows_idx (j : Fin 4) (a : Fin 128) (y : Fin 256) :
    (rows (128 * j.val) (by omega)).idx (ix2 a y) = ix2 (pos j a) y := by
  funext b
  match b with
  | ⟨0, _⟩ => exact Fin.ext (by show 128 * j.val + 1 * a.val = 128 * j.val + a.val; omega)
  | ⟨1, _⟩ => exact Fin.ext (by show 0 + 1 * y.val = y.val; omega)

/-- Inside the sequence a window's row is the current block's. -/
theorem win_read (j : Fin 4) (p : Vec Ideal S64x256 .bf16) (b : Vec Ideal S512x256 .bf16) (n : Vec Ideal S64x256 .bf16)
    (x : Fin 256) (key : Fin 512) (hk : 64 + key.val = 128 * j.val + x.val) (y : Fin 256) :
    win (128 * j.val) (by omega) p b n (ix2 x y) = b (ix2 key y) := by
  unfold win
  simp only [pointwise]
  have e : 128 * j.val + x.val = 64 + key.val := hk.symm
  rw [dif_neg (by show ¬ (128 * j.val + x.val < 64); omega), dif_pos (by show 128 * j.val + x.val - 64 < 512; omega)]
  exact congrArg b (congrArg₂ ix2 (Fin.ext (by show 128 * j.val + x.val - 64 = key.val; omega)) (Fin.ext (by
    show 0 + y.val = y.val; omega)))

/-- The range test of a window's column. -/
theorem ok_word (n : ℕ) (hn : n < 1000) :
    IntOp.andi (IntOp.cmpi .sge (IntOp.addi (Scalar.subi (Scalar.muli 0#32 512#32) 64#32) (BitVec.ofNat 32 n)) 0#32)
      (IntOp.cmpi .slt (IntOp.addi (Scalar.subi (Scalar.muli 0#32 512#32) 64#32) (BitVec.ofNat 32 n)) 512#32) =
    if 64 ≤ n ∧ n < 576 then 1#1 else 0#1 := by
  have : ∀ n : Fin 1000,
      IntOp.andi (IntOp.cmpi .sge (IntOp.addi (Scalar.subi (Scalar.muli 0#32 512#32) 64#32) (BitVec.ofNat 32 n.val)) 0#32)
        (IntOp.cmpi .slt (IntOp.addi (Scalar.subi (Scalar.muli 0#32 512#32) 64#32) (BitVec.ofNat 32 n.val)) 512#32) =
      if 64 ≤ n.val ∧ n.val < 576 then 1#1 else 0#1 := by decide +kernel
  exact this ⟨n, hn⟩

/-- The range test as the sub-block reads it. -/
theorem ok_read (j : Fin 4) (x : Fin 256) :
    extractStridedSlice S1x256 ![0, 128 * j.val] (k0_pay7 (BitVec.ofNat 32 0)) (sliceOk (128 * j.val) (by omega)) (ix2 0 x) =
      if 64 ≤ 128 * j.val + x.val ∧ 128 * j.val + x.val < 576 then 1#1 else 0#1 := by
  unfold k0_pay7
  simp only [pointwise]
  refine (ok_word (0 * 640 + (128 * j.val + x.val)) (by omega)).trans ?_
  rw [Nat.zero_mul, Nat.zero_add]

/-- A sub-block holds the model's reals if its blocks do. -/
theorem psub_holds {d : Data} {r : Fin 16} (x0 : Vec Ideal S512x256 .bf16) (x1 : Vec Ideal S64x256 .bf16)
    (x2 : Vec Ideal S512x256 .bf16) (x3 x4 : Vec Ideal S64x256 .bf16) (x5 : Vec Ideal S512x256 .bf16)
    (x6 : Vec Ideal S64x256 .bf16) (x7 : Vec Ideal S4x128x256 .f32) (x8 : Vec Ideal S512x256 .f32)
    (x9 : Vec Ideal S512x256 .bf16) (x10 : Vec Ideal S512x256 .f32)
    (h0 : ∀ i h e, x0 (ix2 i (col h e)) = ((d.q r i h e : ℝ) : EReal))
    (h2 : ∀ i h e, x2 (ix2 i (col h e)) = ((d.k r i h e : ℝ) : EReal))
    (h5 : ∀ i h e, x5 (ix2 i (col h e)) = ((d.v r i h e : ℝ) : EReal))
    (h7 : ∀ (h : Fin 4) (a : Fin 128) (x : Fin 256) (i key : Fin 512), key.val + 64 + a.val = x.val + i.val →
      x7 (ix3 h a x) = if Near i key then ((d.b h (dist i key) : ℝ) : EReal) else ⊥)
    (h8 : ∀ i h e, x8 (ix2 i (col h e)) = ((d.delta r h i : ℝ) : EReal))
    (h9 : ∀ i h e, x9 (ix2 i (col h e)) = ((d.g r i h e : ℝ) : EReal))
    (h10 : ∀ i h e, x10 (ix2 i (col h e)) = ((Real.log (d.tot r h i) : ℝ) : EReal)) (j : Fin 4) :
    Holds d r j (psub (BitVec.ofNat 32 0) x0 x1 x2 x3 x4 x5 x6 x7 x8 x9 x10 (128 * j.val) (by omega)) where
  q a h e := by
    have es : shapeCast S128x256 (View.ld x0 (rows (128 * j.val) (by omega))) shapeCasts_S128x256_S128x256 =
        View.ld x0 (rows (128 * j.val) (by omega)) := shapeCast_self (s := S128x256) _ _
    exact (congrFun es (ix2 a (col h e))).trans ((congrArg x0 (rows_idx j a (col h e))).trans (h0 _ _ _))
  g a h e := by
    have es : shapeCast S128x256 (View.ld x9 (rows (128 * j.val) (by omega))) shapeCasts_S128x256_S128x256 =
        View.ld x9 (rows (128 * j.val) (by omega)) := shapeCast_self (s := S128x256) _ _
    exact (congrFun es (ix2 a (col h e))).trans ((congrArg x9 (rows_idx j a (col h e))).trans (h9 _ _ _))
  dl a h := by
    have es : shapeCast S128x256 (View.ld x8 (rows (128 * j.val) (by omega))) shapeCasts_S128x256_S128x256 =
        View.ld x8 (rows (128 * j.val) (by omega)) := shapeCast_self (s := S128x256) _ _
    exact (congrFun es (ix2 a (col h 0))).trans ((congrArg x8 (rows_idx j a (col h 0))).trans (h8 _ _ _))
  l a h := by
    have es : shapeCast S128x256 (View.ld x10 (rows (128 * j.val) (by omega))) shapeCasts_S128x256_S128x256 =
        View.ld x10 (rows (128 * j.val) (by omega)) := shapeCast_self (s := S128x256) _ _
    exact (congrFun es (ix2 a (col h 0))).trans ((congrArg x10 (rows_idx j a (col h 0))).trans (h10 _ _ _))
  k x key hk h e := (win_read j _ _ _ x key hk (col h e)).trans (h2 _ _ _)
  v x key hk h e := (win_read j _ _ _ x key hk (col h e)).trans (h5 _ _ _)
  ok x := ok_read j x
  b a x key hk h := by
    have e : (headRect h).idx (ix3 (0 : Fin 1) a x) = ix3 h a x := by
      funext b
      match b with
      | ⟨0, _⟩ => exact Fin.ext (by show h.val + 1 * 0 = h.val; omega)
      | ⟨1, _⟩ => exact Fin.ext (by show 0 + 1 * a.val = a.val; omega)
      | ⟨2, _⟩ => exact Fin.ext (by show 0 + 1 * x.val = x.val; omega)
    exact (congrArg x7 e).trans
      (h7 h a x (pos j a) key (by show key.val + 64 + a.val = x.val + (128 * j.val + a.val); omega))

variable {m} in
/-- The sub-blocks hold the model's reals. -/
theorem Ready.holds {d : Data} {c : Dev nD} (R : Ready m d c) (r : Fin 16) (j : Fin 4) : Holds d r j (subAt m c r j) := by
  unfold subAt
  rw [coord_even]
  exact psub_holds _ _ _ _ _ _ _ _ _ _ _ (fun i h e => (blk0 m c r i _).trans (R.q r i h e))
    (fun i h e => (blk2 m c r i _).trans (R.k r i h e)) (fun i h e => (blk5 m c r i _).trans (R.v r i h e))
    (fun h a x i key hk => (blk7 m c r h a x).trans (R.b h a x i key hk))
    (fun i h e => (blk8 m c r i _).trans (R.dl r i h e)) (fun i h e => (blk9 m c r i _).trans (R.g r i h e))
    (fun i h e => (blk10 m c r i _).trans (R.l r i h e)) j

set_option maxHeartbeats 4000000 in
/-- What a point with `t` even leaves in the query gradients and the accumulators. -/
theorem leaves_at (c : Dev nD) (t : Fin cfg0.N) (h2 : t.val % 2 = 0) :
    Leaves (outsAt0 m c t.val t.isLt).1 (outsAt0 m c t.val t.isLt).2.2.2.2.1 (outsAt0 m c t.val t.isLt).2.2.2.2.2
      (fun j => psub (BitVec.ofNat 32 (grid0.coords t 1).val) (iblk m c 0 t) (iblk m c 1 t) (iblk m c 2 t) (iblk m c 3 t) (iblk m c 4 t) (iblk m c 5 t) (iblk m c 6 t) (iblk m c 7 t) (iblk m c 8 t) (iblk m c 9 t) (iblk m c 10 t) (128 * j.val) (by omega)) := by
  by_cases h0 : t.val % 32 = 0
  · rw [outsAt0_A m c t h0 h2 h2]
    exact leavesA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) ((hcond0_1 t).mpr h2) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t)
  · rw [outsAt0_C m c t h0 h2 h2]
    exact leavesC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h2) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1

set_option maxHeartbeats 4000000 in
/-- A point with `t` odd keeps the query gradients. -/
theorem kept_at (c : Dev nD) (t : Fin cfg0.N) (h2 : ¬ t.val % 2 = 0) :
    (outsAt0 m c t.val t.isLt).1 = (outsAt0 m c (t.val - 1) (Nat.lt_of_le_of_lt (Nat.sub_le _ _) t.isLt)).1 := by
  have h0 : ¬ t.val % 32 = 0 := by omega
  rw [outsAt0_B m c t h0 h2 h2]
  exact kept c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h2 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

set_option maxHeartbeats 4000000 in
/-- A point with `t` odd writes out the first accumulator. -/
theorem written0_at (c : Dev nD) (t : Fin cfg0.N) (h2 : ¬ t.val % 2 = 0) (x : Fin 512) (f : Fin 256) :
    (outsAt0 m c t.val t.isLt).2.1 (ix2 x f) = (outsAt0 m c (t.val - 1) (Nat.lt_of_le_of_lt (Nat.sub_le _ _) t.isLt)).2.2.2.2.1 (ix2 f (⟨64 + x.val, by omega⟩ : Fin 1152)) := by
  have h0 : ¬ t.val % 32 = 0 := by omega
  rw [outsAt0_B m c t h0 h2 h2]
  exact written0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h2 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 x f

set_option maxHeartbeats 4000000 in
/-- A point with `t` odd writes out the second accumulator. -/
theorem written1_at (c : Dev nD) (t : Fin cfg0.N) (h2 : ¬ t.val % 2 = 0) (x : Fin 512) (f : Fin 256) :
    (outsAt0 m c t.val t.isLt).2.2.1 (ix2 x f) = (outsAt0 m c (t.val - 1) (Nat.lt_of_le_of_lt (Nat.sub_le _ _) t.isLt)).2.2.2.2.2 (ix2 f (⟨64 + x.val, by omega⟩ : Fin 1152)) := by
  have h0 : ¬ t.val % 32 = 0 := by omega
  rw [outsAt0_B m c t h0 h2 h2]
  exact written1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h2 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 x f

theorem even_leaves (c : Dev nD) (r : Fin 16) :
    Leaves (outsAt0 m c (even r).val (even r).isLt).1 (outsAt0 m c (even r).val (even r).isLt).2.2.2.2.1
      (outsAt0 m c (even r).val (even r).isLt).2.2.2.2.2 (subAt m c r) :=
  leaves_at m c (even r) (by show 2 * r.val % 2 = 0; omega)

/-- What an odd point leaves in the three gradients. -/
theorem odd_leaves (c : Dev nD) (r : Fin 16) :
    (outsAt0 m c (odd r).val (odd r).isLt).1 = (outsAt0 m c (even r).val (even r).isLt).1 ∧
    (∀ (x : Fin 512) (f : Fin 256), (outsAt0 m c (odd r).val (odd r).isLt).2.1 (ix2 x f) =
      (outsAt0 m c (even r).val (even r).isLt).2.2.2.2.1 (ix2 f (⟨64 + x.val, by omega⟩ : Fin 1152))) ∧
    (∀ (x : Fin 512) (f : Fin 256), (outsAt0 m c (odd r).val (odd r).isLt).2.2.1 (ix2 x f) =
      (outsAt0 m c (even r).val (even r).isLt).2.2.2.2.2 (ix2 f (⟨64 + x.val, by omega⟩ : Fin 1152))) := by
  have h2 : ¬ (odd r).val % 2 = 0 := by show ¬ (2 * r.val + 1) % 2 = 0; omega
  have e := outs_congr m c (show (odd r).val - 1 = (even r).val by show 2 * r.val + 1 - 1 = 2 * r.val; omega)
    (Nat.lt_of_le_of_lt (Nat.sub_le _ _) (odd r).isLt) (even r).isLt
  refine ⟨?_, fun x f => ?_, fun x f => ?_⟩
  · rw [kept_at m c (odd r) h2, e]
  · rw [written0_at m c (odd r) h2, e]
  · rw [written1_at m c (odd r) h2, e]

theorem G11_line (c : Dev nD) (r : Fin 16) (i : Fin 512) (y : Fin 256) :
    G11 m c (ix2 (line r i) y) = (outsAt0 m c (odd r).val (odd r).isLt).1 (ix2 i y) := by
  have hp : pt11Of (ix2 (line r i) y) = (odd r).val := by
    show 2 * ((r.val * 512 + i.val) / 512) + 1 = 2 * r.val + 1; omega
  have hl : loc11Of (ix2 (line r i) y) = ix2 i y := by
    funext a
    match a with
    | ⟨0, _⟩ => exact Fin.ext (by show (r.val * 512 + i.val) % 512 = i.val; omega)
    | ⟨1, _⟩ => exact Fin.ext (by show y.val % 256 = y.val; omega)
  unfold G11
  rw [dif_pos (by rw [hp]; exact (odd r).isLt), hl, outs_congr m c hp _ (odd r).isLt]

theorem G12_line (c : Dev nD) (r : Fin 16) (i : Fin 512) (y : Fin 256) :
    G12 m c (ix2 (line r i) y) = (outsAt0 m c (odd r).val (odd r).isLt).2.1 (ix2 i y) := by
  have hp : pt12Of (ix2 (line r i) y) = (odd r).val := by
    show 2 * ((r.val * 512 + i.val) / 512) + 1 = 2 * r.val + 1; omega
  have hl : loc12Of (ix2 (line r i) y) = ix2 i y := by
    funext a
    match a with
    | ⟨0, _⟩ => exact Fin.ext (by show (r.val * 512 + i.val) % 512 = i.val; omega)
    | ⟨1, _⟩ => exact Fin.ext (by show y.val % 256 = y.val; omega)
  unfold G12
  rw [dif_pos (by rw [hp]; exact (odd r).isLt), hl, outs_congr m c hp _ (odd r).isLt]

theorem G13_line (c : Dev nD) (r : Fin 16) (i : Fin 512) (y : Fin 256) :
    G13 m c (ix2 (line r i) y) = (outsAt0 m c (odd r).val (odd r).isLt).2.2.1 (ix2 i y) := by
  have hp : pt13Of (ix2 (line r i) y) = (odd r).val := by
    show 2 * ((r.val * 512 + i.val) / 512) + 1 = 2 * r.val + 1; omega
  have hl : loc13Of (ix2 (line r i) y) = ix2 i y := by
    funext a
    match a with
    | ⟨0, _⟩ => exact Fin.ext (by show (r.val * 512 + i.val) % 512 = i.val; omega)
    | ⟨1, _⟩ => exact Fin.ext (by show y.val % 256 = y.val; omega)
  unfold G13
  rw [dif_pos (by rw [hp]; exact (odd r).isLt), hl, outs_congr m c hp _ (odd r).isLt]

section Gradients

variable {m} {d : Data} {c : Dev nD} (R : Ready m d c) (r : Fin 16) (i : Fin 512) (h : Fin 4) (e : Fin 64)
include R

/-- The gradient with respect to the queries. -/
theorem Ready.dq : G11 m c (ix2 (line r i) (col h e)) = ((d.dq r h i e : ℝ) : EReal) := by
  rw [G11_line, (odd_leaves m c r).1]
  have hi : i = pos ⟨i.val / 128, by omega⟩ ⟨i.val % 128, by omega⟩ :=
    Fin.ext (by show i.val = 128 * (i.val / 128) + i.val % 128; omega)
  rw [hi]
  exact ((even_leaves m c r).1 _ _ _).trans ((R.holds r _).dq_val h _ e)

/-- The gradient with respect to the keys. -/
theorem Ready.dk : G12 m c (ix2 (line r i) (col h e)) = ((d.dk r h i e : ℝ) : EReal) := by
  rw [G12_line, (odd_leaves m c r).2.1]
  exact ((even_leaves m c r).2.1 _ _ (by omega)).trans (shares_dk (fun j => R.holds r j) h i e)

/-- The gradient with respect to the values. -/
theorem Ready.dv : G13 m c (ix2 (line r i) (col h e)) = ((d.dv r h i e : ℝ) : EReal) := by
  rw [G13_line, (odd_leaves m c r).2.2]
  exact ((even_leaves m c r).2.2 _ _ (by omega)).trans (shares_dv (fun j => R.holds r j) h i e)

end Gradients

end Cert.AttKernelIdeal.Own

end
-- ==== Proof.HostValue.lean ====
/-
  What the region finds: the arrays the host operations leave hold the model's reals.
-/
module

public import proofs.«01_k».proof.Proof.HostLine
public import proofs.«01_k».proof.Proof.RefForward
public import proofs.«01_k».proof.Proof.Region

@[expose] public section

set_option maxRecDepth 16384

noncomputable section

namespace Cert.AttKernelIdeal.Own

open Cert.AttKernelIdeal Cert.AttKernelIdeal.Gen Idealize.ShloMosaic Idealize.ShloMosaic.TcCoe Idealize.SL.Sem
open Idealize.ShloMosaic.StableHlo BandAttention

/-- The distance of a window's column from a row of the sub-block, as a word. -/
def word (a : Fin 128) (x : Fin 256) : BitVec 32 := (BitVec.ofNat 32 x.val - 64#32) - BitVec.ofNat 32 a.val

/-- The table rows a window's entries choose. -/
def rowsOf : S128x256x1.Idx → BitVec 32 := fun y => bucket (word (y 0) (y 1))

/-- The band of a window. -/
def bandOf : S128x256.Idx → BitVec 1 := fun y => inBand (word (y 0) (y 1))

/-- The bias of a window. -/
def biasOf (x3 : (⟨S32x4, .f32⟩ : BufTy).Contents (Elt Ideal)) : (⟨S4x128x256, .f32⟩ : BufTy).Contents (Elt Ideal) :=
  select (broadcastInDim S4x128x256 ![1, 2] bcast_S128x256_S4x128x256_1_2 bandOf)
    (transpose S4x128x256 [2, 0, 1] (Host.gather gather_S32x4_S128x256x1_S128x256x4_2_0_n_n_0_2_14 x3 rowsOf)
      transposes_S128x256x4_S4x128x256_2_0_1)
    (broadcastInDim S4x128x256 ![] bcast_S_S4x128x256 (constant (F := Ideal) S_ .f32 0xFF800000#32))

set_option maxHeartbeats 8000000 in
theorem line6_v173 (W : Valuation τ sig (Elt Ideal)) (x3 : (⟨S32x4, .f32⟩ : BufTy).Contents (Elt Ideal))
    (h3 : W (Proc.devRef .tc main_arg3) = x3) :
    after line6 W (Proc.devRef .tc main_v173) = biasOf x3 := by
  simp only [line6, hostOps0_7, hostOps0_8, hostOps0_9, hostOps0_10, hostOps0_11, List.cons_append, List.nil_append, hostOps0_6, List.take_succ_cons, List.take_zero, List.drop_succ_cons, List.drop_zero]
  after_results_simp
  simp only [h3]
  rfl

section Run
variable (m : (ℓ : Loc nD τ sig) → Buf (Elt Ideal) ℓ) (c : Dev nD)

/-- The buffers after each line. -/
def W0 : Valuation τ sig (Elt Ideal) := after line0 fun b => m (c, b)
def W1 : Valuation τ sig (Elt Ideal) := after line1 (W0 m c)
def W2 : Valuation τ sig (Elt Ideal) := after line2 (W1 m c)
def W3 : Valuation τ sig (Elt Ideal) := after line3 (W2 m c)
def W4 : Valuation τ sig (Elt Ideal) := after line4 (W3 m c)
def W5 : Valuation τ sig (Elt Ideal) := after line5 (W4 m c)
def W6 : Valuation τ sig (Elt Ideal) := after line6 (W5 m c)
def W7 : Valuation τ sig (Elt Ideal) := after line7 (W6 m c)

/-- The operations, line by line. -/
theorem lines : List.flatten [hostOps0, hostOps0_1, hostOps0_2, hostOps0_3, hostOps0_4, hostOps0_5, hostOps0_6, hostOps0_7,
    hostOps0_8, hostOps0_9, hostOps0_10, hostOps0_11, hostOps0_12] =
    line0 ++ (line1 ++ (line2 ++ (line3 ++ (line4 ++ (line5 ++ (line6 ++ (line7 : List (HloOp τ sig (Elt Ideal))))))))) := by
  simp only [line0, line1, line2, line3, line4, line5, line6, line7, List.flatten_cons, List.flatten_nil, List.append_nil, List.append_assoc]
  refine congrArg _ (congrArg _ (congrArg _ (congrArg _ (congrArg _ (congrArg _ ?_)))))
  generalize hostOps0_7 ++ (hostOps0_8 ++ (hostOps0_9 ++ (hostOps0_10 ++ (hostOps0_11 ++ (hostOps0_12 : List (HloOp τ sig (Elt Ideal))))))) = L
  generalize (hostOps0_6 : List (HloOp τ sig (Elt Ideal))) = M
  have e1 : M.drop 23 = (M.drop 23).take 14 ++ M.drop 37 := by
    rw [← List.drop_drop (i := 14) (j := 23) (l := M) |>.trans rfl, List.take_append_drop]
  have e2 : M.drop 37 = (M.drop 37).take 19 ++ M.drop 56 := by
    rw [← List.drop_drop (i := 19) (j := 37) (l := M) |>.trans rfl, List.take_append_drop]
  have e3 : M.drop 56 = (M.drop 56).take 12 ++ M.drop 68 := by
    rw [← List.drop_drop (i := 12) (j := 56) (l := M) |>.trans rfl, List.take_append_drop]
  have e : M = M.take 23 ++ ((M.drop 23).take 14 ++ ((M.drop 37).take 19 ++ ((M.drop 56).take 12 ++ M.drop 68))) := by
    rw [← e3, ← e2, ← e1, List.take_append_drop]
  conv_lhs => rw [e]
  simp only [List.append_assoc]

theorem V_eq (b : Ref sig .tc) : V m c b = W7 m c (Proc.devRef .tc b) := by
  show after _ _ _ = _
  rw [lines]
  simp only [after_append]
  rfl
end Run

end Cert.AttKernelIdeal.Own

end
-- ==== Proof.HostReady.lean ====
/-
  The arrays the region finds hold the model's reals.
-/
module

public import proofs.«01_k».proof.Proof.HostValue

@[expose] public section

set_option maxRecDepth 16384

noncomputable section

namespace Cert.AttKernelIdeal.Own

open Cert.AttKernelIdeal Cert.AttKernelIdeal.Gen Idealize.ShloMosaic Idealize.ShloMosaic.TcCoe Idealize.SL.Sem
open Idealize.ShloMosaic.StableHlo BandAttention

/-! ## The layouts, index by index -/

theorem laid_line {α : Type} (x : S8192x256.Idx → α) (r : Fin 16) (i : Fin 512) (f : Fin 256) :
    laid x (ix2 (line r i) f) = x (ix2 (row r i) f) := by
  unfold laid
  simp only [pointwise]
  refine congrArg x (congrArg₂ ix2 (Fin.ext ?_) rfl)
  show (r.val * 512 + i.val) % 512 * 16 + (r.val * 512 + i.val) / 512 = i.val * 16 + r.val
  omega

theorem wide_line {α : Type} (y : S16x512x4.Idx → α) (r : Fin 16) (i : Fin 512) (h : Fin 4) (e : Fin 64) :
    widened y (ix2 (line r i) (col h e)) = y (ix3 r i h) := by
  unfold widened
  simp only [pointwise]
  have e1 : (⟨(line r i).val / 512, by have := (line r i).isLt; omega⟩ : Fin 16) = r :=
    Fin.ext (by show (r.val * 512 + i.val) / 512 = r.val; omega)
  have e2 : (⟨(line r i).val % 512, by omega⟩ : Fin 512) = i :=
    Fin.ext (by show (r.val * 512 + i.val) % 512 = i.val; omega)
  have e3 : (⟨(col h e).val / 64, by have := (col h e).isLt; omega⟩ : Fin 4) = h :=
    Fin.ext (by show (h.val * 64 + e.val) / 64 = h.val; omega)
  have k3 : ∀ {a a' : Fin 16} {b b' : Fin 512} {u u' : Fin 4}, a = a' → b = b' → u = u' →
      (ix3 a b u : S16x512x4.Idx) = ix3 a' b' u' := by
    rintro _ _ _ _ _ _ rfl rfl rfl; rfl
  exact congrArg y (k3 ((dif_neg (show ¬ (16 : ℕ) = 1 by decide)).trans ((dif_neg (show ¬ (16 : ℕ) = 1 by decide)).trans e1))
    ((dif_neg (show ¬ (512 : ℕ) = 1 by decide)).trans ((dif_neg (show ¬ (512 : ℕ) = 1 by decide)).trans e2))
    ((dif_neg (show ¬ (4 : ℕ) = 1 by decide)).trans ((dif_neg (show ¬ (4 : ℕ) = 1 by decide)).trans e3)))

theorem bias_line (x3 : (⟨S32x4, .f32⟩ : BufTy).Contents (Elt Ideal)) (h : Fin 4) (a : Fin 128) (x : Fin 256) :
    biasOf x3 (ix3 h a x) = Scalar.select (inBand (word a x)) (entry x3 h (word a x)) ⊥ := by
  unfold biasOf
  simp only [pointwise]
  rw [bot_f32]
  refine congrArg (fun z : EReal => Scalar.select (inBand (word a x)) z (⊥ : EReal)) ?_
  exact gather_rows (by omega) _ rfl rfl rfl rfl rfl rfl rfl x3 _ a x h

/-- A window's column and a row of its sub-block, by the positions of key and query. -/
theorem word_dist (a : Fin 128) (x : Fin 256) (i key : Fin 512) (hk : key.val + 64 + a.val = x.val + i.val) :
    word a x = BandAttention.dist i key := by
  have e : BitVec.ofNat 32 key.val + 64#32 + BitVec.ofNat 32 a.val = BitVec.ofNat 32 x.val + BitVec.ofNat 32 i.val := by
    rw [← BitVec.ofNat_add, ← BitVec.ofNat_add, ← BitVec.ofNat_add, hk]
  unfold word BandAttention.dist
  generalize BitVec.ofNat 32 key.val = u at *
  generalize BitVec.ofNat 32 a.val = v at *
  generalize BitVec.ofNat 32 x.val = w at *
  generalize BitVec.ofNat 32 i.val = z at *
  bv_omega

section Reals
variable {d : Data} {x0 x1 x2 x8 : (⟨S8192x256, .bf16⟩ : BufTy).Contents (Elt Ideal)} {x3 : (⟨S32x4, .f32⟩ : BufTy).Contents (Elt Ideal)}
  {x4 x6 : (⟨S8192x4x64, .f32⟩ : BufTy).Contents (Elt Ideal)} {x5 x7 : (⟨S8192x4, .f32⟩ : BufTy).Contents (Elt Ideal)}
  (A : Agrees d x0 x1 x2 x3 x4 x5 x6 x7 x8)
include A

theorem totalLog_real (r : Fin 16) (i : Fin 512) (h : Fin 4) :
    totalLog (F := Ideal) x0 x1 x3 x5 x7 (ix3 r i h) = ((Real.log (d.tot r h i) : ℝ) : EReal) := by
  have hs : ∑ k : Fin 3, Ideal.exp (Cert.AttReferenceIdeal.Read.val_main_v97 (F := Ideal) x0 x1 x3 x5 x7 (ix4 k r i h) -
      Cert.AttReferenceIdeal.Read.val_main_v100 (F := Ideal) x0 x1 x3 x5 x7 (ix3 r i h)) =
      ((d.tot r h i * Ref.E3 d r i h : ℝ) : EReal) := by
    refine (sum_of _ _ (fun g => Ref.el d g r i h * Ref.E3 d r i h) fun g => ?_).trans
      (congrArg Real.toEReal (Ref.sum_el d r i h _))
    rw [Ref.t97 A, Ref.t100 A, ← EReal.coe_sub, exp_coe]
    exact congrArg Real.toEReal (Ref.exp_log_el d g r i h _)
  unfold totalLog
  simp only [pointwise]
  refine (congrArg₂ (fun u w : EReal => u + Ideal.log (0 + w)) (Ref.t100 A (ix3 r i h)) hs).trans ?_
  beta_reduce
  rw [zero_add, log_coe _ (Ref.tE_pos d r i h), ← EReal.coe_add]
  exact congrArg Real.toEReal (d.log_shift_tot r h _ i)

theorem rowDot_real (r : Fin 16) (i : Fin 512) (h : Fin 4) :
    rowDot (F := Ideal) x0 x1 x2 x8 x3 x4 x6 x5 x7 (ix3 r i h) = ((d.delta r h i : ℝ) : EReal) := by
  have hj : ∀ e : Fin 64, Cert.AttReferenceIdeal.Read.val_main_v137 (F := Ideal) x0 x1 x2 x3 x4 x5 x6 x7 (ix4 r i h e) =
      ((d.att r h i e : ℝ) : EReal) := by
    intro e
    rw [Cert.AttReferenceIdeal.Read.val_main_v137_apply, Cert.AttReferenceIdeal.Read.val_main_cst_32_apply, Ideal.ofBits_def,
      Ideal.ofBits_zero_f32, zero_add]
    refine (sum_of _ _ (fun g => Ref.el d g r i h / d.tot r h i * Ref.outs d g r i h e) fun g => ?_).trans
      (congrArg Real.toEReal (Fin.sum_univ_three _))
    rw [Cert.AttReferenceIdeal.Read.val_main_v136_apply, Cert.AttReferenceIdeal.Read.val_main_v135_apply,
      Cert.AttReferenceIdeal.Read.val_main_v128_apply, Ref.t124 A, Ref.t132 A, Ideal.mulf_def, ← EReal.coe_mul]
    rfl
  unfold rowDot
  simp only [pointwise]
  rw [zero_add]
  refine sum_of _ _ (fun e => d.att r h i e * d.g r i h e) fun e => ?_
  rw [EReal.coe_mul]
  exact congrArg₂ (fun u w : EReal => u * w) (hj e) (Ref.t141 A (ix4 r i h e))
end Reals

/-! ## The lines, one after the other -/

section Run
variable (m : (ℓ : Loc nD τ sig) → Buf (Elt Ideal) ℓ) (c : Dev nD)

theorem at0_v1 : W0 m c (Proc.devRef .tc main_v1) = Cert.AttReferenceIdeal.Read.val_main_v1 (F := Ideal) (m ((c : Thread nD τ).loc main_arg4)) := line0_v1 ..

theorem at0_v3 : W0 m c (Proc.devRef .tc main_v3) = Cert.AttReferenceIdeal.Read.val_main_v3 (F := Ideal) (m ((c : Thread nD τ).loc main_arg5)) := line0_v3 ..

theorem at0_v5 : W0 m c (Proc.devRef .tc main_v5) = Cert.AttReferenceIdeal.Read.val_main_v5 (F := Ideal) (m ((c : Thread nD τ).loc main_arg6)) := line0_v5 ..

theorem at0_v7 : W0 m c (Proc.devRef .tc main_v7) = Cert.AttReferenceIdeal.Read.val_main_v7 (F := Ideal) (m ((c : Thread nD τ).loc main_arg7)) := line0_v7 ..

theorem at0_v19 : W0 m c (Proc.devRef .tc main_v19) = Cert.AttReferenceIdeal.Read.val_main_v19 (F := Ideal) (m ((c : Thread nD τ).loc main_arg2)) := line0_v19 ..

theorem at0_v22 : W0 m c (Proc.devRef .tc main_v22) = Cert.AttReferenceIdeal.Read.val_main_v22 (F := Ideal) (m ((c : Thread nD τ).loc main_arg0)) (m ((c : Thread nD τ).loc main_arg1)) := line0_v22 ..

theorem at0_arg0 : W0 m c (Proc.devRef .tc main_arg0) = (m ((c : Thread nD τ).loc main_arg0)) := line0_arg0 ..

theorem at0_arg1 : W0 m c (Proc.devRef .tc main_arg1) = (m ((c : Thread nD τ).loc main_arg1)) := line0_arg1 ..

theorem at0_arg2 : W0 m c (Proc.devRef .tc main_arg2) = (m ((c : Thread nD τ).loc main_arg2)) := line0_arg2 ..

theorem at0_arg3 : W0 m c (Proc.devRef .tc main_arg3) = (m ((c : Thread nD τ).loc main_arg3)) := line0_arg3 ..

theorem at0_arg8 : W0 m c (Proc.devRef .tc main_arg8) = (m ((c : Thread nD τ).loc main_arg8)) := line0_arg8 ..

theorem at1_v1 : W1 m c (Proc.devRef .tc main_v1) = Cert.AttReferenceIdeal.Read.val_main_v1 (F := Ideal) (m ((c : Thread nD τ).loc main_arg4)) := (line1_v1 ..).trans (at0_v1 m c)

theorem at1_v3 : W1 m c (Proc.devRef .tc main_v3) = Cert.AttReferenceIdeal.Read.val_main_v3 (F := Ideal) (m ((c : Thread nD τ).loc main_arg5)) := (line1_v3 ..).trans (at0_v3 m c)

theorem at1_v5 : W1 m c (Proc.devRef .tc main_v5) = Cert.AttReferenceIdeal.Read.val_main_v5 (F := Ideal) (m ((c : Thread nD τ).loc main_arg6)) := (line1_v5 ..).trans (at0_v5 m c)

theorem at1_v7 : W1 m c (Proc.devRef .tc main_v7) = Cert.AttReferenceIdeal.Read.val_main_v7 (F := Ideal) (m ((c : Thread nD τ).loc main_arg7)) := (line1_v7 ..).trans (at0_v7 m c)

theorem at1_v19 : W1 m c (Proc.devRef .tc main_v19) = Cert.AttReferenceIdeal.Read.val_main_v19 (F := Ideal) (m ((c : Thread nD τ).loc main_arg2)) := (line1_v19 ..).trans (at0_v19 m c)

theorem at1_v22 : W1 m c (Proc.devRef .tc main_v22) = Cert.AttReferenceIdeal.Read.val_main_v22 (F := Ideal) (m ((c : Thread nD τ).loc main_arg0)) (m ((c : Thread nD τ).loc main_arg1)) := (line1_v22 ..).trans (at0_v22 m c)

theorem at1_arg0 : W1 m c (Proc.devRef .tc main_arg0) = (m ((c : Thread nD τ).loc main_arg0)) := (line1_arg0 ..).trans (at0_arg0 m c)

theorem at1_arg1 : W1 m c (Proc.devRef .tc main_arg1) = (m ((c : Thread nD τ).loc main_arg1)) := (line1_arg1 ..).trans (at0_arg1 m c)

theorem at1_arg2 : W1 m c (Proc.devRef .tc main_arg2) = (m ((c : Thread nD τ).loc main_arg2)) := (line1_arg2 ..).trans (at0_arg2 m c)

theorem at1_arg3 : W1 m c (Proc.devRef .tc main_arg3) = (m ((c : Thread nD τ).loc main_arg3)) := (line1_arg3 ..).trans (at0_arg3 m c)

theorem at1_arg8 : W1 m c (Proc.devRef .tc main_arg8) = (m ((c : Thread nD τ).loc main_arg8)) := (line1_arg8 ..).trans (at0_arg8 m c)

theorem at1_v67 : W1 m c (Proc.devRef .tc main_v67) = Cert.AttReferenceIdeal.Read.val_main_v67 (F := Ideal) (m ((c : Thread nD τ).loc main_arg3)) :=
  (line1_v67 (W0 m c) (line0_v32 _) (line0_v34 _) (line0_v36 _) (line0_c_2 _) (line0_c_3 _)).trans
    (congrArg (Cert.AttReferenceIdeal.Read.val_main_v67 (F := Ideal)) (at0_arg3 m c))

theorem at2_v81 : W2 m c (Proc.devRef .tc main_v81) = Cert.AttReferenceIdeal.Read.val_main_v86 (F := Ideal) (m ((c : Thread nD τ).loc main_arg0)) (m ((c : Thread nD τ).loc main_arg1)) (m ((c : Thread nD τ).loc main_arg3)) := line2_v81 (hv22 := at1_v22 m c) (hv67 := at1_v67 m c)

theorem at2_v86 : W2 m c (Proc.devRef .tc main_v86) = Cert.AttReferenceIdeal.Read.val_main_v94 (F := Ideal) (m ((c : Thread nD τ).loc main_arg0)) (m ((c : Thread nD τ).loc main_arg1)) (m ((c : Thread nD τ).loc main_arg3)) := line2_v86 (hv22 := at1_v22 m c) (hv67 := at1_v67 m c)

theorem at2_v85 : W2 m c (Proc.devRef .tc main_v85) = Cert.AttReferenceIdeal.Read.val_main_v93 (F := Ideal) (m ((c : Thread nD τ).loc main_arg0)) (m ((c : Thread nD τ).loc main_arg1)) (m ((c : Thread nD τ).loc main_arg2)) (m ((c : Thread nD τ).loc main_arg3)) := line2_v85 (hv22 := at1_v22 m c) (hv67 := at1_v67 m c) (hv19 := at1_v19 m c)

theorem at2_v87 : W2 m c (Proc.devRef .tc main_v87) = Cert.AttReferenceIdeal.Read.val_main_v95 (F := Ideal) (m ((c : Thread nD τ).loc main_arg5)) := line2_v87 (hv3 := at1_v3 m c)

theorem at2_v88 : W2 m c (Proc.devRef .tc main_v88) = Cert.AttReferenceIdeal.Read.val_main_v96 (F := Ideal) (m ((c : Thread nD τ).loc main_arg7)) := line2_v88 (hv7 := at1_v7 m c)

theorem at2_v1 : W2 m c (Proc.devRef .tc main_v1) = Cert.AttReferenceIdeal.Read.val_main_v1 (F := Ideal) (m ((c : Thread nD τ).loc main_arg4)) := (line2_v1 ..).trans (at1_v1 m c)

theorem at2_v3 : W2 m c (Proc.devRef .tc main_v3) = Cert.AttReferenceIdeal.Read.val_main_v3 (F := Ideal) (m ((c : Thread nD τ).loc main_arg5)) := (line2_v3 ..).trans (at1_v3 m c)

theorem at2_v5 : W2 m c (Proc.devRef .tc main_v5) = Cert.AttReferenceIdeal.Read.val_main_v5 (F := Ideal) (m ((c : Thread nD τ).loc main_arg6)) := (line2_v5 ..).trans (at1_v5 m c)

theorem at2_v7 : W2 m c (Proc.devRef .tc main_v7) = Cert.AttReferenceIdeal.Read.val_main_v7 (F := Ideal) (m ((c : Thread nD τ).loc main_arg7)) := (line2_v7 ..).trans (at1_v7 m c)

theorem at2_arg0 : W2 m c (Proc.devRef .tc main_arg0) = (m ((c : Thread nD τ).loc main_arg0)) := (line2_arg0 ..).trans (at1_arg0 m c)

theorem at2_arg1 : W2 m c (Proc.devRef .tc main_arg1) = (m ((c : Thread nD τ).loc main_arg1)) := (line2_arg1 ..).trans (at1_arg1 m c)

theorem at2_arg2 : W2 m c (Proc.devRef .tc main_arg2) = (m ((c : Thread nD τ).loc main_arg2)) := (line2_arg2 ..).trans (at1_arg2 m c)

theorem at2_arg3 : W2 m c (Proc.devRef .tc main_arg3) = (m ((c : Thread nD τ).loc main_arg3)) := (line2_arg3 ..).trans (at1_arg3 m c)

theorem at2_arg8 : W2 m c (Proc.devRef .tc main_arg8) = (m ((c : Thread nD τ).loc main_arg8)) := (line2_arg8 ..).trans (at1_arg8 m c)

theorem at3_v97 : W3 m c (Proc.devRef .tc main_v97) = totalLog (F := Ideal) (m ((c : Thread nD τ).loc main_arg0)) (m ((c : Thread nD τ).loc main_arg1)) (m ((c : Thread nD τ).loc main_arg3)) (m ((c : Thread nD τ).loc main_arg5)) (m ((c : Thread nD τ).loc main_arg7)) := line3_v97 (hv86 := at2_v86 m c) (hv87 := at2_v87 m c) (hv88 := at2_v88 m c)

theorem at3_v98 : W3 m c (Proc.devRef .tc main_v98) = Cert.AttReferenceIdeal.Read.val_main_v94 (F := Ideal) (m ((c : Thread nD τ).loc main_arg0)) (m ((c : Thread nD τ).loc main_arg1)) (m ((c : Thread nD τ).loc main_arg3)) := line3_v98 (hv81 := at2_v81 m c)

theorem at3_v99 : W3 m c (Proc.devRef .tc main_v99) = Cert.AttReferenceIdeal.Read.val_main_v95 (F := Ideal) (m ((c : Thread nD τ).loc main_arg5)) := line3_v99 (hv3 := at2_v3 m c)

theorem at3_v100 : W3 m c (Proc.devRef .tc main_v100) = Cert.AttReferenceIdeal.Read.val_main_v96 (F := Ideal) (m ((c : Thread nD τ).loc main_arg7)) := line3_v100 (hv7 := at2_v7 m c)

theorem at3_v1 : W3 m c (Proc.devRef .tc main_v1) = Cert.AttReferenceIdeal.Read.val_main_v1 (F := Ideal) (m ((c : Thread nD τ).loc main_arg4)) := (line3_v1 ..).trans (at2_v1 m c)

theorem at3_v5 : W3 m c (Proc.devRef .tc main_v5) = Cert.AttReferenceIdeal.Read.val_main_v5 (F := Ideal) (m ((c : Thread nD τ).loc main_arg6)) := (line3_v5 ..).trans (at2_v5 m c)

theorem at3_v85 : W3 m c (Proc.devRef .tc main_v85) = Cert.AttReferenceIdeal.Read.val_main_v93 (F := Ideal) (m ((c : Thread nD τ).loc main_arg0)) (m ((c : Thread nD τ).loc main_arg1)) (m ((c : Thread nD τ).loc main_arg2)) (m ((c : Thread nD τ).loc main_arg3)) := (line3_v85 ..).trans (at2_v85 m c)

theorem at3_arg0 : W3 m c (Proc.devRef .tc main_arg0) = (m ((c : Thread nD τ).loc main_arg0)) := (line3_arg0 ..).trans (at2_arg0 m c)

theorem at3_arg1 : W3 m c (Proc.devRef .tc main_arg1) = (m ((c : Thread nD τ).loc main_arg1)) := (line3_arg1 ..).trans (at2_arg1 m c)

theorem at3_arg2 : W3 m c (Proc.devRef .tc main_arg2) = (m ((c : Thread nD τ).loc main_arg2)) := (line3_arg2 ..).trans (at2_arg2 m c)

theorem at3_arg3 : W3 m c (Proc.devRef .tc main_arg3) = (m ((c : Thread nD τ).loc main_arg3)) := (line3_arg3 ..).trans (at2_arg3 m c)

theorem at3_arg8 : W3 m c (Proc.devRef .tc main_arg8) = (m ((c : Thread nD τ).loc main_arg8)) := (line3_arg8 ..).trans (at2_arg8 m c)

theorem at4_v113 : W4 m c (Proc.devRef .tc main_v113) = Cert.AttReferenceIdeal.Read.val_main_v128 (F := Ideal) (m ((c : Thread nD τ).loc main_arg0)) (m ((c : Thread nD τ).loc main_arg1)) (m ((c : Thread nD τ).loc main_arg3)) (m ((c : Thread nD τ).loc main_arg5)) (m ((c : Thread nD τ).loc main_arg7)) := line4_v113 (hv98 := at3_v98 m c) (hv99 := at3_v99 m c) (hv100 := at3_v100 m c)

theorem at4_v114 : W4 m c (Proc.devRef .tc main_v114) = Cert.AttReferenceIdeal.Read.val_main_v129 (F := Ideal) (m ((c : Thread nD τ).loc main_arg0)) (m ((c : Thread nD τ).loc main_arg1)) (m ((c : Thread nD τ).loc main_arg2)) (m ((c : Thread nD τ).loc main_arg3)) := line4_v114 (hv85 := at3_v85 m c)

theorem at4_v115 : W4 m c (Proc.devRef .tc main_v115) = Cert.AttReferenceIdeal.Read.val_main_v130 (F := Ideal) (m ((c : Thread nD τ).loc main_arg4)) := line4_v115 (hv1 := at3_v1 m c)

theorem at4_v116 : W4 m c (Proc.devRef .tc main_v116) = Cert.AttReferenceIdeal.Read.val_main_v131 (F := Ideal) (m ((c : Thread nD τ).loc main_arg6)) := line4_v116 (hv5 := at3_v5 m c)

theorem at4_v97 : W4 m c (Proc.devRef .tc main_v97) = totalLog (F := Ideal) (m ((c : Thread nD τ).loc main_arg0)) (m ((c : Thread nD τ).loc main_arg1)) (m ((c : Thread nD τ).loc main_arg3)) (m ((c : Thread nD τ).loc main_arg5)) (m ((c : Thread nD τ).loc main_arg7)) := (line4_v97 ..).trans (at3_v97 m c)

theorem at4_arg0 : W4 m c (Proc.devRef .tc main_arg0) = (m ((c : Thread nD τ).loc main_arg0)) := (line4_arg0 ..).trans (at3_arg0 m c)

theorem at4_arg1 : W4 m c (Proc.devRef .tc main_arg1) = (m ((c : Thread nD τ).loc main_arg1)) := (line4_arg1 ..).trans (at3_arg1 m c)

theorem at4_arg2 : W4 m c (Proc.devRef .tc main_arg2) = (m ((c : Thread nD τ).loc main_arg2)) := (line4_arg2 ..).trans (at3_arg2 m c)

theorem at4_arg3 : W4 m c (Proc.devRef .tc main_arg3) = (m ((c : Thread nD τ).loc main_arg3)) := (line4_arg3 ..).trans (at3_arg3 m c)

theorem at4_arg8 : W4 m c (Proc.devRef .tc main_arg8) = (m ((c : Thread nD τ).loc main_arg8)) := (line4_arg8 ..).trans (at3_arg8 m c)

theorem at5_v126 : W5 m c (Proc.devRef .tc main_v126) = rowDot (F := Ideal) (m ((c : Thread nD τ).loc main_arg0)) (m ((c : Thread nD τ).loc main_arg1)) (m ((c : Thread nD τ).loc main_arg2)) (m ((c : Thread nD τ).loc main_arg8)) (m ((c : Thread nD τ).loc main_arg3)) (m ((c : Thread nD τ).loc main_arg4)) (m ((c : Thread nD τ).loc main_arg6)) (m ((c : Thread nD τ).loc main_arg5)) (m ((c : Thread nD τ).loc main_arg7)) := line5_v126 (hv113 := at4_v113 m c) (hv114 := at4_v114 m c) (hv115 := at4_v115 m c) (hv116 := at4_v116 m c) (harg8 := at4_arg8 m c)

theorem at5_v97 : W5 m c (Proc.devRef .tc main_v97) = totalLog (F := Ideal) (m ((c : Thread nD τ).loc main_arg0)) (m ((c : Thread nD τ).loc main_arg1)) (m ((c : Thread nD τ).loc main_arg3)) (m ((c : Thread nD τ).loc main_arg5)) (m ((c : Thread nD τ).loc main_arg7)) := (line5_v97 ..).trans (at4_v97 m c)

theorem at5_arg0 : W5 m c (Proc.devRef .tc main_arg0) = (m ((c : Thread nD τ).loc main_arg0)) := (line5_arg0 ..).trans (at4_arg0 m c)

theorem at5_arg1 : W5 m c (Proc.devRef .tc main_arg1) = (m ((c : Thread nD τ).loc main_arg1)) := (line5_arg1 ..).trans (at4_arg1 m c)

theorem at5_arg2 : W5 m c (Proc.devRef .tc main_arg2) = (m ((c : Thread nD τ).loc main_arg2)) := (line5_arg2 ..).trans (at4_arg2 m c)

theorem at5_arg3 : W5 m c (Proc.devRef .tc main_arg3) = (m ((c : Thread nD τ).loc main_arg3)) := (line5_arg3 ..).trans (at4_arg3 m c)

theorem at5_arg8 : W5 m c (Proc.devRef .tc main_arg8) = (m ((c : Thread nD τ).loc main_arg8)) := (line5_arg8 ..).trans (at4_arg8 m c)

theorem at6_v97 : W6 m c (Proc.devRef .tc main_v97) = totalLog (F := Ideal) (m ((c : Thread nD τ).loc main_arg0)) (m ((c : Thread nD τ).loc main_arg1)) (m ((c : Thread nD τ).loc main_arg3)) (m ((c : Thread nD τ).loc main_arg5)) (m ((c : Thread nD τ).loc main_arg7)) := (line6_v97 ..).trans (at5_v97 m c)

theorem at6_v126 : W6 m c (Proc.devRef .tc main_v126) = rowDot (F := Ideal) (m ((c : Thread nD τ).loc main_arg0)) (m ((c : Thread nD τ).loc main_arg1)) (m ((c : Thread nD τ).loc main_arg2)) (m ((c : Thread nD τ).loc main_arg8)) (m ((c : Thread nD τ).loc main_arg3)) (m ((c : Thread nD τ).loc main_arg4)) (m ((c : Thread nD τ).loc main_arg6)) (m ((c : Thread nD τ).loc main_arg5)) (m ((c : Thread nD τ).loc main_arg7)) := (line6_v126 ..).trans (at5_v126 m c)

theorem at6_arg0 : W6 m c (Proc.devRef .tc main_arg0) = (m ((c : Thread nD τ).loc main_arg0)) := (line6_arg0 ..).trans (at5_arg0 m c)

theorem at6_arg1 : W6 m c (Proc.devRef .tc main_arg1) = (m ((c : Thread nD τ).loc main_arg1)) := (line6_arg1 ..).trans (at5_arg1 m c)

theorem at6_arg2 : W6 m c (Proc.devRef .tc main_arg2) = (m ((c : Thread nD τ).loc main_arg2)) := (line6_arg2 ..).trans (at5_arg2 m c)

theorem at6_arg8 : W6 m c (Proc.devRef .tc main_arg8) = (m ((c : Thread nD τ).loc main_arg8)) := (line6_arg8 ..).trans (at5_arg8 m c)

theorem at6_v173 : W6 m c (Proc.devRef .tc main_v173) = biasOf (m ((c : Thread nD τ).loc main_arg3)) := line6_v173 (W5 m c) _ (at5_arg3 m c)

theorem at7_v176 : W7 m c (Proc.devRef .tc main_v176) = laid (m ((c : Thread nD τ).loc main_arg0)) := line7_v176 (harg0 := at6_arg0 m c)

theorem at7_v179 : W7 m c (Proc.devRef .tc main_v179) = laid (m ((c : Thread nD τ).loc main_arg1)) := line7_v179 (harg1 := at6_arg1 m c)

theorem at7_v182 : W7 m c (Proc.devRef .tc main_v182) = laid (m ((c : Thread nD τ).loc main_arg2)) := line7_v182 (harg2 := at6_arg2 m c)

theorem at7_v188 : W7 m c (Proc.devRef .tc main_v188) = laid (m ((c : Thread nD τ).loc main_arg8)) := line7_v188 (harg8 := at6_arg8 m c)

theorem at7_v185 : W7 m c (Proc.devRef .tc main_v185) = widened (rowDot (F := Ideal) (m ((c : Thread nD τ).loc main_arg0)) (m ((c : Thread nD τ).loc main_arg1)) (m ((c : Thread nD τ).loc main_arg2)) (m ((c : Thread nD τ).loc main_arg8)) (m ((c : Thread nD τ).loc main_arg3)) (m ((c : Thread nD τ).loc main_arg4)) (m ((c : Thread nD τ).loc main_arg6)) (m ((c : Thread nD τ).loc main_arg5)) (m ((c : Thread nD τ).loc main_arg7))) := line7_v185 (hv126 := at6_v126 m c)

theorem at7_v191 : W7 m c (Proc.devRef .tc main_v191) = widened (totalLog (F := Ideal) (m ((c : Thread nD τ).loc main_arg0)) (m ((c : Thread nD τ).loc main_arg1)) (m ((c : Thread nD τ).loc main_arg3)) (m ((c : Thread nD τ).loc main_arg5)) (m ((c : Thread nD τ).loc main_arg7))) := line7_v191 (hv97 := at6_v97 m c)

theorem at7_v173 : W7 m c (Proc.devRef .tc main_v173) = biasOf (m ((c : Thread nD τ).loc main_arg3)) := (line7_v173 ..).trans (at6_v173 m c)

variable {m c} in
/-- The region's arrays hold the reals the launch arrays hold. -/
theorem ready {d : Data} (A : Agrees d (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) : Ready m d c where
  q r i h e := (congrFun ((V_eq m c main_v176).trans (at7_v176 m c)) _).trans ((laid_line _ r i _).trans (A.q r i h e))
  k r i h e := (congrFun ((V_eq m c main_v179).trans (at7_v179 m c)) _).trans ((laid_line _ r i _).trans (A.k r i h e))
  v r i h e := (congrFun ((V_eq m c main_v182).trans (at7_v182 m c)) _).trans ((laid_line _ r i _).trans (A.v r i h e))
  g r i h e := (congrFun ((V_eq m c main_v188).trans (at7_v188 m c)) _).trans ((laid_line _ r i _).trans (A.g r i h e))
  dl r i h e := (congrFun ((V_eq m c main_v185).trans (at7_v185 m c)) _).trans ((wide_line _ r i h e).trans (rowDot_real A r i h))
  l r i h e := (congrFun ((V_eq m c main_v191).trans (at7_v191 m c)) _).trans ((wide_line _ r i h e).trans (totalLog_real A r i h))
  b h a x i key hk := by
    refine (congrFun ((V_eq m c main_v173).trans (at7_v173 m c)) _).trans ((bias_line _ h a x).trans ?_)
    rw [word_dist a x i key hk, select_near, A.b]

end Run

end Cert.AttKernelIdeal.Own

end
-- ==== Proof.RefBackward.lean ====
/-
  The backward half of the reference, step by step, as real numbers, down to its three results.
-/
module

public import proofs.«01_k».proof.Proof.RefForward

@[expose] public section

noncomputable section

namespace BandAttention.Ref

open Idealize.ShloMosaic Cert.AttReferenceIdeal Cert.AttReferenceIdeal.Gen Cert.AttReferenceIdeal.Read

variable {d : Data} {x0 x1 x2 : (⟨S8192x256, .bf16⟩ : BufTy).Contents (Elt Ideal)}
  {x3 : (⟨S32x4, .f32⟩ : BufTy).Contents (Elt Ideal)} {x4 x6 : (⟨S8192x4x64, .f32⟩ : BufTy).Contents (Elt Ideal)}
  {x5 x7 : (⟨S8192x4, .f32⟩ : BufTy).Contents (Elt Ideal)} {x8 : (⟨S8192x256, .bf16⟩ : BufTy).Contents (Elt Ideal)}
  (A : Agrees d x0 x1 x2 x3 x4 x5 x6 x7 x8)

include A in
/-- The cotangent of a group's output. -/
theorem t144 (y : S3x16x512x4x64.Idx) : val_main_v144 (F := Ideal) x0 x1 x3 x5 x7 x8 y =
    ((el d (y 0) (y 1) (y 2) (y 3) / d.tot (y 1) (y 3) (y 2) * d.g (y 1) (y 2) (y 3) (y 4) : ℝ) : EReal) := by
  rw [val_main_v144_apply, val_main_v143_apply, val_main_v128_apply, val_main_v142_apply, t124 A, t141 A, Ideal.mulf_def,
    ← EReal.coe_mul]
  rfl

/-- The cotangent's products with the three groups' outputs. -/
def cs (d : Data) (g : Fin 3) (r : Fin 16) (i : Fin 512) (h : Fin 4) : ℝ := ∑ e, d.g r i h e * outs d g r i h e

include A in
theorem t146 (y : S3x16x512x4.Idx) : val_main_v146 (F := Ideal) x0 x1 x2 x3 x4 x6 x8 y =
    ((cs d (y 0) (y 1) (y 2) (y 3) : ℝ) : EReal) := by
  rw [val_main_v146_apply, val_main_cst_33_apply, Ideal.ofBits_def, Ideal.ofBits_zero_f32, zero_add]
  refine sum_of _ _ (fun e => d.g (y 1) (y 2) (y 3) e * outs d (y 0) (y 1) (y 2) (y 3) e) fun e => ?_
  rw [val_main_v145_apply, val_main_v142_apply, t141 A, t132 A, Ideal.mulf_def, ← EReal.coe_mul]
  rfl

lemma idx147 (y : S3x16x512x4x1.Idx) : idx_main_v147 y = ix4 (y 0) (y 1) (y 2) (y 3) := by
  have h0 : (y 0).val < 3 := (y 0).isLt
  have h1 : (y 1).val < 16 := (y 1).isLt
  have h2 : (y 2).val < 512 := (y 2).isLt
  have h3 : (y 3).val < 4 := (y 3).isLt
  have h4 : (y 4).val < 1 := (y 4).isLt
  funext a
  match a with
  | ⟨0, _⟩ => exact Fin.ext (by show (((((y 0).val * 16 + (y 1).val) * 512 + (y 2).val) * 4 + (y 3).val) * 1 + (y 4).val) / 32768 = (y 0).val; omega)
  | ⟨1, _⟩ => exact Fin.ext (by show (((((y 0).val * 16 + (y 1).val) * 512 + (y 2).val) * 4 + (y 3).val) * 1 + (y 4).val) / 2048 % 16 = (y 1).val; omega)
  | ⟨2, _⟩ => exact Fin.ext (by show (((((y 0).val * 16 + (y 1).val) * 512 + (y 2).val) * 4 + (y 3).val) * 1 + (y 4).val) / 4 % 512 = (y 2).val; omega)
  | ⟨3, _⟩ => exact Fin.ext (by show (((((y 0).val * 16 + (y 1).val) * 512 + (y 2).val) * 4 + (y 3).val) * 1 + (y 4).val) % 4 = (y 3).val; omega)

include A in
theorem t147 (y : S3x16x512x4x1.Idx) : val_main_v147 (F := Ideal) x0 x1 x2 x3 x4 x6 x8 y =
    ((cs d (y 0) (y 1) (y 2) (y 3) : ℝ) : EReal) := by
  rw [val_main_v147_apply, idx147]; exact t146 A _

include A in
theorem t154 (y : S3x16x512x4.Idx) : val_main_v154 (F := Ideal) x0 x1 x2 x3 x4 x6 x8 y =
    ((cs d (y 0) (y 1) (y 2) (y 3) : ℝ) : EReal) := by
  rw [val_main_v154_apply, val_main_cst_34_apply, Ideal.ofBits_def, Ideal.ofBits_zero_f32, zero_add, Fin.sum_univ_one]
  exact t147 A _

lemma idx149 (y : S16x512x4x64.Idx) : idx_main_v149 y = ix5 (0 : Fin 1) (y 0) (y 1) (y 2) (y 3) := by
  have h0 : (y 0).val < 16 := (y 0).isLt
  have h1 : (y 1).val < 512 := (y 1).isLt
  have h2 : (y 2).val < 4 := (y 2).isLt
  have h3 : (y 3).val < 64 := (y 3).isLt
  funext a
  match a with
  | ⟨0, _⟩ => rfl
  | ⟨1, _⟩ => exact Fin.ext (by show ((((y 0).val * 512 + (y 1).val) * 4 + (y 2).val) * 64 + (y 3).val) / 131072 % 16 = (y 0).val; omega)
  | ⟨2, _⟩ => exact Fin.ext (by show ((((y 0).val * 512 + (y 1).val) * 4 + (y 2).val) * 64 + (y 3).val) / 256 % 512 = (y 1).val; omega)
  | ⟨3, _⟩ => exact Fin.ext (by show ((((y 0).val * 512 + (y 1).val) * 4 + (y 2).val) * 64 + (y 3).val) / 64 % 4 = (y 2).val; omega)
  | ⟨4, _⟩ => exact Fin.ext (by show ((((y 0).val * 512 + (y 1).val) * 4 + (y 2).val) * 64 + (y 3).val) % 64 = (y 3).val; omega)

include A in
/-- The cotangent of the group's own output. -/
theorem t149 (y : S16x512x4x64.Idx) : val_main_v149 (F := Ideal) x0 x1 x3 x5 x7 x8 y =
    ((d.z (y 0) (y 2) (y 1) / d.tot (y 0) (y 2) (y 1) * d.g (y 0) (y 1) (y 2) (y 3) : ℝ) : EReal) := by
  rw [val_main_v149_apply, idx149]; exact (val_main_v148_apply ..).trans (t144 A _)

include A in
theorem t156 (y : S3x16x512x4.Idx) : val_main_v156 (F := Ideal) x0 x1 x2 x3 x4 x5 x6 x7 x8 y =
    ((cs d (y 0) (y 1) (y 2) (y 3) * (1 / (d.tot (y 1) (y 3) (y 2) * E3 d (y 1) (y 2) (y 3) *
      (d.tot (y 1) (y 3) (y 2) * E3 d (y 1) (y 2) (y 3)))) : ℝ) : EReal) := by
  rw [val_main_v156_apply, val_main_v155_apply, t154 A, t127 A, Ideal.mulf_def, ← EReal.coe_mul]
  rfl

/-- The term a group contributes to the derivative of the sum's reciprocal. -/
def qt (d : Data) (g : Fin 3) (r : Fin 16) (i : Fin 512) (h : Fin 4) : ℝ :=
  cs d g r i h * (1 / (d.tot r h i * E3 d r i h * (d.tot r h i * E3 d r i h))) * (el d g r i h * E3 d r i h)

include A in
theorem t158 (y : S16x512x4.Idx) : val_main_v158 (F := Ideal) x0 x1 x2 x3 x4 x5 x6 x7 x8 y =
    ((qt d 0 (y 0) (y 1) (y 2) + qt d 1 (y 0) (y 1) (y 2) + qt d 2 (y 0) (y 1) (y 2) : ℝ) : EReal) := by
  rw [val_main_v158_apply, val_main_cst_35_apply, Ideal.ofBits_def, Ideal.ofBits_zero_f32, zero_add]
  refine (sum_of _ _ (fun g => qt d g (y 0) (y 1) (y 2)) fun g => ?_).trans (congrArg Real.toEReal (Fin.sum_univ_three _))
  rw [val_main_v157_apply, t156 A, t120 A, Ideal.mulf_def, ← EReal.coe_mul]
  rfl

lemma idx159 (y : S1x16x512x4.Idx) : idx_main_v159 y = ix3 (y 1) (y 2) (y 3) := by
  have h0 : (y 0).val < 1 := (y 0).isLt
  have h1 : (y 1).val < 16 := (y 1).isLt
  have h2 : (y 2).val < 512 := (y 2).isLt
  have h3 : (y 3).val < 4 := (y 3).isLt
  funext a
  match a with
  | ⟨0, _⟩ => exact Fin.ext (by show ((((y 0).val * 16 + (y 1).val) * 512 + (y 2).val) * 4 + (y 3).val) / 2048 = (y 1).val; omega)
  | ⟨1, _⟩ => exact Fin.ext (by show ((((y 0).val * 16 + (y 1).val) * 512 + (y 2).val) * 4 + (y 3).val) / 4 % 512 = (y 2).val; omega)
  | ⟨2, _⟩ => exact Fin.ext (by show ((((y 0).val * 16 + (y 1).val) * 512 + (y 2).val) * 4 + (y 3).val) % 4 = (y 3).val; omega)

include A in
theorem t160 (y : S1x16x512x4.Idx) : val_main_v160 (F := Ideal) x0 x1 x2 x3 x4 x5 x6 x7 x8 y =
    ((-(qt d 0 (y 1) (y 2) (y 3) + qt d 1 (y 1) (y 2) (y 3) + qt d 2 (y 1) (y 2) (y 3)) : ℝ) : EReal) := by
  rw [val_main_v160_apply, val_main_v159_apply, idx159, Ideal.hostNegf_def]
  exact (congrArg (fun z : EReal => -z) (t158 A _)).trans (EReal.coe_neg _).symm

include A in
theorem t166 (y : S3x16x512x4.Idx) : val_main_v166 (F := Ideal) x0 x1 x2 x3 x4 x5 x6 x7 x8 y =
    (((cs d (y 0) (y 1) (y 2) (y 3) / (d.tot (y 1) (y 3) (y 2) * E3 d (y 1) (y 2) (y 3))
      + -(qt d 0 (y 1) (y 2) (y 3) + qt d 1 (y 1) (y 2) (y 3) + qt d 2 (y 1) (y 2) (y 3)))
      * (el d (y 0) (y 1) (y 2) (y 3) * E3 d (y 1) (y 2) (y 3)) : ℝ) : EReal) := by
  have e162 : val_main_v162 (F := Ideal) x0 x1 x2 x3 x4 x5 x6 x7 x8 y =
      ((cs d (y 0) (y 1) (y 2) (y 3) / (d.tot (y 1) (y 3) (y 2) * E3 d (y 1) (y 2) (y 3)) : ℝ) : EReal) := by
    rw [val_main_v162_apply, val_main_v161_apply, t154 A, t122 A, Ideal.hostDivf_def]
    exact div_coe _ _ (tE_pos d (y 1) (y 2) (y 3)).ne'
  have e164 : val_main_v164 (F := Ideal) x0 x1 x2 x3 x4 x5 x6 x7 x8 y =
      ((-(qt d 0 (y 1) (y 2) (y 3) + qt d 1 (y 1) (y 2) (y 3) + qt d 2 (y 1) (y 2) (y 3)) : ℝ) : EReal) := by
    rw [val_main_v164_apply, val_main_v163_apply, val_main_cst_36_apply, Ideal.ofBits_def, Ideal.ofBits_zero_f32, zero_add,
      Fin.sum_univ_one]
    exact t160 A _
  rw [val_main_v166_apply, val_main_v165_apply, e162, e164, t120 A, Ideal.addf_def, Ideal.mulf_def, ← EReal.coe_add,
    ← EReal.coe_mul]

lemma idx168 (y : S16x512x4.Idx) : idx_main_v168 y = ix4 (0 : Fin 1) (y 0) (y 1) (y 2) := by
  have h0 : (y 0).val < 16 := (y 0).isLt
  have h1 : (y 1).val < 512 := (y 1).isLt
  have h2 : (y 2).val < 4 := (y 2).isLt
  funext a
  match a with
  | ⟨0, _⟩ => rfl
  | ⟨1, _⟩ => exact Fin.ext (by show (((y 0).val * 512 + (y 1).val) * 4 + (y 2).val) / 2048 % 16 = (y 0).val; omega)
  | ⟨2, _⟩ => exact Fin.ext (by show (((y 0).val * 512 + (y 1).val) * 4 + (y 2).val) / 4 % 512 = (y 1).val; omega)
  | ⟨3, _⟩ => exact Fin.ext (by show (((y 0).val * 512 + (y 1).val) * 4 + (y 2).val) % 4 = (y 2).val; omega)

include A in
/-- The cotangent of the group's own log-sum. -/
theorem t168 (y : S16x512x4.Idx) : val_main_v168 (F := Ideal) x0 x1 x2 x3 x4 x5 x6 x7 x8 y =
    ((d.z (y 0) (y 2) (y 1) / d.tot (y 0) (y 2) (y 1) * (d.c0 (y 0) (y 2) (y 1) - d.delta (y 0) (y 2) (y 1)) : ℝ) : EReal) := by
  rw [val_main_v168_apply, idx168]
  refine (val_main_v167_apply ..).trans ((t166 A _).trans (congrArg Real.toEReal ?_))
  exact d.dl_eq (y 0) (y 2) (E3 d (y 0) (y 1) (y 2)) (E3_pos ..) (y 1)

include A in
theorem t174 (y : S16x4x512x512.Idx) : val_main_v174 (F := Ideal) x0 x1 x2 x3 x5 x7 x8 y =
    ((d.z (y 0) (y 1) (y 2) / d.tot (y 0) (y 1) (y 2) * d.dp (y 0) (y 1) (y 2) (y 3) : ℝ) : EReal) := by
  rw [val_main_v174_apply]
  refine (sum_of _ _ (fun e => d.z (y 0) (y 1) (y 2) / d.tot (y 0) (y 1) (y 2) *
    (d.g (y 0) (y 2) (y 1) e * d.v (y 0) (y 3) (y 1) e)) fun e => ?_).trans (congrArg Real.toEReal ?_)
  · rw [val_main_v173_apply, t149 A, t19 A, ← EReal.coe_mul]
    exact congrArg Real.toEReal (mul_assoc _ _ _)
  · rw [← Finset.mul_sum]; rfl

include A in
/-- The values' gradient. -/
theorem t176 (y : S16x512x4x64.Idx) : val_main_v176 (F := Ideal) x0 x1 x3 x5 x7 x8 y =
    ((d.dv (y 0) (y 2) (y 1) (y 3) : ℝ) : EReal) := by
  rw [val_main_v176_apply, val_main_v175_apply]
  refine sum_of _ _ (fun i => d.p (y 0) (y 2) i (y 1) * d.g (y 0) i (y 2) (y 3)) fun i => ?_
  rw [val_main_v173_apply, t149 A, t88 A, ← EReal.coe_mul]
  exact congrArg Real.toEReal (d.dv_term ..)

include A in
theorem t182 (y : S16x4x512x1.Idx) : val_main_v182 (F := Ideal) x0 x1 x2 x3 x5 x7 x8 y =
    ((-(d.c0 (y 0) (y 1) (y 2) / (d.tot (y 0) (y 1) (y 2) * E d (y 0) (y 1) (y 2))) : ℝ) : EReal) := by
  have e : ∀ y : S16x4x512.Idx, val_main_v180 (F := Ideal) x0 x1 x2 x3 x5 x7 x8 y =
      ((d.c0 (y 0) (y 1) (y 2) / (d.tot (y 0) (y 1) (y 2) * E d (y 0) (y 1) (y 2)) : ℝ) : EReal) := by
    intro y
    rw [val_main_v180_apply, val_main_cst_37_apply, Ideal.ofBits_def, Ideal.ofBits_zero_f32, zero_add]
    refine (sum_of _ _ (fun j => d.z (y 0) (y 1) (y 2) / d.tot (y 0) (y 1) (y 2) * d.dp (y 0) (y 1) (y 2) j *
      (1 / (d.z (y 0) (y 1) (y 2) * E d (y 0) (y 1) (y 2) * (d.z (y 0) (y 1) (y 2) * E d (y 0) (y 1) (y 2)))) *
      (d.w (y 0) (y 1) (y 2) j * E d (y 0) (y 1) (y 2))) fun j => ?_).trans (congrArg Real.toEReal ?_)
    · rw [val_main_v179_apply, val_main_v178_apply, val_main_v177_apply, t174 A, t91 A, t80 A, Ideal.mulf_def, Ideal.mulf_def,
        ← EReal.coe_mul, ← EReal.coe_mul]
      rfl
    · exact d.dsum_eq (y 0) (y 1) (E d (y 0) (y 1) (y 2)) (E_pos ..) (y 2)
  have i181 : idx_main_v181 y = ix3 (y 0) (y 1) (y 2) := idx72 y
  rw [val_main_v182_apply, val_main_v181_apply, i181, Ideal.hostNegf_def]
  exact (congrArg (fun z : EReal => -z) (e _)).trans (EReal.coe_neg _).symm

include A in
theorem t186 (y : S16x4x512x1.Idx) : val_main_v186 (F := Ideal) x0 x1 x2 x3 x4 x5 x6 x7 x8 y =
    ((d.z (y 0) (y 1) (y 2) / d.tot (y 0) (y 1) (y 2) * (d.c0 (y 0) (y 1) (y 2) - d.delta (y 0) (y 1) (y 2)) : ℝ) : EReal) := by
  rw [val_main_v186_apply, val_main_v185_apply]; exact t168 A _

include A in
/-- The scores' gradient, before the maximum's share. -/
theorem t192 (y : S16x4x512x512.Idx) : val_main_v192 (F := Ideal) x0 x1 x2 x3 x4 x5 x6 x7 x8 y =
    ((d.ds (y 0) (y 1) (y 2) (y 3) : ℝ) : EReal) := by
  have e184 : val_main_v184 (F := Ideal) x0 x1 x2 x3 x5 x7 x8 y =
      ((d.z (y 0) (y 1) (y 2) / d.tot (y 0) (y 1) (y 2) * d.dp (y 0) (y 1) (y 2) (y 3)
        / (d.z (y 0) (y 1) (y 2) * E d (y 0) (y 1) (y 2)) : ℝ) : EReal) := by
    rw [val_main_v184_apply, val_main_v183_apply, t174 A, t82 A, Ideal.hostDivf_def]
    exact div_coe _ _ (zE_pos d (y 0) (y 1) (y 2)).ne'
  have e188 : ∀ y : S16x4x512x1.Idx, val_main_v188 (F := Ideal) x0 x1 x2 x3 x4 x5 x6 x7 x8 y =
      ((-(d.c0 (y 0) (y 1) (y 2) / (d.tot (y 0) (y 1) (y 2) * E d (y 0) (y 1) (y 2))) +
        d.z (y 0) (y 1) (y 2) / d.tot (y 0) (y 1) (y 2) * (d.c0 (y 0) (y 1) (y 2) - d.delta (y 0) (y 1) (y 2))
          / (d.z (y 0) (y 1) (y 2) * E d (y 0) (y 1) (y 2)) : ℝ) : EReal) := by
    intro y
    rw [val_main_v188_apply, val_main_v187_apply, t182 A, t186 A, t82 A, Ideal.hostDivf_def, Ideal.addf_def,
      div_coe _ _ (zE_pos d (y 0) (y 1) (y 2)).ne', ← EReal.coe_add]
  rw [val_main_v192_apply, val_main_v191_apply, val_main_v190_apply, val_main_v189_apply, val_main_cst_38_apply,
    Ideal.ofBits_def, Ideal.ofBits_zero_f32, zero_add, Fin.sum_univ_one, e184, e188, t80 A, Ideal.addf_def, Ideal.mulf_def,
    ← EReal.coe_add, ← EReal.coe_mul]
  exact congrArg Real.toEReal (d.ds_eq (y 0) (y 1) (E d (y 0) (y 1) (y 2)) (E_pos ..) (y 2) (y 3))

include A in
/-- The maximum has no share in the gradient. -/
theorem t196 (y : S16x4x512x1.Idx) : val_main_v196 (F := Ideal) x0 x1 x2 x3 x4 x5 x6 x7 x8 y = 0 := by
  have e : ∀ y : S16x4x512.Idx, val_main_v194 (F := Ideal) x0 x1 x2 x3 x4 x5 x6 x7 x8 y =
      ((-(d.z (y 0) (y 1) (y 2) / d.tot (y 0) (y 1) (y 2) * (d.c0 (y 0) (y 1) (y 2) - d.delta (y 0) (y 1) (y 2))) : ℝ) : EReal) := by
    intro y
    rw [val_main_v194_apply, val_main_cst_39_apply, Ideal.ofBits_def, Ideal.ofBits_zero_f32, zero_add]
    refine (sum_of _ _ (fun j => -(d.ds (y 0) (y 1) (y 2) j)) fun j => ?_).trans (congrArg Real.toEReal ?_)
    · rw [val_main_v193_apply, t192 A, Ideal.hostNegf_def]
      exact (EReal.coe_neg _).symm
    · rw [Finset.sum_neg_distrib]
      exact congrArg (fun z : ℝ => -z) (d.sum_ds (y 0) (y 1) (y 2))
  have i195 : idx_main_v195 y = ix3 (y 0) (y 1) (y 2) := idx72 y
  rw [val_main_v196_apply, val_main_v195_apply, i195, t186 A, Ideal.addf_def]
  refine (congrArg (fun z : EReal => _ + z) (e _)).trans ?_
  rw [← EReal.coe_add]
  exact (congrArg Real.toEReal (add_neg_cancel _)).trans EReal.coe_zero

include A in
/-- The scores' gradient, scaled. -/
theorem t203 (y : S16x4x512x512.Idx) : val_main_v203 (F := Ideal) x0 x1 x2 x3 x4 x5 x6 x7 x8 y =
    ((d.ds (y 0) (y 1) (y 2) (y 3) * (1 / 8) : ℝ) : EReal) := by
  have e198 : ∀ y : S16x4x512.Idx, val_main_v198 (F := Ideal) x0 x1 x2 x3 x4 x5 x6 x7 x8 y = 0 := by
    intro y
    rw [val_main_v198_apply, val_main_v197_apply, val_main_cst_40_apply, Ideal.ofBits_def, Ideal.ofBits_zero_f32, zero_add,
      Fin.sum_univ_one, t196 A, Ideal.hostDivf_def, Ideal.div, if_neg (t76 A y), zero_mul]
  rw [val_main_v203_apply, val_main_v202_apply, val_main_cst_41_apply, val_main_v201_apply, val_main_v200_apply,
    val_main_v199_apply, e198, t192 A, Ideal.mulf_def, Ideal.mulf_def, Ideal.addf_def, zero_mul, add_zero, Ideal.ofBits_def,
    eighth, ← EReal.coe_mul]

include A in
/-- The keys' gradient. -/
theorem t205 (y : S16x512x4x64.Idx) : val_main_v205 (F := Ideal) x0 x1 x2 x3 x4 x5 x6 x7 x8 y =
    ((d.dk (y 0) (y 2) (y 1) (y 3) : ℝ) : EReal) := by
  rw [val_main_v205_apply, val_main_v204_apply]
  refine sum_of _ _ (fun i => d.ds (y 0) (y 2) i (y 1) * (1 / 8) * d.q (y 0) i (y 2) (y 3)) fun i => ?_
  rw [t203 A, t11 A, ← EReal.coe_mul]
  rfl

include A in
/-- The queries' gradient. -/
theorem t207 (y : S16x512x4x64.Idx) : val_main_v207 (F := Ideal) x0 x1 x2 x3 x4 x5 x6 x7 x8 y =
    ((d.dq (y 0) (y 2) (y 1) (y 3) : ℝ) : EReal) := by
  rw [val_main_v207_apply, val_main_v206_apply]
  refine sum_of _ _ (fun j => d.ds (y 0) (y 2) (y 1) j * (1 / 8) * d.k (y 0) j (y 2) (y 3)) fun j => ?_
  rw [t203 A, t15 A, ← EReal.coe_mul]
  rfl

lemma idx208 (r : Fin 16) (i : Fin 512) (h : Fin 4) (e : Fin 64) :
    idx_main_v208 (ix2 (⟨r.val * 512 + i.val, by omega⟩ : Fin 8192) (col h e)) = ix4 r i h e := by
  have hr := r.isLt; have hi := i.isLt; have hh := h.isLt; have he := e.isLt
  funext a
  match a with
  | ⟨0, _⟩ => exact Fin.ext (by show ((r.val * 512 + i.val) * 256 + (h.val * 64 + e.val)) / 131072 = r.val; omega)
  | ⟨1, _⟩ => exact Fin.ext (by show ((r.val * 512 + i.val) * 256 + (h.val * 64 + e.val)) / 256 % 512 = i.val; omega)
  | ⟨2, _⟩ => exact Fin.ext (by show ((r.val * 512 + i.val) * 256 + (h.val * 64 + e.val)) / 64 % 4 = h.val; omega)
  | ⟨3, _⟩ => exact Fin.ext (by show ((r.val * 512 + i.val) * 256 + (h.val * 64 + e.val)) % 64 = e.val; omega)

include A in
/-- The first result, the queries' gradient, by residue class. -/
theorem t209 (r : Fin 16) (i : Fin 512) (h : Fin 4) (e : Fin 64) :
    val_main_v209 (F := Ideal) x0 x1 x2 x3 x4 x5 x6 x7 x8 (ix2 (⟨r.val * 512 + i.val, by omega⟩ : Fin 8192) (col h e)) =
      ((d.dq r h i e : ℝ) : EReal) := by
  rw [val_main_v209_apply, val_main_v208_apply, Ideal.truncf_def, idx208]; exact t207 A _

include A in
/-- The second result, the keys' gradient. -/
theorem t211 (r : Fin 16) (i : Fin 512) (h : Fin 4) (e : Fin 64) :
    val_main_v211 (F := Ideal) x0 x1 x2 x3 x4 x5 x6 x7 x8 (ix2 (⟨r.val * 512 + i.val, by omega⟩ : Fin 8192) (col h e)) =
      ((d.dk r h i e : ℝ) : EReal) := by
  rw [val_main_v211_apply, val_main_v210_apply, Ideal.truncf_def,
    show idx_main_v210 (ix2 (⟨r.val * 512 + i.val, by omega⟩ : Fin 8192) (col h e)) = ix4 r i h e from idx208 r i h e]
  exact t205 A _

include A in
/-- The third result, the values' gradient. -/
theorem t213 (r : Fin 16) (i : Fin 512) (h : Fin 4) (e : Fin 64) :
    val_main_v213 (F := Ideal) x0 x1 x3 x5 x7 x8 (ix2 (⟨r.val * 512 + i.val, by omega⟩ : Fin 8192) (col h e)) =
      ((d.dv r h i e : ℝ) : EReal) := by
  rw [val_main_v213_apply, val_main_v212_apply, Ideal.truncf_def,
    show idx_main_v212 (ix2 (⟨r.val * 512 + i.val, by omega⟩ : Fin 8192) (col h e)) = ix4 r i h e from idx208 r i h e]
  exact t176 A _

end BandAttention.Ref

end
-- ==== Proof.Finite.lean ====
/-
  The precondition, read: every argument is a real number, so both programs' arguments are the reals of one `Data`.
-/
module

public import proofs.«01_k».proof.Pre_finite
public import proofs.«01_k».proof.Proof.Reals
public import Idealize.ShloMosaic.Lib.ReduceAll

@[expose] public section

noncomputable section

namespace Cert.Pre_finite

/-- The shape facts of the precondition. -/
instance facts : Cert.Pre_finite.Facts where
  bcast_S_S32x4 := by decide
  reducesTo_S32x4_S_d0_1 := by decide
  h_S_ := by decide
  bitsLt_bf16_f32 := by decide
  bcast_S_S8192x256 := by decide
  reducesTo_S8192x256_S_d0_1 := by decide
  bcast_S_S8192x4x64 := by decide
  reducesTo_S8192x4x64_S_d0_1_2 := by decide
  bcast_S_S8192x4 := by decide
  reducesTo_S8192x4_S_d0_1 := by decide

end Cert.Pre_finite

namespace BandAttention

open Idealize.ShloMosaic Cert.Pre_finite

/-- Being below the top in absolute value is being a real. -/
lemma real_of_abs_lt (a : EReal) (h : Ideal.cmp .olt (max a (-a)) (Ideal.ofBits .f32 0x7F800000#32) = 1#1) :
    a = ((a.toReal : ℝ) : EReal) := by
  have ht : Ideal.ofBits .f32 0x7F800000#32 = (⊤ : EReal) := by simp [Ideal.ofBits, Ideal.ieee]
  rw [ht] at h
  induction a with
  | bot => simp [Ideal.cmp] at h
  | top => simp [Ideal.cmp] at h
  | coe r => rfl

lemma and_one {a b : BitVec 1} (h : IntOp.andi a b = 1#1) : a = 1#1 ∧ b = 1#1 := by
  revert a b; decide

instance : Subsingleton (Cert.Pre_finite.S_).Idx := ⟨fun a b => funext fun k => k.elim0⟩

variable {x0 x1 x2 : (⟨2, ![8192, 256]⟩ : Shape).Idx → EReal} {x3 : (⟨2, ![32, 4]⟩ : Shape).Idx → EReal}
  {x4 : (⟨3, ![8192, 4, 64]⟩ : Shape).Idx → EReal} {x5 : (⟨2, ![8192, 4]⟩ : Shape).Idx → EReal}
  {x6 : (⟨3, ![8192, 4, 64]⟩ : Shape).Idx → EReal} {x7 : (⟨2, ![8192, 4]⟩ : Shape).Idx → EReal}
  {x8 : (⟨2, ![8192, 256]⟩ : Shape).Idx → EReal}

/-- An array all of whose elements pass the test holds reals. -/
lemma reals_of_all {s : Shape} {axes : List (Fin s.rank)} (x : FVec Ideal s .f32) (hb : S_.BroadcastsInDim s (![] : Fin 0 → Fin s.rank))
    (h : s.ReducesTo axes S_) (hu : 0 < (S_).numel) (j : (S_).Idx)
    (e : Host.reduce IntOp.andi (cmpf .olt (Host.absf x) (broadcastInDim s ![] hb (constant (F := Ideal) S_ .f32 0x7F800000#32)))
      (constantI S_ 1 1#1) h hu j = 1#1) (i : s.Idx) :
    x i = (((x i : EReal).toReal : ℝ) : EReal) :=
  real_of_abs_lt _ (Host.reduce_andi_all _ _ h hu j e i)

/-- The precondition makes every argument real. -/
theorem reals (h : Cert.Pre_finite.fn (F := Ideal) x0 x1 x2 x3 x4 x5 x6 x7 x8 = fun _ => 1#1) :
    (∀ i, x3 i = (((x3 i).toReal : ℝ) : EReal)) ∧ (∀ i, x0 i = (((x0 i).toReal : ℝ) : EReal))
    ∧ (∀ i, x1 i = (((x1 i).toReal : ℝ) : EReal)) ∧ (∀ i, x2 i = (((x2 i).toReal : ℝ) : EReal))
    ∧ (∀ i, x4 i = (((x4 i).toReal : ℝ) : EReal)) ∧ (∀ i, x5 i = (((x5 i).toReal : ℝ) : EReal))
    ∧ (∀ i, x6 i = (((x6 i).toReal : ℝ) : EReal)) ∧ (∀ i, x7 i = (((x7 i).toReal : ℝ) : EReal))
    ∧ (∀ i, x8 i = (((x8 i).toReal : ℝ) : EReal)) := by
  have e := congrFun h (fun a => a.elim0)
  unfold Cert.Pre_finite.fn Cert.Pre_finite.fn_part1 Cert.Pre_finite.fn_part2 at e
  obtain ⟨e8, a8⟩ := and_one e
  clear e
  obtain ⟨e7, a7⟩ := and_one e8
  clear e8
  obtain ⟨e6, a6⟩ := and_one e7
  clear e7
  obtain ⟨e5, a5⟩ := and_one e6
  clear e6
  obtain ⟨e4, a4⟩ := and_one e5
  clear e5
  obtain ⟨e2, a2⟩ := and_one e4
  clear e4
  obtain ⟨e1, a1⟩ := and_one e2
  clear e2
  obtain ⟨a3, a0⟩ := and_one e1
  clear e1 h
  refine ⟨?_, ?_, ?_, ?_, ?_, ?_, ?_, ?_, ?_⟩
  · clear a0 a1 a2 a4 a5 a6 a7 a8; exact reals_of_all _ _ _ _ _ a3
  · clear a1 a2 a3 a4 a5 a6 a7 a8; exact reals_of_all _ _ _ _ _ a0
  · clear a0 a2 a3 a4 a5 a6 a7 a8; exact reals_of_all _ _ _ _ _ a1
  · clear a0 a1 a3 a4 a5 a6 a7 a8; exact reals_of_all _ _ _ _ _ a2
  · clear a0 a1 a2 a3 a5 a6 a7 a8; exact reals_of_all _ _ _ _ _ a4
  · clear a0 a1 a2 a3 a4 a6 a7 a8; exact reals_of_all _ _ _ _ _ a5
  · clear a0 a1 a2 a3 a4 a5 a7 a8; exact reals_of_all _ _ _ _ _ a6
  · clear a0 a1 a2 a3 a4 a5 a6 a8; exact reals_of_all _ _ _ _ _ a7
  · clear a0 a1 a2 a3 a4 a5 a6 a7; exact reals_of_all _ _ _ _ _ a8

/-- The arguments' reals. -/
theorem agrees (h : Cert.Pre_finite.fn (F := Ideal) x0 x1 x2 x3 x4 x5 x6 x7 x8 = fun _ => 1#1) :
    ∃ d : Data, Agrees d x0 x1 x2 x3 x4 x5 x6 x7 x8 := by
  obtain ⟨h3, h0, h1, h2, h4, h5, h6, h7, h8⟩ := reals h
  exact ⟨⟨fun r i h e => (x0 (ix2 (row r i) (col h e))).toReal, fun r i h e => (x1 (ix2 (row r i) (col h e))).toReal,
    fun r i h e => (x2 (ix2 (row r i) (col h e))).toReal, fun r i h e => (x8 (ix2 (row r i) (col h e))).toReal,
    fun r i h e => (x4 (ix3 (row r i) h e)).toReal, fun r i h e => (x6 (ix3 (row r i) h e)).toReal,
    fun r i h => (x5 (ix2 (row r i) h)).toReal, fun r i h => (x7 (ix2 (row r i) h)).toReal,
    fun h w => (entry x3 h w).toReal⟩,
    ⟨fun _ _ _ _ => h0 _, fun _ _ _ _ => h1 _, fun _ _ _ _ => h2 _, fun _ _ => h3 _, fun _ _ _ _ => h4 _,
      fun _ _ _ => h5 _, fun _ _ _ _ => h6 _, fun _ _ _ => h7 _, fun _ _ _ _ => h8 _⟩⟩

end BandAttention

end
-- ==== Proof.Equation.lean ====
/-
  The equality: the kernel's three gradients are the reference's, index by index.
-/
module

public import proofs.«01_k».proof.Proof.HostReady
public import proofs.«01_k».proof.Proof.RefBackward
public import proofs.«01_k».proof.Proof.Finite
public import Idealize.ShloMosaic.Lib.Claim

@[expose] public section

noncomputable section

namespace BandAttention

open Idealize.ShloMosaic Idealize.ShloMosaic.TcCoe Idealize.SL.Sem Cert.AttKernelIdeal Cert.AttKernelIdeal.Own

/-- Two arrays in residue-major order agree if they agree at every position, head and feature. -/
theorem lines_ext {α : Type} (f g : S8192x256.Idx → α)
    (e : ∀ r i h x, f (ix2 (line r i) (col h x)) = g (ix2 (line r i) (col h x))) : f = g := by
  funext y
  have h0 : (y 0).val < 8192 := (y 0).isLt
  have h1 : (y 1).val < 256 := (y 1).isLt
  have ey : y = ix2 (line ⟨(y 0).val / 512, by omega⟩ ⟨(y 0).val % 512, by omega⟩)
      (col ⟨(y 1).val / 64, by omega⟩ ⟨(y 1).val % 64, by omega⟩) := by
    funext a
    match a with
    | ⟨0, _⟩ => exact Fin.ext (by show (y 0).val = (y 0).val / 512 * 512 + (y 0).val % 512; omega)
    | ⟨1, _⟩ => exact Fin.ext (by show (y 1).val = (y 1).val / 64 * 64 + (y 1).val % 64; omega)
  rw [ey]
  exact e _ _ _ _

variable {m : (ℓ : Loc nD τ sig) → Buf (Elt Ideal) ℓ} {c : Dev nD} {d : Data}
variable (A : Agrees d (m ((c.tc : Thread Cert.AttKernelIdeal.nD Cert.AttKernelIdeal.τ).loc Cert.AttKernelIdeal.main_arg0)) (m ((c.tc : Thread Cert.AttKernelIdeal.nD Cert.AttKernelIdeal.τ).loc Cert.AttKernelIdeal.main_arg1)) (m ((c.tc : Thread Cert.AttKernelIdeal.nD Cert.AttKernelIdeal.τ).loc Cert.AttKernelIdeal.main_arg2)) (m ((c.tc : Thread Cert.AttKernelIdeal.nD Cert.AttKernelIdeal.τ).loc Cert.AttKernelIdeal.main_arg3)) (m ((c.tc : Thread Cert.AttKernelIdeal.nD Cert.AttKernelIdeal.τ).loc Cert.AttKernelIdeal.main_arg4)) (m ((c.tc : Thread Cert.AttKernelIdeal.nD Cert.AttKernelIdeal.τ).loc Cert.AttKernelIdeal.main_arg5)) (m ((c.tc : Thread Cert.AttKernelIdeal.nD Cert.AttKernelIdeal.τ).loc Cert.AttKernelIdeal.main_arg6)) (m ((c.tc : Thread Cert.AttKernelIdeal.nD Cert.AttKernelIdeal.τ).loc Cert.AttKernelIdeal.main_arg7)) (m ((c.tc : Thread Cert.AttKernelIdeal.nD Cert.AttKernelIdeal.τ).loc Cert.AttKernelIdeal.main_arg8)))
include A

theorem dq_eq : Cert.AttReferenceIdeal.Read.val_main_v209 (F := Ideal) (m ((c.tc : Thread Cert.AttKernelIdeal.nD Cert.AttKernelIdeal.τ).loc Cert.AttKernelIdeal.main_arg0)) (m ((c.tc : Thread Cert.AttKernelIdeal.nD Cert.AttKernelIdeal.τ).loc Cert.AttKernelIdeal.main_arg1)) (m ((c.tc : Thread Cert.AttKernelIdeal.nD Cert.AttKernelIdeal.τ).loc Cert.AttKernelIdeal.main_arg2)) (m ((c.tc : Thread Cert.AttKernelIdeal.nD Cert.AttKernelIdeal.τ).loc Cert.AttKernelIdeal.main_arg3)) (m ((c.tc : Thread Cert.AttKernelIdeal.nD Cert.AttKernelIdeal.τ).loc Cert.AttKernelIdeal.main_arg4)) (m ((c.tc : Thread Cert.AttKernelIdeal.nD Cert.AttKernelIdeal.τ).loc Cert.AttKernelIdeal.main_arg5)) (m ((c.tc : Thread Cert.AttKernelIdeal.nD Cert.AttKernelIdeal.τ).loc Cert.AttKernelIdeal.main_arg6)) (m ((c.tc : Thread Cert.AttKernelIdeal.nD Cert.AttKernelIdeal.τ).loc Cert.AttKernelIdeal.main_arg7)) (m ((c.tc : Thread Cert.AttKernelIdeal.nD Cert.AttKernelIdeal.τ).loc Cert.AttKernelIdeal.main_arg8)) = G11 m c :=
  lines_ext _ _ fun r i h e => (Ref.t209 A r i h e).trans ((ready A).dq r i h e).symm

theorem dk_eq : Cert.AttReferenceIdeal.Read.val_main_v211 (F := Ideal) (m ((c.tc : Thread Cert.AttKernelIdeal.nD Cert.AttKernelIdeal.τ).loc Cert.AttKernelIdeal.main_arg0)) (m ((c.tc : Thread Cert.AttKernelIdeal.nD Cert.AttKernelIdeal.τ).loc Cert.AttKernelIdeal.main_arg1)) (m ((c.tc : Thread Cert.AttKernelIdeal.nD Cert.AttKernelIdeal.τ).loc Cert.AttKernelIdeal.main_arg2)) (m ((c.tc : Thread Cert.AttKernelIdeal.nD Cert.AttKernelIdeal.τ).loc Cert.AttKernelIdeal.main_arg3)) (m ((c.tc : Thread Cert.AttKernelIdeal.nD Cert.AttKernelIdeal.τ).loc Cert.AttKernelIdeal.main_arg4)) (m ((c.tc : Thread Cert.AttKernelIdeal.nD Cert.AttKernelIdeal.τ).loc Cert.AttKernelIdeal.main_arg5)) (m ((c.tc : Thread Cert.AttKernelIdeal.nD Cert.AttKernelIdeal.τ).loc Cert.AttKernelIdeal.main_arg6)) (m ((c.tc : Thread Cert.AttKernelIdeal.nD Cert.AttKernelIdeal.τ).loc Cert.AttKernelIdeal.main_arg7)) (m ((c.tc : Thread Cert.AttKernelIdeal.nD Cert.AttKernelIdeal.τ).loc Cert.AttKernelIdeal.main_arg8)) = G12 m c :=
  lines_ext _ _ fun r i h e => (Ref.t211 A r i h e).trans ((ready A).dk r i h e).symm

theorem dv_eq : Cert.AttReferenceIdeal.Read.val_main_v213 (F := Ideal) (m ((c.tc : Thread Cert.AttKernelIdeal.nD Cert.AttKernelIdeal.τ).loc Cert.AttKernelIdeal.main_arg0)) (m ((c.tc : Thread Cert.AttKernelIdeal.nD Cert.AttKernelIdeal.τ).loc Cert.AttKernelIdeal.main_arg1)) (m ((c.tc : Thread Cert.AttKernelIdeal.nD Cert.AttKernelIdeal.τ).loc Cert.AttKernelIdeal.main_arg3)) (m ((c.tc : Thread Cert.AttKernelIdeal.nD Cert.AttKernelIdeal.τ).loc Cert.AttKernelIdeal.main_arg5)) (m ((c.tc : Thread Cert.AttKernelIdeal.nD Cert.AttKernelIdeal.τ).loc Cert.AttKernelIdeal.main_arg7)) (m ((c.tc : Thread Cert.AttKernelIdeal.nD Cert.AttKernelIdeal.τ).loc Cert.AttKernelIdeal.main_arg8)) = G13 m c :=
  lines_ext _ _ fun r i h e => (Ref.t213 A r i h e).trans ((ready A).dv r i h e).symm

end BandAttention

end
-- ==== Proof.Weight.lean ====
/-
  The weight gradient's value: each half of the result is the sum of four products, one per block of 2048
  rows, so every entry is the sum over all 8192 rows.
-/
module

public import proofs.«01_k».proof.Proof.Gen.WeightKernel.Frame
public import proofs.«01_k».proof.Proof.Gen.WeightKernelIdeal.Frame
public import proofs.«01_k».proof.Proof.Gen.WeightKernelIdeal.Value
public import proofs.«01_k».proof.Proof.Gen.WeightReferenceIdeal
public import proofs.«01_k».proof.Proof.Gen.WeightReferenceIdeal.Run
public import proofs.«01_k».proof.Proof.Gen.WeightReferenceIdeal.Read
public import Idealize.ShloMosaic.Lib.Pointwise
public import Idealize.ShloMosaic.Lib.Tactic

@[expose] public section

noncomputable section

namespace Cert.WeightKernelIdeal.Own

open Cert.WeightKernelIdeal Cert.WeightKernelIdeal.Gen Idealize.ShloMosaic Idealize.ShloMosaic.TcCoe Idealize.SL.Sem

theorem origin : (![0, 0] : Fin 2 → Nat) = fun _ => 0 := funext fun a => by fin_cases a <;> rfl

section Pieces

variable {F : FTy → Type} [FloatOps F]
variable (c : Dev nD) (i : grid0.Coords)
  (a3 : Memref sig .tc .vmem S2048x1408 .bf16) (h3 : a3.IsWhole) (a4 : Memref sig .tc .vmem S2048x1024 .bf16) (h4 : a4.IsWhole)
  (a5 : Memref sig .tc .vmem S1408x1024 .bf16) (h5 : a5.IsWhole) (a6 : Memref sig .tc .vmem S1408x1024 .f32) (h6 : a6.IsWhole)
  (x : Vec F S2048x1408 .bf16) (y : Vec F S2048x1024 .bf16) (s : Vec F S1408x1024 .f32)

/-- The first block's product starts the accumulator. -/
theorem start (p : cond0_0 i) (q : ¬cond0_1 i) (r : ¬cond0_2 i) :
    sout0_A_0 c i a3 h3 a4 h4 a5 h5 a6 h6 p q r x y = k0_pay1 x y := by
  unfold sout0_A_0
  rw [View.read_writes_eq_canon _ _ _ (scover0_A_0 c i a3 h3 a4 h4 a5 h5 a6 h6 p q r x y)]
  unfold kernelRun0_A
  dsimp only
  rw [View.canon_unit_zero origin]
  unfold k0_pay2
  simp only [View.readAt_eq_ld, h3.read_unread, h4.read_unread, View.ld_unit_zero (S := S2048x1408) origin,
    View.ld_unit_zero (S := S2048x1024) origin, shapeCast_self]

/-- A later block's product is added to the accumulator. -/
theorem more (p : ¬cond0_0 i) (q : cond0_1 i) (r : ¬cond0_2 i) :
    sout0_B_0 c i a3 h3 a4 h4 a5 h5 a6 h6 p q r x y s = addf s (k0_pay1 x y) := by
  unfold sout0_B_0
  rw [View.read_writes_eq_canon _ _ _ (scover0_B_0 c i a3 h3 a4 h4 a5 h5 a6 h6 p q r x y s)]
  unfold kernelRun0_B
  dsimp only
  rw [View.canon_unit_zero origin]
  unfold k0_pay3
  simp only [View.readAt_eq_ld, h3.read_unread, h4.read_unread, h6.read_unread, View.ld_unit_zero (S := S2048x1408) origin,
    View.ld_unit_zero (S := S2048x1024) origin, View.ld_unit_zero (S := S1408x1024) origin, shapeCast_self]

/-- The last block's product is added and the sum is the result. -/
theorem last (p : ¬cond0_0 i) (q : cond0_1 i) (r : cond0_2 i) :
    out0_C_2 c i a3 h3 a4 h4 a5 h5 a6 h6 p q r x y s = truncf .bf16 (addf s (k0_pay1 x y)) bitsLt_bf16_f32 := by
  unfold out0_C_2
  rw [View.read_writes_eq_canon _ _ _ (cover0_C_2 c i a3 h3 a4 h4 a5 h5 a6 h6 p q r x y s)]
  unfold kernelRun0_C
  dsimp only
  sl_unfold_words
  rw [View.canon_unit_zero origin, View.readCov_unit_zero (S := S1408x1024) _ origin]
  unfold k0_pay4 k0_pay3
  simp only [View.readAt_eq_ld, h3.read_unread, h4.read_unread, h6.read_unread, View.ld_unit_zero (S := S2048x1408) origin,
    View.ld_unit_zero (S := S2048x1024) origin, View.ld_unit_zero (S := S1408x1024) origin, shapeCast_self]

end Pieces

/-- The product of two blocks, entry by entry. -/
theorem product (x : Vec Ideal S2048x1408 .bf16) (y : Vec Ideal S2048x1024 .bf16) (u : Fin 1408) (v : Fin 1024) :
    k0_pay1 (F := Ideal) x y (ix2 u v) = ∑ k : Fin 2048, x (ix2 k u) * y (ix2 k v) := by
  unfold k0_pay1
  simp only [pointwise]
  simp

section Steps

variable {F : FTy → Type} [FloatOps F]
variable (m : (ℓ : Loc nD τ sig) → Buf (Elt F) ℓ) (ρ : Dev nD → PrngReg)

/-- The product of the two blocks a point loads. -/
def part (c : Dev nD) (t : Fin cfg0.N) : FVec F S1408x1024 .f32 :=
  k0_pay1 (iblk m c 0 t) (iblk m c 1 t)

/-- The first of a half's four points. -/
theorem first (c : Dev nD) (t : Fin cfg0.N) (h0 : t.val % 4 = 0) (h1 : ¬1 ≤ t.val % 4) (h2 : ¬t.val % 4 = 3) :
    (outsAt0 m c t.val t.isLt).2 = part m c t := by
  rw [outsAt0_A m c t h0 h1 h2]
  unfold part
  dsimp only
  generalize iblk m c 0 t = x
  generalize iblk m c 1 t = y
  exact start c (grid0.coords t) (ms0_0 t) (hs0_0 t) (ms0_1 t) (hs0_1 t) (ms0_2 t) (hs0_2 t) scM0_0 (Memref.isWhole_whole _)
      x y
      ((hcond0_0 t).mpr h0) (fun h => h1 ((hcond0_1 t).mp h)) (fun h => h2 ((hcond0_2 t).mp h))

/-- A middle point. -/
theorem next (c : Dev nD) (t : Fin cfg0.N) (h0 : ¬t.val % 4 = 0) (h1 : 1 ≤ t.val % 4) (h2 : ¬t.val % 4 = 3) :
    (outsAt0 m c t.val t.isLt).2 = addf (outsAt0 m c (t.val - 1) (Nat.lt_of_le_of_lt (Nat.sub_le _ _) t.isLt)).2 (part m c t) := by
  rw [outsAt0_B m c t h0 h1 h2]
  unfold part
  dsimp only
  generalize iblk m c 0 t = x
  generalize iblk m c 1 t = y
  exact more c (grid0.coords t) (ms0_0 t) (hs0_0 t) (ms0_1 t) (hs0_1 t) (ms0_2 t) (hs0_2 t) scM0_0 (Memref.isWhole_whole _)
      x y
      (outsAt0 m c (t.val - 1) (Nat.lt_of_le_of_lt (Nat.sub_le _ _) t.isLt)).2
      (fun h => h0 ((hcond0_0 t).mp h)) ((hcond0_1 t).mpr h1) (fun h => h2 ((hcond0_2 t).mp h))

/-- The last point. -/
theorem done (c : Dev nD) (t : Fin cfg0.N) (h0 : ¬t.val % 4 = 0) (h1 : 1 ≤ t.val % 4) (h2 : t.val % 4 = 3) :
    (outsAt0 m c t.val t.isLt).1 = truncf .bf16 (addf (outsAt0 m c (t.val - 1) (Nat.lt_of_le_of_lt (Nat.sub_le _ _) t.isLt)).2 (part m c t)) bitsLt_bf16_f32 := by
  rw [outsAt0_C m c t h0 h1 h2]
  unfold part
  dsimp only
  generalize iblk m c 0 t = x
  generalize iblk m c 1 t = y
  exact last c (grid0.coords t) (ms0_0 t) (hs0_0 t) (ms0_1 t) (hs0_1 t) (ms0_2 t) (hs0_2 t) scM0_0 (Memref.isWhole_whole _)
      x y
      (outsAt0 m c (t.val - 1) (Nat.lt_of_le_of_lt (Nat.sub_le _ _) t.isLt)).2
      (fun h => h0 ((hcond0_0 t).mp h)) ((hcond0_1 t).mpr h1) ((hcond0_2 t).mpr h2)

/-- What the point that finishes half `b` of the result leaves in it. -/
theorem half (c : Dev nD) (b : ℕ) (h : 4 * b + 3 < cfg0.N) :
    (outsAt0 m c (4 * b + 3) h).1 = truncf .bf16 (addf (addf (addf (part m c ⟨4 * b, by omega⟩) (part m c ⟨4 * b + 1, by omega⟩))
      (part m c ⟨4 * b + 2, by omega⟩)) (part m c ⟨4 * b + 3, h⟩)) bitsLt_bf16_f32 := by
  have e0 := first m c ⟨4 * b, by omega⟩ (by dsimp only; omega) (by dsimp only; omega) (by dsimp only; omega)
  have e1 := next m c ⟨4 * b + 1, by omega⟩ (by dsimp only; omega) (by dsimp only; omega) (by dsimp only; omega)
  have e2 := next m c ⟨4 * b + 2, by omega⟩ (by dsimp only; omega) (by dsimp only; omega) (by dsimp only; omega)
  have e3 := done m c ⟨4 * b + 3, h⟩ (by dsimp only; omega) (by dsimp only; omega) (by dsimp only; omega)
  dsimp only [Nat.add_sub_cancel] at e0 e1 e2 e3
  refine e3.trans (congrArg (fun s => truncf .bf16 (addf s (part m c ⟨4 * b + 3, h⟩)) bitsLt_bf16_f32) ?_)
  refine e2.trans (congrArg (fun s => addf s (part m c ⟨4 * b + 2, by omega⟩)) ?_)
  exact e1.trans (congrArg (fun s => addf s (part m c ⟨4 * b + 1, by omega⟩)) e0)

end Steps

variable (m : (ℓ : Loc nD τ sig) → Buf (Elt Ideal) ℓ)

/-- The block of rows and columns each point loads. -/
theorem where0 : ∀ t : Fin cfg0.N, win0_0.index t (0 : Fin 2) = t.val % 4 ∧ win0_0.index t (1 : Fin 2) = t.val / 4 :=
  (by decide +kernel : ∀ t : Fin grid0.N, _)

theorem where1 : ∀ t : Fin cfg0.N, win0_1.index t (0 : Fin 2) = t.val % 4 ∧ win0_1.index t (1 : Fin 2) = 0 :=
  (by decide +kernel : ∀ t : Fin grid0.N, _)

theorem block0 (c : Dev nD) (t : Fin cfg0.N) (k : Fin 2048) (u : Fin 1408) (K : Fin 8192) (U : Fin 2816)
    (hK : K.val = 2048 * (t.val % 4) + k.val) (hU : U.val = 1408 * (t.val / 4) + u.val) :
    (iblk m c 0 t : Vec Ideal S2048x1408 .bf16) (ix2 k u) = m ((c : Thread nD τ).loc main_arg0) (ix2 K U) := by
  obtain ⟨e0, e1⟩ := where0 t
  unfold iblk
  rw [View.read_apply]
  show V m c main_arg0 _ = _
  unfold V
  congr 1
  funext a
  apply Fin.ext
  match a with
  | ⟨0, _⟩ => show win0_0.index t 0 * 2048 + 1 * k.val = K.val; rw [e0, hK]; omega
  | ⟨1, _⟩ => show win0_0.index t 1 * 1408 + 1 * u.val = U.val; rw [e1, hU]; omega

theorem block1 (c : Dev nD) (t : Fin cfg0.N) (k : Fin 2048) (v : Fin 1024) (K : Fin 8192)
    (hK : K.val = 2048 * (t.val % 4) + k.val) :
    (iblk m c 1 t : Vec Ideal S2048x1024 .bf16) (ix2 k v) = m ((c : Thread nD τ).loc main_arg1) (ix2 K v) := by
  obtain ⟨e0, e1⟩ := where1 t
  unfold iblk
  rw [View.read_apply]
  show V m c main_arg1 _ = _
  unfold V
  congr 1
  funext a
  apply Fin.ext
  match a with
  | ⟨0, _⟩ => show win0_1.index t 0 * 2048 + 1 * k.val = K.val; rw [e0, hK]; omega
  | ⟨1, _⟩ => show win0_1.index t 1 * 1024 + 1 * v.val = v.val; rw [e1]; omega

/-- The two arguments. -/
abbrev argA (c : Dev nD) : (⟨2, ![8192, 2816]⟩ : Shape).Idx → EReal := m ((c : Thread nD τ).loc main_arg0)
abbrev argZ (c : Dev nD) : (⟨2, ![8192, 1024]⟩ : Shape).Idx → EReal := m ((c : Thread nD τ).loc main_arg1)

/-- A sum over all rows, block by block. -/
theorem rows (f : Fin 8192 → EReal) : ∑ k, f k =
    (∑ k : Fin 2048, f ⟨k.val, by omega⟩) + (∑ k : Fin 2048, f ⟨2048 + k.val, by omega⟩)
      + (∑ k : Fin 2048, f ⟨4096 + k.val, by omega⟩) + (∑ k : Fin 2048, f ⟨6144 + k.val, by omega⟩) := by
  rw [← Equiv.sum_comp (finProdFinEquiv : Fin 4 × Fin 2048 ≃ Fin 8192) f, Fintype.sum_prod_type, Fin.sum_univ_four]
  refine congrArg₂ (· + ·) ?_ ?_
  · refine congrArg₂ (· + ·) ?_ ?_
    · refine congrArg₂ (· + ·) ?_ ?_
      · exact Finset.sum_congr rfl fun k _ => congrArg f (Fin.ext (by show k.val + 2048 * 0 = k.val; omega))
      · exact Finset.sum_congr rfl fun k _ => congrArg f (Fin.ext (by show k.val + 2048 * 1 = 2048 + k.val; omega))
    · exact Finset.sum_congr rfl fun k _ => congrArg f (Fin.ext (by show k.val + 2048 * 2 = 4096 + k.val; omega))
  · exact Finset.sum_congr rfl fun k _ => congrArg f (Fin.ext (by show k.val + 2048 * 3 = 6144 + k.val; omega))

/-- One point's part of an entry. -/
theorem part_read (c : Dev nD) (b q n : ℕ) (hq : q < 4) (hb : b < 2) (hn : n = 4 * b + q) (h : n < cfg0.N) (u : Fin 1408) (v : Fin 1024) (U : Fin 2816)
    (hU : U.val = 1408 * b + u.val) : part m c ⟨n, h⟩ (ix2 u v) =
      ∑ k : Fin 2048, argA m c (ix2 (⟨2048 * q + k.val, by omega⟩ : Fin 8192) U)
        * argZ m c (ix2 (⟨2048 * q + k.val, by omega⟩ : Fin 8192) v) := by
  subst hn
  refine (product _ _ u v).trans (Finset.sum_congr rfl fun k _ => ?_)
  have hq' : (4 * b + q) % 4 = q := by omega
  have hb' : (4 * b + q) / 4 = b := by omega
  exact congrArg₂ (· * ·) (block0 m c ⟨4 * b + q, h⟩ k u ⟨2048 * q + k.val, by omega⟩ U (by dsimp only; rw [hq']) (by dsimp only; rw [hb', hU]))
    (block1 m c ⟨4 * b + q, h⟩ k v ⟨2048 * q + k.val, by omega⟩ (by dsimp only; rw [hq']))

/-- The result array, entry by entry. -/
theorem entry (c : Dev nD) (U : Fin 2816) (v : Fin 1024) :
    Value.G2 m c (ix2 U v) = ∑ k : Fin 8192, argA m c (ix2 k U) * argZ m c (ix2 k v) := by
  have hN : cfg0.N = 8 := N_0
  have hU : U.val < 2816 := U.isLt
  have hv := v.isLt
  have hp : Value.pt2Of (ix2 U v) = 4 * (U.val / 1408) + 3 := by
    show 4 * (1 * (U.val / 1408 - 0) + 1 * (v.val / 1024 - 0)) + 3 = _
    omega
  have hb : U.val / 1408 < 2 := by omega
  have hl : Value.loc2Of (ix2 U v) = ix2 (⟨U.val % 1408, Nat.mod_lt _ (by decide)⟩ : Fin 1408) v := by
    funext a
    apply Fin.ext
    match a with
    | ⟨0, _⟩ => rfl
    | ⟨1, _⟩ => show v.val % 1024 = v.val; omega
  unfold Value.G2
  rw [dif_pos (by rw [hp]; omega), hl, Value.fold0_congr m c _ _ (4 * (U.val / 1408) + 3) (by omega) hp,
    ← Value.outsAt0_sweep m c (4 * (U.val / 1408) + 3) (by omega), half]
  have hd : U.val = 1408 * (U.val / 1408) + U.val % 1408 := by omega
  rw [rows]
  refine congrArg₂ (fun x y : EReal => x + y) (congrArg₂ (fun x y : EReal => x + y) (congrArg₂ (fun x y : EReal => x + y) ?_ ?_) ?_) ?_
  · refine (part_read m c (U.val / 1408) 0 _ (by omega) hb rfl _ _ v U hd).trans ?_
    exact Finset.sum_congr rfl fun k _ => by simp only [Nat.mul_zero, Nat.zero_add]
  · exact part_read m c (U.val / 1408) 1 _ (by omega) hb rfl _ _ v U hd
  · exact part_read m c (U.val / 1408) 2 _ (by omega) hb rfl _ _ v U hd
  · exact part_read m c (U.val / 1408) 3 _ (by omega) hb rfl _ _ v U hd

end Cert.WeightKernelIdeal.Own

namespace Cert.WeightReferenceIdeal.Own

open Cert.WeightReferenceIdeal Idealize.ShloMosaic

/-- The reference's entry is the sum over all rows. -/
theorem entry (a : (⟨2, ![8192, 2816]⟩ : Shape).Idx → EReal) (z : (⟨2, ![8192, 1024]⟩ : Shape).Idx → EReal) (U : Fin 2816) (v : Fin 1024) :
    Read.val_main_v6 (F := Ideal) a z (ix2 U v) = ∑ k : Fin 8192, a (ix2 k U) * z (ix2 k v) := by
  refine (Read.val_main_v5_apply (F := Ideal) a z (ix2 U v)).trans ((Read.val_main_v4_apply a z _).trans ?_)
  refine Finset.sum_congr rfl fun k _ => ?_
  refine (mul_comm _ _).trans (congrArg₂ (· * ·) ?_ ?_)
  · exact congrArg a (funext fun b => Fin.ext (by match b with | ⟨0, _⟩ => rfl | ⟨1, _⟩ => rfl))
  · exact congrArg z (funext fun b => Fin.ext (by match b with | ⟨0, _⟩ => rfl | ⟨1, _⟩ => rfl))

end Cert.WeightReferenceIdeal.Own

namespace Cert.WeightKernelIdeal.Own

open Idealize.ShloMosaic Idealize.ShloMosaic.TcCoe

/-- The kernel's array is the reference's. -/
theorem whole (m : (ℓ : Loc Cert.WeightKernelIdeal.nD Cert.WeightKernelIdeal.τ Cert.WeightKernelIdeal.sig) → Buf (Elt Ideal) ℓ)
    (c : Dev Cert.WeightKernelIdeal.nD) :
    Cert.WeightReferenceIdeal.Read.val_main_v6 (F := Ideal) (argA m c) (argZ m c) = Cert.WeightKernelIdeal.Value.G2 m c := by
  funext y
  have ey : y = ix2 (y 0) (y 1) := funext fun a => by match a with | ⟨0, _⟩ => rfl | ⟨1, _⟩ => rfl
  rw [ey]
  exact (Cert.WeightReferenceIdeal.Own.entry (argA m c) (argZ m c) (y 0) (y 1)).trans (entry m c (y 0) (y 1)).symm

end Cert.WeightKernelIdeal.Own

end
-- ==== Proof.Columns.lean ====
/-
  A block written in three column pieces of 512, 512 and 384, read back at an entry; and a block of rows
  loaded from a matrix.
-/
module

public import Idealize.ShloMosaic.Lib.Pointwise
public import Idealize.ShloMosaic.Lib.Tactic

@[expose] public section

noncomputable section

namespace ColumnPieces

open Idealize.ShloMosaic Idealize.ShloMosaic.TcCoe

/-- The block. -/
abbrev Wide : Shape := ⟨2, ![1024, 1408]⟩

/-- The columns from `o`, `n` of them. -/
abbrev Cols (n : ℕ) : Shape := ⟨2, ![1024, n]⟩

/-- A column outside the last piece is where the earlier pieces left it. -/
theorem other {o n : ℕ} (inb) (w : Vec Ideal (Cols n) .bf16) (L : List (View.Piece (Elt Ideal) Wide .bf16))
    (i : Fin 1024) (j : Fin 1408) (h : ¬(o ≤ j.val ∧ j.val < o + n)) :
    View.canon ((⟨Rect.unit ![0, o] (Cols n).size inb, w⟩ : View.Piece (Elt Ideal) Wide .bf16) :: L) (ix2 i j) = View.canon L (ix2 i j) := by
  refine View.canon_cons_of_not_mem _ _ fun hm => h ?_
  have := (Rect.mem_set_unit (inb := inb).1 hm) ⟨1, by decide⟩
  exact this

/-- A column inside the last piece is that piece's. -/
theorem own {o n : ℕ} (inb) (w : Vec Ideal (Cols n) .bf16) (L : List (View.Piece (Elt Ideal) Wide .bf16))
    (i : Fin 1024) (j : Fin 1408) (k : Fin n) (h : j.val = o + k.val) :
    View.canon ((⟨Rect.unit ![0, o] (Cols n).size inb, w⟩ : View.Piece (Elt Ideal) Wide .bf16) :: L) (ix2 i j) = w (ix2 i k) := by
  have q : (ix2 i j : Wide.Idx) = (Rect.unit ![0, o] (Cols n).size inb : Rect Wide).emb (ix2 i k) := by
    funext a
    match a with
    | ⟨0, _⟩ => exact Fin.ext (by show i.val = 0 + 1 * i.val; omega)
    | ⟨1, _⟩ => exact Fin.ext (by show j.val = o + 1 * k.val; omega)
  rw [q, View.canon_cons_emb]

/-- Three pieces that are the columns of one function `g` read back as `g`. -/
theorem three (inb1 inb2 inb3) (w1 : Vec Ideal (Cols 512) .bf16) (w2 : Vec Ideal (Cols 512) .bf16) (w3 : Vec Ideal (Cols 384) .bf16)
    (g : Fin 1024 → Fin 1408 → EReal)
    (e1 : ∀ (i : Fin 1024) (k : Fin 512), w1 (ix2 i k) = g i ⟨k.val, by omega⟩)
    (e2 : ∀ (i : Fin 1024) (k : Fin 512), w2 (ix2 i k) = g i ⟨512 + k.val, by omega⟩)
    (e3 : ∀ (i : Fin 1024) (k : Fin 384), w3 (ix2 i k) = g i ⟨1024 + k.val, by omega⟩) (i : Fin 1024) (j : Fin 1408) :
    View.canon [(⟨Rect.unit ![0, 1024] (Cols 384).size inb3, w3⟩ : View.Piece (Elt Ideal) Wide .bf16),
      (⟨Rect.unit ![0, 512] (Cols 512).size inb2, w2⟩ : View.Piece (Elt Ideal) Wide .bf16),
      (⟨Rect.unit ![0, 0] (Cols 512).size inb1, w1⟩ : View.Piece (Elt Ideal) Wide .bf16)] (ix2 i j) = g i j := by
  have hj := j.isLt
  by_cases h3 : 1024 ≤ j.val
  · rw [own inb3 w3 _ i j ⟨j.val - 1024, by omega⟩ (by dsimp only; omega), e3]
    exact congrArg (g i) (Fin.ext (by dsimp only; omega))
  · rw [other inb3 w3 _ i j (by omega)]
    by_cases h2 : 512 ≤ j.val
    · rw [own inb2 w2 _ i j ⟨j.val - 512, by omega⟩ (by dsimp only; omega), e2]
      exact congrArg (g i) (Fin.ext (by dsimp only; omega))
    · rw [other inb2 w2 _ i j (by omega), own inb1 w1 _ i j ⟨j.val, by omega⟩ (by dsimp only; omega), e1]

end ColumnPieces

end
-- ==== Proof.Swiglu.lean ====
/-
  The gated layer's forward value: two products against the two halves of the weights, and the gate of the
  first times the second, stored in three column pieces per block.
-/
module

public import proofs.«01_k».proof.Proof.Columns
public import Idealize.ShloMosaic.Lib.Pipeline.ValueKit
public import proofs.«01_k».proof.Proof.Gen.SwigluKernel.Frame
public import proofs.«01_k».proof.Proof.Gen.SwigluKernelIdeal.Frame
public import proofs.«01_k».proof.Proof.Gen.SwigluKernelIdeal.Value
public import proofs.«01_k».proof.Proof.Gen.SwigluReferenceIdeal
public import proofs.«01_k».proof.Proof.Gen.SwigluReferenceIdeal.Run
public import proofs.«01_k».proof.Proof.Gen.SwigluReferenceIdeal.Read

@[expose] public section

noncomputable section

namespace Cert.SwigluKernelIdeal.Own

open Cert.SwigluKernelIdeal Cert.SwigluKernelIdeal.Gen Idealize.ShloMosaic Idealize.ShloMosaic.TcCoe Idealize.SL.Sem

theorem origin : (![0, 0] : Fin 2 → Nat) = fun _ => 0 := funext fun a => by fin_cases a <;> rfl

/-- Row `i` of the left times row `j` of the right. -/
def row (x : Vec Ideal S1024x1024 .bf16) (w : Vec Ideal S1408x1024 .bf16) (i : Fin 1024) (j : Fin 1408) : EReal :=
  ∑ k : Fin 1024, x (ix2 i k) * w (ix2 j k)

/-- The gate: `g` times its logistic function, times `u`. -/
def gate (g u : EReal) : EReal :=
  g * Ideal.div 1 (1 + Ideal.exp (-g)) * u

variable (c : Dev nD) (i : grid0.Coords)
  (a2 : Memref sig .tc .vmem S1024x1024 .bf16) (h2 : a2.IsWhole) (a3 : Memref sig .tc .vmem S1408x1024 .bf16) (h3 : a3.IsWhole)
  (a4 : Memref sig .tc .vmem S1408x1024 .bf16) (h4 : a4.IsWhole) (a5 : Memref sig .tc .vmem S1024x1408 .bf16) (h5 : a5.IsWhole)
  (a6 : Memref sig .tc .vmem S1024x1408 .bf16) (h6 : a6.IsWhole) (a7 : Memref sig .tc .vmem S1024x1408 .bf16) (h7 : a7.IsWhole)
  (x : Vec Ideal S1024x1024 .bf16) (y : Vec Ideal S1408x1024 .bf16) (z : Vec Ideal S1408x1024 .bf16)

/-- A load of the whole left block. -/
theorem all : View.readAt (Elt Ideal) a2.view
    (Rect.unit ![0, 0] ![1024, 1024] inb_S1024x1024_S1024x1024_0_0 : Rect S1024x1024).toLoadRect (h2.unread x) = x := by
  rw [View.readAt_eq_ld, h2.read_unread]
  exact View.ld_unit_zero (S := S1024x1024) origin _ _

/-- A load of rows of a right block, from row `o`. -/
theorem load {o n : ℕ} (inb) (k : Fin n) (e : Fin 1024) (K : Fin 1408) (hK : K.val = o + k.val) :
    View.readAt (Elt Ideal) a3.view (Rect.unit ![o, 0] ![n, 1024] inb : Rect S1408x1024).toLoadRect (h3.unread y) (ix2 k e) =
      y (ix2 K e) := by
  rw [View.readAt_eq_ld, h3.read_unread]
  refine congrArg y (funext fun a => Fin.ext ?_)
  match a with
  | ⟨0, _⟩ => show o + 1 * k.val = K.val; omega
  | ⟨1, _⟩ => show 0 + 1 * e.val = e.val; omega

/-- The products of the three column pieces. -/
theorem prod9 (v : Vec Ideal S512x1024 .bf16) (r : Fin 1024) (k : Fin 512) :
    k0_pay9 (F := Ideal) x v (ix2 r k) = ∑ e : Fin 1024, x (ix2 r e) * v (ix2 k e) := by
  unfold k0_pay9 k0_pay7
  simp only [pointwise]
  simp

theorem prod14 (v : Vec Ideal S512x1024 .bf16) (r : Fin 1024) (k : Fin 512) :
    k0_pay14 (F := Ideal) x v (ix2 r k) = ∑ e : Fin 1024, x (ix2 r e) * v (ix2 k e) := by
  unfold k0_pay14 k0_pay12
  simp only [pointwise]
  simp

theorem prod4 (v : Vec Ideal S384x1024 .bf16) (r : Fin 1024) (k : Fin 384) :
    k0_pay4 (F := Ideal) x v (ix2 r k) = ∑ e : Fin 1024, x (ix2 r e) * v (ix2 k e) := by
  unfold k0_pay4 k0_pay2
  simp only [pointwise]
  simp

theorem prod7 (v : Vec Ideal S512x1024 .bf16) (r : Fin 1024) (k : Fin 512) :
    k0_pay7 (F := Ideal) x v (ix2 r k) = ∑ e : Fin 1024, x (ix2 r e) * v (ix2 k e) := by
  unfold k0_pay7
  simp only [pointwise]
  simp

theorem prod12 (v : Vec Ideal S512x1024 .bf16) (r : Fin 1024) (k : Fin 512) :
    k0_pay12 (F := Ideal) x v (ix2 r k) = ∑ e : Fin 1024, x (ix2 r e) * v (ix2 k e) := by
  unfold k0_pay12
  simp only [pointwise]
  simp

theorem prod2 (v : Vec Ideal S384x1024 .bf16) (r : Fin 1024) (k : Fin 384) :
    k0_pay2 (F := Ideal) x v (ix2 r k) = ∑ e : Fin 1024, x (ix2 r e) * v (ix2 k e) := by
  unfold k0_pay2
  simp only [pointwise]
  simp

/-- The gates of the three column pieces. -/
theorem gate1 (v w : Vec Ideal S512x1024 .bf16) (r : Fin 1024) (k : Fin 512) :
    k0_pay11 (F := Ideal) x v w (ix2 r k) = gate (k0_pay7 x v (ix2 r k)) (k0_pay7 x w (ix2 r k)) := by
  unfold k0_pay11 gate
  rw [show k0_pay8 (F := Ideal) x w = k0_pay7 x w from rfl]
  generalize k0_pay7 (F := Ideal) x v = p
  generalize k0_pay7 (F := Ideal) x w = q
  simp only [pointwise]
  simp

theorem gate2 (p q : Vec Ideal S1024x512 .f32) (r : Fin 1024) (k : Fin 512) :
    k0_pay1 (F := Ideal) p q (ix2 r k) = gate (p (ix2 r k)) (q (ix2 r k)) := by
  unfold k0_pay1 gate
  simp only [pointwise]
  simp

theorem gate3 (v w : Vec Ideal S384x1024 .bf16) (r : Fin 1024) (k : Fin 384) :
    k0_pay6 (F := Ideal) x v w (ix2 r k) = gate (k0_pay2 x v (ix2 r k)) (k0_pay2 x w (ix2 r k)) := by
  unfold k0_pay6 gate
  rw [show k0_pay3 (F := Ideal) x w = k0_pay2 x w from rfl]
  generalize k0_pay2 (F := Ideal) x v = p
  generalize k0_pay2 (F := Ideal) x w = q
  simp only [pointwise]
  simp

/-- A product of rows that are those of a right block is the block's product. -/
theorem sums {n : ℕ} (v : (⟨2, ![n, 1024]⟩ : Shape).Idx → EReal) (r : Fin 1024) (k : Fin n) (K : Fin 1408)
    (h : ∀ e : Fin 1024, v (ix2 k e) = y (ix2 K e)) :
    ∑ e : Fin 1024, x (ix2 r e) * v (ix2 k e) = row x y r K :=
  Finset.sum_congr rfl fun e _ => congrArg (fun q : EReal => x (ix2 r e) * q) (h e)

/-- The first output holds the product with the first half. -/
theorem first (r : Fin 1024) (j : Fin 1408) :
    out0_A_3 (F := Ideal) c i a2 h2 a3 h3 a4 h4 a5 h5 a6 h6 a7 h7 x y z (ix2 r j) = row x y r j := by
  unfold out0_A_3
  rw [View.read_writes_eq_canon _ _ _ (cover0_A_3 c i a2 h2 a3 h3 a4 h4 a5 h5 a6 h6 a7 h7 x y z)]
  unfold kernelRun0_A
  dsimp only
  sl_unfold_words
  refine ColumnPieces.three _ _ _ _ _ _ (fun r j => row x y r j) (fun r k => ?_) (fun r k => ?_) (fun r k => ?_) r j
  · rw [all a2 h2 x]
    exact (prod9 x _ r k).trans (sums x y _ r k ⟨k.val, by omega⟩ fun e => load a3 h3 y _ k e _ (by dsimp only <;> omega))
  · rw [all a2 h2 x]
    exact (prod14 x _ r k).trans (sums x y _ r k ⟨512 + k.val, by omega⟩ fun e => load a3 h3 y _ k e _ (by dsimp only <;> omega))
  · rw [all a2 h2 x]
    exact (prod4 x _ r k).trans (sums x y _ r k ⟨1024 + k.val, by omega⟩ fun e => load a3 h3 y _ k e _ (by dsimp only <;> omega))

/-- The second output holds the product with the second half. -/
theorem second (r : Fin 1024) (j : Fin 1408) :
    out0_A_4 (F := Ideal) c i a2 h2 a3 h3 a4 h4 a5 h5 a6 h6 a7 h7 x y z (ix2 r j) = row x z r j := by
  unfold out0_A_4
  rw [View.read_writes_eq_canon _ _ _ (cover0_A_4 c i a2 h2 a3 h3 a4 h4 a5 h5 a6 h6 a7 h7 x y z)]
  unfold kernelRun0_A
  dsimp only
  sl_unfold_words
  refine ColumnPieces.three _ _ _ _ _ _ (fun r j => row x z r j) (fun r k => ?_) (fun r k => ?_) (fun r k => ?_) r j
  · rw [all a2 h2 x]
    exact (prod9 x _ r k).trans (sums x z _ r k ⟨k.val, by omega⟩ fun e => load a4 h4 z _ k e _ (by dsimp only <;> omega))
  · rw [all a2 h2 x]
    exact (prod14 x _ r k).trans (sums x z _ r k ⟨512 + k.val, by omega⟩ fun e => load a4 h4 z _ k e _ (by dsimp only <;> omega))
  · rw [all a2 h2 x]
    exact (prod4 x _ r k).trans (sums x z _ r k ⟨1024 + k.val, by omega⟩ fun e => load a4 h4 z _ k e _ (by dsimp only <;> omega))

/-- The third output holds the gate of the two products. -/
theorem third (r : Fin 1024) (j : Fin 1408) :
    out0_A_5 (F := Ideal) c i a2 h2 a3 h3 a4 h4 a5 h5 a6 h6 a7 h7 x y z (ix2 r j) = gate (row x y r j) (row x z r j) := by
  unfold out0_A_5
  rw [View.read_writes_eq_canon _ _ _ (cover0_A_5 c i a2 h2 a3 h3 a4 h4 a5 h5 a6 h6 a7 h7 x y z)]
  unfold kernelRun0_A
  dsimp only
  sl_unfold_words
  refine ColumnPieces.three _ _ _ _ _ _ (fun r j => gate (row x y r j) (row x z r j)) (fun r k => ?_) (fun r k => ?_) (fun r k => ?_) r j
  · rw [all a2 h2 x]
    refine (gate1 x _ _ r k).trans (congrArg₂ gate ?_ ?_)
    · exact (prod7 x _ r k).trans (sums x y _ r k ⟨k.val, by omega⟩ fun e => load a3 h3 y _ k e _ (by dsimp only <;> omega))
    · exact (prod7 x _ r k).trans (sums x z _ r k ⟨k.val, by omega⟩ fun e => load a4 h4 z _ k e _ (by dsimp only <;> omega))
  · rw [all a2 h2 x]
    refine (gate2 _ _ r k).trans (congrArg₂ gate ?_ ?_)
    · exact (prod12 x _ r k).trans (sums x y _ r k ⟨512 + k.val, by omega⟩ fun e => load a3 h3 y _ k e _ (by dsimp only <;> omega))
    · exact (prod12 x _ r k).trans (sums x z _ r k ⟨512 + k.val, by omega⟩ fun e => load a4 h4 z _ k e _ (by dsimp only <;> omega))
  · rw [all a2 h2 x]
    refine (gate3 x _ _ r k).trans (congrArg₂ gate ?_ ?_)
    · exact (prod2 x _ r k).trans (sums x y _ r k ⟨1024 + k.val, by omega⟩ fun e => load a3 h3 y _ k e _ (by dsimp only <;> omega))
    · exact (prod2 x _ r k).trans (sums x z _ r k ⟨1024 + k.val, by omega⟩ fun e => load a4 h4 z _ k e _ (by dsimp only <;> omega))

variable (m : (ℓ : Loc nD τ sig) → Buf (Elt Ideal) ℓ)

/-- The two arguments. -/
abbrev argH : (⟨2, ![8192, 1024]⟩ : Shape).Idx → EReal := m ((c : Thread nD τ).loc main_arg0)
abbrev argW : (⟨2, ![5632, 1024]⟩ : Shape).Idx → EReal := m ((c : Thread nD τ).loc main_arg1)

/-- Row `I` of the first argument times row `J` of the second. -/
def rows (h : (⟨2, ![8192, 1024]⟩ : Shape).Idx → EReal) (w : (⟨2, ![5632, 1024]⟩ : Shape).Idx → EReal)
    (I : Fin 8192) (J : Fin 5632) : EReal :=
  ∑ k : Fin 1024, h (ix2 I k) * w (ix2 J k)

/-- The block of rows each point loads. -/
theorem where0 : ∀ t : Fin cfg0.N, win0_0.index t (0 : Fin 2) = t.val / 2 ∧ win0_0.index t (1 : Fin 2) = 0 :=
  (by decide +kernel : ∀ t : Fin grid0.N, _)

theorem where1 : ∀ t : Fin cfg0.N, win0_1.index t (0 : Fin 2) = t.val % 2 ∧ win0_1.index t (1 : Fin 2) = 0 :=
  (by decide +kernel : ∀ t : Fin grid0.N, _)

theorem where2 : ∀ t : Fin cfg0.N, win0_2.index t (0 : Fin 2) = t.val % 2 + 2 ∧ win0_2.index t (1 : Fin 2) = 0 :=
  (by decide +kernel : ∀ t : Fin grid0.N, _)

theorem block0 (t : Fin cfg0.N) (r k : Fin 1024) (I : Fin 8192) (hI : I.val = 1024 * (t.val / 2) + r.val) :
    (iblk m c 0 t : Vec Ideal S1024x1024 .bf16) (ix2 r k) = argH c m (ix2 I k) := by
  obtain ⟨e0, e1⟩ := where0 t
  unfold iblk
  rw [View.read_apply]
  show V m c main_arg0 _ = _
  unfold V
  congr 1
  funext a
  apply Fin.ext
  match a with
  | ⟨0, _⟩ => show win0_0.index t 0 * 1024 + 1 * r.val = I.val; rw [e0, hI]; omega
  | ⟨1, _⟩ => show win0_0.index t 1 * 1024 + 1 * k.val = k.val; rw [e1]; omega

theorem block1 (t : Fin cfg0.N) (j : Fin 1408) (k : Fin 1024) (J : Fin 5632) (hJ : J.val = 1408 * (t.val % 2) + j.val) :
    (iblk m c 1 t : Vec Ideal S1408x1024 .bf16) (ix2 j k) = argW c m (ix2 J k) := by
  obtain ⟨e0, e1⟩ := where1 t
  unfold iblk
  rw [View.read_apply]
  show V m c main_arg1 _ = _
  unfold V
  congr 1
  funext a
  apply Fin.ext
  match a with
  | ⟨0, _⟩ => show win0_1.index t 0 * 1408 + 1 * j.val = J.val; rw [e0, hJ]; omega
  | ⟨1, _⟩ => show win0_1.index t 1 * 1024 + 1 * k.val = k.val; rw [e1]; omega

theorem block2 (t : Fin cfg0.N) (j : Fin 1408) (k : Fin 1024) (J : Fin 5632) (hJ : J.val = 2816 + 1408 * (t.val % 2) + j.val) :
    (iblk m c 2 t : Vec Ideal S1408x1024 .bf16) (ix2 j k) = argW c m (ix2 J k) := by
  obtain ⟨e0, e1⟩ := where2 t
  unfold iblk
  rw [View.read_apply]
  show V m c main_arg1 _ = _
  unfold V
  congr 1
  funext a
  apply Fin.ext
  match a with
  | ⟨0, _⟩ => show win0_2.index t 0 * 1408 + 1 * j.val = J.val; rw [e0, hJ]; omega
  | ⟨1, _⟩ => show win0_2.index t 1 * 1024 + 1 * k.val = k.val; rw [e1]; omega

theorem row1 (t : Fin cfg0.N) (r : Fin 1024) (j : Fin 1408) (I : Fin 8192) (J : Fin 5632)
    (hI : I.val = 1024 * (t.val / 2) + r.val) (hJ : J.val = 1408 * (t.val % 2) + j.val) :
    row (iblk m c 0 t) (iblk m c 1 t) r j = rows (argH c m) (argW c m) I J :=
  Finset.sum_congr rfl fun k _ => congrArg₂ (fun x y : EReal => x * y) (block0 c m t r k I hI) (block1 c m t j k J hJ)

theorem row2 (t : Fin cfg0.N) (r : Fin 1024) (j : Fin 1408) (I : Fin 8192) (J : Fin 5632)
    (hI : I.val = 1024 * (t.val / 2) + r.val) (hJ : J.val = 2816 + 1408 * (t.val % 2) + j.val) :
    row (iblk m c 0 t) (iblk m c 2 t) r j = rows (argH c m) (argW c m) I J :=
  Finset.sum_congr rfl fun k _ => congrArg₂ (fun x y : EReal => x * y) (block0 c m t r k I hI) (block2 c m t j k J hJ)

/-- The three result arrays. -/
def G3 : Buf (Elt Ideal) ((c : Thread nD τ).loc main_v0_0) := fun i =>
  rows (argH c m) (argW c m) (i 0) ⟨(i 1).val, lt_of_lt_of_le (i 1).isLt (by show 2816 ≤ 5632; decide)⟩
def G4 : Buf (Elt Ideal) ((c : Thread nD τ).loc main_v0_1) := fun i =>
  rows (argH c m) (argW c m) (i 0) ⟨2816 + (i 1).val, Nat.add_lt_add_left (i 1).isLt 2816⟩
def G5 : Buf (Elt Ideal) ((c : Thread nD τ).loc main_v0_2) := fun i => gate (G3 c m i) (G4 c m i)

/-- What a point leaves in its three output blocks. -/
theorem point3 (t : Fin cfg0.N) (r : Fin 1024) (j : Fin 1408) :
    (outsAt0 m c t).1 (ix2 r j) = row (iblk m c 0 t) (iblk m c 1 t) r j := by
  unfold outsAt0
  dsimp only
  generalize iblk m c 0 t = x
  generalize iblk m c 1 t = y
  generalize iblk m c 2 t = z
  exact first c (grid0.coords t) (ms0_0 t) (hs0_0 t) (ms0_1 t) (hs0_1 t) (ms0_2 t) (hs0_2 t) (ms0_3 t) (hs0_3 t) (ms0_4 t) (hs0_4 t) (ms0_5 t) (hs0_5 t) x y z r j

theorem point4 (t : Fin cfg0.N) (r : Fin 1024) (j : Fin 1408) :
    (outsAt0 m c t).2.1 (ix2 r j) = row (iblk m c 0 t) (iblk m c 2 t) r j := by
  unfold outsAt0
  dsimp only
  generalize iblk m c 0 t = x
  generalize iblk m c 1 t = y
  generalize iblk m c 2 t = z
  exact second c (grid0.coords t) (ms0_0 t) (hs0_0 t) (ms0_1 t) (hs0_1 t) (ms0_2 t) (hs0_2 t) (ms0_3 t) (hs0_3 t) (ms0_4 t) (hs0_4 t) (ms0_5 t) (hs0_5 t) x y z r j

theorem point5 (t : Fin cfg0.N) (r : Fin 1024) (j : Fin 1408) :
    (outsAt0 m c t).2.2 (ix2 r j) = gate (row (iblk m c 0 t) (iblk m c 1 t) r j) (row (iblk m c 0 t) (iblk m c 2 t) r j) := by
  unfold outsAt0
  dsimp only
  generalize iblk m c 0 t = x
  generalize iblk m c 1 t = y
  generalize iblk m c 2 t = z
  exact third c (grid0.coords t) (ms0_0 t) (hs0_0 t) (ms0_1 t) (hs0_1 t) (ms0_2 t) (hs0_2 t) (ms0_3 t) (hs0_3 t) (ms0_4 t) (hs0_4 t) (ms0_5 t) (hs0_5 t) x y z r j

/-- The rows and columns each point writes. -/
theorem where3 : ∀ t : Fin cfg0.N, win0_3.index t (0 : Fin 2) = t.val / 2 ∧ win0_3.index t (1 : Fin 2) = t.val % 2 :=
  (by decide +kernel : ∀ t : Fin grid0.N, _)

theorem where4 : ∀ t : Fin cfg0.N, win0_4.index t (0 : Fin 2) = t.val / 2 ∧ win0_4.index t (1 : Fin 2) = t.val % 2 :=
  (by decide +kernel : ∀ t : Fin grid0.N, _)

theorem where5 : ∀ t : Fin cfg0.N, win0_5.index t (0 : Fin 2) = t.val / 2 ∧ win0_5.index t (1 : Fin 2) = t.val % 2 :=
  (by decide +kernel : ∀ t : Fin grid0.N, _)

/-- The three arrays after the run. -/
theorem final3 : (dats m 0 c).arrAt 3 cfg0.N = G3 c m := by
  refine (dats m 0 c).arrAt_eq_of_covers 3 _ (by decide +kernel) fun t hf y => ?_
  obtain ⟨e0, e1⟩ := where3 t
  blk_simp
  rw [after0_3]
  have ey : y = ix2 (y 0) (y 1) := funext fun a => by match a with | ⟨0, _⟩ => rfl | ⟨1, _⟩ => rfl
  refine ((congrArg (outsAt0 m c t).1 ey).trans (point3 c m t (y 0) (y 1))).trans ?_
  exact row1 c m t (y 0) (y 1) _ _ (by show win0_3.index t 0 * 1024 + 1 * (y 0).val = _; rw [e0]; omega) (by show win0_3.index t 1 * 1408 + 1 * (y 1).val = _; rw [e1]; omega)

theorem final4 : (dats m 0 c).arrAt 4 cfg0.N = G4 c m := by
  refine (dats m 0 c).arrAt_eq_of_covers 4 _ (by decide +kernel) fun t hf y => ?_
  obtain ⟨e0, e1⟩ := where4 t
  blk_simp
  rw [after0_4]
  have ey : y = ix2 (y 0) (y 1) := funext fun a => by match a with | ⟨0, _⟩ => rfl | ⟨1, _⟩ => rfl
  refine ((congrArg (outsAt0 m c t).2.1 ey).trans (point4 c m t (y 0) (y 1))).trans ?_
  exact row2 c m t (y 0) (y 1) _ _ (by show win0_4.index t 0 * 1024 + 1 * (y 0).val = _; rw [e0]; omega) (by show 2816 + (win0_4.index t 1 * 1408 + 1 * (y 1).val) = _; rw [e1]; omega)

theorem final5 : (dats m 0 c).arrAt 5 cfg0.N = G5 c m := by
  refine (dats m 0 c).arrAt_eq_of_covers 5 _ (by decide +kernel) fun t hf y => ?_
  obtain ⟨e0, e1⟩ := where5 t
  blk_simp
  rw [after0_5]
  have ey : y = ix2 (y 0) (y 1) := funext fun a => by match a with | ⟨0, _⟩ => rfl | ⟨1, _⟩ => rfl
  refine ((congrArg (outsAt0 m c t).2.2 ey).trans (point5 c m t (y 0) (y 1))).trans ?_
  exact congrArg₂ gate (row1 c m t (y 0) (y 1) _ _ (by show win0_5.index t 0 * 1024 + 1 * (y 0).val = _; rw [e0]; omega) (by show win0_5.index t 1 * 1408 + 1 * (y 1).val = _; rw [e1]; omega)) (row2 c m t (y 0) (y 1) _ _ (by show win0_5.index t 0 * 1024 + 1 * (y 0).val = _; rw [e0]; omega) (by show 2816 + (win0_5.index t 1 * 1408 + 1 * (y 1).val) = _; rw [e1]; omega))

end Cert.SwigluKernelIdeal.Own

namespace Cert.SwigluReferenceIdeal.Own

open Cert.SwigluReferenceIdeal Idealize.ShloMosaic Cert.SwigluKernelIdeal.Own

variable (h : (⟨2, ![8192, 1024]⟩ : Shape).Idx → EReal) (w : (⟨2, ![5632, 1024]⟩ : Shape).Idx → EReal)

/-- The reference's product, entry by entry. -/
theorem product (i : S8192x5632.Idx) : Read.val_main_v3 (F := Ideal) h w i = rows h w (i 0) (i 1) := by
  refine (Read.val_main_v3_apply h w i).trans (Finset.sum_congr rfl fun k _ => congrArg₂ (fun x y : EReal => x * y) ?_ ?_)
  · exact congrArg h (funext fun b => Fin.ext (by match b with | ⟨0, _⟩ => rfl | ⟨1, _⟩ => rfl))
  · refine (Read.val_main_v2_apply (F := Ideal) w _).trans ?_
    exact congrArg w (funext fun b => Fin.ext (by match b with | ⟨0, _⟩ => rfl | ⟨1, _⟩ => rfl))

/-- Its first half. -/
theorem first (i : S8192x2816.Idx) : Read.val_main_v4 (F := Ideal) h w i =
    rows h w (i 0) ⟨(i 1).val, lt_of_lt_of_le (i 1).isLt (by show 2816 ≤ 5632; decide)⟩ :=
  (Read.val_main_v4_apply (F := Ideal) h w i).trans (product h w _)

/-- Its second half. -/
theorem second (i : S8192x2816.Idx) : Read.val_main_v5 (F := Ideal) h w i =
    rows h w (i 0) ⟨2816 + (i 1).val, Nat.add_lt_add_left (i 1).isLt 2816⟩ :=
  (Read.val_main_v5_apply (F := Ideal) h w i).trans (product h w _)

/-- The gate of the halves. -/
theorem third (i : S8192x2816.Idx) : Read.val_main_v10 (F := Ideal) h w i =
    gate (Read.val_main_v4 (F := Ideal) h w i) (Read.val_main_v5 (F := Ideal) h w i) := by
  rw [Read.val_main_v10_apply, Read.val_main_v9_apply, Read.val_main_v8_apply, Read.val_main_call0_v5_apply,
    Read.val_main_call0_v4_apply, Read.val_main_call0_cst_0_apply, Read.val_main_call0_v3_apply, Read.val_main_call0_v2_apply,
    Read.val_main_call0_cst_apply, Read.val_main_call0_v1_apply, Read.val_main_call0_v0_apply]
  generalize Read.val_main_v4 (F := Ideal) h w i = p
  generalize Read.val_main_v5 (F := Ideal) h w i = q
  unfold gate
  simp only [pointwise]

end Cert.SwigluReferenceIdeal.Own

namespace Cert.SwigluKernelIdeal.Own

open Idealize.ShloMosaic Idealize.ShloMosaic.TcCoe Idealize.SL.Sem

variable (m : (ℓ : Loc Cert.SwigluKernelIdeal.nD Cert.SwigluKernelIdeal.τ Cert.SwigluKernelIdeal.sig) → Buf (Elt Ideal) ℓ)
  (c : Dev Cert.SwigluKernelIdeal.nD)

/-- The kernel's arrays are the reference's. -/
theorem whole3 : Cert.SwigluReferenceIdeal.Read.val_main_v6 (F := Ideal) (argH c m) (argW c m) = G3 c m :=
  funext fun i => Cert.SwigluReferenceIdeal.Own.first (argH c m) (argW c m) i

theorem whole4 : Cert.SwigluReferenceIdeal.Read.val_main_v7 (F := Ideal) (argH c m) (argW c m) = G4 c m :=
  funext fun i => Cert.SwigluReferenceIdeal.Own.second (argH c m) (argW c m) i

theorem whole5 : Cert.SwigluReferenceIdeal.Read.val_main_v10 (F := Ideal) (argH c m) (argW c m) = G5 c m :=
  funext fun i => (Cert.SwigluReferenceIdeal.Own.third (argH c m) (argW c m) i).trans
    (congrArg₂ gate (Cert.SwigluReferenceIdeal.Own.first (argH c m) (argW c m) i)
      (Cert.SwigluReferenceIdeal.Own.second (argH c m) (argW c m) i))

end Cert.SwigluKernelIdeal.Own

end
-- ==== Proof.Calls.lean ====
/- The claims of the calls that are single products with an elementwise end. -/
module

public import proofs.«01_k».proof.Defs
public import proofs.«01_k».proof.Proof.Swiglu
public import Idealize.ShloMosaic.Adequacy
public import Idealize.ShloMosaic.Init

@[expose] public section

noncomputable section

namespace Cert.Proof

open Idealize.ShloMosaic Idealize.SL.Sem

/-- The gated layer's reference is a host program: no semaphores, arguments left. -/
theorem frame_swiglu : Cert.quiescent_SwigluReferenceIdeal := fun m ρ _ =>
  (θ_run Cert.SwigluReferenceIdeal.defs _ _).mono (fun r h => ⟨fun c => (h c).2.2.2,
      Idealize.ShloMosaic.sem_eq_zero_of_no_sems (by decide) r.2⟩)
    (Cert.SwigluReferenceIdeal.Value.run (F := Ideal) m ρ)

/-- The gated layer's three results are the reference's. -/
theorem swiglu : Cert.algebraic_SwigluKernelIdeal_SwigluReferenceIdeal := by
  intro m g m' g' _ hargs
  refine ⟨fun c => Cert.SwigluKernelIdeal.Own.G3 c m, fun c => Cert.SwigluKernelIdeal.Own.G4 c m,
    fun c => Cert.SwigluKernelIdeal.Own.G5 c m, ?_, ?_⟩
  · refine (θ_run Cert.SwigluKernelIdeal.defs _ _).mono (fun r h c => ?_) (Cert.SwigluKernelIdeal.Value.run_blocks (F := Ideal) m g)
    obtain ⟨h0, h1, h2, ha⟩ := h c
    exact ⟨h0.trans (Cert.SwigluKernelIdeal.Own.final3 c m), h1.trans (Cert.SwigluKernelIdeal.Own.final4 c m),
      h2.trans (Cert.SwigluKernelIdeal.Own.final5 c m), ha⟩
  refine (θ_run Cert.SwigluReferenceIdeal.defs _ _).mono (fun r h c => ?_) (Cert.SwigluReferenceIdeal.Value.run (F := Ideal) m' g')
  obtain ⟨e0, e1⟩ := hargs c
  obtain ⟨h0, h1, h2, ha⟩ := h c
  refine ⟨h0.trans ((Cert.SwigluReferenceIdeal.Read.val_main_v6_eq (F := Ideal) _ _).trans ?_),
    h1.trans ((Cert.SwigluReferenceIdeal.Read.val_main_v7_eq (F := Ideal) _ _).trans ?_),
    h2.trans ((Cert.SwigluReferenceIdeal.Read.val_main_v10_eq (F := Ideal) _ _).trans ?_), ha⟩
  · rw [e0, e1]
    exact Cert.SwigluKernelIdeal.Own.whole3 m c
  · rw [e0, e1]
    exact Cert.SwigluKernelIdeal.Own.whole4 m c
  · rw [e0, e1]
    exact Cert.SwigluKernelIdeal.Own.whole5 m c

end Cert.Proof

end
-- ==== Proof.Sums.lean ====
/-
  Facts the plain products share: a sum over 8192 rows is the sum of four sums over 2048 rows, and an index
  of rank two is the pair of its entries.
-/
module

public import Idealize.ShloMosaic.Lib.Pipeline.ValueKit
public import Idealize.ShloMosaic.Lib.Pointwise
public import Idealize.ShloMosaic.Lib.Tactic

@[expose] public section

noncomputable section

namespace PlainSums

open Idealize.ShloMosaic

theorem origin : (![0, 0] : Fin 2 → Nat) = fun _ => 0 := funext fun a => by fin_cases a <;> rfl

/-- An index of rank two is the pair of its entries. -/
theorem pair {a b : ℕ} (y : (⟨2, ![a, b]⟩ : Shape).Idx) : y = ix2 (y 0) (y 1) :=
  funext fun a => by match a with | ⟨0, _⟩ => rfl | ⟨1, _⟩ => rfl

/-- Indices of rank two are equal when their entries are. -/
theorem same {a b : ℕ} {y z : (⟨2, ![a, b]⟩ : Shape).Idx} (h0 : (y 0).val = (z 0).val) (h1 : (y 1).val = (z 1).val) : y = z :=
  funext fun a => Fin.ext (by match a with | ⟨0, _⟩ => exact h0 | ⟨1, _⟩ => exact h1)

/-- Row `i` of one array times row `j` of another. -/
def across {a b n : ℕ} (x : (⟨2, ![a, n]⟩ : Shape).Idx → EReal) (w : (⟨2, ![b, n]⟩ : Shape).Idx → EReal) (i : Fin a) (j : Fin b) : EReal :=
  ∑ k : Fin n, x (ix2 i k) * w (ix2 j k)

/-- Column `i` of one array times column `j` of another. -/
def down {a b n : ℕ} (x : (⟨2, ![n, a]⟩ : Shape).Idx → EReal) (w : (⟨2, ![n, b]⟩ : Shape).Idx → EReal) (i : Fin a) (j : Fin b) : EReal :=
  ∑ k : Fin n, x (ix2 k i) * w (ix2 k j)

/-- Products of rows that agree entry by entry are the same. -/
theorem across_congr {a b a' b' n : ℕ} {x : (⟨2, ![a, n]⟩ : Shape).Idx → EReal} {w : (⟨2, ![b, n]⟩ : Shape).Idx → EReal}
    {x' : (⟨2, ![a', n]⟩ : Shape).Idx → EReal} {w' : (⟨2, ![b', n]⟩ : Shape).Idx → EReal} {i : Fin a} {j : Fin b} {i' : Fin a'} {j' : Fin b'}
    (hx : ∀ k, x (ix2 i k) = x' (ix2 i' k)) (hw : ∀ k, w (ix2 j k) = w' (ix2 j' k)) : across x w i j = across x' w' i' j' :=
  Finset.sum_congr rfl fun k _ => congrArg₂ (fun p q : EReal => p * q) (hx k) (hw k)

/-- Row `k` of block `q` of the four. -/
abbrev at4 (q : Fin 4) (k : Fin 2048) : Fin 8192 := ⟨2048 * q.val + k.val, by omega⟩

/-- A sum over all rows, block by block. -/
theorem rows (f : Fin 8192 → EReal) : ∑ k, f k =
    (∑ k : Fin 2048, f (at4 0 k)) + (∑ k : Fin 2048, f (at4 1 k)) + (∑ k : Fin 2048, f (at4 2 k)) + (∑ k : Fin 2048, f (at4 3 k)) := by
  rw [← Equiv.sum_comp (finProdFinEquiv : Fin 4 × Fin 2048 ≃ Fin 8192) f, Fintype.sum_prod_type, Fin.sum_univ_four]
  have h : ∀ q : Fin 4, ∑ k : Fin 2048, f (finProdFinEquiv (q, k)) = ∑ k : Fin 2048, f (at4 q k) := fun q =>
    Finset.sum_congr rfl fun k _ => congrArg f (Fin.ext (by show k.val + 2048 * q.val = 2048 * q.val + k.val; omega))
  rw [h 0, h 1, h 2, h 3]

/-- A running sum over the points: it starts anew at every fourth, and the sum of four is given out at the last of them.
What is given out is the product of columns over all rows, when the points' products are those of the blocks. -/
theorem running {N a b a' b' : ℕ} (S O : (n : ℕ) → n < N → (⟨2, ![a', b']⟩ : Shape).Idx → EReal)
    (x' : Fin N → (⟨2, ![2048, a']⟩ : Shape).Idx → EReal) (w' : Fin N → (⟨2, ![2048, b']⟩ : Shape).Idx → EReal)
    (x : (⟨2, ![8192, a]⟩ : Shape).Idx → EReal) (w : (⟨2, ![8192, b]⟩ : Shape).Idx → EReal) (u : Fin a') (v : Fin b') (U : Fin a) (V : Fin b)
    (first : ∀ t : Fin N, t.val % 4 = 0 → S t.val t.isLt (ix2 u v) = down (x' t) (w' t) u v)
    (next : ∀ t : Fin N, ¬t.val % 4 = 0 → ¬t.val % 4 = 3 →
      S t.val t.isLt (ix2 u v) = S (t.val - 1) (Nat.lt_of_le_of_lt (Nat.sub_le _ _) t.isLt) (ix2 u v) + down (x' t) (w' t) u v)
    (last : ∀ t : Fin N, t.val % 4 = 3 →
      O t.val t.isLt (ix2 u v) = S (t.val - 1) (Nat.lt_of_le_of_lt (Nat.sub_le _ _) t.isLt) (ix2 u v) + down (x' t) (w' t) u v)
    (B : ℕ) (h : 4 * B + 3 < N)
    (hx : ∀ t : Fin N, t.val / 4 = B → ∀ (k : Fin 2048) (K : Fin 8192), K.val = 2048 * (t.val % 4) + k.val → x' t (ix2 k u) = x (ix2 K U))
    (hw : ∀ t : Fin N, t.val / 4 = B → ∀ (k : Fin 2048) (K : Fin 8192), K.val = 2048 * (t.val % 4) + k.val → w' t (ix2 k v) = w (ix2 K V)) :
    O (4 * B + 3) h (ix2 u v) = down x w U V := by
  have d : ∀ (q : Fin 4) (hq : 4 * B + q.val < N), down (x' ⟨4 * B + q.val, hq⟩) (w' ⟨4 * B + q.val, hq⟩) u v =
      ∑ k : Fin 2048, x (ix2 (at4 q k) U) * w (ix2 (at4 q k) V) := fun q hq =>
    Finset.sum_congr rfl fun k _ => congrArg₂ (fun p r : EReal => p * r)
      (hx _ (by dsimp only; omega) k _ (by dsimp only; omega)) (hw _ (by dsimp only; omega) k _ (by dsimp only; omega))
  have e0 := (first ⟨4 * B, by omega⟩ (by dsimp only; omega)).trans (d 0 (by show 4 * B + 0 < N; omega))
  have e1 := next ⟨4 * B + 1, by omega⟩ (by dsimp only; omega) (by dsimp only; omega)
  have e2 := next ⟨4 * B + 2, by omega⟩ (by dsimp only; omega) (by dsimp only; omega)
  have e3 := last ⟨4 * B + 3, h⟩ (by dsimp only; omega)
  dsimp only [Nat.add_sub_cancel] at e0 e1 e2 e3
  refine e3.trans ((congrArg₂ (fun p r : EReal => p + r) (e2.trans (congrArg₂ (fun p r : EReal => p + r)
    (e1.trans (congrArg₂ (fun p r : EReal => p + r) e0 (d 1 (by show 4 * B + 1 < N; omega)))) (d 2 (by show 4 * B + 2 < N; omega))))
    (d 3 h)).trans (rows fun k => x (ix2 k U) * w (ix2 k V)).symm)

/-- The same of a kernel's arrays: the first product of a block is kept, the next are added to what is kept, and the last sum is
given out, converted. `P` is a point's product. -/
theorem swept {N a b a' b' : ℕ} (S : (n : ℕ) → n < N → FVec Ideal ⟨2, ![a', b']⟩ .f32) (O : (n : ℕ) → n < N → FVec Ideal ⟨2, ![a', b']⟩ .bf16)
    (P : Fin N → FVec Ideal ⟨2, ![a', b']⟩ .f32)
    (x' : Fin N → (⟨2, ![2048, a']⟩ : Shape).Idx → EReal) (w' : Fin N → (⟨2, ![2048, b']⟩ : Shape).Idx → EReal)
    (x : (⟨2, ![8192, a]⟩ : Shape).Idx → EReal) (w : (⟨2, ![8192, b]⟩ : Shape).Idx → EReal) (u : Fin a') (v : Fin b') (U : Fin a) (V : Fin b)
    (product : ∀ t, P t (ix2 u v) = down (x' t) (w' t) u v)
    (first : ∀ t : Fin N, t.val % 4 = 0 → S t.val t.isLt = P t)
    (next : ∀ t : Fin N, ¬t.val % 4 = 0 → ¬t.val % 4 = 3 →
      S t.val t.isLt = addf (S (t.val - 1) (Nat.lt_of_le_of_lt (Nat.sub_le _ _) t.isLt)) (P t))
    (last : ∀ t : Fin N, t.val % 4 = 3 →
      O t.val t.isLt = truncf .bf16 (addf (S (t.val - 1) (Nat.lt_of_le_of_lt (Nat.sub_le _ _) t.isLt)) (P t)) (by decide))
    (B : ℕ) (h : 4 * B + 3 < N)
    (hx : ∀ t : Fin N, t.val / 4 = B → ∀ (k : Fin 2048) (K : Fin 8192), K.val = 2048 * (t.val % 4) + k.val → x' t (ix2 k u) = x (ix2 K U))
    (hw : ∀ t : Fin N, t.val / 4 = B → ∀ (k : Fin 2048) (K : Fin 8192), K.val = 2048 * (t.val % 4) + k.val → w' t (ix2 k v) = w (ix2 K V)) :
    O (4 * B + 3) h (ix2 u v) = down x w U V :=
  running S O x' w' x w u v U V (fun t ht => (congrFun (first t ht) _).trans (product t))
    (fun t h0 h3 => (congrFun (next t h0 h3) _).trans (congrArg (fun e : EReal => _ + e) (product t)))
    (fun t h3 => (congrFun (last t h3) _).trans (congrArg (fun e : EReal => _ + e) (product t))) B h hx hw

end PlainSums

end
-- ==== Proof.Gate.lean ====
/-
  The product that gives the gates' columns of z: each point multiplies 2048 rows by 1024 columns.
-/
module

public import proofs.«01_k».proof.Proof.Sums
public import proofs.«01_k».proof.Proof.Gen.GateKernel.Frame
public import proofs.«01_k».proof.Proof.Gen.GateKernelIdeal.Frame
public import proofs.«01_k».proof.Proof.Gen.GateKernelIdeal.Value
public import proofs.«01_k».proof.Proof.Gen.GateReferenceIdeal
public import proofs.«01_k».proof.Proof.Gen.GateReferenceIdeal.Run
public import proofs.«01_k».proof.Proof.Gen.GateReferenceIdeal.Read

@[expose] public section

noncomputable section

namespace Cert.GateKernelIdeal.Own

open Cert.GateKernelIdeal Cert.GateKernelIdeal.Gen Idealize.ShloMosaic Idealize.ShloMosaic.TcCoe Idealize.SL.Sem PlainSums

/-- A point's block is the product of the two blocks it loads. -/
theorem point (x : Vec Ideal S2048x1024 .bf16) (w : Vec Ideal S1024x1024 .bf16) (r : Fin 2048) (j : Fin 1024) :
    out0_2 (F := Ideal) x w (ix2 r j) = across x w r j := by
  unfold out0_2
  rw [View.canon_unit_zero origin, View.ld_unit_zero (S := S2048x1024) origin, View.ld_unit_zero (S := S1024x1024) origin]
  unfold k0_pay1 across
  simp only [pointwise]
  simp

variable (m : (ℓ : Loc nD τ sig) → Buf (Elt Ideal) ℓ) (c : Dev nD)

abbrev argH : (⟨2, ![8192, 1024]⟩ : Shape).Idx → EReal := m ((c : Thread nD τ).loc main_arg0)
abbrev argW : (⟨2, ![3072, 1024]⟩ : Shape).Idx → EReal := m ((c : Thread nD τ).loc main_arg1)

/-- The blocks each point loads and writes. -/
theorem place : ∀ t : Fin cfg0.N, win0_0.index t (0 : Fin 2) = t.val / 3 ∧ win0_0.index t (1 : Fin 2) = 0 ∧
    win0_1.index t (0 : Fin 2) = t.val % 3 ∧ win0_1.index t (1 : Fin 2) = 0 ∧
    win0_2.index t (0 : Fin 2) = t.val / 3 ∧ win0_2.index t (1 : Fin 2) = t.val % 3 :=
  (by decide +kernel : ∀ t : Fin grid0.N, _)

theorem block0 (t : Fin cfg0.N) (r : Fin 2048) (k : Fin 1024) (I : Fin 8192) (hI : I.val = 2048 * (t.val / 3) + r.val) :
    (iblk m c 0 t : Vec Ideal S2048x1024 .bf16) (ix2 r k) = argH m c (ix2 I k) := by
  obtain ⟨e0, e1, -⟩ := place t
  unfold iblk
  rw [View.read_apply]
  refine congrArg (argH m c) (same ?_ ?_)
  · show win0_0.index t 0 * 2048 + 1 * r.val = I.val; rw [e0, hI]; omega
  · show win0_0.index t 1 * 1024 + 1 * k.val = k.val; rw [e1]; omega

theorem block1 (t : Fin cfg0.N) (j : Fin 1024) (k : Fin 1024) (J : Fin 3072) (hJ : J.val = 1024 * (t.val % 3) + j.val) :
    (iblk m c 1 t : Vec Ideal S1024x1024 .bf16) (ix2 j k) = argW m c (ix2 J k) := by
  obtain ⟨-, -, e0, e1, -⟩ := place t
  unfold iblk
  rw [View.read_apply]
  refine congrArg (argW m c) (same ?_ ?_)
  · show win0_1.index t 0 * 1024 + 1 * j.val = J.val; rw [e0, hJ]; omega
  · show win0_1.index t 1 * 1024 + 1 * k.val = k.val; rw [e1]; omega

/-- The result array. -/
def G : Buf (Elt Ideal) ((c : Thread nD τ).loc main_v0) := fun i => across (argH m c) (argW m c) (i 0) (i 1)

theorem final : (dats m 0 c).arrAt 2 cfg0.N = G m c := by
  refine (dats m 0 c).arrAt_eq_of_covers 2 _ (by decide +kernel) fun t hf y => ?_
  obtain ⟨-, -, -, -, e0, e1⟩ := place t
  blk_simp
  rw [after0_2]
  refine ((congrArg (out0_2 (F := Ideal) (iblk m c 0 t) (iblk m c 1 t)) (pair y)).trans (point _ _ (y 0) (y 1))).trans ?_
  exact across_congr
    (fun k => block0 m c t (y 0) k _ (by show win0_2.index t 0 * 2048 + 1 * (y 0).val = _; rw [e0]; omega))
    (fun k => block1 m c t (y 1) k _ (by show win0_2.index t 1 * 1024 + 1 * (y 1).val = _; rw [e1]; omega))

end Cert.GateKernelIdeal.Own

namespace Cert.GateReferenceIdeal.Own

open Cert.GateReferenceIdeal Idealize.ShloMosaic PlainSums

/-- The reference's entry is the same product. -/
theorem entry (h : (⟨2, ![8192, 1024]⟩ : Shape).Idx → EReal) (w : (⟨2, ![3072, 1024]⟩ : Shape).Idx → EReal) (i : S8192x3072.Idx) :
    Read.val_main_v4 (F := Ideal) h w i = across h w (i 0) (i 1) := by
  refine (Read.val_main_v3_apply h w i).trans (Finset.sum_congr rfl fun k _ => congrArg₂ (fun x y : EReal => x * y) ?_ ?_)
  · exact congrArg h (same rfl rfl)
  · exact (Read.val_main_v2_apply (F := Ideal) w _).trans (congrArg w (same rfl rfl))

end Cert.GateReferenceIdeal.Own

end
-- ==== Proof.Qkv.lean ====
/-
  The product that gives the attention's columns of z: each point multiplies 2048 rows by 1152 columns.
-/
module

public import proofs.«01_k».proof.Proof.Sums
public import proofs.«01_k».proof.Proof.Gen.QkvKernel.Frame
public import proofs.«01_k».proof.Proof.Gen.QkvKernelIdeal.Frame
public import proofs.«01_k».proof.Proof.Gen.QkvKernelIdeal.Value
public import proofs.«01_k».proof.Proof.Gen.QkvReferenceIdeal
public import proofs.«01_k».proof.Proof.Gen.QkvReferenceIdeal.Run
public import proofs.«01_k».proof.Proof.Gen.QkvReferenceIdeal.Read

@[expose] public section

noncomputable section

namespace Cert.QkvKernelIdeal.Own

open Cert.QkvKernelIdeal Cert.QkvKernelIdeal.Gen Idealize.ShloMosaic Idealize.ShloMosaic.TcCoe Idealize.SL.Sem PlainSums

/-- A point's block is the product of the two blocks it loads. -/
theorem point (x : Vec Ideal S2048x1024 .bf16) (w : Vec Ideal S1152x1024 .bf16) (r : Fin 2048) (j : Fin 1152) :
    out0_2 (F := Ideal) x w (ix2 r j) = across x w r j := by
  unfold out0_2
  rw [View.canon_unit_zero origin, View.ld_unit_zero (S := S2048x1024) origin, View.ld_unit_zero (S := S1152x1024) origin]
  unfold k0_pay1 across
  simp only [pointwise]
  simp

variable (m : (ℓ : Loc nD τ sig) → Buf (Elt Ideal) ℓ) (c : Dev nD)

abbrev argH : (⟨2, ![8192, 1024]⟩ : Shape).Idx → EReal := m ((c : Thread nD τ).loc main_arg0)
abbrev argW : (⟨2, ![2304, 1024]⟩ : Shape).Idx → EReal := m ((c : Thread nD τ).loc main_arg1)

/-- The blocks each point loads and writes. -/
theorem place : ∀ t : Fin cfg0.N, win0_0.index t (0 : Fin 2) = t.val / 2 ∧ win0_0.index t (1 : Fin 2) = 0 ∧
    win0_1.index t (0 : Fin 2) = t.val % 2 ∧ win0_1.index t (1 : Fin 2) = 0 ∧
    win0_2.index t (0 : Fin 2) = t.val / 2 ∧ win0_2.index t (1 : Fin 2) = t.val % 2 :=
  (by decide +kernel : ∀ t : Fin grid0.N, _)

theorem block0 (t : Fin cfg0.N) (r : Fin 2048) (k : Fin 1024) (I : Fin 8192) (hI : I.val = 2048 * (t.val / 2) + r.val) :
    (iblk m c 0 t : Vec Ideal S2048x1024 .bf16) (ix2 r k) = argH m c (ix2 I k) := by
  obtain ⟨e0, e1, -⟩ := place t
  unfold iblk
  rw [View.read_apply]
  refine congrArg (argH m c) (same ?_ ?_)
  · show win0_0.index t 0 * 2048 + 1 * r.val = I.val; rw [e0, hI]; omega
  · show win0_0.index t 1 * 1024 + 1 * k.val = k.val; rw [e1]; omega

theorem block1 (t : Fin cfg0.N) (j : Fin 1152) (k : Fin 1024) (J : Fin 2304) (hJ : J.val = 1152 * (t.val % 2) + j.val) :
    (iblk m c 1 t : Vec Ideal S1152x1024 .bf16) (ix2 j k) = argW m c (ix2 J k) := by
  obtain ⟨-, -, e0, e1, -⟩ := place t
  unfold iblk
  rw [View.read_apply]
  refine congrArg (argW m c) (same ?_ ?_)
  · show win0_1.index t 0 * 1152 + 1 * j.val = J.val; rw [e0, hJ]; omega
  · show win0_1.index t 1 * 1024 + 1 * k.val = k.val; rw [e1]; omega

/-- The result array. -/
def G : Buf (Elt Ideal) ((c : Thread nD τ).loc main_v0) := fun i => across (argH m c) (argW m c) (i 0) (i 1)

theorem final : (dats m 0 c).arrAt 2 cfg0.N = G m c := by
  refine (dats m 0 c).arrAt_eq_of_covers 2 _ (by decide +kernel) fun t hf y => ?_
  obtain ⟨-, -, -, -, e0, e1⟩ := place t
  blk_simp
  rw [after0_2]
  refine ((congrArg (out0_2 (F := Ideal) (iblk m c 0 t) (iblk m c 1 t)) (pair y)).trans (point _ _ (y 0) (y 1))).trans ?_
  exact across_congr
    (fun k => block0 m c t (y 0) k _ (by show win0_2.index t 0 * 2048 + 1 * (y 0).val = _; rw [e0]; omega))
    (fun k => block1 m c t (y 1) k _ (by show win0_2.index t 1 * 1152 + 1 * (y 1).val = _; rw [e1]; omega))

end Cert.QkvKernelIdeal.Own

namespace Cert.QkvReferenceIdeal.Own

open Cert.QkvReferenceIdeal Idealize.ShloMosaic PlainSums

/-- The reference's entry is the same product. -/
theorem entry (h : (⟨2, ![8192, 1024]⟩ : Shape).Idx → EReal) (w : (⟨2, ![2304, 1024]⟩ : Shape).Idx → EReal) (i : S8192x2304.Idx) :
    Read.val_main_v4 (F := Ideal) h w i = across h w (i 0) (i 1) := by
  refine (Read.val_main_v3_apply h w i).trans (Finset.sum_congr rfl fun k _ => congrArg₂ (fun x y : EReal => x * y) ?_ ?_)
  · exact congrArg h (same rfl rfl)
  · exact (Read.val_main_v2_apply (F := Ideal) w _).trans (congrArg w (same rfl rfl))

end Cert.QkvReferenceIdeal.Own

end
-- ==== Proof.Conv.lean ====
/-
  The product that gives the convolution's columns of z: each point multiplies 2048 rows by all 1024 columns.
-/
module

public import proofs.«01_k».proof.Proof.Sums
public import proofs.«01_k».proof.Proof.Gen.ConvKernel.Frame
public import proofs.«01_k».proof.Proof.Gen.ConvKernelIdeal.Frame
public import proofs.«01_k».proof.Proof.Gen.ConvKernelIdeal.Value
public import proofs.«01_k».proof.Proof.Gen.ConvReferenceIdeal
public import proofs.«01_k».proof.Proof.Gen.ConvReferenceIdeal.Run
public import proofs.«01_k».proof.Proof.Gen.ConvReferenceIdeal.Read

@[expose] public section

noncomputable section

namespace Cert.ConvKernelIdeal.Own

open Cert.ConvKernelIdeal Cert.ConvKernelIdeal.Gen Idealize.ShloMosaic Idealize.ShloMosaic.TcCoe Idealize.SL.Sem PlainSums

/-- A point's block is the product of the two blocks it loads. -/
theorem point (x : Vec Ideal S2048x1024 .bf16) (w : Vec Ideal S1024x1024 .bf16) (r : Fin 2048) (j : Fin 1024) :
    out0_2 (F := Ideal) x w (ix2 r j) = across x w r j := by
  unfold out0_2
  rw [View.canon_unit_zero origin, View.ld_unit_zero (S := S2048x1024) origin, View.ld_unit_zero (S := S1024x1024) origin]
  unfold k0_pay1 across
  simp only [pointwise]
  simp

variable (m : (ℓ : Loc nD τ sig) → Buf (Elt Ideal) ℓ) (c : Dev nD)

abbrev argH : (⟨2, ![8192, 1024]⟩ : Shape).Idx → EReal := m ((c : Thread nD τ).loc main_arg0)
abbrev argW : (⟨2, ![1024, 1024]⟩ : Shape).Idx → EReal := m ((c : Thread nD τ).loc main_arg1)

/-- The blocks each point loads and writes. -/
theorem place : ∀ t : Fin cfg0.N, win0_0.index t (0 : Fin 2) = t.val / 1 ∧ win0_0.index t (1 : Fin 2) = 0 ∧
    win0_1.index t (0 : Fin 2) = t.val % 1 ∧ win0_1.index t (1 : Fin 2) = 0 ∧
    win0_2.index t (0 : Fin 2) = t.val / 1 ∧ win0_2.index t (1 : Fin 2) = t.val % 1 :=
  (by decide +kernel : ∀ t : Fin grid0.N, _)

theorem block0 (t : Fin cfg0.N) (r : Fin 2048) (k : Fin 1024) (I : Fin 8192) (hI : I.val = 2048 * (t.val / 1) + r.val) :
    (iblk m c 0 t : Vec Ideal S2048x1024 .bf16) (ix2 r k) = argH m c (ix2 I k) := by
  obtain ⟨e0, e1, -⟩ := place t
  unfold iblk
  rw [View.read_apply]
  refine congrArg (argH m c) (same ?_ ?_)
  · show win0_0.index t 0 * 2048 + 1 * r.val = I.val; rw [e0, hI]; omega
  · show win0_0.index t 1 * 1024 + 1 * k.val = k.val; rw [e1]; omega

theorem block1 (t : Fin cfg0.N) (j : Fin 1024) (k : Fin 1024) (J : Fin 1024) (hJ : J.val = 1024 * (t.val % 1) + j.val) :
    (iblk m c 1 t : Vec Ideal S1024x1024 .bf16) (ix2 j k) = argW m c (ix2 J k) := by
  obtain ⟨-, -, e0, e1, -⟩ := place t
  unfold iblk
  rw [View.read_apply]
  refine congrArg (argW m c) (same ?_ ?_)
  · show win0_1.index t 0 * 1024 + 1 * j.val = J.val; rw [e0, hJ]; omega
  · show win0_1.index t 1 * 1024 + 1 * k.val = k.val; rw [e1]; omega

/-- The result array. -/
def G : Buf (Elt Ideal) ((c : Thread nD τ).loc main_v0) := fun i => across (argH m c) (argW m c) (i 0) (i 1)

theorem final : (dats m 0 c).arrAt 2 cfg0.N = G m c := by
  refine (dats m 0 c).arrAt_eq_of_covers 2 _ (by decide +kernel) fun t hf y => ?_
  obtain ⟨-, -, -, -, e0, e1⟩ := place t
  blk_simp
  rw [after0_2]
  refine ((congrArg (out0_2 (F := Ideal) (iblk m c 0 t) (iblk m c 1 t)) (pair y)).trans (point _ _ (y 0) (y 1))).trans ?_
  exact across_congr
    (fun k => block0 m c t (y 0) k _ (by show win0_2.index t 0 * 2048 + 1 * (y 0).val = _; rw [e0]; omega))
    (fun k => block1 m c t (y 1) k _ (by show win0_2.index t 1 * 1024 + 1 * (y 1).val = _; rw [e1]; omega))

end Cert.ConvKernelIdeal.Own

namespace Cert.ConvReferenceIdeal.Own

open Cert.ConvReferenceIdeal Idealize.ShloMosaic PlainSums

/-- The reference's entry is the same product. -/
theorem entry (h : (⟨2, ![8192, 1024]⟩ : Shape).Idx → EReal) (w : (⟨2, ![1024, 1024]⟩ : Shape).Idx → EReal) (i : S8192x1024.Idx) :
    Read.val_main_v4 (F := Ideal) h w i = across h w (i 0) (i 1) := by
  refine (Read.val_main_v3_apply h w i).trans (Finset.sum_congr rfl fun k _ => congrArg₂ (fun x y : EReal => x * y) ?_ ?_)
  · exact congrArg h (same rfl rfl)
  · exact (Read.val_main_v2_apply (F := Ideal) w _).trans (congrArg w (same rfl rfl))

end Cert.ConvReferenceIdeal.Own

end
-- ==== Proof.GateGrad.lean ====
/-
  The gradient of the gates' rows of the input weights: each block of 1024 rows is the sum of four products, one
  per block of 2048 positions, kept in a running sum and stored after the fourth.
-/
module

public import proofs.«01_k».proof.Proof.Sums
public import proofs.«01_k».proof.Proof.Gen.GateGradKernel.Frame
public import proofs.«01_k».proof.Proof.Gen.GateGradKernelIdeal.Frame
public import proofs.«01_k».proof.Proof.Gen.GateGradKernelIdeal.Value
public import proofs.«01_k».proof.Proof.Gen.GateGradReferenceIdeal
public import proofs.«01_k».proof.Proof.Gen.GateGradReferenceIdeal.Run
public import proofs.«01_k».proof.Proof.Gen.GateGradReferenceIdeal.Read

@[expose] public section

noncomputable section

namespace Cert.GateGradKernelIdeal.Own

open Cert.GateGradKernelIdeal Cert.GateGradKernelIdeal.Gen Idealize.ShloMosaic Idealize.ShloMosaic.TcCoe Idealize.SL.Sem PlainSums

section Pieces

variable (c : Dev nD) (i : grid0.Coords)
  (a3 : Memref sig .tc .vmem S2048x1024 .bf16) (h3 : a3.IsWhole) (a4 : Memref sig .tc .vmem S2048x1024 .bf16) (h4 : a4.IsWhole)
  (a5 : Memref sig .tc .vmem S1024x1024 .bf16) (h5 : a5.IsWhole) (a6 : Memref sig .tc .vmem S1024x1024 .f32) (h6 : a6.IsWhole)
  (x : Vec Ideal S2048x1024 .bf16) (y : Vec Ideal S2048x1024 .bf16) (s : Vec Ideal S1024x1024 .f32)

/-- The first product starts the running sum. -/
theorem start (p : cond0_0 i) (q : ¬cond0_1 i) (r : ¬cond0_2 i) :
    sout0_A_0 c i a3 h3 a4 h4 a5 h5 a6 h6 p q r x y = k0_pay1 x y := by
  unfold sout0_A_0
  rw [View.read_writes_eq_canon _ _ _ (scover0_A_0 c i a3 h3 a4 h4 a5 h5 a6 h6 p q r x y)]
  unfold kernelRun0_A
  dsimp only
  rw [View.canon_unit_zero origin]
  unfold k0_pay2
  simp only [View.readAt_eq_ld, h3.read_unread, h4.read_unread, View.ld_unit_zero (S := S2048x1024) origin,
    View.ld_unit_zero (S := S2048x1024) origin, shapeCast_self]

/-- A later product is added. -/
theorem more (p : ¬cond0_0 i) (q : cond0_1 i) (r : ¬cond0_2 i) :
    sout0_B_0 c i a3 h3 a4 h4 a5 h5 a6 h6 p q r x y s = addf s (k0_pay1 x y) := by
  unfold sout0_B_0
  rw [View.read_writes_eq_canon _ _ _ (scover0_B_0 c i a3 h3 a4 h4 a5 h5 a6 h6 p q r x y s)]
  unfold kernelRun0_B
  dsimp only
  rw [View.canon_unit_zero origin]
  unfold k0_pay3
  simp only [View.readAt_eq_ld, h3.read_unread, h4.read_unread, h6.read_unread, View.ld_unit_zero (S := S2048x1024) origin,
    View.ld_unit_zero (S := S2048x1024) origin, View.ld_unit_zero (S := S1024x1024) origin, shapeCast_self]

/-- The last is added and the sum stored. -/
theorem last (p : ¬cond0_0 i) (q : cond0_1 i) (r : cond0_2 i) :
    out0_C_2 c i a3 h3 a4 h4 a5 h5 a6 h6 p q r x y s = truncf .bf16 (addf s (k0_pay1 x y)) bitsLt_bf16_f32 := by
  unfold out0_C_2
  rw [View.read_writes_eq_canon _ _ _ (cover0_C_2 c i a3 h3 a4 h4 a5 h5 a6 h6 p q r x y s)]
  unfold kernelRun0_C
  dsimp only
  sl_unfold_words
  rw [View.canon_unit_zero origin, View.readCov_unit_zero (S := S1024x1024) _ origin]
  unfold k0_pay4 k0_pay3
  simp only [View.readAt_eq_ld, h3.read_unread, h4.read_unread, h6.read_unread, View.ld_unit_zero (S := S2048x1024) origin,
    View.ld_unit_zero (S := S2048x1024) origin, View.ld_unit_zero (S := S1024x1024) origin, shapeCast_self]

/-- The product of two blocks, entry by entry. -/
theorem product (u : Fin 1024) (v : Fin 1024) : k0_pay1 (F := Ideal) x y (ix2 u v) = down x y u v := by
  unfold k0_pay1 down
  simp only [pointwise]
  simp

end Pieces

variable (m : (ℓ : Loc nD τ sig) → Buf (Elt Ideal) ℓ) (c : Dev nD)

/-- The running sum after a point, and what a point stores. -/
abbrev sumAt (n : ℕ) (h : n < cfg0.N) : Vec Ideal S1024x1024 .f32 := (outsAt0 m c n h).2
abbrev storedAt (n : ℕ) (h : n < cfg0.N) : Vec Ideal S1024x1024 .bf16 := (outsAt0 m c n h).1

theorem first (t : Fin cfg0.N) (h0 : t.val % 4 = 0) (h1 : ¬1 ≤ t.val % 4) (h2 : ¬t.val % 4 = 3) :
    sumAt m c t.val t.isLt = k0_pay1 (iblk m c 0 t) (iblk m c 1 t) := by
  unfold sumAt
  rw [outsAt0_A m c t h0 h1 h2]
  dsimp only
  generalize iblk m c 0 t = x
  generalize iblk m c 1 t = y
  exact start c (grid0.coords t) (ms0_0 t) (hs0_0 t) (ms0_1 t) (hs0_1 t) (ms0_2 t) (hs0_2 t) scM0_0 (Memref.isWhole_whole _)
    x y ((hcond0_0 t).mpr h0) (fun h => h1 ((hcond0_1 t).mp h)) (fun h => h2 ((hcond0_2 t).mp h))

theorem next (t : Fin cfg0.N) (h0 : ¬t.val % 4 = 0) (h1 : 1 ≤ t.val % 4) (h2 : ¬t.val % 4 = 3) :
    sumAt m c t.val t.isLt =
      addf (sumAt m c (t.val - 1) (Nat.lt_of_le_of_lt (Nat.sub_le _ _) t.isLt)) (k0_pay1 (iblk m c 0 t) (iblk m c 1 t)) := by
  unfold sumAt
  rw [outsAt0_B m c t h0 h1 h2]
  dsimp only
  generalize iblk m c 0 t = x
  generalize iblk m c 1 t = y
  exact more c (grid0.coords t) (ms0_0 t) (hs0_0 t) (ms0_1 t) (hs0_1 t) (ms0_2 t) (hs0_2 t) scM0_0 (Memref.isWhole_whole _)
    x y _ (fun h => h0 ((hcond0_0 t).mp h)) ((hcond0_1 t).mpr h1) (fun h => h2 ((hcond0_2 t).mp h))

theorem done (t : Fin cfg0.N) (h0 : ¬t.val % 4 = 0) (h1 : 1 ≤ t.val % 4) (h2 : t.val % 4 = 3) :
    storedAt m c t.val t.isLt = truncf .bf16
      (addf (sumAt m c (t.val - 1) (Nat.lt_of_le_of_lt (Nat.sub_le _ _) t.isLt)) (k0_pay1 (iblk m c 0 t) (iblk m c 1 t))) bitsLt_bf16_f32 := by
  unfold storedAt sumAt
  rw [outsAt0_C m c t h0 h1 h2]
  dsimp only
  generalize iblk m c 0 t = x
  generalize iblk m c 1 t = y
  exact last c (grid0.coords t) (ms0_0 t) (hs0_0 t) (ms0_1 t) (hs0_1 t) (ms0_2 t) (hs0_2 t) scM0_0 (Memref.isWhole_whole _)
    x y _ (fun h => h0 ((hcond0_0 t).mp h)) ((hcond0_1 t).mpr h1) ((hcond0_2 t).mpr h2)

/-- The block of rows and columns each point loads. -/
theorem place : ∀ t : Fin cfg0.N, win0_0.index t (0 : Fin 2) = t.val % 4 ∧ win0_0.index t (1 : Fin 2) = t.val / 4 ∧
    win0_1.index t (0 : Fin 2) = t.val % 4 ∧ win0_1.index t (1 : Fin 2) = 0 :=
  (by decide +kernel : ∀ t : Fin grid0.N, _)

abbrev argZ : (⟨2, ![8192, 3072]⟩ : Shape).Idx → EReal := m ((c : Thread nD τ).loc main_arg0)
abbrev argH : (⟨2, ![8192, 1024]⟩ : Shape).Idx → EReal := m ((c : Thread nD τ).loc main_arg1)

theorem block0 (t : Fin cfg0.N) (k : Fin 2048) (u : Fin 1024) (K : Fin 8192) (U : Fin 3072)
    (hK : K.val = 2048 * (t.val % 4) + k.val) (hU : U.val = 1024 * (t.val / 4) + u.val) :
    (iblk m c 0 t : Vec Ideal S2048x1024 .bf16) (ix2 k u) = argZ m c (ix2 K U) := by
  obtain ⟨e0, e1, -⟩ := place t
  unfold iblk
  rw [View.read_apply]
  refine congrArg (argZ m c) (same ?_ ?_)
  · show win0_0.index t 0 * 2048 + 1 * k.val = K.val; rw [e0, hK]; omega
  · show win0_0.index t 1 * 1024 + 1 * u.val = U.val; rw [e1, hU]; omega

theorem block1 (t : Fin cfg0.N) (k : Fin 2048) (v : Fin 1024) (K : Fin 8192) (hK : K.val = 2048 * (t.val % 4) + k.val) :
    (iblk m c 1 t : Vec Ideal S2048x1024 .bf16) (ix2 k v) = argH m c (ix2 K v) := by
  obtain ⟨-, -, e0, e1⟩ := place t
  unfold iblk
  rw [View.read_apply]
  refine congrArg (argH m c) (same ?_ ?_)
  · show win0_1.index t 0 * 2048 + 1 * k.val = K.val; rw [e0, hK]; omega
  · show win0_1.index t 1 * 1024 + 1 * v.val = v.val; rw [e1]; omega

/-- The result array, entry by entry. -/
theorem entry (U : Fin 3072) (v : Fin 1024) : Value.G2 m c (ix2 U v) = down (argZ m c) (argH m c) U v := by
  have hN : cfg0.N = 12 := N_0
  have hU : U.val < 3072 := U.isLt
  have hv := v.isLt
  have hp : Value.pt2Of (ix2 U v) = 4 * (U.val / 1024) + 3 := by
    show 4 * (1 * (U.val / 1024 - 0) + 1 * (v.val / 1024 - 0)) + 3 = _
    omega
  have hl : Value.loc2Of (ix2 U v) = ix2 (⟨U.val % 1024, Nat.mod_lt _ (by decide)⟩ : Fin 1024) v :=
    same rfl (by show v.val % 1024 = v.val; omega)
  unfold Value.G2
  rw [dif_pos (by rw [hp]; omega), hl, Value.fold0_congr m c _ _ (4 * (U.val / 1024) + 3) (by omega) hp,
    ← Value.outsAt0_sweep m c (4 * (U.val / 1024) + 3) (by omega)]
  exact swept (sumAt m c) (storedAt m c) (fun t => k0_pay1 (iblk m c 0 t) (iblk m c 1 t)) (fun t => iblk m c 0 t) (fun t => iblk m c 1 t) (argZ m c) (argH m c) _ v U v
    (fun t => product _ _ _ v) (fun t h => first m c t h (by omega) (by omega)) (fun t h h' => next m c t h (by omega) h')
    (fun t h => done m c t (by omega) (by omega) h) (U.val / 1024) (by omega)
    (fun t ht k K hK => block0 m c t k _ K U hK (by rw [ht]; show U.val = 1024 * (U.val / 1024) + U.val % 1024; omega))
    (fun t ht k K hK => block1 m c t k v K hK)

end Cert.GateGradKernelIdeal.Own

namespace Cert.GateGradReferenceIdeal.Own

open Cert.GateGradReferenceIdeal Idealize.ShloMosaic PlainSums

/-- The reference's entry is the same product of columns. -/
theorem entry (z : (⟨2, ![8192, 3072]⟩ : Shape).Idx → EReal) (h : (⟨2, ![8192, 1024]⟩ : Shape).Idx → EReal) (i : S3072x1024.Idx) :
    Read.val_main_v8 (F := Ideal) z h i = down z h (i 0) (i 1) := by
  refine (Read.val_main_v7_apply (F := Ideal) z h i).trans ((Read.val_main_v6_apply (F := Ideal) z h _).trans
    ((Read.val_main_v5_apply z h _).trans ?_))
  exact Finset.sum_congr rfl fun k _ => congrArg₂ (fun p q : EReal => p * q) (congrArg z (same rfl rfl)) (congrArg h (same rfl rfl))

end Cert.GateGradReferenceIdeal.Own

end
-- ==== Proof.QkvGrad.lean ====
/-
  The gradient of the attention's rows of the input weights: each block of 1152 rows is the sum of four products, one
  per block of 2048 positions, kept in a running sum and stored after the fourth.
-/
module

public import proofs.«01_k».proof.Proof.Sums
public import proofs.«01_k».proof.Proof.Gen.QkvGradKernel.Frame
public import proofs.«01_k».proof.Proof.Gen.QkvGradKernelIdeal.Frame
public import proofs.«01_k».proof.Proof.Gen.QkvGradKernelIdeal.Value
public import proofs.«01_k».proof.Proof.Gen.QkvGradReferenceIdeal
public import proofs.«01_k».proof.Proof.Gen.QkvGradReferenceIdeal.Run
public import proofs.«01_k».proof.Proof.Gen.QkvGradReferenceIdeal.Read

@[expose] public section

noncomputable section

namespace Cert.QkvGradKernelIdeal.Own

open Cert.QkvGradKernelIdeal Cert.QkvGradKernelIdeal.Gen Idealize.ShloMosaic Idealize.ShloMosaic.TcCoe Idealize.SL.Sem PlainSums

section Pieces

variable (c : Dev nD) (i : grid0.Coords)
  (a3 : Memref sig .tc .vmem S2048x1152 .bf16) (h3 : a3.IsWhole) (a4 : Memref sig .tc .vmem S2048x1024 .bf16) (h4 : a4.IsWhole)
  (a5 : Memref sig .tc .vmem S1152x1024 .bf16) (h5 : a5.IsWhole) (a6 : Memref sig .tc .vmem S1152x1024 .f32) (h6 : a6.IsWhole)
  (x : Vec Ideal S2048x1152 .bf16) (y : Vec Ideal S2048x1024 .bf16) (s : Vec Ideal S1152x1024 .f32)

/-- The first product starts the running sum. -/
theorem start (p : cond0_0 i) (q : ¬cond0_1 i) (r : ¬cond0_2 i) :
    sout0_A_0 c i a3 h3 a4 h4 a5 h5 a6 h6 p q r x y = k0_pay1 x y := by
  unfold sout0_A_0
  rw [View.read_writes_eq_canon _ _ _ (scover0_A_0 c i a3 h3 a4 h4 a5 h5 a6 h6 p q r x y)]
  unfold kernelRun0_A
  dsimp only
  rw [View.canon_unit_zero origin]
  unfold k0_pay2
  simp only [View.readAt_eq_ld, h3.read_unread, h4.read_unread, View.ld_unit_zero (S := S2048x1152) origin,
    View.ld_unit_zero (S := S2048x1024) origin, shapeCast_self]

/-- A later product is added. -/
theorem more (p : ¬cond0_0 i) (q : cond0_1 i) (r : ¬cond0_2 i) :
    sout0_B_0 c i a3 h3 a4 h4 a5 h5 a6 h6 p q r x y s = addf s (k0_pay1 x y) := by
  unfold sout0_B_0
  rw [View.read_writes_eq_canon _ _ _ (scover0_B_0 c i a3 h3 a4 h4 a5 h5 a6 h6 p q r x y s)]
  unfold kernelRun0_B
  dsimp only
  rw [View.canon_unit_zero origin]
  unfold k0_pay3
  simp only [View.readAt_eq_ld, h3.read_unread, h4.read_unread, h6.read_unread, View.ld_unit_zero (S := S2048x1152) origin,
    View.ld_unit_zero (S := S2048x1024) origin, View.ld_unit_zero (S := S1152x1024) origin, shapeCast_self]

/-- The last is added and the sum stored. -/
theorem last (p : ¬cond0_0 i) (q : cond0_1 i) (r : cond0_2 i) :
    out0_C_2 c i a3 h3 a4 h4 a5 h5 a6 h6 p q r x y s = truncf .bf16 (addf s (k0_pay1 x y)) bitsLt_bf16_f32 := by
  unfold out0_C_2
  rw [View.read_writes_eq_canon _ _ _ (cover0_C_2 c i a3 h3 a4 h4 a5 h5 a6 h6 p q r x y s)]
  unfold kernelRun0_C
  dsimp only
  sl_unfold_words
  rw [View.canon_unit_zero origin, View.readCov_unit_zero (S := S1152x1024) _ origin]
  unfold k0_pay4 k0_pay3
  simp only [View.readAt_eq_ld, h3.read_unread, h4.read_unread, h6.read_unread, View.ld_unit_zero (S := S2048x1152) origin,
    View.ld_unit_zero (S := S2048x1024) origin, View.ld_unit_zero (S := S1152x1024) origin, shapeCast_self]

/-- The product of two blocks, entry by entry. -/
theorem product (u : Fin 1152) (v : Fin 1024) : k0_pay1 (F := Ideal) x y (ix2 u v) = down x y u v := by
  unfold k0_pay1 down
  simp only [pointwise]
  simp

end Pieces

variable (m : (ℓ : Loc nD τ sig) → Buf (Elt Ideal) ℓ) (c : Dev nD)

/-- The running sum after a point, and what a point stores. -/
abbrev sumAt (n : ℕ) (h : n < cfg0.N) : Vec Ideal S1152x1024 .f32 := (outsAt0 m c n h).2
abbrev storedAt (n : ℕ) (h : n < cfg0.N) : Vec Ideal S1152x1024 .bf16 := (outsAt0 m c n h).1

theorem first (t : Fin cfg0.N) (h0 : t.val % 4 = 0) (h1 : ¬1 ≤ t.val % 4) (h2 : ¬t.val % 4 = 3) :
    sumAt m c t.val t.isLt = k0_pay1 (iblk m c 0 t) (iblk m c 1 t) := by
  unfold sumAt
  rw [outsAt0_A m c t h0 h1 h2]
  dsimp only
  generalize iblk m c 0 t = x
  generalize iblk m c 1 t = y
  exact start c (grid0.coords t) (ms0_0 t) (hs0_0 t) (ms0_1 t) (hs0_1 t) (ms0_2 t) (hs0_2 t) scM0_0 (Memref.isWhole_whole _)
    x y ((hcond0_0 t).mpr h0) (fun h => h1 ((hcond0_1 t).mp h)) (fun h => h2 ((hcond0_2 t).mp h))

theorem next (t : Fin cfg0.N) (h0 : ¬t.val % 4 = 0) (h1 : 1 ≤ t.val % 4) (h2 : ¬t.val % 4 = 3) :
    sumAt m c t.val t.isLt =
      addf (sumAt m c (t.val - 1) (Nat.lt_of_le_of_lt (Nat.sub_le _ _) t.isLt)) (k0_pay1 (iblk m c 0 t) (iblk m c 1 t)) := by
  unfold sumAt
  rw [outsAt0_B m c t h0 h1 h2]
  dsimp only
  generalize iblk m c 0 t = x
  generalize iblk m c 1 t = y
  exact more c (grid0.coords t) (ms0_0 t) (hs0_0 t) (ms0_1 t) (hs0_1 t) (ms0_2 t) (hs0_2 t) scM0_0 (Memref.isWhole_whole _)
    x y _ (fun h => h0 ((hcond0_0 t).mp h)) ((hcond0_1 t).mpr h1) (fun h => h2 ((hcond0_2 t).mp h))

theorem done (t : Fin cfg0.N) (h0 : ¬t.val % 4 = 0) (h1 : 1 ≤ t.val % 4) (h2 : t.val % 4 = 3) :
    storedAt m c t.val t.isLt = truncf .bf16
      (addf (sumAt m c (t.val - 1) (Nat.lt_of_le_of_lt (Nat.sub_le _ _) t.isLt)) (k0_pay1 (iblk m c 0 t) (iblk m c 1 t))) bitsLt_bf16_f32 := by
  unfold storedAt sumAt
  rw [outsAt0_C m c t h0 h1 h2]
  dsimp only
  generalize iblk m c 0 t = x
  generalize iblk m c 1 t = y
  exact last c (grid0.coords t) (ms0_0 t) (hs0_0 t) (ms0_1 t) (hs0_1 t) (ms0_2 t) (hs0_2 t) scM0_0 (Memref.isWhole_whole _)
    x y _ (fun h => h0 ((hcond0_0 t).mp h)) ((hcond0_1 t).mpr h1) ((hcond0_2 t).mpr h2)

/-- The block of rows and columns each point loads. -/
theorem place : ∀ t : Fin cfg0.N, win0_0.index t (0 : Fin 2) = t.val % 4 ∧ win0_0.index t (1 : Fin 2) = t.val / 4 ∧
    win0_1.index t (0 : Fin 2) = t.val % 4 ∧ win0_1.index t (1 : Fin 2) = 0 :=
  (by decide +kernel : ∀ t : Fin grid0.N, _)

abbrev argZ : (⟨2, ![8192, 2304]⟩ : Shape).Idx → EReal := m ((c : Thread nD τ).loc main_arg0)
abbrev argH : (⟨2, ![8192, 1024]⟩ : Shape).Idx → EReal := m ((c : Thread nD τ).loc main_arg1)

theorem block0 (t : Fin cfg0.N) (k : Fin 2048) (u : Fin 1152) (K : Fin 8192) (U : Fin 2304)
    (hK : K.val = 2048 * (t.val % 4) + k.val) (hU : U.val = 1152 * (t.val / 4) + u.val) :
    (iblk m c 0 t : Vec Ideal S2048x1152 .bf16) (ix2 k u) = argZ m c (ix2 K U) := by
  obtain ⟨e0, e1, -⟩ := place t
  unfold iblk
  rw [View.read_apply]
  refine congrArg (argZ m c) (same ?_ ?_)
  · show win0_0.index t 0 * 2048 + 1 * k.val = K.val; rw [e0, hK]; omega
  · show win0_0.index t 1 * 1152 + 1 * u.val = U.val; rw [e1, hU]; omega

theorem block1 (t : Fin cfg0.N) (k : Fin 2048) (v : Fin 1024) (K : Fin 8192) (hK : K.val = 2048 * (t.val % 4) + k.val) :
    (iblk m c 1 t : Vec Ideal S2048x1024 .bf16) (ix2 k v) = argH m c (ix2 K v) := by
  obtain ⟨-, -, e0, e1⟩ := place t
  unfold iblk
  rw [View.read_apply]
  refine congrArg (argH m c) (same ?_ ?_)
  · show win0_1.index t 0 * 2048 + 1 * k.val = K.val; rw [e0, hK]; omega
  · show win0_1.index t 1 * 1024 + 1 * v.val = v.val; rw [e1]; omega

/-- The result array, entry by entry. -/
theorem entry (U : Fin 2304) (v : Fin 1024) : Value.G2 m c (ix2 U v) = down (argZ m c) (argH m c) U v := by
  have hN : cfg0.N = 8 := N_0
  have hU : U.val < 2304 := U.isLt
  have hv := v.isLt
  have hp : Value.pt2Of (ix2 U v) = 4 * (U.val / 1152) + 3 := by
    show 4 * (1 * (U.val / 1152 - 0) + 1 * (v.val / 1024 - 0)) + 3 = _
    omega
  have hl : Value.loc2Of (ix2 U v) = ix2 (⟨U.val % 1152, Nat.mod_lt _ (by decide)⟩ : Fin 1152) v :=
    same rfl (by show v.val % 1024 = v.val; omega)
  unfold Value.G2
  rw [dif_pos (by rw [hp]; omega), hl, Value.fold0_congr m c _ _ (4 * (U.val / 1152) + 3) (by omega) hp,
    ← Value.outsAt0_sweep m c (4 * (U.val / 1152) + 3) (by omega)]
  exact swept (sumAt m c) (storedAt m c) (fun t => k0_pay1 (iblk m c 0 t) (iblk m c 1 t)) (fun t => iblk m c 0 t) (fun t => iblk m c 1 t) (argZ m c) (argH m c) _ v U v
    (fun t => product _ _ _ v) (fun t h => first m c t h (by omega) (by omega)) (fun t h h' => next m c t h (by omega) h')
    (fun t h => done m c t (by omega) (by omega) h) (U.val / 1152) (by omega)
    (fun t ht k K hK => block0 m c t k _ K U hK (by rw [ht]; show U.val = 1152 * (U.val / 1152) + U.val % 1152; omega))
    (fun t ht k K hK => block1 m c t k v K hK)

end Cert.QkvGradKernelIdeal.Own

namespace Cert.QkvGradReferenceIdeal.Own

open Cert.QkvGradReferenceIdeal Idealize.ShloMosaic PlainSums

/-- The reference's entry is the same product of columns. -/
theorem entry (z : (⟨2, ![8192, 2304]⟩ : Shape).Idx → EReal) (h : (⟨2, ![8192, 1024]⟩ : Shape).Idx → EReal) (i : S2304x1024.Idx) :
    Read.val_main_v8 (F := Ideal) z h i = down z h (i 0) (i 1) := by
  refine (Read.val_main_v7_apply (F := Ideal) z h i).trans ((Read.val_main_v6_apply (F := Ideal) z h _).trans
    ((Read.val_main_v5_apply z h _).trans ?_))
  exact Finset.sum_congr rfl fun k _ => congrArg₂ (fun p q : EReal => p * q) (congrArg z (same rfl rfl)) (congrArg h (same rfl rfl))

end Cert.QkvGradReferenceIdeal.Own

end
-- ==== Proof.ConvGrad.lean ====
/-
  The gradient of the convolution's rows of the input weights: each block of 1024 rows is the sum of four products, one
  per block of 2048 positions, kept in a running sum and stored after the fourth.
-/
module

public import proofs.«01_k».proof.Proof.Sums
public import proofs.«01_k».proof.Proof.Gen.ConvGradKernel.Frame
public import proofs.«01_k».proof.Proof.Gen.ConvGradKernelIdeal.Frame
public import proofs.«01_k».proof.Proof.Gen.ConvGradKernelIdeal.Value
public import proofs.«01_k».proof.Proof.Gen.ConvGradReferenceIdeal
public import proofs.«01_k».proof.Proof.Gen.ConvGradReferenceIdeal.Run
public import proofs.«01_k».proof.Proof.Gen.ConvGradReferenceIdeal.Read

@[expose] public section

noncomputable section

namespace Cert.ConvGradKernelIdeal.Own

open Cert.ConvGradKernelIdeal Cert.ConvGradKernelIdeal.Gen Idealize.ShloMosaic Idealize.ShloMosaic.TcCoe Idealize.SL.Sem PlainSums

section Pieces

variable (c : Dev nD) (i : grid0.Coords)
  (a3 : Memref sig .tc .vmem S2048x1024 .bf16) (h3 : a3.IsWhole) (a4 : Memref sig .tc .vmem S2048x1024 .bf16) (h4 : a4.IsWhole)
  (a5 : Memref sig .tc .vmem S1024x1024 .bf16) (h5 : a5.IsWhole) (a6 : Memref sig .tc .vmem S1024x1024 .f32) (h6 : a6.IsWhole)
  (x : Vec Ideal S2048x1024 .bf16) (y : Vec Ideal S2048x1024 .bf16) (s : Vec Ideal S1024x1024 .f32)

/-- The first product starts the running sum. -/
theorem start (p : cond0_0 i) (q : ¬cond0_1 i) (r : ¬cond0_2 i) :
    sout0_A_0 c i a3 h3 a4 h4 a5 h5 a6 h6 p q r x y = k0_pay1 x y := by
  unfold sout0_A_0
  rw [View.read_writes_eq_canon _ _ _ (scover0_A_0 c i a3 h3 a4 h4 a5 h5 a6 h6 p q r x y)]
  unfold kernelRun0_A
  dsimp only
  rw [View.canon_unit_zero origin]
  unfold k0_pay2
  simp only [View.readAt_eq_ld, h3.read_unread, h4.read_unread, View.ld_unit_zero (S := S2048x1024) origin,
    View.ld_unit_zero (S := S2048x1024) origin, shapeCast_self]

/-- A later product is added. -/
theorem more (p : ¬cond0_0 i) (q : cond0_1 i) (r : ¬cond0_2 i) :
    sout0_B_0 c i a3 h3 a4 h4 a5 h5 a6 h6 p q r x y s = addf s (k0_pay1 x y) := by
  unfold sout0_B_0
  rw [View.read_writes_eq_canon _ _ _ (scover0_B_0 c i a3 h3 a4 h4 a5 h5 a6 h6 p q r x y s)]
  unfold kernelRun0_B
  dsimp only
  rw [View.canon_unit_zero origin]
  unfold k0_pay3
  simp only [View.readAt_eq_ld, h3.read_unread, h4.read_unread, h6.read_unread, View.ld_unit_zero (S := S2048x1024) origin,
    View.ld_unit_zero (S := S2048x1024) origin, View.ld_unit_zero (S := S1024x1024) origin, shapeCast_self]

/-- The last is added and the sum stored. -/
theorem last (p : ¬cond0_0 i) (q : cond0_1 i) (r : cond0_2 i) :
    out0_C_2 c i a3 h3 a4 h4 a5 h5 a6 h6 p q r x y s = truncf .bf16 (addf s (k0_pay1 x y)) bitsLt_bf16_f32 := by
  unfold out0_C_2
  rw [View.read_writes_eq_canon _ _ _ (cover0_C_2 c i a3 h3 a4 h4 a5 h5 a6 h6 p q r x y s)]
  unfold kernelRun0_C
  dsimp only
  sl_unfold_words
  rw [View.canon_unit_zero origin, View.readCov_unit_zero (S := S1024x1024) _ origin]
  unfold k0_pay4 k0_pay3
  simp only [View.readAt_eq_ld, h3.read_unread, h4.read_unread, h6.read_unread, View.ld_unit_zero (S := S2048x1024) origin,
    View.ld_unit_zero (S := S2048x1024) origin, View.ld_unit_zero (S := S1024x1024) origin, shapeCast_self]

/-- The product of two blocks, entry by entry. -/
theorem product (u : Fin 1024) (v : Fin 1024) : k0_pay1 (F := Ideal) x y (ix2 u v) = down x y u v := by
  unfold k0_pay1 down
  simp only [pointwise]
  simp

end Pieces

variable (m : (ℓ : Loc nD τ sig) → Buf (Elt Ideal) ℓ) (c : Dev nD)

/-- The running sum after a point, and what a point stores. -/
abbrev sumAt (n : ℕ) (h : n < cfg0.N) : Vec Ideal S1024x1024 .f32 := (outsAt0 m c n h).2
abbrev storedAt (n : ℕ) (h : n < cfg0.N) : Vec Ideal S1024x1024 .bf16 := (outsAt0 m c n h).1

theorem first (t : Fin cfg0.N) (h0 : t.val % 4 = 0) (h1 : ¬1 ≤ t.val) (h2 : ¬t.val % 4 = 3) :
    sumAt m c t.val t.isLt = k0_pay1 (iblk m c 0 t) (iblk m c 1 t) := by
  unfold sumAt
  rw [outsAt0_A m c t h0 h1 h2]
  dsimp only
  generalize iblk m c 0 t = x
  generalize iblk m c 1 t = y
  exact start c (grid0.coords t) (ms0_0 t) (hs0_0 t) (ms0_1 t) (hs0_1 t) (ms0_2 t) (hs0_2 t) scM0_0 (Memref.isWhole_whole _)
    x y ((hcond0_0 t).mpr h0) (fun h => h1 ((hcond0_1 t).mp h)) (fun h => h2 ((hcond0_2 t).mp h))

theorem next (t : Fin cfg0.N) (h0 : ¬t.val % 4 = 0) (h1 : 1 ≤ t.val) (h2 : ¬t.val % 4 = 3) :
    sumAt m c t.val t.isLt =
      addf (sumAt m c (t.val - 1) (Nat.lt_of_le_of_lt (Nat.sub_le _ _) t.isLt)) (k0_pay1 (iblk m c 0 t) (iblk m c 1 t)) := by
  unfold sumAt
  rw [outsAt0_B m c t h0 h1 h2]
  dsimp only
  generalize iblk m c 0 t = x
  generalize iblk m c 1 t = y
  exact more c (grid0.coords t) (ms0_0 t) (hs0_0 t) (ms0_1 t) (hs0_1 t) (ms0_2 t) (hs0_2 t) scM0_0 (Memref.isWhole_whole _)
    x y _ (fun h => h0 ((hcond0_0 t).mp h)) ((hcond0_1 t).mpr h1) (fun h => h2 ((hcond0_2 t).mp h))

theorem done (t : Fin cfg0.N) (h0 : ¬t.val % 4 = 0) (h1 : 1 ≤ t.val) (h2 : t.val % 4 = 3) :
    storedAt m c t.val t.isLt = truncf .bf16
      (addf (sumAt m c (t.val - 1) (Nat.lt_of_le_of_lt (Nat.sub_le _ _) t.isLt)) (k0_pay1 (iblk m c 0 t) (iblk m c 1 t))) bitsLt_bf16_f32 := by
  unfold storedAt sumAt
  rw [outsAt0_C m c t h0 h1 h2]
  dsimp only
  generalize iblk m c 0 t = x
  generalize iblk m c 1 t = y
  exact last c (grid0.coords t) (ms0_0 t) (hs0_0 t) (ms0_1 t) (hs0_1 t) (ms0_2 t) (hs0_2 t) scM0_0 (Memref.isWhole_whole _)
    x y _ (fun h => h0 ((hcond0_0 t).mp h)) ((hcond0_1 t).mpr h1) ((hcond0_2 t).mpr h2)

/-- The block of rows and columns each point loads. -/
theorem place : ∀ t : Fin cfg0.N, win0_0.index t (0 : Fin 2) = t.val % 4 ∧ win0_0.index t (1 : Fin 2) = t.val / 4 ∧
    win0_1.index t (0 : Fin 2) = t.val % 4 ∧ win0_1.index t (1 : Fin 2) = 0 :=
  (by decide +kernel : ∀ t : Fin grid0.N, _)

abbrev argZ : (⟨2, ![8192, 1024]⟩ : Shape).Idx → EReal := m ((c : Thread nD τ).loc main_arg0)
abbrev argH : (⟨2, ![8192, 1024]⟩ : Shape).Idx → EReal := m ((c : Thread nD τ).loc main_arg1)

theorem block0 (t : Fin cfg0.N) (k : Fin 2048) (u : Fin 1024) (K : Fin 8192) (U : Fin 1024)
    (hK : K.val = 2048 * (t.val % 4) + k.val) (hU : U.val = 1024 * (t.val / 4) + u.val) :
    (iblk m c 0 t : Vec Ideal S2048x1024 .bf16) (ix2 k u) = argZ m c (ix2 K U) := by
  obtain ⟨e0, e1, -⟩ := place t
  unfold iblk
  rw [View.read_apply]
  refine congrArg (argZ m c) (same ?_ ?_)
  · show win0_0.index t 0 * 2048 + 1 * k.val = K.val; rw [e0, hK]; omega
  · show win0_0.index t 1 * 1024 + 1 * u.val = U.val; rw [e1, hU]; omega

theorem block1 (t : Fin cfg0.N) (k : Fin 2048) (v : Fin 1024) (K : Fin 8192) (hK : K.val = 2048 * (t.val % 4) + k.val) :
    (iblk m c 1 t : Vec Ideal S2048x1024 .bf16) (ix2 k v) = argH m c (ix2 K v) := by
  obtain ⟨-, -, e0, e1⟩ := place t
  unfold iblk
  rw [View.read_apply]
  refine congrArg (argH m c) (same ?_ ?_)
  · show win0_1.index t 0 * 2048 + 1 * k.val = K.val; rw [e0, hK]; omega
  · show win0_1.index t 1 * 1024 + 1 * v.val = v.val; rw [e1]; omega

/-- The result array, entry by entry. -/
theorem entry (U : Fin 1024) (v : Fin 1024) : Value.G2 m c (ix2 U v) = down (argZ m c) (argH m c) U v := by
  have hN : cfg0.N = 4 := N_0
  have hU : U.val < 1024 := U.isLt
  have hv := v.isLt
  have hp : Value.pt2Of (ix2 U v) = 4 * (U.val / 1024) + 3 := by
    show 4 * (1 * (U.val / 1024 - 0) + 1 * (v.val / 1024 - 0)) + 3 = _
    omega
  have hl : Value.loc2Of (ix2 U v) = ix2 (⟨U.val % 1024, Nat.mod_lt _ (by decide)⟩ : Fin 1024) v :=
    same rfl (by show v.val % 1024 = v.val; omega)
  unfold Value.G2
  rw [dif_pos (by rw [hp]; omega), hl, Value.fold0_congr m c _ _ (4 * (U.val / 1024) + 3) (by omega) hp,
    ← Value.outsAt0_sweep m c (4 * (U.val / 1024) + 3) (by omega)]
  exact swept (sumAt m c) (storedAt m c) (fun t => k0_pay1 (iblk m c 0 t) (iblk m c 1 t)) (fun t => iblk m c 0 t) (fun t => iblk m c 1 t) (argZ m c) (argH m c) _ v U v
    (fun t => product _ _ _ v) (fun t h => first m c t h (by omega) (by omega)) (fun t h h' => next m c t h (by omega) h')
    (fun t h => done m c t (by omega) (by omega) h) (U.val / 1024) (by omega)
    (fun t ht k K hK => block0 m c t k _ K U hK (by rw [ht]; show U.val = 1024 * (U.val / 1024) + U.val % 1024; omega))
    (fun t ht k K hK => block1 m c t k v K hK)

end Cert.ConvGradKernelIdeal.Own

namespace Cert.ConvGradReferenceIdeal.Own

open Cert.ConvGradReferenceIdeal Idealize.ShloMosaic PlainSums

/-- The reference's entry is the same product of columns. -/
theorem entry (z : (⟨2, ![8192, 1024]⟩ : Shape).Idx → EReal) (h : (⟨2, ![8192, 1024]⟩ : Shape).Idx → EReal) (i : S1024x1024.Idx) :
    Read.val_main_v8 (F := Ideal) z h i = down z h (i 0) (i 1) := by
  refine (Read.val_main_v7_apply (F := Ideal) z h i).trans ((Read.val_main_v6_apply (F := Ideal) z h _).trans
    ((Read.val_main_v5_apply z h _).trans ?_))
  exact Finset.sum_congr rfl fun k _ => congrArg₂ (fun p q : EReal => p * q) (congrArg z (same rfl rfl)) (congrArg h (same rfl rfl))

end Cert.ConvGradReferenceIdeal.Own

end
-- ==== Proof.Products.lean ====
/- The claims of the plain products: three that give columns of z, three that give gradients of their weights. -/
module

public import proofs.«01_k».proof.Defs
public import proofs.«01_k».proof.Proof.Gate
public import proofs.«01_k».proof.Proof.Qkv
public import proofs.«01_k».proof.Proof.Conv
public import proofs.«01_k».proof.Proof.GateGrad
public import proofs.«01_k».proof.Proof.QkvGrad
public import proofs.«01_k».proof.Proof.ConvGrad
public import Idealize.ShloMosaic.Adequacy
public import Idealize.ShloMosaic.Init

@[expose] public section

noncomputable section

namespace Cert.Proof

open Idealize.ShloMosaic Idealize.SL.Sem PlainSums

theorem frame_gate : Cert.quiescent_GateReferenceIdeal := fun m ρ _ =>
  (θ_run Cert.GateReferenceIdeal.defs _ _).mono (fun r h => ⟨fun c => (h c).2,
      Idealize.ShloMosaic.sem_eq_zero_of_no_sems (by decide) r.2⟩)
    (Cert.GateReferenceIdeal.Value.run (F := Ideal) m ρ)

theorem gate : Cert.algebraic_GateKernelIdeal_GateReferenceIdeal := by
  intro m g m' g' _ hargs
  refine ⟨fun c => Cert.GateKernelIdeal.Own.G m c, (θ_run Cert.GateKernelIdeal.defs _ _).mono (fun r h c =>
    ⟨(h c).1.trans (Cert.GateKernelIdeal.Own.final m c), (h c).2⟩) (Cert.GateKernelIdeal.Value.run_blocks (F := Ideal) m g), ?_⟩
  refine (θ_run Cert.GateReferenceIdeal.defs _ _).mono (fun r h c => ?_) (Cert.GateReferenceIdeal.Value.run (F := Ideal) m' g')
  obtain ⟨e0, e1⟩ := hargs c
  refine ⟨(h c).1.trans ((Cert.GateReferenceIdeal.Read.val_main_v4_eq (F := Ideal) _ _).trans ?_), (h c).2⟩
  rw [e0, e1]
  exact funext fun i => Cert.GateReferenceIdeal.Own.entry _ _ i

theorem frame_qkv : Cert.quiescent_QkvReferenceIdeal := fun m ρ _ =>
  (θ_run Cert.QkvReferenceIdeal.defs _ _).mono (fun r h => ⟨fun c => (h c).2,
      Idealize.ShloMosaic.sem_eq_zero_of_no_sems (by decide) r.2⟩)
    (Cert.QkvReferenceIdeal.Value.run (F := Ideal) m ρ)

theorem qkv : Cert.algebraic_QkvKernelIdeal_QkvReferenceIdeal := by
  intro m g m' g' _ hargs
  refine ⟨fun c => Cert.QkvKernelIdeal.Own.G m c, (θ_run Cert.QkvKernelIdeal.defs _ _).mono (fun r h c =>
    ⟨(h c).1.trans (Cert.QkvKernelIdeal.Own.final m c), (h c).2⟩) (Cert.QkvKernelIdeal.Value.run_blocks (F := Ideal) m g), ?_⟩
  refine (θ_run Cert.QkvReferenceIdeal.defs _ _).mono (fun r h c => ?_) (Cert.QkvReferenceIdeal.Value.run (F := Ideal) m' g')
  obtain ⟨e0, e1⟩ := hargs c
  refine ⟨(h c).1.trans ((Cert.QkvReferenceIdeal.Read.val_main_v4_eq (F := Ideal) _ _).trans ?_), (h c).2⟩
  rw [e0, e1]
  exact funext fun i => Cert.QkvReferenceIdeal.Own.entry _ _ i

theorem frame_conv : Cert.quiescent_ConvReferenceIdeal := fun m ρ _ =>
  (θ_run Cert.ConvReferenceIdeal.defs _ _).mono (fun r h => ⟨fun c => (h c).2,
      Idealize.ShloMosaic.sem_eq_zero_of_no_sems (by decide) r.2⟩)
    (Cert.ConvReferenceIdeal.Value.run (F := Ideal) m ρ)

theorem conv : Cert.algebraic_ConvKernelIdeal_ConvReferenceIdeal := by
  intro m g m' g' _ hargs
  refine ⟨fun c => Cert.ConvKernelIdeal.Own.G m c, (θ_run Cert.ConvKernelIdeal.defs _ _).mono (fun r h c =>
    ⟨(h c).1.trans (Cert.ConvKernelIdeal.Own.final m c), (h c).2⟩) (Cert.ConvKernelIdeal.Value.run_blocks (F := Ideal) m g), ?_⟩
  refine (θ_run Cert.ConvReferenceIdeal.defs _ _).mono (fun r h c => ?_) (Cert.ConvReferenceIdeal.Value.run (F := Ideal) m' g')
  obtain ⟨e0, e1⟩ := hargs c
  refine ⟨(h c).1.trans ((Cert.ConvReferenceIdeal.Read.val_main_v4_eq (F := Ideal) _ _).trans ?_), (h c).2⟩
  rw [e0, e1]
  exact funext fun i => Cert.ConvReferenceIdeal.Own.entry _ _ i

theorem frame_gateGrad : Cert.quiescent_GateGradReferenceIdeal := fun m ρ _ =>
  (θ_run Cert.GateGradReferenceIdeal.defs _ _).mono (fun r h => ⟨fun c => (h c).2,
      Idealize.ShloMosaic.sem_eq_zero_of_no_sems (by decide) r.2⟩)
    (Cert.GateGradReferenceIdeal.Value.run (F := Ideal) m ρ)

theorem gateGrad : Cert.algebraic_GateGradKernelIdeal_GateGradReferenceIdeal := by
  intro m g m' g' _ hargs
  refine ⟨fun c => Cert.GateGradKernelIdeal.Value.G2 m c, Cert.GateGradKernelIdeal.Value.run m g, ?_⟩
  refine (θ_run Cert.GateGradReferenceIdeal.defs _ _).mono (fun r h c => ?_) (Cert.GateGradReferenceIdeal.Value.run (F := Ideal) m' g')
  obtain ⟨e0, e1⟩ := hargs c
  refine ⟨(h c).1.trans ((Cert.GateGradReferenceIdeal.Read.val_main_v8_eq (F := Ideal) _ _).trans ?_), (h c).2⟩
  rw [e0, e1]
  exact funext fun i => (Cert.GateGradReferenceIdeal.Own.entry _ _ i).trans
    ((Cert.GateGradKernelIdeal.Own.entry m c (i 0) (i 1)).symm.trans (congrArg _ (pair i).symm))

theorem frame_qkvGrad : Cert.quiescent_QkvGradReferenceIdeal := fun m ρ _ =>
  (θ_run Cert.QkvGradReferenceIdeal.defs _ _).mono (fun r h => ⟨fun c => (h c).2,
      Idealize.ShloMosaic.sem_eq_zero_of_no_sems (by decide) r.2⟩)
    (Cert.QkvGradReferenceIdeal.Value.run (F := Ideal) m ρ)

theorem qkvGrad : Cert.algebraic_QkvGradKernelIdeal_QkvGradReferenceIdeal := by
  intro m g m' g' _ hargs
  refine ⟨fun c => Cert.QkvGradKernelIdeal.Value.G2 m c, Cert.QkvGradKernelIdeal.Value.run m g, ?_⟩
  refine (θ_run Cert.QkvGradReferenceIdeal.defs _ _).mono (fun r h c => ?_) (Cert.QkvGradReferenceIdeal.Value.run (F := Ideal) m' g')
  obtain ⟨e0, e1⟩ := hargs c
  refine ⟨(h c).1.trans ((Cert.QkvGradReferenceIdeal.Read.val_main_v8_eq (F := Ideal) _ _).trans ?_), (h c).2⟩
  rw [e0, e1]
  exact funext fun i => (Cert.QkvGradReferenceIdeal.Own.entry _ _ i).trans
    ((Cert.QkvGradKernelIdeal.Own.entry m c (i 0) (i 1)).symm.trans (congrArg _ (pair i).symm))

theorem frame_convGrad : Cert.quiescent_ConvGradReferenceIdeal := fun m ρ _ =>
  (θ_run Cert.ConvGradReferenceIdeal.defs _ _).mono (fun r h => ⟨fun c => (h c).2,
      Idealize.ShloMosaic.sem_eq_zero_of_no_sems (by decide) r.2⟩)
    (Cert.ConvGradReferenceIdeal.Value.run (F := Ideal) m ρ)

theorem convGrad : Cert.algebraic_ConvGradKernelIdeal_ConvGradReferenceIdeal := by
  intro m g m' g' _ hargs
  refine ⟨fun c => Cert.ConvGradKernelIdeal.Value.G2 m c, Cert.ConvGradKernelIdeal.Value.run m g, ?_⟩
  refine (θ_run Cert.ConvGradReferenceIdeal.defs _ _).mono (fun r h c => ?_) (Cert.ConvGradReferenceIdeal.Value.run (F := Ideal) m' g')
  obtain ⟨e0, e1⟩ := hargs c
  refine ⟨(h c).1.trans ((Cert.ConvGradReferenceIdeal.Read.val_main_v8_eq (F := Ideal) _ _).trans ?_), (h c).2⟩
  rw [e0, e1]
  exact funext fun i => (Cert.ConvGradReferenceIdeal.Own.entry _ _ i).trans
    ((Cert.ConvGradKernelIdeal.Own.entry m c (i 0) (i 1)).symm.trans (congrArg _ (pair i).symm))

end Cert.Proof

end
-- ==== Proof.RowNorm.lean ====
/-
  The root-mean-square norm of rows of 1024 entries: what the kernels compute on 512 rows at a time, entry by
  entry; and a block written in two pieces of 512 rows, read back at an entry.
-/
module

public import proofs.«01_k».proof.Proof.Sums

@[expose] public section

noncomputable section

namespace PlainSums

open Idealize.ShloMosaic Idealize.ShloMosaic.TcCoe

/-- The half of a block, the whole of it, a column and a row. -/
abbrev Half : Shape := ⟨2, ![512, 1024]⟩
abbrev Full : Shape := ⟨2, ![1024, 1024]⟩
abbrev Col : Shape := ⟨2, ![512, 1]⟩
abbrev Line : Shape := ⟨2, ![1, 1024]⟩
abbrev Half1 : Shape := ⟨1, ![512]⟩

/-- One over the root of a row's mean square, the mean with a small number added. -/
def scale (r : Fin 1024 → EReal) : EReal :=
  Ideal.rsqrt (Ideal.div (∑ k, r k * r k) (Ideal.ofBits .f32 0x44800000#32) + Ideal.ofBits .f32 0x358637BD#32)

/-- A row of one array times a matrix. -/
def times {K n : ℕ} (r : Fin K → EReal) (b : (⟨2, ![K, n]⟩ : Shape).Idx → EReal) (j : Fin n) : EReal := ∑ k, r k * b (ix2 k j)

/-- A row scaled and multiplied by gains. -/
def norm (r g : Fin 1024 → EReal) (j : Fin 1024) : EReal := r j * scale r * g j

/-- A row plus another one's norm. -/
def plus (x r g : Fin 1024 → EReal) (j : Fin 1024) : EReal := x j + norm r g j

/-- The scale of each of 512 rows, as the kernels compute it. -/
def scaleCol (h : Half.Reduces [1] Half1) (h1 : Half1.ShapeCasts Col) (y : FVec Ideal Half .f32) : FVec Ideal Col .f32 :=
  rsqrt (addf (divf (shapeCast Col (multiReduction .add [1] Half1 (mulf y y) 0x00000000#32 h (.inl rfl) rfl) h1)
    (broadcast Col (Scalar.ofBits (F := Ideal) .f32 0x44800000#32))) (broadcast Col (Scalar.ofBits (F := Ideal) .f32 0x358637BD#32)))

/-- Rows scaled, and multiplied by a row of gains. -/
def normed (hb : Col.Broadcasts Half) (hg : Line.Broadcasts Half) (y : FVec Ideal Half .f32) (s : FVec Ideal Col .f32)
    (g : FVec Ideal Line .f32) : FVec Ideal Half .f32 :=
  mulf (mulf y (broadcastTo Half s hb)) (broadcastTo Half g hg)

theorem scaleCol_at (h h1) (y : FVec Ideal Half .f32) (i : Fin 512) (j : Fin 1) : scaleCol h h1 y (ix2 i j) = scale fun k => y (ix2 i k) := by
  unfold scaleCol scale
  simp only [pointwise]

theorem normed_at (hb hg) (y : FVec Ideal Half .f32) (s : FVec Ideal Col .f32) (g : FVec Ideal Line .f32) (i : Fin 512) (j : Fin 1024) :
    normed hb hg y s g (ix2 i j) = y (ix2 i j) * s (ix2 i 0) * g (ix2 0 j) := by
  unfold normed
  simp only [pointwise]
  refine congrArg₂ (fun p q : EReal => y (ix2 i j) * p * q) ?_ ?_
  · exact congrArg s (same rfl rfl)
  · exact congrArg g (same rfl rfl)

/-- The norm of 512 rows, at an entry. -/
theorem norm_at (hb hg h h1) (y : FVec Ideal Half .f32) (g : FVec Ideal Line .f32) (r l : Fin 1024 → EReal) (i : Fin 512) (j : Fin 1024)
    (hr : ∀ k, y (ix2 i k) = r k) (hl : ∀ k, g (ix2 0 k) = l k) : normed hb hg y (scaleCol h h1 y) g (ix2 i j) = norm r l j := by
  rw [normed_at, scaleCol_at, hr, hl]
  exact congrArg (fun f => r j * scale f * l j) (funext hr)

/-- A load of `n` rows from row `o`, at an entry. -/
theorem ld_rows {φ : EltTy} {a n b o : ℕ} (inb) (x : Vec Ideal ⟨2, ![a, b]⟩ φ) (i : Fin n) (k : Fin b) (I : Fin a) (hI : I.val = o + i.val) :
    View.ld x (Rect.unit (s := ⟨2, ![a, b]⟩) ![o, 0] (⟨2, ![n, b]⟩ : Shape).size inb) (ix2 i k) = x (ix2 I k) :=
  congrArg x (same (by show o + 1 * i.val = I.val; omega) (by show 0 + 1 * k.val = k.val; omega))

/-- A row of the first half is where the earlier pieces left it. -/
theorem above {φ : EltTy} (inb) (w : Vec Ideal Half φ) (L : List (View.Piece (Elt Ideal) Full φ)) (i k : Fin 1024) (h : ¬512 ≤ i.val) :
    View.canon ((⟨Rect.unit ![512, 0] Half.size inb, w⟩ : View.Piece (Elt Ideal) Full φ) :: L) (ix2 i k) = View.canon L (ix2 i k) := by
  refine View.canon_cons_of_not_mem _ _ fun hm => h ?_
  have := (Rect.mem_set_unit (inb := inb).1 hm) ⟨0, by decide⟩
  exact this.1

/-- Two pieces of 512 rows that are the rows of one function `g` read back as `g`. -/
theorem halves {φ : EltTy} (inb1 inb2) (w1 w2 : Vec Ideal Half φ) (g : Fin 1024 → Fin 1024 → Elt Ideal φ)
    (e1 : ∀ (i : Fin 512) (k : Fin 1024), w1 (ix2 i k) = g ⟨i.val, by omega⟩ k)
    (e2 : ∀ (i : Fin 512) (k : Fin 1024), w2 (ix2 i k) = g ⟨512 + i.val, by omega⟩ k) (i k : Fin 1024) :
    View.canon [(⟨Rect.unit ![512, 0] Half.size inb2, w2⟩ : View.Piece (Elt Ideal) Full φ),
      (⟨Rect.unit ![0, 0] Half.size inb1, w1⟩ : View.Piece (Elt Ideal) Full φ)] (ix2 i k) = g i k := by
  have hi := i.isLt
  by_cases h : 512 ≤ i.val
  · have q : (ix2 i k : Full.Idx) = (Rect.unit ![512, 0] Half.size inb2 : Rect Full).emb (ix2 ⟨i.val - 512, by omega⟩ k) :=
      same (by show i.val = 512 + 1 * (i.val - 512); omega) (by show k.val = 0 + 1 * k.val; omega)
    rw [q, View.canon_cons_emb, e2]
    exact congrArg (fun r => g r k) (Fin.ext (by dsimp only; omega))
  · have q : (ix2 i k : Full.Idx) = (Rect.unit ![0, 0] Half.size inb1 : Rect Full).emb (ix2 ⟨i.val, by omega⟩ k) :=
      same (by show i.val = 0 + 1 * i.val; omega) (by show k.val = 0 + 1 * k.val; omega)
    rw [above inb2 w2 _ i k h, q, View.canon_cons_emb, e1]

end PlainSums

end
-- ==== Proof.Input.lean ====
module

public import proofs.«01_k».proof.Proof.RowNorm
public import proofs.«01_k».proof.Proof.Gen.InputKernel.Frame
public import proofs.«01_k».proof.Proof.Gen.InputKernelIdeal.Frame
public import proofs.«01_k».proof.Proof.Gen.InputKernelIdeal.Value
public import proofs.«01_k».proof.Proof.Gen.InputReferenceIdeal
public import proofs.«01_k».proof.Proof.Gen.InputReferenceIdeal.Run
public import proofs.«01_k».proof.Proof.Gen.InputReferenceIdeal.Read

@[expose] public section

noncomputable section

namespace Cert.InputKernelIdeal.Own

open Cert.InputKernelIdeal Cert.InputKernelIdeal.Gen Idealize.ShloMosaic Idealize.ShloMosaic.TcCoe Idealize.SL.Sem PlainSums

section Pieces

variable (c : Dev nD) (i : grid0.Coords)
  (a2 : Memref sig .tc .vmem S1024x1408 .bf16) (h2 : a2.IsWhole) (a4 : Memref sig .tc .vmem S1024x1408 .bf16) (h4 : a4.IsWhole)
  (a6 : Memref sig .tc .vmem S1024x1024 .bf16) (h6 : a6.IsWhole) (a7 : Memref sig .tc .vmem S1024x1024 .f32) (h7 : a7.IsWhole)
  (a8 : Memref sig .tc .vmem S2816x1024 .bf16) (h8 : a8.IsWhole) (a9 : Memref sig .tc .vmem S2816x1024 .bf16) (h9 : a9.IsWhole)
  (x y : Vec Ideal S1024x1408 .bf16) (s : Vec Ideal S1024x1024 .f32) (v w : Vec Ideal S2816x1024 .bf16)
  (f : HbBuf0 (F := Ideal) c hbM0_0) (g : HbBuf0 (F := Ideal) c hbM0_1)

/-- The rows of the upper weights that a point multiplies by, and those of the lower ones. -/
abbrev upper (p : cond0_1 i) : Vec Ideal S1408x1024 .bf16 := View.ld v (Rect.unit (s := S2816x1024) (k0_off1 i) S1408x1024.size (k0_off1_inb i p))
abbrev lower (p : cond0_4 i) : Vec Ideal S1408x1024 .bf16 := View.ld w (Rect.unit (s := S2816x1024) (k0_off2 i) S1408x1024.size (k0_off2_inb i p))

/-- A buffer written whole reads back what was written. -/
theorem landed {κ : Kind} {sp : Space} (b : View sig κ sp S2816x1024 .bf16) (d) (z : Vec Ideal S2816x1024 .bf16) :
    View.read (Elt Ideal) b (b.writes (Elt Ideal) d [⟨Rect.whole S2816x1024, z⟩]) = z := by
  rw [View.read_writes_eq_canon b d _ fun q => ⟨_, List.mem_singleton_self _, by rw [Rect.set_whole]; exact Finset.mem_univ q⟩]
  funext q
  have e := View.canon_cons_emb (Val := Elt Ideal) (Rect.whole S2816x1024) z [] q
  rwa [Rect.emb_whole_apply] at e

/-- The first product starts the running sum. -/
theorem start (p0 : ¬cond0_0 i) (p1 : cond0_1 i) (p2 : cond0_2 i) (p3 : ¬cond0_3 i) (p4 : ¬cond0_4 i) (p5 : ¬cond0_5 i) :
    sout0_E_0 c i a2 h2 a4 h4 a6 h6 a7 h7 a8 h8 a9 h9 p0 p1 p2 p3 p4 p5 x y v w f g = k0_pay1 x (upper i v p1) := by
  unfold sout0_E_0
  rw [View.read_writes_eq_canon _ _ _ (scover0_E_0 c i a2 h2 a4 h4 a6 h6 a7 h7 a8 h8 a9 h9 p0 p1 p2 p3 p4 p5 x y v w f g)]
  unfold kernelRun0_E
  dsimp only
  rw [View.canon_unit_zero origin]
  unfold k0_pay2
  simp only [View.readAt_eq_ld, h2.read_unread, h8.read_unread, View.ld_unit_zero (S := S1024x1408) origin, shapeCast_self]

/-- A later product of the upper weights is added. -/
theorem more (p0 : ¬cond0_0 i) (p1 : cond0_1 i) (p2 : ¬cond0_2 i) (p3 : cond0_3 i) (p4 : ¬cond0_4 i) (p5 : ¬cond0_5 i) :
    sout0_B_0 c i a2 h2 a4 h4 a6 h6 a7 h7 a8 h8 a9 h9 p0 p1 p2 p3 p4 p5 x y s v w f g = addf s (k0_pay1 x (upper i v p1)) := by
  unfold sout0_B_0
  rw [View.read_writes_eq_canon _ _ _ (scover0_B_0 c i a2 h2 a4 h4 a6 h6 a7 h7 a8 h8 a9 h9 p0 p1 p2 p3 p4 p5 x y s v w f g)]
  unfold kernelRun0_B
  dsimp only
  rw [View.canon_unit_zero origin]
  unfold k0_pay3
  simp only [View.readAt_eq_ld, h2.read_unread, h7.read_unread, h8.read_unread, View.ld_unit_zero (S := S1024x1408) origin,
    View.ld_unit_zero (S := S1024x1024) origin, shapeCast_self]

/-- A product of the lower weights is added. -/
theorem more' (p0 : ¬cond0_0 i) (p1 : ¬cond0_1 i) (p4 : cond0_4 i) (p5 : ¬cond0_5 i) :
    sout0_C_0 c i a2 h2 a4 h4 a6 h6 a7 h7 a8 h8 a9 h9 p0 p1 p4 p5 x y s v w f g = addf s (k0_pay1 y (lower i w p4)) := by
  unfold sout0_C_0
  rw [View.read_writes_eq_canon _ _ _ (scover0_C_0 c i a2 h2 a4 h4 a6 h6 a7 h7 a8 h8 a9 h9 p0 p1 p4 p5 x y s v w f g)]
  unfold kernelRun0_C
  dsimp only
  rw [View.canon_unit_zero origin]
  unfold k0_pay4 k0_pay1
  simp only [View.readAt_eq_ld, h4.read_unread, h7.read_unread, h9.read_unread, View.ld_unit_zero (S := S1024x1408) origin,
    View.ld_unit_zero (S := S1024x1024) origin, shapeCast_self]

/-- The last is added and the sum stored. -/
theorem last (p0 : ¬cond0_0 i) (p1 : ¬cond0_1 i) (p4 : cond0_4 i) (p5 : cond0_5 i) :
    out0_D_2 c i a2 h2 a4 h4 a6 h6 a7 h7 a8 h8 a9 h9 p0 p1 p4 p5 x y s v w f g = truncf .bf16 (addf s (k0_pay1 y (lower i w p4))) bitsLt_bf16_f32 := by
  unfold out0_D_2
  rw [View.read_writes_eq_canon _ _ _ (cover0_D_2 c i a2 h2 a4 h4 a6 h6 a7 h7 a8 h8 a9 h9 p0 p1 p4 p5 x y s v w f g)]
  unfold kernelRun0_D
  dsimp only
  sl_unfold_words
  rw [View.canon_unit_zero origin, View.readCov_unit_zero (S := S1024x1024) _ origin]
  unfold k0_pay5 k0_pay4 k0_pay1
  dsimp only
  simp only [View.readAt_eq_ld, h4.read_unread, h7.read_unread, h9.read_unread, View.ld_unit_zero (S := S1024x1408) origin,
    View.ld_unit_zero (S := S1024x1024) origin, shapeCast_self]
  rfl

/-- At the very first point the weights arrive and the first product starts the running sum. -/
theorem arrive (p0 : cond0_0 i) (p1 : cond0_1 i) (p2 : cond0_2 i) (p3 : ¬cond0_3 i) (p4 : ¬cond0_4 i) (p5 : ¬cond0_5 i) :
    sout0_A_1 c i a2 h2 a4 h4 a6 h6 a7 h7 a8 h8 a9 h9 p0 p1 p2 p3 p4 p5 x y f g = f := by
  unfold sout0_A_1 kernelRun0_A
  dsimp only
  exact landed _ _ _

theorem arrive'' (p0 : cond0_0 i) (p1 : cond0_1 i) (p2 : cond0_2 i) (p3 : ¬cond0_3 i) (p4 : ¬cond0_4 i) (p5 : ¬cond0_5 i) :
    sout0_A_2 c i a2 h2 a4 h4 a6 h6 a7 h7 a8 h8 a9 h9 p0 p1 p2 p3 p4 p5 x y f g = g := by
  unfold sout0_A_2 kernelRun0_A
  dsimp only
  exact landed _ _ _

theorem arrive' (p0 : cond0_0 i) (p1 : cond0_1 i) (p2 : cond0_2 i) (p3 : ¬cond0_3 i) (p4 : ¬cond0_4 i) (p5 : ¬cond0_5 i) :
    sout0_A_0 c i a2 h2 a4 h4 a6 h6 a7 h7 a8 h8 a9 h9 p0 p1 p2 p3 p4 p5 x y f g = k0_pay1 x (upper i f p1) := by
  unfold sout0_A_0
  rw [View.read_writes_eq_canon _ _ _ (scover0_A_0 c i a2 h2 a4 h4 a6 h6 a7 h7 a8 h8 a9 h9 p0 p1 p2 p3 p4 p5 x y f g)]
  unfold kernelRun0_A
  dsimp only
  sl_unfold_words
  rw [View.canon_unit_zero origin]
  unfold k0_pay2
  simp only [View.readAt_eq_ld, h2.read_unread, h8.read_unread, View.ld_unit_zero (S := S1024x1408) origin, shapeCast_self, landed]
  rfl

/-- A product at an entry. -/
theorem product_at (z : Vec Ideal S1408x1024 .bf16) (u v : Fin 1024) : k0_pay1 (F := Ideal) x z (ix2 u v) = times (fun k => x (ix2 u k)) z v := by
  unfold k0_pay1
  simp only [pointwise]
  exact zero_add _

end Pieces

/-- One term of the product with the stacked weights: the first half of the terms is of `a`, the second of `b`. -/
def term (a b : (⟨2, ![8192, 2816]⟩ : Shape).Idx → EReal) (w : (⟨2, ![5632, 1024]⟩ : Shape).Idx → EReal) (I : Fin 8192) (v : Fin 1024)
    (K : Fin 5632) : EReal :=
  (if h : K.val < 2816 then a (ix2 I ⟨K.val, h⟩) else b (ix2 I ⟨K.val - 2816, by omega⟩)) * w (ix2 K v)

/-- A quarter of a sum of 5632 terms, and the sum as its quarters. -/
def quarter (f : Fin 5632 → EReal) (q : Fin 4) : EReal := ∑ k : Fin 1408, f ⟨1408 * q.val + k.val, by omega⟩

theorem quarters (f : Fin 5632 → EReal) : ∑ K, f K = quarter f 0 + quarter f 1 + quarter f 2 + quarter f 3 := by
  rw [← (finProdFinEquiv (m := 4) (n := 1408)).sum_comp f, Fintype.sum_prod_type, Fin.sum_univ_four]
  have h : ∀ q : Fin 4, ∑ k : Fin 1408, f (finProdFinEquiv (q, k)) = quarter f q := fun q =>
    Finset.sum_congr rfl fun k _ => congrArg f (Fin.ext (by show k.val + 1408 * q.val = 1408 * q.val + k.val; omega))
  rw [h 0, h 1, h 2, h 3]

/-- Where the blocks of a point lie. -/
theorem place : ∀ t : Fin cfg0.N, win0_0.index t 0 = t.val / 4 ∧ (t.val % 4 ≤ 1 → win0_0.index t 1 = t.val % 4) ∧
    win0_1.index t 0 = t.val / 4 ∧ (2 ≤ t.val % 4 → win0_1.index t 1 = t.val % 4 - 2) := by decide +kernel
theorem origins : ∀ t : Fin cfg0.N, k0_off1 (grid0.coords t) 1 = 0 ∧ (t.val % 4 ≤ 1 → k0_off1 (grid0.coords t) 0 = 1408 * (t.val % 4)) ∧
    k0_off2 (grid0.coords t) 1 = 0 ∧ (2 ≤ t.val % 4 → k0_off2 (grid0.coords t) 0 = 1408 * (t.val % 4 - 2)) := by decide +kernel
theorem target : ∀ t : Fin cfg0.N, win0_2.index t 0 = t.val / 4 ∧ win0_2.index t 1 = 0 := by decide +kernel

variable (m : (ℓ : Loc nD τ sig) → Buf (Elt Ideal) ℓ) (c : Dev nD)

abbrev argA : (⟨2, ![8192, 2816]⟩ : Shape).Idx → EReal := m ((c : Thread nD τ).loc main_arg0)
abbrev argB : (⟨2, ![8192, 2816]⟩ : Shape).Idx → EReal := m ((c : Thread nD τ).loc main_arg1)
abbrev argW : (⟨2, ![5632, 1024]⟩ : Shape).Idx → EReal := m ((c : Thread nD τ).loc main_arg2)

/-- The weights are cut in two before the kernel runs. -/
theorem cut : V m c main_v0 = extractStridedSlice S2816x1024 ![0, 0] (argW m c) slices_S5632x1024_S2816x1024_0_0 := by
  unfold V
  simp only [hostOps0]
  after_results_simp

theorem cut' : V m c main_v1 = extractStridedSlice S2816x1024 ![2816, 0] (argW m c) slices_S5632x1024_S2816x1024_2816_0 := by
  unfold V
  simp only [hostOps0]
  after_results_simp

theorem load0 (t : Fin cfg0.N) (h : t.val % 4 ≤ 1) (u : Fin 1024) (k : Fin 1408) (I : Fin 8192) (K : Fin 2816) (hI : I.val = 1024 * (t.val / 4) + u.val)
    (hK : K.val = 1408 * (t.val % 4) + k.val) : (iblk m c 0 t : Vec Ideal S1024x1408 .bf16) (ix2 u k) = argA m c (ix2 I K) := by
  obtain ⟨e0, e1, -⟩ := place t
  unfold iblk
  rw [View.read_apply]
  refine congrArg (argA m c) (same ?_ ?_)
  · show win0_0.index t 0 * 1024 + 1 * u.val = I.val; rw [e0, hI]; omega
  · show win0_0.index t 1 * 1408 + 1 * k.val = K.val; rw [e1 h, hK]; omega

theorem load1 (t : Fin cfg0.N) (h : 2 ≤ t.val % 4) (u : Fin 1024) (k : Fin 1408) (I : Fin 8192) (K : Fin 2816) (hI : I.val = 1024 * (t.val / 4) + u.val)
    (hK : K.val = 1408 * (t.val % 4 - 2) + k.val) : (iblk m c 1 t : Vec Ideal S1024x1408 .bf16) (ix2 u k) = argB m c (ix2 I K) := by
  obtain ⟨-, -, e0, e1⟩ := place t
  unfold iblk
  rw [View.read_apply]
  refine congrArg (argB m c) (same ?_ ?_)
  · show win0_1.index t 0 * 1024 + 1 * u.val = I.val; rw [e0, hI]; omega
  · show win0_1.index t 1 * 1408 + 1 * k.val = K.val; rw [e1 h, hK]; omega

/-- What a point multiplies is its quarter of the terms. -/
theorem part0 (t : Fin cfg0.N) (h : t.val % 4 ≤ 1) (p) (u v : Fin 1024) (I : Fin 8192) (hI : I.val = 1024 * (t.val / 4) + u.val) (q : Fin 4)
    (hq : t.val % 4 = q.val) :
    k0_pay1 (F := Ideal) (iblk m c 0 t) (upper (grid0.coords t) (V m c main_v0) p) (ix2 u v) = quarter (term (argA m c) (argB m c) (argW m c) I v) q := by
  obtain ⟨e1, e0, -⟩ := origins t
  refine (product_at _ _ u v).trans (Finset.sum_congr rfl fun k _ => ?_)
  have hk : 1408 * q.val + k.val < 2816 := by omega
  unfold term
  rw [dif_pos hk]
  refine congrArg₂ (fun x y : EReal => x * y) (load0 m c t h u k I ⟨_, hk⟩ hI (by show 1408 * q.val + k.val = _; rw [hq])) ?_
  rw [cut]
  refine congrArg (argW m c) (same ?_ ?_)
  · show 0 + (k0_off1 (grid0.coords t) 0 + 1 * k.val) = 1408 * q.val + k.val; rw [e0 h, hq]; omega
  · show 0 + (k0_off1 (grid0.coords t) 1 + 1 * v.val) = v.val; rw [e1]; omega

theorem part1 (t : Fin cfg0.N) (h : 2 ≤ t.val % 4) (p) (u v : Fin 1024) (I : Fin 8192) (hI : I.val = 1024 * (t.val / 4) + u.val) (q : Fin 4)
    (hq : t.val % 4 = q.val) :
    k0_pay1 (F := Ideal) (iblk m c 1 t) (lower (grid0.coords t) (V m c main_v1) p) (ix2 u v) = quarter (term (argA m c) (argB m c) (argW m c) I v) q := by
  obtain ⟨-, -, e1, e0⟩ := origins t
  refine (product_at _ _ u v).trans (Finset.sum_congr rfl fun k _ => ?_)
  have hk : ¬1408 * q.val + k.val < 2816 := by omega
  unfold term
  rw [dif_neg hk]
  refine congrArg₂ (fun x y : EReal => x * y) (load1 m c t h u k I ⟨1408 * q.val + k.val - 2816, by omega⟩ hI
    (by show 1408 * q.val + k.val - 2816 = _; omega)) ?_
  rw [cut']
  refine congrArg (argW m c) (same ?_ ?_)
  · show 2816 + (k0_off2 (grid0.coords t) 0 + 1 * k.val) = 1408 * q.val + k.val; rw [e0 h]; omega
  · show 0 + (k0_off2 (grid0.coords t) 1 + 1 * v.val) = v.val; rw [e1]; omega

/-- The weights arrive at the first point and stay in place from there on. -/
theorem landed_both (t : Fin cfg0.N) (h0 : t.val % 32 = 0) : (outsAt0 m c t.val t.isLt).2.2 = (V m c main_v0, V m c main_v1) := by
  rw [outsAt0_A m c t h0 (by omega) (by omega) (by omega) (by omega) (by omega)]
  dsimp only
  rw [arrive, arrive'']

theorem carried (t : Fin cfg0.N) (h0 : ¬t.val % 32 = 0) :
    (outsAt0 m c t.val t.isLt).2.2 = (outsAt0 m c (t.val - 1) (Nat.lt_of_le_of_lt (Nat.sub_le _ _) t.isLt)).2.2 := by
  rcases (by omega : t.val % 4 = 0 ∨ t.val % 4 = 1 ∨ t.val % 4 = 2 ∨ t.val % 4 = 3) with h | h | h | h
  · rw [outsAt0_E m c t h0 (by omega) h (by omega) (by omega) (by omega)]
    rfl
  · rw [outsAt0_B m c t h0 (by omega) (by omega) (by omega) (by omega) (by omega)]
    rfl
  · rw [outsAt0_C m c t h0 (by omega) (by omega) (by omega)]
    rfl
  · rw [outsAt0_D m c t h0 (by omega) (by omega) h]
    rfl

theorem keep : ∀ (n : ℕ) (hn : n < cfg0.N), (outsAt0 m c n hn).2.2 = (V m c main_v0, V m c main_v1)
  | 0, hn => landed_both m c ⟨0, hn⟩ rfl
  | n + 1, hn => (carried m c ⟨n + 1, hn⟩ (by have hN : n + 1 < 32 := hn; dsimp only; omega)).trans (keep n (Nat.lt_of_succ_lt hn))

section Points

variable (t : Fin cfg0.N) (u v : Fin 1024) (I : Fin 8192) (hI : I.val = 1024 * (t.val / 4) + u.val)
include hI

/-- The running sum at each of a row block's points. -/
theorem at0 (h : t.val % 4 = 0) :
    (outsAt0 m c t.val t.isLt).2.1 (ix2 u v) = quarter (term (argA m c) (argB m c) (argW m c) I v) 0 := by
  by_cases h0 : t.val % 32 = 0
  · rw [outsAt0_A m c t h0 (by omega) h (by omega) (by omega) (by omega)]
    dsimp only
    rw [arrive']
    exact part0 m c t (by omega) _ u v I hI 0 h
  · rw [outsAt0_E m c t h0 (by omega) h (by omega) (by omega) (by omega)]
    dsimp only
    rw [start, congrArg Prod.fst (keep m c _ _)]
    exact part0 m c t (by omega) _ u v I hI 0 h

theorem at1 (h : t.val % 4 = 1) :
    (outsAt0 m c t.val t.isLt).2.1 (ix2 u v) = (outsAt0 m c (t.val - 1) (Nat.lt_of_le_of_lt (Nat.sub_le _ _) t.isLt)).2.1 (ix2 u v) +
      quarter (term (argA m c) (argB m c) (argW m c) I v) 1 := by
  rw [outsAt0_B m c t (by omega) (by omega) (by omega) (by omega) (by omega) (by omega)]
  dsimp only
  rw [more, congrArg Prod.fst (keep m c _ _)]
  exact congrArg (fun r : EReal => _ + r) (part0 m c t (by omega) _ u v I hI 1 h)

theorem at2 (h : t.val % 4 = 2) :
    (outsAt0 m c t.val t.isLt).2.1 (ix2 u v) = (outsAt0 m c (t.val - 1) (Nat.lt_of_le_of_lt (Nat.sub_le _ _) t.isLt)).2.1 (ix2 u v) +
      quarter (term (argA m c) (argB m c) (argW m c) I v) 2 := by
  rw [outsAt0_C m c t (by omega) (by omega) (by omega) (by omega)]
  dsimp only
  rw [more', congrArg Prod.snd (keep m c _ _)]
  exact congrArg (fun r : EReal => _ + r) (part1 m c t (by omega) _ u v I hI 2 h)

theorem at3 (h : t.val % 4 = 3) :
    (outsAt0 m c t.val t.isLt).1 (ix2 u v) = (outsAt0 m c (t.val - 1) (Nat.lt_of_le_of_lt (Nat.sub_le _ _) t.isLt)).2.1 (ix2 u v) +
      quarter (term (argA m c) (argB m c) (argW m c) I v) 3 := by
  rw [outsAt0_D m c t (by omega) (by omega) (by omega) h]
  dsimp only
  rw [last, congrArg Prod.snd (keep m c _ _)]
  exact congrArg (fun r : EReal => _ + r) (part1 m c t (by omega) _ u v I hI 3 h)

/-- What the last of a row block's points stores. -/
theorem stored (h : t.val % 4 = 3) : (outsAt0 m c t.val t.isLt).1 (ix2 u v) = ∑ K, term (argA m c) (argB m c) (argW m c) I v K := by
  have hN : t.val < cfg0.N := t.isLt
  rw [quarters, at3 m c t u v I hI h]
  refine congrArg (fun r : EReal => r + _) ((at2 m c ⟨t.val - 1, by omega⟩ u v I (by dsimp only; omega) (by dsimp only; omega)).trans ?_)
  refine congrArg (fun r : EReal => r + _) ((at1 m c ⟨t.val - 1 - 1, by omega⟩ u v I (by dsimp only; omega) (by dsimp only; omega)).trans ?_)
  exact congrArg (fun r : EReal => r + _) (at0 m c ⟨t.val - 1 - 1 - 1, by omega⟩ u v I (by dsimp only; omega) (by dsimp only; omega))

end Points

/-- The result array. -/
def G : Buf (Elt Ideal) ((c : Thread nD τ).loc main_v2) := fun i => (∑ K, term (argA m c) (argB m c) (argW m c) (i 0) (i 1) K : EReal)

theorem final : (dats m 0 c).arrAt 2 cfg0.N = G m c := by
  refine (dats m 0 c).arrAt_eq_of_covers 2 _ (by decide +kernel) fun t hf y => ?_
  have h3 : t.val % 4 = 3 := (flush0_2 t).mp hf
  obtain ⟨e0, e1⟩ := target t
  blk_simp
  rw [after0_2]
  have hN : t.val < 32 := t.isLt
  have hy : (y 0).val < 1024 := (y 0).isLt
  have hI : win0_2.index t 0 * 1024 + 1 * (y 0).val < 8192 := by rw [e0]; omega
  refine ((congrArg (outsAt0 m c t.val t.isLt).1 (pair y)).trans
    (stored m c t (y 0) (y 1) ⟨_, hI⟩ (by show win0_2.index t 0 * 1024 + 1 * (y 0).val = _; rw [e0]; omega) h3)).trans ?_
  exact congrArg (fun v => ∑ K, term (argA m c) (argB m c) (argW m c) ⟨_, hI⟩ v K)
    (Fin.ext (by show (y 1).val = win0_2.index t 1 * 1024 + 1 * (y 1).val; rw [e1]; omega))

end Cert.InputKernelIdeal.Own

namespace Cert.InputReferenceIdeal.Own

open Cert.InputReferenceIdeal Cert.InputReferenceIdeal.Read Idealize.ShloMosaic PlainSums Cert.InputKernelIdeal.Own

/-- The reference at an entry. -/
theorem entry (a b : (⟨2, ![8192, 2816]⟩ : Shape).Idx → EReal) (w : (⟨2, ![5632, 1024]⟩ : Shape).Idx → EReal) (i : S8192x1024.Idx) :
    val_main_v10 (F := Ideal) a b w i = ∑ K, term a b w (i 0) (i 1) K := by
  refine (val_main_v9_apply a b w i).trans (Finset.sum_congr rfl fun K _ => ?_)
  unfold term
  refine congrArg₂ (fun x y : EReal => x * y) ?_ ?_
  · unfold val_main_v8
    rw [concatenate_pair_apply]
    by_cases h : K.val < 2816
    · rw [dif_pos h]
      exact (dif_pos h).trans (congrArg a (same rfl rfl))
    · rw [dif_neg h]
      exact (dif_neg h).trans (congrArg b (same rfl rfl))
  · rw [val_main_v2_apply, val_main_v1_apply]
    exact congrArg w (same rfl rfl)

end Cert.InputReferenceIdeal.Own

end
-- ==== Proof.Last.lean ====
/-
  The second product of the feed-forward half of the last layer and its residual sum: each point takes 1024 rows, in two halves.
-/
module

public import proofs.«01_k».proof.Proof.RowNorm
public import proofs.«01_k».proof.Proof.Gen.LastKernel.Frame
public import proofs.«01_k».proof.Proof.Gen.LastKernelIdeal.Frame
public import proofs.«01_k».proof.Proof.Gen.LastKernelIdeal.Value
public import proofs.«01_k».proof.Proof.Gen.LastReferenceIdeal
public import proofs.«01_k».proof.Proof.Gen.LastReferenceIdeal.Run
public import proofs.«01_k».proof.Proof.Gen.LastReferenceIdeal.Read

@[expose] public section

noncomputable section

namespace Cert.LastKernelIdeal.Own

open Cert.LastKernelIdeal Cert.LastKernelIdeal.Gen Idealize.ShloMosaic Idealize.ShloMosaic.TcCoe Idealize.SL.Sem PlainSums

section Pieces

variable (v : Vec Ideal S512x2816 .bf16) (w : Vec Ideal S2816x1024 .bf16) (x : Vec Ideal S512x1024 .f32) (g : Vec Ideal S1x1024 .f32)
  (i : Fin 512) (j : Fin 1024) (r : Fin 2816 → EReal) (z l : Fin 1024 → EReal)

/-- The product of 512 rows, at an entry. -/
theorem product (hr : ∀ k, v (ix2 i k) = r k) : k0_pay2 (F := Ideal) v w (ix2 i j) = times r w j := by
  unfold k0_pay2 times
  simp only [pointwise]
  simp [hr]

/-- The rows given plus the norm of the product. -/
theorem sum (hr : ∀ k, v (ix2 i k) = r k) (hx : ∀ k, x (ix2 i k) = z k) (hg : ∀ k, g (ix2 0 k) = l k) :
    k0_pay4 (F := Ideal) v w x g (ix2 i j) = plus z (times r w) l j := by
  have e : k0_pay4 (F := Ideal) v w x g = addf x (normed broadcasts_S512x1_S512x1024 broadcasts_S1x1024_S512x1024 (k0_pay2 v w)
      (scaleCol reduces_S512x1024_S512 shapeCasts_S512_S512x1 (k0_pay2 v w)) g) := by
    unfold k0_pay4
    dsimp only
    rw [shapeCast_self]
    rfl
  rw [e]
  exact congrArg₂ (fun p q : EReal => p + q) (hx j) (norm_at _ _ _ _ _ _ _ _ i j (fun k => product v w i k r hr) hg)

/-- The second half repeats the first: the same operations on its rows. -/
theorem product' : k0_pay5 (F := Ideal) v w = k0_pay2 v w := by unfold k0_pay5 k0_pay2; rfl
theorem sum' : k0_pay1 (F := Ideal) (k0_pay5 v w) x g = k0_pay4 v w x g := by unfold k0_pay1 k0_pay4; rw [product']

end Pieces

section Blocks

variable (x0 : Vec Ideal S1024x2816 .bf16) (x1 : Vec Ideal S2816x1024 .bf16) (x2 : Vec Ideal S1024x1024 .f32) (x3 : Vec Ideal S1x1024 .f32)
  (i j : Fin 1024)

abbrev row0 : Fin 2816 → EReal := fun k => x0 (ix2 i k)
abbrev row2 : Fin 1024 → EReal := fun k => x2 (ix2 i k)
abbrev line (l : Vec Ideal S1x1024 .f32) : Fin 1024 → EReal := fun k => l (ix2 0 k)

/-- What a point stores, at an entry: the product and the sum. -/
theorem block4 : out0_4 (F := Ideal) x0 x1 x2 x3 (ix2 i j) = times (row0 x0 i) x1 j := by
  unfold out0_4
  rw [View.ld_unit_zero (S := S2816x1024) origin]
  refine halves (φ := .bf16) _ _ _ _ (fun i j => times (row0 x0 i) x1 j) (fun i j => ?_) (fun i j => ?_) i j
  · exact product _ x1 i j _ fun k => ld_rows _ x0 i k _ (by dsimp only; omega)
  · unfold k0_pay6
    rw [product']
    exact product _ x1 i j _ fun k => ld_rows _ x0 i k _ rfl

theorem block5 : out0_5 (F := Ideal) x0 x1 x2 x3 (ix2 i j) = plus (row2 x2 i) (times (row0 x0 i) x1) (line x3) j := by
  unfold out0_5
  rw [View.ld_unit_zero (S := S2816x1024) origin, View.ld_unit_zero (S := S1x1024) origin]
  refine halves (φ := .f32) _ _ _ _ (fun i j => plus (row2 x2 i) (times (row0 x0 i) x1) (line x3) j) (fun i j => ?_) (fun i j => ?_) i j
  · exact sum _ x1 _ x3 i j _ _ _ (fun k => ld_rows _ x0 i k _ (by dsimp only; omega)) (fun k => ld_rows _ x2 i k _ (by dsimp only; omega))
      fun k => rfl
  · rw [sum']
    exact sum _ x1 _ x3 i j _ _ _ (fun k => ld_rows _ x0 i k _ rfl) (fun k => ld_rows _ x2 i k _ rfl) fun k => rfl

end Blocks

variable (m : (ℓ : Loc nD τ sig) → Buf (Elt Ideal) ℓ) (c : Dev nD)

abbrev argA : (⟨2, ![8192, 2816]⟩ : Shape).Idx → EReal := m ((c : Thread nD τ).loc main_arg0)
abbrev argB : (⟨2, ![2816, 1024]⟩ : Shape).Idx → EReal := m ((c : Thread nD τ).loc main_arg1)
abbrev argX : (⟨2, ![8192, 1024]⟩ : Shape).Idx → EReal := m ((c : Thread nD τ).loc main_arg2)
abbrev argG : (⟨1, ![1024]⟩ : Shape).Idx → EReal := m ((c : Thread nD τ).loc main_arg3)

/-- The blocks each point loads and writes. -/
theorem place : ∀ t : Fin cfg0.N, win0_0.index t (0 : Fin 2) = t.val ∧ win0_0.index t (1 : Fin 2) = 0 ∧
    win0_1.index t (0 : Fin 2) = 0 ∧ win0_1.index t (1 : Fin 2) = 0 ∧
    win0_2.index t (0 : Fin 2) = t.val ∧ win0_2.index t (1 : Fin 2) = 0 ∧
    win0_3.index t (0 : Fin 2) = 0 ∧ win0_3.index t (1 : Fin 2) = 0 :=
  (by decide +kernel : ∀ t : Fin grid0.N, _)

theorem target : ∀ t : Fin cfg0.N, win0_4.index t (0 : Fin 2) = t.val ∧ win0_4.index t (1 : Fin 2) = 0 ∧
    win0_5.index t (0 : Fin 2) = t.val ∧ win0_5.index t (1 : Fin 2) = 0 :=
  (by decide +kernel : ∀ t : Fin grid0.N, _)

theorem load0 (t : Fin cfg0.N) (r : Fin 1024) (k : Fin 2816) (I : Fin 8192) (hI : I.val = 1024 * t.val + r.val) :
    (iblk m c 0 t : Vec Ideal S1024x2816 .bf16) (ix2 r k) = argA m c (ix2 I k) := by
  obtain ⟨e0, e1, -⟩ := place t
  unfold iblk
  rw [View.read_apply]
  refine congrArg (argA m c) (same ?_ ?_)
  · show win0_0.index t 0 * 1024 + 1 * r.val = I.val; rw [e0, hI]; omega
  · show win0_0.index t 1 * 2816 + 1 * k.val = k.val; rw [e1]; omega

theorem load1 (t : Fin cfg0.N) : (iblk m c 1 t : Vec Ideal S2816x1024 .bf16) = argB m c := by
  obtain ⟨-, -, e0, e1, -⟩ := place t
  funext y
  unfold iblk
  rw [View.read_apply]
  refine congrArg (argB m c) (same ?_ ?_)
  · show win0_1.index t 0 * 2816 + 1 * (y 0).val = (y 0).val; rw [e0]; omega
  · show win0_1.index t 1 * 1024 + 1 * (y 1).val = (y 1).val; rw [e1]; omega

theorem load2 (t : Fin cfg0.N) (r k : Fin 1024) (I : Fin 8192) (hI : I.val = 1024 * t.val + r.val) :
    (iblk m c 2 t : Vec Ideal S1024x1024 .f32) (ix2 r k) = argX m c (ix2 I k) := by
  obtain ⟨-, -, -, -, e0, e1, -⟩ := place t
  unfold iblk
  rw [View.read_apply]
  refine congrArg (argX m c) (same ?_ ?_)
  · show win0_2.index t 0 * 1024 + 1 * r.val = I.val; rw [e0, hI]; omega
  · show win0_2.index t 1 * 1024 + 1 * k.val = k.val; rw [e1]; omega

/-- The gains, reshaped to a line before the kernel runs. -/
theorem lineG : V m c main_v0 = shapeCast S1x1024 (argG m c) shapeCasts_S1024_S1x1024 := by
  unfold V
  simp only [hostOps0]
  after_results_simp
  rfl

theorem load3 (t : Fin cfg0.N) (k : Fin 1024) : (iblk m c 3 t : Vec Ideal S1x1024 .f32) (ix2 0 k) = argG m c (ix1 k) := by
  obtain ⟨-, -, -, -, -, -, e0, e1⟩ := place t
  unfold iblk
  rw [View.read_apply]
  refine (congrArg (V m c main_v0) (same (z := ix2 0 k) ?_ ?_)).trans ?_
  · show win0_3.index t 0 * 1 + 1 * 0 = 0; rw [e0]
  · show win0_3.index t 1 * 1024 + 1 * k.val = k.val; rw [e1]; omega
  · rw [lineG]
    simp only [pointwise]

/-- The result arrays. -/
abbrev rowA (I : Fin 8192) : Fin 2816 → EReal := fun k => argA m c (ix2 I k)
abbrev rowX (I : Fin 8192) : Fin 1024 → EReal := fun k => argX m c (ix2 I k)
abbrev gains (g : (⟨1, ![1024]⟩ : Shape).Idx → EReal) : Fin 1024 → EReal := fun k => g (ix1 k)
def G4 : Buf (Elt Ideal) ((c : Thread nD τ).loc main_v1_0) := fun i => times (rowA m c (i 0)) (argB m c) (i 1)
def G5 : Buf (Elt Ideal) ((c : Thread nD τ).loc main_v1_1) := fun i =>
  plus (rowX m c (i 0)) (times (rowA m c (i 0)) (argB m c)) (gains (argG m c)) (i 1)
theorem final4 : (dats m 0 c).arrAt 4 cfg0.N = G4 m c := by
  refine (dats m 0 c).arrAt_eq_of_covers 4 _ (by decide +kernel) fun t hf y => ?_
  obtain ⟨e0, e1, -⟩ := target t
  blk_simp
  rw [after0_4]
  refine ((congrArg (out0_4 (F := Ideal) _ _ _ _) (pair y)).trans (block4 _ _ _ _ (y 0) (y 1))).trans ?_
  rw [load1]
  exact congr (congrArg (fun r => times r (argB m c)) (funext fun k => load0 m c t (y 0) k _
      (by show win0_4.index t 0 * 1024 + 1 * (y 0).val = _; rw [e0]; omega)))
    (Fin.ext (by show (y 1).val = win0_4.index t 1 * 1024 + 1 * (y 1).val; rw [e1]; omega))

theorem final5 : (dats m 0 c).arrAt 5 cfg0.N = G5 m c := by
  refine (dats m 0 c).arrAt_eq_of_covers 5 _ (by decide +kernel) fun t hf y => ?_
  obtain ⟨-, -, e0, e1⟩ := target t
  blk_simp
  rw [after0_5]
  refine ((congrArg (out0_5 (F := Ideal) _ _ _ _) (pair y)).trans (block5 _ _ _ _ (y 0) (y 1))).trans ?_
  have hI : (win0_5.index t 0 * 1024 + 1 * (y 0).val : ℕ) = 1024 * t.val + (y 0).val := by rw [e0]; omega
  rw [load1, show line (iblk m c 3 t) = gains (argG m c) from funext fun k => load3 m c t k]
  exact congr (congrArg₂ (fun z r => plus z (times r (argB m c)) (gains (argG m c))) (funext fun k => load2 m c t (y 0) k _ hI)
    (funext fun k => load0 m c t (y 0) k _ hI)) (Fin.ext (by show (y 1).val = win0_5.index t 1 * 1024 + 1 * (y 1).val; rw [e1]; omega))

end Cert.LastKernelIdeal.Own

namespace Cert.LastReferenceIdeal.Own

open Cert.LastReferenceIdeal Cert.LastReferenceIdeal.Read Idealize.ShloMosaic PlainSums

variable (a : (⟨2, ![8192, 2816]⟩ : Shape).Idx → EReal) (b : (⟨2, ![2816, 1024]⟩ : Shape).Idx → EReal)
  (x : (⟨2, ![8192, 1024]⟩ : Shape).Idx → EReal) (g : (⟨1, ![1024]⟩ : Shape).Idx → EReal)

abbrev rowA (I : Fin 8192) : Fin 2816 → EReal := fun k => a (ix2 I k)
abbrev rowX (I : Fin 8192) : Fin 1024 → EReal := fun k => x (ix2 I k)
abbrev gains : Fin 1024 → EReal := fun k => g (ix1 k)

/-- The reference's product, the scale of its row and the sum. -/
theorem product (i : S8192x1024.Idx) : val_main_v2 (F := Ideal) a b i = times (rowA a (i 0)) b (i 1) :=
  (val_main_v2_apply a b i).trans (Finset.sum_congr rfl fun k _ => congrArg₂ (fun p q : EReal => p * q)
    (congrArg a (same rfl rfl)) (congrArg b (same rfl rfl)))

theorem scaled (i : S8192x1.Idx) : val_main_v11 (F := Ideal) a b i = scale (times (rowA a (i 0)) b) := by
  rw [val_main_v11_apply, val_main_v10_apply, val_main_v8_apply, val_main_v6_apply, val_main_v5_apply, val_main_v7_apply, val_main_v9_apply]
  refine congrArg (fun s : EReal => Ideal.rsqrt (Ideal.div s _ + _)) ?_
  refine (congrArg (fun s : EReal => s + _) Ideal.ofBits_zero_f32).trans ((zero_add _).trans (Finset.sum_congr rfl fun k _ => ?_))
  exact congrArg₂ (fun p q : EReal => p * q) (product a b _) (product a b _)

theorem sum (i : S8192x1024.Idx) : val_main_v17 (F := Ideal) a b x g i = plus (rowX x (i 0)) (times (rowA a (i 0)) b) (gains g) (i 1) := by
  rw [val_main_v17_apply, val_main_v16_apply, val_main_v13_apply, val_main_v12_apply, val_main_v15_apply, val_main_v14_apply, product, scaled]
  exact congrArg₂ (fun p q : EReal => p + times (rowA a (i 0)) b (i 1) * scale (times (rowA a (i 0)) b) * q) (congrArg x (pair i))
    (congrArg g (funext fun q => Fin.ext (by match q with | ⟨0, _⟩ => rfl)))

end Cert.LastReferenceIdeal.Own

end
-- ==== Proof.Ffn.lean ====
/-
  The second product of the feed-forward half, its residual sum and the norms: each point takes 1024 rows, in two halves.
-/
module

public import proofs.«01_k».proof.Proof.RowNorm
public import proofs.«01_k».proof.Proof.Gen.FfnKernel.Frame
public import proofs.«01_k».proof.Proof.Gen.FfnKernelIdeal.Frame
public import proofs.«01_k».proof.Proof.Gen.FfnKernelIdeal.Value
public import proofs.«01_k».proof.Proof.Gen.FfnReferenceIdeal
public import proofs.«01_k».proof.Proof.Gen.FfnReferenceIdeal.Run
public import proofs.«01_k».proof.Proof.Gen.FfnReferenceIdeal.Read

@[expose] public section

noncomputable section

namespace Cert.FfnKernelIdeal.Own

open Cert.FfnKernelIdeal Cert.FfnKernelIdeal.Gen Idealize.ShloMosaic Idealize.ShloMosaic.TcCoe Idealize.SL.Sem PlainSums

section Pieces

variable (v : Vec Ideal S512x2816 .bf16) (w : Vec Ideal S2816x1024 .bf16) (x : Vec Ideal S512x1024 .f32) (g h : Vec Ideal S1x1024 .f32)
  (i : Fin 512) (j : Fin 1024) (r : Fin 2816 → EReal) (z l : Fin 1024 → EReal) (q : Fin 1024 → EReal)

/-- The product of 512 rows, at an entry. -/
theorem product (hr : ∀ k, v (ix2 i k) = r k) : k0_pay2 (F := Ideal) v w (ix2 i j) = times r w j := by
  unfold k0_pay2 times
  simp only [pointwise]
  simp [hr]

/-- The rows given plus the norm of the product. -/
theorem sum (hr : ∀ k, v (ix2 i k) = r k) (hx : ∀ k, x (ix2 i k) = z k) (hg : ∀ k, g (ix2 0 k) = l k) :
    k0_pay4 (F := Ideal) v w x g (ix2 i j) = plus z (times r w) l j := by
  have e : k0_pay4 (F := Ideal) v w x g = addf x (normed broadcasts_S512x1_S512x1024 broadcasts_S1x1024_S512x1024 (k0_pay2 v w)
      (scaleCol reduces_S512x1024_S512 shapeCasts_S512_S512x1 (k0_pay2 v w)) g) := by
    unfold k0_pay4
    dsimp only
    rw [shapeCast_self]
    rfl
  rw [e]
  exact congrArg₂ (fun p q : EReal => p + q) (hx j) (norm_at _ _ _ _ _ _ _ _ i j (fun k => product v w i k r hr) hg)

/-- The norm of that sum. -/
theorem again (hr : ∀ k, v (ix2 i k) = r k) (hx : ∀ k, x (ix2 i k) = z k) (hg : ∀ k, g (ix2 0 k) = l k) (hh : ∀ k, h (ix2 0 k) = q k) :
    k0_pay5 (F := Ideal) v w x g h (ix2 i j) = norm (plus z (times r w) l) q j := by
  have e : k0_pay5 (F := Ideal) v w x g h = normed broadcasts_S512x1_S512x1024 broadcasts_S1x1024_S512x1024 (k0_pay4 v w x g)
      (scaleCol reduces_S512x1024_S512 shapeCasts_S512_S512x1 (k0_pay4 v w x g)) h := by
    unfold k0_pay5
    dsimp only
    rw [shapeCast_self]
    rfl
  rw [e]
  exact norm_at _ _ _ _ _ _ _ _ i j (fun k => sum v w x g i k r z l hr hx hg) hh

/-- The second half repeats the first: the same operations on its rows. -/
theorem product' : k0_pay7 (F := Ideal) v w = k0_pay2 v w := by unfold k0_pay7 k0_pay2; rfl
theorem sum' : k0_pay9 (F := Ideal) v w x g = k0_pay4 v w x g := by unfold k0_pay9 k0_pay4; rw [product']
theorem again' : k0_pay1 (F := Ideal) (k0_pay9 v w x g) (k0_pay10 h) (k0_pay11 v w x g) = truncf .bf16 (k0_pay5 v w x g h) bitsLt_bf16_f32 := by
  unfold k0_pay1 k0_pay10 k0_pay11 k0_pay5
  rw [sum']

end Pieces

section Blocks

variable (x0 : Vec Ideal S1024x2816 .bf16) (x1 : Vec Ideal S2816x1024 .bf16) (x2 : Vec Ideal S1024x1024 .f32) (x3 x4 : Vec Ideal S1x1024 .f32)
  (i j : Fin 1024)

abbrev row0 : Fin 2816 → EReal := fun k => x0 (ix2 i k)
abbrev row2 : Fin 1024 → EReal := fun k => x2 (ix2 i k)
abbrev line (l : Vec Ideal S1x1024 .f32) : Fin 1024 → EReal := fun k => l (ix2 0 k)

/-- What a point stores, at an entry: the product, the sum and its norm. -/
theorem block5 : out0_5 (F := Ideal) x0 x1 x2 x3 x4 (ix2 i j) = times (row0 x0 i) x1 j := by
  unfold out0_5
  rw [View.ld_unit_zero (S := S2816x1024) origin]
  refine halves (φ := .bf16) _ _ _ _ (fun i j => times (row0 x0 i) x1 j) (fun i j => ?_) (fun i j => ?_) i j
  · exact product _ x1 i j _ fun k => ld_rows _ x0 i k _ (by dsimp only; omega)
  · unfold k0_pay8
    rw [product']
    exact product _ x1 i j _ fun k => ld_rows _ x0 i k _ rfl

theorem block6 : out0_6 (F := Ideal) x0 x1 x2 x3 x4 (ix2 i j) = plus (row2 x2 i) (times (row0 x0 i) x1) (line x3) j := by
  unfold out0_6
  rw [View.ld_unit_zero (S := S2816x1024) origin, View.ld_unit_zero (S := S1x1024) origin]
  refine halves (φ := .f32) _ _ _ _ (fun i j => plus (row2 x2 i) (times (row0 x0 i) x1) (line x3) j) (fun i j => ?_) (fun i j => ?_) i j
  · exact sum _ x1 _ x3 i j _ _ _ (fun k => ld_rows _ x0 i k _ (by dsimp only; omega)) (fun k => ld_rows _ x2 i k _ (by dsimp only; omega))
      fun k => rfl
  · rw [sum']
    exact sum _ x1 _ x3 i j _ _ _ (fun k => ld_rows _ x0 i k _ rfl) (fun k => ld_rows _ x2 i k _ rfl) fun k => rfl

theorem block7 : out0_7 (F := Ideal) x0 x1 x2 x3 x4 (ix2 i j) = norm (plus (row2 x2 i) (times (row0 x0 i) x1) (line x3)) (line x4) j := by
  unfold out0_7
  rw [View.ld_unit_zero (S := S2816x1024) origin, View.ld_unit_zero (S := S1x1024) origin, View.ld_unit_zero (S := S1x1024) origin]
  refine halves (φ := .bf16) _ _ _ _ (fun i j => norm (plus (row2 x2 i) (times (row0 x0 i) x1) (line x3)) (line x4) j)
    (fun i j => ?_) (fun i j => ?_) i j
  · exact again _ x1 _ x3 x4 i j _ _ _ _ (fun k => ld_rows _ x0 i k _ (by dsimp only; omega))
      (fun k => ld_rows _ x2 i k _ (by dsimp only; omega)) (fun k => rfl) fun k => rfl
  · rw [again']
    exact again _ x1 _ x3 x4 i j _ _ _ _ (fun k => ld_rows _ x0 i k _ rfl) (fun k => ld_rows _ x2 i k _ rfl) (fun k => rfl) fun k => rfl

end Blocks

variable (m : (ℓ : Loc nD τ sig) → Buf (Elt Ideal) ℓ) (c : Dev nD)

abbrev argA : (⟨2, ![8192, 2816]⟩ : Shape).Idx → EReal := m ((c : Thread nD τ).loc main_arg0)
abbrev argB : (⟨2, ![2816, 1024]⟩ : Shape).Idx → EReal := m ((c : Thread nD τ).loc main_arg1)
abbrev argX : (⟨2, ![8192, 1024]⟩ : Shape).Idx → EReal := m ((c : Thread nD τ).loc main_arg2)
abbrev argG : (⟨1, ![1024]⟩ : Shape).Idx → EReal := m ((c : Thread nD τ).loc main_arg3)
abbrev argH : (⟨1, ![1024]⟩ : Shape).Idx → EReal := m ((c : Thread nD τ).loc main_arg4)

/-- The blocks each point loads and writes. -/
theorem place : ∀ t : Fin cfg0.N, win0_0.index t (0 : Fin 2) = t.val ∧ win0_0.index t (1 : Fin 2) = 0 ∧
    win0_1.index t (0 : Fin 2) = 0 ∧ win0_1.index t (1 : Fin 2) = 0 ∧
    win0_2.index t (0 : Fin 2) = t.val ∧ win0_2.index t (1 : Fin 2) = 0 ∧
    win0_3.index t (0 : Fin 2) = 0 ∧ win0_3.index t (1 : Fin 2) = 0 ∧
    win0_4.index t (0 : Fin 2) = 0 ∧ win0_4.index t (1 : Fin 2) = 0 :=
  (by decide +kernel : ∀ t : Fin grid0.N, _)

theorem target : ∀ t : Fin cfg0.N, win0_5.index t (0 : Fin 2) = t.val ∧ win0_5.index t (1 : Fin 2) = 0 ∧
    win0_6.index t (0 : Fin 2) = t.val ∧ win0_6.index t (1 : Fin 2) = 0 ∧
    win0_7.index t (0 : Fin 2) = t.val ∧ win0_7.index t (1 : Fin 2) = 0 :=
  (by decide +kernel : ∀ t : Fin grid0.N, _)

theorem load0 (t : Fin cfg0.N) (r : Fin 1024) (k : Fin 2816) (I : Fin 8192) (hI : I.val = 1024 * t.val + r.val) :
    (iblk m c 0 t : Vec Ideal S1024x2816 .bf16) (ix2 r k) = argA m c (ix2 I k) := by
  obtain ⟨e0, e1, -⟩ := place t
  unfold iblk
  rw [View.read_apply]
  refine congrArg (argA m c) (same ?_ ?_)
  · show win0_0.index t 0 * 1024 + 1 * r.val = I.val; rw [e0, hI]; omega
  · show win0_0.index t 1 * 2816 + 1 * k.val = k.val; rw [e1]; omega

theorem load1 (t : Fin cfg0.N) : (iblk m c 1 t : Vec Ideal S2816x1024 .bf16) = argB m c := by
  obtain ⟨-, -, e0, e1, -⟩ := place t
  funext y
  unfold iblk
  rw [View.read_apply]
  refine congrArg (argB m c) (same ?_ ?_)
  · show win0_1.index t 0 * 2816 + 1 * (y 0).val = (y 0).val; rw [e0]; omega
  · show win0_1.index t 1 * 1024 + 1 * (y 1).val = (y 1).val; rw [e1]; omega

theorem load2 (t : Fin cfg0.N) (r k : Fin 1024) (I : Fin 8192) (hI : I.val = 1024 * t.val + r.val) :
    (iblk m c 2 t : Vec Ideal S1024x1024 .f32) (ix2 r k) = argX m c (ix2 I k) := by
  obtain ⟨-, -, -, -, e0, e1, -⟩ := place t
  unfold iblk
  rw [View.read_apply]
  refine congrArg (argX m c) (same ?_ ?_)
  · show win0_2.index t 0 * 1024 + 1 * r.val = I.val; rw [e0, hI]; omega
  · show win0_2.index t 1 * 1024 + 1 * k.val = k.val; rw [e1]; omega

/-- The gains, reshaped to a line before the kernel runs. -/
theorem lineG : V m c main_v0 = shapeCast S1x1024 (argG m c) shapeCasts_S1024_S1x1024 := by
  unfold V
  simp only [hostOps0]
  after_results_simp
  rfl

theorem lineH : V m c main_v1 = shapeCast S1x1024 (argH m c) shapeCasts_S1024_S1x1024 := by
  unfold V
  simp only [hostOps0]
  after_results_simp
  rfl

theorem load3 (t : Fin cfg0.N) (k : Fin 1024) : (iblk m c 3 t : Vec Ideal S1x1024 .f32) (ix2 0 k) = argG m c (ix1 k) := by
  obtain ⟨-, -, -, -, -, -, e0, e1, -⟩ := place t
  unfold iblk
  rw [View.read_apply]
  refine (congrArg (V m c main_v0) (same (z := ix2 0 k) ?_ ?_)).trans ?_
  · show win0_3.index t 0 * 1 + 1 * 0 = 0; rw [e0]
  · show win0_3.index t 1 * 1024 + 1 * k.val = k.val; rw [e1]; omega
  · rw [lineG]
    simp only [pointwise]

theorem load4 (t : Fin cfg0.N) (k : Fin 1024) : (iblk m c 4 t : Vec Ideal S1x1024 .f32) (ix2 0 k) = argH m c (ix1 k) := by
  obtain ⟨-, -, -, -, -, -, -, -, e0, e1⟩ := place t
  unfold iblk
  rw [View.read_apply]
  refine (congrArg (V m c main_v1) (same (z := ix2 0 k) ?_ ?_)).trans ?_
  · show win0_4.index t 0 * 1 + 1 * 0 = 0; rw [e0]
  · show win0_4.index t 1 * 1024 + 1 * k.val = k.val; rw [e1]; omega
  · rw [lineH]
    simp only [pointwise]

/-- The result arrays. -/
abbrev rowA (I : Fin 8192) : Fin 2816 → EReal := fun k => argA m c (ix2 I k)
abbrev rowX (I : Fin 8192) : Fin 1024 → EReal := fun k => argX m c (ix2 I k)
abbrev gains (g : (⟨1, ![1024]⟩ : Shape).Idx → EReal) : Fin 1024 → EReal := fun k => g (ix1 k)
def G5 : Buf (Elt Ideal) ((c : Thread nD τ).loc main_v2_0) := fun i => times (rowA m c (i 0)) (argB m c) (i 1)
def G6 : Buf (Elt Ideal) ((c : Thread nD τ).loc main_v2_1) := fun i =>
  plus (rowX m c (i 0)) (times (rowA m c (i 0)) (argB m c)) (gains (argG m c)) (i 1)
def G7 : Buf (Elt Ideal) ((c : Thread nD τ).loc main_v2_2) := fun i =>
  norm (plus (rowX m c (i 0)) (times (rowA m c (i 0)) (argB m c)) (gains (argG m c))) (gains (argH m c)) (i 1)

theorem final5 : (dats m 0 c).arrAt 5 cfg0.N = G5 m c := by
  refine (dats m 0 c).arrAt_eq_of_covers 5 _ (by decide +kernel) fun t hf y => ?_
  obtain ⟨e0, e1, -⟩ := target t
  blk_simp
  rw [after0_5]
  refine ((congrArg (out0_5 (F := Ideal) _ _ _ _ _) (pair y)).trans (block5 _ _ _ _ _ (y 0) (y 1))).trans ?_
  rw [load1]
  exact congr (congrArg (fun r => times r (argB m c)) (funext fun k => load0 m c t (y 0) k _
      (by show win0_5.index t 0 * 1024 + 1 * (y 0).val = _; rw [e0]; omega)))
    (Fin.ext (by show (y 1).val = win0_5.index t 1 * 1024 + 1 * (y 1).val; rw [e1]; omega))

theorem final6 : (dats m 0 c).arrAt 6 cfg0.N = G6 m c := by
  refine (dats m 0 c).arrAt_eq_of_covers 6 _ (by decide +kernel) fun t hf y => ?_
  obtain ⟨-, -, e0, e1, -⟩ := target t
  blk_simp
  rw [after0_6]
  refine ((congrArg (out0_6 (F := Ideal) _ _ _ _ _) (pair y)).trans (block6 _ _ _ _ _ (y 0) (y 1))).trans ?_
  have hI : (win0_6.index t 0 * 1024 + 1 * (y 0).val : ℕ) = 1024 * t.val + (y 0).val := by rw [e0]; omega
  rw [load1, show line (iblk m c 3 t) = gains (argG m c) from funext fun k => load3 m c t k]
  exact congr (congrArg₂ (fun z r => plus z (times r (argB m c)) (gains (argG m c))) (funext fun k => load2 m c t (y 0) k _ hI)
    (funext fun k => load0 m c t (y 0) k _ hI)) (Fin.ext (by show (y 1).val = win0_6.index t 1 * 1024 + 1 * (y 1).val; rw [e1]; omega))

theorem final7 : (dats m 0 c).arrAt 7 cfg0.N = G7 m c := by
  refine (dats m 0 c).arrAt_eq_of_covers 7 _ (by decide +kernel) fun t hf y => ?_
  obtain ⟨-, -, -, -, e0, e1⟩ := target t
  blk_simp
  rw [after0_7]
  refine ((congrArg (out0_7 (F := Ideal) _ _ _ _ _) (pair y)).trans (block7 _ _ _ _ _ (y 0) (y 1))).trans ?_
  have hI : (win0_7.index t 0 * 1024 + 1 * (y 0).val : ℕ) = 1024 * t.val + (y 0).val := by rw [e0]; omega
  rw [load1, show line (iblk m c 3 t) = gains (argG m c) from funext fun k => load3 m c t k,
    show line (iblk m c 4 t) = gains (argH m c) from funext fun k => load4 m c t k]
  exact congr (congrArg₂ (fun z r => norm (plus z (times r (argB m c)) (gains (argG m c))) (gains (argH m c)))
    (funext fun k => load2 m c t (y 0) k _ hI) (funext fun k => load0 m c t (y 0) k _ hI))
    (Fin.ext (by show (y 1).val = win0_7.index t 1 * 1024 + 1 * (y 1).val; rw [e1]; omega))

end Cert.FfnKernelIdeal.Own

namespace Cert.FfnReferenceIdeal.Own

open Cert.FfnReferenceIdeal Cert.FfnReferenceIdeal.Read Idealize.ShloMosaic PlainSums

variable (a : (⟨2, ![8192, 2816]⟩ : Shape).Idx → EReal) (b : (⟨2, ![2816, 1024]⟩ : Shape).Idx → EReal)
  (x : (⟨2, ![8192, 1024]⟩ : Shape).Idx → EReal) (g h : (⟨1, ![1024]⟩ : Shape).Idx → EReal)

abbrev rowA (I : Fin 8192) : Fin 2816 → EReal := fun k => a (ix2 I k)
abbrev rowX (I : Fin 8192) : Fin 1024 → EReal := fun k => x (ix2 I k)
abbrev gains : Fin 1024 → EReal := fun k => g (ix1 k)

/-- The reference's product, the scale of its row, the sum and the norm of that. -/
theorem product (i : S8192x1024.Idx) : val_main_v2 (F := Ideal) a b i = times (rowA a (i 0)) b (i 1) :=
  (val_main_v2_apply a b i).trans (Finset.sum_congr rfl fun k _ => congrArg₂ (fun p q : EReal => p * q)
    (congrArg a (same rfl rfl)) (congrArg b (same rfl rfl)))

theorem scaled (i : S8192x1.Idx) : val_main_v10 (F := Ideal) a b i = scale (times (rowA a (i 0)) b) := by
  rw [val_main_v10_apply, val_main_v9_apply, val_main_v7_apply, val_main_v5_apply, val_main_v4_apply, val_main_v6_apply, val_main_v8_apply]
  refine congrArg (fun s : EReal => Ideal.rsqrt (Ideal.div s _ + _)) ?_
  refine (congrArg (fun s : EReal => s + _) Ideal.ofBits_zero_f32).trans ((zero_add _).trans (Finset.sum_congr rfl fun k _ => ?_))
  exact congrArg₂ (fun p q : EReal => p * q) (product a b _) (product a b _)

theorem sum (i : S8192x1024.Idx) : val_main_v16 (F := Ideal) a b x g i = plus (rowX x (i 0)) (times (rowA a (i 0)) b) (gains g) (i 1) := by
  rw [val_main_v16_apply, val_main_v15_apply, val_main_v12_apply, val_main_v11_apply, val_main_v14_apply, val_main_v13_apply, product, scaled]
  exact congrArg₂ (fun p q : EReal => p + times (rowA a (i 0)) b (i 1) * scale (times (rowA a (i 0)) b) * q) (congrArg x (pair i))
    (congrArg g (funext fun q => Fin.ext (by match q with | ⟨0, _⟩ => rfl)))

theorem rescaled (i : S8192x1.Idx) : val_main_v25 (F := Ideal) a b x g i = scale (plus (rowX x (i 0)) (times (rowA a (i 0)) b) (gains g)) := by
  rw [val_main_v25_apply, val_main_v24_apply, val_main_v22_apply, val_main_v20_apply, val_main_v19_apply, val_main_v21_apply,
    val_main_v23_apply]
  refine congrArg (fun s : EReal => Ideal.rsqrt (Ideal.div s _ + _)) ?_
  refine (congrArg (fun s : EReal => s + _) Ideal.ofBits_zero_f32).trans ((zero_add _).trans (Finset.sum_congr rfl fun k _ => ?_))
  exact congrArg₂ (fun p q : EReal => p * q) (sum a b x g _) (sum a b x g _)

theorem again (i : S8192x1024.Idx) : val_main_v31 (F := Ideal) a b x g h i =
    norm (plus (rowX x (i 0)) (times (rowA a (i 0)) b) (gains g)) (gains h) (i 1) := by
  rw [val_main_v31_apply, val_main_v30_apply, val_main_v27_apply, val_main_v26_apply, val_main_v29_apply, val_main_v28_apply, sum, rescaled]
  exact congrArg (fun q : EReal => plus (rowX x (i 0)) (times (rowA a (i 0)) b) (gains g) (i 1) *
    scale (plus (rowX x (i 0)) (times (rowA a (i 0)) b) (gains g)) * q)
    (congrArg h (funext fun q => Fin.ext (by match q with | ⟨0, _⟩ => rfl)))

end Cert.FfnReferenceIdeal.Own

end
-- ==== Proof.Mix.lean ====
/-
  The product after the branches, its residual sum and the norms: each point takes 1024 rows, in two halves.
-/
module

public import proofs.«01_k».proof.Proof.RowNorm
public import proofs.«01_k».proof.Proof.Gen.MixKernel.Frame
public import proofs.«01_k».proof.Proof.Gen.MixKernelIdeal.Frame
public import proofs.«01_k».proof.Proof.Gen.MixKernelIdeal.Value
public import proofs.«01_k».proof.Proof.Gen.MixReferenceIdeal
public import proofs.«01_k».proof.Proof.Gen.MixReferenceIdeal.Run
public import proofs.«01_k».proof.Proof.Gen.MixReferenceIdeal.Read

@[expose] public section

noncomputable section

namespace Cert.MixKernelIdeal.Own

open Cert.MixKernelIdeal Cert.MixKernelIdeal.Gen Idealize.ShloMosaic Idealize.ShloMosaic.TcCoe Idealize.SL.Sem PlainSums

section Pieces

variable (v : Vec Ideal S512x1024 .bf16) (w : Vec Ideal S1024x1024 .bf16) (x : Vec Ideal S512x1024 .f32) (g h : Vec Ideal S1x1024 .f32)
  (i : Fin 512) (j : Fin 1024) (r : Fin 1024 → EReal) (z l : Fin 1024 → EReal) (q : Fin 1024 → EReal)

/-- The product of 512 rows, at an entry. -/
theorem product (hr : ∀ k, v (ix2 i k) = r k) : k0_pay2 (F := Ideal) v w (ix2 i j) = times r w j := by
  unfold k0_pay2 times
  simp only [pointwise]
  simp [hr]

/-- The rows given plus the norm of the product. -/
theorem sum (hr : ∀ k, v (ix2 i k) = r k) (hx : ∀ k, x (ix2 i k) = z k) (hg : ∀ k, g (ix2 0 k) = l k) :
    k0_pay4 (F := Ideal) v w x g (ix2 i j) = plus z (times r w) l j := by
  have e : k0_pay4 (F := Ideal) v w x g = addf x (normed broadcasts_S512x1_S512x1024 broadcasts_S1x1024_S512x1024 (k0_pay2 v w)
      (scaleCol reduces_S512x1024_S512 shapeCasts_S512_S512x1 (k0_pay2 v w)) g) := by
    unfold k0_pay4
    dsimp only
    rw [shapeCast_self]
    rfl
  rw [e]
  exact congrArg₂ (fun p q : EReal => p + q) (hx j) (norm_at _ _ _ _ _ _ _ _ i j (fun k => product v w i k r hr) hg)

/-- The norm of that sum. -/
theorem again (hr : ∀ k, v (ix2 i k) = r k) (hx : ∀ k, x (ix2 i k) = z k) (hg : ∀ k, g (ix2 0 k) = l k) (hh : ∀ k, h (ix2 0 k) = q k) :
    k0_pay5 (F := Ideal) v w x g h (ix2 i j) = norm (plus z (times r w) l) q j := by
  have e : k0_pay5 (F := Ideal) v w x g h = normed broadcasts_S512x1_S512x1024 broadcasts_S1x1024_S512x1024 (k0_pay4 v w x g)
      (scaleCol reduces_S512x1024_S512 shapeCasts_S512_S512x1 (k0_pay4 v w x g)) h := by
    unfold k0_pay5
    dsimp only
    rw [shapeCast_self]
    rfl
  rw [e]
  exact norm_at _ _ _ _ _ _ _ _ i j (fun k => sum v w x g i k r z l hr hx hg) hh

/-- The second half repeats the first: the same operations on its rows. -/
theorem product' : k0_pay7 (F := Ideal) v w = k0_pay2 v w := by unfold k0_pay7 k0_pay2; rfl
theorem sum' : k0_pay9 (F := Ideal) v w x g = k0_pay4 v w x g := by unfold k0_pay9 k0_pay4; rw [product']
theorem again' : k0_pay1 (F := Ideal) (k0_pay9 v w x g) (k0_pay10 h) (k0_pay11 v w x g) = truncf .bf16 (k0_pay5 v w x g h) bitsLt_bf16_f32 := by
  unfold k0_pay1 k0_pay10 k0_pay11 k0_pay5
  rw [sum']

end Pieces

section Blocks

variable (x0 : Vec Ideal S1024x1024 .bf16) (x1 : Vec Ideal S1024x1024 .bf16) (x2 : Vec Ideal S1024x1024 .f32) (x3 x4 : Vec Ideal S1x1024 .f32)
  (i j : Fin 1024)

abbrev row0 : Fin 1024 → EReal := fun k => x0 (ix2 i k)
abbrev row2 : Fin 1024 → EReal := fun k => x2 (ix2 i k)
abbrev line (l : Vec Ideal S1x1024 .f32) : Fin 1024 → EReal := fun k => l (ix2 0 k)

/-- What a point stores, at an entry: the product, the sum and its norm. -/
theorem block5 : out0_5 (F := Ideal) x0 x1 x2 x3 x4 (ix2 i j) = times (row0 x0 i) x1 j := by
  unfold out0_5
  rw [View.ld_unit_zero (S := S1024x1024) origin]
  refine halves (φ := .bf16) _ _ _ _ (fun i j => times (row0 x0 i) x1 j) (fun i j => ?_) (fun i j => ?_) i j
  · exact product _ x1 i j _ fun k => ld_rows _ x0 i k _ (by dsimp only; omega)
  · unfold k0_pay8
    rw [product']
    exact product _ x1 i j _ fun k => ld_rows _ x0 i k _ rfl

theorem block6 : out0_6 (F := Ideal) x0 x1 x2 x3 x4 (ix2 i j) = plus (row2 x2 i) (times (row0 x0 i) x1) (line x3) j := by
  unfold out0_6
  rw [View.ld_unit_zero (S := S1024x1024) origin, View.ld_unit_zero (S := S1x1024) origin]
  refine halves (φ := .f32) _ _ _ _ (fun i j => plus (row2 x2 i) (times (row0 x0 i) x1) (line x3) j) (fun i j => ?_) (fun i j => ?_) i j
  · exact sum _ x1 _ x3 i j _ _ _ (fun k => ld_rows _ x0 i k _ (by dsimp only; omega)) (fun k => ld_rows _ x2 i k _ (by dsimp only; omega))
      fun k => rfl
  · rw [sum']
    exact sum _ x1 _ x3 i j _ _ _ (fun k => ld_rows _ x0 i k _ rfl) (fun k => ld_rows _ x2 i k _ rfl) fun k => rfl

theorem block7 : out0_7 (F := Ideal) x0 x1 x2 x3 x4 (ix2 i j) = norm (plus (row2 x2 i) (times (row0 x0 i) x1) (line x3)) (line x4) j := by
  unfold out0_7
  rw [View.ld_unit_zero (S := S1024x1024) origin, View.ld_unit_zero (S := S1x1024) origin, View.ld_unit_zero (S := S1x1024) origin]
  refine halves (φ := .bf16) _ _ _ _ (fun i j => norm (plus (row2 x2 i) (times (row0 x0 i) x1) (line x3)) (line x4) j)
    (fun i j => ?_) (fun i j => ?_) i j
  · exact again _ x1 _ x3 x4 i j _ _ _ _ (fun k => ld_rows _ x0 i k _ (by dsimp only; omega))
      (fun k => ld_rows _ x2 i k _ (by dsimp only; omega)) (fun k => rfl) fun k => rfl
  · rw [again']
    exact again _ x1 _ x3 x4 i j _ _ _ _ (fun k => ld_rows _ x0 i k _ rfl) (fun k => ld_rows _ x2 i k _ rfl) (fun k => rfl) fun k => rfl

end Blocks

variable (m : (ℓ : Loc nD τ sig) → Buf (Elt Ideal) ℓ) (c : Dev nD)

abbrev argA : (⟨2, ![8192, 1024]⟩ : Shape).Idx → EReal := m ((c : Thread nD τ).loc main_arg0)
abbrev argB : (⟨2, ![1024, 1024]⟩ : Shape).Idx → EReal := m ((c : Thread nD τ).loc main_arg1)
abbrev argX : (⟨2, ![8192, 1024]⟩ : Shape).Idx → EReal := m ((c : Thread nD τ).loc main_arg2)
abbrev argG : (⟨1, ![1024]⟩ : Shape).Idx → EReal := m ((c : Thread nD τ).loc main_arg3)
abbrev argH : (⟨1, ![1024]⟩ : Shape).Idx → EReal := m ((c : Thread nD τ).loc main_arg4)

/-- The blocks each point loads and writes. -/
theorem place : ∀ t : Fin cfg0.N, win0_0.index t (0 : Fin 2) = t.val ∧ win0_0.index t (1 : Fin 2) = 0 ∧
    win0_1.index t (0 : Fin 2) = 0 ∧ win0_1.index t (1 : Fin 2) = 0 ∧
    win0_2.index t (0 : Fin 2) = t.val ∧ win0_2.index t (1 : Fin 2) = 0 ∧
    win0_3.index t (0 : Fin 2) = 0 ∧ win0_3.index t (1 : Fin 2) = 0 ∧
    win0_4.index t (0 : Fin 2) = 0 ∧ win0_4.index t (1 : Fin 2) = 0 :=
  (by decide +kernel : ∀ t : Fin grid0.N, _)

theorem target : ∀ t : Fin cfg0.N, win0_5.index t (0 : Fin 2) = t.val ∧ win0_5.index t (1 : Fin 2) = 0 ∧
    win0_6.index t (0 : Fin 2) = t.val ∧ win0_6.index t (1 : Fin 2) = 0 ∧
    win0_7.index t (0 : Fin 2) = t.val ∧ win0_7.index t (1 : Fin 2) = 0 :=
  (by decide +kernel : ∀ t : Fin grid0.N, _)

theorem load0 (t : Fin cfg0.N) (r : Fin 1024) (k : Fin 1024) (I : Fin 8192) (hI : I.val = 1024 * t.val + r.val) :
    (iblk m c 0 t : Vec Ideal S1024x1024 .bf16) (ix2 r k) = argA m c (ix2 I k) := by
  obtain ⟨e0, e1, -⟩ := place t
  unfold iblk
  rw [View.read_apply]
  refine congrArg (argA m c) (same ?_ ?_)
  · show win0_0.index t 0 * 1024 + 1 * r.val = I.val; rw [e0, hI]; omega
  · show win0_0.index t 1 * 1024 + 1 * k.val = k.val; rw [e1]; omega

theorem load1 (t : Fin cfg0.N) : (iblk m c 1 t : Vec Ideal S1024x1024 .bf16) = argB m c := by
  obtain ⟨-, -, e0, e1, -⟩ := place t
  funext y
  unfold iblk
  rw [View.read_apply]
  refine congrArg (argB m c) (same ?_ ?_)
  · show win0_1.index t 0 * 1024 + 1 * (y 0).val = (y 0).val; rw [e0]; omega
  · show win0_1.index t 1 * 1024 + 1 * (y 1).val = (y 1).val; rw [e1]; omega

theorem load2 (t : Fin cfg0.N) (r k : Fin 1024) (I : Fin 8192) (hI : I.val = 1024 * t.val + r.val) :
    (iblk m c 2 t : Vec Ideal S1024x1024 .f32) (ix2 r k) = argX m c (ix2 I k) := by
  obtain ⟨-, -, -, -, e0, e1, -⟩ := place t
  unfold iblk
  rw [View.read_apply]
  refine congrArg (argX m c) (same ?_ ?_)
  · show win0_2.index t 0 * 1024 + 1 * r.val = I.val; rw [e0, hI]; omega
  · show win0_2.index t 1 * 1024 + 1 * k.val = k.val; rw [e1]; omega

/-- The gains, reshaped to a line before the kernel runs. -/
theorem lineG : V m c main_v0 = shapeCast S1x1024 (argG m c) shapeCasts_S1024_S1x1024 := by
  unfold V
  simp only [hostOps0]
  after_results_simp
  rfl

theorem lineH : V m c main_v1 = shapeCast S1x1024 (argH m c) shapeCasts_S1024_S1x1024 := by
  unfold V
  simp only [hostOps0]
  after_results_simp
  rfl

theorem load3 (t : Fin cfg0.N) (k : Fin 1024) : (iblk m c 3 t : Vec Ideal S1x1024 .f32) (ix2 0 k) = argG m c (ix1 k) := by
  obtain ⟨-, -, -, -, -, -, e0, e1, -⟩ := place t
  unfold iblk
  rw [View.read_apply]
  refine (congrArg (V m c main_v0) (same (z := ix2 0 k) ?_ ?_)).trans ?_
  · show win0_3.index t 0 * 1 + 1 * 0 = 0; rw [e0]
  · show win0_3.index t 1 * 1024 + 1 * k.val = k.val; rw [e1]; omega
  · rw [lineG]
    simp only [pointwise]

theorem load4 (t : Fin cfg0.N) (k : Fin 1024) : (iblk m c 4 t : Vec Ideal S1x1024 .f32) (ix2 0 k) = argH m c (ix1 k) := by
  obtain ⟨-, -, -, -, -, -, -, -, e0, e1⟩ := place t
  unfold iblk
  rw [View.read_apply]
  refine (congrArg (V m c main_v1) (same (z := ix2 0 k) ?_ ?_)).trans ?_
  · show win0_4.index t 0 * 1 + 1 * 0 = 0; rw [e0]
  · show win0_4.index t 1 * 1024 + 1 * k.val = k.val; rw [e1]; omega
  · rw [lineH]
    simp only [pointwise]

/-- The result arrays. -/
abbrev rowA (I : Fin 8192) : Fin 1024 → EReal := fun k => argA m c (ix2 I k)
abbrev rowX (I : Fin 8192) : Fin 1024 → EReal := fun k => argX m c (ix2 I k)
abbrev gains (g : (⟨1, ![1024]⟩ : Shape).Idx → EReal) : Fin 1024 → EReal := fun k => g (ix1 k)
def G5 : Buf (Elt Ideal) ((c : Thread nD τ).loc main_v2_0) := fun i => times (rowA m c (i 0)) (argB m c) (i 1)
def G6 : Buf (Elt Ideal) ((c : Thread nD τ).loc main_v2_1) := fun i =>
  plus (rowX m c (i 0)) (times (rowA m c (i 0)) (argB m c)) (gains (argG m c)) (i 1)
def G7 : Buf (Elt Ideal) ((c : Thread nD τ).loc main_v2_2) := fun i =>
  norm (plus (rowX m c (i 0)) (times (rowA m c (i 0)) (argB m c)) (gains (argG m c))) (gains (argH m c)) (i 1)

theorem final5 : (dats m 0 c).arrAt 5 cfg0.N = G5 m c := by
  refine (dats m 0 c).arrAt_eq_of_covers 5 _ (by decide +kernel) fun t hf y => ?_
  obtain ⟨e0, e1, -⟩ := target t
  blk_simp
  rw [after0_5]
  refine ((congrArg (out0_5 (F := Ideal) _ _ _ _ _) (pair y)).trans (block5 _ _ _ _ _ (y 0) (y 1))).trans ?_
  rw [load1]
  exact congr (congrArg (fun r => times r (argB m c)) (funext fun k => load0 m c t (y 0) k _
      (by show win0_5.index t 0 * 1024 + 1 * (y 0).val = _; rw [e0]; omega)))
    (Fin.ext (by show (y 1).val = win0_5.index t 1 * 1024 + 1 * (y 1).val; rw [e1]; omega))

theorem final6 : (dats m 0 c).arrAt 6 cfg0.N = G6 m c := by
  refine (dats m 0 c).arrAt_eq_of_covers 6 _ (by decide +kernel) fun t hf y => ?_
  obtain ⟨-, -, e0, e1, -⟩ := target t
  blk_simp
  rw [after0_6]
  refine ((congrArg (out0_6 (F := Ideal) _ _ _ _ _) (pair y)).trans (block6 _ _ _ _ _ (y 0) (y 1))).trans ?_
  have hI : (win0_6.index t 0 * 1024 + 1 * (y 0).val : ℕ) = 1024 * t.val + (y 0).val := by rw [e0]; omega
  rw [load1, show line (iblk m c 3 t) = gains (argG m c) from funext fun k => load3 m c t k]
  exact congr (congrArg₂ (fun z r => plus z (times r (argB m c)) (gains (argG m c))) (funext fun k => load2 m c t (y 0) k _ hI)
    (funext fun k => load0 m c t (y 0) k _ hI)) (Fin.ext (by show (y 1).val = win0_6.index t 1 * 1024 + 1 * (y 1).val; rw [e1]; omega))

theorem final7 : (dats m 0 c).arrAt 7 cfg0.N = G7 m c := by
  refine (dats m 0 c).arrAt_eq_of_covers 7 _ (by decide +kernel) fun t hf y => ?_
  obtain ⟨-, -, -, -, e0, e1⟩ := target t
  blk_simp
  rw [after0_7]
  refine ((congrArg (out0_7 (F := Ideal) _ _ _ _ _) (pair y)).trans (block7 _ _ _ _ _ (y 0) (y 1))).trans ?_
  have hI : (win0_7.index t 0 * 1024 + 1 * (y 0).val : ℕ) = 1024 * t.val + (y 0).val := by rw [e0]; omega
  rw [load1, show line (iblk m c 3 t) = gains (argG m c) from funext fun k => load3 m c t k,
    show line (iblk m c 4 t) = gains (argH m c) from funext fun k => load4 m c t k]
  exact congr (congrArg₂ (fun z r => norm (plus z (times r (argB m c)) (gains (argG m c))) (gains (argH m c)))
    (funext fun k => load2 m c t (y 0) k _ hI) (funext fun k => load0 m c t (y 0) k _ hI))
    (Fin.ext (by show (y 1).val = win0_7.index t 1 * 1024 + 1 * (y 1).val; rw [e1]; omega))

end Cert.MixKernelIdeal.Own

namespace Cert.MixReferenceIdeal.Own

open Cert.MixReferenceIdeal Cert.MixReferenceIdeal.Read Idealize.ShloMosaic PlainSums

variable (a : (⟨2, ![8192, 1024]⟩ : Shape).Idx → EReal) (b : (⟨2, ![1024, 1024]⟩ : Shape).Idx → EReal)
  (x : (⟨2, ![8192, 1024]⟩ : Shape).Idx → EReal) (g h : (⟨1, ![1024]⟩ : Shape).Idx → EReal)

abbrev rowA (I : Fin 8192) : Fin 1024 → EReal := fun k => a (ix2 I k)
abbrev rowX (I : Fin 8192) : Fin 1024 → EReal := fun k => x (ix2 I k)
abbrev gains : Fin 1024 → EReal := fun k => g (ix1 k)

/-- The reference's product, the scale of its row, the sum and the norm of that. -/
theorem product (i : S8192x1024.Idx) : val_main_v2 (F := Ideal) a b i = times (rowA a (i 0)) b (i 1) :=
  (val_main_v2_apply a b i).trans (Finset.sum_congr rfl fun k _ => congrArg₂ (fun p q : EReal => p * q)
    (congrArg a (same rfl rfl)) (congrArg b (same rfl rfl)))

theorem scaled (i : S8192x1.Idx) : val_main_v10 (F := Ideal) a b i = scale (times (rowA a (i 0)) b) := by
  rw [val_main_v10_apply, val_main_v9_apply, val_main_v7_apply, val_main_v5_apply, val_main_v4_apply, val_main_v6_apply, val_main_v8_apply]
  refine congrArg (fun s : EReal => Ideal.rsqrt (Ideal.div s _ + _)) ?_
  refine (congrArg (fun s : EReal => s + _) Ideal.ofBits_zero_f32).trans ((zero_add _).trans (Finset.sum_congr rfl fun k _ => ?_))
  exact congrArg₂ (fun p q : EReal => p * q) (product a b _) (product a b _)

theorem sum (i : S8192x1024.Idx) : val_main_v16 (F := Ideal) a b x g i = plus (rowX x (i 0)) (times (rowA a (i 0)) b) (gains g) (i 1) := by
  rw [val_main_v16_apply, val_main_v15_apply, val_main_v12_apply, val_main_v11_apply, val_main_v14_apply, val_main_v13_apply, product, scaled]
  exact congrArg₂ (fun p q : EReal => p + times (rowA a (i 0)) b (i 1) * scale (times (rowA a (i 0)) b) * q) (congrArg x (pair i))
    (congrArg g (funext fun q => Fin.ext (by match q with | ⟨0, _⟩ => rfl)))

theorem rescaled (i : S8192x1.Idx) : val_main_v25 (F := Ideal) a b x g i = scale (plus (rowX x (i 0)) (times (rowA a (i 0)) b) (gains g)) := by
  rw [val_main_v25_apply, val_main_v24_apply, val_main_v22_apply, val_main_v20_apply, val_main_v19_apply, val_main_v21_apply,
    val_main_v23_apply]
  refine congrArg (fun s : EReal => Ideal.rsqrt (Ideal.div s _ + _)) ?_
  refine (congrArg (fun s : EReal => s + _) Ideal.ofBits_zero_f32).trans ((zero_add _).trans (Finset.sum_congr rfl fun k _ => ?_))
  exact congrArg₂ (fun p q : EReal => p * q) (sum a b x g _) (sum a b x g _)

theorem again (i : S8192x1024.Idx) : val_main_v31 (F := Ideal) a b x g h i =
    norm (plus (rowX x (i 0)) (times (rowA a (i 0)) b) (gains g)) (gains h) (i 1) := by
  rw [val_main_v31_apply, val_main_v30_apply, val_main_v27_apply, val_main_v26_apply, val_main_v29_apply, val_main_v28_apply, sum, rescaled]
  exact congrArg (fun q : EReal => plus (rowX x (i 0)) (times (rowA a (i 0)) b) (gains g) (i 1) *
    scale (plus (rowX x (i 0)) (times (rowA a (i 0)) b) (gains g)) * q)
    (congrArg h (funext fun q => Fin.ext (by match q with | ⟨0, _⟩ => rfl)))

end Cert.MixReferenceIdeal.Own

end
-- ==== Proof.Glu.lean ====
/-
  The gradient of the gated layer: the gradient times the transposed weights, and its product with the
  derivatives of the gate, stored in three column pieces per block.
-/
module

public import proofs.«01_k».proof.Proof.Columns
public import proofs.«01_k».proof.Proof.Finite
public import proofs.«01_k».proof.Pre_finite_glu
public import Idealize.ShloMosaic.Lib.Pipeline.ValueKit
public import proofs.«01_k».proof.Proof.Gen.GluKernel.Frame
public import proofs.«01_k».proof.Proof.Gen.GluKernelIdeal.Frame
public import proofs.«01_k».proof.Proof.Gen.GluKernelIdeal.Value
public import proofs.«01_k».proof.Proof.Gen.GluReferenceIdeal
public import proofs.«01_k».proof.Proof.Gen.GluReferenceIdeal.Run
public import proofs.«01_k».proof.Proof.Gen.GluReferenceIdeal.Read

@[expose] public section

noncomputable section

namespace GatedLayer

open Idealize.ShloMosaic

/-- The logistic function. -/
def sigmoid (g : EReal) : EReal := Ideal.div 1 (1 + Ideal.exp (-g))

/-- The gradients of the two halves, from that of the gate's product `a`, as the kernel writes them. -/
def dGate (a g u : EReal) : EReal := a * u * (sigmoid g * (1 + g * (1 - sigmoid g)))
def dUp (a g : EReal) : EReal := a * g * sigmoid g

/-- Over the reals the logistic function is a real, and the two ways to write the gradients agree. -/
theorem sigmoid_coe (g : ℝ) : sigmoid (g : EReal) = ((1 / (1 + Real.exp (-g)) : ℝ) : EReal) := by
  have h : (1 + Real.exp (-g)) ≠ 0 := by positivity
  have e := BandAttention.div_coe 1 (1 + Real.exp (-g)) h
  rw [EReal.coe_add, EReal.coe_one] at e
  unfold sigmoid
  rw [← EReal.coe_neg, BandAttention.exp_coe, e]

theorem dGate_coe (a g u : ℝ) : (a : EReal) * u * sigmoid g + g * ((a : EReal) * u) * (sigmoid g * (1 - sigmoid g)) = dGate a g u := by
  unfold dGate
  rw [sigmoid_coe]
  generalize 1 / (1 + Real.exp (-g)) = s
  norm_cast
  ring

theorem dUp_coe (a g : EReal) : g * sigmoid g * a = dUp a g := by
  unfold dUp
  rw [mul_assoc, mul_comm (sigmoid g) a, ← mul_assoc, mul_comm g a]

end GatedLayer

namespace Cert.GluKernelIdeal.Own

open Cert.GluKernelIdeal Cert.GluKernelIdeal.Gen GatedLayer Idealize.ShloMosaic Idealize.ShloMosaic.TcCoe Idealize.SL.Sem

/-- Row `i` of the left times row `j` of the right. -/
def row (x : Vec Ideal S1024x1024 .bf16) (w : Vec Ideal S1408x1024 .bf16) (i : Fin 1024) (j : Fin 1408) : EReal :=
  ∑ k : Fin 1024, x (ix2 i k) * w (ix2 j k)

/-- A load of `n` by `p` entries of a block, from row `o` and column `q`. -/
theorem load {R C : ℕ} (a : Memref sig .tc .vmem ⟨2, ![R, C]⟩ .bf16) (h : a.IsWhole) (y : Vec Ideal ⟨2, ![R, C]⟩ .bf16)
    {o q n p : ℕ} (inb) (k : Fin n) (e : Fin p) (K : Fin R) (E : Fin C) (hK : K.val = o + k.val) (hE : E.val = q + e.val) :
    View.readAt (Elt Ideal) a.view (Rect.unit ![o, q] ![n, p] inb : Rect ⟨2, ![R, C]⟩).toLoadRect (h.unread y) (ix2 k e) =
      y (ix2 K E) := by
  rw [View.readAt_eq_ld, h.read_unread]
  refine congrArg y (funext fun b => Fin.ext ?_)
  match b with
  | ⟨0, _⟩ => show o + 1 * k.val = K.val; omega
  | ⟨1, _⟩ => show q + 1 * e.val = E.val; omega

variable (x : Vec Ideal S1024x1024 .bf16) (y : Vec Ideal S1408x1024 .bf16) (z w : Vec Ideal S1024x1408 .bf16)

/-- The products of the three column pieces. -/
theorem prod3 (l : Vec Ideal S1024x1024 .bf16) (v : Vec Ideal S512x1024 .bf16) (r : Fin 1024) (k : Fin 512) :
    k0_pay3 (F := Ideal) l v (ix2 r k) = ∑ e : Fin 1024, l (ix2 r e) * v (ix2 k e) := by
  unfold k0_pay3
  simp only [pointwise]
  simp

theorem prod11 (l : Vec Ideal S1024x1024 .bf16) (v : Vec Ideal S384x1024 .bf16) (r : Fin 1024) (k : Fin 384) :
    k0_pay11 (F := Ideal) l v (ix2 r k) = ∑ e : Fin 1024, l (ix2 r e) * v (ix2 k e) := by
  unfold k0_pay11
  simp only [pointwise]
  simp

theorem one_bf16 : Ideal.ofBits .bf16 0x3F80#16 = (1 : EReal) := by
  simp [Ideal.ofBits, Ideal.ieee]
  rw [← EReal.coe_mul]
  norm_num

/-- The logistic function of the three column pieces. -/
theorem sigmoid4 (v : Vec Ideal S1024x512 .bf16) (i : S1024x512.Idx) : k0_pay4 (F := Ideal) v i = sigmoid (v i) := by
  unfold k0_pay4 sigmoid
  simp only [pointwise]
  simp [one_bf16]

theorem sigmoid12 (v : Vec Ideal S1024x384 .bf16) (i : S1024x384.Idx) : k0_pay12 (F := Ideal) v i = sigmoid (v i) := by
  unfold k0_pay12 sigmoid
  simp only [pointwise]
  simp [one_bf16]

/-- The gradients of the three column pieces. -/
theorem gate5 (l : Vec Ideal S1024x1024 .bf16) (v : Vec Ideal S512x1024 .bf16) (g u : Vec Ideal S1024x512 .bf16) (i : S1024x512.Idx) :
    k0_pay5 (F := Ideal) l v g u i = dGate (k0_pay3 l v i) (g i) (u i) := by
  unfold k0_pay5 dGate
  rw [← sigmoid4 g i]
  generalize k0_pay3 (F := Ideal) l v = a
  generalize k0_pay4 (F := Ideal) g = s
  simp only [pointwise]

theorem up6 (l : Vec Ideal S1024x1024 .bf16) (v : Vec Ideal S512x1024 .bf16) (g : Vec Ideal S1024x512 .bf16) (i : S1024x512.Idx) :
    k0_pay6 (F := Ideal) l v g i = dUp (k0_pay3 l v i) (g i) := by
  unfold k0_pay6 dUp
  rw [← sigmoid4 g i]
  rfl

theorem gate9 (a g u : Vec Ideal S1024x512 .bf16) (i : S1024x512.Idx) :
    k0_pay9 (F := Ideal) g u a (Scalar.ofBits .bf16 0x0000#16) i = dGate (a i) (g i) (u i) := by
  unfold k0_pay9 dGate
  rw [show k0_pay8 (F := Ideal) g (Scalar.ofBits .bf16 0x0000#16) = k0_pay4 g from rfl, ← sigmoid4 g i]
  generalize k0_pay4 (F := Ideal) g = s
  simp only [pointwise]

theorem up10 (a g : Vec Ideal S1024x512 .bf16) (i : S1024x512.Idx) :
    k0_pay10 (F := Ideal) g a (Scalar.ofBits .bf16 0x0000#16) i = dUp (a i) (g i) := by
  unfold k0_pay10 dUp
  rw [show k0_pay8 (F := Ideal) g (Scalar.ofBits .bf16 0x0000#16) = k0_pay4 g from rfl, ← sigmoid4 g i]
  rfl

theorem gate1 (l : Vec Ideal S1024x1024 .bf16) (v : Vec Ideal S384x1024 .bf16) (g u : Vec Ideal S1024x384 .bf16) (i : S1024x384.Idx) :
    k0_pay1 (F := Ideal) (k0_pay13 l v u) (k0_pay14 g) i = dGate (k0_pay11 l v i) (g i) (u i) := by
  unfold k0_pay1 k0_pay13 k0_pay14 dGate
  rw [← sigmoid12 g i]
  generalize k0_pay11 (F := Ideal) l v = a
  generalize k0_pay12 (F := Ideal) g = s
  simp only [pointwise]

theorem up2 (a g : Vec Ideal S1024x384 .bf16) (i : S1024x384.Idx) :
    k0_pay2 (F := Ideal) g a (k0_pay12 g) i = dUp (a i) (g i) := by
  unfold k0_pay2 dUp
  rw [← sigmoid12 g i]
  rfl

/-- A product whose factors are rows of the blocks is the blocks' product. -/
theorem sums {n : ℕ} (l : Vec Ideal S1024x1024 .bf16) (v : (⟨2, ![n, 1024]⟩ : Shape).Idx → EReal) (r : Fin 1024) (k : Fin n) (K : Fin 1408)
    (hl : ∀ e : Fin 1024, l (ix2 r e) = x (ix2 r e)) (h : ∀ e : Fin 1024, v (ix2 k e) = y (ix2 K e)) :
    ∑ e : Fin 1024, l (ix2 r e) * v (ix2 k e) = row x y r K :=
  Finset.sum_congr rfl fun e _ => congrArg₂ (fun p q : EReal => p * q) (hl e) (h e)

theorem dGate_congr {a a' g g' u u' : EReal} (ha : a = a') (hg : g = g') (hu : u = u') : dGate a g u = dGate a' g' u' := by
  rw [ha, hg, hu]

variable (c : Dev nD) (i : grid0.Coords)
  (a2 : Memref sig .tc .vmem S1024x1024 .bf16) (h2 : a2.IsWhole) (a3 : Memref sig .tc .vmem S1408x1024 .bf16) (h3 : a3.IsWhole)
  (a4 : Memref sig .tc .vmem S1024x1408 .bf16) (h4 : a4.IsWhole) (a5 : Memref sig .tc .vmem S1024x1408 .bf16) (h5 : a5.IsWhole)
  (a6 : Memref sig .tc .vmem S1024x1408 .bf16) (h6 : a6.IsWhole) (a7 : Memref sig .tc .vmem S1024x1408 .bf16) (h7 : a7.IsWhole)

/-- The first output holds the gradient of the first half. -/
theorem first (r : Fin 1024) (j : Fin 1408) :
    out0_A_4 (F := Ideal) c i a2 h2 a3 h3 a4 h4 a5 h5 a6 h6 a7 h7 x y z w (ix2 r j) = dGate (row x y r j) (z (ix2 r j)) (w (ix2 r j)) := by
  unfold out0_A_4
  rw [View.read_writes_eq_canon _ _ _ (cover0_A_4 c i a2 h2 a3 h3 a4 h4 a5 h5 a6 h6 a7 h7 x y z w)]
  unfold kernelRun0_A
  dsimp only
  sl_unfold_words
  refine ColumnPieces.three _ _ _ _ _ _ (fun r j => dGate (row x y r j) (z (ix2 r j)) (w (ix2 r j))) (fun r k => ?_) (fun r k => ?_) (fun r k => ?_) r j
  · refine (gate5 _ _ _ _ _).trans (dGate_congr ((prod3 _ _ r k).trans (sums x y _ _ r k _ (fun e => ?_) fun e => ?_)) ?_ ?_)
    · exact load a2 h2 x _ r e _ _ (by omega) (by omega)
    · exact load a3 h3 y _ k e _ _ (by dsimp only <;> omega) (by omega)
    · exact load a4 h4 z _ r k _ _ (by omega) (by dsimp only <;> omega)
    · exact load a5 h5 w _ r k _ _ (by omega) (by dsimp only <;> omega)
  · refine (gate9 _ _ _ _).trans (dGate_congr ((prod3 _ _ r k).trans (sums x y _ _ r k _ (fun e => ?_) fun e => ?_)) ?_ ?_)
    · exact load a2 h2 x _ r e _ _ (by omega) (by omega)
    · exact load a3 h3 y _ k e _ _ (by dsimp only <;> omega) (by omega)
    · exact load a4 h4 z _ r k _ _ (by omega) (by dsimp only <;> omega)
    · exact load a5 h5 w _ r k _ _ (by omega) (by dsimp only <;> omega)
  · refine (gate1 _ _ _ _ _).trans (dGate_congr ((prod11 _ _ r k).trans (sums x y _ _ r k _ (fun e => ?_) fun e => ?_)) ?_ ?_)
    · exact load a2 h2 x _ r e _ _ (by omega) (by omega)
    · exact load a3 h3 y _ k e _ _ (by dsimp only <;> omega) (by omega)
    · exact load a4 h4 z _ r k _ _ (by omega) (by dsimp only <;> omega)
    · exact load a5 h5 w _ r k _ _ (by omega) (by dsimp only <;> omega)

/-- The second output holds the gradient of the second half. -/
theorem second (r : Fin 1024) (j : Fin 1408) :
    out0_A_5 (F := Ideal) c i a2 h2 a3 h3 a4 h4 a5 h5 a6 h6 a7 h7 x y z w (ix2 r j) = dUp (row x y r j) (z (ix2 r j)) := by
  unfold out0_A_5
  rw [View.read_writes_eq_canon _ _ _ (cover0_A_5 c i a2 h2 a3 h3 a4 h4 a5 h5 a6 h6 a7 h7 x y z w)]
  unfold kernelRun0_A
  dsimp only
  sl_unfold_words
  refine ColumnPieces.three _ _ _ _ _ _ (fun r j => dUp (row x y r j) (z (ix2 r j))) (fun r k => ?_) (fun r k => ?_) (fun r k => ?_) r j
  · refine (up6 _ _ _ _).trans (congrArg₂ dUp ((prod3 _ _ r k).trans (sums x y _ _ r k _ (fun e => ?_) fun e => ?_)) ?_)
    · exact load a2 h2 x _ r e _ _ (by omega) (by omega)
    · exact load a3 h3 y _ k e _ _ (by dsimp only <;> omega) (by omega)
    · exact load a4 h4 z _ r k _ _ (by omega) (by dsimp only <;> omega)
  · refine (up10 _ _ _).trans (congrArg₂ dUp ((prod3 _ _ r k).trans (sums x y _ _ r k _ (fun e => ?_) fun e => ?_)) ?_)
    · exact load a2 h2 x _ r e _ _ (by omega) (by omega)
    · exact load a3 h3 y _ k e _ _ (by dsimp only <;> omega) (by omega)
    · exact load a4 h4 z _ r k _ _ (by omega) (by dsimp only <;> omega)
  · refine (up2 _ _ _).trans (congrArg₂ dUp ((prod11 _ _ r k).trans (sums x y _ _ r k _ (fun e => ?_) fun e => ?_)) ?_)
    · exact load a2 h2 x _ r e _ _ (by omega) (by omega)
    · exact load a3 h3 y _ k e _ _ (by dsimp only <;> omega) (by omega)
    · exact load a4 h4 z _ r k _ _ (by omega) (by dsimp only <;> omega)

variable (m : (ℓ : Loc nD τ sig) → Buf (Elt Ideal) ℓ)

/-- The four arguments. -/
abbrev argD : (⟨2, ![8192, 1024]⟩ : Shape).Idx → EReal := m ((c : Thread nD τ).loc main_arg0)
abbrev argW : (⟨2, ![2816, 1024]⟩ : Shape).Idx → EReal := m ((c : Thread nD τ).loc main_arg1)
abbrev argG : (⟨2, ![8192, 2816]⟩ : Shape).Idx → EReal := m ((c : Thread nD τ).loc main_arg2)
abbrev argU : (⟨2, ![8192, 2816]⟩ : Shape).Idx → EReal := m ((c : Thread nD τ).loc main_arg3)

/-- Row `I` of the first argument times row `J` of the second. -/
def rows (d : (⟨2, ![8192, 1024]⟩ : Shape).Idx → EReal) (v : (⟨2, ![2816, 1024]⟩ : Shape).Idx → EReal)
    (I : Fin 8192) (J : Fin 2816) : EReal :=
  ∑ k : Fin 1024, d (ix2 I k) * v (ix2 J k)

/-- The rows and columns each point loads and writes. -/
theorem where0 : ∀ t : Fin cfg0.N, win0_0.index t (0 : Fin 2) = t.val / 2 ∧ win0_0.index t (1 : Fin 2) = 0 :=
  (by decide +kernel : ∀ t : Fin grid0.N, _)

theorem where1 : ∀ t : Fin cfg0.N, win0_1.index t (0 : Fin 2) = t.val % 2 ∧ win0_1.index t (1 : Fin 2) = 0 :=
  (by decide +kernel : ∀ t : Fin grid0.N, _)

theorem where2 : ∀ t : Fin cfg0.N, win0_2.index t (0 : Fin 2) = t.val / 2 ∧ win0_2.index t (1 : Fin 2) = t.val % 2 :=
  (by decide +kernel : ∀ t : Fin grid0.N, _)

theorem where3 : ∀ t : Fin cfg0.N, win0_3.index t (0 : Fin 2) = t.val / 2 ∧ win0_3.index t (1 : Fin 2) = t.val % 2 :=
  (by decide +kernel : ∀ t : Fin grid0.N, _)

theorem where4 : ∀ t : Fin cfg0.N, win0_4.index t (0 : Fin 2) = t.val / 2 ∧ win0_4.index t (1 : Fin 2) = t.val % 2 :=
  (by decide +kernel : ∀ t : Fin grid0.N, _)

theorem where5 : ∀ t : Fin cfg0.N, win0_5.index t (0 : Fin 2) = t.val / 2 ∧ win0_5.index t (1 : Fin 2) = t.val % 2 :=
  (by decide +kernel : ∀ t : Fin grid0.N, _)

theorem block0 (t : Fin cfg0.N) (r k : Fin 1024) (I : Fin 8192) (hI : I.val = 1024 * (t.val / 2) + r.val) :
    (iblk m c 0 t : Vec Ideal S1024x1024 .bf16) (ix2 r k) = argD c m (ix2 I k) := by
  obtain ⟨e0, e1⟩ := where0 t
  unfold iblk
  rw [View.read_apply]
  show V m c main_arg0 _ = _
  unfold V
  congr 1
  funext a
  apply Fin.ext
  match a with
  | ⟨0, _⟩ => show win0_0.index t 0 * 1024 + 1 * r.val = I.val; rw [e0, hI]; omega
  | ⟨1, _⟩ => show win0_0.index t 1 * 1024 + 1 * k.val = k.val; rw [e1]; omega

theorem block1 (t : Fin cfg0.N) (r : Fin 1408) (k : Fin 1024) (I : Fin 2816) (hI : I.val = 1408 * (t.val % 2) + r.val) :
    (iblk m c 1 t : Vec Ideal S1408x1024 .bf16) (ix2 r k) = argW c m (ix2 I k) := by
  obtain ⟨e0, e1⟩ := where1 t
  unfold iblk
  rw [View.read_apply]
  show V m c main_arg1 _ = _
  unfold V
  congr 1
  funext a
  apply Fin.ext
  match a with
  | ⟨0, _⟩ => show win0_1.index t 0 * 1408 + 1 * r.val = I.val; rw [e0, hI]; omega
  | ⟨1, _⟩ => show win0_1.index t 1 * 1024 + 1 * k.val = k.val; rw [e1]; omega

theorem block2 (t : Fin cfg0.N) (r : Fin 1024) (k : Fin 1408) (I : Fin 8192) (J : Fin 2816) (hI : I.val = 1024 * (t.val / 2) + r.val)
    (hJ : J.val = 1408 * (t.val % 2) + k.val) :
    (iblk m c 2 t : Vec Ideal S1024x1408 .bf16) (ix2 r k) = argG c m (ix2 I J) := by
  obtain ⟨e0, e1⟩ := where2 t
  unfold iblk
  rw [View.read_apply]
  show V m c main_arg2 _ = _
  unfold V
  congr 1
  funext a
  apply Fin.ext
  match a with
  | ⟨0, _⟩ => show win0_2.index t 0 * 1024 + 1 * r.val = I.val; rw [e0, hI]; omega
  | ⟨1, _⟩ => show win0_2.index t 1 * 1408 + 1 * k.val = J.val; rw [e1, hJ]; omega

theorem block3 (t : Fin cfg0.N) (r : Fin 1024) (k : Fin 1408) (I : Fin 8192) (J : Fin 2816) (hI : I.val = 1024 * (t.val / 2) + r.val)
    (hJ : J.val = 1408 * (t.val % 2) + k.val) :
    (iblk m c 3 t : Vec Ideal S1024x1408 .bf16) (ix2 r k) = argU c m (ix2 I J) := by
  obtain ⟨e0, e1⟩ := where3 t
  unfold iblk
  rw [View.read_apply]
  show V m c main_arg3 _ = _
  unfold V
  congr 1
  funext a
  apply Fin.ext
  match a with
  | ⟨0, _⟩ => show win0_3.index t 0 * 1024 + 1 * r.val = I.val; rw [e0, hI]; omega
  | ⟨1, _⟩ => show win0_3.index t 1 * 1408 + 1 * k.val = J.val; rw [e1, hJ]; omega

theorem row_eq (t : Fin cfg0.N) (r : Fin 1024) (j : Fin 1408) (I : Fin 8192) (J : Fin 2816)
    (hI : I.val = 1024 * (t.val / 2) + r.val) (hJ : J.val = 1408 * (t.val % 2) + j.val) :
    row (iblk m c 0 t) (iblk m c 1 t) r j = rows (argD c m) (argW c m) I J :=
  Finset.sum_congr rfl fun k _ => congrArg₂ (fun x y : EReal => x * y) (block0 c m t r k I hI) (block1 c m t j k J hJ)

/-- The two result arrays. -/
def G4 : Buf (Elt Ideal) ((c : Thread nD τ).loc main_v0_0) := fun i =>
  dGate (rows (argD c m) (argW c m) (i 0) (i 1)) (argG c m i) (argU c m i)
def G5 : Buf (Elt Ideal) ((c : Thread nD τ).loc main_v0_1) := fun i =>
  dUp (rows (argD c m) (argW c m) (i 0) (i 1)) (argG c m i)

/-- What a point leaves in its two output blocks. -/
theorem point4 (t : Fin cfg0.N) (r : Fin 1024) (j : Fin 1408) : (outsAt0 m c t).1 (ix2 r j) =
    dGate (row (iblk m c 0 t) (iblk m c 1 t) r j) ((iblk m c 2 t : Vec Ideal S1024x1408 .bf16) (ix2 r j))
      ((iblk m c 3 t : Vec Ideal S1024x1408 .bf16) (ix2 r j)) := by
  unfold outsAt0
  dsimp only
  generalize iblk m c 0 t = x
  generalize iblk m c 1 t = y
  generalize iblk m c 2 t = z
  generalize iblk m c 3 t = w
  exact first x y z w c (grid0.coords t) (ms0_0 t) (hs0_0 t) (ms0_1 t) (hs0_1 t) (ms0_2 t) (hs0_2 t) (ms0_3 t) (hs0_3 t) (ms0_4 t) (hs0_4 t) (ms0_5 t) (hs0_5 t) r j

theorem point5 (t : Fin cfg0.N) (r : Fin 1024) (j : Fin 1408) : (outsAt0 m c t).2 (ix2 r j) =
    dUp (row (iblk m c 0 t) (iblk m c 1 t) r j) ((iblk m c 2 t : Vec Ideal S1024x1408 .bf16) (ix2 r j)) := by
  unfold outsAt0
  dsimp only
  generalize iblk m c 0 t = x
  generalize iblk m c 1 t = y
  generalize iblk m c 2 t = z
  generalize iblk m c 3 t = w
  exact second x y z w c (grid0.coords t) (ms0_0 t) (hs0_0 t) (ms0_1 t) (hs0_1 t) (ms0_2 t) (hs0_2 t) (ms0_3 t) (hs0_3 t) (ms0_4 t) (hs0_4 t) (ms0_5 t) (hs0_5 t) r j

theorem pair (y : S1024x1408.Idx) : y = ix2 (y 0) (y 1) := funext fun a => by match a with | ⟨0, _⟩ => rfl | ⟨1, _⟩ => rfl
theorem pairs (y : (⟨2, ![8192, 2816]⟩ : Shape).Idx) : ix2 (y 0) (y 1) = y := funext fun a => by match a with | ⟨0, _⟩ => rfl | ⟨1, _⟩ => rfl

/-- The two arrays after the run. -/
theorem final4 : (dats m 0 c).arrAt 4 cfg0.N = G4 c m := by
  refine (dats m 0 c).arrAt_eq_of_covers 4 _ (by decide +kernel) fun t hf y => ?_
  obtain ⟨e0, e1⟩ := where4 t
  blk_simp
  rw [after0_4]
  refine ((congrArg (outsAt0 m c t).1 (pair y)).trans (point4 c m t (y 0) (y 1))).trans ?_
  have hI : win0_4.index t 0 * 1024 + 1 * (y 0).val = 1024 * (t.val / 2) + (y 0).val := by rw [e0]; omega
  have hJ : win0_4.index t 1 * 1408 + 1 * (y 1).val = 1408 * (t.val % 2) + (y 1).val := by rw [e1]; omega
  exact dGate_congr (row_eq c m t (y 0) (y 1) _ _ hI hJ)
    ((block2 c m t (y 0) (y 1) _ _ hI hJ).trans (congrArg (argG c m) (pairs _)))
    ((block3 c m t (y 0) (y 1) _ _ hI hJ).trans (congrArg (argU c m) (pairs _)))

theorem final5 : (dats m 0 c).arrAt 5 cfg0.N = G5 c m := by
  refine (dats m 0 c).arrAt_eq_of_covers 5 _ (by decide +kernel) fun t hf y => ?_
  obtain ⟨e0, e1⟩ := where5 t
  blk_simp
  rw [after0_5]
  refine ((congrArg (outsAt0 m c t).2 (pair y)).trans (point5 c m t (y 0) (y 1))).trans ?_
  have hI : win0_5.index t 0 * 1024 + 1 * (y 0).val = 1024 * (t.val / 2) + (y 0).val := by rw [e0]; omega
  have hJ : win0_5.index t 1 * 1408 + 1 * (y 1).val = 1408 * (t.val % 2) + (y 1).val := by rw [e1]; omega
  exact congrArg₂ dUp (row_eq c m t (y 0) (y 1) _ _ hI hJ)
    ((block2 c m t (y 0) (y 1) _ _ hI hJ).trans (congrArg (argG c m) (pairs _)))

end Cert.GluKernelIdeal.Own

namespace Cert.Pre_finite_glu

/-- The shape facts of the precondition. -/
instance facts : Cert.Pre_finite_glu.Facts where
  bitsLt_bf16_f32 := by decide
  bcast_S_S8192x1024 := by decide
  reducesTo_S8192x1024_S_d0_1 := by decide
  h_S_ := by decide
  bcast_S_S2816x1024 := by decide
  reducesTo_S2816x1024_S_d0_1 := by decide
  bcast_S_S8192x2816 := by decide
  reducesTo_S8192x2816_S_d0_1 := by decide

end Cert.Pre_finite_glu

namespace Cert.GluReferenceIdeal.Own

open Cert.GluReferenceIdeal Idealize.ShloMosaic Cert.GluKernelIdeal.Own GatedLayer

variable (d : (⟨2, ![8192, 1024]⟩ : Shape).Idx → EReal) (v : (⟨2, ![2816, 1024]⟩ : Shape).Idx → EReal)
  (g u : (⟨2, ![8192, 2816]⟩ : Shape).Idx → EReal)

/-- Under the precondition every argument is a real. -/
theorem reals (h : Cert.Pre_finite_glu.fn (F := Ideal) d v g u = fun _ => 1#1) :
    (∀ i, d i = (((d i).toReal : ℝ) : EReal)) ∧ (∀ i, v i = (((v i).toReal : ℝ) : EReal))
    ∧ (∀ i, g i = (((g i).toReal : ℝ) : EReal)) ∧ (∀ i, u i = (((u i).toReal : ℝ) : EReal)) := by
  have e := congrFun h (fun a => a.elim0)
  unfold Cert.Pre_finite_glu.fn Cert.Pre_finite_glu.fn_part1 at e
  obtain ⟨e2, a3⟩ := BandAttention.and_one e
  obtain ⟨e1, a2⟩ := BandAttention.and_one e2
  obtain ⟨a0, a1⟩ := BandAttention.and_one e1
  clear e e1 e2 h
  exact ⟨BandAttention.reals_of_all _ _ _ _ _ a0, BandAttention.reals_of_all _ _ _ _ _ a1,
    BandAttention.reals_of_all _ _ _ _ _ a2, BandAttention.reals_of_all _ _ _ _ _ a3⟩

/-- The reference's product with the transposed weights, entry by entry. -/
theorem product (i : S8192x2816.Idx) : Read.val_main_v7 (F := Ideal) d v i = rows d v (i 0) (i 1) := by
  refine (Read.val_main_v7_apply d v i).trans (Finset.sum_congr rfl fun k _ => congrArg₂ (fun x y : EReal => x * y) ?_ ?_)
  · exact congrArg d (funext fun b => Fin.ext (by match b with | ⟨0, _⟩ => rfl | ⟨1, _⟩ => rfl))
  · exact congrArg v (funext fun b => Fin.ext (by match b with | ⟨0, _⟩ => rfl | ⟨1, _⟩ => rfl))

/-- Its logistic function. -/
theorem factor (i : S8192x2816.Idx) : Read.val_main_v3_2 (F := Ideal) g i = sigmoid (g i) := by
  rw [Read.val_main_v3_2_apply, Read.val_main_call0_v4_apply, Read.val_main_call0_cst_0_apply, Read.val_main_call0_v3_apply,
    Read.val_main_call0_v2_apply, Read.val_main_call0_cst_apply, Read.val_main_call0_v1_apply, Read.val_main_call0_v0_apply,
    Read.val_main_v1_apply]
  unfold sigmoid
  simp only [pointwise]

/-- Its gradients of the two halves, entry by entry. -/
theorem first (i : S8192x2816.Idx) : Read.val_main_v11 (F := Ideal) d v g u i =
    rows d v (i 0) (i 1) * u i * sigmoid (g i) + g i * (rows d v (i 0) (i 1) * u i) * (sigmoid (g i) * (1 - sigmoid (g i))) := by
  rw [Read.val_main_v11_apply, Read.val_main_v10_apply, Read.val_main_call1_v1_apply, Read.val_main_call1_v2_apply,
    Read.val_main_call1_v0_apply, Read.val_main_v9_apply, Read.val_main_v3_1_apply, Read.val_main_call0_v7_apply,
    Read.val_main_call0_v6_apply, Read.val_main_call0_cst_1_apply, product, factor, Read.val_main_v1_apply, Read.val_main_v2_apply]
  simp only [pointwise]

theorem second (i : S8192x2816.Idx) : Read.val_main_v12 (F := Ideal) d v g i =
    g i * sigmoid (g i) * rows d v (i 0) (i 1) := by
  rw [Read.val_main_v12_apply, Read.val_main_v8_apply, Read.val_main_v3_0_apply, product, factor, Read.val_main_v1_apply]
  rfl

end Cert.GluReferenceIdeal.Own

namespace Cert.GluKernelIdeal.Own

open Idealize.ShloMosaic Idealize.ShloMosaic.TcCoe Idealize.SL.Sem GatedLayer

variable (m : (ℓ : Loc Cert.GluKernelIdeal.nD Cert.GluKernelIdeal.τ Cert.GluKernelIdeal.sig) → Buf (Elt Ideal) ℓ)
  (c : Dev Cert.GluKernelIdeal.nD)

/-- Over finite arguments the kernel's arrays are the reference's. -/
theorem whole4 (h : Cert.Pre_finite_glu.fn (F := Ideal) (argD c m) (argW c m) (argG c m) (argU c m) = fun _ => 1#1) :
    Cert.GluReferenceIdeal.Read.val_main_v11 (F := Ideal) (argD c m) (argW c m) (argG c m) (argU c m) = G4 c m := by
  obtain ⟨rd, rw', rg, ru⟩ := Cert.GluReferenceIdeal.Own.reals _ _ _ _ h
  funext i
  refine (Cert.GluReferenceIdeal.Own.first _ _ _ _ i).trans ?_
  unfold G4
  have e : rows (argD c m) (argW c m) (i 0) (i 1) = _ := BandAttention.sum_of _ _
    (fun k : Fin 1024 => (argD c m (ix2 (i 0) k)).toReal * (argW c m (ix2 (i 1) k)).toReal)
    (fun k => by rw [rd (ix2 (i 0) k), rw' (ix2 (i 1) k), ← EReal.coe_mul, EReal.toReal_coe, EReal.toReal_coe])
  rw [e, rg i, ru i]
  exact dGate_coe _ _ _

theorem whole5 : Cert.GluReferenceIdeal.Read.val_main_v12 (F := Ideal) (argD c m) (argW c m) (argG c m) = G5 c m :=
  funext fun i => (Cert.GluReferenceIdeal.Own.second _ _ _ i).trans (dUp_coe _ _)

end Cert.GluKernelIdeal.Own

end
-- ==== Proof.Further.lean ====
/- The claims of the remaining products: the one with the stacked weights, the three whose rows are normed and added, and
   the gradient of the gated layer. -/
module

public import proofs.«01_k».proof.Defs
public import proofs.«01_k».proof.Proof.Input
public import proofs.«01_k».proof.Proof.Last
public import proofs.«01_k».proof.Proof.Ffn
public import proofs.«01_k».proof.Proof.Mix
public import proofs.«01_k».proof.Proof.Glu
public import Idealize.ShloMosaic.Adequacy
public import Idealize.ShloMosaic.Init

@[expose] public section

noncomputable section

namespace Cert.Proof

open Idealize.ShloMosaic Idealize.SL.Sem PlainSums

theorem frame_input : Cert.quiescent_InputReferenceIdeal := fun m ρ _ =>
  (θ_run Cert.InputReferenceIdeal.defs _ _).mono (fun r h => ⟨fun c => (h c).2,
      Idealize.ShloMosaic.sem_eq_zero_of_no_sems (by decide) r.2⟩)
    (Cert.InputReferenceIdeal.Value.run (F := Ideal) m ρ)

theorem input : Cert.algebraic_InputKernelIdeal_InputReferenceIdeal := by
  intro m g m' g' _ hargs
  refine ⟨fun c => Cert.InputKernelIdeal.Own.G m c, (θ_run Cert.InputKernelIdeal.defs _ _).mono (fun r h c =>
    ⟨(h c).1.trans (Cert.InputKernelIdeal.Own.final m c), (h c).2⟩) (Cert.InputKernelIdeal.Value.run_blocks (F := Ideal) m g), ?_⟩
  refine (θ_run Cert.InputReferenceIdeal.defs _ _).mono (fun r h c => ?_) (Cert.InputReferenceIdeal.Value.run (F := Ideal) m' g')
  obtain ⟨e0, e1, e2⟩ := hargs c
  refine ⟨(h c).1.trans ((Cert.InputReferenceIdeal.Read.val_main_v10_eq (F := Ideal) _ _ _).trans ?_), (h c).2⟩
  rw [e0, e1, e2]
  exact funext fun i => Cert.InputReferenceIdeal.Own.entry _ _ _ i

theorem frame_last : Cert.quiescent_LastReferenceIdeal := fun m ρ _ =>
  (θ_run Cert.LastReferenceIdeal.defs _ _).mono (fun r h => ⟨fun c => (h c).2.2,
      Idealize.ShloMosaic.sem_eq_zero_of_no_sems (by decide) r.2⟩)
    (Cert.LastReferenceIdeal.Value.run (F := Ideal) m ρ)

theorem last : Cert.algebraic_LastKernelIdeal_LastReferenceIdeal := by
  intro m g m' g' _ hargs
  refine ⟨fun c => Cert.LastKernelIdeal.Own.G4 m c, fun c => Cert.LastKernelIdeal.Own.G5 m c,
    (θ_run Cert.LastKernelIdeal.defs _ _).mono (fun r h c => ⟨(h c).1.trans (Cert.LastKernelIdeal.Own.final4 m c),
      (h c).2.1.trans (Cert.LastKernelIdeal.Own.final5 m c), (h c).2.2⟩) (Cert.LastKernelIdeal.Value.run_blocks (F := Ideal) m g), ?_⟩
  refine (θ_run Cert.LastReferenceIdeal.defs _ _).mono (fun r h c => ?_) (Cert.LastReferenceIdeal.Value.run (F := Ideal) m' g')
  obtain ⟨e0, e1, e2, e3⟩ := hargs c
  refine ⟨(h c).1.trans ((Cert.LastReferenceIdeal.Read.val_main_v3_eq (F := Ideal) _ _).trans ?_),
    (h c).2.1.trans ((Cert.LastReferenceIdeal.Read.val_main_v17_eq (F := Ideal) _ _ _ _).trans ?_), (h c).2.2⟩
  · rw [e0, e1]
    exact funext fun i => Cert.LastReferenceIdeal.Own.product _ _ i
  · rw [e0, e1, e2, e3]
    exact funext fun i => Cert.LastReferenceIdeal.Own.sum _ _ _ _ i

theorem frame_ffn : Cert.quiescent_FfnReferenceIdeal := fun m ρ _ =>
  (θ_run Cert.FfnReferenceIdeal.defs _ _).mono (fun r h => ⟨fun c => (h c).2.2.2,
      Idealize.ShloMosaic.sem_eq_zero_of_no_sems (by decide) r.2⟩)
    (Cert.FfnReferenceIdeal.Value.run (F := Ideal) m ρ)

theorem ffn : Cert.algebraic_FfnKernelIdeal_FfnReferenceIdeal := by
  intro m g m' g' _ hargs
  refine ⟨fun c => Cert.FfnKernelIdeal.Own.G5 m c, fun c => Cert.FfnKernelIdeal.Own.G6 m c, fun c => Cert.FfnKernelIdeal.Own.G7 m c,
    (θ_run Cert.FfnKernelIdeal.defs _ _).mono (fun r h c => ⟨(h c).1.trans (Cert.FfnKernelIdeal.Own.final5 m c),
      (h c).2.1.trans (Cert.FfnKernelIdeal.Own.final6 m c), (h c).2.2.1.trans (Cert.FfnKernelIdeal.Own.final7 m c), (h c).2.2.2⟩)
      (Cert.FfnKernelIdeal.Value.run_blocks (F := Ideal) m g), ?_⟩
  refine (θ_run Cert.FfnReferenceIdeal.defs _ _).mono (fun r h c => ?_) (Cert.FfnReferenceIdeal.Value.run (F := Ideal) m' g')
  obtain ⟨e0, e1, e2, e3, e4⟩ := hargs c
  refine ⟨(h c).1.trans ((Cert.FfnReferenceIdeal.Read.val_main_v17_eq (F := Ideal) _ _).trans ?_),
    (h c).2.1.trans ((Cert.FfnReferenceIdeal.Read.val_main_v16_eq (F := Ideal) _ _ _ _).trans ?_),
    (h c).2.2.1.trans ((Cert.FfnReferenceIdeal.Read.val_main_v31_eq (F := Ideal) m' c).trans ?_), (h c).2.2.2⟩
  · rw [e0, e1]
    exact funext fun i => Cert.FfnReferenceIdeal.Own.product _ _ i
  · rw [e0, e1, e2, e3]
    exact funext fun i => Cert.FfnReferenceIdeal.Own.sum _ _ _ _ i
  · rw [e0, e1, e2, e3, e4]
    exact funext fun i => Cert.FfnReferenceIdeal.Own.again _ _ _ _ _ i

theorem frame_mix : Cert.quiescent_MixReferenceIdeal := fun m ρ _ =>
  (θ_run Cert.MixReferenceIdeal.defs _ _).mono (fun r h => ⟨fun c => (h c).2.2.2,
      Idealize.ShloMosaic.sem_eq_zero_of_no_sems (by decide) r.2⟩)
    (Cert.MixReferenceIdeal.Value.run (F := Ideal) m ρ)

theorem mix : Cert.algebraic_MixKernelIdeal_MixReferenceIdeal := by
  intro m g m' g' _ hargs
  refine ⟨fun c => Cert.MixKernelIdeal.Own.G5 m c, fun c => Cert.MixKernelIdeal.Own.G6 m c, fun c => Cert.MixKernelIdeal.Own.G7 m c,
    (θ_run Cert.MixKernelIdeal.defs _ _).mono (fun r h c => ⟨(h c).1.trans (Cert.MixKernelIdeal.Own.final5 m c),
      (h c).2.1.trans (Cert.MixKernelIdeal.Own.final6 m c), (h c).2.2.1.trans (Cert.MixKernelIdeal.Own.final7 m c), (h c).2.2.2⟩)
      (Cert.MixKernelIdeal.Value.run_blocks (F := Ideal) m g), ?_⟩
  refine (θ_run Cert.MixReferenceIdeal.defs _ _).mono (fun r h c => ?_) (Cert.MixReferenceIdeal.Value.run (F := Ideal) m' g')
  obtain ⟨e0, e1, e2, e3, e4⟩ := hargs c
  refine ⟨(h c).1.trans ((Cert.MixReferenceIdeal.Read.val_main_v17_eq (F := Ideal) _ _).trans ?_),
    (h c).2.1.trans ((Cert.MixReferenceIdeal.Read.val_main_v16_eq (F := Ideal) _ _ _ _).trans ?_),
    (h c).2.2.1.trans ((Cert.MixReferenceIdeal.Read.val_main_v31_eq (F := Ideal) m' c).trans ?_), (h c).2.2.2⟩
  · rw [e0, e1]
    exact funext fun i => Cert.MixReferenceIdeal.Own.product _ _ i
  · rw [e0, e1, e2, e3]
    exact funext fun i => Cert.MixReferenceIdeal.Own.sum _ _ _ _ i
  · rw [e0, e1, e2, e3, e4]
    exact funext fun i => Cert.MixReferenceIdeal.Own.again _ _ _ _ _ i

theorem frame_glu : Cert.quiescent_GluReferenceIdeal := fun m ρ _ =>
  (θ_run Cert.GluReferenceIdeal.defs _ _).mono (fun r h => ⟨fun c => (h c).2.2,
      Idealize.ShloMosaic.sem_eq_zero_of_no_sems (by decide) r.2⟩)
    (Cert.GluReferenceIdeal.Value.run (F := Ideal) m ρ)

theorem glu : Cert.algebraic_GluKernelIdeal_GluReferenceIdeal_pre_finite_glu := by
  intro m g m' g' hpre hargs
  refine ⟨fun c => Cert.GluKernelIdeal.Own.G4 c m, fun c => Cert.GluKernelIdeal.Own.G5 c m,
    (θ_run Cert.GluKernelIdeal.defs _ _).mono (fun r h c => ⟨(h c).1.trans (Cert.GluKernelIdeal.Own.final4 c m),
      (h c).2.1.trans (Cert.GluKernelIdeal.Own.final5 c m), (h c).2.2⟩) (Cert.GluKernelIdeal.Value.run_blocks (F := Ideal) m g), ?_⟩
  refine (θ_run Cert.GluReferenceIdeal.defs _ _).mono (fun r h c => ?_) (Cert.GluReferenceIdeal.Value.run (F := Ideal) m' g')
  obtain ⟨e0, e1, e2, e3⟩ := hargs c
  refine ⟨(h c).1.trans ((Cert.GluReferenceIdeal.Read.val_main_v11_eq (F := Ideal) _ _ _ _).trans ?_),
    (h c).2.1.trans ((Cert.GluReferenceIdeal.Read.val_main_v12_eq (F := Ideal) _ _ _).trans ?_), (h c).2.2⟩
  · rw [e0, e1, e2, e3]
    exact Cert.GluKernelIdeal.Own.whole4 m c (hpre c)
  · rw [e0, e1, e2]
    exact Cert.GluKernelIdeal.Own.whole5 m c

end Cert.Proof

end
-- ==== Proof.lean ====
module

public import proofs.«01_k».proof.Defs
public import proofs.«01_k».proof.Proof.KernelFrame
public import proofs.«01_k».proof.Proof.IdealArrays
public import proofs.«01_k».proof.Proof.Equation
public import proofs.«01_k».proof.Proof.Weight
public import proofs.«01_k».proof.Proof.Calls
public import proofs.«01_k».proof.Proof.Products
public import proofs.«01_k».proof.Proof.Further
public import proofs.«01_k».proof.Proof.Gen.AttReferenceIdeal
public import proofs.«01_k».proof.Proof.Gen.AttReferenceIdeal.Run
public import proofs.«01_k».proof.Proof.Gen.AttReferenceIdeal.Read
public import Idealize.ShloMosaic.Adequacy
public import Idealize.ShloMosaic.Init

@[expose] public section

noncomputable section

namespace Cert.Proof

open Idealize.ShloMosaic Idealize.SL.Sem

/-- The reference is a host program: its run has no semaphores and leaves its arguments. -/
theorem frame_reference : Cert.quiescent_AttReferenceIdeal := fun m ρ _ =>
  (θ_run Cert.AttReferenceIdeal.defs _ _).mono (fun r h => ⟨fun c => (h c).2.2.2,
      Idealize.ShloMosaic.sem_eq_zero_of_no_sems (by decide) r.2⟩)
    (Cert.AttReferenceIdeal.Value.run (F := Ideal) m ρ)

/-- The number the mask stands for is read as the bottom of the extended reals. -/
theorem preserves : Cert.preserves_AttKernel_AttKernelIdeal :=
  IdealRules.named_const.statement _ _ _ _ _ rfl

/-- The kernel's three gradients are the reference's, from the same finite arguments. -/
theorem gradients : Cert.algebraic_AttKernelIdeal_AttReferenceIdeal_pre_finite := by
  intro m g m' g' hpre hargs
  choose d A using fun c => BandAttention.agrees (hpre c)
  refine ⟨fun c => Cert.AttKernelIdeal.Own.G11 m c, fun c => Cert.AttKernelIdeal.Own.G12 m c, fun c => Cert.AttKernelIdeal.Own.G13 m c,
    Cert.AttKernelIdeal.Own.run m g, ?_⟩
  refine (θ_run Cert.AttReferenceIdeal.defs _ _).mono (fun r h c => ?_) (Cert.AttReferenceIdeal.Value.run (F := Ideal) m' g')
  obtain ⟨e0, e1, e2, e3, e4, e5, e6, e7, e8⟩ := hargs c
  obtain ⟨h0, h1, h2, ha⟩ := h c
  refine ⟨h0.trans ?_, h1.trans ?_, h2.trans ?_, ha⟩
  · refine (Cert.AttReferenceIdeal.Read.val_main_v209_eq (F := Ideal) (StableHlo.launchContents m' c)).trans ?_
    refine Eq.trans ?_ (BandAttention.dq_eq (A c))
    show Cert.AttReferenceIdeal.Read.val_main_v209 (F := Ideal) (m' ((c.tc : Thread Cert.AttReferenceIdeal.nD Cert.AttReferenceIdeal.τ).loc Cert.AttReferenceIdeal.main_arg0)) (m' ((c.tc : Thread Cert.AttReferenceIdeal.nD Cert.AttReferenceIdeal.τ).loc Cert.AttReferenceIdeal.main_arg1)) (m' ((c.tc : Thread Cert.AttReferenceIdeal.nD Cert.AttReferenceIdeal.τ).loc Cert.AttReferenceIdeal.main_arg2)) (m' ((c.tc : Thread Cert.AttReferenceIdeal.nD Cert.AttReferenceIdeal.τ).loc Cert.AttReferenceIdeal.main_arg3)) (m' ((c.tc : Thread Cert.AttReferenceIdeal.nD Cert.AttReferenceIdeal.τ).loc Cert.AttReferenceIdeal.main_arg4)) (m' ((c.tc : Thread Cert.AttReferenceIdeal.nD Cert.AttReferenceIdeal.τ).loc Cert.AttReferenceIdeal.main_arg5)) (m' ((c.tc : Thread Cert.AttReferenceIdeal.nD Cert.AttReferenceIdeal.τ).loc Cert.AttReferenceIdeal.main_arg6)) (m' ((c.tc : Thread Cert.AttReferenceIdeal.nD Cert.AttReferenceIdeal.τ).loc Cert.AttReferenceIdeal.main_arg7)) (m' ((c.tc : Thread Cert.AttReferenceIdeal.nD Cert.AttReferenceIdeal.τ).loc Cert.AttReferenceIdeal.main_arg8)) = _
    rw [e0, e1, e2, e3, e4, e5, e6, e7, e8]
  · refine (Cert.AttReferenceIdeal.Read.val_main_v211_eq (F := Ideal) (StableHlo.launchContents m' c)).trans ?_
    refine Eq.trans ?_ (BandAttention.dk_eq (A c))
    show Cert.AttReferenceIdeal.Read.val_main_v211 (F := Ideal) (m' ((c.tc : Thread Cert.AttReferenceIdeal.nD Cert.AttReferenceIdeal.τ).loc Cert.AttReferenceIdeal.main_arg0)) (m' ((c.tc : Thread Cert.AttReferenceIdeal.nD Cert.AttReferenceIdeal.τ).loc Cert.AttReferenceIdeal.main_arg1)) (m' ((c.tc : Thread Cert.AttReferenceIdeal.nD Cert.AttReferenceIdeal.τ).loc Cert.AttReferenceIdeal.main_arg2)) (m' ((c.tc : Thread Cert.AttReferenceIdeal.nD Cert.AttReferenceIdeal.τ).loc Cert.AttReferenceIdeal.main_arg3)) (m' ((c.tc : Thread Cert.AttReferenceIdeal.nD Cert.AttReferenceIdeal.τ).loc Cert.AttReferenceIdeal.main_arg4)) (m' ((c.tc : Thread Cert.AttReferenceIdeal.nD Cert.AttReferenceIdeal.τ).loc Cert.AttReferenceIdeal.main_arg5)) (m' ((c.tc : Thread Cert.AttReferenceIdeal.nD Cert.AttReferenceIdeal.τ).loc Cert.AttReferenceIdeal.main_arg6)) (m' ((c.tc : Thread Cert.AttReferenceIdeal.nD Cert.AttReferenceIdeal.τ).loc Cert.AttReferenceIdeal.main_arg7)) (m' ((c.tc : Thread Cert.AttReferenceIdeal.nD Cert.AttReferenceIdeal.τ).loc Cert.AttReferenceIdeal.main_arg8)) = _
    rw [e0, e1, e2, e3, e4, e5, e6, e7, e8]
  · refine (Cert.AttReferenceIdeal.Read.val_main_v213_eq (F := Ideal) (StableHlo.launchContents m' c)).trans ?_
    refine Eq.trans ?_ (BandAttention.dv_eq (A c))
    show Cert.AttReferenceIdeal.Read.val_main_v213 (F := Ideal) (m' ((c.tc : Thread Cert.AttReferenceIdeal.nD Cert.AttReferenceIdeal.τ).loc Cert.AttReferenceIdeal.main_arg0)) (m' ((c.tc : Thread Cert.AttReferenceIdeal.nD Cert.AttReferenceIdeal.τ).loc Cert.AttReferenceIdeal.main_arg1)) (m' ((c.tc : Thread Cert.AttReferenceIdeal.nD Cert.AttReferenceIdeal.τ).loc Cert.AttReferenceIdeal.main_arg3)) (m' ((c.tc : Thread Cert.AttReferenceIdeal.nD Cert.AttReferenceIdeal.τ).loc Cert.AttReferenceIdeal.main_arg5)) (m' ((c.tc : Thread Cert.AttReferenceIdeal.nD Cert.AttReferenceIdeal.τ).loc Cert.AttReferenceIdeal.main_arg7)) (m' ((c.tc : Thread Cert.AttReferenceIdeal.nD Cert.AttReferenceIdeal.τ).loc Cert.AttReferenceIdeal.main_arg8)) = _
    rw [e0, e1, e3, e5, e7, e8]

/-- The weight gradient's reference, likewise. -/
theorem frame_weight : Cert.quiescent_WeightReferenceIdeal := fun m ρ _ =>
  (θ_run Cert.WeightReferenceIdeal.defs _ _).mono (fun r h => ⟨fun c => (h c).2,
      Idealize.ShloMosaic.sem_eq_zero_of_no_sems (by decide) r.2⟩)
    (Cert.WeightReferenceIdeal.Value.run (F := Ideal) m ρ)

/-- The weight gradient is the reference's. -/
theorem weights : Cert.algebraic_WeightKernelIdeal_WeightReferenceIdeal := by
  intro m g m' g' _ hargs
  refine ⟨fun c => Cert.WeightKernelIdeal.Value.G2 m c, Cert.WeightKernelIdeal.Value.run m g, ?_⟩
  refine (θ_run Cert.WeightReferenceIdeal.defs _ _).mono (fun r h c => ?_) (Cert.WeightReferenceIdeal.Value.run (F := Ideal) m' g')
  obtain ⟨e0, e1⟩ := hargs c
  obtain ⟨h0, ha⟩ := h c
  refine ⟨h0.trans ((Cert.WeightReferenceIdeal.Read.val_main_v6_eq (F := Ideal) _ _).trans ?_), ha⟩
  rw [e0, e1]
  exact Cert.WeightKernelIdeal.Own.whole m c

theorem claim : Cert.Claim := ⟨Cert.AttKernel.Gen.facts, Cert.AttKernelIdeal.Gen.facts,
  Cert.AttReferenceIdeal.Gen.facts, Cert.WeightKernel.Gen.facts, Cert.WeightKernelIdeal.Gen.facts,
  Cert.WeightReferenceIdeal.Gen.facts, Cert.SwigluKernel.Gen.facts, Cert.SwigluKernelIdeal.Gen.facts,
  Cert.SwigluReferenceIdeal.Gen.facts,
  Cert.GateKernel.Gen.facts, Cert.GateKernelIdeal.Gen.facts, Cert.GateReferenceIdeal.Gen.facts,
  Cert.QkvKernel.Gen.facts, Cert.QkvKernelIdeal.Gen.facts, Cert.QkvReferenceIdeal.Gen.facts,
  Cert.ConvKernel.Gen.facts, Cert.ConvKernelIdeal.Gen.facts, Cert.ConvReferenceIdeal.Gen.facts,
  Cert.GateGradKernel.Gen.facts, Cert.GateGradKernelIdeal.Gen.facts, Cert.GateGradReferenceIdeal.Gen.facts,
  Cert.QkvGradKernel.Gen.facts, Cert.QkvGradKernelIdeal.Gen.facts, Cert.QkvGradReferenceIdeal.Gen.facts,
  Cert.ConvGradKernel.Gen.facts, Cert.ConvGradKernelIdeal.Gen.facts, Cert.ConvGradReferenceIdeal.Gen.facts,
  Cert.InputKernel.Gen.facts, Cert.InputKernelIdeal.Gen.facts, Cert.InputReferenceIdeal.Gen.facts,
  Cert.LastKernel.Gen.facts, Cert.LastKernelIdeal.Gen.facts, Cert.LastReferenceIdeal.Gen.facts,
  Cert.FfnKernel.Gen.facts, Cert.FfnKernelIdeal.Gen.facts, Cert.FfnReferenceIdeal.Gen.facts,
  Cert.MixKernel.Gen.facts, Cert.MixKernelIdeal.Gen.facts, Cert.MixReferenceIdeal.Gen.facts,
  Cert.GluKernel.Gen.facts, Cert.GluKernelIdeal.Gen.facts, Cert.GluReferenceIdeal.Gen.facts, Cert.Pre_finite.facts, Cert.Pre_finite_glu.facts,
  fun m ρ _ => Cert.AttKernel.Own.frame m ρ,
  fun m ρ _ => Cert.AttKernelIdeal.Own.frame m ρ,
  fun m ρ _ => Cert.AttKernelIdeal.Own.frame m ρ,
  frame_reference, fun m ρ _ => frame_reference m ρ trivial,
  fun m ρ _ => Cert.WeightKernel.Gen.frame m ρ,
  fun m ρ _ => Cert.WeightKernelIdeal.Gen.frame m ρ,
  frame_weight,
  fun m ρ _ => Cert.SwigluKernel.Gen.frame m ρ,
  fun m ρ _ => Cert.SwigluKernelIdeal.Gen.frame m ρ,
  frame_swiglu,
  fun m ρ _ => Cert.GateKernel.Gen.frame m ρ, fun m ρ _ => Cert.GateKernelIdeal.Gen.frame m ρ, frame_gate,
  fun m ρ _ => Cert.QkvKernel.Gen.frame m ρ, fun m ρ _ => Cert.QkvKernelIdeal.Gen.frame m ρ, frame_qkv,
  fun m ρ _ => Cert.ConvKernel.Gen.frame m ρ, fun m ρ _ => Cert.ConvKernelIdeal.Gen.frame m ρ, frame_conv,
  fun m ρ _ => Cert.GateGradKernel.Gen.frame m ρ, fun m ρ _ => Cert.GateGradKernelIdeal.Gen.frame m ρ, frame_gateGrad,
  fun m ρ _ => Cert.QkvGradKernel.Gen.frame m ρ, fun m ρ _ => Cert.QkvGradKernelIdeal.Gen.frame m ρ, frame_qkvGrad,
  fun m ρ _ => Cert.ConvGradKernel.Gen.frame m ρ, fun m ρ _ => Cert.ConvGradKernelIdeal.Gen.frame m ρ, frame_convGrad,
  fun m ρ _ => Cert.InputKernel.Gen.frame m ρ, fun m ρ _ => Cert.InputKernelIdeal.Gen.frame m ρ, frame_input,
  fun m ρ _ => Cert.LastKernel.Gen.frame m ρ, fun m ρ _ => Cert.LastKernelIdeal.Gen.frame m ρ, frame_last,
  fun m ρ _ => Cert.FfnKernel.Gen.frame m ρ, fun m ρ _ => Cert.FfnKernelIdeal.Gen.frame m ρ, frame_ffn,
  fun m ρ _ => Cert.MixKernel.Gen.frame m ρ, fun m ρ _ => Cert.MixKernelIdeal.Gen.frame m ρ, frame_mix,
  fun m ρ _ => Cert.GluKernel.Gen.frame m ρ, fun m ρ _ => Cert.GluKernelIdeal.Gen.frame m ρ,
  fun m ρ _ => Cert.GluKernelIdeal.Gen.frame m ρ, frame_glu, fun m ρ _ => frame_glu m ρ trivial,
  preserves, gradients, trivial, weights, trivial, swiglu,
  trivial, gate, trivial, qkv, trivial, conv, trivial, gateGrad, trivial, qkvGrad, trivial, convGrad,
  trivial, input, trivial, last, trivial, ffn, trivial, mix, trivial, glu⟩

end Cert.Proof

end
